-- ==== Defs.lean ====
def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_KernelActIdeal_finite_act [hPre_finite_act : Cert.Pre_finite_act.Facts] (m : (ℓ : Loc Cert.KernelActIdeal.nD Cert.KernelActIdeal.τ Cert.KernelActIdeal.sig) → Buf (Elt Ideal) ℓ) : Prop :=
  ∀ c : Dev Cert.KernelActIdeal.nD,
    (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))).1 = (fun _ => 1#1)
    ∧ (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))).2.1 = (fun _ => 1#1)
    ∧ (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))).2.2 = (fun _ => 1#1)

def Pre_ReferenceActIdeal (m : (ℓ : Loc Cert.ReferenceActIdeal.nD Cert.ReferenceActIdeal.τ Cert.ReferenceActIdeal.sig) → Buf (Elt Ideal) ℓ) : Prop :=
  True

def Pre_ReferenceActIdeal_finite_act [hPre_finite_act : Cert.Pre_finite_act.Facts] (m : (ℓ : Loc Cert.ReferenceActIdeal.nD Cert.ReferenceActIdeal.τ Cert.ReferenceActIdeal.sig) → Buf (Elt Ideal) ℓ) : Prop :=
  ∀ c : Dev Cert.ReferenceActIdeal.nD,
    (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))).1 = (fun _ => 1#1)
    ∧ (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))).2.1 = (fun _ => 1#1)
    ∧ (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))).2.2 = (fun _ => 1#1)

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelCtx (m : (ℓ : Loc Cert.KernelCtx.nD Cert.KernelCtx.τ Cert.KernelCtx.sig) → Buf (Elt Bits) ℓ) : Prop :=
  True

def Pre_KernelCtxIdeal (m : (ℓ : Loc Cert.KernelCtxIdeal.nD Cert.KernelCtxIdeal.τ Cert.KernelCtxIdeal.sig) → Buf (Elt Ideal) ℓ) : Prop :=
  True

def Pre_KernelCtxIdeal_finite_ctx [hPre_finite_ctx : Cert.Pre_finite_ctx.Facts] (m : (ℓ : Loc Cert.KernelCtxIdeal.nD Cert.KernelCtxIdeal.τ Cert.KernelCtxIdeal.sig) → Buf (Elt Ideal) ℓ) : Prop :=
  ∀ c : Dev Cert.KernelCtxIdeal.nD,
    (Cert.Pre_finite_ctx.fn (F := Ideal) (m ((c.tc : Thread Cert.KernelCtxIdeal.nD Cert.KernelCtxIdeal.τ).loc Cert.KernelCtxIdeal.main_arg0)) (m ((c.tc : Thread Cert.KernelCtxIdeal.nD Cert.KernelCtxIdeal.τ).loc Cert.KernelCtxIdeal.main_arg1)) (m ((c.tc : Thread Cert.KernelCtxIdeal.nD Cert.KernelCtxIdeal.τ).loc Cert.KernelCtxIdeal.main_arg2)) (m ((c.tc : Thread Cert.KernelCtxIdeal.nD Cert.KernelCtxIdeal.τ).loc Cert.KernelCtxIdeal.main_arg3))).1 = (fun _ => 1#1)
    ∧ (Cert.Pre_finite_ctx.fn (F := Ideal) (m ((c.tc : Thread Cert.KernelCtxIdeal.nD Cert.KernelCtxIdeal.τ).loc Cert.KernelCtxIdeal.main_arg0)) (m ((c.tc : Thread Cert.KernelCtxIdeal.nD Cert.KernelCtxIdeal.τ).loc Cert.KernelCtxIdeal.main_arg1)) (m ((c.tc : Thread Cert.KernelCtxIdeal.nD Cert.KernelCtxIdeal.τ).loc Cert.KernelCtxIdeal.main_arg2)) (m ((c.tc : Thread Cert.KernelCtxIdeal.nD Cert.KernelCtxIdeal.τ).loc Cert.KernelCtxIdeal.main_arg3))).2 = (fun _ => 1#1)

def Pre_ReferenceCtxIdeal (m : (ℓ : Loc Cert.ReferenceCtxIdeal.nD Cert.ReferenceCtxIdeal.τ Cert.ReferenceCtxIdeal.sig) → Buf (Elt Ideal) ℓ) : Prop :=
  True

def Pre_ReferenceCtxIdeal_finite_ctx [hPre_finite_ctx : Cert.Pre_finite_ctx.Facts] (m : (ℓ : Loc Cert.ReferenceCtxIdeal.nD Cert.ReferenceCtxIdeal.τ Cert.ReferenceCtxIdeal.sig) → Buf (Elt Ideal) ℓ) : Prop :=
  ∀ c : Dev Cert.ReferenceCtxIdeal.nD,
    (Cert.Pre_finite_ctx.fn (F := Ideal) (m ((c.tc : Thread Cert.ReferenceCtxIdeal.nD Cert.ReferenceCtxIdeal.τ).loc Cert.ReferenceCtxIdeal.main_arg0)) (m ((c.tc : Thread Cert.ReferenceCtxIdeal.nD Cert.ReferenceCtxIdeal.τ).loc Cert.ReferenceCtxIdeal.main_arg1)) (m ((c.tc : Thread Cert.ReferenceCtxIdeal.nD Cert.ReferenceCtxIdeal.τ).loc Cert.ReferenceCtxIdeal.main_arg2)) (m ((c.tc : Thread Cert.ReferenceCtxIdeal.nD Cert.ReferenceCtxIdeal.τ).loc Cert.ReferenceCtxIdeal.main_arg3))).1 = (fun _ => 1#1)
    ∧ (Cert.Pre_finite_ctx.fn (F := Ideal) (m ((c.tc : Thread Cert.ReferenceCtxIdeal.nD Cert.ReferenceCtxIdeal.τ).loc Cert.ReferenceCtxIdeal.main_arg0)) (m ((c.tc : Thread Cert.ReferenceCtxIdeal.nD Cert.ReferenceCtxIdeal.τ).loc Cert.ReferenceCtxIdeal.main_arg1)) (m ((c.tc : Thread Cert.ReferenceCtxIdeal.nD Cert.ReferenceCtxIdeal.τ).loc Cert.ReferenceCtxIdeal.main_arg2)) (m ((c.tc : Thread Cert.ReferenceCtxIdeal.nD Cert.ReferenceCtxIdeal.τ).loc Cert.ReferenceCtxIdeal.main_arg3))).2 = (fun _ => 1#1)

def Pre_KernelUpb (m : (ℓ : Loc Cert.KernelUpb.nD Cert.KernelUpb.τ Cert.KernelUpb.sig) → Buf (Elt Bits) ℓ) : Prop :=
  True

def Pre_KernelUpbIdeal (m : (ℓ : Loc Cert.KernelUpbIdeal.nD Cert.KernelUpbIdeal.τ Cert.KernelUpbIdeal.sig) → Buf (Elt Ideal) ℓ) : Prop :=
  True

def Pre_ReferenceUpbIdeal (m : (ℓ : Loc Cert.ReferenceUpbIdeal.nD Cert.ReferenceUpbIdeal.τ Cert.ReferenceUpbIdeal.sig) → Buf (Elt Ideal) ℓ) : Prop :=
  True

def Pre_KernelInb (m : (ℓ : Loc Cert.KernelInb.nD Cert.KernelInb.τ Cert.KernelInb.sig) → Buf (Elt Bits) ℓ) : Prop :=
  True

def Pre_KernelInbIdeal (m : (ℓ : Loc Cert.KernelInbIdeal.nD Cert.KernelInbIdeal.τ Cert.KernelInbIdeal.sig) → Buf (Elt Ideal) ℓ) : Prop :=
  True

def Pre_ReferenceInbIdeal (m : (ℓ : Loc Cert.ReferenceInbIdeal.nD Cert.ReferenceInbIdeal.τ Cert.ReferenceInbIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelDiscb (m : (ℓ : Loc Cert.KernelDiscb.nD Cert.KernelDiscb.τ Cert.KernelDiscb.sig) → Buf (Elt Bits) ℓ) : Prop :=
  True

def Pre_KernelDiscbIdeal (m : (ℓ : Loc Cert.KernelDiscbIdeal.nD Cert.KernelDiscbIdeal.τ Cert.KernelDiscbIdeal.sig) → Buf (Elt Ideal) ℓ) : Prop :=
  True

def Pre_ReferenceDiscbIdeal (m : (ℓ : Loc Cert.ReferenceDiscbIdeal.nD Cert.ReferenceDiscbIdeal.τ Cert.ReferenceDiscbIdeal.sig) → Buf (Elt Ideal) ℓ) : Prop :=
  True

def Pre_KernelDisc (m : (ℓ : Loc Cert.KernelDisc.nD Cert.KernelDisc.τ Cert.KernelDisc.sig) → Buf (Elt Bits) ℓ) : Prop :=
  True

def Pre_KernelDiscIdeal (m : (ℓ : Loc Cert.KernelDiscIdeal.nD Cert.KernelDiscIdeal.τ Cert.KernelDiscIdeal.sig) → Buf (Elt Ideal) ℓ) : Prop :=
  True

def Pre_ReferenceDiscIdeal (m : (ℓ : Loc Cert.ReferenceDiscIdeal.nD Cert.ReferenceDiscIdeal.τ Cert.ReferenceDiscIdeal.sig) → Buf (Elt Ideal) ℓ) : Prop :=
  True

def Pre_KernelUpf (m : (ℓ : Loc Cert.KernelUpf.nD Cert.KernelUpf.τ Cert.KernelUpf.sig) → Buf (Elt Bits) ℓ) : Prop :=
  True

def Pre_KernelUpfIdeal (m : (ℓ : Loc Cert.KernelUpfIdeal.nD Cert.KernelUpfIdeal.τ Cert.KernelUpfIdeal.sig) → Buf (Elt Ideal) ℓ) : Prop :=
  True

def Pre_ReferenceUpfIdeal (m : (ℓ : Loc Cert.ReferenceUpfIdeal.nD Cert.ReferenceUpfIdeal.τ Cert.ReferenceUpfIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelMixf (m : (ℓ : Loc Cert.KernelMixf.nD Cert.KernelMixf.τ Cert.KernelMixf.sig) → Buf (Elt Bits) ℓ) : Prop :=
  True

def Pre_KernelMixfIdeal (m : (ℓ : Loc Cert.KernelMixfIdeal.nD Cert.KernelMixfIdeal.τ Cert.KernelMixfIdeal.sig) → Buf (Elt Ideal) ℓ) : Prop :=
  True

def Pre_ReferenceMixfIdeal (m : (ℓ : Loc Cert.ReferenceMixfIdeal.nD Cert.ReferenceMixfIdeal.τ Cert.ReferenceMixfIdeal.sig) → Buf (Elt Ideal) ℓ) : Prop :=
  True

def Pre_KernelInf (m : (ℓ : Loc Cert.KernelInf.nD Cert.KernelInf.τ Cert.KernelInf.sig) → Buf (Elt Bits) ℓ) : Prop :=
  True

def Pre_KernelInfIdeal (m : (ℓ : Loc Cert.KernelInfIdeal.nD Cert.KernelInfIdeal.τ Cert.KernelInfIdeal.sig) → Buf (Elt Ideal) ℓ) : Prop :=
  True

def Pre_ReferenceInfIdeal (m : (ℓ : Loc Cert.ReferenceInfIdeal.nD Cert.ReferenceInfIdeal.τ Cert.ReferenceInfIdeal.sig) → Buf (Elt Ideal) ℓ) : Prop :=
  True

def Pre_KernelModf (m : (ℓ : Loc Cert.KernelModf.nD Cert.KernelModf.τ Cert.KernelModf.sig) → Buf (Elt Bits) ℓ) : Prop :=
  True

def Pre_KernelModfIdeal (m : (ℓ : Loc Cert.KernelModfIdeal.nD Cert.KernelModfIdeal.τ Cert.KernelModfIdeal.sig) → Buf (Elt Ideal) ℓ) : Prop :=
  True

def Pre_ReferenceModfIdeal (m : (ℓ : Loc Cert.ReferenceModfIdeal.nD Cert.ReferenceModfIdeal.τ Cert.ReferenceModfIdeal.sig) → Buf (Elt Ideal) ℓ) : Prop :=
  True

def Pre_KernelSum (m : (ℓ : Loc Cert.KernelSum.nD Cert.KernelSum.τ Cert.KernelSum.sig) → Buf (Elt Bits) ℓ) : Prop :=
  True

def Pre_KernelSumIdeal (m : (ℓ : Loc Cert.KernelSumIdeal.nD Cert.KernelSumIdeal.τ Cert.KernelSumIdeal.sig) → Buf (Elt Ideal) ℓ) : Prop :=
  True

def Pre_ReferenceSumIdeal (m : (ℓ : Loc Cert.ReferenceSumIdeal.nD Cert.ReferenceSumIdeal.τ Cert.ReferenceSumIdeal.sig) → Buf (Elt Ideal) ℓ) : Prop :=
  True

def Pre_KernelAdam (m : (ℓ : Loc Cert.KernelAdam.nD Cert.KernelAdam.τ Cert.KernelAdam.sig) → Buf (Elt Bits) ℓ) : Prop :=
  True

def Pre_KernelAdamIdeal (m : (ℓ : Loc Cert.KernelAdamIdeal.nD Cert.KernelAdamIdeal.τ Cert.KernelAdamIdeal.sig) → Buf (Elt Ideal) ℓ) : Prop :=
  True

def Pre_ReferenceAdamIdeal (m : (ℓ : Loc Cert.ReferenceAdamIdeal.nD Cert.ReferenceAdamIdeal.τ Cert.ReferenceAdamIdeal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def Pre_KernelWg (m : (ℓ : Loc Cert.KernelWg.nD Cert.KernelWg.τ Cert.KernelWg.sig) → Buf (Elt Bits) ℓ) : Prop :=
  True

def Pre_KernelWgIdeal (m : (ℓ : Loc Cert.KernelWgIdeal.nD Cert.KernelWgIdeal.τ Cert.KernelWgIdeal.sig) → Buf (Elt Ideal) ℓ) : Prop :=
  True

def Pre_ReferenceWgIdeal (m : (ℓ : Loc Cert.ReferenceWgIdeal.nD Cert.ReferenceWgIdeal.τ Cert.ReferenceWgIdeal.sig) → Buf (Elt Ideal) ℓ) : Prop :=
  True

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2)
      ∧ r.2.mem ((c.tc : Thread Cert.KernelAct.nD Cert.KernelAct.τ).loc Cert.KernelAct.main_arg3) = m ((c.tc : Thread Cert.KernelAct.nD Cert.KernelAct.τ).loc Cert.KernelAct.main_arg3))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_KernelActIdeal_pre_finite_act [hKernelActIdeal : Cert.KernelActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal_finite_act m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_ReferenceActIdeal_pre_finite_act [hReferenceActIdeal : Cert.ReferenceActIdeal.Facts] [hPre_finite_act : Cert.Pre_finite_act.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal_finite_act m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2)
      ∧ r.2.mem ((c.tc : Thread Cert.KernelConv.nD Cert.KernelConv.τ).loc Cert.KernelConv.main_arg3) = m ((c.tc : Thread Cert.KernelConv.nD Cert.KernelConv.τ).loc Cert.KernelConv.main_arg3))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
      ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2)
      ∧ r.2.mem ((c.tc : Thread Cert.ReferenceConvIdeal.nD Cert.ReferenceConvIdeal.τ).loc Cert.ReferenceConvIdeal.main_arg3) = m ((c.tc : Thread Cert.ReferenceConvIdeal.nD Cert.ReferenceConvIdeal.τ).loc Cert.ReferenceConvIdeal.main_arg3))
      ∧ r.2.sem = fun _ => 0)

def quiescent_KernelCtx [hKernelCtx : Cert.KernelCtx.Facts] : Prop :=
  ∀ (m : (ℓ : Loc Cert.KernelCtx.nD Cert.KernelCtx.τ Cert.KernelCtx.sig) → Buf (Elt Bits) ℓ) (g : Dev Cert.KernelCtx.nD → PrngReg), Pre_KernelCtx m →
    θ_run (Cert.KernelCtx.defs (F := Bits)) (onTc (τ := Cert.KernelCtx.τ) (Cert.KernelCtx.main (F := Bits))) ⟨m, fun _ => 0, g⟩ (fun r => (∀ c : Dev Cert.KernelCtx.nD,
      r.2.mem ((c.tc : Thread Cert.KernelCtx.nD Cert.KernelCtx.τ).loc Cert.KernelCtx.main_arg0) = m ((c.tc : Thread Cert.KernelCtx.nD Cert.KernelCtx.τ).loc Cert.KernelCtx.main_arg0)
      ∧ r.2.mem ((c.tc : Thread Cert.KernelCtx.nD Cert.KernelCtx.τ).loc Cert.KernelCtx.main_arg1) = m ((c.tc : Thread Cert.KernelCtx.nD Cert.KernelCtx.τ).loc Cert.KernelCtx.main_arg1)
      ∧ r.2.mem ((c.tc : Thread Cert.KernelCtx.nD Cert.KernelCtx.τ).loc Cert.KernelCtx.main_arg2) = m ((c.tc : Thread Cert.KernelCtx.nD Cert.KernelCtx.τ).loc Cert.KernelCtx.main_arg2)
      ∧ r.2.mem ((c.tc : Thread Cert.KernelCtx.nD Cert.KernelCtx.τ).loc Cert.KernelCtx.main_arg3) = m ((c.tc : Thread Cert.KernelCtx.nD Cert.KernelCtx.τ).loc Cert.KernelCtx.main_arg3))
      ∧ r.2.sem = fun _ => 0)

def quiescent_KernelCtxIdeal [hKernelCtxIdeal : Cert.KernelCtxIdeal.Facts] : Prop :=
  ∀ (m : (ℓ : Loc Cert.KernelCtxIdeal.nD Cert.KernelCtxIdeal.τ Cert.KernelCtxIdeal.sig) → Buf (Elt Ideal) ℓ) (g : Dev Cert.KernelCtxIdeal.nD → PrngReg), Pre_KernelCtxIdeal m →
    θ_run (Cert.KernelCtxIdeal.defs (F := Ideal)) (onTc (τ := Cert.KernelCtxIdeal.τ) (Cert.KernelCtxIdeal.main (F := Ideal))) ⟨m, fun _ => 0, g⟩ (fun r => (∀ c : Dev Cert.KernelCtxIdeal.nD,
      r.2.mem ((c.tc : Thread Cert.KernelCtxIdeal.nD Cert.KernelCtxIdeal.τ).loc Cert.KernelCtxIdeal.main_arg0) = m ((c.tc : Thread Cert.KernelCtxIdeal.nD Cert.KernelCtxIdeal.τ).loc Cert.KernelCtxIdeal.main_arg0)
      ∧ r.2.mem ((c.tc : Thread Cert.KernelCtxIdeal.nD Cert.KernelCtxIdeal.τ).loc Cert.KernelCtxIdeal.main_arg1) = m ((c.tc : Thread Cert.KernelCtxIdeal.nD Cert.KernelCtxIdeal.τ).loc Cert.KernelCtxIdeal.main_arg1)
      ∧ r.2.mem ((c.tc : Thread Cert.KernelCtxIdeal.nD Cert.KernelCtxIdeal.τ).loc Cert.KernelCtxIdeal.main_arg2) = m ((c.tc : Thread Cert.KernelCtxIdeal.nD Cert.KernelCtxIdeal.τ).loc Cert.KernelCtxIdeal.main_arg2)
      ∧ r.2.mem ((c.tc : Thread Cert.KernelCtxIdeal.nD Cert.KernelCtxIdeal.τ).loc Cert.KernelCtxIdeal.main_arg3) = m ((c.tc : Thread Cert.KernelCtxIdeal.nD Cert.KernelCtxIdeal.τ).loc Cert.KernelCtxIdeal.main_arg3))
      ∧ r.2.sem = fun _ => 0)

def quiescent_KernelCtxIdeal_pre_finite_ctx [hKernelCtxIdeal : Cert.KernelCtxIdeal.Facts] [hPre_finite_ctx : Cert.Pre_finite_ctx.Facts] : Prop :=
  ∀ (m : (ℓ : Loc Cert.KernelCtxIdeal.nD Cert.KernelCtxIdeal.τ Cert.KernelCtxIdeal.sig) → Buf (Elt Ideal) ℓ) (g : Dev Cert.KernelCtxIdeal.nD → PrngReg), Pre_KernelCtxIdeal_finite_ctx m →
    θ_run (Cert.KernelCtxIdeal.defs (F := Ideal)) (onTc (τ := Cert.KernelCtxIdeal.τ) (Cert.KernelCtxIdeal.main (F := Ideal))) ⟨m, fun _ => 0, g⟩ (fun r => (∀ c : Dev Cert.KernelCtxIdeal.nD,
      r.2.mem ((c.tc : Thread Cert.KernelCtxIdeal.nD Cert.KernelCtxIdeal.τ).loc Cert.KernelCtxIdeal.main_arg0) = m ((c.tc : Thread Cert.KernelCtxIdeal.nD Cert.KernelCtxIdeal.τ).loc Cert.KernelCtxIdeal.main_arg0)
      ∧ r.2.mem ((c.tc : Thread Cert.KernelCtxIdeal.nD Cert.KernelCtxIdeal.τ).loc Cert.KernelCtxIdeal.main_arg1) = m ((c.tc : Thread Cert.KernelCtxIdeal.nD Cert.KernelCtxIdeal.τ).loc Cert.KernelCtxIdeal.main_arg1)
      ∧ r.2.mem ((c.tc : Thread Cert.KernelCtxIdeal.nD Cert.KernelCtxIdeal.τ).loc Cert.KernelCtxIdeal.main_arg2) = m ((c.tc : Thread Cert.KernelCtxIdeal.nD Cert.KernelCtxIdeal.τ).loc Cert.KernelCtxIdeal.main_arg2)
      ∧ r.2.mem ((c.tc : Thread Cert.KernelCtxIdeal.nD Cert.KernelCtxIdeal.τ).loc Cert.KernelCtxIdeal.main_arg3) = m ((c.tc : Thread Cert.KernelCtxIdeal.nD Cert.KernelCtxIdeal.τ).loc Cert.KernelCtxIdeal.main_arg3))
      ∧ r.2.sem = fun _ => 0)

def quiescent_ReferenceCtxIdeal [hReferenceCtxIdeal : Cert.ReferenceCtxIdeal.Facts] : Prop :=
  ∀ (m : (ℓ : Loc Cert.ReferenceCtxIdeal.nD Cert.ReferenceCtxIdeal.τ Cert.ReferenceCtxIdeal.sig) → Buf (Elt Ideal) ℓ) (g : Dev Cert.ReferenceCtxIdeal.nD → PrngReg), Pre_ReferenceCtxIdeal m →
    θ_run (Cert.ReferenceCtxIdeal.defs (F := Ideal)) (onTc (τ := Cert.ReferenceCtxIdeal.τ) (Cert.ReferenceCtxIdeal.main (F := Ideal))) ⟨m, fun _ => 0, g⟩ (fun r => (∀ c : Dev Cert.ReferenceCtxIdeal.nD,
      r.2.mem ((c.tc : Thread Cert.ReferenceCtxIdeal.nD Cert.ReferenceCtxIdeal.τ).loc Cert.ReferenceCtxIdeal.main_arg0) = m ((c.tc : Thread Cert.ReferenceCtxIdeal.nD Cert.ReferenceCtxIdeal.τ).loc Cert.ReferenceCtxIdeal.main_arg0)
      ∧ r.2.mem ((c.tc : Thread Cert.ReferenceCtxIdeal.nD Cert.ReferenceCtxIdeal.τ).loc Cert.ReferenceCtxIdeal.main_arg1) = m ((c.tc : Thread Cert.ReferenceCtxIdeal.nD Cert.ReferenceCtxIdeal.τ).loc Cert.ReferenceCtxIdeal.main_arg1)
      ∧ r.2.mem ((c.tc : Thread Cert.ReferenceCtxIdeal.nD Cert.ReferenceCtxIdeal.τ).loc Cert.ReferenceCtxIdeal.main_arg2) = m ((c.tc : Thread Cert.ReferenceCtxIdeal.nD Cert.ReferenceCtxIdeal.τ).loc Cert.ReferenceCtxIdeal.main_arg2)
      ∧ r.2.mem ((c.tc : Thread Cert.ReferenceCtxIdeal.nD Cert.ReferenceCtxIdeal.τ).loc Cert.ReferenceCtxIdeal.main_arg3) = m ((c.tc : Thread Cert.ReferenceCtxIdeal.nD Cert.ReferenceCtxIdeal.τ).loc Cert.ReferenceCtxIdeal.main_arg3))
      ∧ r.2.sem = fun _ => 0)

def quiescent_ReferenceCtxIdeal_pre_finite_ctx [hReferenceCtxIdeal : Cert.ReferenceCtxIdeal.Facts] [hPre_finite_ctx : Cert.Pre_finite_ctx.Facts] : Prop :=
  ∀ (m : (ℓ : Loc Cert.ReferenceCtxIdeal.nD Cert.ReferenceCtxIdeal.τ Cert.ReferenceCtxIdeal.sig) → Buf (Elt Ideal) ℓ) (g : Dev Cert.ReferenceCtxIdeal.nD → PrngReg), Pre_ReferenceCtxIdeal_finite_ctx m →
    θ_run (Cert.ReferenceCtxIdeal.defs (F := Ideal)) (onTc (τ := Cert.ReferenceCtxIdeal.τ) (Cert.ReferenceCtxIdeal.main (F := Ideal))) ⟨m, fun _ => 0, g⟩ (fun r => (∀ c : Dev Cert.ReferenceCtxIdeal.nD,
      r.2.mem ((c.tc : Thread Cert.ReferenceCtxIdeal.nD Cert.ReferenceCtxIdeal.τ).loc Cert.ReferenceCtxIdeal.main_arg0) = m ((c.tc : Thread Cert.ReferenceCtxIdeal.nD Cert.ReferenceCtxIdeal.τ).loc Cert.ReferenceCtxIdeal.main_arg0)
      ∧ r.2.mem ((c.tc : Thread Cert.ReferenceCtxIdeal.nD Cert.ReferenceCtxIdeal.τ).loc Cert.ReferenceCtxIdeal.main_arg1) = m ((c.tc : Thread Cert.ReferenceCtxIdeal.nD Cert.ReferenceCtxIdeal.τ).loc Cert.ReferenceCtxIdeal.main_arg1)
      ∧ r.2.mem ((c.tc : Thread Cert.ReferenceCtxIdeal.nD Cert.ReferenceCtxIdeal.τ).loc Cert.ReferenceCtxIdeal.main_arg2) = m ((c.tc : Thread Cert.ReferenceCtxIdeal.nD Cert.ReferenceCtxIdeal.τ).loc Cert.ReferenceCtxIdeal.main_arg2)
      ∧ r.2.mem ((c.tc : Thread Cert.ReferenceCtxIdeal.nD Cert.ReferenceCtxIdeal.τ).loc Cert.ReferenceCtxIdeal.main_arg3) = m ((c.tc : Thread Cert.ReferenceCtxIdeal.nD Cert.ReferenceCtxIdeal.τ).loc Cert.ReferenceCtxIdeal.main_arg3))
      ∧ r.2.sem = fun _ => 0)

def quiescent_KernelUpb [hKernelUpb : Cert.KernelUpb.Facts] : Prop :=
  ∀ (m : (ℓ : Loc Cert.KernelUpb.nD Cert.KernelUpb.τ Cert.KernelUpb.sig) → Buf (Elt Bits) ℓ) (g : Dev Cert.KernelUpb.nD → PrngReg), Pre_KernelUpb m →
    θ_run (Cert.KernelUpb.defs (F := Bits)) (onTc (τ := Cert.KernelUpb.τ) (Cert.KernelUpb.main (F := Bits))) ⟨m, fun _ => 0, g⟩ (fun r => (∀ c : Dev Cert.KernelUpb.nD,
      r.2.mem ((c.tc : Thread Cert.KernelUpb.nD Cert.KernelUpb.τ).loc Cert.KernelUpb.main_arg0) = m ((c.tc : Thread Cert.KernelUpb.nD Cert.KernelUpb.τ).loc Cert.KernelUpb.main_arg0)
      ∧ r.2.mem ((c.tc : Thread Cert.KernelUpb.nD Cert.KernelUpb.τ).loc Cert.KernelUpb.main_arg1) = m ((c.tc : Thread Cert.KernelUpb.nD Cert.KernelUpb.τ).loc Cert.KernelUpb.main_arg1)
      ∧ r.2.mem ((c.tc : Thread Cert.KernelUpb.nD Cert.KernelUpb.τ).loc Cert.KernelUpb.main_arg2) = m ((c.tc : Thread Cert.KernelUpb.nD Cert.KernelUpb.τ).loc Cert.KernelUpb.main_arg2)
      ∧ r.2.mem ((c.tc : Thread Cert.KernelUpb.nD Cert.KernelUpb.τ).loc Cert.KernelUpb.main_arg3) = m ((c.tc : Thread Cert.KernelUpb.nD Cert.KernelUpb.τ).loc Cert.KernelUpb.main_arg3)
      ∧ r.2.mem ((c.tc : Thread Cert.KernelUpb.nD Cert.KernelUpb.τ).loc Cert.KernelUpb.main_arg4) = m ((c.tc : Thread Cert.KernelUpb.nD Cert.KernelUpb.τ).loc Cert.KernelUpb.main_arg4)
      ∧ r.2.mem ((c.tc : Thread Cert.KernelUpb.nD Cert.KernelUpb.τ).loc Cert.KernelUpb.main_arg5) = m ((c.tc : Thread Cert.KernelUpb.nD Cert.KernelUpb.τ).loc Cert.KernelUpb.main_arg5)
      ∧ r.2.mem ((c.tc : Thread Cert.KernelUpb.nD Cert.KernelUpb.τ).loc Cert.KernelUpb.main_arg6) = m ((c.tc : Thread Cert.KernelUpb.nD Cert.KernelUpb.τ).loc Cert.KernelUpb.main_arg6))
      ∧ r.2.sem = fun _ => 0)

def quiescent_KernelUpbIdeal [hKernelUpbIdeal : Cert.KernelUpbIdeal.Facts] : Prop :=
  ∀ (m : (ℓ : Loc Cert.KernelUpbIdeal.nD Cert.KernelUpbIdeal.τ Cert.KernelUpbIdeal.sig) → Buf (Elt Ideal) ℓ) (g : Dev Cert.KernelUpbIdeal.nD → PrngReg), Pre_KernelUpbIdeal m →
    θ_run (Cert.KernelUpbIdeal.defs (F := Ideal)) (onTc (τ := Cert.KernelUpbIdeal.τ) (Cert.KernelUpbIdeal.main (F := Ideal))) ⟨m, fun _ => 0, g⟩ (fun r => (∀ c : Dev Cert.KernelUpbIdeal.nD,
      r.2.mem ((c.tc : Thread Cert.KernelUpbIdeal.nD Cert.KernelUpbIdeal.τ).loc Cert.KernelUpbIdeal.main_arg0) = m ((c.tc : Thread Cert.KernelUpbIdeal.nD Cert.KernelUpbIdeal.τ).loc Cert.KernelUpbIdeal.main_arg0)
      ∧ r.2.mem ((c.tc : Thread Cert.KernelUpbIdeal.nD Cert.KernelUpbIdeal.τ).loc Cert.KernelUpbIdeal.main_arg1) = m ((c.tc : Thread Cert.KernelUpbIdeal.nD Cert.KernelUpbIdeal.τ).loc Cert.KernelUpbIdeal.main_arg1)
      ∧ r.2.mem ((c.tc : Thread Cert.KernelUpbIdeal.nD Cert.KernelUpbIdeal.τ).loc Cert.KernelUpbIdeal.main_arg2) = m ((c.tc : Thread Cert.KernelUpbIdeal.nD Cert.KernelUpbIdeal.τ).loc Cert.KernelUpbIdeal.main_arg2)
      ∧ r.2.mem ((c.tc : Thread Cert.KernelUpbIdeal.nD Cert.KernelUpbIdeal.τ).loc Cert.KernelUpbIdeal.main_arg3) = m ((c.tc : Thread Cert.KernelUpbIdeal.nD Cert.KernelUpbIdeal.τ).loc Cert.KernelUpbIdeal.main_arg3)
      ∧ r.2.mem ((c.tc : Thread Cert.KernelUpbIdeal.nD Cert.KernelUpbIdeal.τ).loc Cert.KernelUpbIdeal.main_arg4) = m ((c.tc : Thread Cert.KernelUpbIdeal.nD Cert.KernelUpbIdeal.τ).loc Cert.KernelUpbIdeal.main_arg4)
      ∧ r.2.mem ((c.tc : Thread Cert.KernelUpbIdeal.nD Cert.KernelUpbIdeal.τ).loc Cert.KernelUpbIdeal.main_arg5) = m ((c.tc : Thread Cert.KernelUpbIdeal.nD Cert.KernelUpbIdeal.τ).loc Cert.KernelUpbIdeal.main_arg5)
      ∧ r.2.mem ((c.tc : Thread Cert.KernelUpbIdeal.nD Cert.KernelUpbIdeal.τ).loc Cert.KernelUpbIdeal.main_arg6) = m ((c.tc : Thread Cert.KernelUpbIdeal.nD Cert.KernelUpbIdeal.τ).loc Cert.KernelUpbIdeal.main_arg6))
      ∧ r.2.sem = fun _ => 0)

def quiescent_ReferenceUpbIdeal [hReferenceUpbIdeal : Cert.ReferenceUpbIdeal.Facts] : Prop :=
  ∀ (m : (ℓ : Loc Cert.ReferenceUpbIdeal.nD Cert.ReferenceUpbIdeal.τ Cert.ReferenceUpbIdeal.sig) → Buf (Elt Ideal) ℓ) (g : Dev Cert.ReferenceUpbIdeal.nD → PrngReg), Pre_ReferenceUpbIdeal m →
    θ_run (Cert.ReferenceUpbIdeal.defs (F := Ideal)) (onTc (τ := Cert.ReferenceUpbIdeal.τ) (Cert.ReferenceUpbIdeal.main (F := Ideal))) ⟨m, fun _ => 0, g⟩ (fun r => (∀ c : Dev Cert.ReferenceUpbIdeal.nD,
      r.2.mem ((c.tc : Thread Cert.ReferenceUpbIdeal.nD Cert.ReferenceUpbIdeal.τ).loc Cert.ReferenceUpbIdeal.main_arg0) = m ((c.tc : Thread Cert.ReferenceUpbIdeal.nD Cert.ReferenceUpbIdeal.τ).loc Cert.ReferenceUpbIdeal.main_arg0)
      ∧ r.2.mem ((c.tc : Thread Cert.ReferenceUpbIdeal.nD Cert.ReferenceUpbIdeal.τ).loc Cert.ReferenceUpbIdeal.main_arg1) = m ((c.tc : Thread Cert.ReferenceUpbIdeal.nD Cert.ReferenceUpbIdeal.τ).loc Cert.ReferenceUpbIdeal.main_arg1)
      ∧ r.2.mem ((c.tc : Thread Cert.ReferenceUpbIdeal.nD Cert.ReferenceUpbIdeal.τ).loc Cert.ReferenceUpbIdeal.main_arg2) = m ((c.tc : Thread Cert.ReferenceUpbIdeal.nD Cert.ReferenceUpbIdeal.τ).loc Cert.ReferenceUpbIdeal.main_arg2)
      ∧ r.2.mem ((c.tc : Thread Cert.ReferenceUpbIdeal.nD Cert.ReferenceUpbIdeal.τ).loc Cert.ReferenceUpbIdeal.main_arg3) = m ((c.tc : Thread Cert.ReferenceUpbIdeal.nD Cert.ReferenceUpbIdeal.τ).loc Cert.ReferenceUpbIdeal.main_arg3)
      ∧ r.2.mem ((c.tc : Thread Cert.ReferenceUpbIdeal.nD Cert.ReferenceUpbIdeal.τ).loc Cert.ReferenceUpbIdeal.main_arg4) = m ((c.tc : Thread Cert.ReferenceUpbIdeal.nD Cert.ReferenceUpbIdeal.τ).loc Cert.ReferenceUpbIdeal.main_arg4)
      ∧ r.2.mem ((c.tc : Thread Cert.ReferenceUpbIdeal.nD Cert.ReferenceUpbIdeal.τ).loc Cert.ReferenceUpbIdeal.main_arg5) = m ((c.tc : Thread Cert.ReferenceUpbIdeal.nD Cert.ReferenceUpbIdeal.τ).loc Cert.ReferenceUpbIdeal.main_arg5)
      ∧ r.2.mem ((c.tc : Thread Cert.ReferenceUpbIdeal.nD Cert.ReferenceUpbIdeal.τ).loc Cert.ReferenceUpbIdeal.main_arg6) = m ((c.tc : Thread Cert.ReferenceUpbIdeal.nD Cert.ReferenceUpbIdeal.τ).loc Cert.ReferenceUpbIdeal.main_arg6))
      ∧ r.2.sem = fun _ => 0)

def quiescent_KernelInb [hKernelInb : Cert.KernelInb.Facts] : Prop :=
  ∀ (m : (ℓ : Loc Cert.KernelInb.nD Cert.KernelInb.τ Cert.KernelInb.sig) → Buf (Elt Bits) ℓ) (g : Dev Cert.KernelInb.nD → PrngReg), Pre_KernelInb m →
    θ_run (Cert.KernelInb.defs (F := Bits)) (onTc (τ := Cert.KernelInb.τ) (Cert.KernelInb.main (F := Bits))) ⟨m, fun _ => 0, g⟩ (fun r => (∀ c : Dev Cert.KernelInb.nD,
      r.2.mem ((c.tc : Thread Cert.KernelInb.nD Cert.KernelInb.τ).loc Cert.KernelInb.main_arg0) = m ((c.tc : Thread Cert.KernelInb.nD Cert.KernelInb.τ).loc Cert.KernelInb.main_arg0)
      ∧ r.2.mem ((c.tc : Thread Cert.KernelInb.nD Cert.KernelInb.τ).loc Cert.KernelInb.main_arg1) = m ((c.tc : Thread Cert.KernelInb.nD Cert.KernelInb.τ).loc Cert.KernelInb.main_arg1)
      ∧ r.2.mem ((c.tc : Thread Cert.KernelInb.nD Cert.KernelInb.τ).loc Cert.KernelInb.main_arg2) = m ((c.tc : Thread Cert.KernelInb.nD Cert.KernelInb.τ).loc Cert.KernelInb.main_arg2)
      ∧ r.2.mem ((c.tc : Thread Cert.KernelInb.nD Cert.KernelInb.τ).loc Cert.KernelInb.main_arg3) = m ((c.tc : Thread Cert.KernelInb.nD Cert.KernelInb.τ).loc Cert.KernelInb.main_arg3)
      ∧ r.2.mem ((c.tc : Thread Cert.KernelInb.nD Cert.KernelInb.τ).loc Cert.KernelInb.main_arg4) = m ((c.tc : Thread Cert.KernelInb.nD Cert.KernelInb.τ).loc Cert.KernelInb.main_arg4)
      ∧ r.2.mem ((c.tc : Thread Cert.KernelInb.nD Cert.KernelInb.τ).loc Cert.KernelInb.main_arg5) = m ((c.tc : Thread Cert.KernelInb.nD Cert.KernelInb.τ).loc Cert.KernelInb.main_arg5)
      ∧ r.2.mem ((c.tc : Thread Cert.KernelInb.nD Cert.KernelInb.τ).loc Cert.KernelInb.main_arg6) = m ((c.tc : Thread Cert.KernelInb.nD Cert.KernelInb.τ).loc Cert.KernelInb.main_arg6)
      ∧ r.2.mem ((c.tc : Thread Cert.KernelInb.nD Cert.KernelInb.τ).loc Cert.KernelInb.main_arg7) = m ((c.tc : Thread Cert.KernelInb.nD Cert.KernelInb.τ).loc Cert.KernelInb.main_arg7)
      ∧ r.2.mem ((c.tc : Thread Cert.KernelInb.nD Cert.KernelInb.τ).loc Cert.KernelInb.main_arg8) = m ((c.tc : Thread Cert.KernelInb.nD Cert.KernelInb.τ).loc Cert.KernelInb.main_arg8)
      ∧ r.2.mem ((c.tc : Thread Cert.KernelInb.nD Cert.KernelInb.τ).loc Cert.KernelInb.main_arg9) = m ((c.tc : Thread Cert.KernelInb.nD Cert.KernelInb.τ).loc Cert.KernelInb.main_arg9)
      ∧ r.2.mem ((c.tc : Thread Cert.KernelInb.nD Cert.KernelInb.τ).loc Cert.KernelInb.main_arg10) = m ((c.tc : Thread Cert.KernelInb.nD Cert.KernelInb.τ).loc Cert.KernelInb.main_arg10))
      ∧ r.2.sem = fun _ => 0)

def quiescent_KernelInbIdeal [hKernelInbIdeal : Cert.KernelInbIdeal.Facts] : Prop :=
  ∀ (m : (ℓ : Loc Cert.KernelInbIdeal.nD Cert.KernelInbIdeal.τ Cert.KernelInbIdeal.sig) → Buf (Elt Ideal) ℓ) (g : Dev Cert.KernelInbIdeal.nD → PrngReg), Pre_KernelInbIdeal m →
    θ_run (Cert.KernelInbIdeal.defs (F := Ideal)) (onTc (τ := Cert.KernelInbIdeal.τ) (Cert.KernelInbIdeal.main (F := Ideal))) ⟨m, fun _ => 0, g⟩ (fun r => (∀ c : Dev Cert.KernelInbIdeal.nD,
      r.2.mem ((c.tc : Thread Cert.KernelInbIdeal.nD Cert.KernelInbIdeal.τ).loc Cert.KernelInbIdeal.main_arg0) = m ((c.tc : Thread Cert.KernelInbIdeal.nD Cert.KernelInbIdeal.τ).loc Cert.KernelInbIdeal.main_arg0)
      ∧ r.2.mem ((c.tc : Thread Cert.KernelInbIdeal.nD Cert.KernelInbIdeal.τ).loc Cert.KernelInbIdeal.main_arg1) = m ((c.tc : Thread Cert.KernelInbIdeal.nD Cert.KernelInbIdeal.τ).loc Cert.KernelInbIdeal.main_arg1)
      ∧ r.2.mem ((c.tc : Thread Cert.KernelInbIdeal.nD Cert.KernelInbIdeal.τ).loc Cert.KernelInbIdeal.main_arg2) = m ((c.tc : Thread Cert.KernelInbIdeal.nD Cert.KernelInbIdeal.τ).loc Cert.KernelInbIdeal.main_arg2)
      ∧ r.2.mem ((c.tc : Thread Cert.KernelInbIdeal.nD Cert.KernelInbIdeal.τ).loc Cert.KernelInbIdeal.main_arg3) = m ((c.tc : Thread Cert.KernelInbIdeal.nD Cert.KernelInbIdeal.τ).loc Cert.KernelInbIdeal.main_arg3)
      ∧ r.2.mem ((c.tc : Thread Cert.KernelInbIdeal.nD Cert.KernelInbIdeal.τ).loc Cert.KernelInbIdeal.main_arg4) = m ((c.tc : Thread Cert.KernelInbIdeal.nD Cert.KernelInbIdeal.τ).loc Cert.KernelInbIdeal.main_arg4)
      ∧ r.2.mem ((c.tc : Thread Cert.KernelInbIdeal.nD Cert.KernelInbIdeal.τ).loc Cert.KernelInbIdeal.main_arg5) = m ((c.tc : Thread Cert.KernelInbIdeal.nD Cert.KernelInbIdeal.τ).loc Cert.KernelInbIdeal.main_arg5)
      ∧ r.2.mem ((c.tc : Thread Cert.KernelInbIdeal.nD Cert.KernelInbIdeal.τ).loc Cert.KernelInbIdeal.main_arg6) = m ((c.tc : Thread Cert.KernelInbIdeal.nD Cert.KernelInbIdeal.τ).loc Cert.KernelInbIdeal.main_arg6)
      ∧ r.2.mem ((c.tc : Thread Cert.KernelInbIdeal.nD Cert.KernelInbIdeal.τ).loc Cert.KernelInbIdeal.main_arg7) = m ((c.tc : Thread Cert.KernelInbIdeal.nD Cert.KernelInbIdeal.τ).loc Cert.KernelInbIdeal.main_arg7)
      ∧ r.2.mem ((c.tc : Thread Cert.KernelInbIdeal.nD Cert.KernelInbIdeal.τ).loc Cert.KernelInbIdeal.main_arg8) = m ((c.tc : Thread Cert.KernelInbIdeal.nD Cert.KernelInbIdeal.τ).loc Cert.KernelInbIdeal.main_arg8)
      ∧ r.2.mem ((c.tc : Thread Cert.KernelInbIdeal.nD Cert.KernelInbIdeal.τ).loc Cert.KernelInbIdeal.main_arg9) = m ((c.tc : Thread Cert.KernelInbIdeal.nD Cert.KernelInbIdeal.τ).loc Cert.KernelInbIdeal.main_arg9)
      ∧ r.2.mem ((c.tc : Thread Cert.KernelInbIdeal.nD Cert.KernelInbIdeal.τ).loc Cert.KernelInbIdeal.main_arg10) = m ((c.tc : Thread Cert.KernelInbIdeal.nD Cert.KernelInbIdeal.τ).loc Cert.KernelInbIdeal.main_arg10))
      ∧ r.2.sem = fun _ => 0)

def quiescent_ReferenceInbIdeal [hReferenceInbIdeal : Cert.ReferenceInbIdeal.Facts] : Prop :=
  ∀ (m : (ℓ : Loc Cert.ReferenceInbIdeal.nD Cert.ReferenceInbIdeal.τ Cert.ReferenceInbIdeal.sig) → Buf (Elt Ideal) ℓ) (g : Dev Cert.ReferenceInbIdeal.nD → PrngReg), Pre_ReferenceInbIdeal m →
    θ_run (Cert.ReferenceInbIdeal.defs (F := Ideal)) (onTc (τ := Cert.ReferenceInbIdeal.τ) (Cert.ReferenceInbIdeal.main (F := Ideal))) ⟨m, fun _ => 0, g⟩ (fun r => (∀ c : Dev Cert.ReferenceInbIdeal.nD,
      r.2.mem ((c.tc : Thread Cert.ReferenceInbIdeal.nD Cert.ReferenceInbIdeal.τ).loc Cert.ReferenceInbIdeal.main_arg0) = m ((c.tc : Thread Cert.ReferenceInbIdeal.nD Cert.ReferenceInbIdeal.τ).loc Cert.ReferenceInbIdeal.main_arg0)
      ∧ r.2.mem ((c.tc : Thread Cert.ReferenceInbIdeal.nD Cert.ReferenceInbIdeal.τ).loc Cert.ReferenceInbIdeal.main_arg1) = m ((c.tc : Thread Cert.ReferenceInbIdeal.nD Cert.ReferenceInbIdeal.τ).loc Cert.ReferenceInbIdeal.main_arg1)
      ∧ r.2.mem ((c.tc : Thread Cert.ReferenceInbIdeal.nD Cert.ReferenceInbIdeal.τ).loc Cert.ReferenceInbIdeal.main_arg2) = m ((c.tc : Thread Cert.ReferenceInbIdeal.nD Cert.ReferenceInbIdeal.τ).loc Cert.ReferenceInbIdeal.main_arg2)
      ∧ r.2.mem ((c.tc : Thread Cert.ReferenceInbIdeal.nD Cert.ReferenceInbIdeal.τ).loc Cert.ReferenceInbIdeal.main_arg3) = m ((c.tc : Thread Cert.ReferenceInbIdeal.nD Cert.ReferenceInbIdeal.τ).loc Cert.ReferenceInbIdeal.main_arg3)
      ∧ r.2.mem ((c.tc : Thread Cert.ReferenceInbIdeal.nD Cert.ReferenceInbIdeal.τ).loc Cert.ReferenceInbIdeal.main_arg4) = m ((c.tc : Thread Cert.ReferenceInbIdeal.nD Cert.ReferenceInbIdeal.τ).loc Cert.ReferenceInbIdeal.main_arg4)
      ∧ r.2.mem ((c.tc : Thread Cert.ReferenceInbIdeal.nD Cert.ReferenceInbIdeal.τ).loc Cert.ReferenceInbIdeal.main_arg5) = m ((c.tc : Thread Cert.ReferenceInbIdeal.nD Cert.ReferenceInbIdeal.τ).loc Cert.ReferenceInbIdeal.main_arg5)
      ∧ r.2.mem ((c.tc : Thread Cert.ReferenceInbIdeal.nD Cert.ReferenceInbIdeal.τ).loc Cert.ReferenceInbIdeal.main_arg6) = m ((c.tc : Thread Cert.ReferenceInbIdeal.nD Cert.ReferenceInbIdeal.τ).loc Cert.ReferenceInbIdeal.main_arg6)
      ∧ r.2.mem ((c.tc : Thread Cert.ReferenceInbIdeal.nD Cert.ReferenceInbIdeal.τ).loc Cert.ReferenceInbIdeal.main_arg7) = m ((c.tc : Thread Cert.ReferenceInbIdeal.nD Cert.ReferenceInbIdeal.τ).loc Cert.ReferenceInbIdeal.main_arg7)
      ∧ r.2.mem ((c.tc : Thread Cert.ReferenceInbIdeal.nD Cert.ReferenceInbIdeal.τ).loc Cert.ReferenceInbIdeal.main_arg8) = m ((c.tc : Thread Cert.ReferenceInbIdeal.nD Cert.ReferenceInbIdeal.τ).loc Cert.ReferenceInbIdeal.main_arg8)
      ∧ r.2.mem ((c.tc : Thread Cert.ReferenceInbIdeal.nD Cert.ReferenceInbIdeal.τ).loc Cert.ReferenceInbIdeal.main_arg9) = m ((c.tc : Thread Cert.ReferenceInbIdeal.nD Cert.ReferenceInbIdeal.τ).loc Cert.ReferenceInbIdeal.main_arg9)
      ∧ r.2.mem ((c.tc : Thread Cert.ReferenceInbIdeal.nD Cert.ReferenceInbIdeal.τ).loc Cert.ReferenceInbIdeal.main_arg10) = m ((c.tc : Thread Cert.ReferenceInbIdeal.nD Cert.ReferenceInbIdeal.τ).loc Cert.ReferenceInbIdeal.main_arg10))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4)
      ∧ r.2.mem ((c.tc : Thread Cert.KernelDown.nD Cert.KernelDown.τ).loc Cert.KernelDown.main_arg5) = m ((c.tc : Thread Cert.KernelDown.nD Cert.KernelDown.τ).loc Cert.KernelDown.main_arg5)
      ∧ r.2.mem ((c.tc : Thread Cert.KernelDown.nD Cert.KernelDown.τ).loc Cert.KernelDown.main_arg6) = m ((c.tc : Thread Cert.KernelDown.nD Cert.KernelDown.τ).loc Cert.KernelDown.main_arg6)
      ∧ r.2.mem ((c.tc : Thread Cert.KernelDown.nD Cert.KernelDown.τ).loc Cert.KernelDown.main_arg7) = m ((c.tc : Thread Cert.KernelDown.nD Cert.KernelDown.τ).loc Cert.KernelDown.main_arg7))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4)
      ∧ r.2.mem ((c.tc : Thread Cert.KernelDownIdeal.nD Cert.KernelDownIdeal.τ).loc Cert.KernelDownIdeal.main_arg5) = m ((c.tc : Thread Cert.KernelDownIdeal.nD Cert.KernelDownIdeal.τ).loc Cert.KernelDownIdeal.main_arg5)
      ∧ r.2.mem ((c.tc : Thread Cert.KernelDownIdeal.nD Cert.KernelDownIdeal.τ).loc Cert.KernelDownIdeal.main_arg6) = m ((c.tc : Thread Cert.KernelDownIdeal.nD Cert.KernelDownIdeal.τ).loc Cert.KernelDownIdeal.main_arg6)
      ∧ r.2.mem ((c.tc : Thread Cert.KernelDownIdeal.nD Cert.KernelDownIdeal.τ).loc Cert.KernelDownIdeal.main_arg7) = m ((c.tc : Thread Cert.KernelDownIdeal.nD Cert.KernelDownIdeal.τ).loc Cert.KernelDownIdeal.main_arg7))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4)
      ∧ r.2.mem ((c.tc : Thread Cert.ReferenceDownIdeal.nD Cert.ReferenceDownIdeal.τ).loc Cert.ReferenceDownIdeal.main_arg5) = m ((c.tc : Thread Cert.ReferenceDownIdeal.nD Cert.ReferenceDownIdeal.τ).loc Cert.ReferenceDownIdeal.main_arg5)
      ∧ r.2.mem ((c.tc : Thread Cert.ReferenceDownIdeal.nD Cert.ReferenceDownIdeal.τ).loc Cert.ReferenceDownIdeal.main_arg6) = m ((c.tc : Thread Cert.ReferenceDownIdeal.nD Cert.ReferenceDownIdeal.τ).loc Cert.ReferenceDownIdeal.main_arg6)
      ∧ r.2.mem ((c.tc : Thread Cert.ReferenceDownIdeal.nD Cert.ReferenceDownIdeal.τ).loc Cert.ReferenceDownIdeal.main_arg7) = m ((c.tc : Thread Cert.ReferenceDownIdeal.nD Cert.ReferenceDownIdeal.τ).loc Cert.ReferenceDownIdeal.main_arg7))
      ∧ r.2.sem = fun _ => 0)

def quiescent_KernelDiscb [hKernelDiscb : Cert.KernelDiscb.Facts] : Prop :=
  ∀ (m : (ℓ : Loc Cert.KernelDiscb.nD Cert.KernelDiscb.τ Cert.KernelDiscb.sig) → Buf (Elt Bits) ℓ) (g : Dev Cert.KernelDiscb.nD → PrngReg), Pre_KernelDiscb m →
    θ_run (Cert.KernelDiscb.defs (F := Bits)) (onTc (τ := Cert.KernelDiscb.τ) (Cert.KernelDiscb.main (F := Bits))) ⟨m, fun _ => 0, g⟩ (fun r => (∀ c : Dev Cert.KernelDiscb.nD,
      r.2.mem ((c.tc : Thread Cert.KernelDiscb.nD Cert.KernelDiscb.τ).loc Cert.KernelDiscb.main_arg0) = m ((c.tc : Thread Cert.KernelDiscb.nD Cert.KernelDiscb.τ).loc Cert.KernelDiscb.main_arg0)
      ∧ r.2.mem ((c.tc : Thread Cert.KernelDiscb.nD Cert.KernelDiscb.τ).loc Cert.KernelDiscb.main_arg1) = m ((c.tc : Thread Cert.KernelDiscb.nD Cert.KernelDiscb.τ).loc Cert.KernelDiscb.main_arg1)
      ∧ r.2.mem ((c.tc : Thread Cert.KernelDiscb.nD Cert.KernelDiscb.τ).loc Cert.KernelDiscb.main_arg2) = m ((c.tc : Thread Cert.KernelDiscb.nD Cert.KernelDiscb.τ).loc Cert.KernelDiscb.main_arg2)
      ∧ r.2.mem ((c.tc : Thread Cert.KernelDiscb.nD Cert.KernelDiscb.τ).loc Cert.KernelDiscb.main_arg3) = m ((c.tc : Thread Cert.KernelDiscb.nD Cert.KernelDiscb.τ).loc Cert.KernelDiscb.main_arg3)
      ∧ r.2.mem ((c.tc : Thread Cert.KernelDiscb.nD Cert.KernelDiscb.τ).loc Cert.KernelDiscb.main_arg4) = m ((c.tc : Thread Cert.KernelDiscb.nD Cert.KernelDiscb.τ).loc Cert.KernelDiscb.main_arg4)
      ∧ r.2.mem ((c.tc : Thread Cert.KernelDiscb.nD Cert.KernelDiscb.τ).loc Cert.KernelDiscb.main_arg5) = m ((c.tc : Thread Cert.KernelDiscb.nD Cert.KernelDiscb.τ).loc Cert.KernelDiscb.main_arg5)
      ∧ r.2.mem ((c.tc : Thread Cert.KernelDiscb.nD Cert.KernelDiscb.τ).loc Cert.KernelDiscb.main_arg6) = m ((c.tc : Thread Cert.KernelDiscb.nD Cert.KernelDiscb.τ).loc Cert.KernelDiscb.main_arg6)
      ∧ r.2.mem ((c.tc : Thread Cert.KernelDiscb.nD Cert.KernelDiscb.τ).loc Cert.KernelDiscb.main_arg7) = m ((c.tc : Thread Cert.KernelDiscb.nD Cert.KernelDiscb.τ).loc Cert.KernelDiscb.main_arg7)
      ∧ r.2.mem ((c.tc : Thread Cert.KernelDiscb.nD Cert.KernelDiscb.τ).loc Cert.KernelDiscb.main_arg8) = m ((c.tc : Thread Cert.KernelDiscb.nD Cert.KernelDiscb.τ).loc Cert.KernelDiscb.main_arg8))
      ∧ r.2.sem = fun _ => 0)

def quiescent_KernelDiscbIdeal [hKernelDiscbIdeal : Cert.KernelDiscbIdeal.Facts] : Prop :=
  ∀ (m : (ℓ : Loc Cert.KernelDiscbIdeal.nD Cert.KernelDiscbIdeal.τ Cert.KernelDiscbIdeal.sig) → Buf (Elt Ideal) ℓ) (g : Dev Cert.KernelDiscbIdeal.nD → PrngReg), Pre_KernelDiscbIdeal m →
    θ_run (Cert.KernelDiscbIdeal.defs (F := Ideal)) (onTc (τ := Cert.KernelDiscbIdeal.τ) (Cert.KernelDiscbIdeal.main (F := Ideal))) ⟨m, fun _ => 0, g⟩ (fun r => (∀ c : Dev Cert.KernelDiscbIdeal.nD,
      r.2.mem ((c.tc : Thread Cert.KernelDiscbIdeal.nD Cert.KernelDiscbIdeal.τ).loc Cert.KernelDiscbIdeal.main_arg0) = m ((c.tc : Thread Cert.KernelDiscbIdeal.nD Cert.KernelDiscbIdeal.τ).loc Cert.KernelDiscbIdeal.main_arg0)
      ∧ r.2.mem ((c.tc : Thread Cert.KernelDiscbIdeal.nD Cert.KernelDiscbIdeal.τ).loc Cert.KernelDiscbIdeal.main_arg1) = m ((c.tc : Thread Cert.KernelDiscbIdeal.nD Cert.KernelDiscbIdeal.τ).loc Cert.KernelDiscbIdeal.main_arg1)
      ∧ r.2.mem ((c.tc : Thread Cert.KernelDiscbIdeal.nD Cert.KernelDiscbIdeal.τ).loc Cert.KernelDiscbIdeal.main_arg2) = m ((c.tc : Thread Cert.KernelDiscbIdeal.nD Cert.KernelDiscbIdeal.τ).loc Cert.KernelDiscbIdeal.main_arg2)
      ∧ r.2.mem ((c.tc : Thread Cert.KernelDiscbIdeal.nD Cert.KernelDiscbIdeal.τ).loc Cert.KernelDiscbIdeal.main_arg3) = m ((c.tc : Thread Cert.KernelDiscbIdeal.nD Cert.KernelDiscbIdeal.τ).loc Cert.KernelDiscbIdeal.main_arg3)
      ∧ r.2.mem ((c.tc : Thread Cert.KernelDiscbIdeal.nD Cert.KernelDiscbIdeal.τ).loc Cert.KernelDiscbIdeal.main_arg4) = m ((c.tc : Thread Cert.KernelDiscbIdeal.nD Cert.KernelDiscbIdeal.τ).loc Cert.KernelDiscbIdeal.main_arg4)
      ∧ r.2.mem ((c.tc : Thread Cert.KernelDiscbIdeal.nD Cert.KernelDiscbIdeal.τ).loc Cert.KernelDiscbIdeal.main_arg5) = m ((c.tc : Thread Cert.KernelDiscbIdeal.nD Cert.KernelDiscbIdeal.τ).loc Cert.KernelDiscbIdeal.main_arg5)
      ∧ r.2.mem ((c.tc : Thread Cert.KernelDiscbIdeal.nD Cert.KernelDiscbIdeal.τ).loc Cert.KernelDiscbIdeal.main_arg6) = m ((c.tc : Thread Cert.KernelDiscbIdeal.nD Cert.KernelDiscbIdeal.τ).loc Cert.KernelDiscbIdeal.main_arg6)
      ∧ r.2.mem ((c.tc : Thread Cert.KernelDiscbIdeal.nD Cert.KernelDiscbIdeal.τ).loc Cert.KernelDiscbIdeal.main_arg7) = m ((c.tc : Thread Cert.KernelDiscbIdeal.nD Cert.KernelDiscbIdeal.τ).loc Cert.KernelDiscbIdeal.main_arg7)
      ∧ r.2.mem ((c.tc : Thread Cert.KernelDiscbIdeal.nD Cert.KernelDiscbIdeal.τ).loc Cert.KernelDiscbIdeal.main_arg8) = m ((c.tc : Thread Cert.KernelDiscbIdeal.nD Cert.KernelDiscbIdeal.τ).loc Cert.KernelDiscbIdeal.main_arg8))
      ∧ r.2.sem = fun _ => 0)

def quiescent_ReferenceDiscbIdeal [hReferenceDiscbIdeal : Cert.ReferenceDiscbIdeal.Facts] : Prop :=
  ∀ (m : (ℓ : Loc Cert.ReferenceDiscbIdeal.nD Cert.ReferenceDiscbIdeal.τ Cert.ReferenceDiscbIdeal.sig) → Buf (Elt Ideal) ℓ) (g : Dev Cert.ReferenceDiscbIdeal.nD → PrngReg), Pre_ReferenceDiscbIdeal m →
    θ_run (Cert.ReferenceDiscbIdeal.defs (F := Ideal)) (onTc (τ := Cert.ReferenceDiscbIdeal.τ) (Cert.ReferenceDiscbIdeal.main (F := Ideal))) ⟨m, fun _ => 0, g⟩ (fun r => (∀ c : Dev Cert.ReferenceDiscbIdeal.nD,
      r.2.mem ((c.tc : Thread Cert.ReferenceDiscbIdeal.nD Cert.ReferenceDiscbIdeal.τ).loc Cert.ReferenceDiscbIdeal.main_arg0) = m ((c.tc : Thread Cert.ReferenceDiscbIdeal.nD Cert.ReferenceDiscbIdeal.τ).loc Cert.ReferenceDiscbIdeal.main_arg0)
      ∧ r.2.mem ((c.tc : Thread Cert.ReferenceDiscbIdeal.nD Cert.ReferenceDiscbIdeal.τ).loc Cert.ReferenceDiscbIdeal.main_arg1) = m ((c.tc : Thread Cert.ReferenceDiscbIdeal.nD Cert.ReferenceDiscbIdeal.τ).loc Cert.ReferenceDiscbIdeal.main_arg1)
      ∧ r.2.mem ((c.tc : Thread Cert.ReferenceDiscbIdeal.nD Cert.ReferenceDiscbIdeal.τ).loc Cert.ReferenceDiscbIdeal.main_arg2) = m ((c.tc : Thread Cert.ReferenceDiscbIdeal.nD Cert.ReferenceDiscbIdeal.τ).loc Cert.ReferenceDiscbIdeal.main_arg2)
      ∧ r.2.mem ((c.tc : Thread Cert.ReferenceDiscbIdeal.nD Cert.ReferenceDiscbIdeal.τ).loc Cert.ReferenceDiscbIdeal.main_arg3) = m ((c.tc : Thread Cert.ReferenceDiscbIdeal.nD Cert.ReferenceDiscbIdeal.τ).loc Cert.ReferenceDiscbIdeal.main_arg3)
      ∧ r.2.mem ((c.tc : Thread Cert.ReferenceDiscbIdeal.nD Cert.ReferenceDiscbIdeal.τ).loc Cert.ReferenceDiscbIdeal.main_arg4) = m ((c.tc : Thread Cert.ReferenceDiscbIdeal.nD Cert.ReferenceDiscbIdeal.τ).loc Cert.ReferenceDiscbIdeal.main_arg4)
      ∧ r.2.mem ((c.tc : Thread Cert.ReferenceDiscbIdeal.nD Cert.ReferenceDiscbIdeal.τ).loc Cert.ReferenceDiscbIdeal.main_arg5) = m ((c.tc : Thread Cert.ReferenceDiscbIdeal.nD Cert.ReferenceDiscbIdeal.τ).loc Cert.ReferenceDiscbIdeal.main_arg5)
      ∧ r.2.mem ((c.tc : Thread Cert.ReferenceDiscbIdeal.nD Cert.ReferenceDiscbIdeal.τ).loc Cert.ReferenceDiscbIdeal.main_arg6) = m ((c.tc : Thread Cert.ReferenceDiscbIdeal.nD Cert.ReferenceDiscbIdeal.τ).loc Cert.ReferenceDiscbIdeal.main_arg6)
      ∧ r.2.mem ((c.tc : Thread Cert.ReferenceDiscbIdeal.nD Cert.ReferenceDiscbIdeal.τ).loc Cert.ReferenceDiscbIdeal.main_arg7) = m ((c.tc : Thread Cert.ReferenceDiscbIdeal.nD Cert.ReferenceDiscbIdeal.τ).loc Cert.ReferenceDiscbIdeal.main_arg7)
      ∧ r.2.mem ((c.tc : Thread Cert.ReferenceDiscbIdeal.nD Cert.ReferenceDiscbIdeal.τ).loc Cert.ReferenceDiscbIdeal.main_arg8) = m ((c.tc : Thread Cert.ReferenceDiscbIdeal.nD Cert.ReferenceDiscbIdeal.τ).loc Cert.ReferenceDiscbIdeal.main_arg8))
      ∧ r.2.sem = fun _ => 0)

def quiescent_KernelDisc [hKernelDisc : Cert.KernelDisc.Facts] : Prop :=
  ∀ (m : (ℓ : Loc Cert.KernelDisc.nD Cert.KernelDisc.τ Cert.KernelDisc.sig) → Buf (Elt Bits) ℓ) (g : Dev Cert.KernelDisc.nD → PrngReg), Pre_KernelDisc m →
    θ_run (Cert.KernelDisc.defs (F := Bits)) (onTc (τ := Cert.KernelDisc.τ) (Cert.KernelDisc.main (F := Bits))) ⟨m, fun _ => 0, g⟩ (fun r => (∀ c : Dev Cert.KernelDisc.nD,
      r.2.mem ((c.tc : Thread Cert.KernelDisc.nD Cert.KernelDisc.τ).loc Cert.KernelDisc.main_arg0) = m ((c.tc : Thread Cert.KernelDisc.nD Cert.KernelDisc.τ).loc Cert.KernelDisc.main_arg0)
      ∧ r.2.mem ((c.tc : Thread Cert.KernelDisc.nD Cert.KernelDisc.τ).loc Cert.KernelDisc.main_arg1) = m ((c.tc : Thread Cert.KernelDisc.nD Cert.KernelDisc.τ).loc Cert.KernelDisc.main_arg1)
      ∧ r.2.mem ((c.tc : Thread Cert.KernelDisc.nD Cert.KernelDisc.τ).loc Cert.KernelDisc.main_arg2) = m ((c.tc : Thread Cert.KernelDisc.nD Cert.KernelDisc.τ).loc Cert.KernelDisc.main_arg2)
      ∧ r.2.mem ((c.tc : Thread Cert.KernelDisc.nD Cert.KernelDisc.τ).loc Cert.KernelDisc.main_arg3) = m ((c.tc : Thread Cert.KernelDisc.nD Cert.KernelDisc.τ).loc Cert.KernelDisc.main_arg3)
      ∧ r.2.mem ((c.tc : Thread Cert.KernelDisc.nD Cert.KernelDisc.τ).loc Cert.KernelDisc.main_arg4) = m ((c.tc : Thread Cert.KernelDisc.nD Cert.KernelDisc.τ).loc Cert.KernelDisc.main_arg4))
      ∧ r.2.sem = fun _ => 0)

def quiescent_KernelDiscIdeal [hKernelDiscIdeal : Cert.KernelDiscIdeal.Facts] : Prop :=
  ∀ (m : (ℓ : Loc Cert.KernelDiscIdeal.nD Cert.KernelDiscIdeal.τ Cert.KernelDiscIdeal.sig) → Buf (Elt Ideal) ℓ) (g : Dev Cert.KernelDiscIdeal.nD → PrngReg), Pre_KernelDiscIdeal m →
    θ_run (Cert.KernelDiscIdeal.defs (F := Ideal)) (onTc (τ := Cert.KernelDiscIdeal.τ) (Cert.KernelDiscIdeal.main (F := Ideal))) ⟨m, fun _ => 0, g⟩ (fun r => (∀ c : Dev Cert.KernelDiscIdeal.nD,
      r.2.mem ((c.tc : Thread Cert.KernelDiscIdeal.nD Cert.KernelDiscIdeal.τ).loc Cert.KernelDiscIdeal.main_arg0) = m ((c.tc : Thread Cert.KernelDiscIdeal.nD Cert.KernelDiscIdeal.τ).loc Cert.KernelDiscIdeal.main_arg0)
      ∧ r.2.mem ((c.tc : Thread Cert.KernelDiscIdeal.nD Cert.KernelDiscIdeal.τ).loc Cert.KernelDiscIdeal.main_arg1) = m ((c.tc : Thread Cert.KernelDiscIdeal.nD Cert.KernelDiscIdeal.τ).loc Cert.KernelDiscIdeal.main_arg1)
      ∧ r.2.mem ((c.tc : Thread Cert.KernelDiscIdeal.nD Cert.KernelDiscIdeal.τ).loc Cert.KernelDiscIdeal.main_arg2) = m ((c.tc : Thread Cert.KernelDiscIdeal.nD Cert.KernelDiscIdeal.τ).loc Cert.KernelDiscIdeal.main_arg2)
      ∧ r.2.mem ((c.tc : Thread Cert.KernelDiscIdeal.nD Cert.KernelDiscIdeal.τ).loc Cert.KernelDiscIdeal.main_arg3) = m ((c.tc : Thread Cert.KernelDiscIdeal.nD Cert.KernelDiscIdeal.τ).loc Cert.KernelDiscIdeal.main_arg3)
      ∧ r.2.mem ((c.tc : Thread Cert.KernelDiscIdeal.nD Cert.KernelDiscIdeal.τ).loc Cert.KernelDiscIdeal.main_arg4) = m ((c.tc : Thread Cert.KernelDiscIdeal.nD Cert.KernelDiscIdeal.τ).loc Cert.KernelDiscIdeal.main_arg4))
      ∧ r.2.sem = fun _ => 0)

def quiescent_ReferenceDiscIdeal [hReferenceDiscIdeal : Cert.ReferenceDiscIdeal.Facts] : Prop :=
  ∀ (m : (ℓ : Loc Cert.ReferenceDiscIdeal.nD Cert.ReferenceDiscIdeal.τ Cert.ReferenceDiscIdeal.sig) → Buf (Elt Ideal) ℓ) (g : Dev Cert.ReferenceDiscIdeal.nD → PrngReg), Pre_ReferenceDiscIdeal m →
    θ_run (Cert.ReferenceDiscIdeal.defs (F := Ideal)) (onTc (τ := Cert.ReferenceDiscIdeal.τ) (Cert.ReferenceDiscIdeal.main (F := Ideal))) ⟨m, fun _ => 0, g⟩ (fun r => (∀ c : Dev Cert.ReferenceDiscIdeal.nD,
      r.2.mem ((c.tc : Thread Cert.ReferenceDiscIdeal.nD Cert.ReferenceDiscIdeal.τ).loc Cert.ReferenceDiscIdeal.main_arg0) = m ((c.tc : Thread Cert.ReferenceDiscIdeal.nD Cert.ReferenceDiscIdeal.τ).loc Cert.ReferenceDiscIdeal.main_arg0)
      ∧ r.2.mem ((c.tc : Thread Cert.ReferenceDiscIdeal.nD Cert.ReferenceDiscIdeal.τ).loc Cert.ReferenceDiscIdeal.main_arg1) = m ((c.tc : Thread Cert.ReferenceDiscIdeal.nD Cert.ReferenceDiscIdeal.τ).loc Cert.ReferenceDiscIdeal.main_arg1)
      ∧ r.2.mem ((c.tc : Thread Cert.ReferenceDiscIdeal.nD Cert.ReferenceDiscIdeal.τ).loc Cert.ReferenceDiscIdeal.main_arg2) = m ((c.tc : Thread Cert.ReferenceDiscIdeal.nD Cert.ReferenceDiscIdeal.τ).loc Cert.ReferenceDiscIdeal.main_arg2)
      ∧ r.2.mem ((c.tc : Thread Cert.ReferenceDiscIdeal.nD Cert.ReferenceDiscIdeal.τ).loc Cert.ReferenceDiscIdeal.main_arg3) = m ((c.tc : Thread Cert.ReferenceDiscIdeal.nD Cert.ReferenceDiscIdeal.τ).loc Cert.ReferenceDiscIdeal.main_arg3)
      ∧ r.2.mem ((c.tc : Thread Cert.ReferenceDiscIdeal.nD Cert.ReferenceDiscIdeal.τ).loc Cert.ReferenceDiscIdeal.main_arg4) = m ((c.tc : Thread Cert.ReferenceDiscIdeal.nD Cert.ReferenceDiscIdeal.τ).loc Cert.ReferenceDiscIdeal.main_arg4))
      ∧ r.2.sem = fun _ => 0)

def quiescent_KernelUpf [hKernelUpf : Cert.KernelUpf.Facts] : Prop :=
  ∀ (m : (ℓ : Loc Cert.KernelUpf.nD Cert.KernelUpf.τ Cert.KernelUpf.sig) → Buf (Elt Bits) ℓ) (g : Dev Cert.KernelUpf.nD → PrngReg), Pre_KernelUpf m →
    θ_run (Cert.KernelUpf.defs (F := Bits)) (onTc (τ := Cert.KernelUpf.τ) (Cert.KernelUpf.main (F := Bits))) ⟨m, fun _ => 0, g⟩ (fun r => (∀ c : Dev Cert.KernelUpf.nD,
      r.2.mem ((c.tc : Thread Cert.KernelUpf.nD Cert.KernelUpf.τ).loc Cert.KernelUpf.main_arg0) = m ((c.tc : Thread Cert.KernelUpf.nD Cert.KernelUpf.τ).loc Cert.KernelUpf.main_arg0)
      ∧ r.2.mem ((c.tc : Thread Cert.KernelUpf.nD Cert.KernelUpf.τ).loc Cert.KernelUpf.main_arg1) = m ((c.tc : Thread Cert.KernelUpf.nD Cert.KernelUpf.τ).loc Cert.KernelUpf.main_arg1)
      ∧ r.2.mem ((c.tc : Thread Cert.KernelUpf.nD Cert.KernelUpf.τ).loc Cert.KernelUpf.main_arg2) = m ((c.tc : Thread Cert.KernelUpf.nD Cert.KernelUpf.τ).loc Cert.KernelUpf.main_arg2)
      ∧ r.2.mem ((c.tc : Thread Cert.KernelUpf.nD Cert.KernelUpf.τ).loc Cert.KernelUpf.main_arg3) = m ((c.tc : Thread Cert.KernelUpf.nD Cert.KernelUpf.τ).loc Cert.KernelUpf.main_arg3))
      ∧ r.2.sem = fun _ => 0)

def quiescent_KernelUpfIdeal [hKernelUpfIdeal : Cert.KernelUpfIdeal.Facts] : Prop :=
  ∀ (m : (ℓ : Loc Cert.KernelUpfIdeal.nD Cert.KernelUpfIdeal.τ Cert.KernelUpfIdeal.sig) → Buf (Elt Ideal) ℓ) (g : Dev Cert.KernelUpfIdeal.nD → PrngReg), Pre_KernelUpfIdeal m →
    θ_run (Cert.KernelUpfIdeal.defs (F := Ideal)) (onTc (τ := Cert.KernelUpfIdeal.τ) (Cert.KernelUpfIdeal.main (F := Ideal))) ⟨m, fun _ => 0, g⟩ (fun r => (∀ c : Dev Cert.KernelUpfIdeal.nD,
      r.2.mem ((c.tc : Thread Cert.KernelUpfIdeal.nD Cert.KernelUpfIdeal.τ).loc Cert.KernelUpfIdeal.main_arg0) = m ((c.tc : Thread Cert.KernelUpfIdeal.nD Cert.KernelUpfIdeal.τ).loc Cert.KernelUpfIdeal.main_arg0)
      ∧ r.2.mem ((c.tc : Thread Cert.KernelUpfIdeal.nD Cert.KernelUpfIdeal.τ).loc Cert.KernelUpfIdeal.main_arg1) = m ((c.tc : Thread Cert.KernelUpfIdeal.nD Cert.KernelUpfIdeal.τ).loc Cert.KernelUpfIdeal.main_arg1)
      ∧ r.2.mem ((c.tc : Thread Cert.KernelUpfIdeal.nD Cert.KernelUpfIdeal.τ).loc Cert.KernelUpfIdeal.main_arg2) = m ((c.tc : Thread Cert.KernelUpfIdeal.nD Cert.KernelUpfIdeal.τ).loc Cert.KernelUpfIdeal.main_arg2)
      ∧ r.2.mem ((c.tc : Thread Cert.KernelUpfIdeal.nD Cert.KernelUpfIdeal.τ).loc Cert.KernelUpfIdeal.main_arg3) = m ((c.tc : Thread Cert.KernelUpfIdeal.nD Cert.KernelUpfIdeal.τ).loc Cert.KernelUpfIdeal.main_arg3))
      ∧ r.2.sem = fun _ => 0)

def quiescent_ReferenceUpfIdeal [hReferenceUpfIdeal : Cert.ReferenceUpfIdeal.Facts] : Prop :=
  ∀ (m : (ℓ : Loc Cert.ReferenceUpfIdeal.nD Cert.ReferenceUpfIdeal.τ Cert.ReferenceUpfIdeal.sig) → Buf (Elt Ideal) ℓ) (g : Dev Cert.ReferenceUpfIdeal.nD → PrngReg), Pre_ReferenceUpfIdeal m →
    θ_run (Cert.ReferenceUpfIdeal.defs (F := Ideal)) (onTc (τ := Cert.ReferenceUpfIdeal.τ) (Cert.ReferenceUpfIdeal.main (F := Ideal))) ⟨m, fun _ => 0, g⟩ (fun r => (∀ c : Dev Cert.ReferenceUpfIdeal.nD,
      r.2.mem ((c.tc : Thread Cert.ReferenceUpfIdeal.nD Cert.ReferenceUpfIdeal.τ).loc Cert.ReferenceUpfIdeal.main_arg0) = m ((c.tc : Thread Cert.ReferenceUpfIdeal.nD Cert.ReferenceUpfIdeal.τ).loc Cert.ReferenceUpfIdeal.main_arg0)
      ∧ r.2.mem ((c.tc : Thread Cert.ReferenceUpfIdeal.nD Cert.ReferenceUpfIdeal.τ).loc Cert.ReferenceUpfIdeal.main_arg1) = m ((c.tc : Thread Cert.ReferenceUpfIdeal.nD Cert.ReferenceUpfIdeal.τ).loc Cert.ReferenceUpfIdeal.main_arg1)
      ∧ r.2.mem ((c.tc : Thread Cert.ReferenceUpfIdeal.nD Cert.ReferenceUpfIdeal.τ).loc Cert.ReferenceUpfIdeal.main_arg2) = m ((c.tc : Thread Cert.ReferenceUpfIdeal.nD Cert.ReferenceUpfIdeal.τ).loc Cert.ReferenceUpfIdeal.main_arg2)
      ∧ r.2.mem ((c.tc : Thread Cert.ReferenceUpfIdeal.nD Cert.ReferenceUpfIdeal.τ).loc Cert.ReferenceUpfIdeal.main_arg3) = m ((c.tc : Thread Cert.ReferenceUpfIdeal.nD Cert.ReferenceUpfIdeal.τ).loc Cert.ReferenceUpfIdeal.main_arg3))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6)
      ∧ r.2.mem ((c.tc : Thread Cert.KernelMix.nD Cert.KernelMix.τ).loc Cert.KernelMix.main_arg7) = m ((c.tc : Thread Cert.KernelMix.nD Cert.KernelMix.τ).loc Cert.KernelMix.main_arg7)
      ∧ r.2.mem ((c.tc : Thread Cert.KernelMix.nD Cert.KernelMix.τ).loc Cert.KernelMix.main_arg8) = m ((c.tc : Thread Cert.KernelMix.nD Cert.KernelMix.τ).loc Cert.KernelMix.main_arg8)
      ∧ r.2.mem ((c.tc : Thread Cert.KernelMix.nD Cert.KernelMix.τ).loc Cert.KernelMix.main_arg9) = m ((c.tc : Thread Cert.KernelMix.nD Cert.KernelMix.τ).loc Cert.KernelMix.main_arg9)
      ∧ r.2.mem ((c.tc : Thread Cert.KernelMix.nD Cert.KernelMix.τ).loc Cert.KernelMix.main_arg10) = m ((c.tc : Thread Cert.KernelMix.nD Cert.KernelMix.τ).loc Cert.KernelMix.main_arg10)
      ∧ r.2.mem ((c.tc : Thread Cert.KernelMix.nD Cert.KernelMix.τ).loc Cert.KernelMix.main_arg11) = m ((c.tc : Thread Cert.KernelMix.nD Cert.KernelMix.τ).loc Cert.KernelMix.main_arg11)
      ∧ r.2.mem ((c.tc : Thread Cert.KernelMix.nD Cert.KernelMix.τ).loc Cert.KernelMix.main_arg12) = m ((c.tc : Thread Cert.KernelMix.nD Cert.KernelMix.τ).loc Cert.KernelMix.main_arg12)
      ∧ r.2.mem ((c.tc : Thread Cert.KernelMix.nD Cert.KernelMix.τ).loc Cert.KernelMix.main_arg13) = m ((c.tc : Thread Cert.KernelMix.nD Cert.KernelMix.τ).loc Cert.KernelMix.main_arg13)
      ∧ r.2.mem ((c.tc : Thread Cert.KernelMix.nD Cert.KernelMix.τ).loc Cert.KernelMix.main_arg14) = m ((c.tc : Thread Cert.KernelMix.nD Cert.KernelMix.τ).loc Cert.KernelMix.main_arg14)
      ∧ r.2.mem ((c.tc : Thread Cert.KernelMix.nD Cert.KernelMix.τ).loc Cert.KernelMix.main_arg15) = m ((c.tc : Thread Cert.KernelMix.nD Cert.KernelMix.τ).loc Cert.KernelMix.main_arg15)
      ∧ r.2.mem ((c.tc : Thread Cert.KernelMix.nD Cert.KernelMix.τ).loc Cert.KernelMix.main_arg16) = m ((c.tc : Thread Cert.KernelMix.nD Cert.KernelMix.τ).loc Cert.KernelMix.main_arg16)
      ∧ r.2.mem ((c.tc : Thread Cert.KernelMix.nD Cert.KernelMix.τ).loc Cert.KernelMix.main_arg17) = m ((c.tc : Thread Cert.KernelMix.nD Cert.KernelMix.τ).loc Cert.KernelMix.main_arg17))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
      ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8)
      ∧ r.2.mem ((c.tc : Thread Cert.KernelMixIdeal.nD Cert.KernelMixIdeal.τ).loc Cert.KernelMixIdeal.main_arg9) = m ((c.tc : Thread Cert.KernelMixIdeal.nD Cert.KernelMixIdeal.τ).loc Cert.KernelMixIdeal.main_arg9)
      ∧ r.2.mem ((c.tc : Thread Cert.KernelMixIdeal.nD Cert.KernelMixIdeal.τ).loc Cert.KernelMixIdeal.main_arg10) = m ((c.tc : Thread Cert.KernelMixIdeal.nD Cert.KernelMixIdeal.τ).loc Cert.KernelMixIdeal.main_arg10)
      ∧ r.2.mem ((c.tc : Thread Cert.KernelMixIdeal.nD Cert.KernelMixIdeal.τ).loc Cert.KernelMixIdeal.main_arg11) = m ((c.tc : Thread Cert.KernelMixIdeal.nD Cert.KernelMixIdeal.τ).loc Cert.KernelMixIdeal.main_arg11)
      ∧ r.2.mem ((c.tc : Thread Cert.KernelMixIdeal.nD Cert.KernelMixIdeal.τ).loc Cert.KernelMixIdeal.main_arg12) = m ((c.tc : Thread Cert.KernelMixIdeal.nD Cert.KernelMixIdeal.τ).loc Cert.KernelMixIdeal.main_arg12)
      ∧ r.2.mem ((c.tc : Thread Cert.KernelMixIdeal.nD Cert.KernelMixIdeal.τ).loc Cert.KernelMixIdeal.main_arg13) = m ((c.tc : Thread Cert.KernelMixIdeal.nD Cert.KernelMixIdeal.τ).loc Cert.KernelMixIdeal.main_arg13)
      ∧ r.2.mem ((c.tc : Thread Cert.KernelMixIdeal.nD Cert.KernelMixIdeal.τ).loc Cert.KernelMixIdeal.main_arg14) = m ((c.tc : Thread Cert.KernelMixIdeal.nD Cert.KernelMixIdeal.τ).loc Cert.KernelMixIdeal.main_arg14)
      ∧ r.2.mem ((c.tc : Thread Cert.KernelMixIdeal.nD Cert.KernelMixIdeal.τ).loc Cert.KernelMixIdeal.main_arg15) = m ((c.tc : Thread Cert.KernelMixIdeal.nD Cert.KernelMixIdeal.τ).loc Cert.KernelMixIdeal.main_arg15)
      ∧ r.2.mem ((c.tc : Thread Cert.KernelMixIdeal.nD Cert.KernelMixIdeal.τ).loc Cert.KernelMixIdeal.main_arg16) = m ((c.tc : Thread Cert.KernelMixIdeal.nD Cert.KernelMixIdeal.τ).loc Cert.KernelMixIdeal.main_arg16)
      ∧ r.2.mem ((c.tc : Thread Cert.KernelMixIdeal.nD Cert.KernelMixIdeal.τ).loc Cert.KernelMixIdeal.main_arg17) = m ((c.tc : Thread Cert.KernelMixIdeal.nD Cert.KernelMixIdeal.τ).loc Cert.KernelMixIdeal.main_arg17))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6)
      ∧ r.2.mem ((c.tc : Thread Cert.ReferenceMixIdeal.nD Cert.ReferenceMixIdeal.τ).loc Cert.ReferenceMixIdeal.main_arg7) = m ((c.tc : Thread Cert.ReferenceMixIdeal.nD Cert.ReferenceMixIdeal.τ).loc Cert.ReferenceMixIdeal.main_arg7)
      ∧ r.2.mem ((c.tc : Thread Cert.ReferenceMixIdeal.nD Cert.ReferenceMixIdeal.τ).loc Cert.ReferenceMixIdeal.main_arg8) = m ((c.tc : Thread Cert.ReferenceMixIdeal.nD Cert.ReferenceMixIdeal.τ).loc Cert.ReferenceMixIdeal.main_arg8)
      ∧ r.2.mem ((c.tc : Thread Cert.ReferenceMixIdeal.nD Cert.ReferenceMixIdeal.τ).loc Cert.ReferenceMixIdeal.main_arg9) = m ((c.tc : Thread Cert.ReferenceMixIdeal.nD Cert.ReferenceMixIdeal.τ).loc Cert.ReferenceMixIdeal.main_arg9)
      ∧ r.2.mem ((c.tc : Thread Cert.ReferenceMixIdeal.nD Cert.ReferenceMixIdeal.τ).loc Cert.ReferenceMixIdeal.main_arg10) = m ((c.tc : Thread Cert.ReferenceMixIdeal.nD Cert.ReferenceMixIdeal.τ).loc Cert.ReferenceMixIdeal.main_arg10)
      ∧ r.2.mem ((c.tc : Thread Cert.ReferenceMixIdeal.nD Cert.ReferenceMixIdeal.τ).loc Cert.ReferenceMixIdeal.main_arg11) = m ((c.tc : Thread Cert.ReferenceMixIdeal.nD Cert.ReferenceMixIdeal.τ).loc Cert.ReferenceMixIdeal.main_arg11)
      ∧ r.2.mem ((c.tc : Thread Cert.ReferenceMixIdeal.nD Cert.ReferenceMixIdeal.τ).loc Cert.ReferenceMixIdeal.main_arg12) = m ((c.tc : Thread Cert.ReferenceMixIdeal.nD Cert.ReferenceMixIdeal.τ).loc Cert.ReferenceMixIdeal.main_arg12)
      ∧ r.2.mem ((c.tc : Thread Cert.ReferenceMixIdeal.nD Cert.ReferenceMixIdeal.τ).loc Cert.ReferenceMixIdeal.main_arg13) = m ((c.tc : Thread Cert.ReferenceMixIdeal.nD Cert.ReferenceMixIdeal.τ).loc Cert.ReferenceMixIdeal.main_arg13)
      ∧ r.2.mem ((c.tc : Thread Cert.ReferenceMixIdeal.nD Cert.ReferenceMixIdeal.τ).loc Cert.ReferenceMixIdeal.main_arg14) = m ((c.tc : Thread Cert.ReferenceMixIdeal.nD Cert.ReferenceMixIdeal.τ).loc Cert.ReferenceMixIdeal.main_arg14)
      ∧ r.2.mem ((c.tc : Thread Cert.ReferenceMixIdeal.nD Cert.ReferenceMixIdeal.τ).loc Cert.ReferenceMixIdeal.main_arg15) = m ((c.tc : Thread Cert.ReferenceMixIdeal.nD Cert.ReferenceMixIdeal.τ).loc Cert.ReferenceMixIdeal.main_arg15)
      ∧ r.2.mem ((c.tc : Thread Cert.ReferenceMixIdeal.nD Cert.ReferenceMixIdeal.τ).loc Cert.ReferenceMixIdeal.main_arg16) = m ((c.tc : Thread Cert.ReferenceMixIdeal.nD Cert.ReferenceMixIdeal.τ).loc Cert.ReferenceMixIdeal.main_arg16)
      ∧ r.2.mem ((c.tc : Thread Cert.ReferenceMixIdeal.nD Cert.ReferenceMixIdeal.τ).loc Cert.ReferenceMixIdeal.main_arg17) = m ((c.tc : Thread Cert.ReferenceMixIdeal.nD Cert.ReferenceMixIdeal.τ).loc Cert.ReferenceMixIdeal.main_arg17))
      ∧ r.2.sem = fun _ => 0)

def quiescent_KernelMixf [hKernelMixf : Cert.KernelMixf.Facts] : Prop :=
  ∀ (m : (ℓ : Loc Cert.KernelMixf.nD Cert.KernelMixf.τ Cert.KernelMixf.sig) → Buf (Elt Bits) ℓ) (g : Dev Cert.KernelMixf.nD → PrngReg), Pre_KernelMixf m →
    θ_run (Cert.KernelMixf.defs (F := Bits)) (onTc (τ := Cert.KernelMixf.τ) (Cert.KernelMixf.main (F := Bits))) ⟨m, fun _ => 0, g⟩ (fun r => (∀ c : Dev Cert.KernelMixf.nD,
      r.2.mem ((c.tc : Thread Cert.KernelMixf.nD Cert.KernelMixf.τ).loc Cert.KernelMixf.main_arg0) = m ((c.tc : Thread Cert.KernelMixf.nD Cert.KernelMixf.τ).loc Cert.KernelMixf.main_arg0)
      ∧ r.2.mem ((c.tc : Thread Cert.KernelMixf.nD Cert.KernelMixf.τ).loc Cert.KernelMixf.main_arg1) = m ((c.tc : Thread Cert.KernelMixf.nD Cert.KernelMixf.τ).loc Cert.KernelMixf.main_arg1)
      ∧ r.2.mem ((c.tc : Thread Cert.KernelMixf.nD Cert.KernelMixf.τ).loc Cert.KernelMixf.main_arg2) = m ((c.tc : Thread Cert.KernelMixf.nD Cert.KernelMixf.τ).loc Cert.KernelMixf.main_arg2)
      ∧ r.2.mem ((c.tc : Thread Cert.KernelMixf.nD Cert.KernelMixf.τ).loc Cert.KernelMixf.main_arg3) = m ((c.tc : Thread Cert.KernelMixf.nD Cert.KernelMixf.τ).loc Cert.KernelMixf.main_arg3)
      ∧ r.2.mem ((c.tc : Thread Cert.KernelMixf.nD Cert.KernelMixf.τ).loc Cert.KernelMixf.main_arg4) = m ((c.tc : Thread Cert.KernelMixf.nD Cert.KernelMixf.τ).loc Cert.KernelMixf.main_arg4)
      ∧ r.2.mem ((c.tc : Thread Cert.KernelMixf.nD Cert.KernelMixf.τ).loc Cert.KernelMixf.main_arg5) = m ((c.tc : Thread Cert.KernelMixf.nD Cert.KernelMixf.τ).loc Cert.KernelMixf.main_arg5)
      ∧ r.2.mem ((c.tc : Thread Cert.KernelMixf.nD Cert.KernelMixf.τ).loc Cert.KernelMixf.main_arg6) = m ((c.tc : Thread Cert.KernelMixf.nD Cert.KernelMixf.τ).loc Cert.KernelMixf.main_arg6)
      ∧ r.2.mem ((c.tc : Thread Cert.KernelMixf.nD Cert.KernelMixf.τ).loc Cert.KernelMixf.main_arg7) = m ((c.tc : Thread Cert.KernelMixf.nD Cert.KernelMixf.τ).loc Cert.KernelMixf.main_arg7)
      ∧ r.2.mem ((c.tc : Thread Cert.KernelMixf.nD Cert.KernelMixf.τ).loc Cert.KernelMixf.main_arg8) = m ((c.tc : Thread Cert.KernelMixf.nD Cert.KernelMixf.τ).loc Cert.KernelMixf.main_arg8)
      ∧ r.2.mem ((c.tc : Thread Cert.KernelMixf.nD Cert.KernelMixf.τ).loc Cert.KernelMixf.main_arg9) = m ((c.tc : Thread Cert.KernelMixf.nD Cert.KernelMixf.τ).loc Cert.KernelMixf.main_arg9)
      ∧ r.2.mem ((c.tc : Thread Cert.KernelMixf.nD Cert.KernelMixf.τ).loc Cert.KernelMixf.main_arg10) = m ((c.tc : Thread Cert.KernelMixf.nD Cert.KernelMixf.τ).loc Cert.KernelMixf.main_arg10)
      ∧ r.2.mem ((c.tc : Thread Cert.KernelMixf.nD Cert.KernelMixf.τ).loc Cert.KernelMixf.main_arg11) = m ((c.tc : Thread Cert.KernelMixf.nD Cert.KernelMixf.τ).loc Cert.KernelMixf.main_arg11)
      ∧ r.2.mem ((c.tc : Thread Cert.KernelMixf.nD Cert.KernelMixf.τ).loc Cert.KernelMixf.main_arg12) = m ((c.tc : Thread Cert.KernelMixf.nD Cert.KernelMixf.τ).loc Cert.KernelMixf.main_arg12)
      ∧ r.2.mem ((c.tc : Thread Cert.KernelMixf.nD Cert.KernelMixf.τ).loc Cert.KernelMixf.main_arg13) = m ((c.tc : Thread Cert.KernelMixf.nD Cert.KernelMixf.τ).loc Cert.KernelMixf.main_arg13)
      ∧ r.2.mem ((c.tc : Thread Cert.KernelMixf.nD Cert.KernelMixf.τ).loc Cert.KernelMixf.main_arg14) = m ((c.tc : Thread Cert.KernelMixf.nD Cert.KernelMixf.τ).loc Cert.KernelMixf.main_arg14)
      ∧ r.2.mem ((c.tc : Thread Cert.KernelMixf.nD Cert.KernelMixf.τ).loc Cert.KernelMixf.main_arg15) = m ((c.tc : Thread Cert.KernelMixf.nD Cert.KernelMixf.τ).loc Cert.KernelMixf.main_arg15)
      ∧ r.2.mem ((c.tc : Thread Cert.KernelMixf.nD Cert.KernelMixf.τ).loc Cert.KernelMixf.main_arg16) = m ((c.tc : Thread Cert.KernelMixf.nD Cert.KernelMixf.τ).loc Cert.KernelMixf.main_arg16)
      ∧ r.2.mem ((c.tc : Thread Cert.KernelMixf.nD Cert.KernelMixf.τ).loc Cert.KernelMixf.main_arg17) = m ((c.tc : Thread Cert.KernelMixf.nD Cert.KernelMixf.τ).loc Cert.KernelMixf.main_arg17))
      ∧ r.2.sem = fun _ => 0)

def quiescent_KernelMixfIdeal [hKernelMixfIdeal : Cert.KernelMixfIdeal.Facts] : Prop :=
  ∀ (m : (ℓ : Loc Cert.KernelMixfIdeal.nD Cert.KernelMixfIdeal.τ Cert.KernelMixfIdeal.sig) → Buf (Elt Ideal) ℓ) (g : Dev Cert.KernelMixfIdeal.nD → PrngReg), Pre_KernelMixfIdeal m →
    θ_run (Cert.KernelMixfIdeal.defs (F := Ideal)) (onTc (τ := Cert.KernelMixfIdeal.τ) (Cert.KernelMixfIdeal.main (F := Ideal))) ⟨m, fun _ => 0, g⟩ (fun r => (∀ c : Dev Cert.KernelMixfIdeal.nD,
      r.2.mem ((c.tc : Thread Cert.KernelMixfIdeal.nD Cert.KernelMixfIdeal.τ).loc Cert.KernelMixfIdeal.main_arg0) = m ((c.tc : Thread Cert.KernelMixfIdeal.nD Cert.KernelMixfIdeal.τ).loc Cert.KernelMixfIdeal.main_arg0)
      ∧ r.2.mem ((c.tc : Thread Cert.KernelMixfIdeal.nD Cert.KernelMixfIdeal.τ).loc Cert.KernelMixfIdeal.main_arg1) = m ((c.tc : Thread Cert.KernelMixfIdeal.nD Cert.KernelMixfIdeal.τ).loc Cert.KernelMixfIdeal.main_arg1)
      ∧ r.2.mem ((c.tc : Thread Cert.KernelMixfIdeal.nD Cert.KernelMixfIdeal.τ).loc Cert.KernelMixfIdeal.main_arg2) = m ((c.tc : Thread Cert.KernelMixfIdeal.nD Cert.KernelMixfIdeal.τ).loc Cert.KernelMixfIdeal.main_arg2)
      ∧ r.2.mem ((c.tc : Thread Cert.KernelMixfIdeal.nD Cert.KernelMixfIdeal.τ).loc Cert.KernelMixfIdeal.main_arg3) = m ((c.tc : Thread Cert.KernelMixfIdeal.nD Cert.KernelMixfIdeal.τ).loc Cert.KernelMixfIdeal.main_arg3)
      ∧ r.2.mem ((c.tc : Thread Cert.KernelMixfIdeal.nD Cert.KernelMixfIdeal.τ).loc Cert.KernelMixfIdeal.main_arg4) = m ((c.tc : Thread Cert.KernelMixfIdeal.nD Cert.KernelMixfIdeal.τ).loc Cert.KernelMixfIdeal.main_arg4)
      ∧ r.2.mem ((c.tc : Thread Cert.KernelMixfIdeal.nD Cert.KernelMixfIdeal.τ).loc Cert.KernelMixfIdeal.main_arg5) = m ((c.tc : Thread Cert.KernelMixfIdeal.nD Cert.KernelMixfIdeal.τ).loc Cert.KernelMixfIdeal.main_arg5)
      ∧ r.2.mem ((c.tc : Thread Cert.KernelMixfIdeal.nD Cert.KernelMixfIdeal.τ).loc Cert.KernelMixfIdeal.main_arg6) = m ((c.tc : Thread Cert.KernelMixfIdeal.nD Cert.KernelMixfIdeal.τ).loc Cert.KernelMixfIdeal.main_arg6)
      ∧ r.2.mem ((c.tc : Thread Cert.KernelMixfIdeal.nD Cert.KernelMixfIdeal.τ).loc Cert.KernelMixfIdeal.main_arg7) = m ((c.tc : Thread Cert.KernelMixfIdeal.nD Cert.KernelMixfIdeal.τ).loc Cert.KernelMixfIdeal.main_arg7)
      ∧ r.2.mem ((c.tc : Thread Cert.KernelMixfIdeal.nD Cert.KernelMixfIdeal.τ).loc Cert.KernelMixfIdeal.main_arg8) = m ((c.tc : Thread Cert.KernelMixfIdeal.nD Cert.KernelMixfIdeal.τ).loc Cert.KernelMixfIdeal.main_arg8)
      ∧ r.2.mem ((c.tc : Thread Cert.KernelMixfIdeal.nD Cert.KernelMixfIdeal.τ).loc Cert.KernelMixfIdeal.main_arg9) = m ((c.tc : Thread Cert.KernelMixfIdeal.nD Cert.KernelMixfIdeal.τ).loc Cert.KernelMixfIdeal.main_arg9)
      ∧ r.2.mem ((c.tc : Thread Cert.KernelMixfIdeal.nD Cert.KernelMixfIdeal.τ).loc Cert.KernelMixfIdeal.main_arg10) = m ((c.tc : Thread Cert.KernelMixfIdeal.nD Cert.KernelMixfIdeal.τ).loc Cert.KernelMixfIdeal.main_arg10)
      ∧ r.2.mem ((c.tc : Thread Cert.KernelMixfIdeal.nD Cert.KernelMixfIdeal.τ).loc Cert.KernelMixfIdeal.main_arg11) = m ((c.tc : Thread Cert.KernelMixfIdeal.nD Cert.KernelMixfIdeal.τ).loc Cert.KernelMixfIdeal.main_arg11)
      ∧ r.2.mem ((c.tc : Thread Cert.KernelMixfIdeal.nD Cert.KernelMixfIdeal.τ).loc Cert.KernelMixfIdeal.main_arg12) = m ((c.tc : Thread Cert.KernelMixfIdeal.nD Cert.KernelMixfIdeal.τ).loc Cert.KernelMixfIdeal.main_arg12)
      ∧ r.2.mem ((c.tc : Thread Cert.KernelMixfIdeal.nD Cert.KernelMixfIdeal.τ).loc Cert.KernelMixfIdeal.main_arg13) = m ((c.tc : Thread Cert.KernelMixfIdeal.nD Cert.KernelMixfIdeal.τ).loc Cert.KernelMixfIdeal.main_arg13)
      ∧ r.2.mem ((c.tc : Thread Cert.KernelMixfIdeal.nD Cert.KernelMixfIdeal.τ).loc Cert.KernelMixfIdeal.main_arg14) = m ((c.tc : Thread Cert.KernelMixfIdeal.nD Cert.KernelMixfIdeal.τ).loc Cert.KernelMixfIdeal.main_arg14)
      ∧ r.2.mem ((c.tc : Thread Cert.KernelMixfIdeal.nD Cert.KernelMixfIdeal.τ).loc Cert.KernelMixfIdeal.main_arg15) = m ((c.tc : Thread Cert.KernelMixfIdeal.nD Cert.KernelMixfIdeal.τ).loc Cert.KernelMixfIdeal.main_arg15)
      ∧ r.2.mem ((c.tc : Thread Cert.KernelMixfIdeal.nD Cert.KernelMixfIdeal.τ).loc Cert.KernelMixfIdeal.main_arg16) = m ((c.tc : Thread Cert.KernelMixfIdeal.nD Cert.KernelMixfIdeal.τ).loc Cert.KernelMixfIdeal.main_arg16)
      ∧ r.2.mem ((c.tc : Thread Cert.KernelMixfIdeal.nD Cert.KernelMixfIdeal.τ).loc Cert.KernelMixfIdeal.main_arg17) = m ((c.tc : Thread Cert.KernelMixfIdeal.nD Cert.KernelMixfIdeal.τ).loc Cert.KernelMixfIdeal.main_arg17))
      ∧ r.2.sem = fun _ => 0)

def quiescent_ReferenceMixfIdeal [hReferenceMixfIdeal : Cert.ReferenceMixfIdeal.Facts] : Prop :=
  ∀ (m : (ℓ : Loc Cert.ReferenceMixfIdeal.nD Cert.ReferenceMixfIdeal.τ Cert.ReferenceMixfIdeal.sig) → Buf (Elt Ideal) ℓ) (g : Dev Cert.ReferenceMixfIdeal.nD → PrngReg), Pre_ReferenceMixfIdeal m →
    θ_run (Cert.ReferenceMixfIdeal.defs (F := Ideal)) (onTc (τ := Cert.ReferenceMixfIdeal.τ) (Cert.ReferenceMixfIdeal.main (F := Ideal))) ⟨m, fun _ => 0, g⟩ (fun r => (∀ c : Dev Cert.ReferenceMixfIdeal.nD,
      r.2.mem ((c.tc : Thread Cert.ReferenceMixfIdeal.nD Cert.ReferenceMixfIdeal.τ).loc Cert.ReferenceMixfIdeal.main_arg0) = m ((c.tc : Thread Cert.ReferenceMixfIdeal.nD Cert.ReferenceMixfIdeal.τ).loc Cert.ReferenceMixfIdeal.main_arg0)
      ∧ r.2.mem ((c.tc : Thread Cert.ReferenceMixfIdeal.nD Cert.ReferenceMixfIdeal.τ).loc Cert.ReferenceMixfIdeal.main_arg1) = m ((c.tc : Thread Cert.ReferenceMixfIdeal.nD Cert.ReferenceMixfIdeal.τ).loc Cert.ReferenceMixfIdeal.main_arg1)
      ∧ r.2.mem ((c.tc : Thread Cert.ReferenceMixfIdeal.nD Cert.ReferenceMixfIdeal.τ).loc Cert.ReferenceMixfIdeal.main_arg2) = m ((c.tc : Thread Cert.ReferenceMixfIdeal.nD Cert.ReferenceMixfIdeal.τ).loc Cert.ReferenceMixfIdeal.main_arg2)
      ∧ r.2.mem ((c.tc : Thread Cert.ReferenceMixfIdeal.nD Cert.ReferenceMixfIdeal.τ).loc Cert.ReferenceMixfIdeal.main_arg3) = m ((c.tc : Thread Cert.ReferenceMixfIdeal.nD Cert.ReferenceMixfIdeal.τ).loc Cert.ReferenceMixfIdeal.main_arg3)
      ∧ r.2.mem ((c.tc : Thread Cert.ReferenceMixfIdeal.nD Cert.ReferenceMixfIdeal.τ).loc Cert.ReferenceMixfIdeal.main_arg4) = m ((c.tc : Thread Cert.ReferenceMixfIdeal.nD Cert.ReferenceMixfIdeal.τ).loc Cert.ReferenceMixfIdeal.main_arg4)
      ∧ r.2.mem ((c.tc : Thread Cert.ReferenceMixfIdeal.nD Cert.ReferenceMixfIdeal.τ).loc Cert.ReferenceMixfIdeal.main_arg5) = m ((c.tc : Thread Cert.ReferenceMixfIdeal.nD Cert.ReferenceMixfIdeal.τ).loc Cert.ReferenceMixfIdeal.main_arg5)
      ∧ r.2.mem ((c.tc : Thread Cert.ReferenceMixfIdeal.nD Cert.ReferenceMixfIdeal.τ).loc Cert.ReferenceMixfIdeal.main_arg6) = m ((c.tc : Thread Cert.ReferenceMixfIdeal.nD Cert.ReferenceMixfIdeal.τ).loc Cert.ReferenceMixfIdeal.main_arg6)
      ∧ r.2.mem ((c.tc : Thread Cert.ReferenceMixfIdeal.nD Cert.ReferenceMixfIdeal.τ).loc Cert.ReferenceMixfIdeal.main_arg7) = m ((c.tc : Thread Cert.ReferenceMixfIdeal.nD Cert.ReferenceMixfIdeal.τ).loc Cert.ReferenceMixfIdeal.main_arg7)
      ∧ r.2.mem ((c.tc : Thread Cert.ReferenceMixfIdeal.nD Cert.ReferenceMixfIdeal.τ).loc Cert.ReferenceMixfIdeal.main_arg8) = m ((c.tc : Thread Cert.ReferenceMixfIdeal.nD Cert.ReferenceMixfIdeal.τ).loc Cert.ReferenceMixfIdeal.main_arg8)
      ∧ r.2.mem ((c.tc : Thread Cert.ReferenceMixfIdeal.nD Cert.ReferenceMixfIdeal.τ).loc Cert.ReferenceMixfIdeal.main_arg9) = m ((c.tc : Thread Cert.ReferenceMixfIdeal.nD Cert.ReferenceMixfIdeal.τ).loc Cert.ReferenceMixfIdeal.main_arg9)
      ∧ r.2.mem ((c.tc : Thread Cert.ReferenceMixfIdeal.nD Cert.ReferenceMixfIdeal.τ).loc Cert.ReferenceMixfIdeal.main_arg10) = m ((c.tc : Thread Cert.ReferenceMixfIdeal.nD Cert.ReferenceMixfIdeal.τ).loc Cert.ReferenceMixfIdeal.main_arg10)
      ∧ r.2.mem ((c.tc : Thread Cert.ReferenceMixfIdeal.nD Cert.ReferenceMixfIdeal.τ).loc Cert.ReferenceMixfIdeal.main_arg11) = m ((c.tc : Thread Cert.ReferenceMixfIdeal.nD Cert.ReferenceMixfIdeal.τ).loc Cert.ReferenceMixfIdeal.main_arg11)
      ∧ r.2.mem ((c.tc : Thread Cert.ReferenceMixfIdeal.nD Cert.ReferenceMixfIdeal.τ).loc Cert.ReferenceMixfIdeal.main_arg12) = m ((c.tc : Thread Cert.ReferenceMixfIdeal.nD Cert.ReferenceMixfIdeal.τ).loc Cert.ReferenceMixfIdeal.main_arg12)
      ∧ r.2.mem ((c.tc : Thread Cert.ReferenceMixfIdeal.nD Cert.ReferenceMixfIdeal.τ).loc Cert.ReferenceMixfIdeal.main_arg13) = m ((c.tc : Thread Cert.ReferenceMixfIdeal.nD Cert.ReferenceMixfIdeal.τ).loc Cert.ReferenceMixfIdeal.main_arg13)
      ∧ r.2.mem ((c.tc : Thread Cert.ReferenceMixfIdeal.nD Cert.ReferenceMixfIdeal.τ).loc Cert.ReferenceMixfIdeal.main_arg14) = m ((c.tc : Thread Cert.ReferenceMixfIdeal.nD Cert.ReferenceMixfIdeal.τ).loc Cert.ReferenceMixfIdeal.main_arg14)
      ∧ r.2.mem ((c.tc : Thread Cert.ReferenceMixfIdeal.nD Cert.ReferenceMixfIdeal.τ).loc Cert.ReferenceMixfIdeal.main_arg15) = m ((c.tc : Thread Cert.ReferenceMixfIdeal.nD Cert.ReferenceMixfIdeal.τ).loc Cert.ReferenceMixfIdeal.main_arg15)
      ∧ r.2.mem ((c.tc : Thread Cert.ReferenceMixfIdeal.nD Cert.ReferenceMixfIdeal.τ).loc Cert.ReferenceMixfIdeal.main_arg16) = m ((c.tc : Thread Cert.ReferenceMixfIdeal.nD Cert.ReferenceMixfIdeal.τ).loc Cert.ReferenceMixfIdeal.main_arg16)
      ∧ r.2.mem ((c.tc : Thread Cert.ReferenceMixfIdeal.nD Cert.ReferenceMixfIdeal.τ).loc Cert.ReferenceMixfIdeal.main_arg17) = m ((c.tc : Thread Cert.ReferenceMixfIdeal.nD Cert.ReferenceMixfIdeal.τ).loc Cert.ReferenceMixfIdeal.main_arg17))
      ∧ r.2.sem = fun _ => 0)

def quiescent_KernelInf [hKernelInf : Cert.KernelInf.Facts] : Prop :=
  ∀ (m : (ℓ : Loc Cert.KernelInf.nD Cert.KernelInf.τ Cert.KernelInf.sig) → Buf (Elt Bits) ℓ) (g : Dev Cert.KernelInf.nD → PrngReg), Pre_KernelInf m →
    θ_run (Cert.KernelInf.defs (F := Bits)) (onTc (τ := Cert.KernelInf.τ) (Cert.KernelInf.main (F := Bits))) ⟨m, fun _ => 0, g⟩ (fun r => (∀ c : Dev Cert.KernelInf.nD,
      r.2.mem ((c.tc : Thread Cert.KernelInf.nD Cert.KernelInf.τ).loc Cert.KernelInf.main_arg0) = m ((c.tc : Thread Cert.KernelInf.nD Cert.KernelInf.τ).loc Cert.KernelInf.main_arg0)
      ∧ r.2.mem ((c.tc : Thread Cert.KernelInf.nD Cert.KernelInf.τ).loc Cert.KernelInf.main_arg1) = m ((c.tc : Thread Cert.KernelInf.nD Cert.KernelInf.τ).loc Cert.KernelInf.main_arg1)
      ∧ r.2.mem ((c.tc : Thread Cert.KernelInf.nD Cert.KernelInf.τ).loc Cert.KernelInf.main_arg2) = m ((c.tc : Thread Cert.KernelInf.nD Cert.KernelInf.τ).loc Cert.KernelInf.main_arg2)
      ∧ r.2.mem ((c.tc : Thread Cert.KernelInf.nD Cert.KernelInf.τ).loc Cert.KernelInf.main_arg3) = m ((c.tc : Thread Cert.KernelInf.nD Cert.KernelInf.τ).loc Cert.KernelInf.main_arg3)
      ∧ r.2.mem ((c.tc : Thread Cert.KernelInf.nD Cert.KernelInf.τ).loc Cert.KernelInf.main_arg4) = m ((c.tc : Thread Cert.KernelInf.nD Cert.KernelInf.τ).loc Cert.KernelInf.main_arg4)
      ∧ r.2.mem ((c.tc : Thread Cert.KernelInf.nD Cert.KernelInf.τ).loc Cert.KernelInf.main_arg5) = m ((c.tc : Thread Cert.KernelInf.nD Cert.KernelInf.τ).loc Cert.KernelInf.main_arg5))
      ∧ r.2.sem = fun _ => 0)

def quiescent_KernelInfIdeal [hKernelInfIdeal : Cert.KernelInfIdeal.Facts] : Prop :=
  ∀ (m : (ℓ : Loc Cert.KernelInfIdeal.nD Cert.KernelInfIdeal.τ Cert.KernelInfIdeal.sig) → Buf (Elt Ideal) ℓ) (g : Dev Cert.KernelInfIdeal.nD → PrngReg), Pre_KernelInfIdeal m →
    θ_run (Cert.KernelInfIdeal.defs (F := Ideal)) (onTc (τ := Cert.KernelInfIdeal.τ) (Cert.KernelInfIdeal.main (F := Ideal))) ⟨m, fun _ => 0, g⟩ (fun r => (∀ c : Dev Cert.KernelInfIdeal.nD,
      r.2.mem ((c.tc : Thread Cert.KernelInfIdeal.nD Cert.KernelInfIdeal.τ).loc Cert.KernelInfIdeal.main_arg0) = m ((c.tc : Thread Cert.KernelInfIdeal.nD Cert.KernelInfIdeal.τ).loc Cert.KernelInfIdeal.main_arg0)
      ∧ r.2.mem ((c.tc : Thread Cert.KernelInfIdeal.nD Cert.KernelInfIdeal.τ).loc Cert.KernelInfIdeal.main_arg1) = m ((c.tc : Thread Cert.KernelInfIdeal.nD Cert.KernelInfIdeal.τ).loc Cert.KernelInfIdeal.main_arg1)
      ∧ r.2.mem ((c.tc : Thread Cert.KernelInfIdeal.nD Cert.KernelInfIdeal.τ).loc Cert.KernelInfIdeal.main_arg2) = m ((c.tc : Thread Cert.KernelInfIdeal.nD Cert.KernelInfIdeal.τ).loc Cert.KernelInfIdeal.main_arg2)
      ∧ r.2.mem ((c.tc : Thread Cert.KernelInfIdeal.nD Cert.KernelInfIdeal.τ).loc Cert.KernelInfIdeal.main_arg3) = m ((c.tc : Thread Cert.KernelInfIdeal.nD Cert.KernelInfIdeal.τ).loc Cert.KernelInfIdeal.main_arg3)
      ∧ r.2.mem ((c.tc : Thread Cert.KernelInfIdeal.nD Cert.KernelInfIdeal.τ).loc Cert.KernelInfIdeal.main_arg4) = m ((c.tc : Thread Cert.KernelInfIdeal.nD Cert.KernelInfIdeal.τ).loc Cert.KernelInfIdeal.main_arg4)
      ∧ r.2.mem ((c.tc : Thread Cert.KernelInfIdeal.nD Cert.KernelInfIdeal.τ).loc Cert.KernelInfIdeal.main_arg5) = m ((c.tc : Thread Cert.KernelInfIdeal.nD Cert.KernelInfIdeal.τ).loc Cert.KernelInfIdeal.main_arg5))
      ∧ r.2.sem = fun _ => 0)

def quiescent_ReferenceInfIdeal [hReferenceInfIdeal : Cert.ReferenceInfIdeal.Facts] : Prop :=
  ∀ (m : (ℓ : Loc Cert.ReferenceInfIdeal.nD Cert.ReferenceInfIdeal.τ Cert.ReferenceInfIdeal.sig) → Buf (Elt Ideal) ℓ) (g : Dev Cert.ReferenceInfIdeal.nD → PrngReg), Pre_ReferenceInfIdeal m →
    θ_run (Cert.ReferenceInfIdeal.defs (F := Ideal)) (onTc (τ := Cert.ReferenceInfIdeal.τ) (Cert.ReferenceInfIdeal.main (F := Ideal))) ⟨m, fun _ => 0, g⟩ (fun r => (∀ c : Dev Cert.ReferenceInfIdeal.nD,
      r.2.mem ((c.tc : Thread Cert.ReferenceInfIdeal.nD Cert.ReferenceInfIdeal.τ).loc Cert.ReferenceInfIdeal.main_arg0) = m ((c.tc : Thread Cert.ReferenceInfIdeal.nD Cert.ReferenceInfIdeal.τ).loc Cert.ReferenceInfIdeal.main_arg0)
      ∧ r.2.mem ((c.tc : Thread Cert.ReferenceInfIdeal.nD Cert.ReferenceInfIdeal.τ).loc Cert.ReferenceInfIdeal.main_arg1) = m ((c.tc : Thread Cert.ReferenceInfIdeal.nD Cert.ReferenceInfIdeal.τ).loc Cert.ReferenceInfIdeal.main_arg1)
      ∧ r.2.mem ((c.tc : Thread Cert.ReferenceInfIdeal.nD Cert.ReferenceInfIdeal.τ).loc Cert.ReferenceInfIdeal.main_arg2) = m ((c.tc : Thread Cert.ReferenceInfIdeal.nD Cert.ReferenceInfIdeal.τ).loc Cert.ReferenceInfIdeal.main_arg2)
      ∧ r.2.mem ((c.tc : Thread Cert.ReferenceInfIdeal.nD Cert.ReferenceInfIdeal.τ).loc Cert.ReferenceInfIdeal.main_arg3) = m ((c.tc : Thread Cert.ReferenceInfIdeal.nD Cert.ReferenceInfIdeal.τ).loc Cert.ReferenceInfIdeal.main_arg3)
      ∧ r.2.mem ((c.tc : Thread Cert.ReferenceInfIdeal.nD Cert.ReferenceInfIdeal.τ).loc Cert.ReferenceInfIdeal.main_arg4) = m ((c.tc : Thread Cert.ReferenceInfIdeal.nD Cert.ReferenceInfIdeal.τ).loc Cert.ReferenceInfIdeal.main_arg4)
      ∧ r.2.mem ((c.tc : Thread Cert.ReferenceInfIdeal.nD Cert.ReferenceInfIdeal.τ).loc Cert.ReferenceInfIdeal.main_arg5) = m ((c.tc : Thread Cert.ReferenceInfIdeal.nD Cert.ReferenceInfIdeal.τ).loc Cert.ReferenceInfIdeal.main_arg5))
      ∧ r.2.sem = fun _ => 0)

def quiescent_KernelModf [hKernelModf : Cert.KernelModf.Facts] : Prop :=
  ∀ (m : (ℓ : Loc Cert.KernelModf.nD Cert.KernelModf.τ Cert.KernelModf.sig) → Buf (Elt Bits) ℓ) (g : Dev Cert.KernelModf.nD → PrngReg), Pre_KernelModf m →
    θ_run (Cert.KernelModf.defs (F := Bits)) (onTc (τ := Cert.KernelModf.τ) (Cert.KernelModf.main (F := Bits))) ⟨m, fun _ => 0, g⟩ (fun r => (∀ c : Dev Cert.KernelModf.nD,
      r.2.mem ((c.tc : Thread Cert.KernelModf.nD Cert.KernelModf.τ).loc Cert.KernelModf.main_arg0) = m ((c.tc : Thread Cert.KernelModf.nD Cert.KernelModf.τ).loc Cert.KernelModf.main_arg0)
      ∧ r.2.mem ((c.tc : Thread Cert.KernelModf.nD Cert.KernelModf.τ).loc Cert.KernelModf.main_arg1) = m ((c.tc : Thread Cert.KernelModf.nD Cert.KernelModf.τ).loc Cert.KernelModf.main_arg1)
      ∧ r.2.mem ((c.tc : Thread Cert.KernelModf.nD Cert.KernelModf.τ).loc Cert.KernelModf.main_arg2) = m ((c.tc : Thread Cert.KernelModf.nD Cert.KernelModf.τ).loc Cert.KernelModf.main_arg2)
      ∧ r.2.mem ((c.tc : Thread Cert.KernelModf.nD Cert.KernelModf.τ).loc Cert.KernelModf.main_arg3) = m ((c.tc : Thread Cert.KernelModf.nD Cert.KernelModf.τ).loc Cert.KernelModf.main_arg3))
      ∧ r.2.sem = fun _ => 0)

def quiescent_KernelModfIdeal [hKernelModfIdeal : Cert.KernelModfIdeal.Facts] : Prop :=
  ∀ (m : (ℓ : Loc Cert.KernelModfIdeal.nD Cert.KernelModfIdeal.τ Cert.KernelModfIdeal.sig) → Buf (Elt Ideal) ℓ) (g : Dev Cert.KernelModfIdeal.nD → PrngReg), Pre_KernelModfIdeal m →
    θ_run (Cert.KernelModfIdeal.defs (F := Ideal)) (onTc (τ := Cert.KernelModfIdeal.τ) (Cert.KernelModfIdeal.main (F := Ideal))) ⟨m, fun _ => 0, g⟩ (fun r => (∀ c : Dev Cert.KernelModfIdeal.nD,
      r.2.mem ((c.tc : Thread Cert.KernelModfIdeal.nD Cert.KernelModfIdeal.τ).loc Cert.KernelModfIdeal.main_arg0) = m ((c.tc : Thread Cert.KernelModfIdeal.nD Cert.KernelModfIdeal.τ).loc Cert.KernelModfIdeal.main_arg0)
      ∧ r.2.mem ((c.tc : Thread Cert.KernelModfIdeal.nD Cert.KernelModfIdeal.τ).loc Cert.KernelModfIdeal.main_arg1) = m ((c.tc : Thread Cert.KernelModfIdeal.nD Cert.KernelModfIdeal.τ).loc Cert.KernelModfIdeal.main_arg1)
      ∧ r.2.mem ((c.tc : Thread Cert.KernelModfIdeal.nD Cert.KernelModfIdeal.τ).loc Cert.KernelModfIdeal.main_arg2) = m ((c.tc : Thread Cert.KernelModfIdeal.nD Cert.KernelModfIdeal.τ).loc Cert.KernelModfIdeal.main_arg2)
      ∧ r.2.mem ((c.tc : Thread Cert.KernelModfIdeal.nD Cert.KernelModfIdeal.τ).loc Cert.KernelModfIdeal.main_arg3) = m ((c.tc : Thread Cert.KernelModfIdeal.nD Cert.KernelModfIdeal.τ).loc Cert.KernelModfIdeal.main_arg3))
      ∧ r.2.sem = fun _ => 0)

def quiescent_ReferenceModfIdeal [hReferenceModfIdeal : Cert.ReferenceModfIdeal.Facts] : Prop :=
  ∀ (m : (ℓ : Loc Cert.ReferenceModfIdeal.nD Cert.ReferenceModfIdeal.τ Cert.ReferenceModfIdeal.sig) → Buf (Elt Ideal) ℓ) (g : Dev Cert.ReferenceModfIdeal.nD → PrngReg), Pre_ReferenceModfIdeal m →
    θ_run (Cert.ReferenceModfIdeal.defs (F := Ideal)) (onTc (τ := Cert.ReferenceModfIdeal.τ) (Cert.ReferenceModfIdeal.main (F := Ideal))) ⟨m, fun _ => 0, g⟩ (fun r => (∀ c : Dev Cert.ReferenceModfIdeal.nD,
      r.2.mem ((c.tc : Thread Cert.ReferenceModfIdeal.nD Cert.ReferenceModfIdeal.τ).loc Cert.ReferenceModfIdeal.main_arg0) = m ((c.tc : Thread Cert.ReferenceModfIdeal.nD Cert.ReferenceModfIdeal.τ).loc Cert.ReferenceModfIdeal.main_arg0)
      ∧ r.2.mem ((c.tc : Thread Cert.ReferenceModfIdeal.nD Cert.ReferenceModfIdeal.τ).loc Cert.ReferenceModfIdeal.main_arg1) = m ((c.tc : Thread Cert.ReferenceModfIdeal.nD Cert.ReferenceModfIdeal.τ).loc Cert.ReferenceModfIdeal.main_arg1)
      ∧ r.2.mem ((c.tc : Thread Cert.ReferenceModfIdeal.nD Cert.ReferenceModfIdeal.τ).loc Cert.ReferenceModfIdeal.main_arg2) = m ((c.tc : Thread Cert.ReferenceModfIdeal.nD Cert.ReferenceModfIdeal.τ).loc Cert.ReferenceModfIdeal.main_arg2)
      ∧ r.2.mem ((c.tc : Thread Cert.ReferenceModfIdeal.nD Cert.ReferenceModfIdeal.τ).loc Cert.ReferenceModfIdeal.main_arg3) = m ((c.tc : Thread Cert.ReferenceModfIdeal.nD Cert.ReferenceModfIdeal.τ).loc Cert.ReferenceModfIdeal.main_arg3))
      ∧ r.2.sem = fun _ => 0)

def quiescent_KernelSum [hKernelSum : Cert.KernelSum.Facts] : Prop :=
  ∀ (m : (ℓ : Loc Cert.KernelSum.nD Cert.KernelSum.τ Cert.KernelSum.sig) → Buf (Elt Bits) ℓ) (g : Dev Cert.KernelSum.nD → PrngReg), Pre_KernelSum m →
    θ_run (Cert.KernelSum.defs (F := Bits)) (onTc (τ := Cert.KernelSum.τ) (Cert.KernelSum.main (F := Bits))) ⟨m, fun _ => 0, g⟩ (fun r => (∀ c : Dev Cert.KernelSum.nD,
      r.2.mem ((c.tc : Thread Cert.KernelSum.nD Cert.KernelSum.τ).loc Cert.KernelSum.main_arg0) = m ((c.tc : Thread Cert.KernelSum.nD Cert.KernelSum.τ).loc Cert.KernelSum.main_arg0))
      ∧ r.2.sem = fun _ => 0)

def quiescent_KernelSumIdeal [hKernelSumIdeal : Cert.KernelSumIdeal.Facts] : Prop :=
  ∀ (m : (ℓ : Loc Cert.KernelSumIdeal.nD Cert.KernelSumIdeal.τ Cert.KernelSumIdeal.sig) → Buf (Elt Ideal) ℓ) (g : Dev Cert.KernelSumIdeal.nD → PrngReg), Pre_KernelSumIdeal m →
    θ_run (Cert.KernelSumIdeal.defs (F := Ideal)) (onTc (τ := Cert.KernelSumIdeal.τ) (Cert.KernelSumIdeal.main (F := Ideal))) ⟨m, fun _ => 0, g⟩ (fun r => (∀ c : Dev Cert.KernelSumIdeal.nD,
      r.2.mem ((c.tc : Thread Cert.KernelSumIdeal.nD Cert.KernelSumIdeal.τ).loc Cert.KernelSumIdeal.main_arg0) = m ((c.tc : Thread Cert.KernelSumIdeal.nD Cert.KernelSumIdeal.τ).loc Cert.KernelSumIdeal.main_arg0))
      ∧ r.2.sem = fun _ => 0)

def quiescent_ReferenceSumIdeal [hReferenceSumIdeal : Cert.ReferenceSumIdeal.Facts] : Prop :=
  ∀ (m : (ℓ : Loc Cert.ReferenceSumIdeal.nD Cert.ReferenceSumIdeal.τ Cert.ReferenceSumIdeal.sig) → Buf (Elt Ideal) ℓ) (g : Dev Cert.ReferenceSumIdeal.nD → PrngReg), Pre_ReferenceSumIdeal m →
    θ_run (Cert.ReferenceSumIdeal.defs (F := Ideal)) (onTc (τ := Cert.ReferenceSumIdeal.τ) (Cert.ReferenceSumIdeal.main (F := Ideal))) ⟨m, fun _ => 0, g⟩ (fun r => (∀ c : Dev Cert.ReferenceSumIdeal.nD,
      r.2.mem ((c.tc : Thread Cert.ReferenceSumIdeal.nD Cert.ReferenceSumIdeal.τ).loc Cert.ReferenceSumIdeal.main_arg0) = m ((c.tc : Thread Cert.ReferenceSumIdeal.nD Cert.ReferenceSumIdeal.τ).loc Cert.ReferenceSumIdeal.main_arg0))
      ∧ r.2.sem = fun _ => 0)

def quiescent_KernelAdam [hKernelAdam : Cert.KernelAdam.Facts] : Prop :=
  ∀ (m : (ℓ : Loc Cert.KernelAdam.nD Cert.KernelAdam.τ Cert.KernelAdam.sig) → Buf (Elt Bits) ℓ) (g : Dev Cert.KernelAdam.nD → PrngReg), Pre_KernelAdam m →
    θ_run (Cert.KernelAdam.defs (F := Bits)) (onTc (τ := Cert.KernelAdam.τ) (Cert.KernelAdam.main (F := Bits))) ⟨m, fun _ => 0, g⟩ (fun r => (∀ c : Dev Cert.KernelAdam.nD,
      r.2.mem ((c.tc : Thread Cert.KernelAdam.nD Cert.KernelAdam.τ).loc Cert.KernelAdam.main_arg0) = m ((c.tc : Thread Cert.KernelAdam.nD Cert.KernelAdam.τ).loc Cert.KernelAdam.main_arg0)
      ∧ r.2.mem ((c.tc : Thread Cert.KernelAdam.nD Cert.KernelAdam.τ).loc Cert.KernelAdam.main_arg1) = m ((c.tc : Thread Cert.KernelAdam.nD Cert.KernelAdam.τ).loc Cert.KernelAdam.main_arg1)
      ∧ r.2.mem ((c.tc : Thread Cert.KernelAdam.nD Cert.KernelAdam.τ).loc Cert.KernelAdam.main_arg2) = m ((c.tc : Thread Cert.KernelAdam.nD Cert.KernelAdam.τ).loc Cert.KernelAdam.main_arg2)
      ∧ r.2.mem ((c.tc : Thread Cert.KernelAdam.nD Cert.KernelAdam.τ).loc Cert.KernelAdam.main_arg3) = m ((c.tc : Thread Cert.KernelAdam.nD Cert.KernelAdam.τ).loc Cert.KernelAdam.main_arg3)
      ∧ r.2.mem ((c.tc : Thread Cert.KernelAdam.nD Cert.KernelAdam.τ).loc Cert.KernelAdam.main_arg4) = m ((c.tc : Thread Cert.KernelAdam.nD Cert.KernelAdam.τ).loc Cert.KernelAdam.main_arg4))
      ∧ r.2.sem = fun _ => 0)

def quiescent_KernelAdamIdeal [hKernelAdamIdeal : Cert.KernelAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg), Pre_KernelAdamIdeal m →
    θ_run (Cert.KernelAdamIdeal.defs (F := Ideal)) (onTc (τ := Cert.KernelAdamIdeal.τ) (Cert.KernelAdamIdeal.main (F := Ideal))) ⟨m, fun _ => 0, g⟩ (fun r => (∀ c : Dev Cert.KernelAdamIdeal.nD,
      r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
      ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
      ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
      ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3)
      ∧ r.2.mem ((c.tc : Thread Cert.KernelAdamIdeal.nD Cert.KernelAdamIdeal.τ).loc Cert.KernelAdamIdeal.main_arg4) = m ((c.tc : Thread Cert.KernelAdamIdeal.nD Cert.KernelAdamIdeal.τ).loc Cert.KernelAdamIdeal.main_arg4))
      ∧ r.2.sem = fun _ => 0)

def quiescent_ReferenceAdamIdeal [hReferenceAdamIdeal : Cert.ReferenceAdamIdeal.Facts] : Prop :=
  ∀ (m : (ℓ : Loc Cert.ReferenceAdamIdeal.nD Cert.ReferenceAdamIdeal.τ Cert.ReferenceAdamIdeal.sig) → Buf (Elt Ideal) ℓ) (g : Dev Cert.ReferenceAdamIdeal.nD → PrngReg), Pre_ReferenceAdamIdeal m →
    θ_run (Cert.ReferenceAdamIdeal.defs (F := Ideal)) (onTc (τ := Cert.ReferenceAdamIdeal.τ) (Cert.ReferenceAdamIdeal.main (F := Ideal))) ⟨m, fun _ => 0, g⟩ (fun r => (∀ c : Dev Cert.ReferenceAdamIdeal.nD,
      r.2.mem ((c.tc : Thread Cert.ReferenceAdamIdeal.nD Cert.ReferenceAdamIdeal.τ).loc Cert.ReferenceAdamIdeal.main_arg0) = m ((c.tc : Thread Cert.ReferenceAdamIdeal.nD Cert.ReferenceAdamIdeal.τ).loc Cert.ReferenceAdamIdeal.main_arg0)
      ∧ r.2.mem ((c.tc : Thread Cert.ReferenceAdamIdeal.nD Cert.ReferenceAdamIdeal.τ).loc Cert.ReferenceAdamIdeal.main_arg1) = m ((c.tc : Thread Cert.ReferenceAdamIdeal.nD Cert.ReferenceAdamIdeal.τ).loc Cert.ReferenceAdamIdeal.main_arg1)
      ∧ r.2.mem ((c.tc : Thread Cert.ReferenceAdamIdeal.nD Cert.ReferenceAdamIdeal.τ).loc Cert.ReferenceAdamIdeal.main_arg2) = m ((c.tc : Thread Cert.ReferenceAdamIdeal.nD Cert.ReferenceAdamIdeal.τ).loc Cert.ReferenceAdamIdeal.main_arg2)
      ∧ r.2.mem ((c.tc : Thread Cert.ReferenceAdamIdeal.nD Cert.ReferenceAdamIdeal.τ).loc Cert.ReferenceAdamIdeal.main_arg3) = m ((c.tc : Thread Cert.ReferenceAdamIdeal.nD Cert.ReferenceAdamIdeal.τ).loc Cert.ReferenceAdamIdeal.main_arg3)
      ∧ r.2.mem ((c.tc : Thread Cert.ReferenceAdamIdeal.nD Cert.ReferenceAdamIdeal.τ).loc Cert.ReferenceAdamIdeal.main_arg4) = m ((c.tc : Thread Cert.ReferenceAdamIdeal.nD Cert.ReferenceAdamIdeal.τ).loc Cert.ReferenceAdamIdeal.main_arg4))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1)
      ∧ r.2.mem ((c.tc : Thread Cert.KernelAda.nD Cert.KernelAda.τ).loc Cert.KernelAda.main_arg2) = m ((c.tc : Thread Cert.KernelAda.nD Cert.KernelAda.τ).loc Cert.KernelAda.main_arg2)
      ∧ r.2.mem ((c.tc : Thread Cert.KernelAda.nD Cert.KernelAda.τ).loc Cert.KernelAda.main_arg3) = m ((c.tc : Thread Cert.KernelAda.nD Cert.KernelAda.τ).loc Cert.KernelAda.main_arg3)
      ∧ r.2.mem ((c.tc : Thread Cert.KernelAda.nD Cert.KernelAda.τ).loc Cert.KernelAda.main_arg4) = m ((c.tc : Thread Cert.KernelAda.nD Cert.KernelAda.τ).loc Cert.KernelAda.main_arg4))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
      ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3)
      ∧ r.2.mem ((c.tc : Thread Cert.KernelAdaIdeal.nD Cert.KernelAdaIdeal.τ).loc Cert.KernelAdaIdeal.main_arg4) = m ((c.tc : Thread Cert.KernelAdaIdeal.nD Cert.KernelAdaIdeal.τ).loc Cert.KernelAdaIdeal.main_arg4))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2)
      ∧ r.2.mem ((c.tc : Thread Cert.ReferenceAdaIdeal.nD Cert.ReferenceAdaIdeal.τ).loc Cert.ReferenceAdaIdeal.main_arg3) = m ((c.tc : Thread Cert.ReferenceAdaIdeal.nD Cert.ReferenceAdaIdeal.τ).loc Cert.ReferenceAdaIdeal.main_arg3)
      ∧ r.2.mem ((c.tc : Thread Cert.ReferenceAdaIdeal.nD Cert.ReferenceAdaIdeal.τ).loc Cert.ReferenceAdaIdeal.main_arg4) = m ((c.tc : Thread Cert.ReferenceAdaIdeal.nD Cert.ReferenceAdaIdeal.τ).loc Cert.ReferenceAdaIdeal.main_arg4))
      ∧ r.2.sem = fun _ => 0)

def quiescent_KernelWg [hKernelWg : Cert.KernelWg.Facts] : Prop :=
  ∀ (m : (ℓ : Loc Cert.KernelWg.nD Cert.KernelWg.τ Cert.KernelWg.sig) → Buf (Elt Bits) ℓ) (g : Dev Cert.KernelWg.nD → PrngReg), Pre_KernelWg m →
    θ_run (Cert.KernelWg.defs (F := Bits)) (onTc (τ := Cert.KernelWg.τ) (Cert.KernelWg.main (F := Bits))) ⟨m, fun _ => 0, g⟩ (fun r => (∀ c : Dev Cert.KernelWg.nD,
      r.2.mem ((c.tc : Thread Cert.KernelWg.nD Cert.KernelWg.τ).loc Cert.KernelWg.main_arg0) = m ((c.tc : Thread Cert.KernelWg.nD Cert.KernelWg.τ).loc Cert.KernelWg.main_arg0)
      ∧ r.2.mem ((c.tc : Thread Cert.KernelWg.nD Cert.KernelWg.τ).loc Cert.KernelWg.main_arg1) = m ((c.tc : Thread Cert.KernelWg.nD Cert.KernelWg.τ).loc Cert.KernelWg.main_arg1))
      ∧ r.2.sem = fun _ => 0)

def quiescent_KernelWgIdeal [hKernelWgIdeal : Cert.KernelWgIdeal.Facts] : Prop :=
  ∀ (m : (ℓ : Loc Cert.KernelWgIdeal.nD Cert.KernelWgIdeal.τ Cert.KernelWgIdeal.sig) → Buf (Elt Ideal) ℓ) (g : Dev Cert.KernelWgIdeal.nD → PrngReg), Pre_KernelWgIdeal m →
    θ_run (Cert.KernelWgIdeal.defs (F := Ideal)) (onTc (τ := Cert.KernelWgIdeal.τ) (Cert.KernelWgIdeal.main (F := Ideal))) ⟨m, fun _ => 0, g⟩ (fun r => (∀ c : Dev Cert.KernelWgIdeal.nD,
      r.2.mem ((c.tc : Thread Cert.KernelWgIdeal.nD Cert.KernelWgIdeal.τ).loc Cert.KernelWgIdeal.main_arg0) = m ((c.tc : Thread Cert.KernelWgIdeal.nD Cert.KernelWgIdeal.τ).loc Cert.KernelWgIdeal.main_arg0)
      ∧ r.2.mem ((c.tc : Thread Cert.KernelWgIdeal.nD Cert.KernelWgIdeal.τ).loc Cert.KernelWgIdeal.main_arg1) = m ((c.tc : Thread Cert.KernelWgIdeal.nD Cert.KernelWgIdeal.τ).loc Cert.KernelWgIdeal.main_arg1))
      ∧ r.2.sem = fun _ => 0)

def quiescent_ReferenceWgIdeal [hReferenceWgIdeal : Cert.ReferenceWgIdeal.Facts] : Prop :=
  ∀ (m : (ℓ : Loc Cert.ReferenceWgIdeal.nD Cert.ReferenceWgIdeal.τ Cert.ReferenceWgIdeal.sig) → Buf (Elt Ideal) ℓ) (g : Dev Cert.ReferenceWgIdeal.nD → PrngReg), Pre_ReferenceWgIdeal m →
    θ_run (Cert.ReferenceWgIdeal.defs (F := Ideal)) (onTc (τ := Cert.ReferenceWgIdeal.τ) (Cert.ReferenceWgIdeal.main (F := Ideal))) ⟨m, fun _ => 0, g⟩ (fun r => (∀ c : Dev Cert.ReferenceWgIdeal.nD,
      r.2.mem ((c.tc : Thread Cert.ReferenceWgIdeal.nD Cert.ReferenceWgIdeal.τ).loc Cert.ReferenceWgIdeal.main_arg0) = m ((c.tc : Thread Cert.ReferenceWgIdeal.nD Cert.ReferenceWgIdeal.τ).loc Cert.ReferenceWgIdeal.main_arg0)
      ∧ r.2.mem ((c.tc : Thread Cert.ReferenceWgIdeal.nD Cert.ReferenceWgIdeal.τ).loc Cert.ReferenceWgIdeal.main_arg1) = m ((c.tc : Thread Cert.ReferenceWgIdeal.nD Cert.ReferenceWgIdeal.τ).loc Cert.ReferenceWgIdeal.main_arg1))
      ∧ r.2.sem = fun _ => 0)

def preserves_KernelAct_KernelActIdeal : Prop :=
  True

def algebraic_KernelActIdeal_ReferenceActIdeal_pre_finite_act [hKernelActIdeal : Cert.KernelActIdeal.Facts] [hReferenceActIdeal : Cert.ReferenceActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal_finite_act m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)
      ∧ m' ((c.tc : Thread Cert.ReferenceActIdeal.nD Cert.ReferenceActIdeal.τ).loc Cert.ReferenceActIdeal.main_arg3) = m ((c.tc : Thread Cert.KernelActIdeal.nD Cert.KernelActIdeal.τ).loc Cert.KernelActIdeal.main_arg3)) →
    ∃ (v0 : (c : Dev Cert.KernelActIdeal.nD) → Buf (Elt Ideal) ((c.tc : Thread Cert.KernelActIdeal.nD Cert.KernelActIdeal.τ).loc Cert.KernelActIdeal.main_v2_0)) (v1 : (c : Dev Cert.KernelActIdeal.nD) → Buf (Elt Ideal) ((c.tc : Thread Cert.KernelActIdeal.nD Cert.KernelActIdeal.τ).loc Cert.KernelActIdeal.main_v2_1)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v2_0) = v0 c
          ∧ r.2.mem ((c.tc : Thread Cert.KernelActIdeal.nD Cert.KernelActIdeal.τ).loc Cert.KernelActIdeal.main_v2_1) = v1 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
          ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v6) = v0 c
          ∧ r.2.mem ((c.tc : Thread Cert.ReferenceActIdeal.nD Cert.ReferenceActIdeal.τ).loc Cert.ReferenceActIdeal.main_v4) = v1 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2)
          ∧ r.2.mem ((c.tc : Thread Cert.ReferenceActIdeal.nD Cert.ReferenceActIdeal.τ).loc Cert.ReferenceActIdeal.main_arg3) = m' ((c.tc : Thread Cert.ReferenceActIdeal.nD Cert.ReferenceActIdeal.τ).loc Cert.ReferenceActIdeal.main_arg3))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)
      ∧ m' ((c.tc : Thread Cert.ReferenceConvIdeal.nD Cert.ReferenceConvIdeal.τ).loc Cert.ReferenceConvIdeal.main_arg3) = m ((c.tc : Thread Cert.KernelConvIdeal.nD Cert.KernelConvIdeal.τ).loc Cert.KernelConvIdeal.main_arg3)) →
    ∃ (v0 : (c : Dev Cert.KernelConvIdeal.nD) → Buf (Elt Ideal) ((c.tc : Thread Cert.KernelConvIdeal.nD Cert.KernelConvIdeal.τ).loc Cert.KernelConvIdeal.main_v1_0)) (v1 : (c : Dev Cert.KernelConvIdeal.nD) → Buf (Elt Ideal) ((c.tc : Thread Cert.KernelConvIdeal.nD Cert.KernelConvIdeal.τ).loc Cert.KernelConvIdeal.main_v1_1)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v1_0) = v0 c
          ∧ r.2.mem ((c.tc : Thread Cert.KernelConvIdeal.nD Cert.KernelConvIdeal.τ).loc Cert.KernelConvIdeal.main_v1_1) = v1 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
          ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v184) = v0 c
          ∧ r.2.mem ((c.tc : Thread Cert.ReferenceConvIdeal.nD Cert.ReferenceConvIdeal.τ).loc Cert.ReferenceConvIdeal.main_v187) = v1 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2)
          ∧ r.2.mem ((c.tc : Thread Cert.ReferenceConvIdeal.nD Cert.ReferenceConvIdeal.τ).loc Cert.ReferenceConvIdeal.main_arg3) = m' ((c.tc : Thread Cert.ReferenceConvIdeal.nD Cert.ReferenceConvIdeal.τ).loc Cert.ReferenceConvIdeal.main_arg3))

def preserves_KernelCtx_KernelCtxIdeal : Prop :=
  True

def algebraic_KernelCtxIdeal_ReferenceCtxIdeal_pre_finite_ctx [hKernelCtxIdeal : Cert.KernelCtxIdeal.Facts] [hReferenceCtxIdeal : Cert.ReferenceCtxIdeal.Facts] [hPre_finite_ctx : Cert.Pre_finite_ctx.Facts] : Prop :=
  ∀ (m : (ℓ : Loc Cert.KernelCtxIdeal.nD Cert.KernelCtxIdeal.τ Cert.KernelCtxIdeal.sig) → Buf (Elt Ideal) ℓ) (g : Dev Cert.KernelCtxIdeal.nD → PrngReg)
    (m' : (ℓ : Loc Cert.ReferenceCtxIdeal.nD Cert.ReferenceCtxIdeal.τ Cert.ReferenceCtxIdeal.sig) → Buf (Elt Ideal) ℓ) (g' : Dev Cert.ReferenceCtxIdeal.nD → PrngReg), Pre_KernelCtxIdeal_finite_ctx m →
    (∀ c : Dev Cert.KernelCtxIdeal.nD,
      m' ((c.tc : Thread Cert.ReferenceCtxIdeal.nD Cert.ReferenceCtxIdeal.τ).loc Cert.ReferenceCtxIdeal.main_arg0) = m ((c.tc : Thread Cert.KernelCtxIdeal.nD Cert.KernelCtxIdeal.τ).loc Cert.KernelCtxIdeal.main_arg0)
      ∧ m' ((c.tc : Thread Cert.ReferenceCtxIdeal.nD Cert.ReferenceCtxIdeal.τ).loc Cert.ReferenceCtxIdeal.main_arg1) = m ((c.tc : Thread Cert.KernelCtxIdeal.nD Cert.KernelCtxIdeal.τ).loc Cert.KernelCtxIdeal.main_arg1)
      ∧ m' ((c.tc : Thread Cert.ReferenceCtxIdeal.nD Cert.ReferenceCtxIdeal.τ).loc Cert.ReferenceCtxIdeal.main_arg2) = m ((c.tc : Thread Cert.KernelCtxIdeal.nD Cert.KernelCtxIdeal.τ).loc Cert.KernelCtxIdeal.main_arg2)
      ∧ m' ((c.tc : Thread Cert.ReferenceCtxIdeal.nD Cert.ReferenceCtxIdeal.τ).loc Cert.ReferenceCtxIdeal.main_arg3) = m ((c.tc : Thread Cert.KernelCtxIdeal.nD Cert.KernelCtxIdeal.τ).loc Cert.KernelCtxIdeal.main_arg3)) →
    ∃ (v0 : (c : Dev Cert.KernelCtxIdeal.nD) → Buf (Elt Ideal) ((c.tc : Thread Cert.KernelCtxIdeal.nD Cert.KernelCtxIdeal.τ).loc Cert.KernelCtxIdeal.main_v7)),
      θ_run (Cert.KernelCtxIdeal.defs (F := Ideal)) (onTc (τ := Cert.KernelCtxIdeal.τ) (Cert.KernelCtxIdeal.main (F := Ideal))) ⟨m, fun _ => 0, g⟩ (fun r => ∀ c : Dev Cert.KernelCtxIdeal.nD,
          r.2.mem ((c.tc : Thread Cert.KernelCtxIdeal.nD Cert.KernelCtxIdeal.τ).loc Cert.KernelCtxIdeal.main_v7) = v0 c
          ∧ r.2.mem ((c.tc : Thread Cert.KernelCtxIdeal.nD Cert.KernelCtxIdeal.τ).loc Cert.KernelCtxIdeal.main_arg0) = m ((c.tc : Thread Cert.KernelCtxIdeal.nD Cert.KernelCtxIdeal.τ).loc Cert.KernelCtxIdeal.main_arg0)
          ∧ r.2.mem ((c.tc : Thread Cert.KernelCtxIdeal.nD Cert.KernelCtxIdeal.τ).loc Cert.KernelCtxIdeal.main_arg1) = m ((c.tc : Thread Cert.KernelCtxIdeal.nD Cert.KernelCtxIdeal.τ).loc Cert.KernelCtxIdeal.main_arg1)
          ∧ r.2.mem ((c.tc : Thread Cert.KernelCtxIdeal.nD Cert.KernelCtxIdeal.τ).loc Cert.KernelCtxIdeal.main_arg2) = m ((c.tc : Thread Cert.KernelCtxIdeal.nD Cert.KernelCtxIdeal.τ).loc Cert.KernelCtxIdeal.main_arg2)
          ∧ r.2.mem ((c.tc : Thread Cert.KernelCtxIdeal.nD Cert.KernelCtxIdeal.τ).loc Cert.KernelCtxIdeal.main_arg3) = m ((c.tc : Thread Cert.KernelCtxIdeal.nD Cert.KernelCtxIdeal.τ).loc Cert.KernelCtxIdeal.main_arg3))
      ∧ θ_run (Cert.ReferenceCtxIdeal.defs (F := Ideal)) (onTc (τ := Cert.ReferenceCtxIdeal.τ) (Cert.ReferenceCtxIdeal.main (F := Ideal))) ⟨m', fun _ => 0, g'⟩ (fun r => ∀ c : Dev Cert.ReferenceCtxIdeal.nD,
          r.2.mem ((c.tc : Thread Cert.ReferenceCtxIdeal.nD Cert.ReferenceCtxIdeal.τ).loc Cert.ReferenceCtxIdeal.main_v10) = v0 c
          ∧ r.2.mem ((c.tc : Thread Cert.ReferenceCtxIdeal.nD Cert.ReferenceCtxIdeal.τ).loc Cert.ReferenceCtxIdeal.main_arg0) = m' ((c.tc : Thread Cert.ReferenceCtxIdeal.nD Cert.ReferenceCtxIdeal.τ).loc Cert.ReferenceCtxIdeal.main_arg0)
          ∧ r.2.mem ((c.tc : Thread Cert.ReferenceCtxIdeal.nD Cert.ReferenceCtxIdeal.τ).loc Cert.ReferenceCtxIdeal.main_arg1) = m' ((c.tc : Thread Cert.ReferenceCtxIdeal.nD Cert.ReferenceCtxIdeal.τ).loc Cert.ReferenceCtxIdeal.main_arg1)
          ∧ r.2.mem ((c.tc : Thread Cert.ReferenceCtxIdeal.nD Cert.ReferenceCtxIdeal.τ).loc Cert.ReferenceCtxIdeal.main_arg2) = m' ((c.tc : Thread Cert.ReferenceCtxIdeal.nD Cert.ReferenceCtxIdeal.τ).loc Cert.ReferenceCtxIdeal.main_arg2)
          ∧ r.2.mem ((c.tc : Thread Cert.ReferenceCtxIdeal.nD Cert.ReferenceCtxIdeal.τ).loc Cert.ReferenceCtxIdeal.main_arg3) = m' ((c.tc : Thread Cert.ReferenceCtxIdeal.nD Cert.ReferenceCtxIdeal.τ).loc Cert.ReferenceCtxIdeal.main_arg3))

def preserves_KernelUpb_KernelUpbIdeal : Prop :=
  True

def algebraic_KernelUpbIdeal_ReferenceUpbIdeal [hKernelUpbIdeal : Cert.KernelUpbIdeal.Facts] [hReferenceUpbIdeal : Cert.ReferenceUpbIdeal.Facts] : Prop :=
  ∀ (m : (ℓ : Loc Cert.KernelUpbIdeal.nD Cert.KernelUpbIdeal.τ Cert.KernelUpbIdeal.sig) → Buf (Elt Ideal) ℓ) (g : Dev Cert.KernelUpbIdeal.nD → PrngReg)
    (m' : (ℓ : Loc Cert.ReferenceUpbIdeal.nD Cert.ReferenceUpbIdeal.τ Cert.ReferenceUpbIdeal.sig) → Buf (Elt Ideal) ℓ) (g' : Dev Cert.ReferenceUpbIdeal.nD → PrngReg), Pre_KernelUpbIdeal m →
    (∀ c : Dev Cert.KernelUpbIdeal.nD,
      m' ((c.tc : Thread Cert.ReferenceUpbIdeal.nD Cert.ReferenceUpbIdeal.τ).loc Cert.ReferenceUpbIdeal.main_arg0) = m ((c.tc : Thread Cert.KernelUpbIdeal.nD Cert.KernelUpbIdeal.τ).loc Cert.KernelUpbIdeal.main_arg0)
      ∧ m' ((c.tc : Thread Cert.ReferenceUpbIdeal.nD Cert.ReferenceUpbIdeal.τ).loc Cert.ReferenceUpbIdeal.main_arg1) = m ((c.tc : Thread Cert.KernelUpbIdeal.nD Cert.KernelUpbIdeal.τ).loc Cert.KernelUpbIdeal.main_arg1)
      ∧ m' ((c.tc : Thread Cert.ReferenceUpbIdeal.nD Cert.ReferenceUpbIdeal.τ).loc Cert.ReferenceUpbIdeal.main_arg2) = m ((c.tc : Thread Cert.KernelUpbIdeal.nD Cert.KernelUpbIdeal.τ).loc Cert.KernelUpbIdeal.main_arg2)
      ∧ m' ((c.tc : Thread Cert.ReferenceUpbIdeal.nD Cert.ReferenceUpbIdeal.τ).loc Cert.ReferenceUpbIdeal.main_arg3) = m ((c.tc : Thread Cert.KernelUpbIdeal.nD Cert.KernelUpbIdeal.τ).loc Cert.KernelUpbIdeal.main_arg3)
      ∧ m' ((c.tc : Thread Cert.ReferenceUpbIdeal.nD Cert.ReferenceUpbIdeal.τ).loc Cert.ReferenceUpbIdeal.main_arg4) = m ((c.tc : Thread Cert.KernelUpbIdeal.nD Cert.KernelUpbIdeal.τ).loc Cert.KernelUpbIdeal.main_arg4)
      ∧ m' ((c.tc : Thread Cert.ReferenceUpbIdeal.nD Cert.ReferenceUpbIdeal.τ).loc Cert.ReferenceUpbIdeal.main_arg5) = m ((c.tc : Thread Cert.KernelUpbIdeal.nD Cert.KernelUpbIdeal.τ).loc Cert.KernelUpbIdeal.main_arg5)
      ∧ m' ((c.tc : Thread Cert.ReferenceUpbIdeal.nD Cert.ReferenceUpbIdeal.τ).loc Cert.ReferenceUpbIdeal.main_arg6) = m ((c.tc : Thread Cert.KernelUpbIdeal.nD Cert.KernelUpbIdeal.τ).loc Cert.KernelUpbIdeal.main_arg6)) →
    ∃ (v0 : (c : Dev Cert.KernelUpbIdeal.nD) → Buf (Elt Ideal) ((c.tc : Thread Cert.KernelUpbIdeal.nD Cert.KernelUpbIdeal.τ).loc Cert.KernelUpbIdeal.main_v9_0)) (v1 : (c : Dev Cert.KernelUpbIdeal.nD) → Buf (Elt Ideal) ((c.tc : Thread Cert.KernelUpbIdeal.nD Cert.KernelUpbIdeal.τ).loc Cert.KernelUpbIdeal.main_v9_1)),
      θ_run (Cert.KernelUpbIdeal.defs (F := Ideal)) (onTc (τ := Cert.KernelUpbIdeal.τ) (Cert.KernelUpbIdeal.main (F := Ideal))) ⟨m, fun _ => 0, g⟩ (fun r => ∀ c : Dev Cert.KernelUpbIdeal.nD,
          r.2.mem ((c.tc : Thread Cert.KernelUpbIdeal.nD Cert.KernelUpbIdeal.τ).loc Cert.KernelUpbIdeal.main_v9_0) = v0 c
          ∧ r.2.mem ((c.tc : Thread Cert.KernelUpbIdeal.nD Cert.KernelUpbIdeal.τ).loc Cert.KernelUpbIdeal.main_v9_1) = v1 c
          ∧ r.2.mem ((c.tc : Thread Cert.KernelUpbIdeal.nD Cert.KernelUpbIdeal.τ).loc Cert.KernelUpbIdeal.main_arg0) = m ((c.tc : Thread Cert.KernelUpbIdeal.nD Cert.KernelUpbIdeal.τ).loc Cert.KernelUpbIdeal.main_arg0)
          ∧ r.2.mem ((c.tc : Thread Cert.KernelUpbIdeal.nD Cert.KernelUpbIdeal.τ).loc Cert.KernelUpbIdeal.main_arg1) = m ((c.tc : Thread Cert.KernelUpbIdeal.nD Cert.KernelUpbIdeal.τ).loc Cert.KernelUpbIdeal.main_arg1)
          ∧ r.2.mem ((c.tc : Thread Cert.KernelUpbIdeal.nD Cert.KernelUpbIdeal.τ).loc Cert.KernelUpbIdeal.main_arg2) = m ((c.tc : Thread Cert.KernelUpbIdeal.nD Cert.KernelUpbIdeal.τ).loc Cert.KernelUpbIdeal.main_arg2)
          ∧ r.2.mem ((c.tc : Thread Cert.KernelUpbIdeal.nD Cert.KernelUpbIdeal.τ).loc Cert.KernelUpbIdeal.main_arg3) = m ((c.tc : Thread Cert.KernelUpbIdeal.nD Cert.KernelUpbIdeal.τ).loc Cert.KernelUpbIdeal.main_arg3)
          ∧ r.2.mem ((c.tc : Thread Cert.KernelUpbIdeal.nD Cert.KernelUpbIdeal.τ).loc Cert.KernelUpbIdeal.main_arg4) = m ((c.tc : Thread Cert.KernelUpbIdeal.nD Cert.KernelUpbIdeal.τ).loc Cert.KernelUpbIdeal.main_arg4)
          ∧ r.2.mem ((c.tc : Thread Cert.KernelUpbIdeal.nD Cert.KernelUpbIdeal.τ).loc Cert.KernelUpbIdeal.main_arg5) = m ((c.tc : Thread Cert.KernelUpbIdeal.nD Cert.KernelUpbIdeal.τ).loc Cert.KernelUpbIdeal.main_arg5)
          ∧ r.2.mem ((c.tc : Thread Cert.KernelUpbIdeal.nD Cert.KernelUpbIdeal.τ).loc Cert.KernelUpbIdeal.main_arg6) = m ((c.tc : Thread Cert.KernelUpbIdeal.nD Cert.KernelUpbIdeal.τ).loc Cert.KernelUpbIdeal.main_arg6))
      ∧ θ_run (Cert.ReferenceUpbIdeal.defs (F := Ideal)) (onTc (τ := Cert.ReferenceUpbIdeal.τ) (Cert.ReferenceUpbIdeal.main (F := Ideal))) ⟨m', fun _ => 0, g'⟩ (fun r => ∀ c : Dev Cert.ReferenceUpbIdeal.nD,
          r.2.mem ((c.tc : Thread Cert.ReferenceUpbIdeal.nD Cert.ReferenceUpbIdeal.τ).loc Cert.ReferenceUpbIdeal.main_v55) = v0 c
          ∧ r.2.mem ((c.tc : Thread Cert.ReferenceUpbIdeal.nD Cert.ReferenceUpbIdeal.τ).loc Cert.ReferenceUpbIdeal.main_v61) = v1 c
          ∧ r.2.mem ((c.tc : Thread Cert.ReferenceUpbIdeal.nD Cert.ReferenceUpbIdeal.τ).loc Cert.ReferenceUpbIdeal.main_arg0) = m' ((c.tc : Thread Cert.ReferenceUpbIdeal.nD Cert.ReferenceUpbIdeal.τ).loc Cert.ReferenceUpbIdeal.main_arg0)
          ∧ r.2.mem ((c.tc : Thread Cert.ReferenceUpbIdeal.nD Cert.ReferenceUpbIdeal.τ).loc Cert.ReferenceUpbIdeal.main_arg1) = m' ((c.tc : Thread Cert.ReferenceUpbIdeal.nD Cert.ReferenceUpbIdeal.τ).loc Cert.ReferenceUpbIdeal.main_arg1)
          ∧ r.2.mem ((c.tc : Thread Cert.ReferenceUpbIdeal.nD Cert.ReferenceUpbIdeal.τ).loc Cert.ReferenceUpbIdeal.main_arg2) = m' ((c.tc : Thread Cert.ReferenceUpbIdeal.nD Cert.ReferenceUpbIdeal.τ).loc Cert.ReferenceUpbIdeal.main_arg2)
          ∧ r.2.mem ((c.tc : Thread Cert.ReferenceUpbIdeal.nD Cert.ReferenceUpbIdeal.τ).loc Cert.ReferenceUpbIdeal.main_arg3) = m' ((c.tc : Thread Cert.ReferenceUpbIdeal.nD Cert.ReferenceUpbIdeal.τ).loc Cert.ReferenceUpbIdeal.main_arg3)
          ∧ r.2.mem ((c.tc : Thread Cert.ReferenceUpbIdeal.nD Cert.ReferenceUpbIdeal.τ).loc Cert.ReferenceUpbIdeal.main_arg4) = m' ((c.tc : Thread Cert.ReferenceUpbIdeal.nD Cert.ReferenceUpbIdeal.τ).loc Cert.ReferenceUpbIdeal.main_arg4)
          ∧ r.2.mem ((c.tc : Thread Cert.ReferenceUpbIdeal.nD Cert.ReferenceUpbIdeal.τ).loc Cert.ReferenceUpbIdeal.main_arg5) = m' ((c.tc : Thread Cert.ReferenceUpbIdeal.nD Cert.ReferenceUpbIdeal.τ).loc Cert.ReferenceUpbIdeal.main_arg5)
          ∧ r.2.mem ((c.tc : Thread Cert.ReferenceUpbIdeal.nD Cert.ReferenceUpbIdeal.τ).loc Cert.ReferenceUpbIdeal.main_arg6) = m' ((c.tc : Thread Cert.ReferenceUpbIdeal.nD Cert.ReferenceUpbIdeal.τ).loc Cert.ReferenceUpbIdeal.main_arg6))

def preserves_KernelInb_KernelInbIdeal : Prop :=
  True

def algebraic_KernelInbIdeal_ReferenceInbIdeal [hKernelInbIdeal : Cert.KernelInbIdeal.Facts] [hReferenceInbIdeal : Cert.ReferenceInbIdeal.Facts] : Prop :=
  ∀ (m : (ℓ : Loc Cert.KernelInbIdeal.nD Cert.KernelInbIdeal.τ Cert.KernelInbIdeal.sig) → Buf (Elt Ideal) ℓ) (g : Dev Cert.KernelInbIdeal.nD → PrngReg)
    (m' : (ℓ : Loc Cert.ReferenceInbIdeal.nD Cert.ReferenceInbIdeal.τ Cert.ReferenceInbIdeal.sig) → Buf (Elt Ideal) ℓ) (g' : Dev Cert.ReferenceInbIdeal.nD → PrngReg), Pre_KernelInbIdeal m →
    (∀ c : Dev Cert.KernelInbIdeal.nD,
      m' ((c.tc : Thread Cert.ReferenceInbIdeal.nD Cert.ReferenceInbIdeal.τ).loc Cert.ReferenceInbIdeal.main_arg0) = m ((c.tc : Thread Cert.KernelInbIdeal.nD Cert.KernelInbIdeal.τ).loc Cert.KernelInbIdeal.main_arg0)
      ∧ m' ((c.tc : Thread Cert.ReferenceInbIdeal.nD Cert.ReferenceInbIdeal.τ).loc Cert.ReferenceInbIdeal.main_arg1) = m ((c.tc : Thread Cert.KernelInbIdeal.nD Cert.KernelInbIdeal.τ).loc Cert.KernelInbIdeal.main_arg1)
      ∧ m' ((c.tc : Thread Cert.ReferenceInbIdeal.nD Cert.ReferenceInbIdeal.τ).loc Cert.ReferenceInbIdeal.main_arg2) = m ((c.tc : Thread Cert.KernelInbIdeal.nD Cert.KernelInbIdeal.τ).loc Cert.KernelInbIdeal.main_arg2)
      ∧ m' ((c.tc : Thread Cert.ReferenceInbIdeal.nD Cert.ReferenceInbIdeal.τ).loc Cert.ReferenceInbIdeal.main_arg3) = m ((c.tc : Thread Cert.KernelInbIdeal.nD Cert.KernelInbIdeal.τ).loc Cert.KernelInbIdeal.main_arg3)
      ∧ m' ((c.tc : Thread Cert.ReferenceInbIdeal.nD Cert.ReferenceInbIdeal.τ).loc Cert.ReferenceInbIdeal.main_arg4) = m ((c.tc : Thread Cert.KernelInbIdeal.nD Cert.KernelInbIdeal.τ).loc Cert.KernelInbIdeal.main_arg4)
      ∧ m' ((c.tc : Thread Cert.ReferenceInbIdeal.nD Cert.ReferenceInbIdeal.τ).loc Cert.ReferenceInbIdeal.main_arg5) = m ((c.tc : Thread Cert.KernelInbIdeal.nD Cert.KernelInbIdeal.τ).loc Cert.KernelInbIdeal.main_arg5)
      ∧ m' ((c.tc : Thread Cert.ReferenceInbIdeal.nD Cert.ReferenceInbIdeal.τ).loc Cert.ReferenceInbIdeal.main_arg6) = m ((c.tc : Thread Cert.KernelInbIdeal.nD Cert.KernelInbIdeal.τ).loc Cert.KernelInbIdeal.main_arg6)
      ∧ m' ((c.tc : Thread Cert.ReferenceInbIdeal.nD Cert.ReferenceInbIdeal.τ).loc Cert.ReferenceInbIdeal.main_arg7) = m ((c.tc : Thread Cert.KernelInbIdeal.nD Cert.KernelInbIdeal.τ).loc Cert.KernelInbIdeal.main_arg7)
      ∧ m' ((c.tc : Thread Cert.ReferenceInbIdeal.nD Cert.ReferenceInbIdeal.τ).loc Cert.ReferenceInbIdeal.main_arg8) = m ((c.tc : Thread Cert.KernelInbIdeal.nD Cert.KernelInbIdeal.τ).loc Cert.KernelInbIdeal.main_arg8)
      ∧ m' ((c.tc : Thread Cert.ReferenceInbIdeal.nD Cert.ReferenceInbIdeal.τ).loc Cert.ReferenceInbIdeal.main_arg9) = m ((c.tc : Thread Cert.KernelInbIdeal.nD Cert.KernelInbIdeal.τ).loc Cert.KernelInbIdeal.main_arg9)
      ∧ m' ((c.tc : Thread Cert.ReferenceInbIdeal.nD Cert.ReferenceInbIdeal.τ).loc Cert.ReferenceInbIdeal.main_arg10) = m ((c.tc : Thread Cert.KernelInbIdeal.nD Cert.KernelInbIdeal.τ).loc Cert.KernelInbIdeal.main_arg10)) →
    ∃ (v0 : (c : Dev Cert.KernelInbIdeal.nD) → Buf (Elt Ideal) ((c.tc : Thread Cert.KernelInbIdeal.nD Cert.KernelInbIdeal.τ).loc Cert.KernelInbIdeal.main_v2_0)) (v1 : (c : Dev Cert.KernelInbIdeal.nD) → Buf (Elt Ideal) ((c.tc : Thread Cert.KernelInbIdeal.nD Cert.KernelInbIdeal.τ).loc Cert.KernelInbIdeal.main_v2_1)) (v2 : (c : Dev Cert.KernelInbIdeal.nD) → Buf (Elt Ideal) ((c.tc : Thread Cert.KernelInbIdeal.nD Cert.KernelInbIdeal.τ).loc Cert.KernelInbIdeal.main_v2_2)),
      θ_run (Cert.KernelInbIdeal.defs (F := Ideal)) (onTc (τ := Cert.KernelInbIdeal.τ) (Cert.KernelInbIdeal.main (F := Ideal))) ⟨m, fun _ => 0, g⟩ (fun r => ∀ c : Dev Cert.KernelInbIdeal.nD,
          r.2.mem ((c.tc : Thread Cert.KernelInbIdeal.nD Cert.KernelInbIdeal.τ).loc Cert.KernelInbIdeal.main_v2_0) = v0 c
          ∧ r.2.mem ((c.tc : Thread Cert.KernelInbIdeal.nD Cert.KernelInbIdeal.τ).loc Cert.KernelInbIdeal.main_v2_1) = v1 c
          ∧ r.2.mem ((c.tc : Thread Cert.KernelInbIdeal.nD Cert.KernelInbIdeal.τ).loc Cert.KernelInbIdeal.main_v2_2) = v2 c
          ∧ r.2.mem ((c.tc : Thread Cert.KernelInbIdeal.nD Cert.KernelInbIdeal.τ).loc Cert.KernelInbIdeal.main_arg0) = m ((c.tc : Thread Cert.KernelInbIdeal.nD Cert.KernelInbIdeal.τ).loc Cert.KernelInbIdeal.main_arg0)
          ∧ r.2.mem ((c.tc : Thread Cert.KernelInbIdeal.nD Cert.KernelInbIdeal.τ).loc Cert.KernelInbIdeal.main_arg1) = m ((c.tc : Thread Cert.KernelInbIdeal.nD Cert.KernelInbIdeal.τ).loc Cert.KernelInbIdeal.main_arg1)
          ∧ r.2.mem ((c.tc : Thread Cert.KernelInbIdeal.nD Cert.KernelInbIdeal.τ).loc Cert.KernelInbIdeal.main_arg2) = m ((c.tc : Thread Cert.KernelInbIdeal.nD Cert.KernelInbIdeal.τ).loc Cert.KernelInbIdeal.main_arg2)
          ∧ r.2.mem ((c.tc : Thread Cert.KernelInbIdeal.nD Cert.KernelInbIdeal.τ).loc Cert.KernelInbIdeal.main_arg3) = m ((c.tc : Thread Cert.KernelInbIdeal.nD Cert.KernelInbIdeal.τ).loc Cert.KernelInbIdeal.main_arg3)
          ∧ r.2.mem ((c.tc : Thread Cert.KernelInbIdeal.nD Cert.KernelInbIdeal.τ).loc Cert.KernelInbIdeal.main_arg4) = m ((c.tc : Thread Cert.KernelInbIdeal.nD Cert.KernelInbIdeal.τ).loc Cert.KernelInbIdeal.main_arg4)
          ∧ r.2.mem ((c.tc : Thread Cert.KernelInbIdeal.nD Cert.KernelInbIdeal.τ).loc Cert.KernelInbIdeal.main_arg5) = m ((c.tc : Thread Cert.KernelInbIdeal.nD Cert.KernelInbIdeal.τ).loc Cert.KernelInbIdeal.main_arg5)
          ∧ r.2.mem ((c.tc : Thread Cert.KernelInbIdeal.nD Cert.KernelInbIdeal.τ).loc Cert.KernelInbIdeal.main_arg6) = m ((c.tc : Thread Cert.KernelInbIdeal.nD Cert.KernelInbIdeal.τ).loc Cert.KernelInbIdeal.main_arg6)
          ∧ r.2.mem ((c.tc : Thread Cert.KernelInbIdeal.nD Cert.KernelInbIdeal.τ).loc Cert.KernelInbIdeal.main_arg7) = m ((c.tc : Thread Cert.KernelInbIdeal.nD Cert.KernelInbIdeal.τ).loc Cert.KernelInbIdeal.main_arg7)
          ∧ r.2.mem ((c.tc : Thread Cert.KernelInbIdeal.nD Cert.KernelInbIdeal.τ).loc Cert.KernelInbIdeal.main_arg8) = m ((c.tc : Thread Cert.KernelInbIdeal.nD Cert.KernelInbIdeal.τ).loc Cert.KernelInbIdeal.main_arg8)
          ∧ r.2.mem ((c.tc : Thread Cert.KernelInbIdeal.nD Cert.KernelInbIdeal.τ).loc Cert.KernelInbIdeal.main_arg9) = m ((c.tc : Thread Cert.KernelInbIdeal.nD Cert.KernelInbIdeal.τ).loc Cert.KernelInbIdeal.main_arg9)
          ∧ r.2.mem ((c.tc : Thread Cert.KernelInbIdeal.nD Cert.KernelInbIdeal.τ).loc Cert.KernelInbIdeal.main_arg10) = m ((c.tc : Thread Cert.KernelInbIdeal.nD Cert.KernelInbIdeal.τ).loc Cert.KernelInbIdeal.main_arg10))
      ∧ θ_run (Cert.ReferenceInbIdeal.defs (F := Ideal)) (onTc (τ := Cert.ReferenceInbIdeal.τ) (Cert.ReferenceInbIdeal.main (F := Ideal))) ⟨m', fun _ => 0, g'⟩ (fun r => ∀ c : Dev Cert.ReferenceInbIdeal.nD,
          r.2.mem ((c.tc : Thread Cert.ReferenceInbIdeal.nD Cert.ReferenceInbIdeal.τ).loc Cert.ReferenceInbIdeal.main_v81) = v0 c
          ∧ r.2.mem ((c.tc : Thread Cert.ReferenceInbIdeal.nD Cert.ReferenceInbIdeal.τ).loc Cert.ReferenceInbIdeal.main_v95) = v1 c
          ∧ r.2.mem ((c.tc : Thread Cert.ReferenceInbIdeal.nD Cert.ReferenceInbIdeal.τ).loc Cert.ReferenceInbIdeal.main_v94) = v2 c
          ∧ r.2.mem ((c.tc : Thread Cert.ReferenceInbIdeal.nD Cert.ReferenceInbIdeal.τ).loc Cert.ReferenceInbIdeal.main_arg0) = m' ((c.tc : Thread Cert.ReferenceInbIdeal.nD Cert.ReferenceInbIdeal.τ).loc Cert.ReferenceInbIdeal.main_arg0)
          ∧ r.2.mem ((c.tc : Thread Cert.ReferenceInbIdeal.nD Cert.ReferenceInbIdeal.τ).loc Cert.ReferenceInbIdeal.main_arg1) = m' ((c.tc : Thread Cert.ReferenceInbIdeal.nD Cert.ReferenceInbIdeal.τ).loc Cert.ReferenceInbIdeal.main_arg1)
          ∧ r.2.mem ((c.tc : Thread Cert.ReferenceInbIdeal.nD Cert.ReferenceInbIdeal.τ).loc Cert.ReferenceInbIdeal.main_arg2) = m' ((c.tc : Thread Cert.ReferenceInbIdeal.nD Cert.ReferenceInbIdeal.τ).loc Cert.ReferenceInbIdeal.main_arg2)
          ∧ r.2.mem ((c.tc : Thread Cert.ReferenceInbIdeal.nD Cert.ReferenceInbIdeal.τ).loc Cert.ReferenceInbIdeal.main_arg3) = m' ((c.tc : Thread Cert.ReferenceInbIdeal.nD Cert.ReferenceInbIdeal.τ).loc Cert.ReferenceInbIdeal.main_arg3)
          ∧ r.2.mem ((c.tc : Thread Cert.ReferenceInbIdeal.nD Cert.ReferenceInbIdeal.τ).loc Cert.ReferenceInbIdeal.main_arg4) = m' ((c.tc : Thread Cert.ReferenceInbIdeal.nD Cert.ReferenceInbIdeal.τ).loc Cert.ReferenceInbIdeal.main_arg4)
          ∧ r.2.mem ((c.tc : Thread Cert.ReferenceInbIdeal.nD Cert.ReferenceInbIdeal.τ).loc Cert.ReferenceInbIdeal.main_arg5) = m' ((c.tc : Thread Cert.ReferenceInbIdeal.nD Cert.ReferenceInbIdeal.τ).loc Cert.ReferenceInbIdeal.main_arg5)
          ∧ r.2.mem ((c.tc : Thread Cert.ReferenceInbIdeal.nD Cert.ReferenceInbIdeal.τ).loc Cert.ReferenceInbIdeal.main_arg6) = m' ((c.tc : Thread Cert.ReferenceInbIdeal.nD Cert.ReferenceInbIdeal.τ).loc Cert.ReferenceInbIdeal.main_arg6)
          ∧ r.2.mem ((c.tc : Thread Cert.ReferenceInbIdeal.nD Cert.ReferenceInbIdeal.τ).loc Cert.ReferenceInbIdeal.main_arg7) = m' ((c.tc : Thread Cert.ReferenceInbIdeal.nD Cert.ReferenceInbIdeal.τ).loc Cert.ReferenceInbIdeal.main_arg7)
          ∧ r.2.mem ((c.tc : Thread Cert.ReferenceInbIdeal.nD Cert.ReferenceInbIdeal.τ).loc Cert.ReferenceInbIdeal.main_arg8) = m' ((c.tc : Thread Cert.ReferenceInbIdeal.nD Cert.ReferenceInbIdeal.τ).loc Cert.ReferenceInbIdeal.main_arg8)
          ∧ r.2.mem ((c.tc : Thread Cert.ReferenceInbIdeal.nD Cert.ReferenceInbIdeal.τ).loc Cert.ReferenceInbIdeal.main_arg9) = m' ((c.tc : Thread Cert.ReferenceInbIdeal.nD Cert.ReferenceInbIdeal.τ).loc Cert.ReferenceInbIdeal.main_arg9)
          ∧ r.2.mem ((c.tc : Thread Cert.ReferenceInbIdeal.nD Cert.ReferenceInbIdeal.τ).loc Cert.ReferenceInbIdeal.main_arg10) = m' ((c.tc : Thread Cert.ReferenceInbIdeal.nD Cert.ReferenceInbIdeal.τ).loc Cert.ReferenceInbIdeal.main_arg10))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)
      ∧ m' ((c.tc : Thread Cert.ReferenceDownIdeal.nD Cert.ReferenceDownIdeal.τ).loc Cert.ReferenceDownIdeal.main_arg5) = m ((c.tc : Thread Cert.KernelDownIdeal.nD Cert.KernelDownIdeal.τ).loc Cert.KernelDownIdeal.main_arg5)
      ∧ m' ((c.tc : Thread Cert.ReferenceDownIdeal.nD Cert.ReferenceDownIdeal.τ).loc Cert.ReferenceDownIdeal.main_arg6) = m ((c.tc : Thread Cert.KernelDownIdeal.nD Cert.KernelDownIdeal.τ).loc Cert.KernelDownIdeal.main_arg6)
      ∧ m' ((c.tc : Thread Cert.ReferenceDownIdeal.nD Cert.ReferenceDownIdeal.τ).loc Cert.ReferenceDownIdeal.main_arg7) = m ((c.tc : Thread Cert.KernelDownIdeal.nD Cert.KernelDownIdeal.τ).loc Cert.KernelDownIdeal.main_arg7)) →
    ∃ (v0 : (c : Dev Cert.KernelDownIdeal.nD) → Buf (Elt Ideal) ((c.tc : Thread Cert.KernelDownIdeal.nD Cert.KernelDownIdeal.τ).loc Cert.KernelDownIdeal.main_v8_0)) (v1 : (c : Dev Cert.KernelDownIdeal.nD) → Buf (Elt Ideal) ((c.tc : Thread Cert.KernelDownIdeal.nD Cert.KernelDownIdeal.τ).loc Cert.KernelDownIdeal.main_v8_1)) (v2 : (c : Dev Cert.KernelDownIdeal.nD) → Buf (Elt Ideal) ((c.tc : Thread Cert.KernelDownIdeal.nD Cert.KernelDownIdeal.τ).loc Cert.KernelDownIdeal.main_v8_2)) (v3 : (c : Dev Cert.KernelDownIdeal.nD) → Buf (Elt Ideal) ((c.tc : Thread Cert.KernelDownIdeal.nD Cert.KernelDownIdeal.τ).loc Cert.KernelDownIdeal.main_v8_3)) (v4 : (c : Dev Cert.KernelDownIdeal.nD) → Buf (Elt Ideal) ((c.tc : Thread Cert.KernelDownIdeal.nD Cert.KernelDownIdeal.τ).loc Cert.KernelDownIdeal.main_v8_4)) (v5 : (c : Dev Cert.KernelDownIdeal.nD) → Buf (Elt Ideal) ((c.tc : Thread Cert.KernelDownIdeal.nD Cert.KernelDownIdeal.τ).loc Cert.KernelDownIdeal.main_v8_5)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v8_0) = v0 c
          ∧ r.2.mem ((c.tc : Thread Cert.KernelDownIdeal.nD Cert.KernelDownIdeal.τ).loc Cert.KernelDownIdeal.main_v8_1) = v1 c
          ∧ r.2.mem ((c.tc : Thread Cert.KernelDownIdeal.nD Cert.KernelDownIdeal.τ).loc Cert.KernelDownIdeal.main_v8_2) = v2 c
          ∧ r.2.mem ((c.tc : Thread Cert.KernelDownIdeal.nD Cert.KernelDownIdeal.τ).loc Cert.KernelDownIdeal.main_v8_3) = v3 c
          ∧ r.2.mem ((c.tc : Thread Cert.KernelDownIdeal.nD Cert.KernelDownIdeal.τ).loc Cert.KernelDownIdeal.main_v8_4) = v4 c
          ∧ r.2.mem ((c.tc : Thread Cert.KernelDownIdeal.nD Cert.KernelDownIdeal.τ).loc Cert.KernelDownIdeal.main_v8_5) = v5 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4)
          ∧ r.2.mem ((c.tc : Thread Cert.KernelDownIdeal.nD Cert.KernelDownIdeal.τ).loc Cert.KernelDownIdeal.main_arg5) = m ((c.tc : Thread Cert.KernelDownIdeal.nD Cert.KernelDownIdeal.τ).loc Cert.KernelDownIdeal.main_arg5)
          ∧ r.2.mem ((c.tc : Thread Cert.KernelDownIdeal.nD Cert.KernelDownIdeal.τ).loc Cert.KernelDownIdeal.main_arg6) = m ((c.tc : Thread Cert.KernelDownIdeal.nD Cert.KernelDownIdeal.τ).loc Cert.KernelDownIdeal.main_arg6)
          ∧ r.2.mem ((c.tc : Thread Cert.KernelDownIdeal.nD Cert.KernelDownIdeal.τ).loc Cert.KernelDownIdeal.main_arg7) = m ((c.tc : Thread Cert.KernelDownIdeal.nD Cert.KernelDownIdeal.τ).loc Cert.KernelDownIdeal.main_arg7))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v137) = v0 c
          ∧ r.2.mem ((c.tc : Thread Cert.ReferenceDownIdeal.nD Cert.ReferenceDownIdeal.τ).loc Cert.ReferenceDownIdeal.main_v71) = v1 c
          ∧ r.2.mem ((c.tc : Thread Cert.ReferenceDownIdeal.nD Cert.ReferenceDownIdeal.τ).loc Cert.ReferenceDownIdeal.main_v72) = v2 c
          ∧ r.2.mem ((c.tc : Thread Cert.ReferenceDownIdeal.nD Cert.ReferenceDownIdeal.τ).loc Cert.ReferenceDownIdeal.main_v128) = v3 c
          ∧ r.2.mem ((c.tc : Thread Cert.ReferenceDownIdeal.nD Cert.ReferenceDownIdeal.τ).loc Cert.ReferenceDownIdeal.main_v138) = v4 c
          ∧ r.2.mem ((c.tc : Thread Cert.ReferenceDownIdeal.nD Cert.ReferenceDownIdeal.τ).loc Cert.ReferenceDownIdeal.main_v136) = v5 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4)
          ∧ r.2.mem ((c.tc : Thread Cert.ReferenceDownIdeal.nD Cert.ReferenceDownIdeal.τ).loc Cert.ReferenceDownIdeal.main_arg5) = m' ((c.tc : Thread Cert.ReferenceDownIdeal.nD Cert.ReferenceDownIdeal.τ).loc Cert.ReferenceDownIdeal.main_arg5)
          ∧ r.2.mem ((c.tc : Thread Cert.ReferenceDownIdeal.nD Cert.ReferenceDownIdeal.τ).loc Cert.ReferenceDownIdeal.main_arg6) = m' ((c.tc : Thread Cert.ReferenceDownIdeal.nD Cert.ReferenceDownIdeal.τ).loc Cert.ReferenceDownIdeal.main_arg6)
          ∧ r.2.mem ((c.tc : Thread Cert.ReferenceDownIdeal.nD Cert.ReferenceDownIdeal.τ).loc Cert.ReferenceDownIdeal.main_arg7) = m' ((c.tc : Thread Cert.ReferenceDownIdeal.nD Cert.ReferenceDownIdeal.τ).loc Cert.ReferenceDownIdeal.main_arg7))

def preserves_KernelDiscb_KernelDiscbIdeal : Prop :=
  True

def algebraic_KernelDiscbIdeal_ReferenceDiscbIdeal [hKernelDiscbIdeal : Cert.KernelDiscbIdeal.Facts] [hReferenceDiscbIdeal : Cert.ReferenceDiscbIdeal.Facts] : Prop :=
  ∀ (m : (ℓ : Loc Cert.KernelDiscbIdeal.nD Cert.KernelDiscbIdeal.τ Cert.KernelDiscbIdeal.sig) → Buf (Elt Ideal) ℓ) (g : Dev Cert.KernelDiscbIdeal.nD → PrngReg)
    (m' : (ℓ : Loc Cert.ReferenceDiscbIdeal.nD Cert.ReferenceDiscbIdeal.τ Cert.ReferenceDiscbIdeal.sig) → Buf (Elt Ideal) ℓ) (g' : Dev Cert.ReferenceDiscbIdeal.nD → PrngReg), Pre_KernelDiscbIdeal m →
    (∀ c : Dev Cert.KernelDiscbIdeal.nD,
      m' ((c.tc : Thread Cert.ReferenceDiscbIdeal.nD Cert.ReferenceDiscbIdeal.τ).loc Cert.ReferenceDiscbIdeal.main_arg0) = m ((c.tc : Thread Cert.KernelDiscbIdeal.nD Cert.KernelDiscbIdeal.τ).loc Cert.KernelDiscbIdeal.main_arg0)
      ∧ m' ((c.tc : Thread Cert.ReferenceDiscbIdeal.nD Cert.ReferenceDiscbIdeal.τ).loc Cert.ReferenceDiscbIdeal.main_arg1) = m ((c.tc : Thread Cert.KernelDiscbIdeal.nD Cert.KernelDiscbIdeal.τ).loc Cert.KernelDiscbIdeal.main_arg1)
      ∧ m' ((c.tc : Thread Cert.ReferenceDiscbIdeal.nD Cert.ReferenceDiscbIdeal.τ).loc Cert.ReferenceDiscbIdeal.main_arg2) = m ((c.tc : Thread Cert.KernelDiscbIdeal.nD Cert.KernelDiscbIdeal.τ).loc Cert.KernelDiscbIdeal.main_arg2)
      ∧ m' ((c.tc : Thread Cert.ReferenceDiscbIdeal.nD Cert.ReferenceDiscbIdeal.τ).loc Cert.ReferenceDiscbIdeal.main_arg3) = m ((c.tc : Thread Cert.KernelDiscbIdeal.nD Cert.KernelDiscbIdeal.τ).loc Cert.KernelDiscbIdeal.main_arg3)
      ∧ m' ((c.tc : Thread Cert.ReferenceDiscbIdeal.nD Cert.ReferenceDiscbIdeal.τ).loc Cert.ReferenceDiscbIdeal.main_arg4) = m ((c.tc : Thread Cert.KernelDiscbIdeal.nD Cert.KernelDiscbIdeal.τ).loc Cert.KernelDiscbIdeal.main_arg4)
      ∧ m' ((c.tc : Thread Cert.ReferenceDiscbIdeal.nD Cert.ReferenceDiscbIdeal.τ).loc Cert.ReferenceDiscbIdeal.main_arg5) = m ((c.tc : Thread Cert.KernelDiscbIdeal.nD Cert.KernelDiscbIdeal.τ).loc Cert.KernelDiscbIdeal.main_arg5)
      ∧ m' ((c.tc : Thread Cert.ReferenceDiscbIdeal.nD Cert.ReferenceDiscbIdeal.τ).loc Cert.ReferenceDiscbIdeal.main_arg6) = m ((c.tc : Thread Cert.KernelDiscbIdeal.nD Cert.KernelDiscbIdeal.τ).loc Cert.KernelDiscbIdeal.main_arg6)
      ∧ m' ((c.tc : Thread Cert.ReferenceDiscbIdeal.nD Cert.ReferenceDiscbIdeal.τ).loc Cert.ReferenceDiscbIdeal.main_arg7) = m ((c.tc : Thread Cert.KernelDiscbIdeal.nD Cert.KernelDiscbIdeal.τ).loc Cert.KernelDiscbIdeal.main_arg7)
      ∧ m' ((c.tc : Thread Cert.ReferenceDiscbIdeal.nD Cert.ReferenceDiscbIdeal.τ).loc Cert.ReferenceDiscbIdeal.main_arg8) = m ((c.tc : Thread Cert.KernelDiscbIdeal.nD Cert.KernelDiscbIdeal.τ).loc Cert.KernelDiscbIdeal.main_arg8)) →
    ∃ (v0 : (c : Dev Cert.KernelDiscbIdeal.nD) → Buf (Elt Ideal) ((c.tc : Thread Cert.KernelDiscbIdeal.nD Cert.KernelDiscbIdeal.τ).loc Cert.KernelDiscbIdeal.main_v20_0)) (v1 : (c : Dev Cert.KernelDiscbIdeal.nD) → Buf (Elt Ideal) ((c.tc : Thread Cert.KernelDiscbIdeal.nD Cert.KernelDiscbIdeal.τ).loc Cert.KernelDiscbIdeal.main_v20_1)) (v2 : (c : Dev Cert.KernelDiscbIdeal.nD) → Buf (Elt Ideal) ((c.tc : Thread Cert.KernelDiscbIdeal.nD Cert.KernelDiscbIdeal.τ).loc Cert.KernelDiscbIdeal.main_v20_2)) (v3 : (c : Dev Cert.KernelDiscbIdeal.nD) → Buf (Elt Ideal) ((c.tc : Thread Cert.KernelDiscbIdeal.nD Cert.KernelDiscbIdeal.τ).loc Cert.KernelDiscbIdeal.main_v20_3)) (v4 : (c : Dev Cert.KernelDiscbIdeal.nD) → Buf (Elt Ideal) ((c.tc : Thread Cert.KernelDiscbIdeal.nD Cert.KernelDiscbIdeal.τ).loc Cert.KernelDiscbIdeal.main_v20_4)),
      θ_run (Cert.KernelDiscbIdeal.defs (F := Ideal)) (onTc (τ := Cert.KernelDiscbIdeal.τ) (Cert.KernelDiscbIdeal.main (F := Ideal))) ⟨m, fun _ => 0, g⟩ (fun r => ∀ c : Dev Cert.KernelDiscbIdeal.nD,
          r.2.mem ((c.tc : Thread Cert.KernelDiscbIdeal.nD Cert.KernelDiscbIdeal.τ).loc Cert.KernelDiscbIdeal.main_v20_0) = v0 c
          ∧ r.2.mem ((c.tc : Thread Cert.KernelDiscbIdeal.nD Cert.KernelDiscbIdeal.τ).loc Cert.KernelDiscbIdeal.main_v20_1) = v1 c
          ∧ r.2.mem ((c.tc : Thread Cert.KernelDiscbIdeal.nD Cert.KernelDiscbIdeal.τ).loc Cert.KernelDiscbIdeal.main_v20_2) = v2 c
          ∧ r.2.mem ((c.tc : Thread Cert.KernelDiscbIdeal.nD Cert.KernelDiscbIdeal.τ).loc Cert.KernelDiscbIdeal.main_v20_3) = v3 c
          ∧ r.2.mem ((c.tc : Thread Cert.KernelDiscbIdeal.nD Cert.KernelDiscbIdeal.τ).loc Cert.KernelDiscbIdeal.main_v20_4) = v4 c
          ∧ r.2.mem ((c.tc : Thread Cert.KernelDiscbIdeal.nD Cert.KernelDiscbIdeal.τ).loc Cert.KernelDiscbIdeal.main_arg0) = m ((c.tc : Thread Cert.KernelDiscbIdeal.nD Cert.KernelDiscbIdeal.τ).loc Cert.KernelDiscbIdeal.main_arg0)
          ∧ r.2.mem ((c.tc : Thread Cert.KernelDiscbIdeal.nD Cert.KernelDiscbIdeal.τ).loc Cert.KernelDiscbIdeal.main_arg1) = m ((c.tc : Thread Cert.KernelDiscbIdeal.nD Cert.KernelDiscbIdeal.τ).loc Cert.KernelDiscbIdeal.main_arg1)
          ∧ r.2.mem ((c.tc : Thread Cert.KernelDiscbIdeal.nD Cert.KernelDiscbIdeal.τ).loc Cert.KernelDiscbIdeal.main_arg2) = m ((c.tc : Thread Cert.KernelDiscbIdeal.nD Cert.KernelDiscbIdeal.τ).loc Cert.KernelDiscbIdeal.main_arg2)
          ∧ r.2.mem ((c.tc : Thread Cert.KernelDiscbIdeal.nD Cert.KernelDiscbIdeal.τ).loc Cert.KernelDiscbIdeal.main_arg3) = m ((c.tc : Thread Cert.KernelDiscbIdeal.nD Cert.KernelDiscbIdeal.τ).loc Cert.KernelDiscbIdeal.main_arg3)
          ∧ r.2.mem ((c.tc : Thread Cert.KernelDiscbIdeal.nD Cert.KernelDiscbIdeal.τ).loc Cert.KernelDiscbIdeal.main_arg4) = m ((c.tc : Thread Cert.KernelDiscbIdeal.nD Cert.KernelDiscbIdeal.τ).loc Cert.KernelDiscbIdeal.main_arg4)
          ∧ r.2.mem ((c.tc : Thread Cert.KernelDiscbIdeal.nD Cert.KernelDiscbIdeal.τ).loc Cert.KernelDiscbIdeal.main_arg5) = m ((c.tc : Thread Cert.KernelDiscbIdeal.nD Cert.KernelDiscbIdeal.τ).loc Cert.KernelDiscbIdeal.main_arg5)
          ∧ r.2.mem ((c.tc : Thread Cert.KernelDiscbIdeal.nD Cert.KernelDiscbIdeal.τ).loc Cert.KernelDiscbIdeal.main_arg6) = m ((c.tc : Thread Cert.KernelDiscbIdeal.nD Cert.KernelDiscbIdeal.τ).loc Cert.KernelDiscbIdeal.main_arg6)
          ∧ r.2.mem ((c.tc : Thread Cert.KernelDiscbIdeal.nD Cert.KernelDiscbIdeal.τ).loc Cert.KernelDiscbIdeal.main_arg7) = m ((c.tc : Thread Cert.KernelDiscbIdeal.nD Cert.KernelDiscbIdeal.τ).loc Cert.KernelDiscbIdeal.main_arg7)
          ∧ r.2.mem ((c.tc : Thread Cert.KernelDiscbIdeal.nD Cert.KernelDiscbIdeal.τ).loc Cert.KernelDiscbIdeal.main_arg8) = m ((c.tc : Thread Cert.KernelDiscbIdeal.nD Cert.KernelDiscbIdeal.τ).loc Cert.KernelDiscbIdeal.main_arg8))
      ∧ θ_run (Cert.ReferenceDiscbIdeal.defs (F := Ideal)) (onTc (τ := Cert.ReferenceDiscbIdeal.τ) (Cert.ReferenceDiscbIdeal.main (F := Ideal))) ⟨m', fun _ => 0, g'⟩ (fun r => ∀ c : Dev Cert.ReferenceDiscbIdeal.nD,
          r.2.mem ((c.tc : Thread Cert.ReferenceDiscbIdeal.nD Cert.ReferenceDiscbIdeal.τ).loc Cert.ReferenceDiscbIdeal.main_v117) = v0 c
          ∧ r.2.mem ((c.tc : Thread Cert.ReferenceDiscbIdeal.nD Cert.ReferenceDiscbIdeal.τ).loc Cert.ReferenceDiscbIdeal.main_v118) = v1 c
          ∧ r.2.mem ((c.tc : Thread Cert.ReferenceDiscbIdeal.nD Cert.ReferenceDiscbIdeal.τ).loc Cert.ReferenceDiscbIdeal.main_v119) = v2 c
          ∧ r.2.mem ((c.tc : Thread Cert.ReferenceDiscbIdeal.nD Cert.ReferenceDiscbIdeal.τ).loc Cert.ReferenceDiscbIdeal.main_v120) = v3 c
          ∧ r.2.mem ((c.tc : Thread Cert.ReferenceDiscbIdeal.nD Cert.ReferenceDiscbIdeal.τ).loc Cert.ReferenceDiscbIdeal.main_v121) = v4 c
          ∧ r.2.mem ((c.tc : Thread Cert.ReferenceDiscbIdeal.nD Cert.ReferenceDiscbIdeal.τ).loc Cert.ReferenceDiscbIdeal.main_arg0) = m' ((c.tc : Thread Cert.ReferenceDiscbIdeal.nD Cert.ReferenceDiscbIdeal.τ).loc Cert.ReferenceDiscbIdeal.main_arg0)
          ∧ r.2.mem ((c.tc : Thread Cert.ReferenceDiscbIdeal.nD Cert.ReferenceDiscbIdeal.τ).loc Cert.ReferenceDiscbIdeal.main_arg1) = m' ((c.tc : Thread Cert.ReferenceDiscbIdeal.nD Cert.ReferenceDiscbIdeal.τ).loc Cert.ReferenceDiscbIdeal.main_arg1)
          ∧ r.2.mem ((c.tc : Thread Cert.ReferenceDiscbIdeal.nD Cert.ReferenceDiscbIdeal.τ).loc Cert.ReferenceDiscbIdeal.main_arg2) = m' ((c.tc : Thread Cert.ReferenceDiscbIdeal.nD Cert.ReferenceDiscbIdeal.τ).loc Cert.ReferenceDiscbIdeal.main_arg2)
          ∧ r.2.mem ((c.tc : Thread Cert.ReferenceDiscbIdeal.nD Cert.ReferenceDiscbIdeal.τ).loc Cert.ReferenceDiscbIdeal.main_arg3) = m' ((c.tc : Thread Cert.ReferenceDiscbIdeal.nD Cert.ReferenceDiscbIdeal.τ).loc Cert.ReferenceDiscbIdeal.main_arg3)
          ∧ r.2.mem ((c.tc : Thread Cert.ReferenceDiscbIdeal.nD Cert.ReferenceDiscbIdeal.τ).loc Cert.ReferenceDiscbIdeal.main_arg4) = m' ((c.tc : Thread Cert.ReferenceDiscbIdeal.nD Cert.ReferenceDiscbIdeal.τ).loc Cert.ReferenceDiscbIdeal.main_arg4)
          ∧ r.2.mem ((c.tc : Thread Cert.ReferenceDiscbIdeal.nD Cert.ReferenceDiscbIdeal.τ).loc Cert.ReferenceDiscbIdeal.main_arg5) = m' ((c.tc : Thread Cert.ReferenceDiscbIdeal.nD Cert.ReferenceDiscbIdeal.τ).loc Cert.ReferenceDiscbIdeal.main_arg5)
          ∧ r.2.mem ((c.tc : Thread Cert.ReferenceDiscbIdeal.nD Cert.ReferenceDiscbIdeal.τ).loc Cert.ReferenceDiscbIdeal.main_arg6) = m' ((c.tc : Thread Cert.ReferenceDiscbIdeal.nD Cert.ReferenceDiscbIdeal.τ).loc Cert.ReferenceDiscbIdeal.main_arg6)
          ∧ r.2.mem ((c.tc : Thread Cert.ReferenceDiscbIdeal.nD Cert.ReferenceDiscbIdeal.τ).loc Cert.ReferenceDiscbIdeal.main_arg7) = m' ((c.tc : Thread Cert.ReferenceDiscbIdeal.nD Cert.ReferenceDiscbIdeal.τ).loc Cert.ReferenceDiscbIdeal.main_arg7)
          ∧ r.2.mem ((c.tc : Thread Cert.ReferenceDiscbIdeal.nD Cert.ReferenceDiscbIdeal.τ).loc Cert.ReferenceDiscbIdeal.main_arg8) = m' ((c.tc : Thread Cert.ReferenceDiscbIdeal.nD Cert.ReferenceDiscbIdeal.τ).loc Cert.ReferenceDiscbIdeal.main_arg8))

def preserves_KernelDisc_KernelDiscIdeal : Prop :=
  True

def algebraic_KernelDiscIdeal_ReferenceDiscIdeal [hKernelDiscIdeal : Cert.KernelDiscIdeal.Facts] [hReferenceDiscIdeal : Cert.ReferenceDiscIdeal.Facts] : Prop :=
  ∀ (m : (ℓ : Loc Cert.KernelDiscIdeal.nD Cert.KernelDiscIdeal.τ Cert.KernelDiscIdeal.sig) → Buf (Elt Ideal) ℓ) (g : Dev Cert.KernelDiscIdeal.nD → PrngReg)
    (m' : (ℓ : Loc Cert.ReferenceDiscIdeal.nD Cert.ReferenceDiscIdeal.τ Cert.ReferenceDiscIdeal.sig) → Buf (Elt Ideal) ℓ) (g' : Dev Cert.ReferenceDiscIdeal.nD → PrngReg), Pre_KernelDiscIdeal m →
    (∀ c : Dev Cert.KernelDiscIdeal.nD,
      m' ((c.tc : Thread Cert.ReferenceDiscIdeal.nD Cert.ReferenceDiscIdeal.τ).loc Cert.ReferenceDiscIdeal.main_arg0) = m ((c.tc : Thread Cert.KernelDiscIdeal.nD Cert.KernelDiscIdeal.τ).loc Cert.KernelDiscIdeal.main_arg0)
      ∧ m' ((c.tc : Thread Cert.ReferenceDiscIdeal.nD Cert.ReferenceDiscIdeal.τ).loc Cert.ReferenceDiscIdeal.main_arg1) = m ((c.tc : Thread Cert.KernelDiscIdeal.nD Cert.KernelDiscIdeal.τ).loc Cert.KernelDiscIdeal.main_arg1)
      ∧ m' ((c.tc : Thread Cert.ReferenceDiscIdeal.nD Cert.ReferenceDiscIdeal.τ).loc Cert.ReferenceDiscIdeal.main_arg2) = m ((c.tc : Thread Cert.KernelDiscIdeal.nD Cert.KernelDiscIdeal.τ).loc Cert.KernelDiscIdeal.main_arg2)
      ∧ m' ((c.tc : Thread Cert.ReferenceDiscIdeal.nD Cert.ReferenceDiscIdeal.τ).loc Cert.ReferenceDiscIdeal.main_arg3) = m ((c.tc : Thread Cert.KernelDiscIdeal.nD Cert.KernelDiscIdeal.τ).loc Cert.KernelDiscIdeal.main_arg3)
      ∧ m' ((c.tc : Thread Cert.ReferenceDiscIdeal.nD Cert.ReferenceDiscIdeal.τ).loc Cert.ReferenceDiscIdeal.main_arg4) = m ((c.tc : Thread Cert.KernelDiscIdeal.nD Cert.KernelDiscIdeal.τ).loc Cert.KernelDiscIdeal.main_arg4)) →
    ∃ (v0 : (c : Dev Cert.KernelDiscIdeal.nD) → Buf (Elt Ideal) ((c.tc : Thread Cert.KernelDiscIdeal.nD Cert.KernelDiscIdeal.τ).loc Cert.KernelDiscIdeal.main_v11_0)) (v1 : (c : Dev Cert.KernelDiscIdeal.nD) → Buf (Elt Ideal) ((c.tc : Thread Cert.KernelDiscIdeal.nD Cert.KernelDiscIdeal.τ).loc Cert.KernelDiscIdeal.main_v11_1)) (v2 : (c : Dev Cert.KernelDiscIdeal.nD) → Buf (Elt Ideal) ((c.tc : Thread Cert.KernelDiscIdeal.nD Cert.KernelDiscIdeal.τ).loc Cert.KernelDiscIdeal.main_v11_2)) (v3 : (c : Dev Cert.KernelDiscIdeal.nD) → Buf (Elt Ideal) ((c.tc : Thread Cert.KernelDiscIdeal.nD Cert.KernelDiscIdeal.τ).loc Cert.KernelDiscIdeal.main_v11_3)),
      θ_run (Cert.KernelDiscIdeal.defs (F := Ideal)) (onTc (τ := Cert.KernelDiscIdeal.τ) (Cert.KernelDiscIdeal.main (F := Ideal))) ⟨m, fun _ => 0, g⟩ (fun r => ∀ c : Dev Cert.KernelDiscIdeal.nD,
          r.2.mem ((c.tc : Thread Cert.KernelDiscIdeal.nD Cert.KernelDiscIdeal.τ).loc Cert.KernelDiscIdeal.main_v11_0) = v0 c
          ∧ r.2.mem ((c.tc : Thread Cert.KernelDiscIdeal.nD Cert.KernelDiscIdeal.τ).loc Cert.KernelDiscIdeal.main_v11_1) = v1 c
          ∧ r.2.mem ((c.tc : Thread Cert.KernelDiscIdeal.nD Cert.KernelDiscIdeal.τ).loc Cert.KernelDiscIdeal.main_v11_2) = v2 c
          ∧ r.2.mem ((c.tc : Thread Cert.KernelDiscIdeal.nD Cert.KernelDiscIdeal.τ).loc Cert.KernelDiscIdeal.main_v11_3) = v3 c
          ∧ r.2.mem ((c.tc : Thread Cert.KernelDiscIdeal.nD Cert.KernelDiscIdeal.τ).loc Cert.KernelDiscIdeal.main_arg0) = m ((c.tc : Thread Cert.KernelDiscIdeal.nD Cert.KernelDiscIdeal.τ).loc Cert.KernelDiscIdeal.main_arg0)
          ∧ r.2.mem ((c.tc : Thread Cert.KernelDiscIdeal.nD Cert.KernelDiscIdeal.τ).loc Cert.KernelDiscIdeal.main_arg1) = m ((c.tc : Thread Cert.KernelDiscIdeal.nD Cert.KernelDiscIdeal.τ).loc Cert.KernelDiscIdeal.main_arg1)
          ∧ r.2.mem ((c.tc : Thread Cert.KernelDiscIdeal.nD Cert.KernelDiscIdeal.τ).loc Cert.KernelDiscIdeal.main_arg2) = m ((c.tc : Thread Cert.KernelDiscIdeal.nD Cert.KernelDiscIdeal.τ).loc Cert.KernelDiscIdeal.main_arg2)
          ∧ r.2.mem ((c.tc : Thread Cert.KernelDiscIdeal.nD Cert.KernelDiscIdeal.τ).loc Cert.KernelDiscIdeal.main_arg3) = m ((c.tc : Thread Cert.KernelDiscIdeal.nD Cert.KernelDiscIdeal.τ).loc Cert.KernelDiscIdeal.main_arg3)
          ∧ r.2.mem ((c.tc : Thread Cert.KernelDiscIdeal.nD Cert.KernelDiscIdeal.τ).loc Cert.KernelDiscIdeal.main_arg4) = m ((c.tc : Thread Cert.KernelDiscIdeal.nD Cert.KernelDiscIdeal.τ).loc Cert.KernelDiscIdeal.main_arg4))
      ∧ θ_run (Cert.ReferenceDiscIdeal.defs (F := Ideal)) (onTc (τ := Cert.ReferenceDiscIdeal.τ) (Cert.ReferenceDiscIdeal.main (F := Ideal))) ⟨m', fun _ => 0, g'⟩ (fun r => ∀ c : Dev Cert.ReferenceDiscIdeal.nD,
          r.2.mem ((c.tc : Thread Cert.ReferenceDiscIdeal.nD Cert.ReferenceDiscIdeal.τ).loc Cert.ReferenceDiscIdeal.main_v39) = v0 c
          ∧ r.2.mem ((c.tc : Thread Cert.ReferenceDiscIdeal.nD Cert.ReferenceDiscIdeal.τ).loc Cert.ReferenceDiscIdeal.main_v41) = v1 c
          ∧ r.2.mem ((c.tc : Thread Cert.ReferenceDiscIdeal.nD Cert.ReferenceDiscIdeal.τ).loc Cert.ReferenceDiscIdeal.main_v42) = v2 c
          ∧ r.2.mem ((c.tc : Thread Cert.ReferenceDiscIdeal.nD Cert.ReferenceDiscIdeal.τ).loc Cert.ReferenceDiscIdeal.main_v43) = v3 c
          ∧ r.2.mem ((c.tc : Thread Cert.ReferenceDiscIdeal.nD Cert.ReferenceDiscIdeal.τ).loc Cert.ReferenceDiscIdeal.main_arg0) = m' ((c.tc : Thread Cert.ReferenceDiscIdeal.nD Cert.ReferenceDiscIdeal.τ).loc Cert.ReferenceDiscIdeal.main_arg0)
          ∧ r.2.mem ((c.tc : Thread Cert.ReferenceDiscIdeal.nD Cert.ReferenceDiscIdeal.τ).loc Cert.ReferenceDiscIdeal.main_arg1) = m' ((c.tc : Thread Cert.ReferenceDiscIdeal.nD Cert.ReferenceDiscIdeal.τ).loc Cert.ReferenceDiscIdeal.main_arg1)
          ∧ r.2.mem ((c.tc : Thread Cert.ReferenceDiscIdeal.nD Cert.ReferenceDiscIdeal.τ).loc Cert.ReferenceDiscIdeal.main_arg2) = m' ((c.tc : Thread Cert.ReferenceDiscIdeal.nD Cert.ReferenceDiscIdeal.τ).loc Cert.ReferenceDiscIdeal.main_arg2)
          ∧ r.2.mem ((c.tc : Thread Cert.ReferenceDiscIdeal.nD Cert.ReferenceDiscIdeal.τ).loc Cert.ReferenceDiscIdeal.main_arg3) = m' ((c.tc : Thread Cert.ReferenceDiscIdeal.nD Cert.ReferenceDiscIdeal.τ).loc Cert.ReferenceDiscIdeal.main_arg3)
          ∧ r.2.mem ((c.tc : Thread Cert.ReferenceDiscIdeal.nD Cert.ReferenceDiscIdeal.τ).loc Cert.ReferenceDiscIdeal.main_arg4) = m' ((c.tc : Thread Cert.ReferenceDiscIdeal.nD Cert.ReferenceDiscIdeal.τ).loc Cert.ReferenceDiscIdeal.main_arg4))

def preserves_KernelUpf_KernelUpfIdeal : Prop :=
  True

def algebraic_KernelUpfIdeal_ReferenceUpfIdeal [hKernelUpfIdeal : Cert.KernelUpfIdeal.Facts] [hReferenceUpfIdeal : Cert.ReferenceUpfIdeal.Facts] : Prop :=
  ∀ (m : (ℓ : Loc Cert.KernelUpfIdeal.nD Cert.KernelUpfIdeal.τ Cert.KernelUpfIdeal.sig) → Buf (Elt Ideal) ℓ) (g : Dev Cert.KernelUpfIdeal.nD → PrngReg)
    (m' : (ℓ : Loc Cert.ReferenceUpfIdeal.nD Cert.ReferenceUpfIdeal.τ Cert.ReferenceUpfIdeal.sig) → Buf (Elt Ideal) ℓ) (g' : Dev Cert.ReferenceUpfIdeal.nD → PrngReg), Pre_KernelUpfIdeal m →
    (∀ c : Dev Cert.KernelUpfIdeal.nD,
      m' ((c.tc : Thread Cert.ReferenceUpfIdeal.nD Cert.ReferenceUpfIdeal.τ).loc Cert.ReferenceUpfIdeal.main_arg0) = m ((c.tc : Thread Cert.KernelUpfIdeal.nD Cert.KernelUpfIdeal.τ).loc Cert.KernelUpfIdeal.main_arg0)
      ∧ m' ((c.tc : Thread Cert.ReferenceUpfIdeal.nD Cert.ReferenceUpfIdeal.τ).loc Cert.ReferenceUpfIdeal.main_arg1) = m ((c.tc : Thread Cert.KernelUpfIdeal.nD Cert.KernelUpfIdeal.τ).loc Cert.KernelUpfIdeal.main_arg1)
      ∧ m' ((c.tc : Thread Cert.ReferenceUpfIdeal.nD Cert.ReferenceUpfIdeal.τ).loc Cert.ReferenceUpfIdeal.main_arg2) = m ((c.tc : Thread Cert.KernelUpfIdeal.nD Cert.KernelUpfIdeal.τ).loc Cert.KernelUpfIdeal.main_arg2)
      ∧ m' ((c.tc : Thread Cert.ReferenceUpfIdeal.nD Cert.ReferenceUpfIdeal.τ).loc Cert.ReferenceUpfIdeal.main_arg3) = m ((c.tc : Thread Cert.KernelUpfIdeal.nD Cert.KernelUpfIdeal.τ).loc Cert.KernelUpfIdeal.main_arg3)) →
    ∃ (v0 : (c : Dev Cert.KernelUpfIdeal.nD) → Buf (Elt Ideal) ((c.tc : Thread Cert.KernelUpfIdeal.nD Cert.KernelUpfIdeal.τ).loc Cert.KernelUpfIdeal.main_v1_0)) (v1 : (c : Dev Cert.KernelUpfIdeal.nD) → Buf (Elt Ideal) ((c.tc : Thread Cert.KernelUpfIdeal.nD Cert.KernelUpfIdeal.τ).loc Cert.KernelUpfIdeal.main_v1_1)) (v2 : (c : Dev Cert.KernelUpfIdeal.nD) → Buf (Elt Ideal) ((c.tc : Thread Cert.KernelUpfIdeal.nD Cert.KernelUpfIdeal.τ).loc Cert.KernelUpfIdeal.main_v1_2)),
      θ_run (Cert.KernelUpfIdeal.defs (F := Ideal)) (onTc (τ := Cert.KernelUpfIdeal.τ) (Cert.KernelUpfIdeal.main (F := Ideal))) ⟨m, fun _ => 0, g⟩ (fun r => ∀ c : Dev Cert.KernelUpfIdeal.nD,
          r.2.mem ((c.tc : Thread Cert.KernelUpfIdeal.nD Cert.KernelUpfIdeal.τ).loc Cert.KernelUpfIdeal.main_v1_0) = v0 c
          ∧ r.2.mem ((c.tc : Thread Cert.KernelUpfIdeal.nD Cert.KernelUpfIdeal.τ).loc Cert.KernelUpfIdeal.main_v1_1) = v1 c
          ∧ r.2.mem ((c.tc : Thread Cert.KernelUpfIdeal.nD Cert.KernelUpfIdeal.τ).loc Cert.KernelUpfIdeal.main_v1_2) = v2 c
          ∧ r.2.mem ((c.tc : Thread Cert.KernelUpfIdeal.nD Cert.KernelUpfIdeal.τ).loc Cert.KernelUpfIdeal.main_arg0) = m ((c.tc : Thread Cert.KernelUpfIdeal.nD Cert.KernelUpfIdeal.τ).loc Cert.KernelUpfIdeal.main_arg0)
          ∧ r.2.mem ((c.tc : Thread Cert.KernelUpfIdeal.nD Cert.KernelUpfIdeal.τ).loc Cert.KernelUpfIdeal.main_arg1) = m ((c.tc : Thread Cert.KernelUpfIdeal.nD Cert.KernelUpfIdeal.τ).loc Cert.KernelUpfIdeal.main_arg1)
          ∧ r.2.mem ((c.tc : Thread Cert.KernelUpfIdeal.nD Cert.KernelUpfIdeal.τ).loc Cert.KernelUpfIdeal.main_arg2) = m ((c.tc : Thread Cert.KernelUpfIdeal.nD Cert.KernelUpfIdeal.τ).loc Cert.KernelUpfIdeal.main_arg2)
          ∧ r.2.mem ((c.tc : Thread Cert.KernelUpfIdeal.nD Cert.KernelUpfIdeal.τ).loc Cert.KernelUpfIdeal.main_arg3) = m ((c.tc : Thread Cert.KernelUpfIdeal.nD Cert.KernelUpfIdeal.τ).loc Cert.KernelUpfIdeal.main_arg3))
      ∧ θ_run (Cert.ReferenceUpfIdeal.defs (F := Ideal)) (onTc (τ := Cert.ReferenceUpfIdeal.τ) (Cert.ReferenceUpfIdeal.main (F := Ideal))) ⟨m', fun _ => 0, g'⟩ (fun r => ∀ c : Dev Cert.ReferenceUpfIdeal.nD,
          r.2.mem ((c.tc : Thread Cert.ReferenceUpfIdeal.nD Cert.ReferenceUpfIdeal.τ).loc Cert.ReferenceUpfIdeal.main_v21) = v0 c
          ∧ r.2.mem ((c.tc : Thread Cert.ReferenceUpfIdeal.nD Cert.ReferenceUpfIdeal.τ).loc Cert.ReferenceUpfIdeal.main_v22) = v1 c
          ∧ r.2.mem ((c.tc : Thread Cert.ReferenceUpfIdeal.nD Cert.ReferenceUpfIdeal.τ).loc Cert.ReferenceUpfIdeal.main_v23) = v2 c
          ∧ r.2.mem ((c.tc : Thread Cert.ReferenceUpfIdeal.nD Cert.ReferenceUpfIdeal.τ).loc Cert.ReferenceUpfIdeal.main_arg0) = m' ((c.tc : Thread Cert.ReferenceUpfIdeal.nD Cert.ReferenceUpfIdeal.τ).loc Cert.ReferenceUpfIdeal.main_arg0)
          ∧ r.2.mem ((c.tc : Thread Cert.ReferenceUpfIdeal.nD Cert.ReferenceUpfIdeal.τ).loc Cert.ReferenceUpfIdeal.main_arg1) = m' ((c.tc : Thread Cert.ReferenceUpfIdeal.nD Cert.ReferenceUpfIdeal.τ).loc Cert.ReferenceUpfIdeal.main_arg1)
          ∧ r.2.mem ((c.tc : Thread Cert.ReferenceUpfIdeal.nD Cert.ReferenceUpfIdeal.τ).loc Cert.ReferenceUpfIdeal.main_arg2) = m' ((c.tc : Thread Cert.ReferenceUpfIdeal.nD Cert.ReferenceUpfIdeal.τ).loc Cert.ReferenceUpfIdeal.main_arg2)
          ∧ r.2.mem ((c.tc : Thread Cert.ReferenceUpfIdeal.nD Cert.ReferenceUpfIdeal.τ).loc Cert.ReferenceUpfIdeal.main_arg3) = m' ((c.tc : Thread Cert.ReferenceUpfIdeal.nD Cert.ReferenceUpfIdeal.τ).loc Cert.ReferenceUpfIdeal.main_arg3))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)
      ∧ m' ((c.tc : Thread Cert.ReferenceMixIdeal.nD Cert.ReferenceMixIdeal.τ).loc Cert.ReferenceMixIdeal.main_arg7) = m ((c.tc : Thread Cert.KernelMixIdeal.nD Cert.KernelMixIdeal.τ).loc Cert.KernelMixIdeal.main_arg7)
      ∧ m' ((c.tc : Thread Cert.ReferenceMixIdeal.nD Cert.ReferenceMixIdeal.τ).loc Cert.ReferenceMixIdeal.main_arg8) = m ((c.tc : Thread Cert.KernelMixIdeal.nD Cert.KernelMixIdeal.τ).loc Cert.KernelMixIdeal.main_arg8)
      ∧ m' ((c.tc : Thread Cert.ReferenceMixIdeal.nD Cert.ReferenceMixIdeal.τ).loc Cert.ReferenceMixIdeal.main_arg9) = m ((c.tc : Thread Cert.KernelMixIdeal.nD Cert.KernelMixIdeal.τ).loc Cert.KernelMixIdeal.main_arg9)
      ∧ m' ((c.tc : Thread Cert.ReferenceMixIdeal.nD Cert.ReferenceMixIdeal.τ).loc Cert.ReferenceMixIdeal.main_arg10) = m ((c.tc : Thread Cert.KernelMixIdeal.nD Cert.KernelMixIdeal.τ).loc Cert.KernelMixIdeal.main_arg10)
      ∧ m' ((c.tc : Thread Cert.ReferenceMixIdeal.nD Cert.ReferenceMixIdeal.τ).loc Cert.ReferenceMixIdeal.main_arg11) = m ((c.tc : Thread Cert.KernelMixIdeal.nD Cert.KernelMixIdeal.τ).loc Cert.KernelMixIdeal.main_arg11)
      ∧ m' ((c.tc : Thread Cert.ReferenceMixIdeal.nD Cert.ReferenceMixIdeal.τ).loc Cert.ReferenceMixIdeal.main_arg12) = m ((c.tc : Thread Cert.KernelMixIdeal.nD Cert.KernelMixIdeal.τ).loc Cert.KernelMixIdeal.main_arg12)
      ∧ m' ((c.tc : Thread Cert.ReferenceMixIdeal.nD Cert.ReferenceMixIdeal.τ).loc Cert.ReferenceMixIdeal.main_arg13) = m ((c.tc : Thread Cert.KernelMixIdeal.nD Cert.KernelMixIdeal.τ).loc Cert.KernelMixIdeal.main_arg13)
      ∧ m' ((c.tc : Thread Cert.ReferenceMixIdeal.nD Cert.ReferenceMixIdeal.τ).loc Cert.ReferenceMixIdeal.main_arg14) = m ((c.tc : Thread Cert.KernelMixIdeal.nD Cert.KernelMixIdeal.τ).loc Cert.KernelMixIdeal.main_arg14)
      ∧ m' ((c.tc : Thread Cert.ReferenceMixIdeal.nD Cert.ReferenceMixIdeal.τ).loc Cert.ReferenceMixIdeal.main_arg15) = m ((c.tc : Thread Cert.KernelMixIdeal.nD Cert.KernelMixIdeal.τ).loc Cert.KernelMixIdeal.main_arg15)
      ∧ m' ((c.tc : Thread Cert.ReferenceMixIdeal.nD Cert.ReferenceMixIdeal.τ).loc Cert.ReferenceMixIdeal.main_arg16) = m ((c.tc : Thread Cert.KernelMixIdeal.nD Cert.KernelMixIdeal.τ).loc Cert.KernelMixIdeal.main_arg16)
      ∧ m' ((c.tc : Thread Cert.ReferenceMixIdeal.nD Cert.ReferenceMixIdeal.τ).loc Cert.ReferenceMixIdeal.main_arg17) = m ((c.tc : Thread Cert.KernelMixIdeal.nD Cert.KernelMixIdeal.τ).loc Cert.KernelMixIdeal.main_arg17)) →
    ∃ (v0 : (c : Dev Cert.KernelMixIdeal.nD) → Buf (Elt Ideal) ((c.tc : Thread Cert.KernelMixIdeal.nD Cert.KernelMixIdeal.τ).loc Cert.KernelMixIdeal.main_v7_0)) (v1 : (c : Dev Cert.KernelMixIdeal.nD) → Buf (Elt Ideal) ((c.tc : Thread Cert.KernelMixIdeal.nD Cert.KernelMixIdeal.τ).loc Cert.KernelMixIdeal.main_v7_1)) (v2 : (c : Dev Cert.KernelMixIdeal.nD) → Buf (Elt Ideal) ((c.tc : Thread Cert.KernelMixIdeal.nD Cert.KernelMixIdeal.τ).loc Cert.KernelMixIdeal.main_v7_2)) (v3 : (c : Dev Cert.KernelMixIdeal.nD) → Buf (Elt Ideal) ((c.tc : Thread Cert.KernelMixIdeal.nD Cert.KernelMixIdeal.τ).loc Cert.KernelMixIdeal.main_v7_3)) (v4 : (c : Dev Cert.KernelMixIdeal.nD) → Buf (Elt Ideal) ((c.tc : Thread Cert.KernelMixIdeal.nD Cert.KernelMixIdeal.τ).loc Cert.KernelMixIdeal.main_v7_4)) (v5 : (c : Dev Cert.KernelMixIdeal.nD) → Buf (Elt Ideal) ((c.tc : Thread Cert.KernelMixIdeal.nD Cert.KernelMixIdeal.τ).loc Cert.KernelMixIdeal.main_v7_5)) (v6 : (c : Dev Cert.KernelMixIdeal.nD) → Buf (Elt Ideal) ((c.tc : Thread Cert.KernelMixIdeal.nD Cert.KernelMixIdeal.τ).loc Cert.KernelMixIdeal.main_v7_6)) (v7 : (c : Dev Cert.KernelMixIdeal.nD) → Buf (Elt Ideal) ((c.tc : Thread Cert.KernelMixIdeal.nD Cert.KernelMixIdeal.τ).loc Cert.KernelMixIdeal.main_v7_7)) (v8 : (c : Dev Cert.KernelMixIdeal.nD) → Buf (Elt Ideal) ((c.tc : Thread Cert.KernelMixIdeal.nD Cert.KernelMixIdeal.τ).loc Cert.KernelMixIdeal.main_v7_8)) (v9 : (c : Dev Cert.KernelMixIdeal.nD) → Buf (Elt Ideal) ((c.tc : Thread Cert.KernelMixIdeal.nD Cert.KernelMixIdeal.τ).loc Cert.KernelMixIdeal.main_v7_9)) (v10 : (c : Dev Cert.KernelMixIdeal.nD) → Buf (Elt Ideal) ((c.tc : Thread Cert.KernelMixIdeal.nD Cert.KernelMixIdeal.τ).loc Cert.KernelMixIdeal.main_v7_10)) (v11 : (c : Dev Cert.KernelMixIdeal.nD) → Buf (Elt Ideal) ((c.tc : Thread Cert.KernelMixIdeal.nD Cert.KernelMixIdeal.τ).loc Cert.KernelMixIdeal.main_v7_11)) (v12 : (c : Dev Cert.KernelMixIdeal.nD) → Buf (Elt Ideal) ((c.tc : Thread Cert.KernelMixIdeal.nD Cert.KernelMixIdeal.τ).loc Cert.KernelMixIdeal.main_v7_12)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v7_0) = v0 c
          ∧ r.2.mem ((c.tc : Thread Cert.KernelMixIdeal.nD Cert.KernelMixIdeal.τ).loc Cert.KernelMixIdeal.main_v7_1) = v1 c
          ∧ r.2.mem ((c.tc : Thread Cert.KernelMixIdeal.nD Cert.KernelMixIdeal.τ).loc Cert.KernelMixIdeal.main_v7_2) = v2 c
          ∧ r.2.mem ((c.tc : Thread Cert.KernelMixIdeal.nD Cert.KernelMixIdeal.τ).loc Cert.KernelMixIdeal.main_v7_3) = v3 c
          ∧ r.2.mem ((c.tc : Thread Cert.KernelMixIdeal.nD Cert.KernelMixIdeal.τ).loc Cert.KernelMixIdeal.main_v7_4) = v4 c
          ∧ r.2.mem ((c.tc : Thread Cert.KernelMixIdeal.nD Cert.KernelMixIdeal.τ).loc Cert.KernelMixIdeal.main_v7_5) = v5 c
          ∧ r.2.mem ((c.tc : Thread Cert.KernelMixIdeal.nD Cert.KernelMixIdeal.τ).loc Cert.KernelMixIdeal.main_v7_6) = v6 c
          ∧ r.2.mem ((c.tc : Thread Cert.KernelMixIdeal.nD Cert.KernelMixIdeal.τ).loc Cert.KernelMixIdeal.main_v7_7) = v7 c
          ∧ r.2.mem ((c.tc : Thread Cert.KernelMixIdeal.nD Cert.KernelMixIdeal.τ).loc Cert.KernelMixIdeal.main_v7_8) = v8 c
          ∧ r.2.mem ((c.tc : Thread Cert.KernelMixIdeal.nD Cert.KernelMixIdeal.τ).loc Cert.KernelMixIdeal.main_v7_9) = v9 c
          ∧ r.2.mem ((c.tc : Thread Cert.KernelMixIdeal.nD Cert.KernelMixIdeal.τ).loc Cert.KernelMixIdeal.main_v7_10) = v10 c
          ∧ r.2.mem ((c.tc : Thread Cert.KernelMixIdeal.nD Cert.KernelMixIdeal.τ).loc Cert.KernelMixIdeal.main_v7_11) = v11 c
          ∧ r.2.mem ((c.tc : Thread Cert.KernelMixIdeal.nD Cert.KernelMixIdeal.τ).loc Cert.KernelMixIdeal.main_v7_12) = v12 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
          ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
          ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8)
          ∧ r.2.mem ((c.tc : Thread Cert.KernelMixIdeal.nD Cert.KernelMixIdeal.τ).loc Cert.KernelMixIdeal.main_arg9) = m ((c.tc : Thread Cert.KernelMixIdeal.nD Cert.KernelMixIdeal.τ).loc Cert.KernelMixIdeal.main_arg9)
          ∧ r.2.mem ((c.tc : Thread Cert.KernelMixIdeal.nD Cert.KernelMixIdeal.τ).loc Cert.KernelMixIdeal.main_arg10) = m ((c.tc : Thread Cert.KernelMixIdeal.nD Cert.KernelMixIdeal.τ).loc Cert.KernelMixIdeal.main_arg10)
          ∧ r.2.mem ((c.tc : Thread Cert.KernelMixIdeal.nD Cert.KernelMixIdeal.τ).loc Cert.KernelMixIdeal.main_arg11) = m ((c.tc : Thread Cert.KernelMixIdeal.nD Cert.KernelMixIdeal.τ).loc Cert.KernelMixIdeal.main_arg11)
          ∧ r.2.mem ((c.tc : Thread Cert.KernelMixIdeal.nD Cert.KernelMixIdeal.τ).loc Cert.KernelMixIdeal.main_arg12) = m ((c.tc : Thread Cert.KernelMixIdeal.nD Cert.KernelMixIdeal.τ).loc Cert.KernelMixIdeal.main_arg12)
          ∧ r.2.mem ((c.tc : Thread Cert.KernelMixIdeal.nD Cert.KernelMixIdeal.τ).loc Cert.KernelMixIdeal.main_arg13) = m ((c.tc : Thread Cert.KernelMixIdeal.nD Cert.KernelMixIdeal.τ).loc Cert.KernelMixIdeal.main_arg13)
          ∧ r.2.mem ((c.tc : Thread Cert.KernelMixIdeal.nD Cert.KernelMixIdeal.τ).loc Cert.KernelMixIdeal.main_arg14) = m ((c.tc : Thread Cert.KernelMixIdeal.nD Cert.KernelMixIdeal.τ).loc Cert.KernelMixIdeal.main_arg14)
          ∧ r.2.mem ((c.tc : Thread Cert.KernelMixIdeal.nD Cert.KernelMixIdeal.τ).loc Cert.KernelMixIdeal.main_arg15) = m ((c.tc : Thread Cert.KernelMixIdeal.nD Cert.KernelMixIdeal.τ).loc Cert.KernelMixIdeal.main_arg15)
          ∧ r.2.mem ((c.tc : Thread Cert.KernelMixIdeal.nD Cert.KernelMixIdeal.τ).loc Cert.KernelMixIdeal.main_arg16) = m ((c.tc : Thread Cert.KernelMixIdeal.nD Cert.KernelMixIdeal.τ).loc Cert.KernelMixIdeal.main_arg16)
          ∧ r.2.mem ((c.tc : Thread Cert.KernelMixIdeal.nD Cert.KernelMixIdeal.τ).loc Cert.KernelMixIdeal.main_arg17) = m ((c.tc : Thread Cert.KernelMixIdeal.nD Cert.KernelMixIdeal.τ).loc Cert.KernelMixIdeal.main_arg17))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v228) = v0 c
          ∧ r.2.mem ((c.tc : Thread Cert.ReferenceMixIdeal.nD Cert.ReferenceMixIdeal.τ).loc Cert.ReferenceMixIdeal.main_v230) = v1 c
          ∧ r.2.mem ((c.tc : Thread Cert.ReferenceMixIdeal.nD Cert.ReferenceMixIdeal.τ).loc Cert.ReferenceMixIdeal.main_v234) = v2 c
          ∧ r.2.mem ((c.tc : Thread Cert.ReferenceMixIdeal.nD Cert.ReferenceMixIdeal.τ).loc Cert.ReferenceMixIdeal.main_v235) = v3 c
          ∧ r.2.mem ((c.tc : Thread Cert.ReferenceMixIdeal.nD Cert.ReferenceMixIdeal.τ).loc Cert.ReferenceMixIdeal.main_v236) = v4 c
          ∧ r.2.mem ((c.tc : Thread Cert.ReferenceMixIdeal.nD Cert.ReferenceMixIdeal.τ).loc Cert.ReferenceMixIdeal.main_v237) = v5 c
          ∧ r.2.mem ((c.tc : Thread Cert.ReferenceMixIdeal.nD Cert.ReferenceMixIdeal.τ).loc Cert.ReferenceMixIdeal.main_v238) = v6 c
          ∧ r.2.mem ((c.tc : Thread Cert.ReferenceMixIdeal.nD Cert.ReferenceMixIdeal.τ).loc Cert.ReferenceMixIdeal.main_v239) = v7 c
          ∧ r.2.mem ((c.tc : Thread Cert.ReferenceMixIdeal.nD Cert.ReferenceMixIdeal.τ).loc Cert.ReferenceMixIdeal.main_v240) = v8 c
          ∧ r.2.mem ((c.tc : Thread Cert.ReferenceMixIdeal.nD Cert.ReferenceMixIdeal.τ).loc Cert.ReferenceMixIdeal.main_v197) = v9 c
          ∧ r.2.mem ((c.tc : Thread Cert.ReferenceMixIdeal.nD Cert.ReferenceMixIdeal.τ).loc Cert.ReferenceMixIdeal.main_v147) = v10 c
          ∧ r.2.mem ((c.tc : Thread Cert.ReferenceMixIdeal.nD Cert.ReferenceMixIdeal.τ).loc Cert.ReferenceMixIdeal.main_v143) = v11 c
          ∧ r.2.mem ((c.tc : Thread Cert.ReferenceMixIdeal.nD Cert.ReferenceMixIdeal.τ).loc Cert.ReferenceMixIdeal.main_v226) = v12 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6)
          ∧ r.2.mem ((c.tc : Thread Cert.ReferenceMixIdeal.nD Cert.ReferenceMixIdeal.τ).loc Cert.ReferenceMixIdeal.main_arg7) = m' ((c.tc : Thread Cert.ReferenceMixIdeal.nD Cert.ReferenceMixIdeal.τ).loc Cert.ReferenceMixIdeal.main_arg7)
          ∧ r.2.mem ((c.tc : Thread Cert.ReferenceMixIdeal.nD Cert.ReferenceMixIdeal.τ).loc Cert.ReferenceMixIdeal.main_arg8) = m' ((c.tc : Thread Cert.ReferenceMixIdeal.nD Cert.ReferenceMixIdeal.τ).loc Cert.ReferenceMixIdeal.main_arg8)
          ∧ r.2.mem ((c.tc : Thread Cert.ReferenceMixIdeal.nD Cert.ReferenceMixIdeal.τ).loc Cert.ReferenceMixIdeal.main_arg9) = m' ((c.tc : Thread Cert.ReferenceMixIdeal.nD Cert.ReferenceMixIdeal.τ).loc Cert.ReferenceMixIdeal.main_arg9)
          ∧ r.2.mem ((c.tc : Thread Cert.ReferenceMixIdeal.nD Cert.ReferenceMixIdeal.τ).loc Cert.ReferenceMixIdeal.main_arg10) = m' ((c.tc : Thread Cert.ReferenceMixIdeal.nD Cert.ReferenceMixIdeal.τ).loc Cert.ReferenceMixIdeal.main_arg10)
          ∧ r.2.mem ((c.tc : Thread Cert.ReferenceMixIdeal.nD Cert.ReferenceMixIdeal.τ).loc Cert.ReferenceMixIdeal.main_arg11) = m' ((c.tc : Thread Cert.ReferenceMixIdeal.nD Cert.ReferenceMixIdeal.τ).loc Cert.ReferenceMixIdeal.main_arg11)
          ∧ r.2.mem ((c.tc : Thread Cert.ReferenceMixIdeal.nD Cert.ReferenceMixIdeal.τ).loc Cert.ReferenceMixIdeal.main_arg12) = m' ((c.tc : Thread Cert.ReferenceMixIdeal.nD Cert.ReferenceMixIdeal.τ).loc Cert.ReferenceMixIdeal.main_arg12)
          ∧ r.2.mem ((c.tc : Thread Cert.ReferenceMixIdeal.nD Cert.ReferenceMixIdeal.τ).loc Cert.ReferenceMixIdeal.main_arg13) = m' ((c.tc : Thread Cert.ReferenceMixIdeal.nD Cert.ReferenceMixIdeal.τ).loc Cert.ReferenceMixIdeal.main_arg13)
          ∧ r.2.mem ((c.tc : Thread Cert.ReferenceMixIdeal.nD Cert.ReferenceMixIdeal.τ).loc Cert.ReferenceMixIdeal.main_arg14) = m' ((c.tc : Thread Cert.ReferenceMixIdeal.nD Cert.ReferenceMixIdeal.τ).loc Cert.ReferenceMixIdeal.main_arg14)
          ∧ r.2.mem ((c.tc : Thread Cert.ReferenceMixIdeal.nD Cert.ReferenceMixIdeal.τ).loc Cert.ReferenceMixIdeal.main_arg15) = m' ((c.tc : Thread Cert.ReferenceMixIdeal.nD Cert.ReferenceMixIdeal.τ).loc Cert.ReferenceMixIdeal.main_arg15)
          ∧ r.2.mem ((c.tc : Thread Cert.ReferenceMixIdeal.nD Cert.ReferenceMixIdeal.τ).loc Cert.ReferenceMixIdeal.main_arg16) = m' ((c.tc : Thread Cert.ReferenceMixIdeal.nD Cert.ReferenceMixIdeal.τ).loc Cert.ReferenceMixIdeal.main_arg16)
          ∧ r.2.mem ((c.tc : Thread Cert.ReferenceMixIdeal.nD Cert.ReferenceMixIdeal.τ).loc Cert.ReferenceMixIdeal.main_arg17) = m' ((c.tc : Thread Cert.ReferenceMixIdeal.nD Cert.ReferenceMixIdeal.τ).loc Cert.ReferenceMixIdeal.main_arg17))

def preserves_KernelMixf_KernelMixfIdeal : Prop :=
  True

def algebraic_KernelMixfIdeal_ReferenceMixfIdeal [hKernelMixfIdeal : Cert.KernelMixfIdeal.Facts] [hReferenceMixfIdeal : Cert.ReferenceMixfIdeal.Facts] : Prop :=
  ∀ (m : (ℓ : Loc Cert.KernelMixfIdeal.nD Cert.KernelMixfIdeal.τ Cert.KernelMixfIdeal.sig) → Buf (Elt Ideal) ℓ) (g : Dev Cert.KernelMixfIdeal.nD → PrngReg)
    (m' : (ℓ : Loc Cert.ReferenceMixfIdeal.nD Cert.ReferenceMixfIdeal.τ Cert.ReferenceMixfIdeal.sig) → Buf (Elt Ideal) ℓ) (g' : Dev Cert.ReferenceMixfIdeal.nD → PrngReg), Pre_KernelMixfIdeal m →
    (∀ c : Dev Cert.KernelMixfIdeal.nD,
      m' ((c.tc : Thread Cert.ReferenceMixfIdeal.nD Cert.ReferenceMixfIdeal.τ).loc Cert.ReferenceMixfIdeal.main_arg0) = m ((c.tc : Thread Cert.KernelMixfIdeal.nD Cert.KernelMixfIdeal.τ).loc Cert.KernelMixfIdeal.main_arg0)
      ∧ m' ((c.tc : Thread Cert.ReferenceMixfIdeal.nD Cert.ReferenceMixfIdeal.τ).loc Cert.ReferenceMixfIdeal.main_arg1) = m ((c.tc : Thread Cert.KernelMixfIdeal.nD Cert.KernelMixfIdeal.τ).loc Cert.KernelMixfIdeal.main_arg1)
      ∧ m' ((c.tc : Thread Cert.ReferenceMixfIdeal.nD Cert.ReferenceMixfIdeal.τ).loc Cert.ReferenceMixfIdeal.main_arg2) = m ((c.tc : Thread Cert.KernelMixfIdeal.nD Cert.KernelMixfIdeal.τ).loc Cert.KernelMixfIdeal.main_arg2)
      ∧ m' ((c.tc : Thread Cert.ReferenceMixfIdeal.nD Cert.ReferenceMixfIdeal.τ).loc Cert.ReferenceMixfIdeal.main_arg3) = m ((c.tc : Thread Cert.KernelMixfIdeal.nD Cert.KernelMixfIdeal.τ).loc Cert.KernelMixfIdeal.main_arg3)
      ∧ m' ((c.tc : Thread Cert.ReferenceMixfIdeal.nD Cert.ReferenceMixfIdeal.τ).loc Cert.ReferenceMixfIdeal.main_arg4) = m ((c.tc : Thread Cert.KernelMixfIdeal.nD Cert.KernelMixfIdeal.τ).loc Cert.KernelMixfIdeal.main_arg4)
      ∧ m' ((c.tc : Thread Cert.ReferenceMixfIdeal.nD Cert.ReferenceMixfIdeal.τ).loc Cert.ReferenceMixfIdeal.main_arg5) = m ((c.tc : Thread Cert.KernelMixfIdeal.nD Cert.KernelMixfIdeal.τ).loc Cert.KernelMixfIdeal.main_arg5)
      ∧ m' ((c.tc : Thread Cert.ReferenceMixfIdeal.nD Cert.ReferenceMixfIdeal.τ).loc Cert.ReferenceMixfIdeal.main_arg6) = m ((c.tc : Thread Cert.KernelMixfIdeal.nD Cert.KernelMixfIdeal.τ).loc Cert.KernelMixfIdeal.main_arg6)
      ∧ m' ((c.tc : Thread Cert.ReferenceMixfIdeal.nD Cert.ReferenceMixfIdeal.τ).loc Cert.ReferenceMixfIdeal.main_arg7) = m ((c.tc : Thread Cert.KernelMixfIdeal.nD Cert.KernelMixfIdeal.τ).loc Cert.KernelMixfIdeal.main_arg7)
      ∧ m' ((c.tc : Thread Cert.ReferenceMixfIdeal.nD Cert.ReferenceMixfIdeal.τ).loc Cert.ReferenceMixfIdeal.main_arg8) = m ((c.tc : Thread Cert.KernelMixfIdeal.nD Cert.KernelMixfIdeal.τ).loc Cert.KernelMixfIdeal.main_arg8)
      ∧ m' ((c.tc : Thread Cert.ReferenceMixfIdeal.nD Cert.ReferenceMixfIdeal.τ).loc Cert.ReferenceMixfIdeal.main_arg9) = m ((c.tc : Thread Cert.KernelMixfIdeal.nD Cert.KernelMixfIdeal.τ).loc Cert.KernelMixfIdeal.main_arg9)
      ∧ m' ((c.tc : Thread Cert.ReferenceMixfIdeal.nD Cert.ReferenceMixfIdeal.τ).loc Cert.ReferenceMixfIdeal.main_arg10) = m ((c.tc : Thread Cert.KernelMixfIdeal.nD Cert.KernelMixfIdeal.τ).loc Cert.KernelMixfIdeal.main_arg10)
      ∧ m' ((c.tc : Thread Cert.ReferenceMixfIdeal.nD Cert.ReferenceMixfIdeal.τ).loc Cert.ReferenceMixfIdeal.main_arg11) = m ((c.tc : Thread Cert.KernelMixfIdeal.nD Cert.KernelMixfIdeal.τ).loc Cert.KernelMixfIdeal.main_arg11)
      ∧ m' ((c.tc : Thread Cert.ReferenceMixfIdeal.nD Cert.ReferenceMixfIdeal.τ).loc Cert.ReferenceMixfIdeal.main_arg12) = m ((c.tc : Thread Cert.KernelMixfIdeal.nD Cert.KernelMixfIdeal.τ).loc Cert.KernelMixfIdeal.main_arg12)
      ∧ m' ((c.tc : Thread Cert.ReferenceMixfIdeal.nD Cert.ReferenceMixfIdeal.τ).loc Cert.ReferenceMixfIdeal.main_arg13) = m ((c.tc : Thread Cert.KernelMixfIdeal.nD Cert.KernelMixfIdeal.τ).loc Cert.KernelMixfIdeal.main_arg13)
      ∧ m' ((c.tc : Thread Cert.ReferenceMixfIdeal.nD Cert.ReferenceMixfIdeal.τ).loc Cert.ReferenceMixfIdeal.main_arg14) = m ((c.tc : Thread Cert.KernelMixfIdeal.nD Cert.KernelMixfIdeal.τ).loc Cert.KernelMixfIdeal.main_arg14)
      ∧ m' ((c.tc : Thread Cert.ReferenceMixfIdeal.nD Cert.ReferenceMixfIdeal.τ).loc Cert.ReferenceMixfIdeal.main_arg15) = m ((c.tc : Thread Cert.KernelMixfIdeal.nD Cert.KernelMixfIdeal.τ).loc Cert.KernelMixfIdeal.main_arg15)
      ∧ m' ((c.tc : Thread Cert.ReferenceMixfIdeal.nD Cert.ReferenceMixfIdeal.τ).loc Cert.ReferenceMixfIdeal.main_arg16) = m ((c.tc : Thread Cert.KernelMixfIdeal.nD Cert.KernelMixfIdeal.τ).loc Cert.KernelMixfIdeal.main_arg16)
      ∧ m' ((c.tc : Thread Cert.ReferenceMixfIdeal.nD Cert.ReferenceMixfIdeal.τ).loc Cert.ReferenceMixfIdeal.main_arg17) = m ((c.tc : Thread Cert.KernelMixfIdeal.nD Cert.KernelMixfIdeal.τ).loc Cert.KernelMixfIdeal.main_arg17)) →
    ∃ (v0 : (c : Dev Cert.KernelMixfIdeal.nD) → Buf (Elt Ideal) ((c.tc : Thread Cert.KernelMixfIdeal.nD Cert.KernelMixfIdeal.τ).loc Cert.KernelMixfIdeal.main_v7_0)) (v1 : (c : Dev Cert.KernelMixfIdeal.nD) → Buf (Elt Ideal) ((c.tc : Thread Cert.KernelMixfIdeal.nD Cert.KernelMixfIdeal.τ).loc Cert.KernelMixfIdeal.main_v7_1)),
      θ_run (Cert.KernelMixfIdeal.defs (F := Ideal)) (onTc (τ := Cert.KernelMixfIdeal.τ) (Cert.KernelMixfIdeal.main (F := Ideal))) ⟨m, fun _ => 0, g⟩ (fun r => ∀ c : Dev Cert.KernelMixfIdeal.nD,
          r.2.mem ((c.tc : Thread Cert.KernelMixfIdeal.nD Cert.KernelMixfIdeal.τ).loc Cert.KernelMixfIdeal.main_v7_0) = v0 c
          ∧ r.2.mem ((c.tc : Thread Cert.KernelMixfIdeal.nD Cert.KernelMixfIdeal.τ).loc Cert.KernelMixfIdeal.main_v7_1) = v1 c
          ∧ r.2.mem ((c.tc : Thread Cert.KernelMixfIdeal.nD Cert.KernelMixfIdeal.τ).loc Cert.KernelMixfIdeal.main_arg0) = m ((c.tc : Thread Cert.KernelMixfIdeal.nD Cert.KernelMixfIdeal.τ).loc Cert.KernelMixfIdeal.main_arg0)
          ∧ r.2.mem ((c.tc : Thread Cert.KernelMixfIdeal.nD Cert.KernelMixfIdeal.τ).loc Cert.KernelMixfIdeal.main_arg1) = m ((c.tc : Thread Cert.KernelMixfIdeal.nD Cert.KernelMixfIdeal.τ).loc Cert.KernelMixfIdeal.main_arg1)
          ∧ r.2.mem ((c.tc : Thread Cert.KernelMixfIdeal.nD Cert.KernelMixfIdeal.τ).loc Cert.KernelMixfIdeal.main_arg2) = m ((c.tc : Thread Cert.KernelMixfIdeal.nD Cert.KernelMixfIdeal.τ).loc Cert.KernelMixfIdeal.main_arg2)
          ∧ r.2.mem ((c.tc : Thread Cert.KernelMixfIdeal.nD Cert.KernelMixfIdeal.τ).loc Cert.KernelMixfIdeal.main_arg3) = m ((c.tc : Thread Cert.KernelMixfIdeal.nD Cert.KernelMixfIdeal.τ).loc Cert.KernelMixfIdeal.main_arg3)
          ∧ r.2.mem ((c.tc : Thread Cert.KernelMixfIdeal.nD Cert.KernelMixfIdeal.τ).loc Cert.KernelMixfIdeal.main_arg4) = m ((c.tc : Thread Cert.KernelMixfIdeal.nD Cert.KernelMixfIdeal.τ).loc Cert.KernelMixfIdeal.main_arg4)
          ∧ r.2.mem ((c.tc : Thread Cert.KernelMixfIdeal.nD Cert.KernelMixfIdeal.τ).loc Cert.KernelMixfIdeal.main_arg5) = m ((c.tc : Thread Cert.KernelMixfIdeal.nD Cert.KernelMixfIdeal.τ).loc Cert.KernelMixfIdeal.main_arg5)
          ∧ r.2.mem ((c.tc : Thread Cert.KernelMixfIdeal.nD Cert.KernelMixfIdeal.τ).loc Cert.KernelMixfIdeal.main_arg6) = m ((c.tc : Thread Cert.KernelMixfIdeal.nD Cert.KernelMixfIdeal.τ).loc Cert.KernelMixfIdeal.main_arg6)
          ∧ r.2.mem ((c.tc : Thread Cert.KernelMixfIdeal.nD Cert.KernelMixfIdeal.τ).loc Cert.KernelMixfIdeal.main_arg7) = m ((c.tc : Thread Cert.KernelMixfIdeal.nD Cert.KernelMixfIdeal.τ).loc Cert.KernelMixfIdeal.main_arg7)
          ∧ r.2.mem ((c.tc : Thread Cert.KernelMixfIdeal.nD Cert.KernelMixfIdeal.τ).loc Cert.KernelMixfIdeal.main_arg8) = m ((c.tc : Thread Cert.KernelMixfIdeal.nD Cert.KernelMixfIdeal.τ).loc Cert.KernelMixfIdeal.main_arg8)
          ∧ r.2.mem ((c.tc : Thread Cert.KernelMixfIdeal.nD Cert.KernelMixfIdeal.τ).loc Cert.KernelMixfIdeal.main_arg9) = m ((c.tc : Thread Cert.KernelMixfIdeal.nD Cert.KernelMixfIdeal.τ).loc Cert.KernelMixfIdeal.main_arg9)
          ∧ r.2.mem ((c.tc : Thread Cert.KernelMixfIdeal.nD Cert.KernelMixfIdeal.τ).loc Cert.KernelMixfIdeal.main_arg10) = m ((c.tc : Thread Cert.KernelMixfIdeal.nD Cert.KernelMixfIdeal.τ).loc Cert.KernelMixfIdeal.main_arg10)
          ∧ r.2.mem ((c.tc : Thread Cert.KernelMixfIdeal.nD Cert.KernelMixfIdeal.τ).loc Cert.KernelMixfIdeal.main_arg11) = m ((c.tc : Thread Cert.KernelMixfIdeal.nD Cert.KernelMixfIdeal.τ).loc Cert.KernelMixfIdeal.main_arg11)
          ∧ r.2.mem ((c.tc : Thread Cert.KernelMixfIdeal.nD Cert.KernelMixfIdeal.τ).loc Cert.KernelMixfIdeal.main_arg12) = m ((c.tc : Thread Cert.KernelMixfIdeal.nD Cert.KernelMixfIdeal.τ).loc Cert.KernelMixfIdeal.main_arg12)
          ∧ r.2.mem ((c.tc : Thread Cert.KernelMixfIdeal.nD Cert.KernelMixfIdeal.τ).loc Cert.KernelMixfIdeal.main_arg13) = m ((c.tc : Thread Cert.KernelMixfIdeal.nD Cert.KernelMixfIdeal.τ).loc Cert.KernelMixfIdeal.main_arg13)
          ∧ r.2.mem ((c.tc : Thread Cert.KernelMixfIdeal.nD Cert.KernelMixfIdeal.τ).loc Cert.KernelMixfIdeal.main_arg14) = m ((c.tc : Thread Cert.KernelMixfIdeal.nD Cert.KernelMixfIdeal.τ).loc Cert.KernelMixfIdeal.main_arg14)
          ∧ r.2.mem ((c.tc : Thread Cert.KernelMixfIdeal.nD Cert.KernelMixfIdeal.τ).loc Cert.KernelMixfIdeal.main_arg15) = m ((c.tc : Thread Cert.KernelMixfIdeal.nD Cert.KernelMixfIdeal.τ).loc Cert.KernelMixfIdeal.main_arg15)
          ∧ r.2.mem ((c.tc : Thread Cert.KernelMixfIdeal.nD Cert.KernelMixfIdeal.τ).loc Cert.KernelMixfIdeal.main_arg16) = m ((c.tc : Thread Cert.KernelMixfIdeal.nD Cert.KernelMixfIdeal.τ).loc Cert.KernelMixfIdeal.main_arg16)
          ∧ r.2.mem ((c.tc : Thread Cert.KernelMixfIdeal.nD Cert.KernelMixfIdeal.τ).loc Cert.KernelMixfIdeal.main_arg17) = m ((c.tc : Thread Cert.KernelMixfIdeal.nD Cert.KernelMixfIdeal.τ).loc Cert.KernelMixfIdeal.main_arg17))
      ∧ θ_run (Cert.ReferenceMixfIdeal.defs (F := Ideal)) (onTc (τ := Cert.ReferenceMixfIdeal.τ) (Cert.ReferenceMixfIdeal.main (F := Ideal))) ⟨m', fun _ => 0, g'⟩ (fun r => ∀ c : Dev Cert.ReferenceMixfIdeal.nD,
          r.2.mem ((c.tc : Thread Cert.ReferenceMixfIdeal.nD Cert.ReferenceMixfIdeal.τ).loc Cert.ReferenceMixfIdeal.main_v98) = v0 c
          ∧ r.2.mem ((c.tc : Thread Cert.ReferenceMixfIdeal.nD Cert.ReferenceMixfIdeal.τ).loc Cert.ReferenceMixfIdeal.main_v94) = v1 c
          ∧ r.2.mem ((c.tc : Thread Cert.ReferenceMixfIdeal.nD Cert.ReferenceMixfIdeal.τ).loc Cert.ReferenceMixfIdeal.main_arg0) = m' ((c.tc : Thread Cert.ReferenceMixfIdeal.nD Cert.ReferenceMixfIdeal.τ).loc Cert.ReferenceMixfIdeal.main_arg0)
          ∧ r.2.mem ((c.tc : Thread Cert.ReferenceMixfIdeal.nD Cert.ReferenceMixfIdeal.τ).loc Cert.ReferenceMixfIdeal.main_arg1) = m' ((c.tc : Thread Cert.ReferenceMixfIdeal.nD Cert.ReferenceMixfIdeal.τ).loc Cert.ReferenceMixfIdeal.main_arg1)
          ∧ r.2.mem ((c.tc : Thread Cert.ReferenceMixfIdeal.nD Cert.ReferenceMixfIdeal.τ).loc Cert.ReferenceMixfIdeal.main_arg2) = m' ((c.tc : Thread Cert.ReferenceMixfIdeal.nD Cert.ReferenceMixfIdeal.τ).loc Cert.ReferenceMixfIdeal.main_arg2)
          ∧ r.2.mem ((c.tc : Thread Cert.ReferenceMixfIdeal.nD Cert.ReferenceMixfIdeal.τ).loc Cert.ReferenceMixfIdeal.main_arg3) = m' ((c.tc : Thread Cert.ReferenceMixfIdeal.nD Cert.ReferenceMixfIdeal.τ).loc Cert.ReferenceMixfIdeal.main_arg3)
          ∧ r.2.mem ((c.tc : Thread Cert.ReferenceMixfIdeal.nD Cert.ReferenceMixfIdeal.τ).loc Cert.ReferenceMixfIdeal.main_arg4) = m' ((c.tc : Thread Cert.ReferenceMixfIdeal.nD Cert.ReferenceMixfIdeal.τ).loc Cert.ReferenceMixfIdeal.main_arg4)
          ∧ r.2.mem ((c.tc : Thread Cert.ReferenceMixfIdeal.nD Cert.ReferenceMixfIdeal.τ).loc Cert.ReferenceMixfIdeal.main_arg5) = m' ((c.tc : Thread Cert.ReferenceMixfIdeal.nD Cert.ReferenceMixfIdeal.τ).loc Cert.ReferenceMixfIdeal.main_arg5)
          ∧ r.2.mem ((c.tc : Thread Cert.ReferenceMixfIdeal.nD Cert.ReferenceMixfIdeal.τ).loc Cert.ReferenceMixfIdeal.main_arg6) = m' ((c.tc : Thread Cert.ReferenceMixfIdeal.nD Cert.ReferenceMixfIdeal.τ).loc Cert.ReferenceMixfIdeal.main_arg6)
          ∧ r.2.mem ((c.tc : Thread Cert.ReferenceMixfIdeal.nD Cert.ReferenceMixfIdeal.τ).loc Cert.ReferenceMixfIdeal.main_arg7) = m' ((c.tc : Thread Cert.ReferenceMixfIdeal.nD Cert.ReferenceMixfIdeal.τ).loc Cert.ReferenceMixfIdeal.main_arg7)
          ∧ r.2.mem ((c.tc : Thread Cert.ReferenceMixfIdeal.nD Cert.ReferenceMixfIdeal.τ).loc Cert.ReferenceMixfIdeal.main_arg8) = m' ((c.tc : Thread Cert.ReferenceMixfIdeal.nD Cert.ReferenceMixfIdeal.τ).loc Cert.ReferenceMixfIdeal.main_arg8)
          ∧ r.2.mem ((c.tc : Thread Cert.ReferenceMixfIdeal.nD Cert.ReferenceMixfIdeal.τ).loc Cert.ReferenceMixfIdeal.main_arg9) = m' ((c.tc : Thread Cert.ReferenceMixfIdeal.nD Cert.ReferenceMixfIdeal.τ).loc Cert.ReferenceMixfIdeal.main_arg9)
          ∧ r.2.mem ((c.tc : Thread Cert.ReferenceMixfIdeal.nD Cert.ReferenceMixfIdeal.τ).loc Cert.ReferenceMixfIdeal.main_arg10) = m' ((c.tc : Thread Cert.ReferenceMixfIdeal.nD Cert.ReferenceMixfIdeal.τ).loc Cert.ReferenceMixfIdeal.main_arg10)
          ∧ r.2.mem ((c.tc : Thread Cert.ReferenceMixfIdeal.nD Cert.ReferenceMixfIdeal.τ).loc Cert.ReferenceMixfIdeal.main_arg11) = m' ((c.tc : Thread Cert.ReferenceMixfIdeal.nD Cert.ReferenceMixfIdeal.τ).loc Cert.ReferenceMixfIdeal.main_arg11)
          ∧ r.2.mem ((c.tc : Thread Cert.ReferenceMixfIdeal.nD Cert.ReferenceMixfIdeal.τ).loc Cert.ReferenceMixfIdeal.main_arg12) = m' ((c.tc : Thread Cert.ReferenceMixfIdeal.nD Cert.ReferenceMixfIdeal.τ).loc Cert.ReferenceMixfIdeal.main_arg12)
          ∧ r.2.mem ((c.tc : Thread Cert.ReferenceMixfIdeal.nD Cert.ReferenceMixfIdeal.τ).loc Cert.ReferenceMixfIdeal.main_arg13) = m' ((c.tc : Thread Cert.ReferenceMixfIdeal.nD Cert.ReferenceMixfIdeal.τ).loc Cert.ReferenceMixfIdeal.main_arg13)
          ∧ r.2.mem ((c.tc : Thread Cert.ReferenceMixfIdeal.nD Cert.ReferenceMixfIdeal.τ).loc Cert.ReferenceMixfIdeal.main_arg14) = m' ((c.tc : Thread Cert.ReferenceMixfIdeal.nD Cert.ReferenceMixfIdeal.τ).loc Cert.ReferenceMixfIdeal.main_arg14)
          ∧ r.2.mem ((c.tc : Thread Cert.ReferenceMixfIdeal.nD Cert.ReferenceMixfIdeal.τ).loc Cert.ReferenceMixfIdeal.main_arg15) = m' ((c.tc : Thread Cert.ReferenceMixfIdeal.nD Cert.ReferenceMixfIdeal.τ).loc Cert.ReferenceMixfIdeal.main_arg15)
          ∧ r.2.mem ((c.tc : Thread Cert.ReferenceMixfIdeal.nD Cert.ReferenceMixfIdeal.τ).loc Cert.ReferenceMixfIdeal.main_arg16) = m' ((c.tc : Thread Cert.ReferenceMixfIdeal.nD Cert.ReferenceMixfIdeal.τ).loc Cert.ReferenceMixfIdeal.main_arg16)
          ∧ r.2.mem ((c.tc : Thread Cert.ReferenceMixfIdeal.nD Cert.ReferenceMixfIdeal.τ).loc Cert.ReferenceMixfIdeal.main_arg17) = m' ((c.tc : Thread Cert.ReferenceMixfIdeal.nD Cert.ReferenceMixfIdeal.τ).loc Cert.ReferenceMixfIdeal.main_arg17))

def preserves_KernelInf_KernelInfIdeal : Prop :=
  True

def algebraic_KernelInfIdeal_ReferenceInfIdeal [hKernelInfIdeal : Cert.KernelInfIdeal.Facts] [hReferenceInfIdeal : Cert.ReferenceInfIdeal.Facts] : Prop :=
  ∀ (m : (ℓ : Loc Cert.KernelInfIdeal.nD Cert.KernelInfIdeal.τ Cert.KernelInfIdeal.sig) → Buf (Elt Ideal) ℓ) (g : Dev Cert.KernelInfIdeal.nD → PrngReg)
    (m' : (ℓ : Loc Cert.ReferenceInfIdeal.nD Cert.ReferenceInfIdeal.τ Cert.ReferenceInfIdeal.sig) → Buf (Elt Ideal) ℓ) (g' : Dev Cert.ReferenceInfIdeal.nD → PrngReg), Pre_KernelInfIdeal m →
    (∀ c : Dev Cert.KernelInfIdeal.nD,
      m' ((c.tc : Thread Cert.ReferenceInfIdeal.nD Cert.ReferenceInfIdeal.τ).loc Cert.ReferenceInfIdeal.main_arg0) = m ((c.tc : Thread Cert.KernelInfIdeal.nD Cert.KernelInfIdeal.τ).loc Cert.KernelInfIdeal.main_arg0)
      ∧ m' ((c.tc : Thread Cert.ReferenceInfIdeal.nD Cert.ReferenceInfIdeal.τ).loc Cert.ReferenceInfIdeal.main_arg1) = m ((c.tc : Thread Cert.KernelInfIdeal.nD Cert.KernelInfIdeal.τ).loc Cert.KernelInfIdeal.main_arg1)
      ∧ m' ((c.tc : Thread Cert.ReferenceInfIdeal.nD Cert.ReferenceInfIdeal.τ).loc Cert.ReferenceInfIdeal.main_arg2) = m ((c.tc : Thread Cert.KernelInfIdeal.nD Cert.KernelInfIdeal.τ).loc Cert.KernelInfIdeal.main_arg2)
      ∧ m' ((c.tc : Thread Cert.ReferenceInfIdeal.nD Cert.ReferenceInfIdeal.τ).loc Cert.ReferenceInfIdeal.main_arg3) = m ((c.tc : Thread Cert.KernelInfIdeal.nD Cert.KernelInfIdeal.τ).loc Cert.KernelInfIdeal.main_arg3)
      ∧ m' ((c.tc : Thread Cert.ReferenceInfIdeal.nD Cert.ReferenceInfIdeal.τ).loc Cert.ReferenceInfIdeal.main_arg4) = m ((c.tc : Thread Cert.KernelInfIdeal.nD Cert.KernelInfIdeal.τ).loc Cert.KernelInfIdeal.main_arg4)
      ∧ m' ((c.tc : Thread Cert.ReferenceInfIdeal.nD Cert.ReferenceInfIdeal.τ).loc Cert.ReferenceInfIdeal.main_arg5) = m ((c.tc : Thread Cert.KernelInfIdeal.nD Cert.KernelInfIdeal.τ).loc Cert.KernelInfIdeal.main_arg5)) →
    ∃ (v0 : (c : Dev Cert.KernelInfIdeal.nD) → Buf (Elt Ideal) ((c.tc : Thread Cert.KernelInfIdeal.nD Cert.KernelInfIdeal.τ).loc Cert.KernelInfIdeal.main_v1_0)) (v1 : (c : Dev Cert.KernelInfIdeal.nD) → Buf (Elt Ideal) ((c.tc : Thread Cert.KernelInfIdeal.nD Cert.KernelInfIdeal.τ).loc Cert.KernelInfIdeal.main_v1_1)) (v2 : (c : Dev Cert.KernelInfIdeal.nD) → Buf (Elt Ideal) ((c.tc : Thread Cert.KernelInfIdeal.nD Cert.KernelInfIdeal.τ).loc Cert.KernelInfIdeal.main_v1_2)) (v3 : (c : Dev Cert.KernelInfIdeal.nD) → Buf (Elt Ideal) ((c.tc : Thread Cert.KernelInfIdeal.nD Cert.KernelInfIdeal.τ).loc Cert.KernelInfIdeal.main_v1_3)),
      θ_run (Cert.KernelInfIdeal.defs (F := Ideal)) (onTc (τ := Cert.KernelInfIdeal.τ) (Cert.KernelInfIdeal.main (F := Ideal))) ⟨m, fun _ => 0, g⟩ (fun r => ∀ c : Dev Cert.KernelInfIdeal.nD,
          r.2.mem ((c.tc : Thread Cert.KernelInfIdeal.nD Cert.KernelInfIdeal.τ).loc Cert.KernelInfIdeal.main_v1_0) = v0 c
          ∧ r.2.mem ((c.tc : Thread Cert.KernelInfIdeal.nD Cert.KernelInfIdeal.τ).loc Cert.KernelInfIdeal.main_v1_1) = v1 c
          ∧ r.2.mem ((c.tc : Thread Cert.KernelInfIdeal.nD Cert.KernelInfIdeal.τ).loc Cert.KernelInfIdeal.main_v1_2) = v2 c
          ∧ r.2.mem ((c.tc : Thread Cert.KernelInfIdeal.nD Cert.KernelInfIdeal.τ).loc Cert.KernelInfIdeal.main_v1_3) = v3 c
          ∧ r.2.mem ((c.tc : Thread Cert.KernelInfIdeal.nD Cert.KernelInfIdeal.τ).loc Cert.KernelInfIdeal.main_arg0) = m ((c.tc : Thread Cert.KernelInfIdeal.nD Cert.KernelInfIdeal.τ).loc Cert.KernelInfIdeal.main_arg0)
          ∧ r.2.mem ((c.tc : Thread Cert.KernelInfIdeal.nD Cert.KernelInfIdeal.τ).loc Cert.KernelInfIdeal.main_arg1) = m ((c.tc : Thread Cert.KernelInfIdeal.nD Cert.KernelInfIdeal.τ).loc Cert.KernelInfIdeal.main_arg1)
          ∧ r.2.mem ((c.tc : Thread Cert.KernelInfIdeal.nD Cert.KernelInfIdeal.τ).loc Cert.KernelInfIdeal.main_arg2) = m ((c.tc : Thread Cert.KernelInfIdeal.nD Cert.KernelInfIdeal.τ).loc Cert.KernelInfIdeal.main_arg2)
          ∧ r.2.mem ((c.tc : Thread Cert.KernelInfIdeal.nD Cert.KernelInfIdeal.τ).loc Cert.KernelInfIdeal.main_arg3) = m ((c.tc : Thread Cert.KernelInfIdeal.nD Cert.KernelInfIdeal.τ).loc Cert.KernelInfIdeal.main_arg3)
          ∧ r.2.mem ((c.tc : Thread Cert.KernelInfIdeal.nD Cert.KernelInfIdeal.τ).loc Cert.KernelInfIdeal.main_arg4) = m ((c.tc : Thread Cert.KernelInfIdeal.nD Cert.KernelInfIdeal.τ).loc Cert.KernelInfIdeal.main_arg4)
          ∧ r.2.mem ((c.tc : Thread Cert.KernelInfIdeal.nD Cert.KernelInfIdeal.τ).loc Cert.KernelInfIdeal.main_arg5) = m ((c.tc : Thread Cert.KernelInfIdeal.nD Cert.KernelInfIdeal.τ).loc Cert.KernelInfIdeal.main_arg5))
      ∧ θ_run (Cert.ReferenceInfIdeal.defs (F := Ideal)) (onTc (τ := Cert.ReferenceInfIdeal.τ) (Cert.ReferenceInfIdeal.main (F := Ideal))) ⟨m', fun _ => 0, g'⟩ (fun r => ∀ c : Dev Cert.ReferenceInfIdeal.nD,
          r.2.mem ((c.tc : Thread Cert.ReferenceInfIdeal.nD Cert.ReferenceInfIdeal.τ).loc Cert.ReferenceInfIdeal.main_v42) = v0 c
          ∧ r.2.mem ((c.tc : Thread Cert.ReferenceInfIdeal.nD Cert.ReferenceInfIdeal.τ).loc Cert.ReferenceInfIdeal.main_v43) = v1 c
          ∧ r.2.mem ((c.tc : Thread Cert.ReferenceInfIdeal.nD Cert.ReferenceInfIdeal.τ).loc Cert.ReferenceInfIdeal.main_v44) = v2 c
          ∧ r.2.mem ((c.tc : Thread Cert.ReferenceInfIdeal.nD Cert.ReferenceInfIdeal.τ).loc Cert.ReferenceInfIdeal.main_v45) = v3 c
          ∧ r.2.mem ((c.tc : Thread Cert.ReferenceInfIdeal.nD Cert.ReferenceInfIdeal.τ).loc Cert.ReferenceInfIdeal.main_arg0) = m' ((c.tc : Thread Cert.ReferenceInfIdeal.nD Cert.ReferenceInfIdeal.τ).loc Cert.ReferenceInfIdeal.main_arg0)
          ∧ r.2.mem ((c.tc : Thread Cert.ReferenceInfIdeal.nD Cert.ReferenceInfIdeal.τ).loc Cert.ReferenceInfIdeal.main_arg1) = m' ((c.tc : Thread Cert.ReferenceInfIdeal.nD Cert.ReferenceInfIdeal.τ).loc Cert.ReferenceInfIdeal.main_arg1)
          ∧ r.2.mem ((c.tc : Thread Cert.ReferenceInfIdeal.nD Cert.ReferenceInfIdeal.τ).loc Cert.ReferenceInfIdeal.main_arg2) = m' ((c.tc : Thread Cert.ReferenceInfIdeal.nD Cert.ReferenceInfIdeal.τ).loc Cert.ReferenceInfIdeal.main_arg2)
          ∧ r.2.mem ((c.tc : Thread Cert.ReferenceInfIdeal.nD Cert.ReferenceInfIdeal.τ).loc Cert.ReferenceInfIdeal.main_arg3) = m' ((c.tc : Thread Cert.ReferenceInfIdeal.nD Cert.ReferenceInfIdeal.τ).loc Cert.ReferenceInfIdeal.main_arg3)
          ∧ r.2.mem ((c.tc : Thread Cert.ReferenceInfIdeal.nD Cert.ReferenceInfIdeal.τ).loc Cert.ReferenceInfIdeal.main_arg4) = m' ((c.tc : Thread Cert.ReferenceInfIdeal.nD Cert.ReferenceInfIdeal.τ).loc Cert.ReferenceInfIdeal.main_arg4)
          ∧ r.2.mem ((c.tc : Thread Cert.ReferenceInfIdeal.nD Cert.ReferenceInfIdeal.τ).loc Cert.ReferenceInfIdeal.main_arg5) = m' ((c.tc : Thread Cert.ReferenceInfIdeal.nD Cert.ReferenceInfIdeal.τ).loc Cert.ReferenceInfIdeal.main_arg5))

def preserves_KernelModf_KernelModfIdeal : Prop :=
  True

def algebraic_KernelModfIdeal_ReferenceModfIdeal [hKernelModfIdeal : Cert.KernelModfIdeal.Facts] [hReferenceModfIdeal : Cert.ReferenceModfIdeal.Facts] : Prop :=
  ∀ (m : (ℓ : Loc Cert.KernelModfIdeal.nD Cert.KernelModfIdeal.τ Cert.KernelModfIdeal.sig) → Buf (Elt Ideal) ℓ) (g : Dev Cert.KernelModfIdeal.nD → PrngReg)
    (m' : (ℓ : Loc Cert.ReferenceModfIdeal.nD Cert.ReferenceModfIdeal.τ Cert.ReferenceModfIdeal.sig) → Buf (Elt Ideal) ℓ) (g' : Dev Cert.ReferenceModfIdeal.nD → PrngReg), Pre_KernelModfIdeal m →
    (∀ c : Dev Cert.KernelModfIdeal.nD,
      m' ((c.tc : Thread Cert.ReferenceModfIdeal.nD Cert.ReferenceModfIdeal.τ).loc Cert.ReferenceModfIdeal.main_arg0) = m ((c.tc : Thread Cert.KernelModfIdeal.nD Cert.KernelModfIdeal.τ).loc Cert.KernelModfIdeal.main_arg0)
      ∧ m' ((c.tc : Thread Cert.ReferenceModfIdeal.nD Cert.ReferenceModfIdeal.τ).loc Cert.ReferenceModfIdeal.main_arg1) = m ((c.tc : Thread Cert.KernelModfIdeal.nD Cert.KernelModfIdeal.τ).loc Cert.KernelModfIdeal.main_arg1)
      ∧ m' ((c.tc : Thread Cert.ReferenceModfIdeal.nD Cert.ReferenceModfIdeal.τ).loc Cert.ReferenceModfIdeal.main_arg2) = m ((c.tc : Thread Cert.KernelModfIdeal.nD Cert.KernelModfIdeal.τ).loc Cert.KernelModfIdeal.main_arg2)
      ∧ m' ((c.tc : Thread Cert.ReferenceModfIdeal.nD Cert.ReferenceModfIdeal.τ).loc Cert.ReferenceModfIdeal.main_arg3) = m ((c.tc : Thread Cert.KernelModfIdeal.nD Cert.KernelModfIdeal.τ).loc Cert.KernelModfIdeal.main_arg3)) →
    ∃ (v0 : (c : Dev Cert.KernelModfIdeal.nD) → Buf (Elt Ideal) ((c.tc : Thread Cert.KernelModfIdeal.nD Cert.KernelModfIdeal.τ).loc Cert.KernelModfIdeal.main_v4)),
      θ_run (Cert.KernelModfIdeal.defs (F := Ideal)) (onTc (τ := Cert.KernelModfIdeal.τ) (Cert.KernelModfIdeal.main (F := Ideal))) ⟨m, fun _ => 0, g⟩ (fun r => ∀ c : Dev Cert.KernelModfIdeal.nD,
          r.2.mem ((c.tc : Thread Cert.KernelModfIdeal.nD Cert.KernelModfIdeal.τ).loc Cert.KernelModfIdeal.main_v4) = v0 c
          ∧ r.2.mem ((c.tc : Thread Cert.KernelModfIdeal.nD Cert.KernelModfIdeal.τ).loc Cert.KernelModfIdeal.main_arg0) = m ((c.tc : Thread Cert.KernelModfIdeal.nD Cert.KernelModfIdeal.τ).loc Cert.KernelModfIdeal.main_arg0)
          ∧ r.2.mem ((c.tc : Thread Cert.KernelModfIdeal.nD Cert.KernelModfIdeal.τ).loc Cert.KernelModfIdeal.main_arg1) = m ((c.tc : Thread Cert.KernelModfIdeal.nD Cert.KernelModfIdeal.τ).loc Cert.KernelModfIdeal.main_arg1)
          ∧ r.2.mem ((c.tc : Thread Cert.KernelModfIdeal.nD Cert.KernelModfIdeal.τ).loc Cert.KernelModfIdeal.main_arg2) = m ((c.tc : Thread Cert.KernelModfIdeal.nD Cert.KernelModfIdeal.τ).loc Cert.KernelModfIdeal.main_arg2)
          ∧ r.2.mem ((c.tc : Thread Cert.KernelModfIdeal.nD Cert.KernelModfIdeal.τ).loc Cert.KernelModfIdeal.main_arg3) = m ((c.tc : Thread Cert.KernelModfIdeal.nD Cert.KernelModfIdeal.τ).loc Cert.KernelModfIdeal.main_arg3))
      ∧ θ_run (Cert.ReferenceModfIdeal.defs (F := Ideal)) (onTc (τ := Cert.ReferenceModfIdeal.τ) (Cert.ReferenceModfIdeal.main (F := Ideal))) ⟨m', fun _ => 0, g'⟩ (fun r => ∀ c : Dev Cert.ReferenceModfIdeal.nD,
          r.2.mem ((c.tc : Thread Cert.ReferenceModfIdeal.nD Cert.ReferenceModfIdeal.τ).loc Cert.ReferenceModfIdeal.main_v8) = v0 c
          ∧ r.2.mem ((c.tc : Thread Cert.ReferenceModfIdeal.nD Cert.ReferenceModfIdeal.τ).loc Cert.ReferenceModfIdeal.main_arg0) = m' ((c.tc : Thread Cert.ReferenceModfIdeal.nD Cert.ReferenceModfIdeal.τ).loc Cert.ReferenceModfIdeal.main_arg0)
          ∧ r.2.mem ((c.tc : Thread Cert.ReferenceModfIdeal.nD Cert.ReferenceModfIdeal.τ).loc Cert.ReferenceModfIdeal.main_arg1) = m' ((c.tc : Thread Cert.ReferenceModfIdeal.nD Cert.ReferenceModfIdeal.τ).loc Cert.ReferenceModfIdeal.main_arg1)
          ∧ r.2.mem ((c.tc : Thread Cert.ReferenceModfIdeal.nD Cert.ReferenceModfIdeal.τ).loc Cert.ReferenceModfIdeal.main_arg2) = m' ((c.tc : Thread Cert.ReferenceModfIdeal.nD Cert.ReferenceModfIdeal.τ).loc Cert.ReferenceModfIdeal.main_arg2)
          ∧ r.2.mem ((c.tc : Thread Cert.ReferenceModfIdeal.nD Cert.ReferenceModfIdeal.τ).loc Cert.ReferenceModfIdeal.main_arg3) = m' ((c.tc : Thread Cert.ReferenceModfIdeal.nD Cert.ReferenceModfIdeal.τ).loc Cert.ReferenceModfIdeal.main_arg3))

def preserves_KernelSum_KernelSumIdeal : Prop :=
  True

def algebraic_KernelSumIdeal_ReferenceSumIdeal [hKernelSumIdeal : Cert.KernelSumIdeal.Facts] [hReferenceSumIdeal : Cert.ReferenceSumIdeal.Facts] : Prop :=
  ∀ (m : (ℓ : Loc Cert.KernelSumIdeal.nD Cert.KernelSumIdeal.τ Cert.KernelSumIdeal.sig) → Buf (Elt Ideal) ℓ) (g : Dev Cert.KernelSumIdeal.nD → PrngReg)
    (m' : (ℓ : Loc Cert.ReferenceSumIdeal.nD Cert.ReferenceSumIdeal.τ Cert.ReferenceSumIdeal.sig) → Buf (Elt Ideal) ℓ) (g' : Dev Cert.ReferenceSumIdeal.nD → PrngReg), Pre_KernelSumIdeal m →
    (∀ c : Dev Cert.KernelSumIdeal.nD,
      m' ((c.tc : Thread Cert.ReferenceSumIdeal.nD Cert.ReferenceSumIdeal.τ).loc Cert.ReferenceSumIdeal.main_arg0) = m ((c.tc : Thread Cert.KernelSumIdeal.nD Cert.KernelSumIdeal.τ).loc Cert.KernelSumIdeal.main_arg0)) →
    ∃ (v0 : (c : Dev Cert.KernelSumIdeal.nD) → Buf (Elt Ideal) ((c.tc : Thread Cert.KernelSumIdeal.nD Cert.KernelSumIdeal.τ).loc Cert.KernelSumIdeal.main_v1)),
      θ_run (Cert.KernelSumIdeal.defs (F := Ideal)) (onTc (τ := Cert.KernelSumIdeal.τ) (Cert.KernelSumIdeal.main (F := Ideal))) ⟨m, fun _ => 0, g⟩ (fun r => ∀ c : Dev Cert.KernelSumIdeal.nD,
          r.2.mem ((c.tc : Thread Cert.KernelSumIdeal.nD Cert.KernelSumIdeal.τ).loc Cert.KernelSumIdeal.main_v1) = v0 c
          ∧ r.2.mem ((c.tc : Thread Cert.KernelSumIdeal.nD Cert.KernelSumIdeal.τ).loc Cert.KernelSumIdeal.main_arg0) = m ((c.tc : Thread Cert.KernelSumIdeal.nD Cert.KernelSumIdeal.τ).loc Cert.KernelSumIdeal.main_arg0))
      ∧ θ_run (Cert.ReferenceSumIdeal.defs (F := Ideal)) (onTc (τ := Cert.ReferenceSumIdeal.τ) (Cert.ReferenceSumIdeal.main (F := Ideal))) ⟨m', fun _ => 0, g'⟩ (fun r => ∀ c : Dev Cert.ReferenceSumIdeal.nD,
          r.2.mem ((c.tc : Thread Cert.ReferenceSumIdeal.nD Cert.ReferenceSumIdeal.τ).loc Cert.ReferenceSumIdeal.main_v0) = v0 c
          ∧ r.2.mem ((c.tc : Thread Cert.ReferenceSumIdeal.nD Cert.ReferenceSumIdeal.τ).loc Cert.ReferenceSumIdeal.main_arg0) = m' ((c.tc : Thread Cert.ReferenceSumIdeal.nD Cert.ReferenceSumIdeal.τ).loc Cert.ReferenceSumIdeal.main_arg0))

def preserves_KernelAdam_KernelAdamIdeal : Prop :=
  True

def algebraic_KernelAdamIdeal_ReferenceAdamIdeal [hKernelAdamIdeal : Cert.KernelAdamIdeal.Facts] [hReferenceAdamIdeal : Cert.ReferenceAdamIdeal.Facts] : Prop :=
  ∀ (m : (ℓ : Loc Cert.KernelAdamIdeal.nD Cert.KernelAdamIdeal.τ Cert.KernelAdamIdeal.sig) → Buf (Elt Ideal) ℓ) (g : Dev Cert.KernelAdamIdeal.nD → PrngReg)
    (m' : (ℓ : Loc Cert.ReferenceAdamIdeal.nD Cert.ReferenceAdamIdeal.τ Cert.ReferenceAdamIdeal.sig) → Buf (Elt Ideal) ℓ) (g' : Dev Cert.ReferenceAdamIdeal.nD → PrngReg), Pre_KernelAdamIdeal m →
    (∀ c : Dev Cert.KernelAdamIdeal.nD,
      m' ((c.tc : Thread Cert.ReferenceAdamIdeal.nD Cert.ReferenceAdamIdeal.τ).loc Cert.ReferenceAdamIdeal.main_arg0) = m ((c.tc : Thread Cert.KernelAdamIdeal.nD Cert.KernelAdamIdeal.τ).loc Cert.KernelAdamIdeal.main_arg0)
      ∧ m' ((c.tc : Thread Cert.ReferenceAdamIdeal.nD Cert.ReferenceAdamIdeal.τ).loc Cert.ReferenceAdamIdeal.main_arg1) = m ((c.tc : Thread Cert.KernelAdamIdeal.nD Cert.KernelAdamIdeal.τ).loc Cert.KernelAdamIdeal.main_arg1)
      ∧ m' ((c.tc : Thread Cert.ReferenceAdamIdeal.nD Cert.ReferenceAdamIdeal.τ).loc Cert.ReferenceAdamIdeal.main_arg2) = m ((c.tc : Thread Cert.KernelAdamIdeal.nD Cert.KernelAdamIdeal.τ).loc Cert.KernelAdamIdeal.main_arg2)
      ∧ m' ((c.tc : Thread Cert.ReferenceAdamIdeal.nD Cert.ReferenceAdamIdeal.τ).loc Cert.ReferenceAdamIdeal.main_arg3) = m ((c.tc : Thread Cert.KernelAdamIdeal.nD Cert.KernelAdamIdeal.τ).loc Cert.KernelAdamIdeal.main_arg3)
      ∧ m' ((c.tc : Thread Cert.ReferenceAdamIdeal.nD Cert.ReferenceAdamIdeal.τ).loc Cert.ReferenceAdamIdeal.main_arg4) = m ((c.tc : Thread Cert.KernelAdamIdeal.nD Cert.KernelAdamIdeal.τ).loc Cert.KernelAdamIdeal.main_arg4)) →
    ∃ (v0 : (c : Dev Cert.KernelAdamIdeal.nD) → Buf (Elt Ideal) ((c.tc : Thread Cert.KernelAdamIdeal.nD Cert.KernelAdamIdeal.τ).loc Cert.KernelAdamIdeal.main_v0_0)) (v1 : (c : Dev Cert.KernelAdamIdeal.nD) → Buf (Elt Ideal) ((c.tc : Thread Cert.KernelAdamIdeal.nD Cert.KernelAdamIdeal.τ).loc Cert.KernelAdamIdeal.main_v0_1)) (v2 : (c : Dev Cert.KernelAdamIdeal.nD) → Buf (Elt Ideal) ((c.tc : Thread Cert.KernelAdamIdeal.nD Cert.KernelAdamIdeal.τ).loc Cert.KernelAdamIdeal.main_v0_2)) (v3 : (c : Dev Cert.KernelAdamIdeal.nD) → Buf (Elt Ideal) ((c.tc : Thread Cert.KernelAdamIdeal.nD Cert.KernelAdamIdeal.τ).loc Cert.KernelAdamIdeal.main_v0_3)),
      θ_run (Cert.KernelAdamIdeal.defs (F := Ideal)) (onTc (τ := Cert.KernelAdamIdeal.τ) (Cert.KernelAdamIdeal.main (F := Ideal))) ⟨m, fun _ => 0, g⟩ (fun r => ∀ c : Dev Cert.KernelAdamIdeal.nD,
          r.2.mem ((c.tc : Thread Cert.KernelAdamIdeal.nD Cert.KernelAdamIdeal.τ).loc Cert.KernelAdamIdeal.main_v0_0) = v0 c
          ∧ r.2.mem ((c.tc : Thread Cert.KernelAdamIdeal.nD Cert.KernelAdamIdeal.τ).loc Cert.KernelAdamIdeal.main_v0_1) = v1 c
          ∧ r.2.mem ((c.tc : Thread Cert.KernelAdamIdeal.nD Cert.KernelAdamIdeal.τ).loc Cert.KernelAdamIdeal.main_v0_2) = v2 c
          ∧ r.2.mem ((c.tc : Thread Cert.KernelAdamIdeal.nD Cert.KernelAdamIdeal.τ).loc Cert.KernelAdamIdeal.main_v0_3) = v3 c
          ∧ r.2.mem ((c.tc : Thread Cert.KernelAdamIdeal.nD Cert.KernelAdamIdeal.τ).loc Cert.KernelAdamIdeal.main_arg0) = m ((c.tc : Thread Cert.KernelAdamIdeal.nD Cert.KernelAdamIdeal.τ).loc Cert.KernelAdamIdeal.main_arg0)
          ∧ r.2.mem ((c.tc : Thread Cert.KernelAdamIdeal.nD Cert.KernelAdamIdeal.τ).loc Cert.KernelAdamIdeal.main_arg1) = m ((c.tc : Thread Cert.KernelAdamIdeal.nD Cert.KernelAdamIdeal.τ).loc Cert.KernelAdamIdeal.main_arg1)
          ∧ r.2.mem ((c.tc : Thread Cert.KernelAdamIdeal.nD Cert.KernelAdamIdeal.τ).loc Cert.KernelAdamIdeal.main_arg2) = m ((c.tc : Thread Cert.KernelAdamIdeal.nD Cert.KernelAdamIdeal.τ).loc Cert.KernelAdamIdeal.main_arg2)
          ∧ r.2.mem ((c.tc : Thread Cert.KernelAdamIdeal.nD Cert.KernelAdamIdeal.τ).loc Cert.KernelAdamIdeal.main_arg3) = m ((c.tc : Thread Cert.KernelAdamIdeal.nD Cert.KernelAdamIdeal.τ).loc Cert.KernelAdamIdeal.main_arg3)
          ∧ r.2.mem ((c.tc : Thread Cert.KernelAdamIdeal.nD Cert.KernelAdamIdeal.τ).loc Cert.KernelAdamIdeal.main_arg4) = m ((c.tc : Thread Cert.KernelAdamIdeal.nD Cert.KernelAdamIdeal.τ).loc Cert.KernelAdamIdeal.main_arg4))
      ∧ θ_run (Cert.ReferenceAdamIdeal.defs (F := Ideal)) (onTc (τ := Cert.ReferenceAdamIdeal.τ) (Cert.ReferenceAdamIdeal.main (F := Ideal))) ⟨m', fun _ => 0, g'⟩ (fun r => ∀ c : Dev Cert.ReferenceAdamIdeal.nD,
          r.2.mem ((c.tc : Thread Cert.ReferenceAdamIdeal.nD Cert.ReferenceAdamIdeal.τ).loc Cert.ReferenceAdamIdeal.main_v0) = v0 c
          ∧ r.2.mem ((c.tc : Thread Cert.ReferenceAdamIdeal.nD Cert.ReferenceAdamIdeal.τ).loc Cert.ReferenceAdamIdeal.main_v24) = v1 c
          ∧ r.2.mem ((c.tc : Thread Cert.ReferenceAdamIdeal.nD Cert.ReferenceAdamIdeal.τ).loc Cert.ReferenceAdamIdeal.main_v5) = v2 c
          ∧ r.2.mem ((c.tc : Thread Cert.ReferenceAdamIdeal.nD Cert.ReferenceAdamIdeal.τ).loc Cert.ReferenceAdamIdeal.main_v11) = v3 c
          ∧ r.2.mem ((c.tc : Thread Cert.ReferenceAdamIdeal.nD Cert.ReferenceAdamIdeal.τ).loc Cert.ReferenceAdamIdeal.main_arg0) = m' ((c.tc : Thread Cert.ReferenceAdamIdeal.nD Cert.ReferenceAdamIdeal.τ).loc Cert.ReferenceAdamIdeal.main_arg0)
          ∧ r.2.mem ((c.tc : Thread Cert.ReferenceAdamIdeal.nD Cert.ReferenceAdamIdeal.τ).loc Cert.ReferenceAdamIdeal.main_arg1) = m' ((c.tc : Thread Cert.ReferenceAdamIdeal.nD Cert.ReferenceAdamIdeal.τ).loc Cert.ReferenceAdamIdeal.main_arg1)
          ∧ r.2.mem ((c.tc : Thread Cert.ReferenceAdamIdeal.nD Cert.ReferenceAdamIdeal.τ).loc Cert.ReferenceAdamIdeal.main_arg2) = m' ((c.tc : Thread Cert.ReferenceAdamIdeal.nD Cert.ReferenceAdamIdeal.τ).loc Cert.ReferenceAdamIdeal.main_arg2)
          ∧ r.2.mem ((c.tc : Thread Cert.ReferenceAdamIdeal.nD Cert.ReferenceAdamIdeal.τ).loc Cert.ReferenceAdamIdeal.main_arg3) = m' ((c.tc : Thread Cert.ReferenceAdamIdeal.nD Cert.ReferenceAdamIdeal.τ).loc Cert.ReferenceAdamIdeal.main_arg3)
          ∧ r.2.mem ((c.tc : Thread Cert.ReferenceAdamIdeal.nD Cert.ReferenceAdamIdeal.τ).loc Cert.ReferenceAdamIdeal.main_arg4) = m' ((c.tc : Thread Cert.ReferenceAdamIdeal.nD Cert.ReferenceAdamIdeal.τ).loc Cert.ReferenceAdamIdeal.main_arg4))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)
      ∧ m' ((c.tc : Thread Cert.ReferenceAdaIdeal.nD Cert.ReferenceAdaIdeal.τ).loc Cert.ReferenceAdaIdeal.main_arg2) = m ((c.tc : Thread Cert.KernelAdaIdeal.nD Cert.KernelAdaIdeal.τ).loc Cert.KernelAdaIdeal.main_arg2)
      ∧ m' ((c.tc : Thread Cert.ReferenceAdaIdeal.nD Cert.ReferenceAdaIdeal.τ).loc Cert.ReferenceAdaIdeal.main_arg3) = m ((c.tc : Thread Cert.KernelAdaIdeal.nD Cert.KernelAdaIdeal.τ).loc Cert.KernelAdaIdeal.main_arg3)
      ∧ m' ((c.tc : Thread Cert.ReferenceAdaIdeal.nD Cert.ReferenceAdaIdeal.τ).loc Cert.ReferenceAdaIdeal.main_arg4) = m ((c.tc : Thread Cert.KernelAdaIdeal.nD Cert.KernelAdaIdeal.τ).loc Cert.KernelAdaIdeal.main_arg4)) →
    ∃ (v0 : (c : Dev Cert.KernelAdaIdeal.nD) → Buf (Elt Ideal) ((c.tc : Thread Cert.KernelAdaIdeal.nD Cert.KernelAdaIdeal.τ).loc Cert.KernelAdaIdeal.main_v12_0)) (v1 : (c : Dev Cert.KernelAdaIdeal.nD) → Buf (Elt Ideal) ((c.tc : Thread Cert.KernelAdaIdeal.nD Cert.KernelAdaIdeal.τ).loc Cert.KernelAdaIdeal.main_v12_1)) (v2 : (c : Dev Cert.KernelAdaIdeal.nD) → Buf (Elt Ideal) ((c.tc : Thread Cert.KernelAdaIdeal.nD Cert.KernelAdaIdeal.τ).loc Cert.KernelAdaIdeal.main_v12_2)) (v3 : (c : Dev Cert.KernelAdaIdeal.nD) → Buf (Elt Ideal) ((c.tc : Thread Cert.KernelAdaIdeal.nD Cert.KernelAdaIdeal.τ).loc Cert.KernelAdaIdeal.main_v12_3)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v12_0) = v0 c
          ∧ r.2.mem ((c.tc : Thread Cert.KernelAdaIdeal.nD Cert.KernelAdaIdeal.τ).loc Cert.KernelAdaIdeal.main_v12_1) = v1 c
          ∧ r.2.mem ((c.tc : Thread Cert.KernelAdaIdeal.nD Cert.KernelAdaIdeal.τ).loc Cert.KernelAdaIdeal.main_v12_2) = v2 c
          ∧ r.2.mem ((c.tc : Thread Cert.KernelAdaIdeal.nD Cert.KernelAdaIdeal.τ).loc Cert.KernelAdaIdeal.main_v12_3) = v3 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
          ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
          ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3)
          ∧ r.2.mem ((c.tc : Thread Cert.KernelAdaIdeal.nD Cert.KernelAdaIdeal.τ).loc Cert.KernelAdaIdeal.main_arg4) = m ((c.tc : Thread Cert.KernelAdaIdeal.nD Cert.KernelAdaIdeal.τ).loc Cert.KernelAdaIdeal.main_arg4))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v3) = v0 c
          ∧ r.2.mem ((c.tc : Thread Cert.ReferenceAdaIdeal.nD Cert.ReferenceAdaIdeal.τ).loc Cert.ReferenceAdaIdeal.main_v27) = v1 c
          ∧ r.2.mem ((c.tc : Thread Cert.ReferenceAdaIdeal.nD Cert.ReferenceAdaIdeal.τ).loc Cert.ReferenceAdaIdeal.main_v8) = v2 c
          ∧ r.2.mem ((c.tc : Thread Cert.ReferenceAdaIdeal.nD Cert.ReferenceAdaIdeal.τ).loc Cert.ReferenceAdaIdeal.main_v14) = v3 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1)
          ∧ r.2.mem ((c.tc : Thread Cert.ReferenceAdaIdeal.nD Cert.ReferenceAdaIdeal.τ).loc Cert.ReferenceAdaIdeal.main_arg2) = m' ((c.tc : Thread Cert.ReferenceAdaIdeal.nD Cert.ReferenceAdaIdeal.τ).loc Cert.ReferenceAdaIdeal.main_arg2)
          ∧ r.2.mem ((c.tc : Thread Cert.ReferenceAdaIdeal.nD Cert.ReferenceAdaIdeal.τ).loc Cert.ReferenceAdaIdeal.main_arg3) = m' ((c.tc : Thread Cert.ReferenceAdaIdeal.nD Cert.ReferenceAdaIdeal.τ).loc Cert.ReferenceAdaIdeal.main_arg3)
          ∧ r.2.mem ((c.tc : Thread Cert.ReferenceAdaIdeal.nD Cert.ReferenceAdaIdeal.τ).loc Cert.ReferenceAdaIdeal.main_arg4) = m' ((c.tc : Thread Cert.ReferenceAdaIdeal.nD Cert.ReferenceAdaIdeal.τ).loc Cert.ReferenceAdaIdeal.main_arg4))

def preserves_KernelWg_KernelWgIdeal : Prop :=
  True

def algebraic_KernelWgIdeal_ReferenceWgIdeal [hKernelWgIdeal : Cert.KernelWgIdeal.Facts] [hReferenceWgIdeal : Cert.ReferenceWgIdeal.Facts] : Prop :=
  ∀ (m : (ℓ : Loc Cert.KernelWgIdeal.nD Cert.KernelWgIdeal.τ Cert.KernelWgIdeal.sig) → Buf (Elt Ideal) ℓ) (g : Dev Cert.KernelWgIdeal.nD → PrngReg)
    (m' : (ℓ : Loc Cert.ReferenceWgIdeal.nD Cert.ReferenceWgIdeal.τ Cert.ReferenceWgIdeal.sig) → Buf (Elt Ideal) ℓ) (g' : Dev Cert.ReferenceWgIdeal.nD → PrngReg), Pre_KernelWgIdeal m →
    (∀ c : Dev Cert.KernelWgIdeal.nD,
      m' ((c.tc : Thread Cert.ReferenceWgIdeal.nD Cert.ReferenceWgIdeal.τ).loc Cert.ReferenceWgIdeal.main_arg0) = m ((c.tc : Thread Cert.KernelWgIdeal.nD Cert.KernelWgIdeal.τ).loc Cert.KernelWgIdeal.main_arg0)
      ∧ m' ((c.tc : Thread Cert.ReferenceWgIdeal.nD Cert.ReferenceWgIdeal.τ).loc Cert.ReferenceWgIdeal.main_arg1) = m ((c.tc : Thread Cert.KernelWgIdeal.nD Cert.KernelWgIdeal.τ).loc Cert.KernelWgIdeal.main_arg1)) →
    ∃ (v0 : (c : Dev Cert.KernelWgIdeal.nD) → Buf (Elt Ideal) ((c.tc : Thread Cert.KernelWgIdeal.nD Cert.KernelWgIdeal.τ).loc Cert.KernelWgIdeal.main_v2)),
      θ_run (Cert.KernelWgIdeal.defs (F := Ideal)) (onTc (τ := Cert.KernelWgIdeal.τ) (Cert.KernelWgIdeal.main (F := Ideal))) ⟨m, fun _ => 0, g⟩ (fun r => ∀ c : Dev Cert.KernelWgIdeal.nD,
          r.2.mem ((c.tc : Thread Cert.KernelWgIdeal.nD Cert.KernelWgIdeal.τ).loc Cert.KernelWgIdeal.main_v2) = v0 c
          ∧ r.2.mem ((c.tc : Thread Cert.KernelWgIdeal.nD Cert.KernelWgIdeal.τ).loc Cert.KernelWgIdeal.main_arg0) = m ((c.tc : Thread Cert.KernelWgIdeal.nD Cert.KernelWgIdeal.τ).loc Cert.KernelWgIdeal.main_arg0)
          ∧ r.2.mem ((c.tc : Thread Cert.KernelWgIdeal.nD Cert.KernelWgIdeal.τ).loc Cert.KernelWgIdeal.main_arg1) = m ((c.tc : Thread Cert.KernelWgIdeal.nD Cert.KernelWgIdeal.τ).loc Cert.KernelWgIdeal.main_arg1))
      ∧ θ_run (Cert.ReferenceWgIdeal.defs (F := Ideal)) (onTc (τ := Cert.ReferenceWgIdeal.τ) (Cert.ReferenceWgIdeal.main (F := Ideal))) ⟨m', fun _ => 0, g'⟩ (fun r => ∀ c : Dev Cert.ReferenceWgIdeal.nD,
          r.2.mem ((c.tc : Thread Cert.ReferenceWgIdeal.nD Cert.ReferenceWgIdeal.τ).loc Cert.ReferenceWgIdeal.main_v2) = v0 c
          ∧ r.2.mem ((c.tc : Thread Cert.ReferenceWgIdeal.nD Cert.ReferenceWgIdeal.τ).loc Cert.ReferenceWgIdeal.main_arg0) = m' ((c.tc : Thread Cert.ReferenceWgIdeal.nD Cert.ReferenceWgIdeal.τ).loc Cert.ReferenceWgIdeal.main_arg0)
          ∧ r.2.mem ((c.tc : Thread Cert.ReferenceWgIdeal.nD Cert.ReferenceWgIdeal.τ).loc Cert.ReferenceWgIdeal.main_arg1) = m' ((c.tc : Thread Cert.ReferenceWgIdeal.nD Cert.ReferenceWgIdeal.τ).loc Cert.ReferenceWgIdeal.main_arg1))

def Claim : Prop :=
  ∃ (hKernelAct : Cert.KernelAct.Facts) (hKernelActIdeal : Cert.KernelActIdeal.Facts) (hReferenceActIdeal : Cert.ReferenceActIdeal.Facts) (hKernelConv : Cert.KernelConv.Facts) (hKernelConvIdeal : Cert.KernelConvIdeal.Facts) (hReferenceConvIdeal : Cert.ReferenceConvIdeal.Facts) (hKernelCtx : Cert.KernelCtx.Facts) (hKernelCtxIdeal : Cert.KernelCtxIdeal.Facts) (hReferenceCtxIdeal : Cert.ReferenceCtxIdeal.Facts) (hKernelUpb : Cert.KernelUpb.Facts) (hKernelUpbIdeal : Cert.KernelUpbIdeal.Facts) (hReferenceUpbIdeal : Cert.ReferenceUpbIdeal.Facts) (hKernelInb : Cert.KernelInb.Facts) (hKernelInbIdeal : Cert.KernelInbIdeal.Facts) (hReferenceInbIdeal : Cert.ReferenceInbIdeal.Facts) (hKernelDown : Cert.KernelDown.Facts) (hKernelDownIdeal : Cert.KernelDownIdeal.Facts) (hReferenceDownIdeal : Cert.ReferenceDownIdeal.Facts) (hKernelDiscb : Cert.KernelDiscb.Facts) (hKernelDiscbIdeal : Cert.KernelDiscbIdeal.Facts) (hReferenceDiscbIdeal : Cert.ReferenceDiscbIdeal.Facts) (hKernelDisc : Cert.KernelDisc.Facts) (hKernelDiscIdeal : Cert.KernelDiscIdeal.Facts) (hReferenceDiscIdeal : Cert.ReferenceDiscIdeal.Facts) (hKernelUpf : Cert.KernelUpf.Facts) (hKernelUpfIdeal : Cert.KernelUpfIdeal.Facts) (hReferenceUpfIdeal : Cert.ReferenceUpfIdeal.Facts) (hKernelMix : Cert.KernelMix.Facts) (hKernelMixIdeal : Cert.KernelMixIdeal.Facts) (hReferenceMixIdeal : Cert.ReferenceMixIdeal.Facts) (hKernelMixf : Cert.KernelMixf.Facts) (hKernelMixfIdeal : Cert.KernelMixfIdeal.Facts) (hReferenceMixfIdeal : Cert.ReferenceMixfIdeal.Facts) (hKernelInf : Cert.KernelInf.Facts) (hKernelInfIdeal : Cert.KernelInfIdeal.Facts) (hReferenceInfIdeal : Cert.ReferenceInfIdeal.Facts) (hKernelModf : Cert.KernelModf.Facts) (hKernelModfIdeal : Cert.KernelModfIdeal.Facts) (hReferenceModfIdeal : Cert.ReferenceModfIdeal.Facts) (hKernelSum : Cert.KernelSum.Facts) (hKernelSumIdeal : Cert.KernelSumIdeal.Facts) (hReferenceSumIdeal : Cert.ReferenceSumIdeal.Facts) (hKernelAdam : Cert.KernelAdam.Facts) (hKernelAdamIdeal : Cert.KernelAdamIdeal.Facts) (hReferenceAdamIdeal : Cert.ReferenceAdamIdeal.Facts) (hKernelAda : Cert.KernelAda.Facts) (hKernelAdaIdeal : Cert.KernelAdaIdeal.Facts) (hReferenceAdaIdeal : Cert.ReferenceAdaIdeal.Facts) (hKernelWg : Cert.KernelWg.Facts) (hKernelWgIdeal : Cert.KernelWgIdeal.Facts) (hReferenceWgIdeal : Cert.ReferenceWgIdeal.Facts) (hPre_finite_act : Cert.Pre_finite_act.Facts) (hPre_finite_ctx : Cert.Pre_finite_ctx.Facts),
    quiescent_KernelAct (hKernelAct := hKernelAct)
    ∧ quiescent_KernelActIdeal (hKernelActIdeal := hKernelActIdeal)
    ∧ quiescent_KernelActIdeal_pre_finite_act (hKernelActIdeal := hKernelActIdeal) (hPre_finite_act := hPre_finite_act)
    ∧ quiescent_ReferenceActIdeal (hReferenceActIdeal := hReferenceActIdeal)
    ∧ quiescent_ReferenceActIdeal_pre_finite_act (hReferenceActIdeal := hReferenceActIdeal) (hPre_finite_act := hPre_finite_act)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelCtx (hKernelCtx := hKernelCtx)
    ∧ quiescent_KernelCtxIdeal (hKernelCtxIdeal := hKernelCtxIdeal)
    ∧ quiescent_KernelCtxIdeal_pre_finite_ctx (hKernelCtxIdeal := hKernelCtxIdeal) (hPre_finite_ctx := hPre_finite_ctx)
    ∧ quiescent_ReferenceCtxIdeal (hReferenceCtxIdeal := hReferenceCtxIdeal)
    ∧ quiescent_ReferenceCtxIdeal_pre_finite_ctx (hReferenceCtxIdeal := hReferenceCtxIdeal) (hPre_finite_ctx := hPre_finite_ctx)
    ∧ quiescent_KernelUpb (hKernelUpb := hKernelUpb)
    ∧ quiescent_KernelUpbIdeal (hKernelUpbIdeal := hKernelUpbIdeal)
    ∧ quiescent_ReferenceUpbIdeal (hReferenceUpbIdeal := hReferenceUpbIdeal)
    ∧ quiescent_KernelInb (hKernelInb := hKernelInb)
    ∧ quiescent_KernelInbIdeal (hKernelInbIdeal := hKernelInbIdeal)
    ∧ quiescent_ReferenceInbIdeal (hReferenceInbIdeal := hReferenceInbIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelDiscb (hKernelDiscb := hKernelDiscb)
    ∧ quiescent_KernelDiscbIdeal (hKernelDiscbIdeal := hKernelDiscbIdeal)
    ∧ quiescent_ReferenceDiscbIdeal (hReferenceDiscbIdeal := hReferenceDiscbIdeal)
    ∧ quiescent_KernelDisc (hKernelDisc := hKernelDisc)
    ∧ quiescent_KernelDiscIdeal (hKernelDiscIdeal := hKernelDiscIdeal)
    ∧ quiescent_ReferenceDiscIdeal (hReferenceDiscIdeal := hReferenceDiscIdeal)
    ∧ quiescent_KernelUpf (hKernelUpf := hKernelUpf)
    ∧ quiescent_KernelUpfIdeal (hKernelUpfIdeal := hKernelUpfIdeal)
    ∧ quiescent_ReferenceUpfIdeal (hReferenceUpfIdeal := hReferenceUpfIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelMixf (hKernelMixf := hKernelMixf)
    ∧ quiescent_KernelMixfIdeal (hKernelMixfIdeal := hKernelMixfIdeal)
    ∧ quiescent_ReferenceMixfIdeal (hReferenceMixfIdeal := hReferenceMixfIdeal)
    ∧ quiescent_KernelInf (hKernelInf := hKernelInf)
    ∧ quiescent_KernelInfIdeal (hKernelInfIdeal := hKernelInfIdeal)
    ∧ quiescent_ReferenceInfIdeal (hReferenceInfIdeal := hReferenceInfIdeal)
    ∧ quiescent_KernelModf (hKernelModf := hKernelModf)
    ∧ quiescent_KernelModfIdeal (hKernelModfIdeal := hKernelModfIdeal)
    ∧ quiescent_ReferenceModfIdeal (hReferenceModfIdeal := hReferenceModfIdeal)
    ∧ quiescent_KernelSum (hKernelSum := hKernelSum)
    ∧ quiescent_KernelSumIdeal (hKernelSumIdeal := hKernelSumIdeal)
    ∧ quiescent_ReferenceSumIdeal (hReferenceSumIdeal := hReferenceSumIdeal)
    ∧ quiescent_KernelAdam (hKernelAdam := hKernelAdam)
    ∧ quiescent_KernelAdamIdeal (hKernelAdamIdeal := hKernelAdamIdeal)
    ∧ quiescent_ReferenceAdamIdeal (hReferenceAdamIdeal := hReferenceAdamIdeal)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ quiescent_KernelWg (hKernelWg := hKernelWg)
    ∧ quiescent_KernelWgIdeal (hKernelWgIdeal := hKernelWgIdeal)
    ∧ quiescent_ReferenceWgIdeal (hReferenceWgIdeal := hReferenceWgIdeal)
    ∧ preserves_KernelAct_KernelActIdeal
    ∧ algebraic_KernelActIdeal_ReferenceActIdeal_pre_finite_act (hKernelActIdeal := hKernelActIdeal) (hReferenceActIdeal := hReferenceActIdeal) (hPre_finite_act := hPre_finite_act)
    ∧ preserves_KernelConv_KernelConvIdeal
    ∧ algebraic_KernelConvIdeal_ReferenceConvIdeal (hKernelConvIdeal := hKernelConvIdeal) (hReferenceConvIdeal := hReferenceConvIdeal)
    ∧ preserves_KernelCtx_KernelCtxIdeal
    ∧ algebraic_KernelCtxIdeal_ReferenceCtxIdeal_pre_finite_ctx (hKernelCtxIdeal := hKernelCtxIdeal) (hReferenceCtxIdeal := hReferenceCtxIdeal) (hPre_finite_ctx := hPre_finite_ctx)
    ∧ preserves_KernelUpb_KernelUpbIdeal
    ∧ algebraic_KernelUpbIdeal_ReferenceUpbIdeal (hKernelUpbIdeal := hKernelUpbIdeal) (hReferenceUpbIdeal := hReferenceUpbIdeal)
    ∧ preserves_KernelInb_KernelInbIdeal
    ∧ algebraic_KernelInbIdeal_ReferenceInbIdeal (hKernelInbIdeal := hKernelInbIdeal) (hReferenceInbIdeal := hReferenceInbIdeal)
    ∧ preserves_KernelDown_KernelDownIdeal
    ∧ algebraic_KernelDownIdeal_ReferenceDownIdeal (hKernelDownIdeal := hKernelDownIdeal) (hReferenceDownIdeal := hReferenceDownIdeal)
    ∧ preserves_KernelDiscb_KernelDiscbIdeal
    ∧ algebraic_KernelDiscbIdeal_ReferenceDiscbIdeal (hKernelDiscbIdeal := hKernelDiscbIdeal) (hReferenceDiscbIdeal := hReferenceDiscbIdeal)
    ∧ preserves_KernelDisc_KernelDiscIdeal
    ∧ algebraic_KernelDiscIdeal_ReferenceDiscIdeal (hKernelDiscIdeal := hKernelDiscIdeal) (hReferenceDiscIdeal := hReferenceDiscIdeal)
    ∧ preserves_KernelUpf_KernelUpfIdeal
    ∧ algebraic_KernelUpfIdeal_ReferenceUpfIdeal (hKernelUpfIdeal := hKernelUpfIdeal) (hReferenceUpfIdeal := hReferenceUpfIdeal)
    ∧ preserves_KernelMix_KernelMixIdeal
    ∧ algebraic_KernelMixIdeal_ReferenceMixIdeal (hKernelMixIdeal := hKernelMixIdeal) (hReferenceMixIdeal := hReferenceMixIdeal)
    ∧ preserves_KernelMixf_KernelMixfIdeal
    ∧ algebraic_KernelMixfIdeal_ReferenceMixfIdeal (hKernelMixfIdeal := hKernelMixfIdeal) (hReferenceMixfIdeal := hReferenceMixfIdeal)
    ∧ preserves_KernelInf_KernelInfIdeal
    ∧ algebraic_KernelInfIdeal_ReferenceInfIdeal (hKernelInfIdeal := hKernelInfIdeal) (hReferenceInfIdeal := hReferenceInfIdeal)
    ∧ preserves_KernelModf_KernelModfIdeal
    ∧ algebraic_KernelModfIdeal_ReferenceModfIdeal (hKernelModfIdeal := hKernelModfIdeal) (hReferenceModfIdeal := hReferenceModfIdeal)
    ∧ preserves_KernelSum_KernelSumIdeal
    ∧ algebraic_KernelSumIdeal_ReferenceSumIdeal (hKernelSumIdeal := hKernelSumIdeal) (hReferenceSumIdeal := hReferenceSumIdeal)
    ∧ preserves_KernelAdam_KernelAdamIdeal
    ∧ algebraic_KernelAdamIdeal_ReferenceAdamIdeal (hKernelAdamIdeal := hKernelAdamIdeal) (hReferenceAdamIdeal := hReferenceAdamIdeal)
    ∧ preserves_KernelAda_KernelAdaIdeal
    ∧ algebraic_KernelAdaIdeal_ReferenceAdaIdeal (hKernelAdaIdeal := hKernelAdaIdeal) (hReferenceAdaIdeal := hReferenceAdaIdeal)
    ∧ preserves_KernelWg_KernelWgIdeal
    ∧ algebraic_KernelWgIdeal_ReferenceWgIdeal (hKernelWgIdeal := hKernelWgIdeal) (hReferenceWgIdeal := hReferenceWgIdeal)
-- ==== Pre_finite_act.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x2816 .f32) (main_arg1 : FVec F S8192x2816 .f32) (main_arg2 : FVec F S2816x1024 .f32) (main_arg3 : FVec F S8192x1024 .f32) : IVec S8192x2816 1 × IVec S2816x1024 1 × IVec S8192x1024 1 :=
  let main_v0 : FVec F S8192x2816 .f32 := Host.absf main_arg1
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_v3 : FVec F S2816x1024 .f32 := Host.absf main_arg2
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S8192x1024 .f32 := Host.absf main_arg3
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_finite_ctx.lean ====
abbrev S1x1024 : Shape := ⟨2, ![1, 1024]⟩
abbrev S1024 : Shape := ⟨1, ![1024]⟩
abbrev S1024x6144 : Shape := ⟨2, ![1024, 6144]⟩
abbrev S1x2048 : Shape := ⟨2, ![1, 2048]⟩
abbrev S_ : Shape := ⟨0, ![]⟩

class Facts : Prop where
  bcast_S_S1024x6144 : S_.BroadcastsInDim S1024x6144 (![] : Fin 0 → Fin S1024x6144.rank)
  bcast_S_S1x2048 : S_.BroadcastsInDim S1x2048 (![] : Fin 0 → Fin S1x2048.rank)

variable [Facts]

def fn {F : FTy → Type} [FloatOps F] (main_arg0 : FVec F S1x1024 .f32) (main_arg1 : FVec F S1024 .f32) (main_arg2 : FVec F S1024x6144 .f32) (main_arg3 : FVec F S1x2048 .f32) : IVec S1024x6144 1 × IVec S1x2048 1 :=
  let main_v0 : FVec F S1024x6144 .f32 := Host.absf main_arg2
  let main_cst : FVec F S_ .f32 := constant S_ .f32 0x7F800000#32
  let main_v1 : FVec F S1024x6144 .f32 := broadcastInDim S1024x6144 ![] bcast_S_S1024x6144 main_cst
  let main_v2 : IVec S1024x6144 1 := cmpf .olt main_v0 main_v1
  let main_v3 : FVec F S1x2048 .f32 := Host.absf main_arg3
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  (main_v2, main_v5)
-- ==== KernelAct.lean ====
abbrev S8192x2816 : Shape := ⟨2, ![8192, 2816]⟩
abbrev S2816x1024 : Shape := ⟨2, ![2816, 1024]⟩
abbrev S8192x1024 : Shape := ⟨2, ![8192, 1024]⟩
abbrev S256x1408 : Shape := ⟨2, ![256, 1408]⟩
abbrev S1408x1024 : Shape := ⟨2, ![1408, 1024]⟩
abbrev S256x1024 : Shape := ⟨2, ![256, 1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S2816x1024, .bf16⟩
  | .hbm, ⟨5, _⟩ => ⟨S8192x1024, .bf16⟩
  | .hbm, ⟨6, _⟩ => ⟨S8192x2816, .f32⟩
  | .hbm, ⟨7, _⟩ => ⟨S8192x2816, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S1408x1024, .bf16⟩
  | .local _ .vmem, ⟨5, _⟩ => ⟨S1408x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceActIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩

abbrev nD : Nat := 1
abbrev τ : Topo := Topo.v7x

variable {F : FTy → Type} [FloatOps F]
-- ==== KernelConv.lean ====
abbrev S8192x2816 : Shape := ⟨2, ![8192, 2816]⟩
abbrev S3x3x2816 : Shape := ⟨3, ![3, 3, 2816]⟩
abbrev S1x2816 : Shape := ⟨2, ![1, 2816]⟩
abbrev S9x2816 : Shape := ⟨2, ![9, 2816]⟩
abbrev S16x2816 : Shape := ⟨2, ![16, 2816]⟩
abbrev S64x1408 : Shape := ⟨2, ![64, 1408]⟩
abbrev S256x1408 : Shape := ⟨2, ![256, 1408]⟩
abbrev S9x1408 : Shape := ⟨2, ![9, 1408]⟩
abbrev S16x1408 : Shape := ⟨2, ![16, 1408]⟩
abbrev S384x1408 : Shape := ⟨2, ![384, 1408]⟩
abbrev S256x1 : Shape := ⟨2, ![256, 1]⟩
abbrev S1x1408 : Shape := ⟨2, ![1, 1408]⟩
abbrev S1408 : Shape := ⟨1, ![1408]⟩

abbrev nBuf : Space → Nat
  | .hbm => 7
  | .vmem => 18
  | .smem => 0
  | _ => 0

abbrev bufTy : (tb : Table) → Fin (tcTables nBuf tb) → BufTy
  | .hbm, ⟨0, _⟩ => ⟨S8192x2816, .f32⟩
  | .hbm, ⟨1, _⟩ => ⟨S3x3x2816, .f32⟩
  | .hbm, ⟨2, _⟩ => ⟨S1x2816, .f32⟩
  | .hbm, ⟨3, _⟩ => ⟨S8192x2816, .f32⟩
  | .hbm, ⟨4, _⟩ => ⟨S9x2816, .f32⟩
  | .hbm, ⟨5, _⟩ => ⟨S8192x2816, .bf16⟩
  | .hbm, ⟨6, _⟩ => ⟨S16x2816, .f32⟩
  | .local _ .vmem, ⟨0, _⟩ => ⟨S64x1408, .f32⟩
  | .local _ .vmem, ⟨1, _⟩ => ⟨S64x1408, .f32⟩
  | .local _ .vmem, ⟨2, _⟩ => ⟨S256x1408, .f32⟩
  | .local _ .vmem, ⟨3, _⟩ => ⟨S256x1408, .f32⟩
  | .local _ .vmem, ⟨4, _⟩ => ⟨S64x1408, .f32⟩
  | .local _ .vmem, ⟨5, _⟩ => ⟨S64x1408, .f32⟩
  | .local _ .vmem, ⟨6, _⟩ => ⟨S64x1408, .f32⟩
  | .local _ .vmem, ⟨7, _⟩ => ⟨S64x1408, .f32⟩
  | .local _ .vmem, ⟨8, _⟩ => ⟨S256x1408, .f32⟩
  | .local _ .vmem, ⟨9, _⟩ => ⟨S256x1408, .f32⟩
  | .local _ .vmem, ⟨10, _⟩ => ⟨S64x1408, .f32⟩
  | .local _ .vmem, ⟨11, _⟩ => ⟨S64x1408, .f32⟩
  | .local _ .vmem, ⟨12, _⟩ => ⟨S9x1408, .f32⟩
  | .local _ .vmem, ⟨13, _⟩ => ⟨S9x1408, .f32⟩
  | .local _ .vmem, ⟨14, _⟩ => ⟨S256x1408, .bf16⟩
  | .local _ .vmem, ⟨15, _⟩ => ⟨S256x1408, .bf16⟩
  | .local _ .vmem, ⟨16, _⟩ => ⟨S16x1408, .f32⟩
  | .local _ .vmem, ⟨17, _⟩ => ⟨S16x1408, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.addi v0 c4_i32_0
  let c127_i32 : BitVec 32 := 127#32
  let v2 : BitVec 32 := Scalar.minsi v1 c127_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.addi v0 c4_i32_0
  let c127_i32 : BitVec 32 := 127#32
  let v2 : BitVec 32 := Scalar.minsi v1 c127_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S9x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceConvIdeal.lean ====
abbrev S8192x2816 : Shape := ⟨2, ![8192, 2816]⟩
abbrev S3x3x2816 : Shape := ⟨3, ![3, 3, 2816]⟩
abbrev S1x2816 : Shape := ⟨2, ![1, 2816]⟩
abbrev S_ : Shape := ⟨0, ![]⟩
abbrev S1x64x2816 : Shape := ⟨3, ![1, 64, 2816]⟩
abbrev S130x1x2816 : Shape := ⟨3, ![130, 1, 2816]⟩
abbrev S128x64x2816 : Shape := ⟨3, ![128, 64, 2816]⟩
abbrev S130x64x2816 : Shape := ⟨3, ![130, 64, 2816]⟩
abbrev S130x66x2816 : Shape := ⟨3, ![130, 66, 2816]⟩
abbrev S1x1x2816 : Shape := ⟨3, ![1, 1, 2816]⟩
abbrev S2816 : Shape := ⟨1, ![2816]⟩
abbrev S9x2816 : Shape := ⟨2, ![9, 2816]⟩
abbrev S6x2816 : Shape := ⟨2, ![6, 2816]⟩
abbrev S16x2816 : Shape := ⟨2, ![16, 2816]⟩

abbrev nBuf : Space → Nat
  | .hbm => 237
  | .vmem => 0
  | .smem => 0
  | _ => 0

abbrev hbmTy0_0 (i : Nat) : BufTy := match i % 128 with
  | 0 => ⟨S8192x2816, .f32⟩
  | 1 => ⟨S3x3x2816, .f32⟩
  | 2 => ⟨S1x2816, .f32⟩
  | 3 => ⟨S8192x2816, .f32⟩
  | 4 => ⟨S_, .f32⟩
  | 5 => ⟨S1x64x2816, .f32⟩
  | 6 => ⟨S_, .f32⟩
  | 7 => ⟨S130x1x2816, .f32⟩
  | 8 => ⟨S128x64x2816, .f32⟩
  | 9 => ⟨S130x64x2816, .f32⟩
  | 10 => ⟨S_, .f32⟩
  | 11 => ⟨S1x64x2816, .f32⟩
  | 12 => ⟨S_, .f32⟩
  | 13 => ⟨S1x64x2816, .f32⟩
  | 14 => ⟨S130x66x2816, .f32⟩
  | 15 => ⟨S_, .f32⟩
  | 16 => ⟨S130x1x2816, .f32⟩
  | 17 => ⟨S_, .f32⟩
  | 18 => ⟨S130x1x2816, .f32⟩
  | 19 => ⟨S128x64x2816, .f32⟩
  | 20 => ⟨S1x1x2816, .f32⟩
  | 21 => ⟨S2816, .f32⟩
  | 22 => ⟨S1x1x2816, .f32⟩
  | 23 => ⟨S128x64x2816, .f32⟩
  | 24 => ⟨S128x64x2816, .f32⟩
  | 25 => ⟨S1x1x2816, .f32⟩
  | 26 => ⟨S128x64x2816, .f32⟩
  | 27 => ⟨S128x64x2816, .f32⟩
  | 28 => ⟨S128x64x2816, .f32⟩
  | 29 => ⟨S1x1x2816, .f32⟩
  | 30 => ⟨S2816, .f32⟩
  | 31 => ⟨S1x1x2816, .f32⟩
  | 32 => ⟨S128x64x2816, .f32⟩
  | 33 => ⟨S128x64x2816, .f32⟩
  | 34 => ⟨S128x64x2816, .f32⟩
  | 35 => ⟨S128x64x2816, .f32⟩
  | 36 => ⟨S1x1x2816, .f32⟩
  | 37 => ⟨S2816, .f32⟩
  | 38 => ⟨S1x1x2816, .f32⟩
  | 39 => ⟨S128x64x2816, .f32⟩
  | 40 => ⟨S128x64x2816, .f32⟩
  | 41 => ⟨S128x64x2816, .f32⟩
  | 42 => ⟨S128x64x2816, .f32⟩
  | 43 => ⟨S1x1x2816, .f32⟩
  | 44 => ⟨S2816, .f32⟩
  | 45 => ⟨S1x1x2816, .f32⟩
  | 46 => ⟨S128x64x2816, .f32⟩
  | 47 => ⟨S128x64x2816, .f32⟩
  | 48 => ⟨S128x64x2816, .f32⟩
  | 49 => ⟨S128x64x2816, .f32⟩
  | 50 => ⟨S1x1x2816, .f32⟩
  | 51 => ⟨S2816, .f32⟩
  | 52 => ⟨S1x1x2816, .f32⟩
  | 53 => ⟨S128x64x2816, .f32⟩
  | 54 => ⟨S128x64x2816, .f32⟩
  | 55 => ⟨S128x64x2816, .f32⟩
  | 56 => ⟨S128x64x2816, .f32⟩
  | 57 => ⟨S1x1x2816, .f32⟩
  | 58 => ⟨S2816, .f32⟩
  | 59 => ⟨S1x1x2816, .f32⟩
  | 60 => ⟨S128x64x2816, .f32⟩
  | 61 => ⟨S128x64x2816, .f32⟩
  | 62 => ⟨S128x64x2816, .f32⟩
  | 63 => ⟨S128x64x2816, .f32⟩
  | 64 => ⟨S1x1x2816, .f32⟩
  | 65 => ⟨S2816, .f32⟩
  | 66 => ⟨S1x1x2816, .f32⟩
  | 67 => ⟨S128x64x2816, .f32⟩
  | 68 => ⟨S128x64x2816, .f32⟩
  | 69 => ⟨S128x64x2816, .f32⟩
  | 70 => ⟨S128x64x2816, .f32⟩
  | 71 => ⟨S1x1x2816, .f32⟩
  | 72 => ⟨S2816, .f32⟩
  | 73 => ⟨S1x1x2816, .f32⟩
  | 74 => ⟨S128x64x2816, .f32⟩
  | 75 => ⟨S128x64x2816, .f32⟩
  | 76 => ⟨S128x64x2816, .f32⟩
  | 77 => ⟨S128x64x2816, .f32⟩
  | 78 => ⟨S1x1x2816, .f32⟩
  | 79 => ⟨S2816, .f32⟩
  | 80 => ⟨S1x1x2816, .f32⟩
  | 81 => ⟨S128x64x2816, .f32⟩
  | 82 => ⟨S128x64x2816, .f32⟩
  | 83 => ⟨S128x64x2816, .f32⟩
  | 84 => ⟨S8192x2816, .f32⟩
  | 85 => ⟨S128x64x2816, .f32⟩
  | 86 => ⟨S128x64x2816, .f32⟩
  | 87 => ⟨S_, .f32⟩
  | 88 => ⟨S2816, .f32⟩
  | 89 => ⟨S1x1x2816, .f32⟩
  | 90 => ⟨S128x64x2816, .f32⟩
  | 91 => ⟨S128x64x2816, .f32⟩
  | 92 => ⟨S_, .f32⟩
  | 93 => ⟨S2816, .f32⟩
  | 94 => ⟨S1x1x2816, .f32⟩
  | 95 => ⟨S_, .f32⟩
  | 96 => ⟨S3x3x2816, .f32⟩
  | 97 => ⟨S_, .f32⟩
  | 98 => ⟨S130x66x2816, .f32⟩
  | 99 => ⟨S128x64x2816, .f32⟩
  | 100 => ⟨S_, .f32⟩
  | 101 => ⟨S2816, .f32⟩
  | 102 => ⟨S1x1x2816, .f32⟩
  | 103 => ⟨S128x64x2816, .f32⟩
  | 104 => ⟨S128x64x2816, .f32⟩
  | 105 => ⟨S_, .f32⟩
  | 106 => ⟨S2816, .f32⟩
  | 107 => ⟨S1x1x2816, .f32⟩
  | 108 => ⟨S_, .f32⟩
  | 109 => ⟨S3x3x2816, .f32⟩
  | 110 => ⟨S3x3x2816, .f32⟩
  | 111 => ⟨S_, .f32⟩
  | 112 => ⟨S130x66x2816, .f32⟩
  | 113 => ⟨S130x66x2816, .f32⟩
  | 114 => ⟨S128x64x2816, .f32⟩
  | 115 => ⟨S_, .f32⟩
  | 116 => ⟨S2816, .f32⟩
  | 117 => ⟨S1x1x2816, .f32⟩
  | 118 => ⟨S128x64x2816, .f32⟩
  | 119 => ⟨S128x64x2816, .f32⟩
  | 120 => ⟨S_, .f32⟩
  | 121 => ⟨S2816, .f32⟩
  | 122 => ⟨S1x1x2816, .f32⟩
  | 123 => ⟨S_, .f32⟩
  | 124 => ⟨S3x3x2816, .f32⟩
  | 125 => ⟨S3x3x2816, .f32⟩
  | 126 => ⟨S_, .f32⟩
  | 127 => ⟨S130x66x2816, .f32⟩
  | _ => ⟨S8192x2816, .f32⟩

abbrev hbmTy0_1 (i : Nat) : BufTy := match i % 128 with
  | 0 => ⟨S130x66x2816, .f32⟩
  | 1 => ⟨S128x64x2816, .f32⟩
  | 2 => ⟨S_, .f32⟩
  | 3 => ⟨S2816, .f32⟩
  | 4 => ⟨S1x1x2816, .f32⟩
  | 5 => ⟨S128x64x2816, .f32⟩
  | 6 => ⟨S128x64x2816, .f32⟩
  | 7 => ⟨S_, .f32⟩
  | 8 => ⟨S2816, .f32⟩
  | 9 => ⟨S1x1x2816, .f32⟩
  | 10 => ⟨S_, .f32⟩
  | 11 => ⟨S3x3x2816, .f32⟩
  | 12 => ⟨S3x3x2816, .f32⟩
  | 13 => ⟨S_, .f32⟩
  | 14 => ⟨S130x66x2816, .f32⟩
  | 15 => ⟨S130x66x2816, .f32⟩
  | 16 => ⟨S128x64x2816, .f32⟩
  | 17 => ⟨S_, .f32⟩
  | 18 => ⟨S2816, .f32⟩
  | 19 => ⟨S1x1x2816, .f32⟩
  | 20 => ⟨S128x64x2816, .f32⟩
  | 21 => ⟨S128x64x2816, .f32⟩
  | 22 => ⟨S_, .f32⟩
  | 23 => ⟨S2816, .f32⟩
  | 24 => ⟨S1x1x2816, .f32⟩
  | 25 => ⟨S_, .f32⟩
  | 26 => ⟨S3x3x2816, .f32⟩
  | 27 => ⟨S3x3x2816, .f32⟩
  | 28 => ⟨S_, .f32⟩
  | 29 => ⟨S130x66x2816, .f32⟩
  | 30 => ⟨S130x66x2816, .f32⟩
  | 31 => ⟨S128x64x2816, .f32⟩
  | 32 => ⟨S_, .f32⟩
  | 33 => ⟨S2816, .f32⟩
  | 34 => ⟨S1x1x2816, .f32⟩
  | 35 => ⟨S128x64x2816, .f32⟩
  | 36 => ⟨S128x64x2816, .f32⟩
  | 37 => ⟨S_, .f32⟩
  | 38 => ⟨S2816, .f32⟩
  | 39 => ⟨S1x1x2816, .f32⟩
  | 40 => ⟨S_, .f32⟩
  | 41 => ⟨S3x3x2816, .f32⟩
  | 42 => ⟨S3x3x2816, .f32⟩
  | 43 => ⟨S_, .f32⟩
  | 44 => ⟨S130x66x2816, .f32⟩
  | 45 => ⟨S130x66x2816, .f32⟩
  | 46 => ⟨S128x64x2816, .f32⟩
  | 47 => ⟨S_, .f32⟩
  | 48 => ⟨S2816, .f32⟩
  | 49 => ⟨S1x1x2816, .f32⟩
  | 50 => ⟨S128x64x2816, .f32⟩
  | 51 => ⟨S128x64x2816, .f32⟩
  | 52 => ⟨S_, .f32⟩
  | 53 => ⟨S2816, .f32⟩
  | 54 => ⟨S1x1x2816, .f32⟩
  | 55 => ⟨S_, .f32⟩
  | 56 => ⟨S3x3x2816, .f32⟩
  | 57 => ⟨S3x3x2816, .f32⟩
  | 58 => ⟨S_, .f32⟩
  | 59 => ⟨S130x66x2816, .f32⟩
  | 60 => ⟨S130x66x2816, .f32⟩
  | 61 => ⟨S128x64x2816, .f32⟩
  | 62 => ⟨S_, .f32⟩
  | 63 => ⟨S2816, .f32⟩
  | 64 => ⟨S1x1x2816, .f32⟩
  | 65 => ⟨S128x64x2816, .f32⟩
  | 66 => ⟨S128x64x2816, .f32⟩
  | 67 => ⟨S_, .f32⟩
  | 68 => ⟨S2816, .f32⟩
  | 69 => ⟨S1x1x2816, .f32⟩
  | 70 => ⟨S_, .f32⟩
  | 71 => ⟨S3x3x2816, .f32⟩
  | 72 => ⟨S3x3x2816, .f32⟩
  | 73 => ⟨S_, .f32⟩
  | 74 => ⟨S130x66x2816, .f32⟩
  | 75 => ⟨S130x66x2816, .f32⟩
  | 76 => ⟨S_, .f32⟩
  | 77 => ⟨S2816, .f32⟩
  | 78 => ⟨S1x1x2816, .f32⟩
  | 79 => ⟨S_, .f32⟩
  | 80 => ⟨S2816, .f32⟩
  | 81 => ⟨S1x2816, .f32⟩
  | 82 => ⟨S128x64x2816, .f32⟩
  | 83 => ⟨S_, .f32⟩
  | 84 => ⟨S2816, .f32⟩
  | 85 => ⟨S1x1x2816, .f32⟩
  | 86 => ⟨S128x64x2816, .f32⟩
  | 87 => ⟨S128x64x2816, .f32⟩
  | 88 => ⟨S_, .f32⟩
  | 89 => ⟨S2816, .f32⟩
  | 90 => ⟨S1x1x2816, .f32⟩
  | 91 => ⟨S_, .f32⟩
  | 92 => ⟨S3x3x2816, .f32⟩
  | 93 => ⟨S3x3x2816, .f32⟩
  | 94 => ⟨S_, .f32⟩
  | 95 => ⟨S130x66x2816, .f32⟩
  | 96 => ⟨S130x66x2816, .f32⟩
  | 97 => ⟨S130x1x2816, .f32⟩
  | 98 => ⟨S130x64x2816, .f32⟩
  | 99 => ⟨S130x1x2816, .f32⟩
  | 100 => ⟨S1x64x2816, .f32⟩
  | 101 => ⟨S128x64x2816, .f32⟩
  | 102 => ⟨S1x64x2816, .f32⟩
  | 103 => ⟨S8192x2816, .f32⟩
  | 104 => ⟨S8192x2816, .bf16⟩
  | 105 => ⟨S9x2816, .f32⟩
  | 106 => ⟨S_, .f32⟩
  | 107 => ⟨S6x2816, .f32⟩
  | 108 => ⟨S16x2816, .f32⟩
  | _ => ⟨S8192x2816, .f32⟩

abbrev hbmTy (i : Nat) : BufTy := match i / 128 with
  | 0 => hbmTy0_0 i
  | 1 => hbmTy0_1 i
  | _ => ⟨S8192x2816, .f32⟩

abbrev bufTy : (tb : Table) → Fin (tcTables nBuf tb) → BufTy
  | .hbm, ⟨i, _⟩ => hbmTy i
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_cst_5 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_cst_6 : Ref sig .tc := ⟨.hbm, 92, rfl⟩
abbrev main_v81 : Ref sig .tc := ⟨.hbm, 93, rfl⟩
abbrev main_v82 : Ref sig .tc := ⟨.hbm, 94, rfl⟩
abbrev main_cst_7 : Ref sig .tc := ⟨.hbm, 95, rfl⟩
abbrev main_v83 : Ref sig .tc := ⟨.hbm, 96, rfl⟩
abbrev main_cst_8 : Ref sig .tc := ⟨.hbm, 97, rfl⟩
abbrev main_v84 : Ref sig .tc := ⟨.hbm, 98, rfl⟩
abbrev main_v85 : Ref sig .tc := ⟨.hbm, 99, rfl⟩
abbrev main_cst_9 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_cst_10 : Ref sig .tc := ⟨.hbm, 105, rfl⟩
abbrev main_v90 : Ref sig .tc := ⟨.hbm, 106, rfl⟩
abbrev main_v91 : Ref sig .tc := ⟨.hbm, 107, rfl⟩
abbrev main_cst_11 : Ref sig .tc := ⟨.hbm, 108, rfl⟩
abbrev main_v92 : Ref sig .tc := ⟨.hbm, 109, rfl⟩
abbrev main_v93 : Ref sig .tc := ⟨.hbm, 110, rfl⟩
abbrev main_cst_12 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_cst_13 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_cst_14 : Ref sig .tc := ⟨.hbm, 120, rfl⟩
abbrev main_v101 : Ref sig .tc := ⟨.hbm, 121, rfl⟩
abbrev main_v102 : Ref sig .tc := ⟨.hbm, 122, rfl⟩
abbrev main_cst_15 : Ref sig .tc := ⟨.hbm, 123, rfl⟩
abbrev main_v103 : Ref sig .tc := ⟨.hbm, 124, rfl⟩
abbrev main_v104 : Ref sig .tc := ⟨.hbm, 125, rfl⟩
abbrev main_cst_16 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_cst_17 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_cst_18 : Ref sig .tc := ⟨.hbm, 135, rfl⟩
abbrev main_v112 : Ref sig .tc := ⟨.hbm, 136, rfl⟩
abbrev main_v113 : Ref sig .tc := ⟨.hbm, 137, rfl⟩
abbrev main_cst_19 : Ref sig .tc := ⟨.hbm, 138, rfl⟩
abbrev main_v114 : Ref sig .tc := ⟨.hbm, 139, rfl⟩
abbrev main_v115 : Ref sig .tc := ⟨.hbm, 140, rfl⟩
abbrev main_cst_20 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_cst_21 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_cst_22 : Ref sig .tc := ⟨.hbm, 150, rfl⟩
abbrev main_v123 : Ref sig .tc := ⟨.hbm, 151, rfl⟩
abbrev main_v124 : Ref sig .tc := ⟨.hbm, 152, rfl⟩
abbrev main_cst_23 : Ref sig .tc := ⟨.hbm, 153, rfl⟩
abbrev main_v125 : Ref sig .tc := ⟨.hbm, 154, rfl⟩
abbrev main_v126 : Ref sig .tc := ⟨.hbm, 155, rfl⟩
abbrev main_cst_24 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_cst_25 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_cst_26 : Ref sig .tc := ⟨.hbm, 165, rfl⟩
abbrev main_v134 : Ref sig .tc := ⟨.hbm, 166, rfl⟩
abbrev main_v135 : Ref sig .tc := ⟨.hbm, 167, rfl⟩
abbrev main_cst_27 : Ref sig .tc := ⟨.hbm, 168, rfl⟩
abbrev main_v136 : Ref sig .tc := ⟨.hbm, 169, rfl⟩
abbrev main_v137 : Ref sig .tc := ⟨.hbm, 170, rfl⟩
abbrev main_cst_28 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_cst_29 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_cst_30 : Ref sig .tc := ⟨.hbm, 180, rfl⟩
abbrev main_v145 : Ref sig .tc := ⟨.hbm, 181, rfl⟩
abbrev main_v146 : Ref sig .tc := ⟨.hbm, 182, rfl⟩
abbrev main_cst_31 : Ref sig .tc := ⟨.hbm, 183, rfl⟩
abbrev main_v147 : Ref sig .tc := ⟨.hbm, 184, rfl⟩
abbrev main_v148 : Ref sig .tc := ⟨.hbm, 185, rfl⟩
abbrev main_cst_32 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_cst_33 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_cst_34 : Ref sig .tc := ⟨.hbm, 195, rfl⟩
abbrev main_v156 : Ref sig .tc := ⟨.hbm, 196, rfl⟩
abbrev main_v157 : Ref sig .tc := ⟨.hbm, 197, rfl⟩
abbrev main_cst_35 : Ref sig .tc := ⟨.hbm, 198, rfl⟩
abbrev main_v158 : Ref sig .tc := ⟨.hbm, 199, rfl⟩
abbrev main_v159 : Ref sig .tc := ⟨.hbm, 200, rfl⟩
abbrev main_cst_36 : Ref sig .tc := ⟨.hbm, 201, rfl⟩
abbrev main_v160 : Ref sig .tc := ⟨.hbm, 202, rfl⟩
abbrev main_v161 : Ref sig .tc := ⟨.hbm, 203, rfl⟩
abbrev main_cst_37 : Ref sig .tc := ⟨.hbm, 204, rfl⟩
abbrev main_v162 : Ref sig .tc := ⟨.hbm, 205, rfl⟩
abbrev main_v163 : Ref sig .tc := ⟨.hbm, 206, rfl⟩
abbrev main_cst_38 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_cst_39 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_cst_40 : Ref sig .tc := ⟨.hbm, 216, rfl⟩
abbrev main_v171 : Ref sig .tc := ⟨.hbm, 217, rfl⟩
abbrev main_v172 : Ref sig .tc := ⟨.hbm, 218, rfl⟩
abbrev main_cst_41 : Ref sig .tc := ⟨.hbm, 219, rfl⟩
abbrev main_v173 : Ref sig .tc := ⟨.hbm, 220, rfl⟩
abbrev main_v174 : Ref sig .tc := ⟨.hbm, 221, rfl⟩
abbrev main_cst_42 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_cst_43 : Ref sig .tc := ⟨.hbm, 234, rfl⟩
abbrev main_v186 : Ref sig .tc := ⟨.hbm, 235, rfl⟩
abbrev main_v187 : Ref sig .tc := ⟨.hbm, 236, rfl⟩

abbrev nD : Nat := 1
abbrev τ : Topo := Topo.v7x

variable {F : FTy → Type} [FloatOps F]
-- ==== KernelCtx.lean ====
abbrev S1x1024 : Shape := ⟨2, ![1, 1024]⟩
abbrev S1024 : Shape := ⟨1, ![1024]⟩
abbrev S1024x6144 : Shape := ⟨2, ![1024, 6144]⟩
abbrev S1x2048 : Shape := ⟨2, ![1, 2048]⟩
abbrev S_ : Shape := ⟨0, ![]⟩
abbrev S6x1024 : Shape := ⟨2, ![6, 1024]⟩
abbrev S8x1024 : Shape := ⟨2, ![8, 1024]⟩
abbrev S6x2048 : Shape := ⟨2, ![6, 2048]⟩
abbrev S8x2048 : Shape := ⟨2, ![8, 2048]⟩
abbrev S1024x2048 : Shape := ⟨2, ![1024, 2048]⟩

abbrev nBuf : Space → Nat
  | .hbm => 15
  | .vmem => 4
  | .smem => 0
  | _ => 0

abbrev bufTy : (tb : Table) → Fin (tcTables nBuf tb) → BufTy
  | .hbm, ⟨0, _⟩ => ⟨S1x1024, .f32⟩
  | .hbm, ⟨1, _⟩ => ⟨S1024, .f32⟩
  | .hbm, ⟨2, _⟩ => ⟨S1024x6144, .f32⟩
  | .hbm, ⟨3, _⟩ => ⟨S1x2048, .f32⟩
  | .hbm, ⟨4, _⟩ => ⟨S1x1024, .f32⟩
  | .hbm, ⟨5, _⟩ => ⟨S_, .f32⟩
  | .hbm, ⟨6, _⟩ => ⟨S6x1024, .f32⟩
  | .hbm, ⟨7, _⟩ => ⟨S8x1024, .f32⟩
  | .hbm, ⟨8, _⟩ => ⟨S_, .f32⟩
  | .hbm, ⟨9, _⟩ => ⟨S1x2048, .f32⟩
  | .hbm, ⟨10, _⟩ => ⟨S_, .f32⟩
  | .hbm, ⟨11, _⟩ => ⟨S6x2048, .f32⟩
  | .hbm, ⟨12, _⟩ => ⟨S8x2048, .f32⟩
  | .hbm, ⟨13, _⟩ => ⟨S1024x6144, .bf16⟩
  | .hbm, ⟨14, _⟩ => ⟨S8x1024, .f32⟩
  | .local _ .vmem, ⟨0, _⟩ => ⟨S8x2048, .f32⟩
  | .local _ .vmem, ⟨1, _⟩ => ⟨S1024x2048, .bf16⟩
  | .local _ .vmem, ⟨2, _⟩ => ⟨S8x1024, .f32⟩
  | .local _ .vmem, ⟨3, _⟩ => ⟨S8x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceCtxIdeal.lean ====
abbrev S1x1024 : Shape := ⟨2, ![1, 1024]⟩
abbrev S1024 : Shape := ⟨1, ![1024]⟩
abbrev S1024x6144 : Shape := ⟨2, ![1024, 6144]⟩
abbrev S1x2048 : Shape := ⟨2, ![1, 2048]⟩
abbrev S_ : Shape := ⟨0, ![]⟩
abbrev S6144 : Shape := ⟨1, ![6144]⟩
abbrev S2048 : Shape := ⟨1, ![2048]⟩
abbrev S6x1024 : Shape := ⟨2, ![6, 1024]⟩
abbrev S8x1024 : Shape := ⟨2, ![8, 1024]⟩

abbrev nBuf : Space → Nat
  | .hbm => 33
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1024, .f32⟩
  | .hbm, ⟨2, _⟩ => ⟨S1024x6144, .f32⟩
  | .hbm, ⟨3, _⟩ => ⟨S1x2048, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S6144, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S6144, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S6x1024, .f32⟩
  | .hbm, ⟨32, _⟩ => ⟨S8x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_cst_1 : Ref sig .tc := ⟨.hbm, 30, rfl⟩
abbrev main_v9 : Ref sig .tc := ⟨.hbm, 31, rfl⟩
abbrev main_v10 : Ref sig .tc := ⟨.hbm, 32, rfl⟩

abbrev nD : Nat := 1
abbrev τ : Topo := Topo.v7x

variable {F : FTy → Type} [FloatOps F]
-- ==== KernelUpb.lean ====
abbrev S8192x1024 : Shape := ⟨2, ![8192, 1024]⟩
abbrev S1x6144 : Shape := ⟨2, ![1, 6144]⟩
abbrev S1x1024 : Shape := ⟨2, ![1, 1024]⟩
abbrev S1024x5632 : Shape := ⟨2, ![1024, 5632]⟩
abbrev S8192x5632 : Shape := ⟨2, ![8192, 5632]⟩
abbrev S8192x2816 : Shape := ⟨2, ![8192, 2816]⟩
abbrev S8x1024 : Shape := ⟨2, ![8, 1024]⟩
abbrev S256x2816 : Shape := ⟨2, ![256, 2816]⟩
abbrev S256x1024 : Shape := ⟨2, ![256, 1024]⟩
abbrev S1024x2816 : Shape := ⟨2, ![1024, 2816]⟩
abbrev S256 : Shape := ⟨1, ![256]⟩
abbrev S256x1 : Shape := ⟨2, ![256, 1]⟩
abbrev S1024 : Shape := ⟨1, ![1024]⟩

abbrev nBuf : Space → Nat
  | .hbm => 18
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x6144, .f32⟩
  | .hbm, ⟨3, _⟩ => ⟨S1x1024, .f32⟩
  | .hbm, ⟨4, _⟩ => ⟨S1024x5632, .f32⟩
  | .hbm, ⟨5, _⟩ => ⟨S8192x1024, .f32⟩
  | .hbm, ⟨6, _⟩ => ⟨S8192x5632, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x2816, .f32⟩
  | .hbm, ⟨12, _⟩ => ⟨S8192x2816, .bf16⟩
  | .hbm, ⟨13, _⟩ => ⟨S8192x2816, .f32⟩
  | .hbm, ⟨14, _⟩ => ⟨S8192x2816, .bf16⟩
  | .hbm, ⟨15, _⟩ => ⟨S1024x5632, .bf16⟩
  | .hbm, ⟨16, _⟩ => ⟨S8192x1024, .f32⟩
  | .hbm, ⟨17, _⟩ => ⟨S8x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S1024x5632, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x6144, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceUpbIdeal.lean ====
abbrev S8192x1024 : Shape := ⟨2, ![8192, 1024]⟩
abbrev S1x6144 : Shape := ⟨2, ![1, 6144]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024 : Shape := ⟨1, ![1024]⟩
abbrev S4x1024 : Shape := ⟨2, ![4, 1024]⟩
abbrev S8x1024 : Shape := ⟨2, ![8, 1024]⟩

abbrev nBuf : Space → Nat
  | .hbm => 82
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x6144, .f32⟩
  | .hbm, ⟨3, _⟩ => ⟨S1x1024, .f32⟩
  | .hbm, ⟨4, _⟩ => ⟨S1024x5632, .f32⟩
  | .hbm, ⟨5, _⟩ => ⟨S8192x1024, .f32⟩
  | .hbm, ⟨6, _⟩ => ⟨S8192x5632, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x5632, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S_, .f32⟩
  | .hbm, ⟨80, _⟩ => ⟨S4x1024, .f32⟩
  | .hbm, ⟨81, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== KernelInb.lean ====
abbrev S8192x1024 : Shape := ⟨2, ![8192, 1024]⟩
abbrev S256x1024 : Shape := ⟨2, ![256, 1024]⟩
abbrev S1x6144 : Shape := ⟨2, ![1, 6144]⟩
abbrev S1x1024 : Shape := ⟨2, ![1, 1024]⟩
abbrev S1024x3584 : Shape := ⟨2, ![1024, 3584]⟩
abbrev S8448x512 : Shape := ⟨2, ![8448, 512]⟩
abbrev S8448x3072 : Shape := ⟨2, ![8448, 3072]⟩
abbrev S8448x3584 : Shape := ⟨2, ![8448, 3584]⟩
abbrev S8x1024 : Shape := ⟨2, ![8, 1024]⟩
abbrev S256x512 : Shape := ⟨2, ![256, 512]⟩
abbrev S256x3072 : Shape := ⟨2, ![256, 3072]⟩
abbrev S256x3584 : Shape := ⟨2, ![256, 3584]⟩
abbrev S1024x512 : Shape := ⟨2, ![1024, 512]⟩
abbrev S1024x3072 : Shape := ⟨2, ![1024, 3072]⟩
abbrev S256 : Shape := ⟨1, ![256]⟩
abbrev S256x1 : Shape := ⟨2, ![256, 1]⟩
abbrev S1024 : Shape := ⟨1, ![1024]⟩

abbrev nBuf : Space → Nat
  | .hbm => 16
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S1x6144, .f32⟩
  | .hbm, ⟨3, _⟩ => ⟨S1x6144, .f32⟩
  | .hbm, ⟨4, _⟩ => ⟨S1x1024, .f32⟩
  | .hbm, ⟨5, _⟩ => ⟨S1024x3584, .f32⟩
  | .hbm, ⟨6, _⟩ => ⟨S8192x1024, .f32⟩
  | .hbm, ⟨7, _⟩ => ⟨S8448x512, .f32⟩
  | .hbm, ⟨8, _⟩ => ⟨S8448x512, .f32⟩
  | .hbm, ⟨9, _⟩ => ⟨S8448x512, .f32⟩
  | .hbm, ⟨10, _⟩ => ⟨S8448x3072, .f32⟩
  | .hbm, ⟨11, _⟩ => ⟨S8448x3072, .bf16⟩
  | .hbm, ⟨12, _⟩ => ⟨S1024x3584, .bf16⟩
  | .hbm, ⟨13, _⟩ => ⟨S8192x1024, .f32⟩
  | .hbm, ⟨14, _⟩ => ⟨S8448x3584, .bf16⟩
  | .hbm, ⟨15, _⟩ => ⟨S8x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x3072, .bf16⟩
  | .local _ .vmem, ⟨7, _⟩ => ⟨S256x3072, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x6144, .f32⟩
  | .local _ .vmem, ⟨14, _⟩ => ⟨S1x6144, .f32⟩
  | .local _ .vmem, ⟨15, _⟩ => ⟨S1x1024, .f32⟩
  | .local _ .vmem, ⟨16, _⟩ => ⟨S1024x3584, .bf16⟩
  | .local _ .vmem, ⟨17, _⟩ => ⟨S256x1024, .f32⟩
  | .local _ .vmem, ⟨18, _⟩ => ⟨S256x1024, .f32⟩
  | .local _ .vmem, ⟨19, _⟩ => ⟨S256x3584, .bf16⟩
  | .local _ .vmem, ⟨20, _⟩ => ⟨S256x3584, .bf16⟩
  | .local _ .vmem, ⟨21, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![33], ![false]⟩

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v78 : BitVec 1 := Scalar.xori v0 v_true
  let v79 : BitVec 32 := Scalar.extui v78
  let c0_i32_42 : BitVec 32 := 0#32
  let v80 : BitVec 1 := Scalar.cmpi .ne v79 c0_i32_42
  v80

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x3584 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x3584 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceInbIdeal.lean ====
abbrev S8192x1024 : Shape := ⟨2, ![8192, 1024]⟩
abbrev S256x1024 : Shape := ⟨2, ![256, 1024]⟩
abbrev S1x6144 : Shape := ⟨2, ![1, 6144]⟩
abbrev S1x1024 : Shape := ⟨2, ![1, 1024]⟩
abbrev S1024x3584 : Shape := ⟨2, ![1024, 3584]⟩
abbrev S8448x512 : Shape := ⟨2, ![8448, 512]⟩
abbrev S8448x3072 : Shape := ⟨2, ![8448, 3072]⟩
abbrev S_ : Shape := ⟨0, ![]⟩
abbrev S256 : Shape := ⟨1, ![256]⟩
abbrev S256x1 : Shape := ⟨2, ![256, 1]⟩
abbrev S8192 : Shape := ⟨1, ![8192]⟩
abbrev S8192x1 : Shape := ⟨2, ![8192, 1]⟩
abbrev S8448x1024 : Shape := ⟨2, ![8448, 1024]⟩
abbrev S8448x3584 : Shape := ⟨2, ![8448, 3584]⟩
abbrev S1024 : Shape := ⟨1, ![1024]⟩
abbrev S3x1024 : Shape := ⟨2, ![3, 1024]⟩
abbrev S8x1024 : Shape := ⟨2, ![8, 1024]⟩

abbrev nBuf : Space → Nat
  | .hbm => 128
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S1x6144, .f32⟩
  | .hbm, ⟨3, _⟩ => ⟨S1x6144, .f32⟩
  | .hbm, ⟨4, _⟩ => ⟨S1x1024, .f32⟩
  | .hbm, ⟨5, _⟩ => ⟨S1024x3584, .f32⟩
  | .hbm, ⟨6, _⟩ => ⟨S8192x1024, .f32⟩
  | .hbm, ⟨7, _⟩ => ⟨S8448x512, .f32⟩
  | .hbm, ⟨8, _⟩ => ⟨S8448x512, .f32⟩
  | .hbm, ⟨9, _⟩ => ⟨S8448x512, .f32⟩
  | .hbm, ⟨10, _⟩ => ⟨S8448x3072, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S256x1024, .f32⟩
  | .hbm, ⟨16, _⟩ => ⟨S_, .f32⟩
  | .hbm, ⟨17, _⟩ => ⟨S256, .f32⟩
  | .hbm, ⟨18, _⟩ => ⟨S256x1, .f32⟩
  | .hbm, ⟨19, _⟩ => ⟨S_, .f32⟩
  | .hbm, ⟨20, _⟩ => ⟨S256x1, .f32⟩
  | .hbm, ⟨21, _⟩ => ⟨S256x1, .f32⟩
  | .hbm, ⟨22, _⟩ => ⟨S_, .f32⟩
  | .hbm, ⟨23, _⟩ => ⟨S256x1, .f32⟩
  | .hbm, ⟨24, _⟩ => ⟨S256x1, .f32⟩
  | .hbm, ⟨25, _⟩ => ⟨S256x1, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8448x1024, .f32⟩
  | .hbm, ⟨64, _⟩ => ⟨S8448x3584, .f32⟩
  | .hbm, ⟨65, _⟩ => ⟨S8448x512, .f32⟩
  | .hbm, ⟨66, _⟩ => ⟨S8448x3072, .f32⟩
  | .hbm, ⟨67, _⟩ => ⟨S8448x512, .f32⟩
  | .hbm, ⟨68, _⟩ => ⟨S8448x512, .f32⟩
  | .hbm, ⟨69, _⟩ => ⟨S_, .f32⟩
  | .hbm, ⟨70, _⟩ => ⟨S8448x3584, .f32⟩
  | .hbm, ⟨71, _⟩ => ⟨S_, .f32⟩
  | .hbm, ⟨72, _⟩ => ⟨S8448x3584, .f32⟩
  | .hbm, ⟨73, _⟩ => ⟨S8448x3584, .f32⟩
  | .hbm, ⟨74, _⟩ => ⟨S8448x1024, .f32⟩
  | .hbm, ⟨75, _⟩ => ⟨S256x1024, .f32⟩
  | .hbm, ⟨76, _⟩ => ⟨S8192x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S8192, .f32⟩
  | .hbm, ⟨95, _⟩ => ⟨S8192x1, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1, .f32⟩
  | .hbm, ⟨100, _⟩ => ⟨S_, .f32⟩
  | .hbm, ⟨101, _⟩ => ⟨S8192x1, .f32⟩
  | .hbm, ⟨102, _⟩ => ⟨S8192x1, .f32⟩
  | .hbm, ⟨103, _⟩ => ⟨S_, .f32⟩
  | .hbm, ⟨104, _⟩ => ⟨S8192, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1024, .f32⟩
  | .hbm, ⟨109, _⟩ => ⟨S8192x1024, .f32⟩
  | .hbm, ⟨110, _⟩ => ⟨S_, .f32⟩
  | .hbm, ⟨111, _⟩ => ⟨S1024, .f32⟩
  | .hbm, ⟨112, _⟩ => ⟨S1x1024, .f32⟩
  | .hbm, ⟨113, _⟩ => ⟨S256x1024, .f32⟩
  | .hbm, ⟨114, _⟩ => ⟨S_, .f32⟩
  | .hbm, ⟨115, _⟩ => ⟨S1024, .f32⟩
  | .hbm, ⟨116, _⟩ => ⟨S1x1024, .f32⟩
  | .hbm, ⟨117, _⟩ => ⟨S256x1024, .f32⟩
  | .hbm, ⟨118, _⟩ => ⟨S256x1024, .f32⟩
  | .hbm, ⟨119, _⟩ => ⟨S256x1024, .f32⟩
  | .hbm, ⟨120, _⟩ => ⟨S_, .f32⟩
  | .hbm, ⟨121, _⟩ => ⟨S1024, .f32⟩
  | .hbm, ⟨122, _⟩ => ⟨S1x1024, .f32⟩
  | .hbm, ⟨123, _⟩ => ⟨S1x1024, .f32⟩
  | .hbm, ⟨124, _⟩ => ⟨S_, .f32⟩
  | .hbm, ⟨125, _⟩ => ⟨S3x1024, .f32⟩
  | .hbm, ⟨126, _⟩ => ⟨S8x1024, .f32⟩
  | .hbm, ⟨127, _⟩ => ⟨S8448x3584, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_16 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_17 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_18 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_19 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩

abbrev nD : Nat := 1
abbrev τ : Topo := Topo.v7x

variable {F : FTy → Type} [FloatOps F]
-- ==== KernelDown.lean ====
abbrev S8192x5632 : Shape := ⟨2, ![8192, 5632]⟩
abbrev S3x3x5632 : Shape := ⟨3, ![3, 3, 5632]⟩
abbrev S1x5632 : Shape := ⟨2, ![1, 5632]⟩
abbrev S2816x1024 : Shape := ⟨2, ![2816, 1024]⟩
abbrev S8192x1024 : Shape := ⟨2, ![8192, 1024]⟩
abbrev S1x6144 : Shape := ⟨2, ![1, 6144]⟩
abbrev S1x1024 : Shape := ⟨2, ![1, 1024]⟩
abbrev S9x5632 : Shape := ⟨2, ![9, 5632]⟩
abbrev S8192x2816 : Shape := ⟨2, ![8192, 2816]⟩
abbrev S9x2816 : Shape := ⟨2, ![9, 2816]⟩
abbrev S1x2816 : Shape := ⟨2, ![1, 2816]⟩
abbrev S8x1024 : Shape := ⟨2, ![8, 1024]⟩
abbrev S64x1408 : Shape := ⟨2, ![64, 1408]⟩
abbrev S256x1408 : Shape := ⟨2, ![256, 1408]⟩
abbrev S9x1408 : Shape := ⟨2, ![9, 1408]⟩
abbrev S1x1408 : Shape := ⟨2, ![1, 1408]⟩
abbrev S1408x1024 : Shape := ⟨2, ![1408, 1024]⟩
abbrev S256x1024 : Shape := ⟨2, ![256, 1024]⟩
abbrev S384x1408 : Shape := ⟨2, ![384, 1408]⟩
abbrev S256x1 : Shape := ⟨2, ![256, 1]⟩
abbrev S256 : Shape := ⟨1, ![256]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 22
  | .vmem => 40
  | .smem => 0
  | _ => 0

abbrev bufTy : (tb : Table) → Fin (tcTables nBuf tb) → BufTy
  | .hbm, ⟨0, _⟩ => ⟨S8192x5632, .f32⟩
  | .hbm, ⟨1, _⟩ => ⟨S3x3x5632, .f32⟩
  | .hbm, ⟨2, _⟩ => ⟨S1x5632, .f32⟩
  | .hbm, ⟨3, _⟩ => ⟨S2816x1024, .f32⟩
  | .hbm, ⟨4, _⟩ => ⟨S8192x1024, .f32⟩
  | .hbm, ⟨5, _⟩ => ⟨S8192x1024, .f32⟩
  | .hbm, ⟨6, _⟩ => ⟨S1x6144, .f32⟩
  | .hbm, ⟨7, _⟩ => ⟨S1x1024, .f32⟩
  | .hbm, ⟨8, _⟩ => ⟨S9x5632, .f32⟩
  | .hbm, ⟨9, _⟩ => ⟨S8192x2816, .f32⟩
  | .hbm, ⟨10, _⟩ => ⟨S8192x2816, .f32⟩
  | .hbm, ⟨11, _⟩ => ⟨S9x2816, .f32⟩
  | .hbm, ⟨12, _⟩ => ⟨S9x2816, .f32⟩
  | .hbm, ⟨13, _⟩ => ⟨S1x2816, .f32⟩
  | .hbm, ⟨14, _⟩ => ⟨S1x2816, .f32⟩
  | .hbm, ⟨15, _⟩ => ⟨S2816x1024, .bf16⟩
  | .hbm, ⟨16, _⟩ => ⟨S8192x2816, .bf16⟩
  | .hbm, ⟨17, _⟩ => ⟨S8192x2816, .f32⟩
  | .hbm, ⟨18, _⟩ => ⟨S8192x2816, .f32⟩
  | .hbm, ⟨19, _⟩ => ⟨S8192x1024, .f32⟩
  | .hbm, ⟨20, _⟩ => ⟨S8192x1024, .bf16⟩
  | .hbm, ⟨21, _⟩ => ⟨S8x1024, .f32⟩
  | .local _ .vmem, ⟨0, _⟩ => ⟨S64x1408, .f32⟩
  | .local _ .vmem, ⟨1, _⟩ => ⟨S64x1408, .f32⟩
  | .local _ .vmem, ⟨2, _⟩ => ⟨S256x1408, .f32⟩
  | .local _ .vmem, ⟨3, _⟩ => ⟨S256x1408, .f32⟩
  | .local _ .vmem, ⟨4, _⟩ => ⟨S64x1408, .f32⟩
  | .local _ .vmem, ⟨5, _⟩ => ⟨S64x1408, .f32⟩
  | .local _ .vmem, ⟨6, _⟩ => ⟨S64x1408, .f32⟩
  | .local _ .vmem, ⟨7, _⟩ => ⟨S64x1408, .f32⟩
  | .local _ .vmem, ⟨8, _⟩ => ⟨S256x1408, .f32⟩
  | .local _ .vmem, ⟨9, _⟩ => ⟨S256x1408, .f32⟩
  | .local _ .vmem, ⟨10, _⟩ => ⟨S64x1408, .f32⟩
  | .local _ .vmem, ⟨11, _⟩ => ⟨S64x1408, .f32⟩
  | .local _ .vmem, ⟨12, _⟩ => ⟨S9x1408, .f32⟩
  | .local _ .vmem, ⟨13, _⟩ => ⟨S9x1408, .f32⟩
  | .local _ .vmem, ⟨14, _⟩ => ⟨S9x1408, .f32⟩
  | .local _ .vmem, ⟨15, _⟩ => ⟨S9x1408, .f32⟩
  | .local _ .vmem, ⟨16, _⟩ => ⟨S1x1408, .f32⟩
  | .local _ .vmem, ⟨17, _⟩ => ⟨S1x1408, .f32⟩
  | .local _ .vmem, ⟨18, _⟩ => ⟨S1x1408, .f32⟩
  | .local _ .vmem, ⟨19, _⟩ => ⟨S1x1408, .f32⟩
  | .local _ .vmem, ⟨20, _⟩ => ⟨S1408x1024, .bf16⟩
  | .local _ .vmem, ⟨21, _⟩ => ⟨S1408x1024, .bf16⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S1x6144, .f32⟩
  | .local _ .vmem, ⟨27, _⟩ => ⟨S1x1024, .f32⟩
  | .local _ .vmem, ⟨28, _⟩ => ⟨S256x1408, .bf16⟩
  | .local _ .vmem, ⟨29, _⟩ => ⟨S256x1408, .bf16⟩
  | .local _ .vmem, ⟨30, _⟩ => ⟨S256x1408, .f32⟩
  | .local _ .vmem, ⟨31, _⟩ => ⟨S256x1408, .f32⟩
  | .local _ .vmem, ⟨32, _⟩ => ⟨S256x1408, .f32⟩
  | .local _ .vmem, ⟨33, _⟩ => ⟨S256x1408, .f32⟩
  | .local _ .vmem, ⟨34, _⟩ => ⟨S256x1024, .f32⟩
  | .local _ .vmem, ⟨35, _⟩ => ⟨S256x1024, .f32⟩
  | .local _ .vmem, ⟨36, _⟩ => ⟨S256x1024, .bf16⟩
  | .local _ .vmem, ⟨37, _⟩ => ⟨S256x1024, .bf16⟩
  | .local _ .vmem, ⟨38, _⟩ => ⟨S8x1024, .f32⟩
  | .local _ .vmem, ⟨39, _⟩ => ⟨S256x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38

abbrev nD : Nat := 1
abbrev τ : Topo := Topo.v7x

variable {F : FTy → Type} [FloatOps F]

abbrev grid0 : Pipeline.Grid := ⟨2, ![32, 2], ![false, false]⟩

def k0_cond4 (i : grid0.Coords) : BitVec 1 :=
  let arg1 : BitVec 32 := BitVec.ofNat 32 (i 1).val
  let c1_i32_73 : BitVec 32 := 1#32
  let v254 : BitVec 1 := Scalar.cmpi .eq arg1 c1_i32_73
  let v255 : BitVec 32 := Scalar.extui v254
  let c0_i32_74 : BitVec 32 := 0#32
  let v256 : BitVec 1 := Scalar.cmpi .ne v255 c0_i32_74
  v256

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v2 : BitVec 1 := Scalar.cmpi .eq arg1 c0_i32_0
  let v3 : BitVec 1 := Scalar.andi v0 v2
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.addi v0 c4_i32_0
  let c127_i32 : BitVec 32 := 127#32
  let v2 : BitVec 32 := Scalar.minsi v1 c127_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.addi v0 c4_i32_0
  let c127_i32 : BitVec 32 := 127#32
  let v2 : BitVec 32 := Scalar.minsi v1 c127_i32
  let c0_i32 : BitVec 32 := 0#32
  ![v2.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S9x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S9x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1408x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x6144 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S256x1408 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x1408 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S256x1408 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]
-- ==== ReferenceDownIdeal.lean ====
abbrev S8192x5632 : Shape := ⟨2, ![8192, 5632]⟩
abbrev S3x3x5632 : Shape := ⟨3, ![3, 3, 5632]⟩
abbrev S1x5632 : Shape := ⟨2, ![1, 5632]⟩
abbrev S2816x1024 : Shape := ⟨2, ![2816, 1024]⟩
abbrev S8192x1024 : Shape := ⟨2, ![8192, 1024]⟩
abbrev S1x6144 : Shape := ⟨2, ![1, 6144]⟩
abbrev S1x1024 : Shape := ⟨2, ![1, 1024]⟩
abbrev S_ : Shape := ⟨0, ![]⟩
abbrev S1x64x5632 : Shape := ⟨3, ![1, 64, 5632]⟩
abbrev S130x1x5632 : Shape := ⟨3, ![130, 1, 5632]⟩
abbrev S128x64x5632 : Shape := ⟨3, ![128, 64, 5632]⟩
abbrev S130x64x5632 : Shape := ⟨3, ![130, 64, 5632]⟩
abbrev S130x66x5632 : Shape := ⟨3, ![130, 66, 5632]⟩
abbrev S1x1x5632 : Shape := ⟨3, ![1, 1, 5632]⟩
abbrev S5632 : Shape := ⟨1, ![5632]⟩
abbrev S8192x2816 : Shape := ⟨2, ![8192, 2816]⟩
abbrev S8192 : Shape := ⟨1, ![8192]⟩
abbrev S8192x1 : Shape := ⟨2, ![8192, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 175
  | .vmem => 0
  | .smem => 0
  | _ => 0

abbrev hbmTy0_0 (i : Nat) : BufTy := match i % 128 with
  | 0 => ⟨S8192x5632, .f32⟩
  | 1 => ⟨S3x3x5632, .f32⟩
  | 2 => ⟨S1x5632, .f32⟩
  | 3 => ⟨S2816x1024, .f32⟩
  | 4 => ⟨S8192x1024, .f32⟩
  | 5 => ⟨S8192x1024, .f32⟩
  | 6 => ⟨S1x6144, .f32⟩
  | 7 => ⟨S1x1024, .f32⟩
  | 8 => ⟨S_, .f32⟩
  | 9 => ⟨S1x64x5632, .f32⟩
  | 10 => ⟨S_, .f32⟩
  | 11 => ⟨S130x1x5632, .f32⟩
  | 12 => ⟨S128x64x5632, .f32⟩
  | 13 => ⟨S130x64x5632, .f32⟩
  | 14 => ⟨S130x66x5632, .f32⟩
  | 15 => ⟨S128x64x5632, .f32⟩
  | 16 => ⟨S1x1x5632, .f32⟩
  | 17 => ⟨S5632, .f32⟩
  | 18 => ⟨S1x1x5632, .f32⟩
  | 19 => ⟨S128x64x5632, .f32⟩
  | 20 => ⟨S128x64x5632, .f32⟩
  | 21 => ⟨S1x1x5632, .f32⟩
  | 22 => ⟨S128x64x5632, .f32⟩
  | 23 => ⟨S128x64x5632, .f32⟩
  | 24 => ⟨S128x64x5632, .f32⟩
  | 25 => ⟨S1x1x5632, .f32⟩
  | 26 => ⟨S5632, .f32⟩
  | 27 => ⟨S1x1x5632, .f32⟩
  | 28 => ⟨S128x64x5632, .f32⟩
  | 29 => ⟨S128x64x5632, .f32⟩
  | 30 => ⟨S128x64x5632, .f32⟩
  | 31 => ⟨S128x64x5632, .f32⟩
  | 32 => ⟨S1x1x5632, .f32⟩
  | 33 => ⟨S5632, .f32⟩
  | 34 => ⟨S1x1x5632, .f32⟩
  | 35 => ⟨S128x64x5632, .f32⟩
  | 36 => ⟨S128x64x5632, .f32⟩
  | 37 => ⟨S128x64x5632, .f32⟩
  | 38 => ⟨S128x64x5632, .f32⟩
  | 39 => ⟨S1x1x5632, .f32⟩
  | 40 => ⟨S5632, .f32⟩
  | 41 => ⟨S1x1x5632, .f32⟩
  | 42 => ⟨S128x64x5632, .f32⟩
  | 43 => ⟨S128x64x5632, .f32⟩
  | 44 => ⟨S128x64x5632, .f32⟩
  | 45 => ⟨S128x64x5632, .f32⟩
  | 46 => ⟨S1x1x5632, .f32⟩
  | 47 => ⟨S5632, .f32⟩
  | 48 => ⟨S1x1x5632, .f32⟩
  | 49 => ⟨S128x64x5632, .f32⟩
  | 50 => ⟨S128x64x5632, .f32⟩
  | 51 => ⟨S128x64x5632, .f32⟩
  | 52 => ⟨S128x64x5632, .f32⟩
  | 53 => ⟨S1x1x5632, .f32⟩
  | 54 => ⟨S5632, .f32⟩
  | 55 => ⟨S1x1x5632, .f32⟩
  | 56 => ⟨S128x64x5632, .f32⟩
  | 57 => ⟨S128x64x5632, .f32⟩
  | 58 => ⟨S128x64x5632, .f32⟩
  | 59 => ⟨S128x64x5632, .f32⟩
  | 60 => ⟨S1x1x5632, .f32⟩
  | 61 => ⟨S5632, .f32⟩
  | 62 => ⟨S1x1x5632, .f32⟩
  | 63 => ⟨S128x64x5632, .f32⟩
  | 64 => ⟨S128x64x5632, .f32⟩
  | 65 => ⟨S128x64x5632, .f32⟩
  | 66 => ⟨S128x64x5632, .f32⟩
  | 67 => ⟨S1x1x5632, .f32⟩
  | 68 => ⟨S5632, .f32⟩
  | 69 => ⟨S1x1x5632, .f32⟩
  | 70 => ⟨S128x64x5632, .f32⟩
  | 71 => ⟨S128x64x5632, .f32⟩
  | 72 => ⟨S128x64x5632, .f32⟩
  | 73 => ⟨S128x64x5632, .f32⟩
  | 74 => ⟨S1x1x5632, .f32⟩
  | 75 => ⟨S5632, .f32⟩
  | 76 => ⟨S1x1x5632, .f32⟩
  | 77 => ⟨S128x64x5632, .f32⟩
  | 78 => ⟨S128x64x5632, .f32⟩
  | 79 => ⟨S128x64x5632, .f32⟩
  | 80 => ⟨S8192x5632, .f32⟩
  | 81 => ⟨S8192x2816, .f32⟩
  | 82 => ⟨S8192x2816, .f32⟩
  | 83 => ⟨S8192x2816, .f32⟩
  | 84 => ⟨S8192x2816, .f32⟩
  | 85 => ⟨S_, .f32⟩
  | 86 => ⟨S8192x2816, .f32⟩
  | 87 => ⟨S8192x2816, .f32⟩
  | 88 => ⟨S_, .f32⟩
  | 89 => ⟨S8192x2816, .f32⟩
  | 90 => ⟨S8192x2816, .f32⟩
  | 91 => ⟨S8192x2816, .f32⟩
  | 92 => ⟨S8192x2816, .f32⟩
  | 93 => ⟨S8192x1024, .f32⟩
  | 94 => ⟨S1x1024, .f32⟩
  | 95 => ⟨S8192x1024, .f32⟩
  | 96 => ⟨S8192x1024, .f32⟩
  | 97 => ⟨S8192x1024, .f32⟩
  | 98 => ⟨S8192x1024, .f32⟩
  | 99 => ⟨S_, .f32⟩
  | 100 => ⟨S8192, .f32⟩
  | 101 => ⟨S8192x1, .f32⟩
  | 102 => ⟨S_, .f32⟩
  | 103 => ⟨S8192x1, .f32⟩
  | 104 => ⟨S8192x1, .f32⟩
  | 105 => ⟨S_, .f32⟩
  | 106 => ⟨S8192x1, .f32⟩
  | 107 => ⟨S8192x1, .f32⟩
  | 108 => ⟨S8192x1, .f32⟩
  | 109 => ⟨S8192x1, .f32⟩
  | 110 => ⟨S_, .f32⟩
  | 111 => ⟨S8192x1, .f32⟩
  | 112 => ⟨S8192x1, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S_, .f32⟩
  | 120 => ⟨S8192x1024, .f32⟩
  | 121 => ⟨S8192x1024, .f32⟩
  | 122 => ⟨S_, .f32⟩
  | 123 => ⟨S8192, .f32⟩
  | 124 => ⟨S_, .f32⟩
  | 125 => ⟨S8192, .f32⟩
  | 126 => ⟨S8192, .f32⟩
  | 127 => ⟨S_, .f32⟩
  | _ => ⟨S8192x5632, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S8192, .f32⟩
  | 7 => ⟨S_, .f32⟩
  | 8 => ⟨S8192, .f32⟩
  | 9 => ⟨S8192, .f32⟩
  | 10 => ⟨S8192x1024, .f32⟩
  | 11 => ⟨S8192x1024, .f32⟩
  | 12 => ⟨S8192x1024, .f32⟩
  | 13 => ⟨S_, .f32⟩
  | 14 => ⟨S1024, .f32⟩
  | 15 => ⟨S1x1024, .f32⟩
  | 16 => ⟨S8192x1024, .f32⟩
  | 17 => ⟨S8192x1024, .f32⟩
  | 18 => ⟨S8192x1024, .f32⟩
  | 19 => ⟨S_, .f32⟩
  | 20 => ⟨S8192, .f32⟩
  | 21 => ⟨S8192x1, .f32⟩
  | 22 => ⟨S8192x1024, .f32⟩
  | 23 => ⟨S8192x1024, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S8192x1024, .f32⟩
  | 38 => ⟨S_, .f32⟩
  | 39 => ⟨S1024, .f32⟩
  | 40 => ⟨S1x1024, .f32⟩
  | 41 => ⟨S1x1024, .f32⟩
  | 42 => ⟨S_, .f32⟩
  | 43 => ⟨S5x1024, .f32⟩
  | 44 => ⟨S8x1024, .f32⟩
  | 45 => ⟨S8192x2816, .bf16⟩
  | 46 => ⟨S8192x1024, .bf16⟩
  | _ => ⟨S8192x5632, .f32⟩

abbrev hbmTy (i : Nat) : BufTy := match i / 128 with
  | 0 => hbmTy0_0 i
  | 1 => hbmTy0_1 i
  | _ => ⟨S8192x5632, .f32⟩

abbrev bufTy : (tb : Table) → Fin (tcTables nBuf tb) → BufTy
  | .hbm, ⟨i, _⟩ => hbmTy i
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_call0_v5 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_1 : Ref sig .tc := ⟨.hbm, 99, rfl⟩
abbrev main_v81 : Ref sig .tc := ⟨.hbm, 100, rfl⟩
abbrev main_v82 : Ref sig .tc := ⟨.hbm, 101, rfl⟩
abbrev main_cst_2 : Ref sig .tc := ⟨.hbm, 102, rfl⟩
abbrev main_v83 : Ref sig .tc := ⟨.hbm, 103, rfl⟩
abbrev main_v84 : Ref sig .tc := ⟨.hbm, 104, rfl⟩
abbrev main_cst_3 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_4 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_5 : Ref sig .tc := ⟨.hbm, 119, rfl⟩
abbrev main_v97 : Ref sig .tc := ⟨.hbm, 120, rfl⟩
abbrev main_v98 : Ref sig .tc := ⟨.hbm, 121, rfl⟩
abbrev main_cst_6 : Ref sig .tc := ⟨.hbm, 122, rfl⟩
abbrev main_v99 : Ref sig .tc := ⟨.hbm, 123, rfl⟩
abbrev main_cst_7 : Ref sig .tc := ⟨.hbm, 124, rfl⟩
abbrev main_v100 : Ref sig .tc := ⟨.hbm, 125, rfl⟩
abbrev main_v101 : Ref sig .tc := ⟨.hbm, 126, rfl⟩
abbrev main_cst_8 : Ref sig .tc := ⟨.hbm, 127, rfl⟩
abbrev main_v102 : Ref sig .tc := ⟨.hbm, 128, rfl⟩
abbrev main_cst_9 : Ref sig .tc := ⟨.hbm, 129, rfl⟩
abbrev main_v103 : Ref sig .tc := ⟨.hbm, 130, rfl⟩
abbrev main_cst_10 : Ref sig .tc := ⟨.hbm, 131, rfl⟩
abbrev main_cst_11 : Ref sig .tc := ⟨.hbm, 132, rfl⟩
abbrev main_v104 : Ref sig .tc := ⟨.hbm, 133, rfl⟩
abbrev main_v105 : Ref sig .tc := ⟨.hbm, 134, rfl⟩
abbrev main_cst_12 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_13 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_14 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_15 : Ref sig .tc := ⟨.hbm, 153, rfl⟩
abbrev main_v121 : Ref sig .tc := ⟨.hbm, 154, rfl⟩
abbrev main_v122 : Ref sig .tc := ⟨.hbm, 155, rfl⟩
abbrev main_cst_16 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_cst_17 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_cst_18 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩

abbrev nD : Nat := 1
abbrev τ : Topo := Topo.v7x

variable {F : FTy → Type} [FloatOps F]
-- ==== KernelDiscb.lean ====
abbrev S2x32x64 : Shape := ⟨3, ![2, 32, 64]⟩
abbrev S2x32 : Shape := ⟨2, ![2, 32]⟩
abbrev S2x32x64x16 : Shape := ⟨4, ![2, 32, 64, 16]⟩
abbrev S_ : Shape := ⟨0, ![]⟩
abbrev S2x32x64x15 : Shape := ⟨4, ![2, 32, 64, 15]⟩
abbrev S2x32x64x1 : Shape := ⟨4, ![2, 32, 64, 1]⟩
abbrev S512x128 : Shape := ⟨2, ![512, 128]⟩
abbrev S2x32x1x1 : Shape := ⟨4, ![2, 32, 1, 1]⟩

abbrev nBuf : Space → Nat
  | .hbm => 35
  | .vmem => 14
  | .smem => 0
  | _ => 0

abbrev bufTy : (tb : Table) → Fin (tcTables nBuf tb) → BufTy
  | .hbm, ⟨0, _⟩ => ⟨S2x32x64, .f32⟩
  | .hbm, ⟨1, _⟩ => ⟨S2x32x64, .f32⟩
  | .hbm, ⟨2, _⟩ => ⟨S2x32, .f32⟩
  | .hbm, ⟨3, _⟩ => ⟨S2x32x64x16, .f32⟩
  | .hbm, ⟨4, _⟩ => ⟨S2x32x64x16, .f32⟩
  | .hbm, ⟨5, _⟩ => ⟨S2x32x64, .f32⟩
  | .hbm, ⟨6, _⟩ => ⟨S2x32x64, .f32⟩
  | .hbm, ⟨7, _⟩ => ⟨S2x32x64x16, .f32⟩
  | .hbm, ⟨8, _⟩ => ⟨S2x32x64x16, .f32⟩
  | .hbm, ⟨9, _⟩ => ⟨S_, .f32⟩
  | .hbm, ⟨10, _⟩ => ⟨S2x32x64x15, .f32⟩
  | .hbm, ⟨11, _⟩ => ⟨S2x32x64x1, .f32⟩
  | .hbm, ⟨12, _⟩ => ⟨S2x32x64x16, .f32⟩
  | .hbm, ⟨13, _⟩ => ⟨S2x32x64x1, .f32⟩
  | .hbm, ⟨14, _⟩ => ⟨S2x32x64x16, .f32⟩
  | .hbm, ⟨15, _⟩ => ⟨S2x32x64x1, .f32⟩
  | .hbm, ⟨16, _⟩ => ⟨S2x32x64x16, .f32⟩
  | .hbm, ⟨17, _⟩ => ⟨S512x128, .f32⟩
  | .hbm, ⟨18, _⟩ => ⟨S2x32x64x1, .f32⟩
  | .hbm, ⟨19, _⟩ => ⟨S2x32x64x16, .f32⟩
  | .hbm, ⟨20, _⟩ => ⟨S512x128, .f32⟩
  | .hbm, ⟨21, _⟩ => ⟨S2x32x1x1, .f32⟩
  | .hbm, ⟨22, _⟩ => ⟨S2x32x64x16, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S2x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev main_v20_4 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== ReferenceDiscbIdeal.lean ====
abbrev S2x32x64 : Shape := ⟨3, ![2, 32, 64]⟩
abbrev S2x32 : Shape := ⟨2, ![2, 32]⟩
abbrev S2x32x64x16 : Shape := ⟨4, ![2, 32, 64, 16]⟩
abbrev S2x32x64x1 : Shape := ⟨4, ![2, 32, 64, 1]⟩
abbrev S2x32x1x1 : Shape := ⟨4, ![2, 32, 1, 1]⟩
abbrev S_ : Shape := ⟨0, ![]⟩
abbrev S2x32x64x15 : Shape := ⟨4, ![2, 32, 64, 15]⟩
abbrev S512x128 : Shape := ⟨2, ![512, 128]⟩

abbrev nBuf : Space → Nat
  | .hbm => 136
  | .vmem => 0
  | .smem => 0
  | _ => 0

abbrev hbmTy0_0 (i : Nat) : BufTy := match i % 128 with
  | 0 => ⟨S2x32x64, .f32⟩
  | 1 => ⟨S2x32x64, .f32⟩
  | 2 => ⟨S2x32, .f32⟩
  | 3 => ⟨S2x32x64x16, .f32⟩
  | 4 => ⟨S2x32x64x16, .f32⟩
  | 5 => ⟨S2x32x64, .f32⟩
  | 6 => ⟨S2x32x64, .f32⟩
  | 7 => ⟨S2x32x64x16, .f32⟩
  | 8 => ⟨S2x32x64x16, .f32⟩
  | 9 => ⟨S2x32x64x1, .f32⟩
  | 10 => ⟨S2x32x64x16, .f32⟩
  | 11 => ⟨S2x32x64x1, .f32⟩
  | 12 => ⟨S2x32x64x16, .f32⟩
  | 13 => ⟨S2x32x1x1, .f32⟩
  | 14 => ⟨S2x32x64x16, .f32⟩
  | 15 => ⟨S2x32x64x16, .f32⟩
  | 16 => ⟨S2x32x64x16, .f32⟩
  | 17 => ⟨S2x32x64x16, .f32⟩
  | 18 => ⟨S2x32x64x16, .f32⟩
  | 19 => ⟨S2x32x64x16, .f32⟩
  | 20 => ⟨S2x32x64x16, .f32⟩
  | 21 => ⟨S2x32x64x16, .f32⟩
  | 22 => ⟨S2x32x64x16, .f32⟩
  | 23 => ⟨S2x32x64x16, .f32⟩
  | 24 => ⟨S2x32x64x16, .f32⟩
  | 25 => ⟨S2x32x64x16, .f32⟩
  | 26 => ⟨S_, .f32⟩
  | 27 => ⟨S2x32x64x16, .f32⟩
  | 28 => ⟨S2x32x64x16, .f32⟩
  | 29 => ⟨S2x32x64x16, .f32⟩
  | 30 => ⟨S2x32x64x16, .f32⟩
  | 31 => ⟨S2x32x64x16, .f32⟩
  | 32 => ⟨S2x32x64x16, .f32⟩
  | 33 => ⟨S2x32x64x16, .f32⟩
  | 34 => ⟨S2x32x64x16, .f32⟩
  | 35 => ⟨S2x32x64x16, .f32⟩
  | 36 => ⟨S2x32x64x16, .f32⟩
  | 37 => ⟨S_, .f32⟩
  | 38 => ⟨S2x32x64x16, .f32⟩
  | 39 => ⟨S2x32x64x16, .f32⟩
  | 40 => ⟨S2x32x64x16, .f32⟩
  | 41 => ⟨S2x32x64x16, .f32⟩
  | 42 => ⟨S2x32x64x16, .f32⟩
  | 43 => ⟨S2x32x64x16, .f32⟩
  | 44 => ⟨S2x32x64x16, .f32⟩
  | 45 => ⟨S_, .f32⟩
  | 46 => ⟨S2x32x64x16, .f32⟩
  | 47 => ⟨S2x32x64x16, .f32⟩
  | 48 => ⟨S2x32x64x16, .f32⟩
  | 49 => ⟨S2x32x64x16, .f32⟩
  | 50 => ⟨S2x32x64x16, .f32⟩
  | 51 => ⟨S2x32x64x16, .f32⟩
  | 52 => ⟨S2x32x64x16, .f32⟩
  | 53 => ⟨S2x32x64x16, .f32⟩
  | 54 => ⟨S2x32x64x1, .f32⟩
  | 55 => ⟨S_, .f32⟩
  | 56 => ⟨S2x32x64x15, .f32⟩
  | 57 => ⟨S2x32x64x16, .f32⟩
  | 58 => ⟨S2x32x64x1, .f32⟩
  | 59 => ⟨S_, .f32⟩
  | 60 => ⟨S2x32x64x15, .f32⟩
  | 61 => ⟨S2x32x64x16, .f32⟩
  | 62 => ⟨S2x32x64x16, .f32⟩
  | 63 => ⟨S2x32x64x16, .f32⟩
  | 64 => ⟨S2x32x64x16, .f32⟩
  | 65 => ⟨S2x32x64x16, .f32⟩
  | 66 => ⟨S2x32x64x16, .f32⟩
  | 67 => ⟨S2x32x64x16, .f32⟩
  | 68 => ⟨S2x32x64x16, .f32⟩
  | 69 => ⟨S2x32x64x16, .f32⟩
  | 70 => ⟨S2x32x64x16, .f32⟩
  | 71 => ⟨S2x32x64x16, .f32⟩
  | 72 => ⟨S2x32x64x16, .f32⟩
  | 73 => ⟨S2x32x64x16, .f32⟩
  | 74 => ⟨S2x32x64x16, .f32⟩
  | 75 => ⟨S2x32x64x16, .f32⟩
  | 76 => ⟨S2x32x64x16, .f32⟩
  | 77 => ⟨S2x32x64x16, .f32⟩
  | 78 => ⟨S2x32x64x16, .f32⟩
  | 79 => ⟨S2x32x64x16, .f32⟩
  | 80 => ⟨S2x32x64x16, .f32⟩
  | 81 => ⟨S2x32x64x16, .f32⟩
  | 82 => ⟨S2x32x64x16, .f32⟩
  | 83 => ⟨S2x32x64x16, .f32⟩
  | 84 => ⟨S2x32x64x16, .f32⟩
  | 85 => ⟨S2x32x64x16, .f32⟩
  | 86 => ⟨S2x32x64x16, .f32⟩
  | 87 => ⟨S2x32x64x16, .f32⟩
  | 88 => ⟨S2x32x64x16, .f32⟩
  | 89 => ⟨S2x32x64x16, .f32⟩
  | 90 => ⟨S2x32x64x16, .f32⟩
  | 91 => ⟨S2x32x64x16, .f32⟩
  | 92 => ⟨S2x32x64x16, .f32⟩
  | 93 => ⟨S2x32x64x16, .f32⟩
  | 94 => ⟨S2x32x64x16, .f32⟩
  | 95 => ⟨S2x32x64x16, .f32⟩
  | 96 => ⟨S2x32x64x16, .f32⟩
  | 97 => ⟨S2x32x64x16, .f32⟩
  | 98 => ⟨S2x32x64x16, .f32⟩
  | 99 => ⟨S2x32x64x16, .f32⟩
  | 100 => ⟨S2x32x64x16, .f32⟩
  | 101 => ⟨S2x32x64x16, .f32⟩
  | 102 => ⟨S2x32x64x16, .f32⟩
  | 103 => ⟨S2x32x64x16, .f32⟩
  | 104 => ⟨S2x32x64x16, .f32⟩
  | 105 => ⟨S2x32x64x16, .f32⟩
  | 106 => ⟨S2x32x64x16, .f32⟩
  | 107 => ⟨S2x32x64x16, .f32⟩
  | 108 => ⟨S2x32x64x16, .f32⟩
  | 109 => ⟨S2x32x64x16, .f32⟩
  | 110 => ⟨S2x32x64x16, .f32⟩
  | 111 => ⟨S2x32x64x16, .f32⟩
  | 112 => ⟨S2x32x64x16, .f32⟩
  | 113 => ⟨S2x32x64x16, .f32⟩
  | 114 => ⟨S2x32x64x16, .f32⟩
  | 115 => ⟨S2x32x64x16, .f32⟩
  | 116 => ⟨S2x32x64x16, .f32⟩
  | 117 => ⟨S2x32x64x16, .f32⟩
  | 118 => ⟨S2x32x64x16, .f32⟩
  | 119 => ⟨S2x32x64x16, .f32⟩
  | 120 => ⟨S2x32x64x16, .f32⟩
  | 121 => ⟨S2x32x64x16, .f32⟩
  | 122 => ⟨S2x32x64x16, .f32⟩
  | 123 => ⟨S2x32x64x16, .f32⟩
  | 124 => ⟨S2x32x64x16, .f32⟩
  | 125 => ⟨S2x32x64x16, .f32⟩
  | 126 => ⟨S2x32x64x16, .f32⟩
  | 127 => ⟨S2x32x64x16, .f32⟩
  | _ => ⟨S2x32x64, .f32⟩

abbrev hbmTy0_1 (i : Nat) : BufTy := match i % 128 with
  | 0 => ⟨S2x32x64x16, .f32⟩
  | 1 => ⟨S2x32x64x16, .f32⟩
  | 2 => ⟨S2x32x64x16, .f32⟩
  | 3 => ⟨S512x128, .f32⟩
  | 4 => ⟨S512x128, .f32⟩
  | 5 => ⟨S512x128, .f32⟩
  | 6 => ⟨S512x128, .f32⟩
  | 7 => ⟨S512x128, .f32⟩
  | _ => ⟨S2x32x64, .f32⟩

abbrev hbmTy (i : Nat) : BufTy := match i / 128 with
  | 0 => hbmTy0_0 i
  | 1 => hbmTy0_1 i
  | _ => ⟨S2x32x64, .f32⟩

abbrev bufTy : (tb : Table) → Fin (tcTables nBuf tb) → BufTy
  | .hbm, ⟨i, _⟩ => hbmTy i
  | _, _ => ⟨S2x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_1 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_2 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩

abbrev nD : Nat := 1
abbrev τ : Topo := Topo.v7x

variable {F : FTy → Type} [FloatOps F]
-- ==== KernelDisc.lean ====
abbrev S2x32x64 : Shape := ⟨3, ![2, 32, 64]⟩
abbrev S2x32 : Shape := ⟨2, ![2, 32]⟩
abbrev S2x32x64x16 : Shape := ⟨4, ![2, 32, 64, 16]⟩
abbrev S2x32x64x1 : Shape := ⟨4, ![2, 32, 64, 1]⟩
abbrev S512x128 : Shape := ⟨2, ![512, 128]⟩
abbrev S2x32x1x1 : Shape := ⟨4, ![2, 32, 1, 1]⟩

abbrev nBuf : Space → Nat
  | .hbm => 20
  | .vmem => 9
  | .smem => 0
  | _ => 0

abbrev bufTy : (tb : Table) → Fin (tcTables nBuf tb) → BufTy
  | .hbm, ⟨0, _⟩ => ⟨S2x32x64, .f32⟩
  | .hbm, ⟨1, _⟩ => ⟨S2x32x64, .f32⟩
  | .hbm, ⟨2, _⟩ => ⟨S2x32, .f32⟩
  | .hbm, ⟨3, _⟩ => ⟨S2x32x64x16, .f32⟩
  | .hbm, ⟨4, _⟩ => ⟨S2x32x64x16, .f32⟩
  | .hbm, ⟨5, _⟩ => ⟨S2x32x64x1, .f32⟩
  | .hbm, ⟨6, _⟩ => ⟨S2x32x64x16, .f32⟩
  | .hbm, ⟨7, _⟩ => ⟨S512x128, .f32⟩
  | .hbm, ⟨8, _⟩ => ⟨S2x32x64x1, .f32⟩
  | .hbm, ⟨9, _⟩ => ⟨S2x32x64x16, .f32⟩
  | .hbm, ⟨10, _⟩ => ⟨S512x128, .f32⟩
  | .hbm, ⟨11, _⟩ => ⟨S2x32x1x1, .f32⟩
  | .hbm, ⟨12, _⟩ => ⟨S2x32x64x16, .f32⟩
  | .hbm, ⟨13, _⟩ => ⟨S512x128, .f32⟩
  | .hbm, ⟨14, _⟩ => ⟨S512x128, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | _, _ => ⟨S2x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceDiscIdeal.lean ====
abbrev S2x32x64 : Shape := ⟨3, ![2, 32, 64]⟩
abbrev S2x32 : Shape := ⟨2, ![2, 32]⟩
abbrev S2x32x64x16 : Shape := ⟨4, ![2, 32, 64, 16]⟩
abbrev S2x32x64x1 : Shape := ⟨4, ![2, 32, 64, 1]⟩
abbrev S2x32x1x1 : Shape := ⟨4, ![2, 32, 1, 1]⟩
abbrev S_ : Shape := ⟨0, ![]⟩
abbrev S512x128 : Shape := ⟨2, ![512, 128]⟩

abbrev nBuf : Space → Nat
  | .hbm => 50
  | .vmem => 0
  | .smem => 0
  | _ => 0

abbrev bufTy : (tb : Table) → Fin (tcTables nBuf tb) → BufTy
  | .hbm, ⟨0, _⟩ => ⟨S2x32x64, .f32⟩
  | .hbm, ⟨1, _⟩ => ⟨S2x32x64, .f32⟩
  | .hbm, ⟨2, _⟩ => ⟨S2x32, .f32⟩
  | .hbm, ⟨3, _⟩ => ⟨S2x32x64x16, .f32⟩
  | .hbm, ⟨4, _⟩ => ⟨S2x32x64x16, .f32⟩
  | .hbm, ⟨5, _⟩ => ⟨S2x32x64x1, .f32⟩
  | .hbm, ⟨6, _⟩ => ⟨S2x32x64x1, .f32⟩
  | .hbm, ⟨7, _⟩ => ⟨S2x32x1x1, .f32⟩
  | .hbm, ⟨8, _⟩ => ⟨S2x32x1x1, .f32⟩
  | .hbm, ⟨9, _⟩ => ⟨S2x32x64x1, .f32⟩
  | .hbm, ⟨10, _⟩ => ⟨S2x32x64x1, .f32⟩
  | .hbm, ⟨11, _⟩ => ⟨S2x32x64x1, .f32⟩
  | .hbm, ⟨12, _⟩ => ⟨S2x32x64x1, .f32⟩
  | .hbm, ⟨13, _⟩ => ⟨S2x32x64x1, .f32⟩
  | .hbm, ⟨14, _⟩ => ⟨S2x32x64x1, .f32⟩
  | .hbm, ⟨15, _⟩ => ⟨S2x32x64x1, .f32⟩
  | .hbm, ⟨16, _⟩ => ⟨S2x32x64x1, .f32⟩
  | .hbm, ⟨17, _⟩ => ⟨S2x32x64x1, .f32⟩
  | .hbm, ⟨18, _⟩ => ⟨S2x32x64x1, .f32⟩
  | .hbm, ⟨19, _⟩ => ⟨S2x32x64x1, .f32⟩
  | .hbm, ⟨20, _⟩ => ⟨S_, .f32⟩
  | .hbm, ⟨21, _⟩ => ⟨S2x32x64x1, .f32⟩
  | .hbm, ⟨22, _⟩ => ⟨S2x32x64x1, .f32⟩
  | .hbm, ⟨23, _⟩ => ⟨S2x32x64x1, .f32⟩
  | .hbm, ⟨24, _⟩ => ⟨S2x32x64x1, .f32⟩
  | .hbm, ⟨25, _⟩ => ⟨S2x32x64x1, .f32⟩
  | .hbm, ⟨26, _⟩ => ⟨S2x32x64x1, .f32⟩
  | .hbm, ⟨27, _⟩ => ⟨S2x32x64x1, .f32⟩
  | .hbm, ⟨28, _⟩ => ⟨S2x32x64x1, .f32⟩
  | .hbm, ⟨29, _⟩ => ⟨S2x32x64x1, .f32⟩
  | .hbm, ⟨30, _⟩ => ⟨S2x32x64x1, .f32⟩
  | .hbm, ⟨31, _⟩ => ⟨S2x32x64x1, .f32⟩
  | .hbm, ⟨32, _⟩ => ⟨S2x32x64x1, .f32⟩
  | .hbm, ⟨33, _⟩ => ⟨S2x32x64x1, .f32⟩
  | .hbm, ⟨34, _⟩ => ⟨S2x32x64x16, .f32⟩
  | .hbm, ⟨35, _⟩ => ⟨S2x32x64x16, .f32⟩
  | .hbm, ⟨36, _⟩ => ⟨S2x32x64x16, .f32⟩
  | .hbm, ⟨37, _⟩ => ⟨S2x32x64x16, .f32⟩
  | .hbm, ⟨38, _⟩ => ⟨S2x32x64x16, .f32⟩
  | .hbm, ⟨39, _⟩ => ⟨S2x32x64x16, .f32⟩
  | .hbm, ⟨40, _⟩ => ⟨S2x32x64x16, .f32⟩
  | .hbm, ⟨41, _⟩ => ⟨S2x32x64x16, .f32⟩
  | .hbm, ⟨42, _⟩ => ⟨S2x32x64x16, .f32⟩
  | .hbm, ⟨43, _⟩ => ⟨S2x32x64x16, .f32⟩
  | .hbm, ⟨44, _⟩ => ⟨S2x32x64x16, .f32⟩
  | .hbm, ⟨45, _⟩ => ⟨S512x128, .f32⟩
  | .hbm, ⟨46, _⟩ => ⟨S2x32x64x16, .f32⟩
  | .hbm, ⟨47, _⟩ => ⟨S512x128, .f32⟩
  | .hbm, ⟨48, _⟩ => ⟨S512x128, .f32⟩
  | .hbm, ⟨49, _⟩ => ⟨S512x128, .f32⟩
  | _, _ => ⟨S2x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩

abbrev nD : Nat := 1
abbrev τ : Topo := Topo.v7x

variable {F : FTy → Type} [FloatOps F]
-- ==== KernelUpf.lean ====
abbrev S8192x1024 : Shape := ⟨2, ![8192, 1024]⟩
abbrev S1x6144 : Shape := ⟨2, ![1, 6144]⟩
abbrev S1x1024 : Shape := ⟨2, ![1, 1024]⟩
abbrev S1024x5632 : Shape := ⟨2, ![1024, 5632]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024x2816 : Shape := ⟨2, ![1024, 2816]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x6144, .f32⟩
  | .hbm, ⟨2, _⟩ => ⟨S1x1024, .f32⟩
  | .hbm, ⟨3, _⟩ => ⟨S1024x5632, .f32⟩
  | .hbm, ⟨4, _⟩ => ⟨S1024x5632, .bf16⟩
  | .hbm, ⟨5, _⟩ => ⟨S8192x2816, .f32⟩
  | .hbm, ⟨6, _⟩ => ⟨S8192x2816, .f32⟩
  | .hbm, ⟨7, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x6144, .f32⟩
  | .local _ .vmem, ⟨3, _⟩ => ⟨S1x1024, .f32⟩
  | .local _ .vmem, ⟨4, _⟩ => ⟨S1024x5632, .bf16⟩
  | .local _ .vmem, ⟨5, _⟩ => ⟨S256x2816, .f32⟩
  | .local _ .vmem, ⟨6, _⟩ => ⟨S256x2816, .f32⟩
  | .local _ .vmem, ⟨7, _⟩ => ⟨S256x2816, .f32⟩
  | .local _ .vmem, ⟨8, _⟩ => ⟨S256x2816, .f32⟩
  | .local _ .vmem, ⟨9, _⟩ => ⟨S256x1024, .bf16⟩
  | .local _ .vmem, ⟨10, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceUpfIdeal.lean ====
abbrev S8192x1024 : Shape := ⟨2, ![8192, 1024]⟩
abbrev S1x6144 : Shape := ⟨2, ![1, 6144]⟩
abbrev S1x1024 : Shape := ⟨2, ![1, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x6144, .f32⟩
  | .hbm, ⟨2, _⟩ => ⟨S1x1024, .f32⟩
  | .hbm, ⟨3, _⟩ => ⟨S1024x5632, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x5632, .f32⟩
  | .hbm, ⟨29, _⟩ => ⟨S8192x2816, .f32⟩
  | .hbm, ⟨30, _⟩ => ⟨S8192x2816, .f32⟩
  | .hbm, ⟨31, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== KernelMix.lean ====
abbrev S8448x512 : Shape := ⟨2, ![8448, 512]⟩
abbrev S8448x1024 : Shape := ⟨2, ![8448, 1024]⟩
abbrev S8448x2048 : Shape := ⟨2, ![8448, 2048]⟩
abbrev S8192x1024 : Shape := ⟨2, ![8192, 1024]⟩
abbrev S1x6144 : Shape := ⟨2, ![1, 6144]⟩
abbrev S1x512 : Shape := ⟨2, ![1, 512]⟩
abbrev S512x512 : Shape := ⟨2, ![512, 512]⟩
abbrev S8x128x128 : Shape := ⟨3, ![8, 128, 128]⟩
abbrev S8x128 : Shape := ⟨2, ![8, 128]⟩
abbrev S512x1024 : Shape := ⟨2, ![512, 1024]⟩
abbrev S1x2048 : Shape := ⟨2, ![1, 2048]⟩
abbrev S1024x1024 : Shape := ⟨2, ![1024, 1024]⟩
abbrev S128x8 : Shape := ⟨2, ![128, 8]⟩
abbrev S128x8x64 : Shape := ⟨3, ![128, 8, 64]⟩
abbrev S128x512 : Shape := ⟨2, ![128, 512]⟩
abbrev S8448x3072 : Shape := ⟨2, ![8448, 3072]⟩
abbrev S8192x512 : Shape := ⟨2, ![8192, 512]⟩
abbrev S8x2048 : Shape := ⟨2, ![8, 2048]⟩
abbrev S256x512 : Shape := ⟨2, ![256, 512]⟩
abbrev S256x1024 : Shape := ⟨2, ![256, 1024]⟩
abbrev S256x2048 : Shape := ⟨2, ![256, 2048]⟩
abbrev S256x3072 : Shape := ⟨2, ![256, 3072]⟩
abbrev S1x128x128 : Shape := ⟨3, ![1, 128, 128]⟩
abbrev S128x128 : Shape := ⟨2, ![128, 128]⟩
abbrev S256 : Shape := ⟨1, ![256]⟩
abbrev S256x1 : Shape := ⟨2, ![256, 1]⟩
abbrev S1x1024 : Shape := ⟨2, ![1, 1024]⟩
abbrev S1024 : Shape := ⟨1, ![1024]⟩
abbrev S512 : Shape := ⟨1, ![512]⟩

abbrev nBuf : Space → Nat
  | .hbm => 38
  | .vmem => 46
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x512, .f32⟩
  | .hbm, ⟨3, _⟩ => ⟨S8448x1024, .f32⟩
  | .hbm, ⟨4, _⟩ => ⟨S8448x2048, .f32⟩
  | .hbm, ⟨5, _⟩ => ⟨S8192x1024, .f32⟩
  | .hbm, ⟨6, _⟩ => ⟨S1x6144, .f32⟩
  | .hbm, ⟨7, _⟩ => ⟨S1x512, .f32⟩
  | .hbm, ⟨8, _⟩ => ⟨S512x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S8x128x128, .f32⟩
  | .hbm, ⟨13, _⟩ => ⟨S8x128, .f32⟩
  | .hbm, ⟨14, _⟩ => ⟨S512x1024, .f32⟩
  | .hbm, ⟨15, _⟩ => ⟨S512x1024, .f32⟩
  | .hbm, ⟨16, _⟩ => ⟨S1x2048, .f32⟩
  | .hbm, ⟨17, _⟩ => ⟨S1024x1024, .f32⟩
  | .hbm, ⟨18, _⟩ => ⟨S128x8, .f32⟩
  | .hbm, ⟨19, _⟩ => ⟨S128x8x64, .f32⟩
  | .hbm, ⟨20, _⟩ => ⟨S128x512, .f32⟩
  | .hbm, ⟨21, _⟩ => ⟨S512x512, .bf16⟩
  | .hbm, ⟨22, _⟩ => ⟨S512x1024, .bf16⟩
  | .hbm, ⟨23, _⟩ => ⟨S512x1024, .bf16⟩
  | .hbm, ⟨24, _⟩ => ⟨S1024x1024, .bf16⟩
  | .hbm, ⟨25, _⟩ => ⟨S8448x512, .f32⟩
  | .hbm, ⟨26, _⟩ => ⟨S8448x512, .f32⟩
  | .hbm, ⟨27, _⟩ => ⟨S8448x3072, .bf16⟩
  | .hbm, ⟨28, _⟩ => ⟨S8192x512, .bf16⟩
  | .hbm, ⟨29, _⟩ => ⟨S8192x512, .bf16⟩
  | .hbm, ⟨30, _⟩ => ⟨S8192x1024, .bf16⟩
  | .hbm, ⟨31, _⟩ => ⟨S8192x1024, .bf16⟩
  | .hbm, ⟨32, _⟩ => ⟨S8192x1024, .bf16⟩
  | .hbm, ⟨33, _⟩ => ⟨S8192x1024, .bf16⟩
  | .hbm, ⟨34, _⟩ => ⟨S512x512, .f32⟩
  | .hbm, ⟨35, _⟩ => ⟨S8x128x128, .f32⟩
  | .hbm, ⟨36, _⟩ => ⟨S128x512, .f32⟩
  | .hbm, ⟨37, _⟩ => ⟨S8x2048, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x2048, .f32⟩
  | .local _ .vmem, ⟨9, _⟩ => ⟨S256x2048, .f32⟩
  | .local _ .vmem, ⟨10, _⟩ => ⟨S256x1024, .f32⟩
  | .local _ .vmem, ⟨11, _⟩ => ⟨S256x1024, .f32⟩
  | .local _ .vmem, ⟨12, _⟩ => ⟨S1x6144, .f32⟩
  | .local _ .vmem, ⟨13, _⟩ => ⟨S1x512, .f32⟩
  | .local _ .vmem, ⟨14, _⟩ => ⟨S512x512, .bf16⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S8x128x128, .f32⟩
  | .local _ .vmem, ⟨19, _⟩ => ⟨S128x512, .f32⟩
  | .local _ .vmem, ⟨20, _⟩ => ⟨S512x1024, .bf16⟩
  | .local _ .vmem, ⟨21, _⟩ => ⟨S512x1024, .bf16⟩
  | .local _ .vmem, ⟨22, _⟩ => ⟨S1x2048, .f32⟩
  | .local _ .vmem, ⟨23, _⟩ => ⟨S1024x1024, .bf16⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x3072, .bf16⟩
  | .local _ .vmem, ⟨29, _⟩ => ⟨S256x3072, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | .local _ .vmem, ⟨38, _⟩ => ⟨S256x1024, .bf16⟩
  | .local _ .vmem, ⟨39, _⟩ => ⟨S256x1024, .bf16⟩
  | .local _ .vmem, ⟨40, _⟩ => ⟨S256x1024, .bf16⟩
  | .local _ .vmem, ⟨41, _⟩ => ⟨S256x1024, .bf16⟩
  | .local _ .vmem, ⟨42, _⟩ => ⟨S512x512, .f32⟩
  | .local _ .vmem, ⟨43, _⟩ => ⟨S8x128x128, .f32⟩
  | .local _ .vmem, ⟨44, _⟩ => ⟨S128x512, .f32⟩
  | .local _ .vmem, ⟨45, _⟩ => ⟨S8x2048, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7_0 : Ref sig .tc := ⟨.hbm, 25, rfl⟩
abbrev main_v7_1 : Ref sig .tc := ⟨.hbm, 26, rfl⟩
abbrev main_v7_2 : Ref sig .tc := ⟨.hbm, 27, rfl⟩
abbrev main_v7_3 : Ref sig .tc := ⟨.hbm, 28, rfl⟩
abbrev main_v7_4 : Ref sig .tc := ⟨.hbm, 29, rfl⟩
abbrev main_v7_5 : Ref sig .tc := ⟨.hbm, 30, rfl⟩
abbrev main_v7_6 : Ref sig .tc := ⟨.hbm, 31, rfl⟩
abbrev main_v7_7 : Ref sig .tc := ⟨.hbm, 32, rfl⟩
abbrev main_v7_8 : Ref sig .tc := ⟨.hbm, 33, rfl⟩
abbrev main_v7_9 : Ref sig .tc := ⟨.hbm, 34, rfl⟩
abbrev main_v7_10 : Ref sig .tc := ⟨.hbm, 35, rfl⟩
abbrev main_v7_11 : Ref sig .tc := ⟨.hbm, 36, rfl⟩
abbrev main_v7_12 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_stg25_0 : Ref sig .tc := ⟨.vmem, 38, rfl⟩
abbrev cc0_stg25_1 : Ref sig .tc := ⟨.vmem, 39, rfl⟩
abbrev cc0_stg26_0 : Ref sig .tc := ⟨.vmem, 40, rfl⟩
abbrev cc0_stg26_1 : Ref sig .tc := ⟨.vmem, 41, rfl⟩
abbrev cc0_stg27_0 : Ref sig .tc := ⟨.vmem, 42, rfl⟩
abbrev cc0_stg28_0 : Ref sig .tc := ⟨.vmem, 43, rfl⟩
abbrev cc0_stg29_0 : Ref sig .tc := ⟨.vmem, 44, rfl⟩
abbrev cc0_stg30_0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37
abbrev cc0_sem25_0 : DmaSem sig := 38
abbrev cc0_sem25_1 : DmaSem sig := 39
abbrev cc0_sem26_0 : DmaSem sig := 40
abbrev cc0_sem26_1 : DmaSem sig := 41
abbrev cc0_sem27_0 : DmaSem sig := 42
abbrev cc0_sem28_0 : DmaSem sig := 43
abbrev cc0_sem29_0 : DmaSem sig := 44
abbrev cc0_sem30_0 : DmaSem sig := 45

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_22 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_23 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_24 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_25 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_26 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x3072 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 1 → Memref sig .tc .vmem S512x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S8x128x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S128x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S8x2048 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]
-- ==== ReferenceMixIdeal.lean ====
abbrev S8448x512 : Shape := ⟨2, ![8448, 512]⟩
abbrev S8448x1024 : Shape := ⟨2, ![8448, 1024]⟩
abbrev S8448x2048 : Shape := ⟨2, ![8448, 2048]⟩
abbrev S8192x1024 : Shape := ⟨2, ![8192, 1024]⟩
abbrev S1x6144 : Shape := ⟨2, ![1, 6144]⟩
abbrev S1x512 : Shape := ⟨2, ![1, 512]⟩
abbrev S512x512 : Shape := ⟨2, ![512, 512]⟩
abbrev S8x128x128 : Shape := ⟨3, ![8, 128, 128]⟩
abbrev S8x128 : Shape := ⟨2, ![8, 128]⟩
abbrev S512x1024 : Shape := ⟨2, ![512, 1024]⟩
abbrev S1x2048 : Shape := ⟨2, ![1, 2048]⟩
abbrev S1024x1024 : Shape := ⟨2, ![1024, 1024]⟩
abbrev S8192x512 : Shape := ⟨2, ![8192, 512]⟩
abbrev S8192x2048 : Shape := ⟨2, ![8192, 2048]⟩
abbrev S128x8 : Shape := ⟨2, ![128, 8]⟩
abbrev S128x8x64 : Shape := ⟨3, ![128, 8, 64]⟩
abbrev S128x512 : Shape := ⟨2, ![128, 512]⟩
abbrev S_ : Shape := ⟨0, ![]⟩
abbrev S8192 : Shape := ⟨1, ![8192]⟩
abbrev S8192x1 : Shape := ⟨2, ![8192, 1]⟩
abbrev S64x128x8x64 : Shape := ⟨4, ![64, 128, 8, 64]⟩
abbrev S8x128x64x64 : Shape := ⟨4, ![8, 128, 64, 64]⟩
abbrev S1x128x8x64 : Shape := ⟨4, ![1, 128, 8, 64]⟩
abbrev S1x1024 : Shape := ⟨2, ![1, 1024]⟩
abbrev S2048 : Shape := ⟨1, ![2048]⟩
abbrev S8x64x64x128 : Shape := ⟨4, ![8, 64, 64, 128]⟩
abbrev S512 : Shape := ⟨1, ![512]⟩
abbrev S1x1536 : Shape := ⟨2, ![1, 1536]⟩
abbrev S3x2048 : Shape := ⟨2, ![3, 2048]⟩
abbrev S8x2048 : Shape := ⟨2, ![8, 2048]⟩
abbrev S256x512 : Shape := ⟨2, ![256, 512]⟩
abbrev S8192x3072 : Shape := ⟨2, ![8192, 3072]⟩
abbrev S256x3072 : Shape := ⟨2, ![256, 3072]⟩
abbrev S8448x3072 : Shape := ⟨2, ![8448, 3072]⟩

abbrev nBuf : Space → Nat
  | .hbm => 312
  | .vmem => 0
  | .smem => 0
  | _ => 0

abbrev hbmTy0_0 (i : Nat) : BufTy := match i % 128 with
  | 0 => ⟨S8448x512, .f32⟩
  | 1 => ⟨S8448x512, .f32⟩
  | 2 => ⟨S8448x512, .f32⟩
  | 3 => ⟨S8448x1024, .f32⟩
  | 4 => ⟨S8448x2048, .f32⟩
  | 5 => ⟨S8192x1024, .f32⟩
  | 6 => ⟨S1x6144, .f32⟩
  | 7 => ⟨S1x512, .f32⟩
  | 8 => ⟨S512x512, .f32⟩
  | 9 => ⟨S1x512, .f32⟩
  | 10 => ⟨S1x512, .f32⟩
  | 11 => ⟨S1x512, .f32⟩
  | 12 => ⟨S8x128x128, .f32⟩
  | 13 => ⟨S8x128, .f32⟩
  | 14 => ⟨S512x1024, .f32⟩
  | 15 => ⟨S512x1024, .f32⟩
  | 16 => ⟨S1x2048, .f32⟩
  | 17 => ⟨S1024x1024, .f32⟩
  | 18 => ⟨S8192x512, .f32⟩
  | 19 => ⟨S8192x512, .f32⟩
  | 20 => ⟨S8192x512, .f32⟩
  | 21 => ⟨S8192x1024, .f32⟩
  | 22 => ⟨S8192x2048, .f32⟩
  | 23 => ⟨S128x8, .f32⟩
  | 24 => ⟨S128x8x64, .f32⟩
  | 25 => ⟨S128x512, .f32⟩
  | 26 => ⟨S8192x512, .f32⟩
  | 27 => ⟨S8192x512, .f32⟩
  | 28 => ⟨S8192x512, .f32⟩
  | 29 => ⟨S8192x512, .f32⟩
  | 30 => ⟨S8192x512, .f32⟩
  | 31 => ⟨S8192x512, .f32⟩
  | 32 => ⟨S8192x512, .f32⟩
  | 33 => ⟨S_, .f32⟩
  | 34 => ⟨S8192x512, .f32⟩
  | 35 => ⟨S8192x512, .f32⟩
  | 36 => ⟨S_, .f32⟩
  | 37 => ⟨S8192x512, .f32⟩
  | 38 => ⟨S8192x512, .f32⟩
  | 39 => ⟨S8192x512, .f32⟩
  | 40 => ⟨S_, .f32⟩
  | 41 => ⟨S8192x512, .f32⟩
  | 42 => ⟨S8192x512, .f32⟩
  | 43 => ⟨S8192x512, .f32⟩
  | 44 => ⟨S_, .f32⟩
  | 45 => ⟨S8192x512, .f32⟩
  | 46 => ⟨S8192x512, .f32⟩
  | 47 => ⟨S_, .f32⟩
  | 48 => ⟨S8192x512, .f32⟩
  | 49 => ⟨S8192x512, .f32⟩
  | 50 => ⟨S8192x512, .f32⟩
  | 51 => ⟨S_, .f32⟩
  | 52 => ⟨S8192x512, .f32⟩
  | 53 => ⟨S8192x512, .f32⟩
  | 54 => ⟨S_, .f32⟩
  | 55 => ⟨S8192x512, .f32⟩
  | 56 => ⟨S8192x512, .f32⟩
  | 57 => ⟨S8192x512, .f32⟩
  | 58 => ⟨S8192x512, .f32⟩
  | 59 => ⟨S8192x512, .f32⟩
  | 60 => ⟨S8192x512, .f32⟩
  | 61 => ⟨S8192x512, .f32⟩
  | 62 => ⟨S8192x512, .f32⟩
  | 63 => ⟨S_, .f32⟩
  | 64 => ⟨S8192x512, .f32⟩
  | 65 => ⟨S8192x512, .f32⟩
  | 66 => ⟨S_, .f32⟩
  | 67 => ⟨S8192x512, .f32⟩
  | 68 => ⟨S8192x512, .f32⟩
  | 69 => ⟨S_, .f32⟩
  | 70 => ⟨S8192x512, .f32⟩
  | 71 => ⟨S8192x512, .f32⟩
  | 72 => ⟨S8192x512, .f32⟩
  | 73 => ⟨S8192x512, .f32⟩
  | 74 => ⟨S8192x1024, .f32⟩
  | 75 => ⟨S8192x1024, .f32⟩
  | 76 => ⟨S8192x1024, .f32⟩
  | 77 => ⟨S_, .f32⟩
  | 78 => ⟨S8192x1024, .f32⟩
  | 79 => ⟨S8192x1024, .f32⟩
  | 80 => ⟨S_, .f32⟩
  | 81 => ⟨S8192x1024, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S8192x1024, .f32⟩
  | 88 => ⟨S_, .f32⟩
  | 89 => ⟨S8192x1024, .f32⟩
  | 90 => ⟨S8192x1024, .f32⟩
  | 91 => ⟨S_, .f32⟩
  | 92 => ⟨S8192x1024, .f32⟩
  | 93 => ⟨S8192x1024, .f32⟩
  | 94 => ⟨S8192x1024, .f32⟩
  | 95 => ⟨S_, .f32⟩
  | 96 => ⟨S8192x1024, .f32⟩
  | 97 => ⟨S8192x1024, .f32⟩
  | 98 => ⟨S_, .f32⟩
  | 99 => ⟨S8192x1024, .f32⟩
  | 100 => ⟨S8192x1024, .f32⟩
  | 101 => ⟨S8192x1024, .f32⟩
  | 102 => ⟨S8192x512, .f32⟩
  | 103 => ⟨S8192x512, .f32⟩
  | 104 => ⟨S_, .f32⟩
  | 105 => ⟨S8192, .f32⟩
  | 106 => ⟨S8192x1, .f32⟩
  | 107 => ⟨S_, .f32⟩
  | 108 => ⟨S8192x1, .f32⟩
  | 109 => ⟨S8192x1, .f32⟩
  | 110 => ⟨S8192x512, .f32⟩
  | 111 => ⟨S8192x512, .f32⟩
  | 112 => ⟨S8192x512, .f32⟩
  | 113 => ⟨S_, .f32⟩
  | 114 => ⟨S8192, .f32⟩
  | 115 => ⟨S8192x1, .f32⟩
  | 116 => ⟨S_, .f32⟩
  | 117 => ⟨S8192x1, .f32⟩
  | 118 => ⟨S8192x1, .f32⟩
  | 119 => ⟨S_, .f32⟩
  | 120 => ⟨S8192x1, .f32⟩
  | 121 => ⟨S8192x1, .f32⟩
  | 122 => ⟨S8192x1, .f32⟩
  | 123 => ⟨S8192x1, .f32⟩
  | 124 => ⟨S_, .f32⟩
  | 125 => ⟨S8192x1, .f32⟩
  | 126 => ⟨S8192x1, .f32⟩
  | 127 => ⟨S8192x512, .f32⟩
  | _ => ⟨S8448x512, .f32⟩

abbrev hbmTy0_1 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x512, .f32⟩
  | 5 => ⟨S64x128x8x64, .f32⟩
  | 6 => ⟨S8x128x64x64, .f32⟩
  | 7 => ⟨S64x128x8x64, .f32⟩
  | 8 => ⟨S128x8x64, .f32⟩
  | 9 => ⟨S1x128x8x64, .f32⟩
  | 10 => ⟨S64x128x8x64, .f32⟩
  | 11 => ⟨S64x128x8x64, .f32⟩
  | 12 => ⟨S8192x512, .f32⟩
  | 13 => ⟨S8192x512, .f32⟩
  | 14 => ⟨S8192x1024, .f32⟩
  | 15 => ⟨S8192x1024, .f32⟩
  | 16 => ⟨S8192x2048, .f32⟩
  | 17 => ⟨S8192x2048, .f32⟩
  | 18 => ⟨S8192x2048, .f32⟩
  | 19 => ⟨S8192x2048, .f32⟩
  | 20 => ⟨S_, .f32⟩
  | 21 => ⟨S8192x2048, .f32⟩
  | 22 => ⟨S8192x2048, .f32⟩
  | 23 => ⟨S_, .f32⟩
  | 24 => ⟨S8192x2048, .f32⟩
  | 25 => ⟨S8192x2048, .f32⟩
  | 26 => ⟨S_, .f32⟩
  | 27 => ⟨S8192x2048, .f32⟩
  | 28 => ⟨S8192x2048, .f32⟩
  | 29 => ⟨S8192x2048, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S1x1024, .f32⟩
  | 37 => ⟨S8192x1024, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x2048, .f32⟩
  | 48 => ⟨S8192x2048, .f32⟩
  | 49 => ⟨S_, .f32⟩
  | 50 => ⟨S2048, .f32⟩
  | 51 => ⟨S1x2048, .f32⟩
  | 52 => ⟨S8192x512, .f32⟩
  | 53 => ⟨S8192x512, .f32⟩
  | 54 => ⟨S8192x512, .f32⟩
  | 55 => ⟨S8192x512, .f32⟩
  | 56 => ⟨S64x128x8x64, .f32⟩
  | 57 => ⟨S_, .f32⟩
  | 58 => ⟨S128x8x64, .f32⟩
  | 59 => ⟨S1x128x8x64, .f32⟩
  | 60 => ⟨S_, .f32⟩
  | 61 => ⟨S128x8x64, .f32⟩
  | 62 => ⟨S128x512, .f32⟩
  | 63 => ⟨S8x128x64x64, .f32⟩
  | 64 => ⟨S8x64x64x128, .f32⟩
  | 65 => ⟨S64x128x8x64, .f32⟩
  | 66 => ⟨S8x128x128, .f32⟩
  | 67 => ⟨S8192x512, .f32⟩
  | 68 => ⟨S_, .f32⟩
  | 69 => ⟨S512, .f32⟩
  | 70 => ⟨S1x512, .f32⟩
  | 71 => ⟨S8192x512, .f32⟩
  | 72 => ⟨S_, .f32⟩
  | 73 => ⟨S512, .f32⟩
  | 74 => ⟨S1x512, .f32⟩
  | 75 => ⟨S8192x512, .f32⟩
  | 76 => ⟨S8192x512, .f32⟩
  | 77 => ⟨S8192x512, .f32⟩
  | 78 => ⟨S_, .f32⟩
  | 79 => ⟨S8192, .f32⟩
  | 80 => ⟨S8192x1, .f32⟩
  | 81 => ⟨S8192x512, .f32⟩
  | 82 => ⟨S8192x512, .f32⟩
  | 83 => ⟨S8192x1, .f32⟩
  | 84 => ⟨S_, .f32⟩
  | 85 => ⟨S8192x1, .f32⟩
  | 86 => ⟨S8192x1, .f32⟩
  | 87 => ⟨S_, .f32⟩
  | 88 => ⟨S8192, .f32⟩
  | 89 => ⟨S8192x512, .f32⟩
  | 90 => ⟨S8192x512, .f32⟩
  | 91 => ⟨S8192x512, .f32⟩
  | 92 => ⟨S8192x512, .f32⟩
  | 93 => ⟨S8192x512, .f32⟩
  | 94 => ⟨S8192x512, .f32⟩
  | 95 => ⟨S_, .f32⟩
  | 96 => ⟨S8192, .f32⟩
  | 97 => ⟨S8192x1, .f32⟩
  | 98 => ⟨S_, .f32⟩
  | 99 => ⟨S8192x1, .f32⟩
  | 100 => ⟨S8192x1, .f32⟩
  | 101 => ⟨S_, .f32⟩
  | 102 => ⟨S8192, .f32⟩
  | 103 => ⟨S8192x512, .f32⟩
  | 104 => ⟨S8192x512, .f32⟩
  | 105 => ⟨S8192x1024, .f32⟩
  | 106 => ⟨S8192x1024, .f32⟩
  | 107 => ⟨S8192x1024, .f32⟩
  | 108 => ⟨S_, .f32⟩
  | 109 => ⟨S8192x1024, .f32⟩
  | 110 => ⟨S8192x1024, .f32⟩
  | 111 => ⟨S8192x1024, .f32⟩
  | 112 => ⟨S_, .f32⟩
  | 113 => ⟨S8192x1024, .f32⟩
  | 114 => ⟨S8192x1024, .f32⟩
  | 115 => ⟨S8192x1024, .f32⟩
  | 116 => ⟨S_, .f32⟩
  | 117 => ⟨S8192x1024, .f32⟩
  | 118 => ⟨S8192x1024, .f32⟩
  | 119 => ⟨S8192x1024, .f32⟩
  | 120 => ⟨S8192x1024, .f32⟩
  | 121 => ⟨S8192x512, .f32⟩
  | 122 => ⟨S8192x512, .f32⟩
  | 123 => ⟨S8192x512, .f32⟩
  | 124 => ⟨S_, .f32⟩
  | 125 => ⟨S512, .f32⟩
  | 126 => ⟨S1x512, .f32⟩
  | 127 => ⟨S512x512, .f32⟩
  | _ => ⟨S8448x512, .f32⟩

abbrev hbmTy0_2 (i : Nat) : BufTy := match i % 128 with
  | 0 => ⟨S512x512, .f32⟩
  | 1 => ⟨S8192x512, .f32⟩
  | 2 => ⟨S8192x512, .f32⟩
  | 3 => ⟨S8192x512, .f32⟩
  | 4 => ⟨S8192x512, .f32⟩
  | 5 => ⟨S_, .f32⟩
  | 6 => ⟨S8192x512, .f32⟩
  | 7 => ⟨S8192x512, .f32⟩
  | 8 => ⟨S8192x512, .f32⟩
  | 9 => ⟨S_, .f32⟩
  | 10 => ⟨S8192x512, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S8192x512, .f32⟩
  | 17 => ⟨S8192x512, .f32⟩
  | 18 => ⟨S8192x512, .f32⟩
  | 19 => ⟨S_, .f32⟩
  | 20 => ⟨S512, .f32⟩
  | 21 => ⟨S1x512, .f32⟩
  | 22 => ⟨S8192x512, .f32⟩
  | 23 => ⟨S8192x512, .f32⟩
  | 24 => ⟨S_, .f32⟩
  | 25 => ⟨S1x1536, .f32⟩
  | 26 => ⟨S1x2048, .f32⟩
  | 27 => ⟨S_, .f32⟩
  | 28 => ⟨S1x1536, .f32⟩
  | 29 => ⟨S1x2048, .f32⟩
  | 30 => ⟨S_, .f32⟩
  | 31 => ⟨S1x1536, .f32⟩
  | 32 => ⟨S1x2048, .f32⟩
  | 33 => ⟨S_, .f32⟩
  | 34 => ⟨S1x1536, .f32⟩
  | 35 => ⟨S1x2048, .f32⟩
  | 36 => ⟨S_, .f32⟩
  | 37 => ⟨S3x2048, .f32⟩
  | 38 => ⟨S8x2048, .f32⟩
  | 39 => ⟨S_, .f32⟩
  | 40 => ⟨S256x512, .f32⟩
  | 41 => ⟨S8448x512, .f32⟩
  | 42 => ⟨S_, .f32⟩
  | 43 => ⟨S256x512, .f32⟩
  | 44 => ⟨S8448x512, .f32⟩
  | 45 => ⟨S8192x3072, .f32⟩
  | 46 => ⟨S_, .f32⟩
  | 47 => ⟨S256x3072, .f32⟩
  | 48 => ⟨S8448x3072, .f32⟩
  | 49 => ⟨S8448x3072, .bf16⟩
  | 50 => ⟨S8192x512, .bf16⟩
  | 51 => ⟨S8192x512, .bf16⟩
  | 52 => ⟨S8192x1024, .bf16⟩
  | 53 => ⟨S8192x1024, .bf16⟩
  | 54 => ⟨S8192x1024, .bf16⟩
  | 55 => ⟨S8192x1024, .bf16⟩
  | _ => ⟨S8448x512, .f32⟩

abbrev hbmTy (i : Nat) : BufTy := match i / 128 with
  | 0 => hbmTy0_0 i
  | 1 => hbmTy0_1 i
  | 2 => hbmTy0_2 i
  | _ => ⟨S8448x512, .f32⟩

abbrev bufTy : (tb : Table) → Fin (tcTables nBuf tb) → BufTy
  | .hbm, ⟨i, _⟩ => hbmTy i
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_v29 : Ref sig .tc := ⟨.hbm, 53, rfl⟩
abbrev main_cst_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_11 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_12 : Ref sig .tc := ⟨.hbm, 88, rfl⟩
abbrev main_v57 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_14 : Ref sig .tc := ⟨.hbm, 95, rfl⟩
abbrev main_v62 : Ref sig .tc := ⟨.hbm, 96, rfl⟩
abbrev main_v63 : Ref sig .tc := ⟨.hbm, 97, rfl⟩
abbrev main_cst_15 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_16 : Ref sig .tc := ⟨.hbm, 104, rfl⟩
abbrev main_v69 : Ref sig .tc := ⟨.hbm, 105, rfl⟩
abbrev main_v70 : Ref sig .tc := ⟨.hbm, 106, rfl⟩
abbrev main_cst_17 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_18 : Ref sig .tc := ⟨.hbm, 113, rfl⟩
abbrev main_v76 : Ref sig .tc := ⟨.hbm, 114, rfl⟩
abbrev main_v77 : Ref sig .tc := ⟨.hbm, 115, rfl⟩
abbrev main_cst_19 : Ref sig .tc := ⟨.hbm, 116, rfl⟩
abbrev main_v78 : Ref sig .tc := ⟨.hbm, 117, rfl⟩
abbrev main_v79 : Ref sig .tc := ⟨.hbm, 118, rfl⟩
abbrev main_cst_20 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_21 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_22 : Ref sig .tc := ⟨.hbm, 148, rfl⟩
abbrev main_v107 : Ref sig .tc := ⟨.hbm, 149, rfl⟩
abbrev main_v108 : Ref sig .tc := ⟨.hbm, 150, rfl⟩
abbrev main_cst_23 : Ref sig .tc := ⟨.hbm, 151, rfl⟩
abbrev main_v109 : Ref sig .tc := ⟨.hbm, 152, rfl⟩
abbrev main_v110 : Ref sig .tc := ⟨.hbm, 153, rfl⟩
abbrev main_cst_24 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_25 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_cst_26 : Ref sig .tc := ⟨.hbm, 185, rfl⟩
abbrev main_v140 : Ref sig .tc := ⟨.hbm, 186, rfl⟩
abbrev main_v141 : Ref sig .tc := ⟨.hbm, 187, rfl⟩
abbrev main_cst_27 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_cst_28 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_29 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_cst_30 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_cst_31 : Ref sig .tc := ⟨.hbm, 212, rfl⟩
abbrev main_v162 : Ref sig .tc := ⟨.hbm, 213, rfl⟩
abbrev main_v163 : Ref sig .tc := ⟨.hbm, 214, rfl⟩
abbrev main_cst_32 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_cst_33 : Ref sig .tc := ⟨.hbm, 223, rfl⟩
abbrev main_v171 : Ref sig .tc := ⟨.hbm, 224, rfl⟩
abbrev main_v172 : Ref sig .tc := ⟨.hbm, 225, rfl⟩
abbrev main_cst_34 : Ref sig .tc := ⟨.hbm, 226, rfl⟩
abbrev main_v173 : Ref sig .tc := ⟨.hbm, 227, rfl⟩
abbrev main_v174 : Ref sig .tc := ⟨.hbm, 228, rfl⟩
abbrev main_cst_35 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_cst_36 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_cst_37 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_cst_38 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_cst_39 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_cst_40 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_cst_41 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_cst_42 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_cst_43 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_cst_44 : Ref sig .tc := ⟨.hbm, 280, rfl⟩
abbrev main_v217 : Ref sig .tc := ⟨.hbm, 281, rfl⟩
abbrev main_v218 : Ref sig .tc := ⟨.hbm, 282, rfl⟩
abbrev main_cst_45 : Ref sig .tc := ⟨.hbm, 283, rfl⟩
abbrev main_v219 : Ref sig .tc := ⟨.hbm, 284, rfl⟩
abbrev main_v220 : Ref sig .tc := ⟨.hbm, 285, rfl⟩
abbrev main_cst_46 : Ref sig .tc := ⟨.hbm, 286, rfl⟩
abbrev main_v221 : Ref sig .tc := ⟨.hbm, 287, rfl⟩
abbrev main_v222 : Ref sig .tc := ⟨.hbm, 288, rfl⟩
abbrev main_cst_47 : Ref sig .tc := ⟨.hbm, 289, rfl⟩
abbrev main_v223 : Ref sig .tc := ⟨.hbm, 290, rfl⟩
abbrev main_v224 : Ref sig .tc := ⟨.hbm, 291, rfl⟩
abbrev main_cst_48 : Ref sig .tc := ⟨.hbm, 292, rfl⟩
abbrev main_v225 : Ref sig .tc := ⟨.hbm, 293, rfl⟩
abbrev main_v226 : Ref sig .tc := ⟨.hbm, 294, rfl⟩
abbrev main_cst_49 : Ref sig .tc := ⟨.hbm, 295, rfl⟩
abbrev main_v227 : Ref sig .tc := ⟨.hbm, 296, rfl⟩
abbrev main_v228 : Ref sig .tc := ⟨.hbm, 297, rfl⟩
abbrev main_cst_50 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_cst_51 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩

abbrev nD : Nat := 1
abbrev τ : Topo := Topo.v7x

variable {F : FTy → Type} [FloatOps F]
-- ==== KernelMixf.lean ====
abbrev S8448x512 : Shape := ⟨2, ![8448, 512]⟩
abbrev S8448x1024 : Shape := ⟨2, ![8448, 1024]⟩
abbrev S8448x2048 : Shape := ⟨2, ![8448, 2048]⟩
abbrev S8192x1024 : Shape := ⟨2, ![8192, 1024]⟩
abbrev S1x6144 : Shape := ⟨2, ![1, 6144]⟩
abbrev S1x512 : Shape := ⟨2, ![1, 512]⟩
abbrev S512x512 : Shape := ⟨2, ![512, 512]⟩
abbrev S8x128x128 : Shape := ⟨3, ![8, 128, 128]⟩
abbrev S8x128 : Shape := ⟨2, ![8, 128]⟩
abbrev S512x1024 : Shape := ⟨2, ![512, 1024]⟩
abbrev S1x2048 : Shape := ⟨2, ![1, 2048]⟩
abbrev S1024x1024 : Shape := ⟨2, ![1024, 1024]⟩
abbrev S128x8 : Shape := ⟨2, ![128, 8]⟩
abbrev S128x8x64 : Shape := ⟨3, ![128, 8, 64]⟩
abbrev S128x512 : Shape := ⟨2, ![128, 512]⟩
abbrev S256x512 : Shape := ⟨2, ![256, 512]⟩
abbrev S256x1024 : Shape := ⟨2, ![256, 1024]⟩
abbrev S256x2048 : Shape := ⟨2, ![256, 2048]⟩
abbrev S1x128x128 : Shape := ⟨3, ![1, 128, 128]⟩
abbrev S128x128 : Shape := ⟨2, ![128, 128]⟩
abbrev S256 : Shape := ⟨1, ![256]⟩
abbrev S256x1 : Shape := ⟨2, ![256, 1]⟩
abbrev S1x1024 : Shape := ⟨2, ![1, 1024]⟩

abbrev nBuf : Space → Nat
  | .hbm => 27
  | .vmem => 28
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x512, .f32⟩
  | .hbm, ⟨3, _⟩ => ⟨S8448x1024, .f32⟩
  | .hbm, ⟨4, _⟩ => ⟨S8448x2048, .f32⟩
  | .hbm, ⟨5, _⟩ => ⟨S8192x1024, .f32⟩
  | .hbm, ⟨6, _⟩ => ⟨S1x6144, .f32⟩
  | .hbm, ⟨7, _⟩ => ⟨S1x512, .f32⟩
  | .hbm, ⟨8, _⟩ => ⟨S512x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S8x128x128, .f32⟩
  | .hbm, ⟨13, _⟩ => ⟨S8x128, .f32⟩
  | .hbm, ⟨14, _⟩ => ⟨S512x1024, .f32⟩
  | .hbm, ⟨15, _⟩ => ⟨S512x1024, .f32⟩
  | .hbm, ⟨16, _⟩ => ⟨S1x2048, .f32⟩
  | .hbm, ⟨17, _⟩ => ⟨S1024x1024, .f32⟩
  | .hbm, ⟨18, _⟩ => ⟨S128x8, .f32⟩
  | .hbm, ⟨19, _⟩ => ⟨S128x8x64, .f32⟩
  | .hbm, ⟨20, _⟩ => ⟨S128x512, .f32⟩
  | .hbm, ⟨21, _⟩ => ⟨S512x512, .bf16⟩
  | .hbm, ⟨22, _⟩ => ⟨S512x1024, .bf16⟩
  | .hbm, ⟨23, _⟩ => ⟨S512x1024, .bf16⟩
  | .hbm, ⟨24, _⟩ => ⟨S1024x1024, .bf16⟩
  | .hbm, ⟨25, _⟩ => ⟨S8192x1024, .f32⟩
  | .hbm, ⟨26, _⟩ => ⟨S8192x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x2048, .f32⟩
  | .local _ .vmem, ⟨9, _⟩ => ⟨S256x2048, .f32⟩
  | .local _ .vmem, ⟨10, _⟩ => ⟨S256x1024, .f32⟩
  | .local _ .vmem, ⟨11, _⟩ => ⟨S256x1024, .f32⟩
  | .local _ .vmem, ⟨12, _⟩ => ⟨S1x6144, .f32⟩
  | .local _ .vmem, ⟨13, _⟩ => ⟨S1x512, .f32⟩
  | .local _ .vmem, ⟨14, _⟩ => ⟨S512x512, .bf16⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S8x128x128, .f32⟩
  | .local _ .vmem, ⟨19, _⟩ => ⟨S128x512, .f32⟩
  | .local _ .vmem, ⟨20, _⟩ => ⟨S512x1024, .bf16⟩
  | .local _ .vmem, ⟨21, _⟩ => ⟨S512x1024, .bf16⟩
  | .local _ .vmem, ⟨22, _⟩ => ⟨S1x2048, .f32⟩
  | .local _ .vmem, ⟨23, _⟩ => ⟨S1024x1024, .bf16⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7_0 : Ref sig .tc := ⟨.hbm, 25, rfl⟩
abbrev main_v7_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceMixfIdeal.lean ====
abbrev S8448x512 : Shape := ⟨2, ![8448, 512]⟩
abbrev S8448x1024 : Shape := ⟨2, ![8448, 1024]⟩
abbrev S8448x2048 : Shape := ⟨2, ![8448, 2048]⟩
abbrev S8192x1024 : Shape := ⟨2, ![8192, 1024]⟩
abbrev S1x6144 : Shape := ⟨2, ![1, 6144]⟩
abbrev S1x512 : Shape := ⟨2, ![1, 512]⟩
abbrev S512x512 : Shape := ⟨2, ![512, 512]⟩
abbrev S8x128x128 : Shape := ⟨3, ![8, 128, 128]⟩
abbrev S8x128 : Shape := ⟨2, ![8, 128]⟩
abbrev S512x1024 : Shape := ⟨2, ![512, 1024]⟩
abbrev S1x2048 : Shape := ⟨2, ![1, 2048]⟩
abbrev S1024x1024 : Shape := ⟨2, ![1024, 1024]⟩
abbrev S128x8 : Shape := ⟨2, ![128, 8]⟩
abbrev S128x8x64 : Shape := ⟨3, ![128, 8, 64]⟩
abbrev S128x512 : Shape := ⟨2, ![128, 512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S64x128x8x64 : Shape := ⟨4, ![64, 128, 8, 64]⟩
abbrev S8x128x64x64 : Shape := ⟨4, ![8, 128, 64, 64]⟩
abbrev S1x128x8x64 : Shape := ⟨4, ![1, 128, 8, 64]⟩
abbrev S8192x2048 : Shape := ⟨2, ![8192, 2048]⟩
abbrev S1x1024 : Shape := ⟨2, ![1, 1024]⟩

abbrev nBuf : Space → Nat
  | .hbm => 134
  | .vmem => 0
  | .smem => 0
  | _ => 0

abbrev hbmTy0_0 (i : Nat) : BufTy := match i % 128 with
  | 0 => ⟨S8448x512, .f32⟩
  | 1 => ⟨S8448x512, .f32⟩
  | 2 => ⟨S8448x512, .f32⟩
  | 3 => ⟨S8448x1024, .f32⟩
  | 4 => ⟨S8448x2048, .f32⟩
  | 5 => ⟨S8192x1024, .f32⟩
  | 6 => ⟨S1x6144, .f32⟩
  | 7 => ⟨S1x512, .f32⟩
  | 8 => ⟨S512x512, .f32⟩
  | 9 => ⟨S1x512, .f32⟩
  | 10 => ⟨S1x512, .f32⟩
  | 11 => ⟨S1x512, .f32⟩
  | 12 => ⟨S8x128x128, .f32⟩
  | 13 => ⟨S8x128, .f32⟩
  | 14 => ⟨S512x1024, .f32⟩
  | 15 => ⟨S512x1024, .f32⟩
  | 16 => ⟨S1x2048, .f32⟩
  | 17 => ⟨S1024x1024, .f32⟩
  | 18 => ⟨S128x8, .f32⟩
  | 19 => ⟨S128x8x64, .f32⟩
  | 20 => ⟨S128x512, .f32⟩
  | 21 => ⟨S8192x512, .f32⟩
  | 22 => ⟨S8192x512, .f32⟩
  | 23 => ⟨S8192x512, .f32⟩
  | 24 => ⟨S8192x1024, .f32⟩
  | 25 => ⟨S8192x512, .f32⟩
  | 26 => ⟨S8192x512, .f32⟩
  | 27 => ⟨S8192x512, .f32⟩
  | 28 => ⟨S8192x512, .f32⟩
  | 29 => ⟨S8192x512, .f32⟩
  | 30 => ⟨S8192x512, .f32⟩
  | 31 => ⟨S_, .f32⟩
  | 32 => ⟨S8192x512, .f32⟩
  | 33 => ⟨S8192x512, .f32⟩
  | 34 => ⟨S8192x512, .f32⟩
  | 35 => ⟨S_, .f32⟩
  | 36 => ⟨S8192x512, .f32⟩
  | 37 => ⟨S8192x512, .f32⟩
  | 38 => ⟨S8192x512, .f32⟩
  | 39 => ⟨S_, .f32⟩
  | 40 => ⟨S8192x512, .f32⟩
  | 41 => ⟨S8192x512, .f32⟩
  | 42 => ⟨S_, .f32⟩
  | 43 => ⟨S8192x512, .f32⟩
  | 44 => ⟨S8192x512, .f32⟩
  | 45 => ⟨S8192x512, .f32⟩
  | 46 => ⟨S8192x512, .f32⟩
  | 47 => ⟨S8192x512, .f32⟩
  | 48 => ⟨S8192x512, .f32⟩
  | 49 => ⟨S8192x512, .f32⟩
  | 50 => ⟨S8192x512, .f32⟩
  | 51 => ⟨S_, .f32⟩
  | 52 => ⟨S8192x512, .f32⟩
  | 53 => ⟨S8192x512, .f32⟩
  | 54 => ⟨S_, .f32⟩
  | 55 => ⟨S8192x512, .f32⟩
  | 56 => ⟨S8192x512, .f32⟩
  | 57 => ⟨S8192x512, .f32⟩
  | 58 => ⟨S8192x1024, .f32⟩
  | 59 => ⟨S8192x1024, .f32⟩
  | 60 => ⟨S_, .f32⟩
  | 61 => ⟨S8192x1024, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S8192x1024, .f32⟩
  | 75 => ⟨S8192x512, .f32⟩
  | 76 => ⟨S8192x512, .f32⟩
  | 77 => ⟨S_, .f32⟩
  | 78 => ⟨S8192, .f32⟩
  | 79 => ⟨S8192x1, .f32⟩
  | 80 => ⟨S_, .f32⟩
  | 81 => ⟨S8192x1, .f32⟩
  | 82 => ⟨S8192x1, .f32⟩
  | 83 => ⟨S8192x512, .f32⟩
  | 84 => ⟨S8192x512, .f32⟩
  | 85 => ⟨S8192x512, .f32⟩
  | 86 => ⟨S_, .f32⟩
  | 87 => ⟨S8192, .f32⟩
  | 88 => ⟨S8192x1, .f32⟩
  | 89 => ⟨S_, .f32⟩
  | 90 => ⟨S8192x1, .f32⟩
  | 91 => ⟨S8192x1, .f32⟩
  | 92 => ⟨S_, .f32⟩
  | 93 => ⟨S8192x1, .f32⟩
  | 94 => ⟨S8192x1, .f32⟩
  | 95 => ⟨S8192x1, .f32⟩
  | 96 => ⟨S8192x512, .f32⟩
  | 97 => ⟨S8192x512, .f32⟩
  | 98 => ⟨S8192x512, .f32⟩
  | 99 => ⟨S8192x512, .f32⟩
  | 100 => ⟨S8192x512, .f32⟩
  | 101 => ⟨S8192x512, .f32⟩
  | 102 => ⟨S64x128x8x64, .f32⟩
  | 103 => ⟨S8x128x64x64, .f32⟩
  | 104 => ⟨S64x128x8x64, .f32⟩
  | 105 => ⟨S128x8x64, .f32⟩
  | 106 => ⟨S1x128x8x64, .f32⟩
  | 107 => ⟨S64x128x8x64, .f32⟩
  | 108 => ⟨S64x128x8x64, .f32⟩
  | 109 => ⟨S8192x512, .f32⟩
  | 110 => ⟨S8192x512, .f32⟩
  | 111 => ⟨S8192x1024, .f32⟩
  | 112 => ⟨S8192x1024, .f32⟩
  | 113 => ⟨S8192x2048, .f32⟩
  | 114 => ⟨S8192x2048, .f32⟩
  | 115 => ⟨S8192x2048, .f32⟩
  | 116 => ⟨S8192x2048, .f32⟩
  | 117 => ⟨S8192x2048, .f32⟩
  | 118 => ⟨S_, .f32⟩
  | 119 => ⟨S8192x2048, .f32⟩
  | 120 => ⟨S8192x2048, .f32⟩
  | 121 => ⟨S_, .f32⟩
  | 122 => ⟨S8192x2048, .f32⟩
  | 123 => ⟨S8192x2048, .f32⟩
  | 124 => ⟨S8192x1024, .f32⟩
  | 125 => ⟨S8192x1024, .f32⟩
  | 126 => ⟨S8192x1024, .f32⟩
  | 127 => ⟨S8192x1024, .f32⟩
  | _ => ⟨S8448x512, .f32⟩

abbrev hbmTy0_1 (i : Nat) : BufTy := match i % 128 with
  | 0 => ⟨S8192x1024, .f32⟩
  | 1 => ⟨S8192x1024, .f32⟩
  | 2 => ⟨S1x1024, .f32⟩
  | 3 => ⟨S8192x1024, .f32⟩
  | 4 => ⟨S8192x1024, .f32⟩
  | 5 => ⟨S8192x1024, .f32⟩
  | _ => ⟨S8448x512, .f32⟩

abbrev hbmTy (i : Nat) : BufTy := match i / 128 with
  | 0 => hbmTy0_0 i
  | 1 => hbmTy0_1 i
  | _ => ⟨S8448x512, .f32⟩

abbrev bufTy : (tb : Table) → Fin (tcTables nBuf tb) → BufTy
  | .hbm, ⟨i, _⟩ => hbmTy i
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_cst_12 : Ref sig .tc := ⟨.hbm, 89, rfl⟩
abbrev main_v58 : Ref sig .tc := ⟨.hbm, 90, rfl⟩
abbrev main_v59 : Ref sig .tc := ⟨.hbm, 91, rfl⟩
abbrev main_cst_13 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_14 : Ref sig .tc := ⟨.hbm, 118, rfl⟩
abbrev main_v85 : Ref sig .tc := ⟨.hbm, 119, rfl⟩
abbrev main_v86 : Ref sig .tc := ⟨.hbm, 120, rfl⟩
abbrev main_cst_15 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]
-- ==== KernelInf.lean ====
abbrev S8192x1024 : Shape := ⟨2, ![8192, 1024]⟩
abbrev S256x1024 : Shape := ⟨2, ![256, 1024]⟩
abbrev S1x6144 : Shape := ⟨2, ![1, 6144]⟩
abbrev S1x1024 : Shape := ⟨2, ![1, 1024]⟩
abbrev S1024x3584 : Shape := ⟨2, ![1024, 3584]⟩
abbrev S8448x512 : Shape := ⟨2, ![8448, 512]⟩
abbrev S8448x1024 : Shape := ⟨2, ![8448, 1024]⟩
abbrev S8448x2048 : Shape := ⟨2, ![8448, 2048]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S256x3584 : Shape := ⟨2, ![256, 3584]⟩

abbrev nBuf : Space → Nat
  | .hbm => 11
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S1x6144, .f32⟩
  | .hbm, ⟨3, _⟩ => ⟨S1x6144, .f32⟩
  | .hbm, ⟨4, _⟩ => ⟨S1x1024, .f32⟩
  | .hbm, ⟨5, _⟩ => ⟨S1024x3584, .f32⟩
  | .hbm, ⟨6, _⟩ => ⟨S1024x3584, .bf16⟩
  | .hbm, ⟨7, _⟩ => ⟨S8448x512, .f32⟩
  | .hbm, ⟨8, _⟩ => ⟨S8448x1024, .f32⟩
  | .hbm, ⟨9, _⟩ => ⟨S8448x2048, .f32⟩
  | .hbm, ⟨10, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x6144, .f32⟩
  | .local _ .vmem, ⟨4, _⟩ => ⟨S1x6144, .f32⟩
  | .local _ .vmem, ⟨5, _⟩ => ⟨S1x1024, .f32⟩
  | .local _ .vmem, ⟨6, _⟩ => ⟨S1024x3584, .bf16⟩
  | .local _ .vmem, ⟨7, _⟩ => ⟨S256x512, .f32⟩
  | .local _ .vmem, ⟨8, _⟩ => ⟨S256x512, .f32⟩
  | .local _ .vmem, ⟨9, _⟩ => ⟨S256x1024, .f32⟩
  | .local _ .vmem, ⟨10, _⟩ => ⟨S256x1024, .f32⟩
  | .local _ .vmem, ⟨11, _⟩ => ⟨S256x2048, .f32⟩
  | .local _ .vmem, ⟨12, _⟩ => ⟨S256x2048, .f32⟩
  | .local _ .vmem, ⟨13, _⟩ => ⟨S256x1024, .bf16⟩
  | .local _ .vmem, ⟨14, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceInfIdeal.lean ====
abbrev S8192x1024 : Shape := ⟨2, ![8192, 1024]⟩
abbrev S256x1024 : Shape := ⟨2, ![256, 1024]⟩
abbrev S1x6144 : Shape := ⟨2, ![1, 6144]⟩
abbrev S1x1024 : Shape := ⟨2, ![1, 1024]⟩
abbrev S1024x3584 : Shape := ⟨2, ![1024, 3584]⟩
abbrev S_ : Shape := ⟨0, ![]⟩
abbrev S256 : Shape := ⟨1, ![256]⟩
abbrev S256x1 : Shape := ⟨2, ![256, 1]⟩
abbrev S8192 : Shape := ⟨1, ![8192]⟩
abbrev S8192x1 : Shape := ⟨2, ![8192, 1]⟩
abbrev S8448x1024 : Shape := ⟨2, ![8448, 1024]⟩
abbrev S8448x3584 : Shape := ⟨2, ![8448, 3584]⟩
abbrev S8448x512 : Shape := ⟨2, ![8448, 512]⟩
abbrev S8448x2048 : Shape := ⟨2, ![8448, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S1x6144, .f32⟩
  | .hbm, ⟨3, _⟩ => ⟨S1x6144, .f32⟩
  | .hbm, ⟨4, _⟩ => ⟨S1x1024, .f32⟩
  | .hbm, ⟨5, _⟩ => ⟨S1024x3584, .f32⟩
  | .hbm, ⟨6, _⟩ => ⟨S1x1024, .f32⟩
  | .hbm, ⟨7, _⟩ => ⟨S1x1024, .f32⟩
  | .hbm, ⟨8, _⟩ => ⟨S256x1024, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S1x1024, .f32⟩
  | .hbm, ⟨31, _⟩ => ⟨S1x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8448x1024, .f32⟩
  | .hbm, ⟨55, _⟩ => ⟨S8448x3584, .f32⟩
  | .hbm, ⟨56, _⟩ => ⟨S8448x512, .f32⟩
  | .hbm, ⟨57, _⟩ => ⟨S8448x1024, .f32⟩
  | .hbm, ⟨58, _⟩ => ⟨S8448x2048, .f32⟩
  | .hbm, ⟨59, _⟩ => ⟨S8448x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== KernelModf.lean ====
abbrev S1x1024 : Shape := ⟨2, ![1, 1024]⟩
abbrev S1024 : Shape := ⟨1, ![1024]⟩
abbrev S1024x6144 : Shape := ⟨2, ![1024, 6144]⟩
abbrev S1x6144 : Shape := ⟨2, ![1, 6144]⟩
abbrev S_ : Shape := ⟨0, ![]⟩
abbrev S6x1024 : Shape := ⟨2, ![6, 1024]⟩
abbrev S8x1024 : Shape := ⟨2, ![8, 1024]⟩
abbrev S8x6144 : Shape := ⟨2, ![8, 6144]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1024, .f32⟩
  | .hbm, ⟨2, _⟩ => ⟨S1024x6144, .f32⟩
  | .hbm, ⟨3, _⟩ => ⟨S1x6144, .f32⟩
  | .hbm, ⟨4, _⟩ => ⟨S1x1024, .f32⟩
  | .hbm, ⟨5, _⟩ => ⟨S_, .f32⟩
  | .hbm, ⟨6, _⟩ => ⟨S6x1024, .f32⟩
  | .hbm, ⟨7, _⟩ => ⟨S8x1024, .f32⟩
  | .hbm, ⟨8, _⟩ => ⟨S1024x6144, .bf16⟩
  | .hbm, ⟨9, _⟩ => ⟨S8x6144, .f32⟩
  | .local _ .vmem, ⟨0, _⟩ => ⟨S8x1024, .f32⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceModfIdeal.lean ====
abbrev S1x1024 : Shape := ⟨2, ![1, 1024]⟩
abbrev S1024 : Shape := ⟨1, ![1024]⟩
abbrev S1024x6144 : Shape := ⟨2, ![1024, 6144]⟩
abbrev S1x6144 : Shape := ⟨2, ![1, 6144]⟩
abbrev S_ : Shape := ⟨0, ![]⟩
abbrev S6x6144 : Shape := ⟨2, ![6, 6144]⟩
abbrev S8x6144 : Shape := ⟨2, ![8, 6144]⟩

abbrev nBuf : Space → Nat
  | .hbm => 29
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1024, .f32⟩
  | .hbm, ⟨2, _⟩ => ⟨S1024x6144, .f32⟩
  | .hbm, ⟨3, _⟩ => ⟨S1x6144, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x6144, .f32⟩
  | .hbm, ⟨14, _⟩ => ⟨S1x6144, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x6144, .f32⟩
  | .hbm, ⟨26, _⟩ => ⟨S1x6144, .f32⟩
  | .hbm, ⟨27, _⟩ => ⟨S6x6144, .f32⟩
  | .hbm, ⟨28, _⟩ => ⟨S8x6144, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_call1_v5 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩

abbrev nD : Nat := 1
abbrev τ : Topo := Topo.v7x

variable {F : FTy → Type} [FloatOps F]
-- ==== KernelSum.lean ====
abbrev S4x1024x1408 : Shape := ⟨3, ![4, 1024, 1408]⟩
abbrev S1024x1408 : Shape := ⟨2, ![1024, 1408]⟩
abbrev S4x128x1408 : Shape := ⟨3, ![4, 128, 1408]⟩
abbrev S128x1408 : Shape := ⟨2, ![128, 1408]⟩
abbrev S1x128x1408 : Shape := ⟨3, ![1, 128, 1408]⟩

abbrev nBuf : Space → Nat
  | .hbm => 3
  | .vmem => 4
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .bf16⟩
  | .hbm, ⟨2, _⟩ => ⟨S1024x1408, .f32⟩
  | .local _ .vmem, ⟨0, _⟩ => ⟨S4x128x1408, .bf16⟩
  | .local _ .vmem, ⟨1, _⟩ => ⟨S4x128x1408, .bf16⟩
  | .local _ .vmem, ⟨2, _⟩ => ⟨S128x1408, .f32⟩
  | .local _ .vmem, ⟨3, _⟩ => ⟨S128x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceSumIdeal.lean ====
abbrev S4x1024x1408 : Shape := ⟨3, ![4, 1024, 1408]⟩
abbrev S_ : Shape := ⟨0, ![]⟩
abbrev S1024x1408 : Shape := ⟨2, ![1024, 1408]⟩

abbrev nBuf : Space → Nat
  | .hbm => 3
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S_, .f32⟩
  | .hbm, ⟨2, _⟩ => ⟨S1024x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelAdam.lean ====
abbrev S1024x1408 : Shape := ⟨2, ![1024, 1408]⟩
abbrev S128x1408 : Shape := ⟨2, ![128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S128x1408, .f32⟩
  | .local _ .vmem, ⟨17, _⟩ => ⟨S128x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAdamIdeal.lean ====
abbrev S1024x1408 : Shape := ⟨2, ![1024, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S_, .f32⟩
  | .hbm, ⟨7, _⟩ => ⟨S1024x1408, .f32⟩
  | .hbm, ⟨8, _⟩ => ⟨S1024x1408, .f32⟩
  | .hbm, ⟨9, _⟩ => ⟨S_, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S_, .f32⟩
  | .hbm, ⟨14, _⟩ => ⟨S1024x1408, .f32⟩
  | .hbm, ⟨15, _⟩ => ⟨S1024x1408, .f32⟩
  | .hbm, ⟨16, _⟩ => ⟨S1024x1408, .f32⟩
  | .hbm, ⟨17, _⟩ => ⟨S_, .f32⟩
  | .hbm, ⟨18, _⟩ => ⟨S1024x1408, .f32⟩
  | .hbm, ⟨19, _⟩ => ⟨S1024x1408, .f32⟩
  | .hbm, ⟨20, _⟩ => ⟨S1024x1408, .f32⟩
  | .hbm, ⟨21, _⟩ => ⟨S_, .f32⟩
  | .hbm, ⟨22, _⟩ => ⟨S1024x1408, .f32⟩
  | .hbm, ⟨23, _⟩ => ⟨S1024x1408, .f32⟩
  | .hbm, ⟨24, _⟩ => ⟨S_, .f32⟩
  | .hbm, ⟨25, _⟩ => ⟨S1024x1408, .f32⟩
  | .hbm, ⟨26, _⟩ => ⟨S1024x1408, .f32⟩
  | .hbm, ⟨27, _⟩ => ⟨S1024x1408, .f32⟩
  | .hbm, ⟨28, _⟩ => ⟨S_, .f32⟩
  | .hbm, ⟨29, _⟩ => ⟨S1024x1408, .f32⟩
  | .hbm, ⟨30, _⟩ => ⟨S1024x1408, .f32⟩
  | .hbm, ⟨31, _⟩ => ⟨S1024x1408, .f32⟩
  | .hbm, ⟨32, _⟩ => ⟨S_, .f32⟩
  | .hbm, ⟨33, _⟩ => ⟨S1024x1408, .f32⟩
  | .hbm, ⟨34, _⟩ => ⟨S1024x1408, .f32⟩
  | .hbm, ⟨35, _⟩ => ⟨S1024x1408, .f32⟩
  | .hbm, ⟨36, _⟩ => ⟨S_, .f32⟩
  | .hbm, ⟨37, _⟩ => ⟨S1024x1408, .f32⟩
  | .hbm, ⟨38, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAda.lean ====
abbrev S9x1024 : Shape := ⟨2, ![9, 1024]⟩
abbrev S1024x1536 : Shape := ⟨2, ![1024, 1536]⟩
abbrev S9x1536 : Shape := ⟨2, ![9, 1536]⟩
abbrev S_ : Shape := ⟨0, ![]⟩
abbrev S7x1024 : Shape := ⟨2, ![7, 1024]⟩
abbrev S16x1024 : Shape := ⟨2, ![16, 1024]⟩
abbrev S7x1536 : Shape := ⟨2, ![7, 1536]⟩
abbrev S16x1536 : Shape := ⟨2, ![16, 1536]⟩
abbrev S1024x16 : Shape := ⟨2, ![1024, 16]⟩
abbrev S256x16 : Shape := ⟨2, ![256, 16]⟩
abbrev S256x1536 : Shape := ⟨2, ![256, 1536]⟩
abbrev S256x1 : Shape := ⟨2, ![256, 1]⟩
abbrev S1x1536 : Shape := ⟨2, ![1, 1536]⟩

abbrev nBuf : Space → Nat
  | .hbm => 25
  | .vmem => 17
  | .smem => 0
  | _ => 0

abbrev bufTy : (tb : Table) → Fin (tcTables nBuf tb) → BufTy
  | .hbm, ⟨0, _⟩ => ⟨S9x1024, .f32⟩
  | .hbm, ⟨1, _⟩ => ⟨S1024x1536, .f32⟩
  | .hbm, ⟨2, _⟩ => ⟨S9x1536, .f32⟩
  | .hbm, ⟨3, _⟩ => ⟨S1024x1536, .f32⟩
  | .hbm, ⟨4, _⟩ => ⟨S1024x1536, .f32⟩
  | .hbm, ⟨5, _⟩ => ⟨S9x1024, .f32⟩
  | .hbm, ⟨6, _⟩ => ⟨S9x1024, .f32⟩
  | .hbm, ⟨7, _⟩ => ⟨S_, .f32⟩
  | .hbm, ⟨8, _⟩ => ⟨S9x1024, .f32⟩
  | .hbm, ⟨9, _⟩ => ⟨S9x1024, .f32⟩
  | .hbm, ⟨10, _⟩ => ⟨S_, .f32⟩
  | .hbm, ⟨11, _⟩ => ⟨S9x1024, .f32⟩
  | .hbm, ⟨12, _⟩ => ⟨S9x1024, .f32⟩
  | .hbm, ⟨13, _⟩ => ⟨S9x1024, .f32⟩
  | .hbm, ⟨14, _⟩ => ⟨S_, .f32⟩
  | .hbm, ⟨15, _⟩ => ⟨S7x1024, .f32⟩
  | .hbm, ⟨16, _⟩ => ⟨S16x1024, .f32⟩
  | .hbm, ⟨17, _⟩ => ⟨S_, .f32⟩
  | .hbm, ⟨18, _⟩ => ⟨S7x1536, .f32⟩
  | .hbm, ⟨19, _⟩ => ⟨S16x1536, .f32⟩
  | .hbm, ⟨20, _⟩ => ⟨S1024x16, .f32⟩
  | .hbm, ⟨21, _⟩ => ⟨S1024x1536, .f32⟩
  | .hbm, ⟨22, _⟩ => ⟨S1024x1536, .f32⟩
  | .hbm, ⟨23, _⟩ => ⟨S1024x1536, .f32⟩
  | .hbm, ⟨24, _⟩ => ⟨S1024x1536, .f32⟩
  | .local _ .vmem, ⟨0, _⟩ => ⟨S256x16, .f32⟩
  | .local _ .vmem, ⟨1, _⟩ => ⟨S256x16, .f32⟩
  | .local _ .vmem, ⟨2, _⟩ => ⟨S16x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | _, _ => ⟨S9x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAdaIdeal.lean ====
abbrev S9x1024 : Shape := ⟨2, ![9, 1024]⟩
abbrev S1024x1536 : Shape := ⟨2, ![1024, 1536]⟩
abbrev S9x1536 : Shape := ⟨2, ![9, 1536]⟩
abbrev S_ : Shape := ⟨0, ![]⟩
abbrev S1536x1024 : Shape := ⟨2, ![1536, 1024]⟩

abbrev nBuf : Space → Nat
  | .hbm => 50
  | .vmem => 0
  | .smem => 0
  | _ => 0

abbrev bufTy : (tb : Table) → Fin (tcTables nBuf tb) → BufTy
  | .hbm, ⟨0, _⟩ => ⟨S9x1024, .f32⟩
  | .hbm, ⟨1, _⟩ => ⟨S1024x1536, .f32⟩
  | .hbm, ⟨2, _⟩ => ⟨S9x1536, .f32⟩
  | .hbm, ⟨3, _⟩ => ⟨S1024x1536, .f32⟩
  | .hbm, ⟨4, _⟩ => ⟨S1024x1536, .f32⟩
  | .hbm, ⟨5, _⟩ => ⟨S9x1024, .f32⟩
  | .hbm, ⟨6, _⟩ => ⟨S9x1024, .f32⟩
  | .hbm, ⟨7, _⟩ => ⟨S_, .f32⟩
  | .hbm, ⟨8, _⟩ => ⟨S9x1024, .f32⟩
  | .hbm, ⟨9, _⟩ => ⟨S9x1024, .f32⟩
  | .hbm, ⟨10, _⟩ => ⟨S_, .f32⟩
  | .hbm, ⟨11, _⟩ => ⟨S9x1024, .f32⟩
  | .hbm, ⟨12, _⟩ => ⟨S9x1024, .f32⟩
  | .hbm, ⟨13, _⟩ => ⟨S9x1024, .f32⟩
  | .hbm, ⟨14, _⟩ => ⟨S9x1536, .f32⟩
  | .hbm, ⟨15, _⟩ => ⟨S1536x1024, .f32⟩
  | .hbm, ⟨16, _⟩ => ⟨S1024x1536, .f32⟩
  | .hbm, ⟨17, _⟩ => ⟨S_, .f32⟩
  | .hbm, ⟨18, _⟩ => ⟨S1024x1536, .f32⟩
  | .hbm, ⟨19, _⟩ => ⟨S1024x1536, .f32⟩
  | .hbm, ⟨20, _⟩ => ⟨S_, .f32⟩
  | .hbm, ⟨21, _⟩ => ⟨S1024x1536, .f32⟩
  | .hbm, ⟨22, _⟩ => ⟨S1024x1536, .f32⟩
  | .hbm, ⟨23, _⟩ => ⟨S1024x1536, .f32⟩
  | .hbm, ⟨24, _⟩ => ⟨S_, .f32⟩
  | .hbm, ⟨25, _⟩ => ⟨S1024x1536, .f32⟩
  | .hbm, ⟨26, _⟩ => ⟨S1024x1536, .f32⟩
  | .hbm, ⟨27, _⟩ => ⟨S1024x1536, .f32⟩
  | .hbm, ⟨28, _⟩ => ⟨S_, .f32⟩
  | .hbm, ⟨29, _⟩ => ⟨S1024x1536, .f32⟩
  | .hbm, ⟨30, _⟩ => ⟨S1024x1536, .f32⟩
  | .hbm, ⟨31, _⟩ => ⟨S1024x1536, .f32⟩
  | .hbm, ⟨32, _⟩ => ⟨S_, .f32⟩
  | .hbm, ⟨33, _⟩ => ⟨S1024x1536, .f32⟩
  | .hbm, ⟨34, _⟩ => ⟨S1024x1536, .f32⟩
  | .hbm, ⟨35, _⟩ => ⟨S_, .f32⟩
  | .hbm, ⟨36, _⟩ => ⟨S1024x1536, .f32⟩
  | .hbm, ⟨37, _⟩ => ⟨S1024x1536, .f32⟩
  | .hbm, ⟨38, _⟩ => ⟨S1024x1536, .f32⟩
  | .hbm, ⟨39, _⟩ => ⟨S_, .f32⟩
  | .hbm, ⟨40, _⟩ => ⟨S1024x1536, .f32⟩
  | .hbm, ⟨41, _⟩ => ⟨S1024x1536, .f32⟩
  | .hbm, ⟨42, _⟩ => ⟨S1024x1536, .f32⟩
  | .hbm, ⟨43, _⟩ => ⟨S_, .f32⟩
  | .hbm, ⟨44, _⟩ => ⟨S1024x1536, .f32⟩
  | .hbm, ⟨45, _⟩ => ⟨S1024x1536, .f32⟩
  | .hbm, ⟨46, _⟩ => ⟨S1024x1536, .f32⟩
  | .hbm, ⟨47, _⟩ => ⟨S_, .f32⟩
  | .hbm, ⟨48, _⟩ => ⟨S1024x1536, .f32⟩
  | .hbm, ⟨49, _⟩ => ⟨S1024x1536, .f32⟩
  | _, _ => ⟨S9x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== KernelWg.lean ====
abbrev S8448x1024 : Shape := ⟨2, ![8448, 1024]⟩
abbrev S8448x3584 : Shape := ⟨2, ![8448, 3584]⟩
abbrev S1024x3584 : Shape := ⟨2, ![1024, 3584]⟩
abbrev S768x1024 : Shape := ⟨2, ![768, 1024]⟩
abbrev S768x3584 : Shape := ⟨2, ![768, 3584]⟩

abbrev nBuf : Space → Nat
  | .hbm => 5
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S8448x3584, .f32⟩
  | .hbm, ⟨2, _⟩ => ⟨S8448x1024, .bf16⟩
  | .hbm, ⟨3, _⟩ => ⟨S8448x3584, .bf16⟩
  | .hbm, ⟨4, _⟩ => ⟨S1024x3584, .bf16⟩
  | .local _ .vmem, ⟨0, _⟩ => ⟨S768x1024, .bf16⟩
  | .local _ .vmem, ⟨1, _⟩ => ⟨S768x1024, .bf16⟩
  | .local _ .vmem, ⟨2, _⟩ => ⟨S768x3584, .bf16⟩
  | .local _ .vmem, ⟨3, _⟩ => ⟨S768x3584, .bf16⟩
  | .local _ .vmem, ⟨4, _⟩ => ⟨S1024x3584, .bf16⟩
  | .local _ .vmem, ⟨5, _⟩ => ⟨S1024x3584, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![11], ![false]⟩

def k0_cond3 (i : grid0.Coords) : BitVec 1 :=
  let arg0 : BitVec 32 := BitVec.ofNat 32 (i 0).val
  let c10_i32 : BitVec 32 := 10#32
  let v11 : BitVec 1 := Scalar.cmpi .eq arg0 c10_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceWgIdeal.lean ====
abbrev S8448x1024 : Shape := ⟨2, ![8448, 1024]⟩
abbrev S8448x3584 : Shape := ⟨2, ![8448, 3584]⟩
abbrev S1024x8448 : Shape := ⟨2, ![1024, 8448]⟩
abbrev S1024x3584 : Shape := ⟨2, ![1024, 3584]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x3584, .f32⟩
  | .hbm, ⟨2, _⟩ => ⟨S1024x8448, .f32⟩
  | .hbm, ⟨3, _⟩ => ⟨S1024x3584, .f32⟩
  | .hbm, ⟨4, _⟩ => ⟨S1024x3584, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Finite.lean ====
/- Extended reals that are real numbers: the sums and products that keep them so, what the preconditions say of an array,
   and the gradient of `x ↦ x · σ(x)` in the two arrangements that meet in these kernels. -/
module

public import Idealize.ShloMosaic.Lib.Pointwise

@[expose] public section

noncomputable section

namespace Cert.Proof

open Idealize.ShloMosaic

/-- An extended real that is a real number. -/
def IsReal (x : EReal) : Prop := ∃ r : ℝ, x = r

namespace IsReal

variable {x y : EReal}

theorem coe (r : ℝ) : IsReal (r : EReal) := ⟨r, rfl⟩
theorem zero : IsReal 0 := ⟨0, rfl⟩
theorem one : IsReal 1 := ⟨1, rfl⟩

theorem add (hx : IsReal x) (hy : IsReal y) : IsReal (x + y) := by
  obtain ⟨a, rfl⟩ := hx; obtain ⟨b, rfl⟩ := hy; exact ⟨a + b, (EReal.coe_add a b).symm⟩

theorem mul (hx : IsReal x) (hy : IsReal y) : IsReal (x * y) := by
  obtain ⟨a, rfl⟩ := hx; obtain ⟨b, rfl⟩ := hy; exact ⟨a * b, (EReal.coe_mul a b).symm⟩

theorem sum {ι : Type} (s : Finset ι) (f : ι → EReal) (h : ∀ i ∈ s, IsReal (f i)) : IsReal (∑ i ∈ s, f i) := by
  classical
  induction s using Finset.induction_on with
  | empty => exact zero
  | insert i s hi ih =>
    rw [Finset.sum_insert hi]
    exact (h i (Finset.mem_insert_self i s)).add (ih fun k hk => h k (Finset.mem_insert_of_mem hk))

end IsReal

/-- The word of +∞ denotes the top element. -/
theorem ofBits_inf : Ideal.ofBits .f32 0x7F800000#32 = (⊤ : EReal) := by
  simp [Ideal.ofBits, Ideal.ieee]

/-- What a precondition `abs(x) < inf` says of an element. -/
theorem isReal_of_abs_lt {x : EReal} (h : Ideal.cmp .olt (max x (-x)) (Ideal.ofBits .f32 0x7F800000#32) = 1#1) : IsReal x := by
  rw [ofBits_inf] at h
  have h' : max x (-x) < ⊤ := by
    by_contra hn
    simp [Ideal.cmp, hn] at h
  induction x using EReal.rec with
  | bot => simp at h'
  | top => simp at h'
  | coe r => exact ⟨r, rfl⟩

/-- `σ + x σ (1 − σ)` times a real, with the real multiplied in once or twice. The sigmoid is 0 and 1 at −∞ and +∞, so `x`
    may be infinite. -/
theorem silu_grad {v : EReal} (hv : IsReal v) (g : EReal) :
    v * (Ideal.logistic g * (1 + g * (1 - Ideal.logistic g)))
      = v * Ideal.logistic g + (g * v) * (Ideal.logistic g * (1 - Ideal.logistic g)) := by
  obtain ⟨v, rfl⟩ := hv
  induction g using EReal.rec with
  | bot => simp
  | top =>
    have h : (1 : EReal) - 1 = 0 := by rw [← EReal.coe_one, ← EReal.coe_sub, sub_self, EReal.coe_zero]
    simp [h]
  | coe g =>
    rw [Ideal.logistic_coe]
    generalize (1 + Real.exp (-g))⁻¹ = s
    norm_cast
    ring

end Cert.Proof

end
-- ==== Proof.Act.lean ====
/- The gradient of the feed-forward gate, at one block: what the body stores, read at an index. -/
module

public import proofs.«01_k».proof.Proof.Gen.KernelActIdeal.Value
public import Idealize.ShloMosaic.Lib.Pointwise

@[expose] public section

noncomputable section

namespace Cert.Proof.Act

open Cert.KernelActIdeal Cert.KernelActIdeal.Gen Cert.KernelActIdeal.Value Idealize.ShloMosaic Idealize.ShloMosaic.TcCoe Idealize.SL.Sem

theorem pay3_apply (g v : FVec Ideal S256x1408 .f32) (x : FVec Ideal S256x1024 .bf16) (w : FVec Ideal S1408x1024 .bf16) (j : S256x1408.Idx) :
    (k0_pay3 (F := Ideal) g v x w j : EReal) = ((∑ k : Fin 1024, (x (ix2 (j 0) k) : EReal) * w (ix2 (j 1) k)) * v j)
        * (Ideal.logistic (g j) * (1 + g j * (1 - Ideal.logistic (g j)))) := by
  unfold_payloads
  pointwise

theorem pay4_apply (g : FVec Ideal S256x1408 .f32) (x : FVec Ideal S256x1024 .bf16) (w : FVec Ideal S1408x1024 .bf16) (j : S256x1408.Idx) :
    (k0_pay4 (F := Ideal) g x w j : EReal) = (∑ k : Fin 1024, (x (ix2 (j 0) k) : EReal) * w (ix2 (j 1) k)) * (g j * Ideal.logistic (g j)) := by
  unfold_payloads
  pointwise

/-- The product that carries the cotangent back through the down projection, at one element. -/
def da (w : S2816x1024.Idx → EReal) (d : S8192x1024.Idx → EReal) (i : S8192x2816.Idx) : EReal :=
  ∑ k : Fin 1024, d (ix2 (i 0) k) * w (ix2 (i 1) k)

/-- The gradient of the gate's input, as the kernel arranges it. -/
def dgate (g v : S8192x2816.Idx → EReal) (w : S2816x1024.Idx → EReal) (d : S8192x1024.Idx → EReal) (i : S8192x2816.Idx) : EReal :=
  (da w d i * v i) * (Ideal.logistic (g i) * (1 + g i * (1 - Ideal.logistic (g i))))

/-- The gradient of the value that the gate multiplies. -/
def dval (g : S8192x2816.Idx → EReal) (w : S2816x1024.Idx → EReal) (d : S8192x1024.Idx → EReal) (i : S8192x2816.Idx) : EReal :=
  da w d i * (g i * Ideal.logistic (g i))

variable (m : (ℓ : Loc nD τ sig) → Buf (Elt Ideal) ℓ) (ρ : Dev nD → PrngReg)

theorem hz : (![0, 0] : Fin 2 → Nat) = fun _ => 0 := funext fun a => by fin_cases a <;> rfl

/-- Grid point `t` works on row block `t / 2` and column block `t % 2`. -/
theorem idx_facts : ∀ t : Fin cfg0.N,
    (win0_0.index t 0 = t.val / 2 ∧ win0_0.index t 1 = t.val % 2) ∧ (win0_1.index t 0 = t.val / 2 ∧ win0_1.index t 1 = t.val % 2)
    ∧ (win0_2.index t 0 = t.val % 2 ∧ win0_2.index t 1 = 0) ∧ (win0_3.index t 0 = t.val / 2 ∧ win0_3.index t 1 = 0)
    ∧ (win0_4.index t 0 = t.val / 2 ∧ win0_4.index t 1 = t.val % 2) ∧ (win0_5.index t 0 = t.val / 2 ∧ win0_5.index t 1 = t.val % 2) :=
  (by decide +kernel : ∀ t : Fin grid0.N, _)

/-- Where an element of a row-and-column block at point `t` sits in its array. -/
def at2 (t : Fin cfg0.N) (j : S256x1408.Idx) : S8192x2816.Idx :=
  ix2 ⟨t.val / 2 * 256 + (j 0).val, by have h : t.val < 64 := t.isLt; have h' : (j 0).val < 256 := (j 0).isLt; omega⟩
    ⟨t.val % 2 * 1408 + (j 1).val, by have h' : (j 1).val < 1408 := (j 1).isLt; omega⟩

theorem emb0 (t : Fin cfg0.N) (j : S256x1408.Idx) : ((cfg0.win 0).blk t).view.emb j = at2 t j := by
  obtain ⟨⟨e0, e1⟩, -⟩ := idx_facts t
  funext a; apply Fin.ext
  match a with
  | ⟨0, _⟩ => show win0_0.index t 0 * 256 + 1 * (j 0).val = _; rw [e0, one_mul]; rfl
  | ⟨1, _⟩ => show win0_0.index t 1 * 1408 + 1 * (j 1).val = _; rw [e1, one_mul]; rfl

theorem emb1 (t : Fin cfg0.N) (j : S256x1408.Idx) : ((cfg0.win 1).blk t).view.emb j = at2 t j := by
  obtain ⟨-, ⟨e0, e1⟩, -⟩ := idx_facts t
  funext a; apply Fin.ext
  match a with
  | ⟨0, _⟩ => show win0_1.index t 0 * 256 + 1 * (j 0).val = _; rw [e0, one_mul]; rfl
  | ⟨1, _⟩ => show win0_1.index t 1 * 1408 + 1 * (j 1).val = _; rw [e1, one_mul]; rfl

theorem emb2 (t : Fin cfg0.N) (j : S256x1408.Idx) (k : Fin 1024) :
    ((cfg0.win 2).blk t).view.emb (ix2 (j 1) k : S1408x1024.Idx) = (ix2 (at2 t j 1) k : S2816x1024.Idx) := by
  obtain ⟨-, -, ⟨e0, e1⟩, -⟩ := idx_facts t
  funext a; apply Fin.ext
  match a with
  | ⟨0, _⟩ => show win0_2.index t 0 * 1408 + 1 * (j 1).val = _; rw [e0, one_mul]; rfl
  | ⟨1, _⟩ => show win0_2.index t 1 * 1024 + 1 * k.val = k.val; rw [e1]; omega

theorem emb3 (t : Fin cfg0.N) (j : S256x1408.Idx) (k : Fin 1024) :
    ((cfg0.win 3).blk t).view.emb (ix2 (j 0) k : S256x1024.Idx) = (ix2 (at2 t j 0) k : S8192x1024.Idx) := by
  obtain ⟨-, -, -, ⟨e0, e1⟩, -⟩ := idx_facts t
  funext a; apply Fin.ext
  match a with
  | ⟨0, _⟩ => show win0_3.index t 0 * 256 + 1 * (j 0).val = _; rw [e0, one_mul]; rfl
  | ⟨1, _⟩ => show win0_3.index t 1 * 1024 + 1 * k.val = k.val; rw [e1]; omega

theorem emb4 (t : Fin cfg0.N) (j : S256x1408.Idx) : ((cfg0.win 4).blk t).view.emb j = at2 t j := by
  obtain ⟨-, -, -, -, ⟨e0, e1⟩, -⟩ := idx_facts t
  funext a; apply Fin.ext
  match a with
  | ⟨0, _⟩ => show win0_4.index t 0 * 256 + 1 * (j 0).val = _; rw [e0, one_mul]; rfl
  | ⟨1, _⟩ => show win0_4.index t 1 * 1408 + 1 * (j 1).val = _; rw [e1, one_mul]; rfl

theorem emb5 (t : Fin cfg0.N) (j : S256x1408.Idx) : ((cfg0.win 5).blk t).view.emb j = at2 t j := by
  obtain ⟨-, -, -, -, -, ⟨e0, e1⟩⟩ := idx_facts t
  funext a; apply Fin.ext
  match a with
  | ⟨0, _⟩ => show win0_5.index t 0 * 256 + 1 * (j 0).val = _; rw [e0, one_mul]; rfl
  | ⟨1, _⟩ => show win0_5.index t 1 * 1408 + 1 * (j 1).val = _; rw [e1, one_mul]; rfl

/-- Every element of a result is one of some point's block. -/
theorem at2_onto (i : S8192x2816.Idx) : ∃ (t : Fin cfg0.N) (j : S256x1408.Idx), at2 t j = i := by
  have h0 : (i 0).val < 8192 := (i 0).isLt
  have h1 : (i 1).val < 2816 := (i 1).isLt
  refine ⟨⟨(i 0).val / 256 * 2 + (i 1).val / 1408, show _ < 64 by omega⟩,
    ix2 ⟨(i 0).val % 256, Nat.mod_lt _ (by decide)⟩ ⟨(i 1).val % 1408, Nat.mod_lt _ (by decide)⟩, ?_⟩
  funext a; apply Fin.ext
  match a with
  | ⟨0, _⟩ => show ((i 0).val / 256 * 2 + (i 1).val / 1408) / 2 * 256 + (i 0).val % 256 = (i 0).val; omega
  | ⟨1, _⟩ => show ((i 0).val / 256 * 2 + (i 1).val / 1408) % 2 * 1408 + (i 1).val % 1408 = (i 1).val; omega

theorem covered4 (i : S8192x2816.Idx) : ∃ t : Fin cfg0.N, (cfg0.win 4).flush t = true ∧ i ∈ ((cfg0.win 4).blk t).view.set := by
  obtain ⟨t, j, rfl⟩ := at2_onto i
  exact ⟨t, flush0_4 t, emb4 t j ▸ ((cfg0.win 4).blk t).view.emb_mem_set j⟩

theorem covered5 (i : S8192x2816.Idx) : ∃ t : Fin cfg0.N, (cfg0.win 5).flush t = true ∧ i ∈ ((cfg0.win 5).blk t).view.set := by
  obtain ⟨t, j, rfl⟩ := at2_onto i
  exact ⟨t, flush0_5 t, emb5 t j ▸ ((cfg0.win 5).blk t).view.emb_mem_set j⟩

/-- The cast of the weights, over the reals, is the weights. -/
theorem V_v0 (c : Dev nD) : (V m c main_v0 : S2816x1024.Idx → EReal) = m ((c : Thread nD τ).loc main_arg2) := by
  show StableHlo.after _ _ _ = _
  after_results
  rfl

/-- The cast of the cotangent, over the reals, is the cotangent. -/
theorem V_v1 (c : Dev nD) : (V m c main_v1 : S8192x1024.Idx → EReal) = m ((c : Thread nD τ).loc main_arg3) := by
  show StableHlo.after _ _ _ = _
  after_results
  rfl

theorem blk0 (c : Dev nD) (t : Fin cfg0.N) (j : S256x1408.Idx) : (iblk m c 0 t j : EReal) = V m c main_arg0 (at2 t j) := by
  show V m c main_arg0 (((cfg0.win 0).blk t).view.emb j) = _
  rw [emb0]

theorem blk1 (c : Dev nD) (t : Fin cfg0.N) (j : S256x1408.Idx) : (iblk m c 1 t j : EReal) = V m c main_arg1 (at2 t j) := by
  show V m c main_arg1 (((cfg0.win 1).blk t).view.emb j) = _
  rw [emb1]

theorem blk2 (c : Dev nD) (t : Fin cfg0.N) (j : S256x1408.Idx) (k : Fin 1024) :
    (iblk m c 2 t (ix2 (j 1) k : S1408x1024.Idx) : EReal) = V m c main_v0 (ix2 (at2 t j 1) k : S2816x1024.Idx) := by
  show V m c main_v0 (((cfg0.win 2).blk t).view.emb (ix2 (j 1) k : S1408x1024.Idx)) = _
  rw [emb2]

theorem blk3 (c : Dev nD) (t : Fin cfg0.N) (j : S256x1408.Idx) (k : Fin 1024) :
    (iblk m c 3 t (ix2 (j 0) k : S256x1024.Idx) : EReal) = V m c main_v1 (ix2 (at2 t j 0) k : S8192x1024.Idx) := by
  show V m c main_v1 (((cfg0.win 3).blk t).view.emb (ix2 (j 0) k : S256x1024.Idx)) = _
  rw [emb3]

theorem flushed4_eq (c : Dev nD) (t : Fin cfg0.N) : (dats m 0 c).flushed 4 t = ((cfg0.win 4).blk t).view.read (Elt Ideal)
    (dgate (V m c main_arg0) (V m c main_arg1) (V m c main_v0) (V m c main_v1)) := by
  rw [flushed4]
  unfold out0_4
  rw [View.canon_unit_zero hz, View.ld_unit_zero hz, View.ld_unit_zero hz, View.ld_unit_zero hz, View.ld_unit_zero hz]
  funext j
  refine (pay3_apply _ _ _ _ _).trans ?_
  rw [View.read_apply, emb4]
  refine congrArg₂ (· * ·) (congrArg₂ (· * ·) (Finset.sum_congr rfl fun k _ => ?_) (blk1 m c t j)) ?_
  · exact congrArg₂ (· * ·) (blk3 m c t j k) (blk2 m c t j k)
  · rw [blk0]

theorem flushed5_eq (c : Dev nD) (t : Fin cfg0.N) : (dats m 0 c).flushed 5 t = ((cfg0.win 5).blk t).view.read (Elt Ideal)
    (dval (V m c main_arg0) (V m c main_v0) (V m c main_v1)) := by
  rw [flushed5]
  unfold out0_5
  rw [View.canon_unit_zero hz, View.ld_unit_zero hz, View.ld_unit_zero hz, View.ld_unit_zero hz]
  funext j
  refine (pay4_apply _ _ _ _).trans ?_
  rw [View.read_apply, emb5]
  refine congrArg₂ (· * ·) (Finset.sum_congr rfl fun k _ => ?_) ?_
  · exact congrArg₂ (· * ·) (blk3 m c t j k) (blk2 m c t j k)
  · rw [blk0]

/-- The run: both results as functions of the arguments, the arguments kept. -/
theorem run : θ_run defs (onTc (τ := τ) (main (F := Ideal))) ⟨m, fun _ => 0, ρ⟩ fun r => ∀ c : Dev nD,
      r.2.mem ((c : Thread nD τ).loc main_v2_0) = dgate (m ((c : Thread nD τ).loc main_arg0)) (m ((c : Thread nD τ).loc main_arg1))
          (m ((c : Thread nD τ).loc main_arg2)) (m ((c : Thread nD τ).loc main_arg3))
      ∧ r.2.mem ((c : Thread nD τ).loc main_v2_1) = dval (m ((c : Thread nD τ).loc main_arg0))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (run_blocks m ρ)
  obtain ⟨h4, h5, hk⟩ := h c
  refine ⟨h4.trans ?_, h5.trans ?_, hk⟩
  · rw [(dats m 0 c).arrAt_eq_of_cover 4 _ (fun t _ => flushed4_eq m c t) covered4, V_v0, V_v1, V_main_arg0, V_main_arg1]
  · rw [(dats m 0 c).arrAt_eq_of_cover 5 _ (fun t _ => flushed5_eq m c t) covered5, V_v0, V_v1, V_main_arg0]

end Cert.Proof.Act

end
-- ==== Proof.ActEq.lean ====
/- The gradient of the feed-forward gate: the reference's two results are the kernel's two functions. -/
module

public import proofs.«01_k».proof.Defs
public import proofs.«01_k».proof.Proof.Finite
public import proofs.«01_k».proof.Proof.Act
public import proofs.«01_k».proof.Proof.Gen.ReferenceActIdeal.Read

@[expose] public section

noncomputable section

namespace Cert.Proof.Act

open Cert.ReferenceActIdeal.Read Idealize.ShloMosaic Idealize.ShloMosaic.TcCoe Idealize.SL.Sem

/-- The reference's product is the kernel's. -/
theorem v3_eq (w : Cert.KernelActIdeal.S2816x1024.Idx → EReal) (d : Cert.KernelActIdeal.S8192x1024.Idx → EReal)
    (i : Cert.KernelActIdeal.S8192x2816.Idx) : (val_main_v3 (F := Ideal) w d i : EReal) = da w d i := by
  rw [val_main_v3_apply]
  refine Finset.sum_congr rfl fun k _ => congrArg₂ (· * ·) (congrArg d (funext fun a => ?_)) (congrArg w (funext fun a => ?_))
  all_goals match a with | ⟨0, _⟩ => rfl | ⟨1, _⟩ => rfl

/-- The host's sigmoid is the logistic function. -/
theorem sig_eq (g : Cert.KernelActIdeal.S8192x2816.Idx → EReal) (i : Cert.KernelActIdeal.S8192x2816.Idx) :
    (val_main_v0_2 (F := Ideal) g i : EReal) = Ideal.logistic (g i) := by
  simp only [val_main_v0_2_apply, val_main_call0_v4_apply, val_main_call0_cst_0_apply, val_main_call0_v3_apply,
    val_main_call0_v2_apply, val_main_call0_cst_apply, val_main_call0_v1_apply, val_main_call0_v0_apply, pointwise]
  rfl

theorem one_sub_sig_eq (g : Cert.KernelActIdeal.S8192x2816.Idx → EReal) (i : Cert.KernelActIdeal.S8192x2816.Idx) :
    (val_main_v0_1 (F := Ideal) g i : EReal) = Ideal.logistic (g i) * (1 - Ideal.logistic (g i)) := by
  simp only [val_main_v0_1_apply, val_main_call0_v7_apply, val_main_call0_v6_apply, val_main_call0_cst_1_apply, sig_eq, pointwise]

/-- The gradient of the gate's input, when the cotangent times the value is finite. -/
theorem dgate_eq (g v : Cert.KernelActIdeal.S8192x2816.Idx → EReal) (w : Cert.KernelActIdeal.S2816x1024.Idx → EReal)
    (d : Cert.KernelActIdeal.S8192x1024.Idx → EReal) (hv : ∀ i, IsReal (v i)) (hw : ∀ i, IsReal (w i)) (hd : ∀ i, IsReal (d i)) :
    (val_main_v6 (F := Ideal) g v w d : Cert.KernelActIdeal.S8192x2816.Idx → EReal) = dgate g v w d := by
  funext i
  have h : IsReal (da w d i * v i) := (IsReal.sum _ _ fun k _ => (hd _).mul (hw _)).mul (hv i)
  simp only [val_main_v6_apply, val_main_call1_v1_apply, val_main_call1_v2_apply, val_main_call1_v0_apply, val_main_v5_apply,
    v3_eq, sig_eq, one_sub_sig_eq, pointwise]
  exact (silu_grad h (g i)).symm

/-- The gradient of the gated value. -/
theorem dval_eq (g : Cert.KernelActIdeal.S8192x2816.Idx → EReal) (w : Cert.KernelActIdeal.S2816x1024.Idx → EReal)
    (d : Cert.KernelActIdeal.S8192x1024.Idx → EReal) :
    (val_main_v4 (F := Ideal) g w d : Cert.KernelActIdeal.S8192x2816.Idx → EReal) = dval g w d := by
  funext i
  simp only [val_main_v4_apply, val_main_v0_0_apply, v3_eq, sig_eq, pointwise]
  exact mul_comm _ _

/-- What the precondition says: three of the arguments are finite. -/
theorem finite {g v : Cert.KernelActIdeal.S8192x2816.Idx → EReal} {w : Cert.KernelActIdeal.S2816x1024.Idx → EReal}
    {d : Cert.KernelActIdeal.S8192x1024.Idx → EReal} [Cert.Pre_finite_act.Facts]
    (h : (Cert.Pre_finite_act.fn (F := Ideal) g v w d).1 = (fun _ => 1#1)
      ∧ (Cert.Pre_finite_act.fn (F := Ideal) g v w d).2.1 = (fun _ => 1#1)
      ∧ (Cert.Pre_finite_act.fn (F := Ideal) g v w d).2.2 = (fun _ => 1#1)) :
    (∀ i, IsReal (v i)) ∧ (∀ i, IsReal (w i)) ∧ ∀ i, IsReal (d i) :=
  ⟨fun i => isReal_of_abs_lt (congrFun h.1 i), fun i => isReal_of_abs_lt (congrFun h.2.1 i),
    fun i => isReal_of_abs_lt (congrFun h.2.2 i)⟩

/-- The kernel and the reference end with the same two arrays. -/
theorem algebraic [Cert.Pre_finite_act.Facts] : Cert.algebraic_KernelActIdeal_ReferenceActIdeal_pre_finite_act := by
  intro m g m' g' hpre hagree
  refine ⟨_, _, run m g, ?_⟩
  refine (θ_run _ _ _).mono (fun r h c => ?_) (Cert.ReferenceActIdeal.Value.run m' g')
  obtain ⟨h6, h4, hk⟩ := h c
  obtain ⟨a0, a1, a2, a3⟩ := hagree c
  obtain ⟨fv, fw, fd⟩ := finite (hpre c)
  refine ⟨h6.trans ?_, h4.trans ?_, hk⟩
  · rw [val_main_v6_eq, a0, a1, a2, a3]
    exact dgate_eq _ _ _ _ fv fw fd
  · rw [val_main_v4_eq, a0, a2, a3]
    exact dval_eq _ _ _

/-- The reference runs and leaves its arguments. -/
theorem frame_reference : Cert.quiescent_ReferenceActIdeal := fun m ρ _ =>
  (θ_run _ _ _).mono (fun _ h => ⟨fun c => (h c).2.2, funext fun ⟨_, s⟩ => by rcases s with s | s <;> exact s.elim0⟩)
    (Cert.ReferenceActIdeal.Value.run m ρ)

end Cert.Proof.Act

end
-- ==== Proof.Conv.lean ====
/- The gradient of the depthwise convolution: what the kernel leaves in its two result arrays. -/
module

public import proofs.«01_k».proof.Proof.Gen.KernelConvIdeal.Value
public import Idealize.ShloMosaic.Lib.Pipeline.ValueKit
public import Idealize.ShloMosaic.Lib.Pipeline.ReadBack
public import Idealize.ShloMosaic.Lib.WritesUnit
public import Idealize.ShloMosaic.Lib.Pointwise

@[expose] public section

noncomputable section

namespace Cert.Proof.Conv

open Cert.KernelConvIdeal Cert.KernelConvIdeal.Gen Cert.KernelConvIdeal.Value Idealize.ShloMosaic Idealize.ShloMosaic.TcCoe Idealize.SL.Sem

/-! ## Taps of a tile with its halo -/

/-- The element that tap `(ky, kx)` meets for token `n` of a tile, in the tile's rows with one row of the grid above and below. -/
def tapH (H : S384x1408.Idx → EReal) (ky kx : Fin 3) (n : Fin 256) (q : Fin 1408) : EReal :=
  if h : 1 ≤ n.val % 64 + kx.val ∧ n.val % 64 + kx.val ≤ 64 then H (ix2 ⟨64 * ky.val + n.val + kx.val - 1, by omega⟩ q) else 0

/-- The element that tap `(ky, kx)` meets for token `p` of the whole grid: zero outside of it. -/
def tap (A : S8192x2816.Idx → EReal) (ky kx : Fin 3) (p : Fin 8192) (q : Fin 2816) : EReal :=
  if h : (1 ≤ p.val % 64 + kx.val ∧ p.val % 64 + kx.val ≤ 64) ∧ 65 ≤ p.val + 64 * ky.val + kx.val ∧ p.val + 64 * ky.val + kx.val < 8257 then
    A (ix2 ⟨p.val + 64 * ky.val + kx.val - 65, by omega⟩ q) else 0

theorem select_lo (b : BitVec 1) (n : Fin 256) (x z : EReal) (hb : b = if 1 ≤ n.val % 64 then 1#1 else 0#1) :
    Scalar.select b x z = if 1 ≤ n.val % 64 then x else z := by
  subst hb; split_ifs <;> rfl

theorem select_hi (b : BitVec 1) (n : Fin 256) (x z : EReal) (hb : b = if n.val % 64 ≤ 62 then 1#1 else 0#1) :
    Scalar.select b x z = if n.val % 64 ≤ 62 then x else z := by
  subst hb; split_ifs <;> rfl

theorem select_mul (b : BitVec 1) (x w : EReal) : Scalar.select b (x * w) 0 = Scalar.select b x 0 * w := by
  rcases (show b = 0#1 ∨ b = 1#1 by revert b; decide) with h | h <;> subst h
  · exact (zero_mul w).symm
  · rfl

theorem tap_lo (H : S384x1408.Idx → EReal) (ky : Fin 3) (n : Fin 256) (q : Fin 1408) (r : Fin 384)
    (hr : 1 ≤ n.val % 64 → r.val = 64 * ky.val + n.val - 1) :
    (if 1 ≤ n.val % 64 then H (ix2 r q) else 0) = tapH H ky 0 n q := by
  unfold tapH
  split_ifs with h1 h2 h2
  · exact congrArg (fun r => H (ix2 r q)) (Fin.ext ((hr h1).trans rfl))
  · exact absurd ⟨h1, by show _ % 64 + 0 ≤ 64; omega⟩ h2
  · exact absurd h2.1 h1
  · rfl

theorem tap_mid (H : S384x1408.Idx → EReal) (ky : Fin 3) (n : Fin 256) (q : Fin 1408) (r : Fin 384)
    (hr : r.val = 64 * ky.val + n.val) : H (ix2 r q) = tapH H ky 1 n q := by
  unfold tapH
  rw [dif_pos ⟨by show 1 ≤ _ % 64 + 1; omega, by show _ % 64 + 1 ≤ 64; omega⟩]
  exact congrArg (fun r => H (ix2 r q)) (Fin.ext (by show _ = 64 * ky.val + n.val + 1 - 1; omega))

theorem tap_hi (H : S384x1408.Idx → EReal) (ky : Fin 3) (n : Fin 256) (q : Fin 1408) (r : Fin 384)
    (hr : n.val % 64 ≤ 62 → r.val = 64 * ky.val + n.val + 1) :
    (if n.val % 64 ≤ 62 then H (ix2 r q) else 0) = tapH H ky 2 n q := by
  unfold tapH
  split_ifs with h1 h2 h2
  · exact congrArg (fun r => H (ix2 r q)) (Fin.ext ((hr h1).trans (by show _ = 64 * ky.val + n.val + 2 - 1; omega)))
  · exact absurd ⟨by show 1 ≤ _ % 64 + 2; omega, by show _ % 64 + 2 ≤ 64; omega⟩ h2
  · exact absurd (show n.val % 64 + 2 ≤ 64 from h2.2) (by omega)
  · rfl

set_option maxHeartbeats 1000000 in
/-- The nine taps of `up` that the body forms. -/
theorem taps_up (H : FVec Ideal S384x1408 .f32) (y : S256x1408.Idx) :
    (k0_pay26 (F := Ideal) H 64#32 k0_pay21 k0_pay22 y : EReal) = tapH H 0 0 (y 0) (y 1)
    ∧ (k0_pay27 (F := Ideal) H y : EReal) = tapH H 0 1 (y 0) (y 1)
    ∧ (k0_pay28 (F := Ideal) H 64#32 k0_pay21 k0_pay22 y : EReal) = tapH H 0 2 (y 0) (y 1)
    ∧ (k0_pay29 (F := Ideal) H 64#32 k0_pay21 k0_pay22 y : EReal) = tapH H 1 0 (y 0) (y 1)
    ∧ (k0_pay30 (F := Ideal) H y : EReal) = tapH H 1 1 (y 0) (y 1)
    ∧ (k0_pay31 (F := Ideal) H 64#32 k0_pay21 k0_pay22 y : EReal) = tapH H 1 2 (y 0) (y 1)
    ∧ (k0_pay34 (F := Ideal) (k0_pay32 64#32 k0_pay21 k0_pay22) (k0_pay33 H) (FloatOps.ofBits FTy.f32 0#32) y : EReal) = tapH H 2 0 (y 0) (y 1)
    ∧ (k0_pay35 (F := Ideal) H y : EReal) = tapH H 2 1 (y 0) (y 1)
    ∧ (k0_pay36 (F := Ideal) (k0_pay23 64#32 k0_pay21 k0_pay22) (k0_pay25 H) y : EReal) = tapH H 2 2 (y 0) (y 1) := by
  have hy : (y 0).val < 256 := (y 0).isLt
  refine ⟨?_, ?_, ?_, ?_, ?_, ?_, ?_, ?_, ?_⟩
  all_goals
    unfold_payloads
    pointwise
    first
      | exact tap_mid H _ (y 0) (y 1) _ (by (try simp only [Fin.isValue, Fin.val_zero, Fin.val_one, Fin.val_two]) <;> omega)
      | refine (select_lo _ (y 0) _ _ ?_).trans (tap_lo H _ (y 0) (y 1) _ fun _ => (by (try simp only [Fin.isValue, Fin.val_zero, Fin.val_one, Fin.val_two]) <;> omega))
        generalize (y 0 : Fin 256) = n
        revert n; decide +kernel
      | refine (select_hi _ (y 0) _ _ ?_).trans (tap_hi H _ (y 0) (y 1) _ fun _ => (by (try simp only [Fin.isValue, Fin.val_zero, Fin.val_one, Fin.val_two]) <;> omega))
        generalize (y 0 : Fin 256) = n
        revert n; decide +kernel

set_option maxHeartbeats 1000000 in
/-- The body's product of the nine taps of `dc` with the kernel's weights in reverse order. -/
theorem pay19_apply (H : FVec Ideal S384x1408 .f32) (w : FVec Ideal S9x1408 .f32) (y : S256x1408.Idx) :
    (k0_pay19 (F := Ideal) (k0_pay5 w) (k0_pay10 k0_pay6 (dynamicRotate 0 383#32 none H rotates_S384x1408_d0))
        (k0_pay11 k0_pay6 (dynamicRotate 0 1#32 none H rotates_S384x1408_d0)) (k0_pay12 H)
        (k0_pay13 k0_pay6 (dynamicRotate 0 383#32 none H rotates_S384x1408_d0))
        (k0_pay14 k0_pay6 (dynamicRotate 0 1#32 none H rotates_S384x1408_d0)) (k0_pay15 H)
        (k0_pay16 k0_pay6 (dynamicRotate 0 383#32 none H rotates_S384x1408_d0))
        (k0_pay17 (k0_pay5 w) (dynamicRotate 0 1#32 none H rotates_S384x1408_d0) k0_pay9)
        (k0_pay18 H (k0_pay5 w)) y : EReal)
      = tapH H 0 0 (y 0) (y 1) * w (ix2 8 (y 1)) + tapH H 0 1 (y 0) (y 1) * w (ix2 7 (y 1)) + tapH H 0 2 (y 0) (y 1) * w (ix2 6 (y 1))
        + tapH H 1 0 (y 0) (y 1) * w (ix2 5 (y 1)) + tapH H 1 1 (y 0) (y 1) * w (ix2 4 (y 1)) + tapH H 1 2 (y 0) (y 1) * w (ix2 3 (y 1))
        + tapH H 2 0 (y 0) (y 1) * w (ix2 2 (y 1)) + tapH H 2 1 (y 0) (y 1) * w (ix2 1 (y 1)) + tapH H 2 2 (y 0) (y 1) * w (ix2 0 (y 1)) := by
  have hy : (y 0).val < 256 := (y 0).isLt
  unfold_payloads
  pointwise
  refine congrArg₂ (· + ·) (congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_) ?_
  all_goals
    try refine (select_mul _ _ _).trans ?_
    refine congrArg₂ (· * ·) ?_ rfl
    first
      | exact tap_mid H _ (y 0) (y 1) _ (by (try simp only [Fin.isValue, Fin.val_zero, Fin.val_one, Fin.val_two]) <;> omega)
      | refine (select_lo _ (y 0) _ _ ?_).trans (tap_lo H _ (y 0) (y 1) _ fun _ => (by (try simp only [Fin.isValue, Fin.val_zero, Fin.val_one, Fin.val_two]) <;> omega))
        generalize (y 0 : Fin 256) = n
        revert n; decide +kernel
      | refine (select_hi _ (y 0) _ _ ?_).trans (tap_hi H _ (y 0) (y 1) _ fun _ => (by (try simp only [Fin.isValue, Fin.val_zero, Fin.val_one, Fin.val_two]) <;> omega))
        generalize (y 0 : Fin 256) = n
        revert n; decide +kernel

/-! ## The tile's rows with its halo, read off the arrays -/

variable (m : (ℓ : Loc nD τ sig) → Buf (Elt Ideal) ℓ) (ρ : Dev nD → PrngReg)

/-- Grid point `t` works on row tile `t % 32` and column block `t / 32`. -/
theorem idx_facts : ∀ t : Fin cfg0.N,
    win0_0.index t = ![t.val % 32 * 4 - 1, t.val / 32] ∧ win0_1.index t = ![t.val % 32, t.val / 32]
    ∧ win0_2.index t = ![min (t.val % 32 * 4 + 4) 127, t.val / 32] ∧ win0_3.index t = ![t.val % 32 * 4 - 1, t.val / 32]
    ∧ win0_4.index t = ![t.val % 32, t.val / 32] ∧ win0_5.index t = ![min (t.val % 32 * 4 + 4) 127, t.val / 32]
    ∧ win0_6.index t = ![0, t.val / 32] ∧ win0_7.index t = ![t.val % 32, t.val / 32] ∧ win0_8.index t = ![0, t.val / 32]
    ∧ (grid0.coords t 1).val = t.val % 32 :=
  (by decide +kernel : ∀ t : Fin grid0.N, _)

theorem edge_words (i : Fin 32) : Scalar.cmpi .eq (BitVec.ofNat 32 i.val) 0#32 = (if i.val = 0 then 1#1 else 0#1)
    ∧ Scalar.cmpi .eq (BitVec.ofNat 32 i.val) 31#32 = (if i.val = 31 then 1#1 else 0#1) := by
  revert i; decide +kernel

/-- The token that is token `n` of point `t`'s tile, and its column of the array. -/
def tok (t : Fin cfg0.N) (n : Fin 256) : Fin 8192 := ⟨t.val % 32 * 256 + n.val, by have := n.isLt; omega⟩
def chn (t : Fin cfg0.N) (q : Fin 1408) : Fin 2816 := ⟨t.val / 32 * 1408 + q.val, by have h : t.val < 64 := t.isLt; have := q.isLt; omega⟩

/-- Rows of the tile with its halo: a row outside of the grid is zero. -/
theorem halo_tap (A : S8192x2816.Idx → EReal) (t : Fin cfg0.N) (H : S384x1408.Idx → EReal)
    (hH : ∀ (r : Fin 384) (q : Fin 1408), H (ix2 r q) = if h : 64 ≤ t.val % 32 * 256 + r.val ∧ t.val % 32 * 256 + r.val < 8256 then
      A (ix2 ⟨t.val % 32 * 256 + r.val - 64, by omega⟩ (chn t q)) else 0)
    (ky kx : Fin 3) (n : Fin 256) (q : Fin 1408) : tapH H ky kx n q = tap A ky kx (tok t n) (chn t q) := by
  have hn := n.isLt
  have e : (tok t n).val = t.val % 32 * 256 + n.val := rfl
  unfold tapH tap
  by_cases h : 1 ≤ n.val % 64 + kx.val ∧ n.val % 64 + kx.val ≤ 64
  · rw [dif_pos h, hH]
    by_cases h' : 64 ≤ t.val % 32 * 256 + (64 * ky.val + n.val + kx.val - 1) ∧ t.val % 32 * 256 + (64 * ky.val + n.val + kx.val - 1) < 8256
    · rw [dif_pos h', dif_pos ⟨by omega, by omega, by omega⟩]
      exact congrArg (fun r => A (ix2 r (chn t q))) (Fin.ext (by simp only [e]; omega))
    · rw [dif_neg h', dif_neg fun g => h' ⟨by omega, by omega⟩]
  · rw [dif_neg h, dif_neg fun g => h ⟨by omega, by omega⟩]

theorem select_one (x y : EReal) : Scalar.select (1#1) x y = x := rfl
theorem select_zero (x y : EReal) : Scalar.select (0#1) x y = y := rfl

theorem pay4_apply (i : grid0.Coords) (p n : FVec Ideal S64x1408 .f32) (d : FVec Ideal S256x1408 .f32) (r : Fin 384) (q : Fin 1408) :
    (k0_pay4 (F := Ideal) i p n d (ix2 r q) : EReal)
      = if h : r.val < 64 then Scalar.select (Scalar.cmpi .eq (BitVec.ofNat 32 (i 1).val) 0#32) 0 (p (ix2 ⟨r.val, h⟩ q) : EReal)
        else if h' : r.val - 64 < 256 then d (ix2 ⟨r.val - 64, h'⟩ q)
        else Scalar.select (Scalar.cmpi .eq (BitVec.ofNat 32 (i 1).val) 31#32) 0 (n (ix2 ⟨r.val - 64 - 256, by have := r.isLt; omega⟩ q) : EReal) := by
  unfold_payloads
  pointwise

/-- The rows that point `t` lays side by side, from the three blocks it is given. -/
theorem halo_rows (A : S8192x2816.Idx → EReal) (t : Fin cfg0.N) (p n : FVec Ideal S64x1408 .f32) (d : FVec Ideal S256x1408 .f32)
    (hp : ∀ a q, (p (ix2 a q) : EReal) = A (ix2 ⟨(t.val % 32 * 4 - 1) * 64 + a.val, by have h : a.val < 64 := a.isLt; omega⟩ (chn t q)))
    (hd : ∀ a q, (d (ix2 a q) : EReal) = A (ix2 (tok t a) (chn t q)))
    (hn : ∀ a q, (n (ix2 a q) : EReal) = A (ix2 ⟨min (t.val % 32 * 4 + 4) 127 * 64 + a.val, by have h : a.val < 64 := a.isLt; omega⟩ (chn t q)))
    (r : Fin 384) (q : Fin 1408) :
    (k0_pay4 (F := Ideal) (grid0.coords t) p n d (ix2 r q) : EReal)
      = if h : 64 ≤ t.val % 32 * 256 + r.val ∧ t.val % 32 * 256 + r.val < 8256 then
          A (ix2 ⟨t.val % 32 * 256 + r.val - 64, by omega⟩ (chn t q)) else 0 := by
  obtain ⟨-, -, -, -, -, -, -, -, -, ei⟩ := idx_facts t
  have hr := r.isLt
  have hi : (grid0.coords t 1).val < 32 := (grid0.coords t 1).isLt
  have ew := edge_words ⟨_, hi⟩
  simp only [ei] at ew
  rw [pay4_apply, ei, ew.1, ew.2]
  by_cases h1 : r.val < 64
  · rw [dif_pos h1]
    by_cases h2 : t.val % 32 = 0
    · rw [if_pos h2, select_one, dif_neg (by omega)]
    · rw [if_neg h2, select_zero, dif_pos (by omega), hp]
      exact congrArg (fun r => A (ix2 r (chn t q))) (Fin.ext (by simp only []; omega))
  · rw [dif_neg h1]
    by_cases h2 : r.val - 64 < 256
    · rw [dif_pos h2, dif_pos (by omega), hd]
      exact congrArg (fun r => A (ix2 r (chn t q))) (Fin.ext (by simp only [tok]; omega))
    · rw [dif_neg h2]
      by_cases h3 : t.val % 32 = 31
      · rw [if_pos h3, select_one, dif_neg (by omega)]
      · rw [if_neg h3, select_zero, dif_pos (by omega), hn]
        exact congrArg (fun r => A (ix2 r (chn t q))) (Fin.ext (by simp only []; omega))

/-- The two halves of the body lay the rows side by side in the same way. -/
theorem pay20_eq (i : grid0.Coords) (p n : FVec Ideal S64x1408 .f32) (d : FVec Ideal S256x1408 .f32) :
    k0_pay20 (F := Ideal) (Scalar.cmpi .eq (BitVec.ofNat 32 (i 1).val) 0#32) (Scalar.cmpi .eq (BitVec.ofNat 32 (i 1).val) 31#32) p n d
      = k0_pay4 (F := Ideal) i p n d := rfl

def up (c : Dev nD) : S8192x2816.Idx → EReal := m ((c : Thread nD τ).loc main_arg0)
def dc (c : Dev nD) : S8192x2816.Idx → EReal := m ((c : Thread nD τ).loc main_arg3)
def wt (c : Dev nD) : S9x2816.Idx → EReal := V m c main_v0

variable (c : Dev nD) (t : Fin cfg0.N)

theorem blk0 (a : Fin 64) (q : Fin 1408) : (iblk m c 0 t (ix2 a q) : EReal)
    = up m c (ix2 ⟨(t.val % 32 * 4 - 1) * 64 + a.val, by have h : a.val < 64 := a.isLt; omega⟩ (chn t q)) := by
  obtain ⟨e0, -⟩ := idx_facts t
  blk_simp [iblk]
  refine (congrArg (V m c main_arg0) ?_).trans (congrFun (V_main_arg0 m c) _)
  blk_ext [e0, chn]

theorem blk1 (a : Fin 256) (q : Fin 1408) : (iblk m c 1 t (ix2 a q) : EReal) = up m c (ix2 (tok t a) (chn t q)) := by
  obtain ⟨-, e, -⟩ := idx_facts t
  blk_simp [iblk]
  refine (congrArg (V m c main_arg0) ?_).trans (congrFun (V_main_arg0 m c) _)
  blk_ext [e, chn, tok]

theorem blk2 (a : Fin 64) (q : Fin 1408) : (iblk m c 2 t (ix2 a q) : EReal)
    = up m c (ix2 ⟨min (t.val % 32 * 4 + 4) 127 * 64 + a.val, by have h : a.val < 64 := a.isLt; omega⟩ (chn t q)) := by
  obtain ⟨-, -, e, -⟩ := idx_facts t
  blk_simp [iblk]
  refine (congrArg (V m c main_arg0) ?_).trans (congrFun (V_main_arg0 m c) _)
  blk_ext [e, chn]

theorem blk3 (a : Fin 64) (q : Fin 1408) : (iblk m c 3 t (ix2 a q) : EReal)
    = dc m c (ix2 ⟨(t.val % 32 * 4 - 1) * 64 + a.val, by have h : a.val < 64 := a.isLt; omega⟩ (chn t q)) := by
  obtain ⟨-, -, -, e, -⟩ := idx_facts t
  blk_simp [iblk]
  refine (congrArg (V m c main_arg3) ?_).trans (congrFun (V_main_arg3 m c) _)
  blk_ext [e, chn]

theorem blk4 (a : Fin 256) (q : Fin 1408) : (iblk m c 4 t (ix2 a q) : EReal) = dc m c (ix2 (tok t a) (chn t q)) := by
  obtain ⟨-, -, -, -, e, -⟩ := idx_facts t
  blk_simp [iblk]
  refine (congrArg (V m c main_arg3) ?_).trans (congrFun (V_main_arg3 m c) _)
  blk_ext [e, chn, tok]

theorem blk5 (a : Fin 64) (q : Fin 1408) : (iblk m c 5 t (ix2 a q) : EReal)
    = dc m c (ix2 ⟨min (t.val % 32 * 4 + 4) 127 * 64 + a.val, by have h : a.val < 64 := a.isLt; omega⟩ (chn t q)) := by
  obtain ⟨-, -, -, -, -, e, -⟩ := idx_facts t
  blk_simp [iblk]
  refine (congrArg (V m c main_arg3) ?_).trans (congrFun (V_main_arg3 m c) _)
  blk_ext [e, chn]

theorem blk6 (a : Fin 9) (q : Fin 1408) : (iblk m c 6 t (ix2 a q) : EReal) = wt m c (ix2 a (chn t q)) := by
  obtain ⟨-, -, -, -, -, -, e, -⟩ := idx_facts t
  blk_simp [iblk]
  refine congrArg (V m c main_v0) ?_
  blk_ext [e, chn]

/-- Tap `(ky, kx)` of `up` and of `dc` at token `n` of point `t`'s tile. -/
theorem tap_up (ky kx : Fin 3) (n : Fin 256) (q : Fin 1408) :
    tapH (k0_pay4 (F := Ideal) (grid0.coords t) (iblk m c 0 t) (iblk m c 2 t) (iblk m c 1 t)) ky kx n q = tap (up m c) ky kx (tok t n) (chn t q) :=
  halo_tap _ t _ (halo_rows _ t _ _ _ (blk0 m c t) (blk1 m c t) (blk2 m c t)) ky kx n q

theorem tap_dc (ky kx : Fin 3) (n : Fin 256) (q : Fin 1408) :
    tapH (k0_pay4 (F := Ideal) (grid0.coords t) (iblk m c 3 t) (iblk m c 5 t) (iblk m c 4 t)) ky kx n q = tap (dc m c) ky kx (tok t n) (chn t q) :=
  halo_tap _ t _ (halo_rows _ t _ _ _ (blk3 m c t) (blk4 m c t) (blk5 m c t)) ky kx n q

/-! ## The gradient of the input -/

/-- The gradient of the convolution's input at one element, as the kernel adds it up. -/
def dup (D : S8192x2816.Idx → EReal) (w : S9x2816.Idx → EReal) (i : S8192x2816.Idx) : EReal :=
  tap D 0 0 (i 0) (i 1) * w (ix2 8 (i 1)) + tap D 0 1 (i 0) (i 1) * w (ix2 7 (i 1)) + tap D 0 2 (i 0) (i 1) * w (ix2 6 (i 1))
    + tap D 1 0 (i 0) (i 1) * w (ix2 5 (i 1)) + tap D 1 1 (i 0) (i 1) * w (ix2 4 (i 1)) + tap D 1 2 (i 0) (i 1) * w (ix2 3 (i 1))
    + tap D 2 0 (i 0) (i 1) * w (ix2 2 (i 1)) + tap D 2 1 (i 0) (i 1) * w (ix2 1 (i 1)) + tap D 2 2 (i 0) (i 1) * w (ix2 0 (i 1))

theorem out7 (y : S256x1408.Idx) : ((outsAt0 m c t.val t.isLt).1 y : EReal) = dup (dc m c) (wt m c) (ix2 (tok t (y 0)) (chn t (y 1))) := by
  have key := pay19_apply (k0_pay4 (F := Ideal) (grid0.coords t) (iblk m c 3 t) (iblk m c 5 t) (iblk m c 4 t)) (iblk m c 6 t) y
  simp only [fun ky kx => tap_dc m c t ky kx (y 0) (y 1), fun a => blk6 m c t a (y 1)] at key
  refine Eq.trans ?_ key
  by_cases h0 : t.val % 32 = 0
  · rw [outsAt0_A m c t h0]; frame_out; rfl
  · rw [outsAt0_B m c t h0]; frame_out; rfl

theorem final7 : (dats m 0 c).arrAt 7 cfg0.N = dup (dc m c) (wt m c) := by
  refine (dats m 0 c).arrAt_eq_of_covers 7 _ (by decide +kernel) fun t hf y => ?_
  obtain ⟨-, -, -, -, -, -, -, e, -⟩ := idx_facts t
  blk_simp
  rw [after0_7]
  refine (out7 m c t y).trans (congrArg (dup (dc m c) (wt m c)) ?_)
  blk_ext [e, tok, chn]

end Cert.Proof.Conv

end
-- ==== Proof.ConvW.lean ====
module

public import proofs.«01_k».proof.Proof.Conv

@[expose] public section

noncomputable section

namespace Cert.Proof.Conv

open Cert.KernelConvIdeal Cert.KernelConvIdeal.Gen Cert.KernelConvIdeal.Value Idealize.ShloMosaic Idealize.ShloMosaic.TcCoe Idealize.SL.Sem

/-! ## The gradient of the weights and of the bias -/

variable (m : (ℓ : Loc nD τ sig) → Buf (Elt Ideal) ℓ) (ρ : Dev nD → PrngReg)
variable (c : Dev nD) (t : Fin cfg0.N)

/-- A newest write of the whole row `k`. -/
theorem canon_row {k : ℕ} (inb) (w : S1x1408.Idx → EReal) (L : List (View.Piece (Elt Ideal) S16x1408 .f32)) (y : S16x1408.Idx) :
    (View.canon (⟨Rect.unit ![k, 0] ![1, 1408] inb, w⟩ :: L) y : EReal) = if (y 0).val = k then w (ix2 0 (y 1)) else View.canon L y := by
  split_ifs with h
  · have e : y = (Rect.unit (s := S16x1408) ![k, 0] ![1, 1408] inb).emb (ix2 0 (y 1)) := by
      funext a; refine Fin.ext ?_
      revert a; exact Fin.forall_fin_two.mpr ⟨h.trans (by rfl), by show (y 1).val = 0 + 1 * (y 1).val; omega⟩
    exact (congrArg _ e).trans (View.canon_cons_emb _ _ _ _)
  · refine View.canon_cons_of_not_mem _ _ fun hm => h ?_
    have h0 : k ≤ (y 0).val ∧ (y 0).val < k + 1 := (Rect.mem_set_unit (s := S16x1408) (inb := inb)).mp hm 0
    omega

theorem read_row {κ sp} (v : View sig κ sp S16x1408 .f32) (f : v.ty.Contents (Elt Ideal)) {k : ℕ} (inb) (w : S1x1408.Idx → EReal)
    (L : List (View.Piece (Elt Ideal) S16x1408 .f32)) (y : S16x1408.Idx) :
    (v.read (Elt Ideal) (v.writes (Elt Ideal) f (⟨Rect.unit ![k, 0] ![1, 1408] inb, w⟩ :: L)) y : EReal)
      = if (y 0).val = k then w (ix2 0 (y 1)) else v.read (Elt Ideal) (v.writes (Elt Ideal) f L) y := by
  split_ifs with h
  · exact View.read_writes_cons_rows_of_mem v f inb w L y (ix2 0 (y 1)) rfl (h.trans rfl) rfl
  · exact View.read_writes_cons_rows_of_not_mem (W := 1) v f inb w L y rfl rfl (by omega)

/-- What one tile adds to an element of the second result: a row for each tap, then the row of the bias. -/
def part (k : Fin 16) (q : Fin 1408) : EReal :=
  if k.val < 9 then ∑ n : Fin 256, tap (up m c) ⟨k.val / 3 % 3, by omega⟩ ⟨k.val % 3, by omega⟩ (tok t n) (chn t q) * dc m c (ix2 (tok t n) (chn t q))
  else if k.val = 9 then ∑ n : Fin 256, dc m c (ix2 (tok t n) (chn t q)) else 0

/-- A row of the body: the sum of products of a tap with `dc` is added to what the row held. -/
theorem pay37_apply (T d : FVec Ideal S256x1408 .f32) (l : FVec Ideal S1x1408 .f32) (q : Fin 1408) :
    (k0_pay37 (F := Ideal) T d l (ix2 0 q) : EReal) = l (ix2 0 q) + ∑ n : Fin 256, T (ix2 n q) * d (ix2 n q) := by
  unfold_payloads
  pointwise

theorem pay38_apply (T d : FVec Ideal S256x1408 .f32) (l : FVec Ideal S1x1408 .f32) (q : Fin 1408) :
    (k0_pay38 (F := Ideal) T d l (ix2 0 q) : EReal) = l (ix2 0 q) + ∑ n : Fin 256, T (ix2 n q) * d (ix2 n q) := by
  unfold_payloads
  pointwise

theorem pay39_apply (T d : FVec Ideal S256x1408 .f32) (l : FVec Ideal S1x1408 .f32) (q : Fin 1408) :
    (k0_pay39 (F := Ideal) T d l (ix2 0 q) : EReal) = l (ix2 0 q) + ∑ n : Fin 256, T (ix2 n q) * d (ix2 n q) := by
  unfold_payloads
  pointwise

theorem pay41_apply (T d : FVec Ideal S256x1408 .f32) (l : FVec Ideal S1x1408 .f32) (q : Fin 1408) :
    (k0_pay41 (F := Ideal) T d (k0_pay40 l) (ix2 0 q) : EReal) = l (ix2 0 q) + ∑ n : Fin 256, T (ix2 n q) * d (ix2 n q) := by
  unfold_payloads
  pointwise

theorem pay42_apply (T d : FVec Ideal S256x1408 .f32) (l : FVec Ideal S1x1408 .f32) (q : Fin 1408) :
    (k0_pay42 (F := Ideal) T d l (ix2 0 q) : EReal) = l (ix2 0 q) + ∑ n : Fin 256, T (ix2 n q) * d (ix2 n q) := by
  unfold_payloads
  pointwise

theorem pay43_apply (T d : FVec Ideal S256x1408 .f32) (l : FVec Ideal S1x1408 .f32) (q : Fin 1408) :
    (k0_pay43 (F := Ideal) T d l (ix2 0 q) : EReal) = l (ix2 0 q) + ∑ n : Fin 256, T (ix2 n q) * d (ix2 n q) := by
  unfold_payloads
  pointwise

theorem pay44_apply (T d : FVec Ideal S256x1408 .f32) (l : FVec Ideal S1x1408 .f32) (q : Fin 1408) :
    (k0_pay44 (F := Ideal) T d l (ix2 0 q) : EReal) = l (ix2 0 q) + ∑ n : Fin 256, T (ix2 n q) * d (ix2 n q) := by
  unfold_payloads
  pointwise

theorem pay45_apply (T d : FVec Ideal S256x1408 .f32) (l : FVec Ideal S1x1408 .f32) (q : Fin 1408) :
    (k0_pay45 (F := Ideal) T d l (ix2 0 q) : EReal) = l (ix2 0 q) + ∑ n : Fin 256, T (ix2 n q) * d (ix2 n q) := by
  unfold_payloads
  pointwise

theorem pay1_apply (T d : FVec Ideal S256x1408 .f32) (l : FVec Ideal S1x1408 .f32) (q : Fin 1408) :
    (k0_pay1 (F := Ideal) T d l (ix2 0 q) : EReal) = l (ix2 0 q) + ∑ n : Fin 256, T (ix2 n q) * d (ix2 n q) := by
  unfold_payloads
  pointwise

theorem pay2_apply (d : FVec Ideal S256x1408 .f32) (l : FVec Ideal S1x1408 .f32) (q : Fin 1408) :
    (k0_pay2 (F := Ideal) d l (ix2 0 q) : EReal) = l (ix2 0 q) + ∑ n : Fin 256, d (ix2 n q) := by
  unfold_payloads
  pointwise

theorem ld_row (P : S16x1408.Idx → EReal) (y : S16x1408.Idx) {k : ℕ} (inb) (hk : (y 0).val = k) :
    (View.ld (Val := Elt Ideal) (e' := .f32) P (Rect.unit (s := S16x1408) ![k, 0] ![1, 1408] inb) (ix2 0 (y 1)) : EReal) = P y := by
  refine congrArg P (funext fun a => Fin.ext ?_)
  revert a; exact Fin.forall_fin_two.mpr ⟨hk.symm.trans (by rfl), by show 0 + 1 * (y 1).val = (y 1).val; omega⟩

theorem row_tap (P : S16x1408.Idx → EReal) (y : S16x1408.Idx) (k : ℕ) (inb) (ky kx : Fin 3) (hk : (y 0).val = k) (hk' : k = 3 * ky.val + kx.val)
    (T : FVec Ideal S256x1408 .f32) (hT : ∀ z : S256x1408.Idx, (T z : EReal)
      = tapH (k0_pay4 (F := Ideal) (grid0.coords t) (iblk m c 0 t) (iblk m c 2 t) (iblk m c 1 t)) ky kx (z 0) (z 1)) :
    (View.ld (Val := Elt Ideal) (e' := .f32) P (Rect.unit (s := S16x1408) ![k, 0] ![1, 1408] inb) (ix2 0 (y 1)) : EReal)
        + ∑ n : Fin 256, (T (ix2 n (y 1)) : EReal) * (iblk m c 4 t (ix2 n (y 1)) : EReal)
      = P y + part m c t (y 0) (y 1) := by
  have hx := ky.isLt
  have hx' := kx.isLt
  refine congrArg₂ (· + ·) (ld_row P y inb hk) ?_
  unfold part
  rw [if_pos (by omega)]
  refine Finset.sum_congr rfl fun n _ => congrArg₂ (· * ·) ?_ (blk4 m c t n (y 1))
  refine (hT _).trans ((tap_up m c t ky kx n (y 1)).trans ?_)
  exact congrArg₂ (fun a b => tap (up m c) a b (tok t n) (chn t (y 1))) (Fin.ext (by simp only [hk]; omega)) (Fin.ext (by simp only [hk]; omega))

theorem row_bias (P : S16x1408.Idx → EReal) (y : S16x1408.Idx) (inb) (hk : (y 0).val = 9) (d : FVec Ideal S256x1408 .f32)
    (hd : d = iblk m c 4 t) :
    (View.ld (Val := Elt Ideal) (e' := .f32) P (Rect.unit (s := S16x1408) ![9, 0] ![1, 1408] inb) (ix2 0 (y 1)) : EReal)
        + ∑ n : Fin 256, d (ix2 n (y 1))
      = P y + part m c t (y 0) (y 1) := by
  refine congrArg₂ (· + ·) (ld_row P y inb hk) ?_
  unfold part
  rw [if_neg (by omega), if_pos hk]
  exact Finset.sum_congr rfl fun n _ => (congrFun hd _).trans (blk4 m c t n (y 1))

/-- The ten rows the body writes, newest first, over what the buffer held. -/
theorem rows_eq (P : S16x1408.Idx → EReal) (y : S16x1408.Idx) (H : FVec Ideal S384x1408 .f32)
    (eH : H = k0_pay4 (F := Ideal) (grid0.coords t) (iblk m c 0 t) (iblk m c 2 t) (iblk m c 1 t)) :
    (if (y 0).val = 9 then (k0_pay2 (F := Ideal) (iblk m c 4 t) (View.ld (Val := Elt Ideal) (e' := .f32) P (Rect.unit (s := S16x1408) ![9, 0] ![1, 1408] inb_S16x1408_S1x1408_9_0)) (ix2 0 (y 1)) : EReal)
      else if (y 0).val = 8 then k0_pay1 (F := Ideal) (k0_pay36 (k0_pay23 64#32 k0_pay21 k0_pay22) (k0_pay25 H)) (iblk m c 4 t) (View.ld (Val := Elt Ideal) (e' := .f32) P (Rect.unit (s := S16x1408) ![8, 0] ![1, 1408] inb_S16x1408_S1x1408_8_0)) (ix2 0 (y 1))
      else if (y 0).val = 7 then k0_pay45 (F := Ideal) (k0_pay35 H) (iblk m c 4 t) (View.ld (Val := Elt Ideal) (e' := .f32) P (Rect.unit (s := S16x1408) ![7, 0] ![1, 1408] inb_S16x1408_S1x1408_7_0)) (ix2 0 (y 1))
      else if (y 0).val = 6 then k0_pay44 (F := Ideal) (k0_pay34 (k0_pay32 64#32 k0_pay21 k0_pay22) (k0_pay33 H) (FloatOps.ofBits FTy.f32 0#32)) (iblk m c 4 t) (View.ld (Val := Elt Ideal) (e' := .f32) P (Rect.unit (s := S16x1408) ![6, 0] ![1, 1408] inb_S16x1408_S1x1408_6_0)) (ix2 0 (y 1))
      else if (y 0).val = 5 then k0_pay43 (F := Ideal) (k0_pay31 H 64#32 k0_pay21 k0_pay22) (iblk m c 4 t) (View.ld (Val := Elt Ideal) (e' := .f32) P (Rect.unit (s := S16x1408) ![5, 0] ![1, 1408] inb_S16x1408_S1x1408_5_0)) (ix2 0 (y 1))
      else if (y 0).val = 4 then k0_pay42 (F := Ideal) (k0_pay30 H) (iblk m c 4 t) (View.ld (Val := Elt Ideal) (e' := .f32) P (Rect.unit (s := S16x1408) ![4, 0] ![1, 1408] inb_S16x1408_S1x1408_4_0)) (ix2 0 (y 1))
      else if (y 0).val = 3 then k0_pay41 (F := Ideal) (k0_pay29 H 64#32 k0_pay21 k0_pay22) (iblk m c 4 t) (k0_pay40 (View.ld (Val := Elt Ideal) (e' := .f32) P (Rect.unit (s := S16x1408) ![3, 0] ![1, 1408] inb_S16x1408_S1x1408_3_0))) (ix2 0 (y 1))
      else if (y 0).val = 2 then k0_pay39 (F := Ideal) (k0_pay28 H 64#32 k0_pay21 k0_pay22) (iblk m c 4 t) (View.ld (Val := Elt Ideal) (e' := .f32) P (Rect.unit (s := S16x1408) ![2, 0] ![1, 1408] inb_S16x1408_S1x1408_2_0)) (ix2 0 (y 1))
      else if (y 0).val = 1 then k0_pay38 (F := Ideal) (k0_pay27 H) (iblk m c 4 t) (View.ld (Val := Elt Ideal) (e' := .f32) P (Rect.unit (s := S16x1408) ![1, 0] ![1, 1408] inb_S16x1408_S1x1408_1_0)) (ix2 0 (y 1))
      else if (y 0).val = 0 then k0_pay37 (F := Ideal) (k0_pay26 H 64#32 k0_pay21 k0_pay22) (iblk m c 4 t) (View.ld (Val := Elt Ideal) (e' := .f32) P (Rect.unit (s := S16x1408) ![0, 0] ![1, 1408] inb_S16x1408_S1x1408_0_0)) (ix2 0 (y 1))
      else P y) = P y + part m c t (y 0) (y 1) := by
  subst eH
  split_ifs with h9 h8 h7 h6 h5 h4 h3 h2 h1 h0
  · exact (pay2_apply _ _ _).trans (row_bias m c t P y _ h9 _ rfl)
  · exact (pay1_apply _ _ _ _).trans (row_tap m c t P y 8 _ 2 2 h8 rfl _ fun z => (taps_up _ z).2.2.2.2.2.2.2.2)
  · exact (pay45_apply _ _ _ _).trans (row_tap m c t P y 7 _ 2 1 h7 rfl _ fun z => (taps_up _ z).2.2.2.2.2.2.2.1)
  · exact (pay44_apply _ _ _ _).trans (row_tap m c t P y 6 _ 2 0 h6 rfl _ fun z => (taps_up _ z).2.2.2.2.2.2.1)
  · exact (pay43_apply _ _ _ _).trans (row_tap m c t P y 5 _ 1 2 h5 rfl _ fun z => (taps_up _ z).2.2.2.2.2.1)
  · exact (pay42_apply _ _ _ _).trans (row_tap m c t P y 4 _ 1 1 h4 rfl _ fun z => (taps_up _ z).2.2.2.2.1)
  · exact (pay41_apply _ _ _ _).trans (row_tap m c t P y 3 _ 1 0 h3 rfl _ fun z => (taps_up _ z).2.2.2.1)
  · exact (pay39_apply _ _ _ _).trans (row_tap m c t P y 2 _ 0 2 h2 rfl _ fun z => (taps_up _ z).2.2.1)
  · exact (pay38_apply _ _ _ _).trans (row_tap m c t P y 1 _ 0 1 h1 rfl _ fun z => (taps_up _ z).2.1)
  · exact (pay37_apply _ _ _ _).trans (row_tap m c t P y 0 _ 0 0 h0 rfl _ fun z => (taps_up _ z).1)
  · refine (add_zero _).symm.trans (congrArg (P y + ·) ?_)
    unfold part
    rw [if_neg (by omega), if_neg h9]

theorem pay3_apply (y : S16x1408.Idx) : (k0_pay3 (F := Ideal) y : EReal) = 0 := by
  unfold_payloads
  pointwise

theorem out8_A (h0 : t.val % 32 = 0) (y : S16x1408.Idx) : ((outsAt0 m c t.val t.isLt).2 y : EReal) = 0 + part m c t (y 0) (y 1) := by
  rw [outsAt0_A m c t h0]
  frame_open
  simp (disch := decide) only [↓ View.readCov_skip, ↓ View.readCov_cons_toLoadRect, ↓ View.readCov_fill]
  frame_out
  rw [canon_row, canon_row, canon_row, canon_row, canon_row, canon_row, canon_row, canon_row, canon_row, canon_row,
    View.canon_cons_unit_lit _ _ _ (by decide)]
  have key := rows_eq m c t (k0_pay3 (F := Ideal)) y _ (pay20_eq (grid0.coords t) (iblk m c 0 t) (iblk m c 2 t) (iblk m c 1 t))
  exact key.trans (by rw [pay3_apply])

theorem out8_B (h0 : ¬ t.val % 32 = 0) (y : S16x1408.Idx) : ((outsAt0 m c t.val t.isLt).2 y : EReal)
    = (outsAt0 m c (t.val - 1) (by omega)).2 y + part m c t (y 0) (y 1) := by
  rw [outsAt0_B m c t h0]
  frame_out
  rw [read_row, read_row, read_row, read_row, read_row, read_row, read_row, read_row, read_row, read_row,
    View.writes_nil, Memref.IsWhole.read_unread]
  refine Eq.trans ?_ (rows_eq m c t (outsAt0 m c (t.val - 1) (by omega)).2 y _ (pay20_eq _ _ _ _))
  rfl

/-- The second result: a row of sums over all tokens for each tap, then the row of the bias, then zeros. -/
def dwb (A D : S8192x2816.Idx → EReal) (i : S16x2816.Idx) : EReal :=
  if (i 0).val < 9 then ∑ p : Fin 8192, tap A ⟨(i 0).val / 3 % 3, by omega⟩ ⟨(i 0).val % 3, by omega⟩ p (i 1) * D (ix2 p (i 1))
  else if (i 0).val = 9 then ∑ p : Fin 8192, D (ix2 p (i 1)) else 0

theorem parts_eq (t : Fin cfg0.N) (k : Fin 16) (q : Fin 1408) (h : ∀ s : Fin 32, 32 * (t.val / 32) + s.val < cfg0.N) :
    ∑ s : Fin 32, part m c ⟨32 * (t.val / 32) + s.val, h s⟩ k q = dwb (up m c) (dc m c) (ix2 k (chn t q)) := by
  have hc : ∀ s : Fin 32, chn ⟨32 * (t.val / 32) + s.val, h s⟩ q = chn t q := fun s => Fin.ext (by
    have := s.isLt
    show (32 * (t.val / 32) + s.val) / 32 * 1408 + q.val = t.val / 32 * 1408 + q.val
    omega)
  have ht : ∀ (s : Fin 32) (n : Fin 256) (hl : s.val * 256 + n.val < 8192), tok ⟨32 * (t.val / 32) + s.val, h s⟩ n = ⟨s.val * 256 + n.val, hl⟩ :=
    fun s n _ => Fin.ext (by
      have := s.isLt
      show (32 * (t.val / 32) + s.val) % 32 * 256 + n.val = s.val * 256 + n.val
      omega)
  unfold part dwb
  simp only [hc]
  by_cases h9 : k.val < 9
  · refine (Finset.sum_congr rfl fun s _ => if_pos h9).trans ((if_pos h9).trans ?_).symm
    exact (Fin.sum_mul_add_congr (f := fun p => tap (up m c) ⟨k.val / 3 % 3, by omega⟩ ⟨k.val % 3, by omega⟩ p (chn t q) * dc m c (ix2 p (chn t q)))
      fun s n hl => by rw [ht s n hl]).symm
  · refine (Finset.sum_congr rfl fun s _ => if_neg h9).trans ((if_neg h9).trans ?_).symm
    by_cases h10 : k.val = 9
    · refine (if_pos h10).trans (Eq.trans ?_ (Finset.sum_congr rfl fun s _ => (if_pos h10).symm))
      exact (Fin.sum_mul_add_congr (f := fun p => dc m c (ix2 p (chn t q))) fun s n hl => by rw [ht s n hl]).symm
    · refine (if_neg h10).trans (Eq.trans ?_ (Finset.sum_congr rfl fun s _ => (if_neg h10).symm))
      exact Finset.sum_const_zero.symm

theorem final8 : (dats m 0 c).arrAt 8 cfg0.N = dwb (up m c) (dc m c) := by
  refine (dats m 0 c).arrAt_eq_of_covers 8 _ (by decide +kernel) fun t hf y => ?_
  obtain ⟨-, -, -, -, -, -, -, -, e, -⟩ := idx_facts t
  blk_simp
  rw [after0_8]
  refine (Pipeline.eq_sum_fin_of_reset_step_apply_of_flush (fun n h => (outsAt0 m c n h).2) 32 (fun _ => (0 : EReal))
    (fun t y => part m c t (y 0) (y 1)) (fun t h y => out8_A m c t h y) (fun t h y => out8_B m c t h y) t ((flush0_8 t).mp hf) y).trans ?_
  refine Eq.trans (zero_add _) ?_
  refine (parts_eq m c t (y 0) (y 1) _).trans (congrArg (dwb (up m c) (dc m c)) ?_)
  blk_ext [e, chn]

theorem wt_apply (k : Fin 9) (q : Fin 2816) : wt m c (ix2 k q)
    = (m ((c : Thread nD τ).loc main_arg1) : S3x3x2816.Idx → EReal) (ix3 ⟨k.val / 3, by omega⟩ ⟨k.val % 3, by omega⟩ q) := by
  have e : V m c main_v0 = shapeCast S9x2816 (m ((c : Thread nD τ).loc main_arg1) : S3x3x2816.Idx → EReal) shapeCasts_S3x3x2816_S9x2816 := by
    show StableHlo.after _ _ _ = _
    after_results
    rfl
  unfold wt
  rw [e]
  refine shapeCast_apply (s := S3x3x2816) (m ((c : Thread nD τ).loc main_arg1) : S3x3x2816.Idx → EReal) _ _ (ix3 ⟨k.val / 3, by omega⟩ ⟨k.val % 3, by omega⟩ q) ?_
  rw [Shape.rowMajor_val_three, Shape.rowMajor_val_two]
  show (k.val / 3 * 3 + k.val % 3) * 2816 + q.val = k.val * 2816 + q.val
  omega

end Cert.Proof.Conv

end
-- ==== Proof.ConvEq.lean ====
/- The gradient of the depthwise convolution: the reference's two results, and that they are the kernel's. -/
module

public import proofs.«01_k».proof.Defs
public import proofs.«01_k».proof.Proof.ConvW
public import proofs.«01_k».proof.Proof.Gen.ReferenceConvIdeal.Run
public import proofs.«01_k».proof.Proof.Gen.ReferenceConvIdeal.Read
public import Idealize.ShloMosaic.Lib.KernelVsHost
public import Idealize.ShloMosaic.Lib.Pointwise

@[expose] public section

noncomputable section

namespace Cert.Proof.Conv

open Cert.ReferenceConvIdeal Cert.ReferenceConvIdeal.Read Idealize.ShloMosaic Idealize.ShloMosaic.TcCoe Idealize.SL.Sem

/-! ## Sums and pads of the grid -/

/-- Row and column of a token. -/
def row (p : Fin 8192) : Fin 128 := ⟨p.val / 64, by omega⟩
def col (p : Fin 8192) : Fin 64 := ⟨p.val % 64, by omega⟩

/-- A sum over rows and columns is a sum over tokens. -/
theorem sum_grid (h : S128x64x2816.ReducesTo [0, 1] S2816) (X : S128x64x2816.Idx → EReal) (z : EReal) (j : S2816.Idx) :
    Ideal.hostReduceAdd h X z j = z + ∑ p : Fin 8192, X (ix3 (row p) (col p) (j 0)) := by
  refine congrArg (z + ·) (Finset.sum_filter_eq_sum_of_fiber _ (fun p : Fin 8192 => (ix3 (row p) (col p) (j 0) : S128x64x2816.Idx))
    (fun a b e => ?_) (fun i => ⟨fun e => ?_, ?_⟩) X)
  · have e0 : a.val / 64 = b.val / 64 := congrArg Fin.val (congrFun e 0)
    have e1 : a.val % 64 = b.val % 64 := congrArg Fin.val (congrFun e 1)
    exact Fin.ext (by omega)
  · have h0 : (i 0).val < 128 := (i 0).isLt
    have h1 : (i 1).val < 64 := (i 1).isLt
    refine ⟨⟨(i 0).val * 64 + (i 1).val, by omega⟩, funext fun a => Fin.ext ?_⟩
    match a with
    | ⟨0, _⟩ => show ((i 0).val * 64 + (i 1).val) / 64 = (i 0).val; omega
    | ⟨1, _⟩ => show ((i 0).val * 64 + (i 1).val) % 64 = (i 1).val; omega
    | ⟨2, _⟩ => exact (congrArg Fin.val (congrFun e 0)).symm
  · rintro ⟨p, rfl⟩
    funext b
    match b with
    | ⟨0, _⟩ => rfl

/-- A sum over one row and one column. -/
theorem sum_one (h : S1x1x2816.ReducesTo [0, 1] S2816) (X : S1x1x2816.Idx → EReal) (z : EReal) (j : S2816.Idx) :
    Ideal.hostReduceAdd h X z j = z + X (ix3 0 0 (j 0)) := by
  refine congrArg (z + ·) ((Finset.sum_filter_eq_sum_of_fiber _ (fun _ : Fin 1 => (ix3 0 0 (j 0) : S1x1x2816.Idx))
    (fun a b _ => Subsingleton.elim a b) (fun i => ⟨fun e => ?_, ?_⟩) X).trans (Fin.sum_univ_one _))
  · have h0 : (i 0).val < 1 := (i 0).isLt
    have h1 : (i 1).val < 1 := (i 1).isLt
    refine ⟨0, funext fun a => Fin.ext ?_⟩
    match a with
    | ⟨0, _⟩ => show 0 = (i 0).val; omega
    | ⟨1, _⟩ => show 0 = (i 1).val; omega
    | ⟨2, _⟩ => exact (congrArg Fin.val (congrFun e 0)).symm
  · rintro ⟨_, rfl⟩
    funext b
    match b with
    | ⟨0, _⟩ => rfl

/-- One weight's gradient put at its place of the three by three. -/
theorem pad_w (X : S1x1x2816.Idx → EReal) (z : S_.Idx → EReal) (hz : z (Shape.Idx.first Gen.h_S_) = 0) (lo hi : Fin 3 → ℕ) (ky kx : ℕ)
    (hlo : lo = ![ky, kx, 0]) (h : S1x1x2816.Pads lo hi ![0, 0, 0] S3x3x2816) (a b : Fin 3) (ch : Fin 2816) :
    pad S3x3x2816 lo hi ![0, 0, 0] X z h Gen.h_S_ (ix3 a b ch) = if a.val = ky ∧ b.val = kx then X (ix3 0 0 ch) else 0 := by
  subst hlo
  split_ifs with hk
  · refine pad_apply_of_inside _ _ _ _ _ _ _ _ _ fun x => ?_
    match x with
    | ⟨0, _⟩ => exact hk.1.trans rfl
    | ⟨1, _⟩ => exact hk.2.trans rfl
    | ⟨2, _⟩ => show ch.val = 0 + ch.val * 1; omega
  · by_cases ha : a.val = ky
    · refine (pad_apply_of_not_inside _ _ _ _ _ _ _ _ 1 ?_).trans hz
      show ¬ (kx ≤ b.val ∧ (b.val - kx) % 1 = 0 ∧ (b.val - kx) / 1 < 1)
      omega
    · refine (pad_apply_of_not_inside _ _ _ _ _ _ _ _ 0 ?_).trans hz
      show ¬ (ky ≤ a.val ∧ (a.val - ky) % 1 = 0 ∧ (a.val - ky) / 1 < 1)
      omega

/-- The grid of `dc` times a weight, put where its tap read it, and read at a token: the mirrored tap of `dc`. -/
theorem pad_tap (D : S8192x2816.Idx → EReal) (w : EReal) (X : S128x64x2816.Idx → EReal) (z : S_.Idx → EReal)
    (hz : z (Shape.Idx.first Gen.h_S_) = 0) (lo hi : Fin 3 → ℕ) (ky kx : Fin 3) (ky' kx' : ℕ) (hy : ky'+ ky.val = 2) (hx : kx' + kx.val = 2)
    (hlo : lo = ![ky', kx', 0]) (h : S128x64x2816.Pads lo hi ![0, 0, 0] S130x66x2816) (p : Fin 8192) (ch : Fin 2816)
    (hX : ∀ (r : Fin 128) (q : Fin 64), X (ix3 r q ch) = D (ix2 ⟨r.val * 64 + q.val, by omega⟩ ch) * w) :
    pad S130x66x2816 lo hi ![0, 0, 0] X z h Gen.h_S_ (ix3 ⟨p.val / 64 + 1, by omega⟩ ⟨p.val % 64 + 1, by omega⟩ ch) = tap D ky kx p ch * w := by
  subst hlo
  unfold tap
  split_ifs with hk
  · obtain ⟨⟨k1, k2⟩, k3, k4⟩ := hk
    refine (pad_apply_of_inside _ _ _ _ _ _ _ _ (ix3 ⟨p.val / 64 + 1 - ky', by omega⟩ ⟨p.val % 64 + 1 - kx', by omega⟩ ch) fun x => ?_).trans ?_
    · match x with
      | ⟨0, _⟩ => show p.val / 64 + 1 = ky' + (p.val / 64 + 1 - ky') * 1; omega
      | ⟨1, _⟩ => show p.val % 64 + 1 = kx' + (p.val % 64 + 1 - kx') * 1; omega
      | ⟨2, _⟩ => show ch.val = 0 + ch.val * 1; omega
    · refine (hX _ _).trans (congrArg (fun r => D (ix2 r ch) * w) (Fin.ext ?_))
      show (p.val / 64 + 1 - ky') * 64 + (p.val % 64 + 1 - kx') = p.val + 64 * ky.val + kx.val - 65
      omega
  · refine Eq.trans ?_ (zero_mul w).symm
    by_cases ha : 1 ≤ p.val % 64 + kx.val ∧ p.val % 64 + kx.val ≤ 64
    · refine (pad_apply_of_not_inside _ _ _ _ _ _ _ _ 0 ?_).trans hz
      show ¬ (ky' ≤ p.val / 64 + 1 ∧ (p.val / 64 + 1 - ky') % 1 = 0 ∧ (p.val / 64 + 1 - ky') / 1 < 128)
      omega
    · refine (pad_apply_of_not_inside _ _ _ _ _ _ _ _ 1 ?_).trans hz
      show ¬ (kx' ≤ p.val % 64 + 1 ∧ (p.val % 64 + 1 - kx') % 1 = 0 ∧ (p.val % 64 + 1 - kx') / 1 < 64)
      omega

/-! ## The reference's stages -/

variable (A D : S8192x2816.Idx → EReal) (W : S3x3x2816.Idx → EReal)

/-- The grid with its border of zeros. -/
theorem v6_apply (r : Fin 130) (q : Fin 66) (ch : Fin 2816) : (val_main_v6 (F := Ideal) A (ix3 r q ch) : EReal)
    = if h : q.val < 1 then 0 else if h : q.val - 1 < 64 then
        if h : r.val < 1 then 0 else if h' : r.val - 1 < 128 then A (ix2 ⟨(r.val - 1) * 64 + (q.val - 1), by omega⟩ ch) else 0 else 0 := by
  unfold val_main_v6 val_main_v3
  pointwise
  simp only [val_main_v0_apply, val_main_v1_apply, val_main_v2_apply, val_main_cst_apply, val_main_cst_0_apply, pointwise]
  split_ifs <;> first | rfl | exact congrArg A (funext fun a => match a with
    | ⟨0, _⟩ => Fin.ext (by show (((r.val - 1) * 64 + (q.val - 1)) * 2816 + ch.val) / 2816 = _; show _ = (r.val - 1) * 64 + (q.val - 1); omega)
    | ⟨1, _⟩ => Fin.ext (by show (((r.val - 1) * 64 + (q.val - 1)) * 2816 + ch.val) % 2816 = ch.val; omega))

theorem v6_tap (ky kx : Fin 3) (p : Fin 8192) (ch : Fin 2816) :
    (val_main_v6 (F := Ideal) A (ix3 ⟨p.val / 64 + ky.val, by omega⟩ ⟨p.val % 64 + kx.val, by omega⟩ ch) : EReal) = tap A ky kx p ch := by
  rw [v6_apply]
  dsimp only
  unfold tap
  have hp := p.isLt
  split_ifs <;> first | rfl | (exfalso; omega) | exact congrArg (fun r => A (ix2 r ch)) (Fin.ext (by show (p.val / 64 + ky.val - 1) * 64 + (p.val % 64 + kx.val - 1) = p.val + 64 * ky.val + kx.val - 65; omega))

theorem v75_grid (r : Fin 128) (q : Fin 64) (ch : Fin 2816) : (val_main_v75 (F := Ideal) D (ix3 r q ch) : EReal) = D (ix2 ⟨r.val * 64 + q.val, by omega⟩ ch) := by
  rw [val_main_v75_apply]
  exact congrArg D (funext fun a => match a with
    | ⟨0, _⟩ => Fin.ext (by show ((r.val * 64 + q.val) * 2816 + ch.val) / 2816 = r.val * 64 + q.val; omega)
    | ⟨1, _⟩ => Fin.ext (by show ((r.val * 64 + q.val) * 2816 + ch.val) % 2816 = ch.val; omega))

theorem v75_tok (p : Fin 8192) (ch : Fin 2816) : (val_main_v75 (F := Ideal) D (ix3 (row p) (col p) ch) : EReal) = D (ix2 p ch) :=
  (v75_grid D _ _ ch).trans (congrArg (fun r => D (ix2 r ch)) (Fin.ext (by show p.val / 64 * 64 + p.val % 64 = p.val; omega)))

/-- The gradient of one weight. -/
def dw (ky kx : Fin 3) (ch : Fin 2816) : EReal := ∑ p : Fin 8192, tap A ky kx p ch * D (ix2 p ch)

theorem sl8 (p : Fin 8192) (ch : Fin 2816) : (val_main_v67 (F := Ideal) A (ix3 (row p) (col p) ch) : EReal) = tap A 2 2 p ch := by
  have e : idx_main_v67 (ix3 (row p) (col p) ch) = ix3 ⟨p.val / 64 + (2 : Fin 3).val, by omega⟩ ⟨p.val % 64 + (2 : Fin 3).val, by omega⟩ ch :=
    funext fun a => match a with
      | ⟨0, _⟩ => Fin.ext (by first | rfl | exact Nat.add_comm _ _)
      | ⟨1, _⟩ => Fin.ext (by first | rfl | exact Nat.add_comm _ _)
      | ⟨2, _⟩ => rfl
  rw [val_main_v67_apply, e]
  exact v6_tap A 2 2 p ch

theorem sum8 (j : S2816.Idx) : (val_main_v77 (F := Ideal) A D j : EReal) = dw A D 2 2 (j 0) :=
  (sum_grid _ _ _ j).trans ((congrArg₂ (· + ·) Ideal.ofBits_zero_f32
    (Finset.sum_congr rfl fun p _ => congrArg₂ (· * ·) (sl8 A p (j 0)) (v75_tok D p (j 0)))).trans (zero_add _))

theorem dw8 (ch : Fin 2816) : (val_main_v82 (F := Ideal) A D (ix3 0 0 ch) : EReal) = dw A D 2 2 ch := by
  rw [val_main_v82_apply]
  refine (sum_one _ _ _ _).trans ((congrArg₂ (· + ·) Ideal.ofBits_zero_f32 ((val_main_v78_apply _ _ _).trans (sum8 A D _))).trans ((zero_add _).trans ?_))
  exact congrArg (dw A D 2 2) (Fin.ext (by show (0 * 1 + 0) * 2816 + ch.val = ch.val; omega))

theorem w8 (r : Fin 128) (q : Fin 64) (ch : Fin 2816) : (val_main_v80 (F := Ideal) W D (ix3 r q ch) : EReal)
    = D (ix2 ⟨r.val * 64 + q.val, by omega⟩ ch) * W (ix3 2 2 ch) := by
  rw [val_main_v80_apply]
  refine congrArg₂ (· * ·) (v75_grid D r q ch) ?_
  rw [val_main_v79_apply, val_main_v70_apply, val_main_v69_apply, val_main_v68_apply]
  exact congrArg W (funext fun a => match a with
    | ⟨0, _⟩ => rfl
    | ⟨1, _⟩ => rfl
    | ⟨2, _⟩ => Fin.ext (Nat.mod_eq_of_lt ch.isLt))

theorem sl7 (p : Fin 8192) (ch : Fin 2816) : (val_main_v60 (F := Ideal) A (ix3 (row p) (col p) ch) : EReal) = tap A 2 1 p ch := by
  have e : idx_main_v60 (ix3 (row p) (col p) ch) = ix3 ⟨p.val / 64 + (2 : Fin 3).val, by omega⟩ ⟨p.val % 64 + (1 : Fin 3).val, by omega⟩ ch :=
    funext fun a => match a with
      | ⟨0, _⟩ => Fin.ext (by first | rfl | exact Nat.add_comm _ _)
      | ⟨1, _⟩ => Fin.ext (by first | rfl | exact Nat.add_comm _ _)
      | ⟨2, _⟩ => rfl
  rw [val_main_v60_apply, e]
  exact v6_tap A 2 1 p ch

theorem sum7 (j : S2816.Idx) : (val_main_v86 (F := Ideal) A D j : EReal) = dw A D 2 1 (j 0) :=
  (sum_grid _ _ _ j).trans ((congrArg₂ (· + ·) Ideal.ofBits_zero_f32
    (Finset.sum_congr rfl fun p _ => congrArg₂ (· * ·) (sl7 A p (j 0)) (v75_tok D p (j 0)))).trans (zero_add _))

theorem dw7 (ch : Fin 2816) : (val_main_v91 (F := Ideal) A D (ix3 0 0 ch) : EReal) = dw A D 2 1 ch := by
  rw [val_main_v91_apply]
  refine (sum_one _ _ _ _).trans ((congrArg₂ (· + ·) Ideal.ofBits_zero_f32 ((val_main_v87_apply _ _ _).trans (sum7 A D _))).trans ((zero_add _).trans ?_))
  exact congrArg (dw A D 2 1) (Fin.ext (by show (0 * 1 + 0) * 2816 + ch.val = ch.val; omega))

theorem w7 (r : Fin 128) (q : Fin 64) (ch : Fin 2816) : (val_main_v89 (F := Ideal) W D (ix3 r q ch) : EReal)
    = D (ix2 ⟨r.val * 64 + q.val, by omega⟩ ch) * W (ix3 2 1 ch) := by
  rw [val_main_v89_apply]
  refine congrArg₂ (· * ·) (v75_grid D r q ch) ?_
  rw [val_main_v88_apply, val_main_v63_apply, val_main_v62_apply, val_main_v61_apply]
  exact congrArg W (funext fun a => match a with
    | ⟨0, _⟩ => rfl
    | ⟨1, _⟩ => rfl
    | ⟨2, _⟩ => Fin.ext (Nat.mod_eq_of_lt ch.isLt))

theorem sl6 (p : Fin 8192) (ch : Fin 2816) : (val_main_v53 (F := Ideal) A (ix3 (row p) (col p) ch) : EReal) = tap A 2 0 p ch := by
  have e : idx_main_v53 (ix3 (row p) (col p) ch) = ix3 ⟨p.val / 64 + (2 : Fin 3).val, by omega⟩ ⟨p.val % 64 + (0 : Fin 3).val, by omega⟩ ch :=
    funext fun a => match a with
      | ⟨0, _⟩ => Fin.ext (by first | rfl | exact Nat.add_comm _ _)
      | ⟨1, _⟩ => Fin.ext (by first | rfl | exact Nat.add_comm _ _)
      | ⟨2, _⟩ => rfl
  rw [val_main_v53_apply, e]
  exact v6_tap A 2 0 p ch

theorem sum6 (j : S2816.Idx) : (val_main_v97 (F := Ideal) A D j : EReal) = dw A D 2 0 (j 0) :=
  (sum_grid _ _ _ j).trans ((congrArg₂ (· + ·) Ideal.ofBits_zero_f32
    (Finset.sum_congr rfl fun p _ => congrArg₂ (· * ·) (sl6 A p (j 0)) (v75_tok D p (j 0)))).trans (zero_add _))

theorem dw6 (ch : Fin 2816) : (val_main_v102 (F := Ideal) A D (ix3 0 0 ch) : EReal) = dw A D 2 0 ch := by
  rw [val_main_v102_apply]
  refine (sum_one _ _ _ _).trans ((congrArg₂ (· + ·) Ideal.ofBits_zero_f32 ((val_main_v98_apply _ _ _).trans (sum6 A D _))).trans ((zero_add _).trans ?_))
  exact congrArg (dw A D 2 0) (Fin.ext (by show (0 * 1 + 0) * 2816 + ch.val = ch.val; omega))

theorem w6 (r : Fin 128) (q : Fin 64) (ch : Fin 2816) : (val_main_v100 (F := Ideal) W D (ix3 r q ch) : EReal)
    = D (ix2 ⟨r.val * 64 + q.val, by omega⟩ ch) * W (ix3 2 0 ch) := by
  rw [val_main_v100_apply]
  refine congrArg₂ (· * ·) (v75_grid D r q ch) ?_
  rw [val_main_v99_apply, val_main_v56_apply, val_main_v55_apply, val_main_v54_apply]
  exact congrArg W (funext fun a => match a with
    | ⟨0, _⟩ => rfl
    | ⟨1, _⟩ => rfl
    | ⟨2, _⟩ => Fin.ext (Nat.mod_eq_of_lt ch.isLt))

theorem sl5 (p : Fin 8192) (ch : Fin 2816) : (val_main_v46 (F := Ideal) A (ix3 (row p) (col p) ch) : EReal) = tap A 1 2 p ch := by
  have e : idx_main_v46 (ix3 (row p) (col p) ch) = ix3 ⟨p.val / 64 + (1 : Fin 3).val, by omega⟩ ⟨p.val % 64 + (2 : Fin 3).val, by omega⟩ ch :=
    funext fun a => match a with
      | ⟨0, _⟩ => Fin.ext (by first | rfl | exact Nat.add_comm _ _)
      | ⟨1, _⟩ => Fin.ext (by first | rfl | exact Nat.add_comm _ _)
      | ⟨2, _⟩ => rfl
  rw [val_main_v46_apply, e]
  exact v6_tap A 1 2 p ch

theorem sum5 (j : S2816.Idx) : (val_main_v108 (F := Ideal) A D j : EReal) = dw A D 1 2 (j 0) :=
  (sum_grid _ _ _ j).trans ((congrArg₂ (· + ·) Ideal.ofBits_zero_f32
    (Finset.sum_congr rfl fun p _ => congrArg₂ (· * ·) (sl5 A p (j 0)) (v75_tok D p (j 0)))).trans (zero_add _))

theorem dw5 (ch : Fin 2816) : (val_main_v113 (F := Ideal) A D (ix3 0 0 ch) : EReal) = dw A D 1 2 ch := by
  rw [val_main_v113_apply]
  refine (sum_one _ _ _ _).trans ((congrArg₂ (· + ·) Ideal.ofBits_zero_f32 ((val_main_v109_apply _ _ _).trans (sum5 A D _))).trans ((zero_add _).trans ?_))
  exact congrArg (dw A D 1 2) (Fin.ext (by show (0 * 1 + 0) * 2816 + ch.val = ch.val; omega))

theorem w5 (r : Fin 128) (q : Fin 64) (ch : Fin 2816) : (val_main_v111 (F := Ideal) W D (ix3 r q ch) : EReal)
    = D (ix2 ⟨r.val * 64 + q.val, by omega⟩ ch) * W (ix3 1 2 ch) := by
  rw [val_main_v111_apply]
  refine congrArg₂ (· * ·) (v75_grid D r q ch) ?_
  rw [val_main_v110_apply, val_main_v49_apply, val_main_v48_apply, val_main_v47_apply]
  exact congrArg W (funext fun a => match a with
    | ⟨0, _⟩ => rfl
    | ⟨1, _⟩ => rfl
    | ⟨2, _⟩ => Fin.ext (Nat.mod_eq_of_lt ch.isLt))

theorem sl4 (p : Fin 8192) (ch : Fin 2816) : (val_main_v39 (F := Ideal) A (ix3 (row p) (col p) ch) : EReal) = tap A 1 1 p ch := by
  have e : idx_main_v39 (ix3 (row p) (col p) ch) = ix3 ⟨p.val / 64 + (1 : Fin 3).val, by omega⟩ ⟨p.val % 64 + (1 : Fin 3).val, by omega⟩ ch :=
    funext fun a => match a with
      | ⟨0, _⟩ => Fin.ext (by first | rfl | exact Nat.add_comm _ _)
      | ⟨1, _⟩ => Fin.ext (by first | rfl | exact Nat.add_comm _ _)
      | ⟨2, _⟩ => rfl
  rw [val_main_v39_apply, e]
  exact v6_tap A 1 1 p ch

theorem sum4 (j : S2816.Idx) : (val_main_v119 (F := Ideal) A D j : EReal) = dw A D 1 1 (j 0) :=
  (sum_grid _ _ _ j).trans ((congrArg₂ (· + ·) Ideal.ofBits_zero_f32
    (Finset.sum_congr rfl fun p _ => congrArg₂ (· * ·) (sl4 A p (j 0)) (v75_tok D p (j 0)))).trans (zero_add _))

theorem dw4 (ch : Fin 2816) : (val_main_v124 (F := Ideal) A D (ix3 0 0 ch) : EReal) = dw A D 1 1 ch := by
  rw [val_main_v124_apply]
  refine (sum_one _ _ _ _).trans ((congrArg₂ (· + ·) Ideal.ofBits_zero_f32 ((val_main_v120_apply _ _ _).trans (sum4 A D _))).trans ((zero_add _).trans ?_))
  exact congrArg (dw A D 1 1) (Fin.ext (by show (0 * 1 + 0) * 2816 + ch.val = ch.val; omega))

theorem w4 (r : Fin 128) (q : Fin 64) (ch : Fin 2816) : (val_main_v122 (F := Ideal) W D (ix3 r q ch) : EReal)
    = D (ix2 ⟨r.val * 64 + q.val, by omega⟩ ch) * W (ix3 1 1 ch) := by
  rw [val_main_v122_apply]
  refine congrArg₂ (· * ·) (v75_grid D r q ch) ?_
  rw [val_main_v121_apply, val_main_v42_apply, val_main_v41_apply, val_main_v40_apply]
  exact congrArg W (funext fun a => match a with
    | ⟨0, _⟩ => rfl
    | ⟨1, _⟩ => rfl
    | ⟨2, _⟩ => Fin.ext (Nat.mod_eq_of_lt ch.isLt))

theorem sl3 (p : Fin 8192) (ch : Fin 2816) : (val_main_v32 (F := Ideal) A (ix3 (row p) (col p) ch) : EReal) = tap A 1 0 p ch := by
  have e : idx_main_v32 (ix3 (row p) (col p) ch) = ix3 ⟨p.val / 64 + (1 : Fin 3).val, by omega⟩ ⟨p.val % 64 + (0 : Fin 3).val, by omega⟩ ch :=
    funext fun a => match a with
      | ⟨0, _⟩ => Fin.ext (by first | rfl | exact Nat.add_comm _ _)
      | ⟨1, _⟩ => Fin.ext (by first | rfl | exact Nat.add_comm _ _)
      | ⟨2, _⟩ => rfl
  rw [val_main_v32_apply, e]
  exact v6_tap A 1 0 p ch

theorem sum3 (j : S2816.Idx) : (val_main_v130 (F := Ideal) A D j : EReal) = dw A D 1 0 (j 0) :=
  (sum_grid _ _ _ j).trans ((congrArg₂ (· + ·) Ideal.ofBits_zero_f32
    (Finset.sum_congr rfl fun p _ => congrArg₂ (· * ·) (sl3 A p (j 0)) (v75_tok D p (j 0)))).trans (zero_add _))

theorem dw3 (ch : Fin 2816) : (val_main_v135 (F := Ideal) A D (ix3 0 0 ch) : EReal) = dw A D 1 0 ch := by
  rw [val_main_v135_apply]
  refine (sum_one _ _ _ _).trans ((congrArg₂ (· + ·) Ideal.ofBits_zero_f32 ((val_main_v131_apply _ _ _).trans (sum3 A D _))).trans ((zero_add _).trans ?_))
  exact congrArg (dw A D 1 0) (Fin.ext (by show (0 * 1 + 0) * 2816 + ch.val = ch.val; omega))

theorem w3 (r : Fin 128) (q : Fin 64) (ch : Fin 2816) : (val_main_v133 (F := Ideal) W D (ix3 r q ch) : EReal)
    = D (ix2 ⟨r.val * 64 + q.val, by omega⟩ ch) * W (ix3 1 0 ch) := by
  rw [val_main_v133_apply]
  refine congrArg₂ (· * ·) (v75_grid D r q ch) ?_
  rw [val_main_v132_apply, val_main_v35_apply, val_main_v34_apply, val_main_v33_apply]
  exact congrArg W (funext fun a => match a with
    | ⟨0, _⟩ => rfl
    | ⟨1, _⟩ => rfl
    | ⟨2, _⟩ => Fin.ext (Nat.mod_eq_of_lt ch.isLt))

theorem sl2 (p : Fin 8192) (ch : Fin 2816) : (val_main_v25 (F := Ideal) A (ix3 (row p) (col p) ch) : EReal) = tap A 0 2 p ch := by
  have e : idx_main_v25 (ix3 (row p) (col p) ch) = ix3 ⟨p.val / 64 + (0 : Fin 3).val, by omega⟩ ⟨p.val % 64 + (2 : Fin 3).val, by omega⟩ ch :=
    funext fun a => match a with
      | ⟨0, _⟩ => Fin.ext (by first | rfl | exact Nat.add_comm _ _)
      | ⟨1, _⟩ => Fin.ext (by first | rfl | exact Nat.add_comm _ _)
      | ⟨2, _⟩ => rfl
  rw [val_main_v25_apply, e]
  exact v6_tap A 0 2 p ch

theorem sum2 (j : S2816.Idx) : (val_main_v141 (F := Ideal) A D j : EReal) = dw A D 0 2 (j 0) :=
  (sum_grid _ _ _ j).trans ((congrArg₂ (· + ·) Ideal.ofBits_zero_f32
    (Finset.sum_congr rfl fun p _ => congrArg₂ (· * ·) (sl2 A p (j 0)) (v75_tok D p (j 0)))).trans (zero_add _))

theorem dw2 (ch : Fin 2816) : (val_main_v146 (F := Ideal) A D (ix3 0 0 ch) : EReal) = dw A D 0 2 ch := by
  rw [val_main_v146_apply]
  refine (sum_one _ _ _ _).trans ((congrArg₂ (· + ·) Ideal.ofBits_zero_f32 ((val_main_v142_apply _ _ _).trans (sum2 A D _))).trans ((zero_add _).trans ?_))
  exact congrArg (dw A D 0 2) (Fin.ext (by show (0 * 1 + 0) * 2816 + ch.val = ch.val; omega))

theorem w2 (r : Fin 128) (q : Fin 64) (ch : Fin 2816) : (val_main_v144 (F := Ideal) W D (ix3 r q ch) : EReal)
    = D (ix2 ⟨r.val * 64 + q.val, by omega⟩ ch) * W (ix3 0 2 ch) := by
  rw [val_main_v144_apply]
  refine congrArg₂ (· * ·) (v75_grid D r q ch) ?_
  rw [val_main_v143_apply, val_main_v28_apply, val_main_v27_apply, val_main_v26_apply]
  exact congrArg W (funext fun a => match a with
    | ⟨0, _⟩ => rfl
    | ⟨1, _⟩ => rfl
    | ⟨2, _⟩ => Fin.ext (Nat.mod_eq_of_lt ch.isLt))

theorem sl1 (p : Fin 8192) (ch : Fin 2816) : (val_main_v18 (F := Ideal) A (ix3 (row p) (col p) ch) : EReal) = tap A 0 1 p ch := by
  have e : idx_main_v18 (ix3 (row p) (col p) ch) = ix3 ⟨p.val / 64 + (0 : Fin 3).val, by omega⟩ ⟨p.val % 64 + (1 : Fin 3).val, by omega⟩ ch :=
    funext fun a => match a with
      | ⟨0, _⟩ => Fin.ext (by first | rfl | exact Nat.add_comm _ _)
      | ⟨1, _⟩ => Fin.ext (by first | rfl | exact Nat.add_comm _ _)
      | ⟨2, _⟩ => rfl
  rw [val_main_v18_apply, e]
  exact v6_tap A 0 1 p ch

theorem sum1 (j : S2816.Idx) : (val_main_v152 (F := Ideal) A D j : EReal) = dw A D 0 1 (j 0) :=
  (sum_grid _ _ _ j).trans ((congrArg₂ (· + ·) Ideal.ofBits_zero_f32
    (Finset.sum_congr rfl fun p _ => congrArg₂ (· * ·) (sl1 A p (j 0)) (v75_tok D p (j 0)))).trans (zero_add _))

theorem dw1 (ch : Fin 2816) : (val_main_v157 (F := Ideal) A D (ix3 0 0 ch) : EReal) = dw A D 0 1 ch := by
  rw [val_main_v157_apply]
  refine (sum_one _ _ _ _).trans ((congrArg₂ (· + ·) Ideal.ofBits_zero_f32 ((val_main_v153_apply _ _ _).trans (sum1 A D _))).trans ((zero_add _).trans ?_))
  exact congrArg (dw A D 0 1) (Fin.ext (by show (0 * 1 + 0) * 2816 + ch.val = ch.val; omega))

theorem w1 (r : Fin 128) (q : Fin 64) (ch : Fin 2816) : (val_main_v155 (F := Ideal) W D (ix3 r q ch) : EReal)
    = D (ix2 ⟨r.val * 64 + q.val, by omega⟩ ch) * W (ix3 0 1 ch) := by
  rw [val_main_v155_apply]
  refine congrArg₂ (· * ·) (v75_grid D r q ch) ?_
  rw [val_main_v154_apply, val_main_v21_apply, val_main_v20_apply, val_main_v19_apply]
  exact congrArg W (funext fun a => match a with
    | ⟨0, _⟩ => rfl
    | ⟨1, _⟩ => rfl
    | ⟨2, _⟩ => Fin.ext (Nat.mod_eq_of_lt ch.isLt))

theorem sl0 (p : Fin 8192) (ch : Fin 2816) : (val_main_v9 (F := Ideal) A (ix3 (row p) (col p) ch) : EReal) = tap A 0 0 p ch := by
  have e : idx_main_v9 (ix3 (row p) (col p) ch) = ix3 ⟨p.val / 64 + (0 : Fin 3).val, by omega⟩ ⟨p.val % 64 + (0 : Fin 3).val, by omega⟩ ch :=
    funext fun a => match a with
      | ⟨0, _⟩ => Fin.ext (by first | rfl | exact Nat.add_comm _ _)
      | ⟨1, _⟩ => Fin.ext (by first | rfl | exact Nat.add_comm _ _)
      | ⟨2, _⟩ => rfl
  rw [val_main_v9_apply, e]
  exact v6_tap A 0 0 p ch

theorem sum0 (j : S2816.Idx) : (val_main_v167 (F := Ideal) A D j : EReal) = dw A D 0 0 (j 0) :=
  (sum_grid _ _ _ j).trans ((congrArg₂ (· + ·) Ideal.ofBits_zero_f32
    (Finset.sum_congr rfl fun p _ => congrArg₂ (· * ·) (sl0 A p (j 0)) (v75_tok D p (j 0)))).trans (zero_add _))

theorem dw0 (ch : Fin 2816) : (val_main_v172 (F := Ideal) A D (ix3 0 0 ch) : EReal) = dw A D 0 0 ch := by
  rw [val_main_v172_apply]
  refine (sum_one _ _ _ _).trans ((congrArg₂ (· + ·) Ideal.ofBits_zero_f32 ((val_main_v168_apply _ _ _).trans (sum0 A D _))).trans ((zero_add _).trans ?_))
  exact congrArg (dw A D 0 0) (Fin.ext (by show (0 * 1 + 0) * 2816 + ch.val = ch.val; omega))

theorem w0 (r : Fin 128) (q : Fin 64) (ch : Fin 2816) : (val_main_v170 (F := Ideal) W D (ix3 r q ch) : EReal)
    = D (ix2 ⟨r.val * 64 + q.val, by omega⟩ ch) * W (ix3 0 0 ch) := by
  rw [val_main_v170_apply]
  refine congrArg₂ (· * ·) (v75_grid D r q ch) ?_
  rw [val_main_v169_apply, val_main_v12_apply, val_main_v11_apply, val_main_v10_apply]
  exact congrArg W (funext fun a => match a with
    | ⟨0, _⟩ => rfl
    | ⟨1, _⟩ => rfl
    | ⟨2, _⟩ => Fin.ext (Nat.mod_eq_of_lt ch.isLt))

/-- The gradient of the nine weights. -/
theorem v174_apply (a b : Fin 3) (ch : Fin 2816) : (val_main_v174 (F := Ideal) A D (ix3 a b ch) : EReal) = dw A D a b ch := by
  have h8 : (val_main_v83 (F := Ideal) A D (ix3 a b ch) : EReal) = if a.val = 2 ∧ b.val = 2 then dw A D 2 2 ch else 0 :=
    (pad_w _ _ Ideal.ofBits_zero_f32 _ _ 2 2 rfl _ a b ch).trans (by rw [dw8])
  have h7 : (val_main_v92 (F := Ideal) A D (ix3 a b ch) : EReal) = if a.val = 2 ∧ b.val = 1 then dw A D 2 1 ch else 0 :=
    (pad_w _ _ Ideal.ofBits_zero_f32 _ _ 2 1 rfl _ a b ch).trans (by rw [dw7])
  have h6 : (val_main_v103 (F := Ideal) A D (ix3 a b ch) : EReal) = if a.val = 2 ∧ b.val = 0 then dw A D 2 0 ch else 0 :=
    (pad_w _ _ Ideal.ofBits_zero_f32 _ _ 2 0 rfl _ a b ch).trans (by rw [dw6])
  have h5 : (val_main_v114 (F := Ideal) A D (ix3 a b ch) : EReal) = if a.val = 1 ∧ b.val = 2 then dw A D 1 2 ch else 0 :=
    (pad_w _ _ Ideal.ofBits_zero_f32 _ _ 1 2 rfl _ a b ch).trans (by rw [dw5])
  have h4 : (val_main_v125 (F := Ideal) A D (ix3 a b ch) : EReal) = if a.val = 1 ∧ b.val = 1 then dw A D 1 1 ch else 0 :=
    (pad_w _ _ Ideal.ofBits_zero_f32 _ _ 1 1 rfl _ a b ch).trans (by rw [dw4])
  have h3 : (val_main_v136 (F := Ideal) A D (ix3 a b ch) : EReal) = if a.val = 1 ∧ b.val = 0 then dw A D 1 0 ch else 0 :=
    (pad_w _ _ Ideal.ofBits_zero_f32 _ _ 1 0 rfl _ a b ch).trans (by rw [dw3])
  have h2 : (val_main_v147 (F := Ideal) A D (ix3 a b ch) : EReal) = if a.val = 0 ∧ b.val = 2 then dw A D 0 2 ch else 0 :=
    (pad_w _ _ Ideal.ofBits_zero_f32 _ _ 0 2 rfl _ a b ch).trans (by rw [dw2])
  have h1 : (val_main_v158 (F := Ideal) A D (ix3 a b ch) : EReal) = if a.val = 0 ∧ b.val = 1 then dw A D 0 1 ch else 0 :=
    (pad_w _ _ Ideal.ofBits_zero_f32 _ _ 0 1 rfl _ a b ch).trans (by rw [dw1])
  have h0 : (val_main_v173 (F := Ideal) A D (ix3 a b ch) : EReal) = if a.val = 0 ∧ b.val = 0 then dw A D 0 0 ch else 0 :=
    (pad_w _ _ Ideal.ofBits_zero_f32 _ _ 0 0 rfl _ a b ch).trans (by rw [dw0])
  simp only [val_main_v174_apply, val_main_v159_apply, val_main_v148_apply, val_main_v137_apply, val_main_v126_apply, val_main_v115_apply, val_main_v104_apply, val_main_v93_apply, pointwise, h8, h7, h6, h5, h4, h3, h2, h1, h0]
  fin_cases a <;> fin_cases b <;> simp

/-- The gradient of the input, at a token. -/
theorem v176_apply (p : Fin 8192) (ch : Fin 2816) :
    (val_main_v176 (F := Ideal) W D (ix3 ⟨p.val / 64 + 1, by omega⟩ ⟨p.val % 64 + 1, by omega⟩ ch) : EReal)
      = tap D 0 0 p ch * W (ix3 2 2 ch) + tap D 0 1 p ch * W (ix3 2 1 ch) + tap D 0 2 p ch * W (ix3 2 0 ch)
        + tap D 1 0 p ch * W (ix3 1 2 ch) + tap D 1 1 p ch * W (ix3 1 1 ch) + tap D 1 2 p ch * W (ix3 1 0 ch)
        + tap D 2 0 p ch * W (ix3 0 2 ch) + tap D 2 1 p ch * W (ix3 0 1 ch) + tap D 2 2 p ch * W (ix3 0 0 ch) := by
  have h8 := pad_tap D (W (ix3 2 2 ch)) (val_main_v80 (F := Ideal) W D) (val_main_cst_8 (F := Ideal)) Ideal.ofBits_zero_f32 _ _ 0 0 2 2 rfl rfl rfl
    Gen.pads_S128x64x2816_S130x66x2816_200_200_000 p ch fun r q => w8 D W r q ch
  have h7 := pad_tap D (W (ix3 2 1 ch)) (val_main_v89 (F := Ideal) W D) (val_main_cst_12 (F := Ideal)) Ideal.ofBits_zero_f32 _ _ 0 1 2 1 rfl rfl rfl
    Gen.pads_S128x64x2816_S130x66x2816_200_110_000 p ch fun r q => w7 D W r q ch
  have h6 := pad_tap D (W (ix3 2 0 ch)) (val_main_v100 (F := Ideal) W D) (val_main_cst_16 (F := Ideal)) Ideal.ofBits_zero_f32 _ _ 0 2 2 0 rfl rfl rfl
    Gen.pads_S128x64x2816_S130x66x2816_200_020_000 p ch fun r q => w6 D W r q ch
  have h5 := pad_tap D (W (ix3 1 2 ch)) (val_main_v111 (F := Ideal) W D) (val_main_cst_20 (F := Ideal)) Ideal.ofBits_zero_f32 _ _ 1 0 1 2 rfl rfl rfl
    Gen.pads_S128x64x2816_S130x66x2816_110_200_000 p ch fun r q => w5 D W r q ch
  have h4 := pad_tap D (W (ix3 1 1 ch)) (val_main_v122 (F := Ideal) W D) (val_main_cst_24 (F := Ideal)) Ideal.ofBits_zero_f32 _ _ 1 1 1 1 rfl rfl rfl
    Gen.pads_S128x64x2816_S130x66x2816_110_110_000 p ch fun r q => w4 D W r q ch
  have h3 := pad_tap D (W (ix3 1 0 ch)) (val_main_v133 (F := Ideal) W D) (val_main_cst_28 (F := Ideal)) Ideal.ofBits_zero_f32 _ _ 1 2 1 0 rfl rfl rfl
    Gen.pads_S128x64x2816_S130x66x2816_110_020_000 p ch fun r q => w3 D W r q ch
  have h2 := pad_tap D (W (ix3 0 2 ch)) (val_main_v144 (F := Ideal) W D) (val_main_cst_32 (F := Ideal)) Ideal.ofBits_zero_f32 _ _ 2 0 0 2 rfl rfl rfl
    Gen.pads_S128x64x2816_S130x66x2816_020_200_000 p ch fun r q => w2 D W r q ch
  have h1 := pad_tap D (W (ix3 0 1 ch)) (val_main_v155 (F := Ideal) W D) (val_main_cst_36 (F := Ideal)) Ideal.ofBits_zero_f32 _ _ 2 1 0 1 rfl rfl rfl
    Gen.pads_S128x64x2816_S130x66x2816_020_110_000 p ch fun r q => w1 D W r q ch
  have h0 := pad_tap D (W (ix3 0 0 ch)) (val_main_v170 (F := Ideal) W D) (val_main_cst_42 (F := Ideal)) Ideal.ofBits_zero_f32 _ _ 2 2 0 0 rfl rfl rfl
    Gen.pads_S128x64x2816_S130x66x2816_020_020_000 p ch fun r q => w0 D W r q ch
  simp only [val_main_v176_apply, val_main_v161_apply, val_main_v150_apply, val_main_v139_apply, val_main_v128_apply, val_main_v117_apply, val_main_v106_apply, val_main_v95_apply, pointwise]
  exact congrArg₂ (· + ·) (congrArg₂ (· + ·) (congrArg₂ (· + ·) (congrArg₂ (· + ·) (congrArg₂ (· + ·) (congrArg₂ (· + ·) (congrArg₂ (· + ·) (congrArg₂ (· + ·) (h8) h7) h6) h5) h4) h3) h2) h1) h0

/-- Where the reference's slices and reshape read the grid with its border. -/
theorem grid_idx (p : Fin 8192) (ch : Fin 2816) : idx_main_v178 (idx_main_v181 (idx_main_v183 (ix2 p ch)))
    = ix3 ⟨p.val / 64 + 1, by omega⟩ ⟨p.val % 64 + 1, by omega⟩ ch := by
  funext a
  match a with
  | ⟨0, _⟩ => exact Fin.ext (by show 1 + (p.val * 2816 + ch.val) / 180224 = p.val / 64 + 1; omega)
  | ⟨1, _⟩ => exact Fin.ext (by show 1 + (p.val * 2816 + ch.val) / 2816 % 64 = p.val % 64 + 1; omega)
  | ⟨2, _⟩ => exact Fin.ext (by show (p.val * 2816 + ch.val) % 2816 = ch.val; omega)

theorem v183_apply (p : Fin 8192) (ch : Fin 2816) : (val_main_v183 (F := Ideal) W D (ix2 p ch) : EReal)
    = val_main_v176 (F := Ideal) W D (ix3 ⟨p.val / 64 + 1, by omega⟩ ⟨p.val % 64 + 1, by omega⟩ ch) := by
  rw [val_main_v183_apply, val_main_v181_apply, val_main_v178_apply, grid_idx]

theorem dup_eq (W9 : Cert.KernelConvIdeal.S9x2816.Idx → EReal)
    (hW : ∀ (k : Fin 9) (q : Fin 2816), W9 (ix2 k q) = W (ix3 ⟨k.val / 3, by omega⟩ ⟨k.val % 3, by omega⟩ q)) :
    (val_main_v184 (F := Ideal) W D : S8192x2816.Idx → EReal) = dup D W9 := by
  funext i
  obtain ⟨p, ch, rfl⟩ : ∃ (p : Fin 8192) (ch : Fin 2816), i = ix2 p ch := ⟨i 0, i 1, (ix2_eta i).symm⟩
  refine Eq.trans (b := (val_main_v183 (F := Ideal) W D (ix2 p ch) : EReal)) rfl ?_
  rw [v183_apply, v176_apply]
  exact congrArg₂ (· + ·) (congrArg₂ (· + ·) (congrArg₂ (· + ·) (congrArg₂ (· + ·) (congrArg₂ (· + ·) (congrArg₂ (· + ·) (congrArg₂ (· + ·) (congrArg₂ (· + ·)
    (congrArg (tap D 0 0 p ch * ·) (hW 8 ch).symm) (congrArg (tap D 0 1 p ch * ·) (hW 7 ch).symm)) (congrArg (tap D 0 2 p ch * ·) (hW 6 ch).symm))
    (congrArg (tap D 1 0 p ch * ·) (hW 5 ch).symm)) (congrArg (tap D 1 1 p ch * ·) (hW 4 ch).symm)) (congrArg (tap D 1 2 p ch * ·) (hW 3 ch).symm))
    (congrArg (tap D 2 0 p ch * ·) (hW 2 ch).symm)) (congrArg (tap D 2 1 p ch * ·) (hW 1 ch).symm)) (congrArg (tap D 2 2 p ch * ·) (hW 0 ch).symm)

/-- The gradient of the bias. -/
theorem v165_apply (j : S1x2816.Idx) : (val_main_v165 (F := Ideal) D j : EReal) = ∑ p : Fin 8192, D (ix2 p (j 1)) := by
  rw [val_main_v165_apply]
  refine (sum_one _ _ _ _).trans ((congrArg₂ (· + ·) Ideal.ofBits_zero_f32 (val_main_v163_apply _ _)).trans ((zero_add _).trans ?_))
  refine (sum_grid _ _ _ _).trans ((congrArg₂ (· + ·) Ideal.ofBits_zero_f32
    (Finset.sum_congr rfl fun p _ => (v75_tok D p _).trans (congrArg D (congrArg (ix2 p) (?_ : _ = j 1))))).trans (zero_add _))
  exact Fin.ext (by show (0 * 1 + 0) * 2816 + (j 1).val = (j 1).val; omega)

theorem dwb_eq : (val_main_v187 (F := Ideal) A D : S16x2816.Idx → EReal) = dwb A D := by
  funext i
  obtain ⟨k, q, rfl⟩ : ∃ (k : Fin 16) (q : Fin 2816), i = ix2 k q := ⟨i 0, i 1, (ix2_eta i).symm⟩
  show (val_main_v187 (F := Ideal) A D (ix2 k q) : EReal) = if k.val < 9 then dw A D ⟨k.val / 3 % 3, by omega⟩ ⟨k.val % 3, by omega⟩ q
    else if k.val = 9 then ∑ p : Fin 8192, D (ix2 p q) else 0
  unfold val_main_v187
  pointwise
  by_cases h1 : k.val < 9
  · rw [dif_pos h1, if_pos h1, val_main_v185_apply]
    refine Eq.trans (congrArg (val_main_v174 (F := Ideal) A D) (funext fun a => ?_)) (v174_apply A D ⟨k.val / 3 % 3, by omega⟩ ⟨k.val % 3, by omega⟩ q)
    match a with
    | ⟨0, _⟩ => exact Fin.ext (by show (k.val * 2816 + q.val) / 8448 = k.val / 3 % 3; omega)
    | ⟨1, _⟩ => exact Fin.ext (by show (k.val * 2816 + q.val) / 2816 % 3 = k.val % 3; omega)
    | ⟨2, _⟩ => exact Fin.ext (by show (k.val * 2816 + q.val) % 2816 = q.val; omega)
  · rw [dif_neg h1, if_neg h1]
    by_cases h2 : k.val = 9
    · rw [dif_pos (by omega), if_pos h2]
      exact v165_apply D _
    · rw [dif_neg (by omega), if_neg h2]
      exact Ideal.ofBits_zero_f32

/-- The kernel and the reference end with the same two arrays. -/
theorem algebraic : Cert.algebraic_KernelConvIdeal_ReferenceConvIdeal := by
  intro m g m' g' _ hagree
  refine ⟨_, _, (θ_run _ _ _).mono (fun r h c => ⟨(h c).1.trans (final7 m c), (h c).2.1.trans (final8 m c), (h c).2.2⟩)
    (Cert.KernelConvIdeal.Value.run_blocks m g), ?_⟩
  refine (θ_run _ _ _).mono (fun r h c => ?_) (Cert.ReferenceConvIdeal.Value.run m' g')
  obtain ⟨h6, h4, hk⟩ := h c
  obtain ⟨a0, a1, a2, a3⟩ := hagree c
  refine ⟨h6.trans ?_, h4.trans ?_, hk⟩
  · rw [val_main_v184_eq]
    exact (congrArg₂ (val_main_v184 (F := Ideal)) a1 a3).trans (dup_eq _ _ _ (wt_apply m c))
  · rw [val_main_v187_eq]
    exact (congrArg₂ (val_main_v187 (F := Ideal)) a0 a3).trans (dwb_eq _ _)

/-- The reference runs and leaves its arguments. -/
theorem frame_reference : Cert.quiescent_ReferenceConvIdeal := fun m ρ _ =>
  (θ_run _ _ _).mono (fun _ h => ⟨fun c => (h c).2.2, funext fun ⟨_, s⟩ => by rcases s with s | s <;> exact s.elim0⟩)
    (Cert.ReferenceConvIdeal.Value.run m ρ)

end Cert.Proof.Conv

end
-- ==== Proof.Ctx.lean ====
/- The gradient of the context's conditioning vector: what the one grid point stores, and the run. -/
module

public import proofs.«01_k».proof.Proof.Gen.KernelCtxIdeal.Value
public import Idealize.ShloMosaic.Lib.Pointwise

@[expose] public section

noncomputable section

namespace Cert.Proof.Ctx

open Cert.KernelCtxIdeal Cert.KernelCtxIdeal.Gen Cert.KernelCtxIdeal.Value Idealize.ShloMosaic Idealize.ShloMosaic.TcCoe Idealize.SL.Sem

/-- The gradient of `silu` at `x` times the product that carries the cotangent back through the weights. -/
def grad (dm : S8x2048.Idx → EReal) (w : S1024x6144.Idx → EReal) (x : S8x1024.Idx → EReal) (j : S8x1024.Idx) : EReal :=
  (∑ k : Fin 2048, dm (ix2 (j 0) k) * w (ix2 (j 1) ⟨k.val, by omega⟩)) * (Ideal.logistic (x j) * (1 + x j * (1 - Ideal.logistic (x j))))

theorem pay1_apply (dm : FVec Ideal S8x2048 .f32) (w : FVec Ideal S1024x2048 .bf16) (x : FVec Ideal S8x1024 .f32) (j : S8x1024.Idx) :
    (k0_pay1 (F := Ideal) dm w x j : EReal) = (∑ k : Fin 2048, (dm (ix2 (j 0) k) : EReal) * w (ix2 (j 1) k))
        * (Ideal.logistic (x j) * (1 + x j * (1 - Ideal.logistic (x j)))) := by
  unfold_payloads
  pointwise

variable (m : (ℓ : Loc nD τ sig) → Buf (Elt Ideal) ℓ) (ρ : Dev nD → PrngReg)

theorem hz : (![0, 0] : Fin 2 → Nat) = fun _ => 0 := funext fun a => by fin_cases a <;> rfl

/-- The one grid point's blocks begin at the arrays' first elements. -/
theorem idx_facts : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) :=
  (by decide +kernel : ∀ t : Fin grid0.N, _)

theorem emb0 (t : Fin cfg0.N) (j : S8x2048.Idx) : ((cfg0.win 0).blk t).view.emb j = j := by
  obtain ⟨⟨e0, e1⟩, -⟩ := idx_facts t
  funext a; apply Fin.ext
  match a with
  | ⟨0, _⟩ => show win0_0.index t 0 * 8 + 1 * (j 0).val = (j 0).val; rw [e0]; omega
  | ⟨1, _⟩ => show win0_0.index t 1 * 2048 + 1 * (j 1).val = (j 1).val; rw [e1]; omega

theorem emb1 (t : Fin cfg0.N) (r : Fin 1024) (k : Fin 2048) :
    ((cfg0.win 1).blk t).view.emb (ix2 r k : S1024x2048.Idx) = (ix2 r ⟨k.val, by omega⟩ : S1024x6144.Idx) := by
  obtain ⟨-, ⟨e0, e1⟩, -⟩ := idx_facts t
  funext a; apply Fin.ext
  match a with
  | ⟨0, _⟩ => show win0_1.index t 0 * 1024 + 1 * r.val = r.val; rw [e0]; omega
  | ⟨1, _⟩ => show win0_1.index t 1 * 2048 + 1 * k.val = k.val; rw [e1]; omega

theorem emb2 (t : Fin cfg0.N) (j : S8x1024.Idx) : ((cfg0.win 2).blk t).view.emb j = j := by
  obtain ⟨-, -, ⟨e0, e1⟩, -⟩ := idx_facts t
  funext a; apply Fin.ext
  match a with
  | ⟨0, _⟩ => show win0_2.index t 0 * 8 + 1 * (j 0).val = (j 0).val; rw [e0]; omega
  | ⟨1, _⟩ => show win0_2.index t 1 * 1024 + 1 * (j 1).val = (j 1).val; rw [e1]; omega

theorem emb3 (t : Fin cfg0.N) (j : S8x1024.Idx) : ((cfg0.win 3).blk t).view.emb j = j := by
  obtain ⟨-, -, -, ⟨e0, e1⟩⟩ := idx_facts t
  funext a; apply Fin.ext
  match a with
  | ⟨0, _⟩ => show win0_3.index t 0 * 8 + 1 * (j 0).val = (j 0).val; rw [e0]; omega
  | ⟨1, _⟩ => show win0_3.index t 1 * 1024 + 1 * (j 1).val = (j 1).val; rw [e1]; omega

theorem covered3 (i : S8x1024.Idx) : ∃ t : Fin cfg0.N, (cfg0.win 3).flush t = true ∧ i ∈ ((cfg0.win 3).blk t).view.set := by
  have t : Fin cfg0.N := ⟨0, by decide⟩
  exact ⟨t, flush0_3 t, emb3 t i ▸ ((cfg0.win 3).blk t).view.emb_mem_set i⟩

/-- The conditioning vectors: the sample's, the context's, and six rows of zeros. -/
def rows {n : Nat} (a b : Fin n → EReal) (i : (⟨2, ![8, n]⟩ : Shape).Idx) : EReal :=
  if (i 0).val = 0 then a (i 1) else if (i 0).val = 1 then b (i 1) else 0

theorem at_zero {n : Nat} (f : (⟨2, ![1, n]⟩ : Shape).Idx → EReal) (a : Fin 1) (k : Fin n) : f (ix2 a k) = f (ix2 0 k) := by
  rw [Subsingleton.elim a 0]

theorem V_v2 (c : Dev nD) : (V m c main_v2 : S8x1024.Idx → EReal)
    = rows (fun k => m ((c : Thread nD τ).loc main_arg0) (ix2 0 k : S1x1024.Idx)) (fun k => m ((c : Thread nD τ).loc main_arg1) (ix1 k : S1024.Idx)) := by
  have e : V m c main_v2 = concatenate S8x1024 0 [⟨S1x1024, m ((c : Thread nD τ).loc main_arg0)⟩,
      ⟨S1x1024, broadcastInDim S1x1024 ![1] bcast_S1024_S1x1024_1 (m ((c : Thread nD τ).loc main_arg1))⟩,
      ⟨S6x1024, broadcastInDim S6x1024 ![] bcast_S_S6x1024 (constant (F := Ideal) S_ .f32 0x00000000#32)⟩]
      concatenates_S1x1024_S1x1024_S6x1024_S8x1024_d0 := by
    show StableHlo.after _ _ _ = _
    after_results
    rfl
  rw [e]
  funext i
  unfold rows
  pointwise
  (repeat' split) <;> first | rfl | omega | exact at_zero _ _ _

theorem V_v5 (c : Dev nD) : (V m c main_v5 : S8x2048.Idx → EReal)
    = rows (fun _ => 0) (fun k => m ((c : Thread nD τ).loc main_arg3) (ix2 0 k : S1x2048.Idx)) := by
  have e : V m c main_v5 = concatenate S8x2048 0 [⟨S1x2048, broadcastInDim S1x2048 ![] bcast_S_S1x2048 (constant (F := Ideal) S_ .f32 0x00000000#32)⟩,
      ⟨S1x2048, m ((c : Thread nD τ).loc main_arg3)⟩,
      ⟨S6x2048, broadcastInDim S6x2048 ![] bcast_S_S6x2048 (constant (F := Ideal) S_ .f32 0x00000000#32)⟩]
      concatenates_S1x2048_S1x2048_S6x2048_S8x2048_d0 := by
    show StableHlo.after _ _ _ = _
    after_results
    rfl
  rw [e]
  funext i
  unfold rows
  pointwise
  (repeat' split) <;> first | rfl | omega | exact at_zero _ _ _

theorem V_v6 (c : Dev nD) : (V m c main_v6 : S1024x6144.Idx → EReal) = m ((c : Thread nD τ).loc main_arg2) := by
  show StableHlo.after _ _ _ = _
  after_results
  rfl

theorem blk0 (c : Dev nD) (t : Fin cfg0.N) (j : S8x2048.Idx) : (iblk m c 0 t j : EReal) = V m c main_v5 j := by
  show V m c main_v5 (((cfg0.win 0).blk t).view.emb j) = _
  rw [emb0]

theorem blk1 (c : Dev nD) (t : Fin cfg0.N) (r : Fin 1024) (k : Fin 2048) :
    (iblk m c 1 t (ix2 r k : S1024x2048.Idx) : EReal) = V m c main_v6 (ix2 r ⟨k.val, by omega⟩ : S1024x6144.Idx) := by
  show V m c main_v6 (((cfg0.win 1).blk t).view.emb (ix2 r k : S1024x2048.Idx)) = _
  rw [emb1]

theorem blk2 (c : Dev nD) (t : Fin cfg0.N) (j : S8x1024.Idx) : (iblk m c 2 t j : EReal) = V m c main_v2 j := by
  show V m c main_v2 (((cfg0.win 2).blk t).view.emb j) = _
  rw [emb2]

theorem flushed3_eq (c : Dev nD) (t : Fin cfg0.N) : (dats m 0 c).flushed 3 t = ((cfg0.win 3).blk t).view.read (Elt Ideal)
    (grad (V m c main_v5) (V m c main_v6) (V m c main_v2)) := by
  rw [flushed3]
  unfold out0_3
  rw [View.canon_unit_zero hz, View.ld_unit_zero hz, View.ld_unit_zero hz, View.ld_unit_zero hz]
  funext j
  refine (pay1_apply _ _ _ _).trans ?_
  rw [View.read_apply, emb3]
  refine congrArg₂ (· * ·) (Finset.sum_congr rfl fun k _ => ?_) ?_
  · exact congrArg₂ (· * ·) (blk0 m c t _) (blk1 m c t _ k)
  · rw [blk2]

/-- The run: the result as a function of the arguments, the arguments kept. -/
theorem run : θ_run defs (onTc (τ := τ) (main (F := Ideal))) ⟨m, fun _ => 0, ρ⟩ fun r => ∀ c : Dev nD,
      r.2.mem ((c : Thread nD τ).loc main_v7) = grad (rows (fun _ => 0) fun k => m ((c : Thread nD τ).loc main_arg3) (ix2 0 k : S1x2048.Idx))
          (m ((c : Thread nD τ).loc main_arg2))
          (rows (fun k => m ((c : Thread nD τ).loc main_arg0) (ix2 0 k : S1x1024.Idx)) fun k => m ((c : Thread nD τ).loc main_arg1) (ix1 k : S1024.Idx))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (run_blocks m ρ)
  obtain ⟨h3, hk⟩ := h c
  refine ⟨h3.trans ?_, hk⟩
  rw [(dats m 0 c).arrAt_eq_of_cover 3 _ (fun t _ => flushed3_eq m c t) covered3, V_v2, V_v5, V_v6]

end Cert.Proof.Ctx

end
-- ==== Proof.CtxEq.lean ====
/- The gradient of the context's conditioning vector: the reference's result is the kernel's function. -/
module

public import proofs.«01_k».proof.Defs
public import proofs.«01_k».proof.Proof.Finite
public import proofs.«01_k».proof.Proof.Ctx
public import proofs.«01_k».proof.Proof.Gen.ReferenceCtxIdeal.Read
public import Idealize.ShloMosaic.Lib.KernelVsHost

@[expose] public section

noncomputable section

namespace Cert.Proof.Ctx

open Cert.ReferenceCtxIdeal Cert.ReferenceCtxIdeal.Gen Cert.ReferenceCtxIdeal.Read Idealize.ShloMosaic Idealize.ShloMosaic.TcCoe Idealize.SL.Sem

/-- The padded cotangent: its own elements, then zeros. -/
theorem pad_inside (d : S1x2048.Idx → EReal) (k : Fin 2048) :
    (val_main_v4 (F := Ideal) d (ix1 ⟨k.val, by omega⟩ : S6144.Idx) : EReal) = d (ix2 0 k) := by
  unfold val_main_v4
  rw [pad_apply_of_inside _ _ _ _ _ _ _ _ (ix1 k : S2048.Idx) (fun a => match a with | ⟨0, _⟩ => by show k.val = 0 + k.val * (0 + 1); omega),
    val_main_v3_apply]
  refine congrArg d (funext fun a => Fin.ext ?_)
  match a with
  | ⟨0, _⟩ => rfl
  | ⟨1, _⟩ => show k.val % 2048 = k.val; omega

theorem pad_outside (d : S1x2048.Idx → EReal) (k : Fin 4096) :
    (val_main_v4 (F := Ideal) d (ix1 ⟨2048 + k.val, by omega⟩ : S6144.Idx) : EReal) = 0 := by
  unfold val_main_v4
  rw [pad_apply_of_not_inside _ _ _ _ _ _ _ _ 0 (fun h => by have := h.2.2; change (2048 + k.val - 0) / (0 + 1) < 2048 at this; omega)]
  exact (val_main_cst_apply (F := Ideal) _).trans (by pointwise)

/-- The reference's product, over the first third of the weights' columns. -/
theorem v5_eq (w : S1024x6144.Idx → EReal) (d : S1x2048.Idx → EReal) (r : Fin 1024) :
    (val_main_v5 (F := Ideal) w d (ix1 r : S1024.Idx) : EReal) = ∑ k : Fin 2048, d (ix2 0 k) * w (ix2 r ⟨k.val, by omega⟩) := by
  rw [val_main_v5_apply]
  refine (Fin.sum_univ_add (a := 2048) (b := 4096) _).trans ?_
  rw [Finset.sum_eq_zero (s := (Finset.univ : Finset (Fin 4096))), add_zero]
  · refine Finset.sum_congr rfl fun k _ => congrArg₂ (· * ·) ?_ (congrArg w (funext fun a => ?_))
    · refine (congrArg (val_main_v4 (F := Ideal) d) (funext fun a => ?_)).trans (pad_inside d k)
      match a with | ⟨0, _⟩ => rfl
    · match a with | ⟨0, _⟩ => rfl | ⟨1, _⟩ => rfl
  · intro k _
    refine (congrArg (· * _) ((congrArg (val_main_v4 (F := Ideal) d) (funext fun a => ?_)).trans (pad_outside d k))).trans (zero_mul _)
    match a with | ⟨0, _⟩ => rfl

theorem sig_eq (x : S1024.Idx → EReal) (i : S1024.Idx) : (val_main_v0_2 (F := Ideal) x i : EReal) = Ideal.logistic (x i) := by
  simp only [val_main_v0_2_apply, val_main_call0_v4_apply, val_main_call0_cst_0_apply, val_main_call0_v3_apply,
    val_main_call0_v2_apply, val_main_call0_cst_apply, val_main_call0_v1_apply, val_main_call0_v0_apply, pointwise]
  rfl

theorem one_sub_sig_eq (x : S1024.Idx → EReal) (i : S1024.Idx) :
    (val_main_v0_1 (F := Ideal) x i : EReal) = Ideal.logistic (x i) * (1 - Ideal.logistic (x i)) := by
  simp only [val_main_v0_1_apply, val_main_call0_v7_apply, val_main_call0_v6_apply, val_main_call0_cst_1_apply, sig_eq, pointwise]

/-- The reference's result: the context's row between rows of zeros. -/
theorem v10_eq (x : S1024.Idx → EReal) (w : S1024x6144.Idx → EReal) (d : S1x2048.Idx → EReal) :
    (val_main_v10 (F := Ideal) x w d : S8x1024.Idx → EReal) = rows (fun _ => 0) (fun k => val_main_v6 (F := Ideal) x w d (ix1 k : S1024.Idx)) := by
  funext i
  unfold val_main_v10 val_main_v7 val_main_v8 val_main_v9 val_main_cst_0 val_main_cst_1 rows
  generalize val_main_v6 (F := Ideal) x w d = y
  pointwise
  (repeat' split) <;> first | rfl | omega

theorem rows_one {n : Nat} (a b : Fin n → EReal) (i : (⟨2, ![8, n]⟩ : Shape).Idx) (h : (i 0).val = 1) : rows a b i = b (i 1) := by
  unfold rows
  rw [if_neg (by omega), if_pos h]

theorem rows_zero {n : Nat} (b : Fin n → EReal) (i : (⟨2, ![8, n]⟩ : Shape).Idx) (h : (i 0).val ≠ 1) : rows (fun _ => 0) b i = 0 := by
  unfold rows
  rw [if_neg h, ite_self]

/-- The kernel's function at the context's row. -/
theorem grad_one (a x : Fin 1024 → EReal) (w : S1024x6144.Idx → EReal) (d : Fin 2048 → EReal) (i : S8x1024.Idx) (h : (i 0).val = 1) :
    grad (rows (fun _ => 0) d) w (rows a x) i = (∑ k : Fin 2048, d k * w (ix2 (i 1) ⟨k.val, by omega⟩))
      * (Ideal.logistic (x (i 1)) * (1 + x (i 1) * (1 - Ideal.logistic (x (i 1))))) := by
  unfold grad
  rw [rows_one a x i h]
  exact congrArg (· * _) (Finset.sum_congr rfl fun k _ => congrArg (· * _) (rows_one _ d (ix2 (i 0) k) h))

/-- The kernel's function at the other rows. -/
theorem grad_zero (a x : Fin 1024 → EReal) (w : S1024x6144.Idx → EReal) (d : Fin 2048 → EReal) (i : S8x1024.Idx) (h : (i 0).val ≠ 1) :
    grad (rows (fun _ => 0) d) w (rows a x) i = 0 := by
  unfold grad
  refine (congrArg (· * _) (Finset.sum_eq_zero fun k _ => ?_)).trans (zero_mul _)
  exact (congrArg (· * _) (rows_zero d (ix2 (i 0) k) h)).trans (zero_mul _)

/-- The reference's gradient of the context's vector. -/
theorem v6_eq (x : S1024.Idx → EReal) (w : S1024x6144.Idx → EReal) (d : S1x2048.Idx → EReal)
    (hw : ∀ i, IsReal (w i)) (hd : ∀ i, IsReal (d i)) (r : Fin 1024) :
    (val_main_v6 (F := Ideal) x w d (ix1 r : S1024.Idx) : EReal) = (∑ k : Fin 2048, d (ix2 0 k) * w (ix2 r ⟨k.val, by omega⟩))
      * (Ideal.logistic (x (ix1 r)) * (1 + x (ix1 r) * (1 - Ideal.logistic (x (ix1 r))))) := by
  rw [silu_grad (IsReal.sum _ _ fun k _ => (hd _).mul (hw _)) (x (ix1 r))]
  simp only [val_main_v6_apply, val_main_call1_v1_apply, val_main_call1_v2_apply, val_main_call1_v0_apply,
    v5_eq, sig_eq, one_sub_sig_eq, pointwise]

/-- The two results are one array, when the weights and the cotangent are finite. -/
theorem eq (c : S1x1024.Idx → EReal) (x : S1024.Idx → EReal) (w : S1024x6144.Idx → EReal) (d : S1x2048.Idx → EReal)
    (hw : ∀ i, IsReal (w i)) (hd : ∀ i, IsReal (d i)) :
    (val_main_v10 (F := Ideal) x w d : S8x1024.Idx → EReal)
      = grad (rows (fun _ => 0) fun k => d (ix2 0 k)) w (rows (fun k => c (ix2 0 k)) fun k => x (ix1 k)) := by
  rw [v10_eq]
  funext i
  by_cases h : (i 0).val = 1
  · rw [grad_one _ _ _ _ _ h, rows_one _ _ _ h]
    exact v6_eq x w d hw hd (i 1)
  · rw [grad_zero _ _ _ _ _ h, rows_zero _ _ h]

/-- What the precondition says: the weights and the cotangent are finite. -/
theorem finite {c : S1x1024.Idx → EReal} {x : S1024.Idx → EReal} {w : S1024x6144.Idx → EReal} {d : S1x2048.Idx → EReal}
    [Cert.Pre_finite_ctx.Facts] (h : (Cert.Pre_finite_ctx.fn (F := Ideal) c x w d).1 = (fun _ => 1#1)
      ∧ (Cert.Pre_finite_ctx.fn (F := Ideal) c x w d).2 = (fun _ => 1#1)) : (∀ i, IsReal (w i)) ∧ ∀ i, IsReal (d i) :=
  ⟨fun i => isReal_of_abs_lt (congrFun h.1 i), fun i => isReal_of_abs_lt (congrFun h.2 i)⟩

/-- The kernel and the reference end with the same array. -/
theorem algebraic [Cert.Pre_finite_ctx.Facts] : Cert.algebraic_KernelCtxIdeal_ReferenceCtxIdeal_pre_finite_ctx := by
  intro m g m' g' hpre hagree
  refine ⟨_, run m g, ?_⟩
  refine (θ_run _ _ _).mono (fun r h c => ?_) (Cert.ReferenceCtxIdeal.Value.run m' g')
  obtain ⟨h10, hk⟩ := h c
  obtain ⟨-, a1, a2, a3⟩ := hagree c
  obtain ⟨fw, fd⟩ := finite (hpre c)
  refine ⟨h10.trans ?_, hk⟩
  rw [val_main_v10_eq, a1, a2, a3]
  exact eq _ _ _ _ fw fd

/-- The reference runs and leaves its arguments. -/
theorem frame_reference : Cert.quiescent_ReferenceCtxIdeal := fun m ρ _ =>
  (θ_run _ _ _).mono (fun _ h => ⟨fun c => (h c).2, funext fun ⟨_, s⟩ => by rcases s with s | s <;> exact s.elim0⟩)
    (Cert.ReferenceCtxIdeal.Value.run m ρ)

end Cert.Proof.Ctx

end
-- ==== Proof.Rows.lean ====
/- Row blocks: writing and reading one whole row of a matrix buffer, and sums over the rows of a tall array taken tile by tile. -/
module

public import Idealize.ShloMosaic.Lib.Pointwise
public import Idealize.ShloMosaic.Lib.Pipeline.ValueKit
public import Idealize.ShloMosaic.Lib.Pipeline.ReadBack
public import Idealize.ShloMosaic.Lib.WritesUnit
public import Idealize.ShloMosaic.Lib.KernelVsHost

@[expose] public section

noncomputable section

namespace Cert.Proof.Rows

open Idealize.ShloMosaic Idealize.ShloMosaic.TcCoe Idealize.SL.Sem

variable {R C : ℕ}

/-- A newest write of the whole row `k`. -/
theorem canon_row {k : ℕ} (inb) (w : (⟨2, ![1, C]⟩ : Shape).Idx → EReal) (L : List (View.Piece (Elt Ideal) ⟨2, ![R, C]⟩ .f32))
    (y : (⟨2, ![R, C]⟩ : Shape).Idx) :
    (View.canon (⟨Rect.unit ![k, 0] ![1, C] inb, w⟩ :: L) y : EReal) = if (y 0).val = k then w (ix2 0 (y 1)) else View.canon L y := by
  split_ifs with h
  · have e : y = (Rect.unit (s := ⟨2, ![R, C]⟩) ![k, 0] ![1, C] inb).emb (ix2 0 (y 1)) := by
      funext a; refine Fin.ext ?_
      revert a; exact Fin.forall_fin_two.mpr ⟨h.trans (by rfl), by show (y 1).val = 0 + 1 * (y 1).val; omega⟩
    exact (congrArg _ e).trans (View.canon_cons_emb _ _ _ _)
  · refine View.canon_cons_of_not_mem _ _ fun hm => h ?_
    have h0 : k ≤ (y 0).val ∧ (y 0).val < k + 1 := (Rect.mem_set_unit (s := ⟨2, ![R, C]⟩) (inb := inb)).mp hm 0
    omega

theorem read_row {σ κ sp} (v : View σ κ sp ⟨2, ![R, C]⟩ .f32) (f : v.ty.Contents (Elt Ideal)) {k : ℕ} (inb)
    (w : (⟨2, ![1, C]⟩ : Shape).Idx → EReal) (L : List (View.Piece (Elt Ideal) ⟨2, ![R, C]⟩ .f32)) (y : (⟨2, ![R, C]⟩ : Shape).Idx) :
    (v.read (Elt Ideal) (v.writes (Elt Ideal) f (⟨Rect.unit ![k, 0] ![1, C] inb, w⟩ :: L)) y : EReal)
      = if (y 0).val = k then w (ix2 0 (y 1)) else v.read (Elt Ideal) (v.writes (Elt Ideal) f L) y := by
  split_ifs with h
  · exact View.read_writes_cons_rows_of_mem v f inb w L y (ix2 0 (y 1)) rfl (h.trans rfl) rfl
  · exact View.read_writes_cons_rows_of_not_mem (W := 1) v f inb w L y rfl rfl (by omega)

theorem ld_row (P : (⟨2, ![R, C]⟩ : Shape).Idx → EReal) (y : (⟨2, ![R, C]⟩ : Shape).Idx) {k : ℕ} (inb) (hk : (y 0).val = k) :
    (View.ld (Val := Elt Ideal) (e' := .f32) P (Rect.unit (s := ⟨2, ![R, C]⟩) ![k, 0] ![1, C] inb) (ix2 0 (y 1)) : EReal) = P y := by
  refine congrArg P (funext fun a => Fin.ext ?_)
  revert a; exact Fin.forall_fin_two.mpr ⟨hk.symm.trans (by rfl), by show 0 + 1 * (y 1).val = (y 1).val; omega⟩

/-- A load of a rectangle, at its element `(a, b)`. -/
theorem ld_at {e : EltTy} (P : (⟨2, ![R, C]⟩ : Shape).Idx → Elt Ideal e) {r0 c0 h w : ℕ} (inb) (a : Fin h) (b : Fin w) (ha : r0 + a.val < R) (hb : c0 + b.val < C) :
    (View.ld (Val := Elt Ideal) (e' := e) P (Rect.unit (s := ⟨2, ![R, C]⟩) ![r0, c0] ![h, w] inb) (ix2 a b))
      = P (ix2 ⟨r0 + a.val, ha⟩ ⟨c0 + b.val, hb⟩) := by
  refine congrArg P (funext fun x => Fin.ext ?_)
  revert x; exact Fin.forall_fin_two.mpr ⟨by show r0 + 1 * a.val = r0 + a.val; omega, by show c0 + 1 * b.val = c0 + b.val; omega⟩

/-- A newest write of the columns from `c0` on. -/
theorem canon_cols {e : EltTy} {c0 w : ℕ} (inb) (x : (⟨2, ![R, w]⟩ : Shape).Idx → Elt Ideal e) (L : List (View.Piece (Elt Ideal) ⟨2, ![R, C]⟩ e))
    (y : (⟨2, ![R, C]⟩ : Shape).Idx) :
    View.canon (⟨Rect.unit ![0, c0] ![R, w] inb, x⟩ :: L) y
      = if h : c0 ≤ (y 1).val ∧ (y 1).val < c0 + w then x (ix2 (y 0) ⟨(y 1).val - c0, by omega⟩) else View.canon L y := by
  split_ifs with h
  · have e : y = (Rect.unit (s := ⟨2, ![R, C]⟩) ![0, c0] ![R, w] inb).emb (ix2 (y 0) ⟨(y 1).val - c0, by omega⟩) := by
      funext a; refine Fin.ext ?_
      revert a; exact Fin.forall_fin_two.mpr ⟨by show (y 0).val = 0 + 1 * (y 0).val; omega, by show (y 1).val = c0 + 1 * ((y 1).val - c0); omega⟩
    exact (congrArg _ e).trans (View.canon_cons_emb _ _ _ _)
  · refine View.canon_cons_of_not_mem _ _ fun hm => h ?_
    exact (Rect.mem_set_unit (s := ⟨2, ![R, C]⟩) (inb := inb)).mp hm 1

/-- A sum over 8192 rows, taken tile by tile. -/
theorem sum_tiles (f : Fin 8192 → EReal) (g : Fin 32 → Fin 256 → EReal) (h : ∀ (s : Fin 32) (n : Fin 256) (hl : s.val * 256 + n.val < 8192), g s n = f ⟨s.val * 256 + n.val, hl⟩) :
    ∑ s : Fin 32, ∑ n : Fin 256, g s n = ∑ p : Fin 8192, f p :=
  Fin.sum_mul_add_congr (L := 8192) (S := 32) (n := 256) (f := f) h

/-- A newest write of part of the row `k`. -/
theorem read_seg {σ κ sp} (v : View σ κ sp ⟨2, ![R, C]⟩ .f32) (f : v.ty.Contents (Elt Ideal)) {k c0 w : ℕ} (inb)
    (x : (⟨2, ![1, w]⟩ : Shape).Idx → EReal) (L : List (View.Piece (Elt Ideal) ⟨2, ![R, C]⟩ .f32)) (y : (⟨2, ![R, C]⟩ : Shape).Idx) :
    (v.read (Elt Ideal) (v.writes (Elt Ideal) f (⟨Rect.unit ![k, c0] ![1, w] inb, x⟩ :: L)) y : EReal)
      = if h : (y 0).val = k ∧ c0 ≤ (y 1).val ∧ (y 1).val < c0 + w then x (ix2 0 ⟨(y 1).val - c0, by omega⟩) else v.read (Elt Ideal) (v.writes (Elt Ideal) f L) y := by
  split_ifs with h
  · refine View.read_writes_cons_unit_of_mem v f inb x L y (ix2 0 ⟨(y 1).val - c0, by omega⟩) rfl ?_
    exact Fin.forall_fin_two.mpr ⟨by show (y 0).val = k + 0; omega, by show (y 1).val = c0 + ((y 1).val - c0); omega⟩
  · by_cases h0 : (y 0).val = k
    · refine View.read_writes_cons_unit_of_not_mem v f inb x L y rfl 1 ?_
      show (y 1).val < c0 ∨ c0 + w ≤ (y 1).val
      omega
    · refine View.read_writes_cons_unit_of_not_mem v f inb x L y rfl 0 ?_
      show (y 0).val < k ∨ k + 1 ≤ (y 0).val
      omega

/-- A newest write of the slab `g`. -/
theorem canon_slab {G A B g : ℕ} (inb) (x : (⟨3, ![1, A, B]⟩ : Shape).Idx → EReal) (L : List (View.Piece (Elt Ideal) ⟨3, ![G, A, B]⟩ .f32)) (h : Fin G) (a : Fin A) (b : Fin B) :
    (View.canon (⟨Rect.unit ![g, 0, 0] ![1, A, B] inb, x⟩ :: L) (ix3 h a b) : EReal) = if h.val = g then x (ix3 0 a b) else View.canon L (ix3 h a b) := by
  split_ifs with e
  · have e : ix3 h a b = (Rect.unit (s := ⟨3, ![G, A, B]⟩) ![g, 0, 0] ![1, A, B] inb).emb (ix3 0 a b) := by
      funext x; refine Fin.ext ?_
      fin_cases x
      · exact e.trans (by rfl)
      · show a.val = 0 + 1 * a.val; omega
      · show b.val = 0 + 1 * b.val; omega
    exact (congrArg _ e).trans (View.canon_cons_emb _ _ _ _)
  · refine View.canon_cons_of_not_mem _ _ fun hm => e ?_
    have h0 : g ≤ h.val ∧ h.val < g + 1 := (Rect.mem_set_unit (s := ⟨3, ![G, A, B]⟩) (inb := inb)).mp hm 0
    omega

theorem ld_slab {G A B g : ℕ} (P : (⟨3, ![G, A, B]⟩ : Shape).Idx → EReal) (inb) (h : Fin G) (e : h.val = g) (a : Fin A) (b : Fin B) :
    (View.ld (Val := Elt Ideal) (e' := .f32) P (Rect.unit (s := ⟨3, ![G, A, B]⟩) ![g, 0, 0] ![1, A, B] inb) (ix3 0 a b) : EReal) = P (ix3 h a b) := by
  refine congrArg P (funext fun x => Fin.ext ?_)
  fin_cases x
  · exact e.symm.trans (by rfl)
  · show 0 + 1 * a.val = a.val; omega
  · show 0 + 1 * b.val = b.val; omega

end Cert.Proof.Rows

end
-- ==== Proof.Norm.lean ====
/- The root-mean-square norm of one row of 1024 numbers, and the gradient of it. -/
module

public import proofs.«01_k».proof.Proof.Rows

@[expose] public section

noncomputable section

namespace Cert.Proof.Norm

open Idealize.ShloMosaic

/-- The mean of the squares, and the small number added to it. -/
def ms (x : Fin 1024 → EReal) : EReal := Ideal.div (∑ k : Fin 1024, x k * x k) (Ideal.ofBits .f32 0x44800000#32) + Ideal.ofBits .f32 0x358637BD#32

/-- One over its square root. -/
def rs (x : Fin 1024 → EReal) : EReal := Ideal.rsqrt (ms x)

/-- The derivative of the inverse square root there. -/
def rsd (x : Fin 1024 → EReal) : EReal := Ideal.ofBits .f32 0xBF000000#32 * Ideal.div (rs x) (ms x)

/-- What the gradient `y` of the normed row gives to the mean of the squares, for each of the 1024 squares. -/
def qm (x y : Fin 1024 → EReal) : EReal := Ideal.div ((∑ k : Fin 1024, x k * y k) * rsd x) (Ideal.ofBits .f32 0x44800000#32)

/-- The gradient of the row, from the gradient `y` of the normed row. -/
def dnorm (x y : Fin 1024 → EReal) (j : Fin 1024) : EReal := y j * rs x + x j * qm x y + qm x y * x j

end Cert.Proof.Norm

end
-- ==== Proof.Upb.lean ====
/- The gradient through the feed-forward input: product, modulation, norm and residual gate. What the kernel leaves in its two result arrays. -/
module

public import proofs.«01_k».proof.Proof.Gen.KernelUpbIdeal.Value
public import proofs.«01_k».proof.Proof.Norm

@[expose] public section

noncomputable section

namespace Cert.Proof.Upb

open Cert.KernelUpbIdeal Cert.KernelUpbIdeal.Gen Cert.KernelUpbIdeal.Value Idealize.ShloMosaic Idealize.ShloMosaic.TcCoe Idealize.SL.Sem Cert.Proof.Norm

theorem pay4_apply (v3 : FVec Ideal S256x2816 .bf16) (v5 : FVec Ideal S1024x2816 .bf16) (v8 : FVec Ideal S256x2816 .bf16) (v10 : FVec Ideal S1024x2816 .bf16) (p : Fin 256) (j : Fin 1024) :
    (k0_pay4 (F := Ideal) v3 v5 v8 v10 (ix2 p j) : EReal) =
      (∑ k : Fin 2816, v3 (ix2 p k) * v5 (ix2 j k)) + ∑ k : Fin 2816, v8 (ix2 p k) * v10 (ix2 j k) := by
  unfold_payloads
  pointwise

theorem pay7_apply (x : FVec Ideal S256x1024 .f32) (p : Fin 256) :
    (k0_pay7 (F := Ideal) x (ix2 p 0) : EReal) = rs fun k => x (ix2 p k) := by
  unfold rs ms
  unfold_payloads
  pointwise

theorem pay8_apply (x : FVec Ideal S256x1024 .f32) (p : Fin 256) :
    (k0_pay8 (F := Ideal) x (ix2 p 0) : EReal) = rsd fun k => x (ix2 p k) := by
  unfold rsd rs ms
  unfold_payloads
  pointwise

theorem pay5_apply (x : FVec Ideal S256x1024 .f32) (i : S256x1024.Idx) : (k0_pay5 (F := Ideal) x i : EReal) = x i := by
  unfold_payloads
  pointwise

theorem pay9_apply (x : FVec Ideal S256x1024 .f32) (p : Fin 256) (j : Fin 1024) :
    (k0_pay9 (F := Ideal) x (ix2 p j) : EReal) = x (ix2 p j) * (rs fun k => x (ix2 p k)) := by
  unfold rs ms
  unfold_payloads
  pointwise

theorem pay11_apply (s : FVec Ideal S1x1024 .f32) (j : Fin 1024) : (k0_pay11 (F := Ideal) s (ix2 0 j) : EReal) = 1 + s (ix2 0 j) := by
  unfold_payloads
  pointwise

theorem pay10_apply (x : FVec Ideal S256x1024 .f32) (g : FVec Ideal S1x1024 .f32) (p : Fin 256) (j : Fin 1024) :
    (k0_pay10 (F := Ideal) x g (ix2 p j) : EReal) = x (ix2 p j) * (rs fun k => x (ix2 p k)) * g (ix2 0 j) := by
  unfold rs ms
  unfold_payloads
  pointwise

theorem pay12_apply (d : FVec Ideal S256x1024 .f32) (n : FVec Ideal S256x1024 .f32) (j : Fin 1024) :
    (k0_pay12 (F := Ideal) d n (ix2 0 j) : EReal) = ∑ p : Fin 256, n (ix2 p j) * d (ix2 p j) := by
  unfold_payloads
  pointwise

theorem pay14_apply (d x o : FVec Ideal S256x1024 .f32) (g s : FVec Ideal S1x1024 .f32) (r q : FVec Ideal S256x1 .f32) (p : Fin 256) (j : Fin 1024) :
    (k0_pay14 (F := Ideal) d x g r q s o (ix2 p j) : EReal) = o (ix2 p j) + (d (ix2 p j) * s (ix2 0 j) * g (ix2 0 j) * r (ix2 p 0)
      + x (ix2 p j) * Ideal.div ((∑ k : Fin 1024, x (ix2 p k) * (d (ix2 p k) * s (ix2 0 k) * g (ix2 0 k))) * q (ix2 p 0)) (Ideal.ofBits .f32 0x44800000#32)
      + Ideal.div ((∑ k : Fin 1024, x (ix2 p k) * (d (ix2 p k) * s (ix2 0 k) * g (ix2 0 k))) * q (ix2 p 0)) (Ideal.ofBits .f32 0x44800000#32) * x (ix2 p j)) := by
  unfold_payloads
  pointwise
  simp only [Fin.sum_univ_one]

theorem pay15_apply (d n : FVec Ideal S256x1024 .f32) (s l : FVec Ideal S1x1024 .f32) (j : Fin 1024) :
    (k0_pay15 (F := Ideal) d n s l (ix2 0 j) : EReal) = l (ix2 0 j) + ∑ p : Fin 256, n (ix2 p j) * (d (ix2 p j) * s (ix2 0 j)) := by
  unfold_payloads
  pointwise

theorem pay16_apply (d : FVec Ideal S256x1024 .f32) (l : FVec Ideal S1x1024 .f32) (j : Fin 1024) :
    (k0_pay16 (F := Ideal) d l (ix2 0 j) : EReal) = l (ix2 0 j) + ∑ p : Fin 256, d (ix2 p j) := by
  unfold_payloads
  pointwise

theorem pay1_apply (a l : FVec Ideal S1x1024 .f32) (j : Fin 1024) :
    (k0_pay1 (F := Ideal) a l (ix2 0 j) : EReal) = l (ix2 0 j) + a (ix2 0 j) := by
  unfold_payloads
  pointwise

theorem pay2_apply (d o : FVec Ideal S256x1024 .f32) (l : FVec Ideal S1x1024 .f32) (j : Fin 1024) :
    (k0_pay2 (F := Ideal) d l o (ix2 0 j) : EReal) = l (ix2 0 j) + ∑ p : Fin 256, d (ix2 p j) * o (ix2 p j) := by
  unfold_payloads
  pointwise

theorem pay3_apply (y : S8x1024.Idx) : (k0_pay3 (F := Ideal) y : EReal) = 0 := by
  unfold_payloads
  pointwise

variable (m : (ℓ : Loc nD τ sig) → Buf (Elt Ideal) ℓ) (ρ : Dev nD → PrngReg)
variable (c : Dev nD) (t : Fin cfg0.N)

theorem idx_facts : ∀ t : Fin cfg0.N,
    win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] ∧ win0_7.index t = ![0, 0]
    ∧ win0_8.index t = ![t.val, 0] ∧ win0_9.index t = ![0, 0] :=
  (by decide +kernel : ∀ t : Fin grid0.N, _)

/-! ## The two results, of the arguments -/

/-- The input of the feed-forward: the residual stream and its gated update. -/
def x1 (X O : S8192x1024.Idx → EReal) (M : S1x6144.Idx → EReal) (p : Fin 8192) (j : Fin 1024) : EReal :=
  X (ix2 p j) + M (ix2 0 ⟨2048 + j.val, by omega⟩) * O (ix2 p j)

/-- The gradient of the modulated norm: a product with the weights. -/
def dh (W : S1024x5632.Idx → EReal) (D : S8192x5632.Idx → EReal) (p : Fin 8192) (j : Fin 1024) : EReal :=
  ∑ k : Fin 5632, D (ix2 p k) * W (ix2 j k)

def sc (M : S1x6144.Idx → EReal) (j : Fin 1024) : EReal := 1 + M (ix2 0 ⟨4096 + j.val, by omega⟩)

def dy (M : S1x6144.Idx → EReal) (G : S1x1024.Idx → EReal) (W : S1024x5632.Idx → EReal) (D : S8192x5632.Idx → EReal)
    (p : Fin 8192) (j : Fin 1024) : EReal := dh W D p j * sc M j * G (ix2 0 j)

/-- The gradient of the feed-forward input. -/
def dx1 (X O : S8192x1024.Idx → EReal) (M : S1x6144.Idx → EReal) (G : S1x1024.Idx → EReal) (W : S1024x5632.Idx → EReal)
    (E : S8192x1024.Idx → EReal) (D : S8192x5632.Idx → EReal) (i : S8192x1024.Idx) : EReal :=
  E i + dnorm (x1 X O M (i 0)) (dy M G W D (i 0)) (i 1)

/-- What a token gives to an element of the second result. -/
def term (X O : S8192x1024.Idx → EReal) (M : S1x6144.Idx → EReal) (G : S1x1024.Idx → EReal) (W : S1024x5632.Idx → EReal)
    (E : S8192x1024.Idx → EReal) (D : S8192x5632.Idx → EReal) (k : Fin 8) (j : Fin 1024) (p : Fin 8192) : EReal :=
  if k.val = 3 then dx1 X O M G W E D (ix2 p j) * O (ix2 p j)
  else if k.val = 2 then x1 X O M p j * rs (x1 X O M p) * G (ix2 0 j) * dh W D p j
  else if k.val = 1 then dh W D p j
  else if k.val = 0 then x1 X O M p j * rs (x1 X O M p) * (dh W D p j * sc M j)
  else 0

/-- The second result: the gradients of the norm's weights, the shift, the scale and the gate, then zero rows. -/
def acc (X O : S8192x1024.Idx → EReal) (M : S1x6144.Idx → EReal) (G : S1x1024.Idx → EReal) (W : S1024x5632.Idx → EReal)
    (E : S8192x1024.Idx → EReal) (D : S8192x5632.Idx → EReal) (i : S8x1024.Idx) : EReal :=
  ∑ p : Fin 8192, term X O M G W E D (i 0) (i 1) p

/-! ## The blocks of a point -/

abbrev aX : S8192x1024.Idx → EReal := m ((c : Thread nD τ).loc main_arg0)
abbrev aO : S8192x1024.Idx → EReal := m ((c : Thread nD τ).loc main_arg1)
abbrev aM : S1x6144.Idx → EReal := m ((c : Thread nD τ).loc main_arg2)
abbrev aG : S1x1024.Idx → EReal := m ((c : Thread nD τ).loc main_arg3)
abbrev aW : S1024x5632.Idx → EReal := m ((c : Thread nD τ).loc main_arg4)
abbrev aE : S8192x1024.Idx → EReal := m ((c : Thread nD τ).loc main_arg5)
abbrev aD : S8192x5632.Idx → EReal := m ((c : Thread nD τ).loc main_arg6)

/-- The token that is token `n` of point `t`'s tile. -/
def tok (t : Fin cfg0.N) (n : Fin 256) : Fin 8192 := ⟨t.val * 256 + n.val, by have h : t.val < 32 := t.isLt; have := n.isLt; omega⟩

theorem v3_apply (p : Fin 8192) (j : Fin 1024) : (V m c main_v3 (ix2 p j) : EReal) = x1 (aX m c) (aO m c) (aM m c) p j := by
  have e : V m c main_v3 = addf (F := Ideal) (φ := .f32) (aX m c) (mulf (F := Ideal) (φ := .f32) (broadcastInDim S8192x1024 ![0, 1] bcast_S1x1024_S8192x1024_0_1
      (extractStridedSlice S1x1024 ![0, 2048] (aM m c) slices_S1x6144_S1x1024_0_2048)) (aO m c)) := by
    show StableHlo.after _ _ _ = _
    after_results
  rw [e]
  unfold x1
  pointwise

theorem v5_apply (p : Fin 8192) (k : Fin 2816) : (V m c main_v5 (ix2 p k) : EReal) = aD m c (ix2 p ⟨k.val, by omega⟩) := by
  have e : V m c main_v5 = extractStridedSlice S8192x2816 ![0, 0] (aD m c) slices_S8192x5632_S8192x2816_0_0 := by
    show StableHlo.after _ _ _ = _
    after_results
    rfl
  rw [e]
  pointwise

theorem v7_apply (p : Fin 8192) (k : Fin 2816) : (V m c main_v7 (ix2 p k) : EReal) = aD m c (ix2 p ⟨2816 + k.val, by omega⟩) := by
  have e : V m c main_v7 = extractStridedSlice S8192x2816 ![0, 2816] (aD m c) slices_S8192x5632_S8192x2816_0_2816 := by
    show StableHlo.after _ _ _ = _
    after_results
    rfl
  rw [e]
  pointwise

theorem v8_eq : (V m c main_v8 : S1024x5632.Idx → EReal) = aW m c := by
  show StableHlo.after _ _ _ = _
  after_results
  rfl

theorem blk0 (a : Fin 256) (k : Fin 2816) : (iblk m c 0 t (ix2 a k) : EReal) = aD m c (ix2 (tok t a) ⟨k.val, by omega⟩) := by
  obtain ⟨e, -⟩ := idx_facts t
  blk_simp [iblk]
  refine (congrArg (V m c main_v5) ?_).trans (v5_apply m c (tok t a) k)
  blk_ext [e, tok]

theorem blk1 (a : Fin 256) (k : Fin 2816) : (iblk m c 1 t (ix2 a k) : EReal) = aD m c (ix2 (tok t a) ⟨2816 + k.val, by omega⟩) := by
  obtain ⟨-, e, -⟩ := idx_facts t
  blk_simp [iblk]
  refine (congrArg (V m c main_v7) ?_).trans (v7_apply m c (tok t a) k)
  blk_ext [e, tok]

theorem blk2 : (iblk m c 2 t : S1024x5632.Idx → EReal) = aW m c := by
  obtain ⟨-, -, e, -⟩ := idx_facts t
  funext i
  blk_simp [iblk]
  refine (congrArg (V m c main_v8) ?_).trans (congrFun (v8_eq m c) i)
  blk_ext [e]

theorem blk3 (a : Fin 256) (j : Fin 1024) : (iblk m c 3 t (ix2 a j) : EReal) = x1 (aX m c) (aO m c) (aM m c) (tok t a) j := by
  obtain ⟨-, -, -, e, -⟩ := idx_facts t
  blk_simp [iblk]
  refine (congrArg (V m c main_v3) ?_).trans (v3_apply m c (tok t a) j)
  blk_ext [e, tok]

theorem blk4 (a : Fin 256) (j : Fin 1024) : (iblk m c 4 t (ix2 a j) : EReal) = aE m c (ix2 (tok t a) j) := by
  obtain ⟨-, -, -, -, e, -⟩ := idx_facts t
  blk_simp [iblk]
  refine (congrArg (V m c main_arg5) ?_).trans (congrFun (V_main_arg5 m c) _)
  blk_ext [e, tok]

theorem blk5 (a : Fin 256) (j : Fin 1024) : (iblk m c 5 t (ix2 a j) : EReal) = aO m c (ix2 (tok t a) j) := by
  obtain ⟨-, -, -, -, -, e, -⟩ := idx_facts t
  blk_simp [iblk]
  refine (congrArg (V m c main_arg1) ?_).trans (congrFun (V_main_arg1 m c) _)
  blk_ext [e, tok]

theorem blk6 : (iblk m c 6 t : S1x6144.Idx → EReal) = aM m c := by
  obtain ⟨-, -, -, -, -, -, e, -⟩ := idx_facts t
  funext i
  blk_simp [iblk]
  refine (congrArg (V m c main_arg2) ?_).trans (congrFun (V_main_arg2 m c) i)
  blk_ext [e]

theorem blk7 : (iblk m c 7 t : S1x1024.Idx → EReal) = aG m c := by
  obtain ⟨-, -, -, -, -, -, -, e, -⟩ := idx_facts t
  funext i
  blk_simp [iblk]
  refine (congrArg (V m c main_arg3) ?_).trans (congrFun (V_main_arg3 m c) i)
  blk_ext [e]

/-- The product of a tile. -/
abbrev hB : FVec Ideal S256x1024 .f32 := k0_pay4 (F := Ideal) (iblk m c 0 t)
  (View.ld (Val := Elt Ideal) (e' := .bf16) (iblk m c 2 t) (Rect.unit (s := S1024x5632) ![0, 0] ![1024, 2816] inb_S1024x5632_S1024x2816_0_0)) (iblk m c 1 t)
  (View.ld (Val := Elt Ideal) (e' := .bf16) (iblk m c 2 t) (Rect.unit (s := S1024x5632) ![0, 2816] ![1024, 2816] inb_S1024x5632_S1024x2816_0_2816))

theorem hB_apply (a : Fin 256) (j : Fin 1024) : (hB m c t (ix2 a j) : EReal) = dh (aW m c) (aD m c) (tok t a) j := by
  refine (pay4_apply _ _ _ _ _ _).trans ?_
  unfold dh
  refine Eq.trans ?_ (Fin.sum_univ_add (M := EReal) (a := 2816) (b := 2816) fun k : Fin 5632 => aD m c (ix2 (tok t a) k) * aW m c (ix2 j k)).symm
  refine congrArg₂ (· + ·) (Finset.sum_congr rfl fun k _ => congrArg₂ (· * ·) (blk0 m c t a k) ?_)
    (Finset.sum_congr rfl fun k _ => congrArg₂ (· * ·) (blk1 m c t a k) ?_)
  · refine (Rows.ld_at _ _ j k (by omega) (by omega)).trans ((congrFun (blk2 m c t) _).trans (congrArg (aW m c) ?_))
    blk_ext []
    rfl
  · refine (Rows.ld_at _ _ j k (by omega) (by omega)).trans ((congrFun (blk2 m c t) _).trans (congrArg (aW m c) ?_))
    blk_ext []
    rfl

abbrev sB : FVec Ideal S1x1024 .f32 := k0_pay11 (F := Ideal)
  (View.ld (Val := Elt Ideal) (e' := .f32) (iblk m c 6 t) (Rect.unit (s := S1x6144) ![0, 4096] ![1, 1024] inb_S1x6144_S1x1024_0_4096))

theorem sB_apply (j : Fin 1024) : (sB m c t (ix2 0 j) : EReal) = sc (aM m c) j := by
  refine (pay11_apply _ _).trans (congrArg (1 + ·) ?_)
  exact (Rows.ld_at _ _ 0 j (by decide) (by omega)).trans (congrFun (blk6 m c t) (ix2 0 ⟨4096 + j.val, by omega⟩))

theorem rs_blk (a : Fin 256) : (fun k : Fin 1024 => (iblk m c 3 t (ix2 a k) : EReal)) = x1 (aX m c) (aO m c) (aM m c) (tok t a) :=
  funext fun k => blk3 m c t a k

abbrev oB : FVec Ideal S256x1024 .f32 := k0_pay14 (F := Ideal) (hB m c t) (k0_pay5 (iblk m c 3 t)) (iblk m c 7 t) (k0_pay7 (iblk m c 3 t)) (k0_pay8 (iblk m c 3 t))
  (sB m c t) (iblk m c 4 t)

theorem oB_apply (a : Fin 256) (j : Fin 1024) : (oB m c t (ix2 a j) : EReal)
    = dx1 (aX m c) (aO m c) (aM m c) (aG m c) (aW m c) (aE m c) (aD m c) (ix2 (tok t a) j) := by
  refine (pay14_apply _ _ _ _ _ _ _ _ _).trans ?_
  simp only [pay5_apply, pay7_apply, pay8_apply, hB_apply, sB_apply, blk3, blk4, blk7]
  rfl

theorem out8 (y : S256x1024.Idx) : ((outsAt0 m c t.val t.isLt).1 y : EReal)
    = dx1 (aX m c) (aO m c) (aM m c) (aG m c) (aW m c) (aE m c) (aD m c) (ix2 (tok t (y 0)) (y 1)) := by
  refine Eq.trans ?_ ((congrArg (oB m c t) (ix2_eta y)).symm.trans (oB_apply m c t (y 0) (y 1)))
  by_cases h0 : t.val % 32 = 0
  · rw [outsAt0_A m c t h0]
    frame_open
    simp (disch := decide) only [↓ View.readCov_skip, ↓ View.readCov_cons_toLoadRect, ↓ View.readCov_fill]
    frame_out
    rfl
  · rw [outsAt0_B m c t h0]
    frame_out
    rfl

/-- What a tile adds to an element of the second result. -/
def part (k : Fin 8) (j : Fin 1024) : EReal :=
  ∑ n : Fin 256, term (aX m c) (aO m c) (aM m c) (aG m c) (aW m c) (aE m c) (aD m c) k j (tok t n)

/-- The four rows the body writes, newest first, over what the buffer held. -/
theorem rows_eq (P : S8x1024.Idx → EReal) (y : S8x1024.Idx) :
    (if (y 0).val = 3 then (k0_pay2 (F := Ideal) (oB m c t) (View.ld (Val := Elt Ideal) (e' := .f32) P (Rect.unit (s := S8x1024) ![3, 0] ![1, 1024] inb_S8x1024_S1x1024_3_0)) (iblk m c 5 t) (ix2 0 (y 1)) : EReal)
      else if (y 0).val = 2 then k0_pay1 (F := Ideal) (k0_pay12 (hB m c t) (k0_pay10 (iblk m c 3 t) (iblk m c 7 t))) (View.ld (Val := Elt Ideal) (e' := .f32) P (Rect.unit (s := S8x1024) ![2, 0] ![1, 1024] inb_S8x1024_S1x1024_2_0)) (ix2 0 (y 1))
      else if (y 0).val = 1 then k0_pay16 (F := Ideal) (hB m c t) (View.ld (Val := Elt Ideal) (e' := .f32) P (Rect.unit (s := S8x1024) ![1, 0] ![1, 1024] inb_S8x1024_S1x1024_1_0)) (ix2 0 (y 1))
      else if (y 0).val = 0 then k0_pay15 (F := Ideal) (hB m c t) (k0_pay9 (iblk m c 3 t)) (sB m c t) (View.ld (Val := Elt Ideal) (e' := .f32) P (Rect.unit (s := S8x1024) ![0, 0] ![1, 1024] inb_S8x1024_S1x1024_0_0)) (ix2 0 (y 1))
      else P y) = P y + part m c t (y 0) (y 1) := by
  unfold part term
  split_ifs with h3 h2 h1 h0
  · refine (pay2_apply _ _ _ _).trans (congrArg₂ (· + ·) (Rows.ld_row P y _ h3) (Finset.sum_congr rfl fun n _ => congrArg₂ (· * ·) (oB_apply m c t n _) (blk5 m c t n _)))
  · refine (pay1_apply _ _ _).trans (congrArg₂ (· + ·) (Rows.ld_row P y _ h2) ((pay12_apply _ _ _).trans (Finset.sum_congr rfl fun n _ => congrArg₂ (· * ·) ?_ (hB_apply m c t n _))))
    exact (pay10_apply _ _ _ _).trans (congrArg₂ (· * ·) (congrArg₂ (· * ·) (blk3 m c t n _) (congrArg rs (rs_blk m c t n))) (congrFun (blk7 m c t) _))
  · exact (pay16_apply _ _ _).trans (congrArg₂ (· + ·) (Rows.ld_row P y _ h1) (Finset.sum_congr rfl fun n _ => hB_apply m c t n _))
  · exact (pay15_apply _ _ _ _ _).trans (congrArg₂ (· + ·) (Rows.ld_row P y _ h0) (Finset.sum_congr rfl fun n _ => congrArg₂ (· * ·) ((pay9_apply _ _ _).trans
      (congrArg₂ (· * ·) (blk3 m c t n _) (congrArg rs (rs_blk m c t n)))) (congrArg₂ (· * ·) (hB_apply m c t n _) (sB_apply m c t _))))
  · simp only [Finset.sum_const_zero, add_zero]

theorem out9_A (h0 : t.val % 32 = 0) (y : S8x1024.Idx) : ((outsAt0 m c t.val t.isLt).2 y : EReal) = 0 + part m c t (y 0) (y 1) := by
  rw [outsAt0_A m c t h0]
  frame_open
  simp (disch := decide) only [↓ View.readCov_skip, ↓ View.readCov_cons_toLoadRect, ↓ View.readCov_fill]
  frame_out
  rw [Rows.canon_row, Rows.canon_row, Rows.canon_row, Rows.canon_row, View.canon_cons_unit_lit _ _ _ (by decide)]
  exact (rows_eq m c t (k0_pay3 (F := Ideal)) y).trans (by rw [pay3_apply])

theorem out9_B (h0 : ¬ t.val % 32 = 0) (y : S8x1024.Idx) : ((outsAt0 m c t.val t.isLt).2 y : EReal)
    = (outsAt0 m c (t.val - 1) (by omega)).2 y + part m c t (y 0) (y 1) := by
  rw [outsAt0_B m c t h0]
  frame_out
  rw [Rows.read_row, Rows.read_row, Rows.read_row, Rows.read_row, View.writes_nil, Memref.IsWhole.read_unread]
  exact rows_eq m c t (outsAt0 m c (t.val - 1) (by omega)).2 y

theorem final8 : (dats m 0 c).arrAt 8 cfg0.N = dx1 (aX m c) (aO m c) (aM m c) (aG m c) (aW m c) (aE m c) (aD m c) := by
  refine (dats m 0 c).arrAt_eq_of_covers 8 _ (by decide +kernel) fun t hf y => ?_
  obtain ⟨-, -, -, -, -, -, -, -, e, -⟩ := idx_facts t
  blk_simp
  rw [after0_8]
  refine (out8 m c t y).trans (congrArg (dx1 (aX m c) (aO m c) (aM m c) (aG m c) (aW m c) (aE m c) (aD m c)) ?_)
  blk_ext [e, tok]

theorem flush_last : ∀ t : Fin cfg0.N, (cfg0.win 9).flush t = true → t.val % 32 = 31 :=
  (by decide +kernel : ∀ t : Fin grid0.N, _)

theorem parts_eq (k : Fin 8) (j : Fin 1024) (h : ∀ s : Fin 32, 32 * (t.val / 32) + s.val < cfg0.N) :
    ∑ s : Fin 32, part m c ⟨32 * (t.val / 32) + s.val, h s⟩ k j = acc (aX m c) (aO m c) (aM m c) (aG m c) (aW m c) (aE m c) (aD m c) (ix2 k j) := by
  have ht : ∀ (s : Fin 32) (n : Fin 256) (hl : s.val * 256 + n.val < 8192), tok ⟨32 * (t.val / 32) + s.val, h s⟩ n = ⟨s.val * 256 + n.val, hl⟩ :=
    fun s n _ => Fin.ext (by
      have := s.isLt
      have ht : t.val < 32 := t.isLt
      show (32 * (t.val / 32) + s.val) * 256 + n.val = s.val * 256 + n.val
      omega)
  exact Rows.sum_tiles _ _ fun s n hl => congrArg (term (aX m c) (aO m c) (aM m c) (aG m c) (aW m c) (aE m c) (aD m c) k j) (ht s n hl)

theorem final9 : (dats m 0 c).arrAt 9 cfg0.N = acc (aX m c) (aO m c) (aM m c) (aG m c) (aW m c) (aE m c) (aD m c) := by
  refine (dats m 0 c).arrAt_eq_of_covers 9 _ (by decide +kernel) fun t hf y => ?_
  obtain ⟨-, -, -, -, -, -, -, -, -, e⟩ := idx_facts t
  blk_simp
  rw [after0_9]
  refine (Pipeline.eq_sum_fin_of_reset_step_apply_of_flush (fun n h => (outsAt0 m c n h).2) 32 (fun _ => (0 : EReal))
    (fun t y => part m c t (y 0) (y 1)) (fun t h y => out9_A m c t h y) (fun t h y => out9_B m c t h y) t (flush_last t hf) y).trans ?_
  refine Eq.trans (zero_add _) ?_
  refine (parts_eq m c t (y 0) (y 1) _).trans (congrArg (acc (aX m c) (aO m c) (aM m c) (aG m c) (aW m c) (aE m c) (aD m c)) ?_)
  blk_ext [e]

end Cert.Proof.Upb

end
-- ==== Proof.UpbEq.lean ====
/- The gradient through the feed-forward input: the reference's two results are the kernel's two functions. -/
module

public import proofs.«01_k».proof.Defs
public import proofs.«01_k».proof.Proof.Upb
public import proofs.«01_k».proof.Proof.Gen.ReferenceUpbIdeal.Run
public import proofs.«01_k».proof.Proof.Gen.ReferenceUpbIdeal.Read

@[expose] public section

noncomputable section

namespace Cert.Proof.Upb

open Cert.ReferenceUpbIdeal Cert.ReferenceUpbIdeal.Read Idealize.ShloMosaic Idealize.ShloMosaic.TcCoe Idealize.SL.Sem Cert.Proof.Norm

variable (X O : S8192x1024.Idx → EReal) (M : S1x6144.Idx → EReal) (G : S1x1024.Idx → EReal) (W : S1024x5632.Idx → EReal)
  (E : S8192x1024.Idx → EReal) (D : S8192x5632.Idx → EReal)

theorem v5_eq (p : Fin 8192) (j : Fin 1024) : (val_main_v5 (F := Ideal) X O M (ix2 p j) : EReal) = x1 X O M p j := by
  unfold x1
  unfold val_main_v5 val_main_v4 val_main_v3 val_main_v0
  pointwise

theorem v13_eq (p : Fin 8192) : (val_main_v13 (F := Ideal) X O M (ix2 p 0) : EReal) = rs (x1 X O M p) := by
  unfold rs ms
  simp only [← v5_eq]
  unfold val_main_v13 val_main_v12 val_main_v11 val_main_v10 val_main_v9 val_main_v8 val_main_v7 val_main_v6 val_main_cst val_main_cst_0 val_main_cst_1
  generalize val_main_v5 (F := Ideal) X O M = x
  pointwise

theorem v28_eq (p : Fin 8192) (j : Fin 1024) : (val_main_v28 (F := Ideal) W D (ix2 p j) : EReal) = dh W D p j := by
  unfold dh
  unfold val_main_v28
  pointwise

theorem v16_eq (p : Fin 8192) : (val_main_v16 (F := Ideal) X O M (ix2 p 0) : EReal) = rsd (x1 X O M p) := by
  unfold rsd rs ms
  simp only [← v5_eq]
  unfold val_main_v16 val_main_v15 val_main_cst_2 val_main_v14 val_main_v13 val_main_v12 val_main_v11 val_main_v10 val_main_v9 val_main_v8 val_main_v7 val_main_v6 val_main_cst val_main_cst_0 val_main_cst_1
  pointwise

theorem v18_eq (p : Fin 8192) (j : Fin 1024) : (val_main_v18 (F := Ideal) X O M (ix2 p j) : EReal) = x1 X O M p j * rs (x1 X O M p) := by
  rw [← v5_eq, ← v13_eq]
  unfold val_main_v18 val_main_v17
  pointwise

theorem v20_eq (p : Fin 8192) (j : Fin 1024) : (val_main_v20 (F := Ideal) X O M G (ix2 p j) : EReal) = x1 X O M p j * rs (x1 X O M p) * G (ix2 0 j) := by
  rw [← v18_eq]
  unfold val_main_v20 val_main_v19
  pointwise

theorem v22_eq (j : Fin 1024) : (val_main_v22 (F := Ideal) M (ix2 0 j) : EReal) = sc M j := by
  unfold sc
  unfold val_main_v22 val_main_v21 val_main_cst_3 val_main_v2
  pointwise

theorem v35_eq (p : Fin 8192) (j : Fin 1024) : (val_main_v35 (F := Ideal) M W D (ix2 p j) : EReal) = dh W D p j * sc M j := by
  rw [← v28_eq, ← v22_eq]
  unfold val_main_v35 val_main_v34
  pointwise

theorem v40_eq (p : Fin 8192) (j : Fin 1024) : (val_main_v40 (F := Ideal) M G W D (ix2 p j) : EReal) = dy M G W D p j := by
  unfold dy
  rw [← v35_eq]
  unfold val_main_v40 val_main_v39
  pointwise

theorem v51_eq (p : Fin 8192) (j : Fin 1024) : (val_main_v51 (F := Ideal) X O M G W D (ix2 p j) : EReal) = qm (x1 X O M p) (dy M G W D p) := by
  unfold qm
  simp only [← v16_eq, ← v40_eq, ← v5_eq]
  unfold val_main_v51 val_main_v50 val_main_cst_9 val_main_v49 val_main_v48 val_main_cst_8 val_main_v47 val_main_v43 val_main_v42 val_main_cst_7 val_main_v41
  pointwise
  simp only [Fin.sum_univ_one]

theorem v55_eq (p : Fin 8192) (j : Fin 1024) : (val_main_v55 (F := Ideal) X O M G W E D (ix2 p j) : EReal) = dx1 X O M G W E D (ix2 p j) := by
  show _ = E (ix2 p j) + (dy M G W D p j * rs (x1 X O M p) + x1 X O M p j * qm (x1 X O M p) (dy M G W D p) + qm (x1 X O M p) (dy M G W D p) * x1 X O M p j)
  rw [← v51_eq X O M G W D p j, ← v13_eq, ← v40_eq, ← v5_eq, ← add_assoc, ← add_assoc]
  unfold val_main_v55 val_main_v54 val_main_v53 val_main_v52 val_main_v46 val_main_v45 val_main_v44
  pointwise

theorem v38_eq (j : Fin 1024) : (val_main_v38 (F := Ideal) X O M W D (ix2 0 j) : EReal) = ∑ p : Fin 8192, x1 X O M p j * rs (x1 X O M p) * (dh W D p j * sc M j) := by
  simp only [← v18_eq, ← v35_eq]
  unfold val_main_v38 val_main_v37 val_main_cst_6 val_main_v36
  pointwise

theorem v30_eq (j : Fin 1024) : (val_main_v30 (F := Ideal) W D (ix2 0 j) : EReal) = ∑ p : Fin 8192, dh W D p j := by
  simp only [← v28_eq]
  unfold val_main_v30 val_main_v29 val_main_cst_4
  pointwise

theorem v33_eq (j : Fin 1024) : (val_main_v33 (F := Ideal) X O M G W D (ix2 0 j) : EReal) = ∑ p : Fin 8192, x1 X O M p j * rs (x1 X O M p) * G (ix2 0 j) * dh W D p j := by
  simp only [← v20_eq, ← v28_eq]
  unfold val_main_v33 val_main_v32 val_main_cst_5 val_main_v31
  pointwise

theorem v59_eq (j : Fin 1024) : (val_main_v59 (F := Ideal) X O M G W E D (ix2 0 j) : EReal) = ∑ p : Fin 8192, dx1 X O M G W E D (ix2 p j) * O (ix2 p j) := by
  simp only [← v55_eq]
  unfold val_main_v59 val_main_v58 val_main_cst_10 val_main_v57 val_main_v56
  pointwise

theorem v61_eq : (val_main_v61 (F := Ideal) X O M G W E D : S8x1024.Idx → EReal) = acc X O M G W E D := by
  funext i
  obtain ⟨k, j, rfl⟩ : ∃ (k : Fin 8) (j : Fin 1024), i = ix2 k j := ⟨i 0, i 1, (ix2_eta i).symm⟩
  unfold val_main_v61 val_main_v60 val_main_cst_11
  pointwise
  show _ = ∑ p : Fin 8192, term X O M G W E D k j p
  by_cases hk : 3 < k.val
  · rw [dif_neg (by omega), dif_neg (by omega), dif_neg (by omega), dif_neg (by omega)]
    refine (Finset.sum_eq_zero fun p _ => ?_).symm
    unfold term
    rw [if_neg (by omega), if_neg (by omega), if_neg (by omega), if_neg (by omega)]
  · obtain rfl | rfl | rfl | rfl : k = 0 ∨ k = 1 ∨ k = 2 ∨ k = 3 := by omega
    · exact v38_eq X O M W D j
    · exact v30_eq W D j
    · exact v33_eq X O M G W D j
    · exact v59_eq X O M G W E D j

/-- The kernel and the reference end with the same two arrays. -/
theorem algebraic : Cert.algebraic_KernelUpbIdeal_ReferenceUpbIdeal := by
  intro m g m' g' _ hagree
  refine ⟨_, _, (θ_run _ _ _).mono (fun r h c => ⟨(h c).1.trans (final8 m c), (h c).2.1.trans (final9 m c), (h c).2.2⟩)
    (Cert.KernelUpbIdeal.Value.run_blocks m g), ?_⟩
  refine (θ_run _ _ _).mono (fun r h c => ?_) (Cert.ReferenceUpbIdeal.Value.run m' g')
  obtain ⟨h8, h9, hk⟩ := h c
  obtain ⟨a0, a1, a2, a3, a4, a5, a6⟩ := hagree c
  refine ⟨h8.trans ?_, h9.trans ?_, hk⟩
  · rw [val_main_v55_eq, a0, a1, a2, a3, a4, a5, a6]
    exact funext fun i => (congrArg _ (ix2_eta i)).symm.trans ((v55_eq _ _ _ _ _ _ _ (i 0) (i 1)).trans (congrArg _ (ix2_eta i)))
  · rw [val_main_v61_eq, a0, a1, a2, a3, a4, a5, a6]
    exact v61_eq _ _ _ _ _ _ _

/-- The reference runs and leaves its arguments. -/
theorem frame_reference : Cert.quiescent_ReferenceUpbIdeal := fun m ρ _ =>
  (θ_run _ _ _).mono (fun _ h => ⟨fun c => (h c).2.2, funext fun ⟨_, s⟩ => by rcases s with s | s <;> exact s.elim0⟩)
    (Cert.ReferenceUpbIdeal.Value.run m ρ)

end Cert.Proof.Upb

end
-- ==== Proof.Inb.lean ====
/- The gradient through the input projection of the token mixer: two products, then the modulated norm. What the kernel leaves in its three result arrays. -/
module

public import proofs.«01_k».proof.Proof.Gen.KernelInbIdeal.Value
public import proofs.«01_k».proof.Proof.Norm

@[expose] public section

noncomputable section

namespace Cert.Proof.Inb

open Cert.KernelInbIdeal Cert.KernelInbIdeal.Gen Cert.KernelInbIdeal.Value Idealize.ShloMosaic Idealize.ShloMosaic.TcCoe Idealize.SL.Sem Cert.Proof.Norm

/-! ## The three results, of the arguments: rows 0 to 255 are the context, the others the tokens -/

/-- The input of the norm. -/
def xr (X : S8192x1024.Idx → EReal) (C : S256x1024.Idx → EReal) (r : Fin 8448) (j : Fin 1024) : EReal :=
  if h : r.val < 256 then C (ix2 ⟨r.val, h⟩ j) else X (ix2 ⟨r.val - 256, by omega⟩ j)

/-- One plus the scale of the modulation. -/
def sc (M Mc : S1x6144.Idx → EReal) (r : Fin 8448) (j : Fin 1024) : EReal :=
  1 + if r.val < 256 then Mc (ix2 0 ⟨1024 + j.val, by omega⟩) else M (ix2 0 ⟨1024 + j.val, by omega⟩)

/-- The gradient of the projection. -/
def dp (U0 U1 U2 : S8448x512.Idx → EReal) (Z : S8448x3072.Idx → EReal) (i : S8448x3584.Idx) : EReal :=
  if h : (i 1).val < 512 then U0 (ix2 (i 0) ⟨(i 1).val, h⟩) + U1 (ix2 (i 0) ⟨(i 1).val, h⟩) + U2 (ix2 (i 0) ⟨(i 1).val, h⟩)
  else Z (ix2 (i 0) ⟨(i 1).val - 512, by have : (i 1).val < 3584 := (i 1).isLt; omega⟩)

/-- The gradient of the modulated norm. -/
def dh (W : S1024x3584.Idx → EReal) (P : S8448x3584.Idx → EReal) (r : Fin 8448) (j : Fin 1024) : EReal :=
  ∑ k : Fin 3584, P (ix2 r k) * W (ix2 j k)

def dy (M Mc : S1x6144.Idx → EReal) (G : S1x1024.Idx → EReal) (W : S1024x3584.Idx → EReal) (P : S8448x3584.Idx → EReal) (r : Fin 8448) (j : Fin 1024) : EReal :=
  dh W P r j * sc M Mc r j * G (ix2 0 j)

/-- The row of token `p`. -/
def lat (p : Fin 8192) : Fin 8448 := ⟨256 + p.val, by omega⟩

/-- The gradient of the tokens. -/
def dx (X : S8192x1024.Idx → EReal) (C : S256x1024.Idx → EReal) (M Mc : S1x6144.Idx → EReal) (G : S1x1024.Idx → EReal) (W : S1024x3584.Idx → EReal)
    (E : S8192x1024.Idx → EReal) (P : S8448x3584.Idx → EReal) (i : S8192x1024.Idx) : EReal :=
  E i + dnorm (xr X C (lat (i 0))) (dy M Mc G W P (lat (i 0))) (i 1)

/-- What a row gives to an element of the third result. -/
def term (X : S8192x1024.Idx → EReal) (C : S256x1024.Idx → EReal) (M Mc : S1x6144.Idx → EReal) (G : S1x1024.Idx → EReal) (W : S1024x3584.Idx → EReal)
    (P : S8448x3584.Idx → EReal) (k : Fin 8) (j : Fin 1024) (r : Fin 8448) : EReal :=
  if k.val = 0 then xr X C r j * rs (xr X C r) * (dh W P r j * sc M Mc r j)
  else if k.val = 1 then (if r.val < 256 then 0 else dh W P r j)
  else if k.val = 2 then (if r.val < 256 then 0 else xr X C r j * rs (xr X C r) * G (ix2 0 j) * dh W P r j)
  else if k.val = 3 then (if r.val < 256 then dh W P r j else 0)
  else if k.val = 4 then (if r.val < 256 then xr X C r j * rs (xr X C r) * G (ix2 0 j) * dh W P r j else 0)
  else 0

/-- The third result: the gradients of the norm's weights, of shift and scale for the tokens, of shift and scale for the context, then zero rows. -/
def acc (X : S8192x1024.Idx → EReal) (C : S256x1024.Idx → EReal) (M Mc : S1x6144.Idx → EReal) (G : S1x1024.Idx → EReal) (W : S1024x3584.Idx → EReal)
    (P : S8448x3584.Idx → EReal) (i : S8x1024.Idx) : EReal := ∑ r : Fin 8448, term X C M Mc G W P (i 0) (i 1) r

/-! ## The values of the body -/

theorem pay10_apply (a b d : FVec Ideal S256x512 .f32) (z : FVec Ideal S256x3072 .bf16) (w : FVec Ideal S1024x512 .bf16) (w' : FVec Ideal S1024x3072 .bf16) (p : Fin 256) (j : Fin 1024) :
    (k0_pay10 (F := Ideal) a b d z w w' (ix2 p j) : EReal)
      = (∑ k : Fin 512, (a (ix2 p k) + b (ix2 p k) + d (ix2 p k)) * w (ix2 j k)) + ∑ k : Fin 3072, z (ix2 p k) * w' (ix2 j k) := by
  unfold_payloads
  pointwise

theorem pay8_apply (a b d : FVec Ideal S256x512 .f32) (i : S256x512.Idx) : (k0_pay8 (F := Ideal) a b d i : EReal) = a i + b i + d i := by
  unfold_payloads
  pointwise

theorem pay9_apply (z : FVec Ideal S256x3072 .bf16) (i : S256x3072.Idx) : (k0_pay9 (F := Ideal) z i : EReal) = z i := by
  unfold_payloads
  pointwise

theorem pay16_apply (h : FVec Ideal S256x1024 .f32) (j : Fin 1024) : (k0_pay16 (F := Ideal) h (ix2 0 j) : EReal) = ∑ p : Fin 256, h (ix2 p j) := by
  unfold_payloads
  pointwise

theorem pay17_apply (h x : FVec Ideal S256x1024 .f32) (g : FVec Ideal S1x1024 .f32) (j : Fin 1024) :
    (k0_pay17 (F := Ideal) h x g (ix2 0 j) : EReal) = ∑ p : Fin 256, x (ix2 p j) * (rs fun k => x (ix2 p k)) * g (ix2 0 j) * h (ix2 p j) := by
  unfold rs ms
  unfold_payloads
  pointwise

theorem pay19_apply (h x : FVec Ideal S256x1024 .f32) (s : FVec Ideal S1x6144 .f32) (j : Fin 1024) :
    (k0_pay19 (F := Ideal) h x s (ix2 0 j) : EReal)
      = ∑ p : Fin 256, x (ix2 p j) * (rs fun k => x (ix2 p k)) * (h (ix2 p j) * (1 + s (ix2 0 ⟨1024 + j.val, by omega⟩))) := by
  unfold rs ms
  unfold_payloads
  pointwise

theorem pay20_apply (h x : FVec Ideal S256x1024 .f32) (s : FVec Ideal S1x6144 .f32) (g : FVec Ideal S1x1024 .f32) (p : Fin 256) (j : Fin 1024) :
    (k0_pay20 (F := Ideal) h x s g (ix2 p j) : EReal)
      = dnorm (fun k => x (ix2 p k)) (fun k => h (ix2 p k) * (1 + s (ix2 0 ⟨1024 + k.val, by omega⟩)) * g (ix2 0 k)) j := by
  unfold dnorm qm rsd rs ms
  unfold_payloads
  pointwise
  simp only [Fin.sum_univ_one]

theorem pay6_apply (d e : FVec Ideal S256x1024 .f32) (i : S256x1024.Idx) : (k0_pay6 (F := Ideal) d e i : EReal) = e i + d i := by
  unfold_payloads
  pointwise

theorem addl (a l : FVec Ideal S1x1024 .f32) (j : Fin 1024) :
    (k0_pay1 (F := Ideal) a l (ix2 0 j) : EReal) = l (ix2 0 j) + a (ix2 0 j) ∧ (k0_pay2 (F := Ideal) a l (ix2 0 j) : EReal) = l (ix2 0 j) + a (ix2 0 j)
    ∧ (k0_pay3 (F := Ideal) a l (ix2 0 j) : EReal) = l (ix2 0 j) + a (ix2 0 j) ∧ (k0_pay4 (F := Ideal) a l (ix2 0 j) : EReal) = l (ix2 0 j) + a (ix2 0 j)
    ∧ (k0_pay5 (F := Ideal) a l (ix2 0 j) : EReal) = l (ix2 0 j) + a (ix2 0 j) := by
  refine ⟨?_, ?_, ?_, ?_, ?_⟩
  all_goals
    unfold_payloads
    pointwise

theorem pay7_apply (y : S8x1024.Idx) : (k0_pay7 (F := Ideal) y : EReal) = 0 := by
  unfold_payloads
  pointwise

variable (m : (ℓ : Loc nD τ sig) → Buf (Elt Ideal) ℓ) (ρ : Dev nD → PrngReg)
variable (c : Dev nD) (t : Fin cfg0.N)

/-- At the first point the body takes the context, at the others the tokens. -/
theorem first : ∀ t : Fin cfg0.N, Scalar.cmpi .eq (BitVec.ofNat 32 (grid0.coords t 0).val) 0#32 = if t.val = 0 then 1#1 else 0#1 :=
  (by decide +kernel : ∀ t : Fin grid0.N, _)

theorem pay11_apply (a b : FVec Ideal S256x1024 .f32) : (k0_pay11 (F := Ideal) (grid0.coords t) a b : S256x1024.Idx → EReal) = if t.val = 0 then a else b := by
  show (Scalar.select (Scalar.cmpi .eq (BitVec.ofNat 32 (grid0.coords t 0).val) 0#32) a b : S256x1024.Idx → EReal) = _
  rw [first]
  split_ifs <;> rfl

theorem pay12_apply (a b : FVec Ideal S1x6144 .f32) : (k0_pay12 (F := Ideal) (grid0.coords t) a b : S1x6144.Idx → EReal) = if t.val = 0 then a else b := by
  show (Scalar.select (Scalar.cmpi .eq (BitVec.ofNat 32 (grid0.coords t 0).val) 0#32) a b : S1x6144.Idx → EReal) = _
  rw [first]
  split_ifs <;> rfl

/-! ## The blocks of a point -/

abbrev aX : S8192x1024.Idx → EReal := m ((c : Thread nD τ).loc main_arg0)
abbrev aC : S256x1024.Idx → EReal := m ((c : Thread nD τ).loc main_arg1)
abbrev aM : S1x6144.Idx → EReal := m ((c : Thread nD τ).loc main_arg2)
abbrev aMc : S1x6144.Idx → EReal := m ((c : Thread nD τ).loc main_arg3)
abbrev aG : S1x1024.Idx → EReal := m ((c : Thread nD τ).loc main_arg4)
abbrev aW : S1024x3584.Idx → EReal := m ((c : Thread nD τ).loc main_arg5)
abbrev aE : S8192x1024.Idx → EReal := m ((c : Thread nD τ).loc main_arg6)
abbrev aU0 : S8448x512.Idx → EReal := m ((c : Thread nD τ).loc main_arg7)
abbrev aU1 : S8448x512.Idx → EReal := m ((c : Thread nD τ).loc main_arg8)
abbrev aU2 : S8448x512.Idx → EReal := m ((c : Thread nD τ).loc main_arg9)
abbrev aZ : S8448x3072.Idx → EReal := m ((c : Thread nD τ).loc main_arg10)
abbrev aP : S8448x3584.Idx → EReal := dp (aU0 m c) (aU1 m c) (aU2 m c) (aZ m c)

theorem idx_facts : ∀ t : Fin cfg0.N,
    win0_0.index t = ![t.val, 0] ∧ win0_1.index t = ![t.val, 0] ∧ win0_2.index t = ![t.val, 0] ∧ win0_3.index t = ![t.val, 0]
    ∧ win0_4.index t = ![t.val - 1, 0] ∧ win0_5.index t = ![0, 0] ∧ win0_6.index t = ![t.val - 1, 0] ∧ win0_7.index t = ![0, 0]
    ∧ win0_8.index t = ![0, 0] ∧ win0_9.index t = ![0, 0] ∧ win0_10.index t = ![0, 0] ∧ win0_11.index t = ![t.val - 1, 0]
    ∧ win0_12.index t = ![t.val, 0] ∧ win0_13.index t = ![0, 0] :=
  (by decide +kernel : ∀ t : Fin grid0.N, _)

/-- The row that is row `n` of point `t`'s tile. -/
def row (t : Fin cfg0.N) (n : Fin 256) : Fin 8448 := ⟨t.val * 256 + n.val, by have h : t.val < 33 := t.isLt; have := n.isLt; omega⟩

theorem v0_eq : (V m c main_v0 : S8448x3072.Idx → EReal) = aZ m c := by
  show StableHlo.after _ _ _ = _
  after_results
  rfl

theorem v1_eq : (V m c main_v1 : S1024x3584.Idx → EReal) = aW m c := by
  show StableHlo.after _ _ _ = _
  after_results
  rfl

theorem blk0 (a : Fin 256) (k : Fin 512) : (iblk m c 0 t (ix2 a k) : EReal) = aU0 m c (ix2 (row t a) k) := by
  obtain ⟨e, -⟩ := idx_facts t
  blk_simp [iblk]
  refine (congrArg (V m c main_arg7) ?_).trans (congrFun (V_main_arg7 m c) _)
  blk_ext [e, row]

theorem blk1 (a : Fin 256) (k : Fin 512) : (iblk m c 1 t (ix2 a k) : EReal) = aU1 m c (ix2 (row t a) k) := by
  obtain ⟨-, e, -⟩ := idx_facts t
  blk_simp [iblk]
  refine (congrArg (V m c main_arg8) ?_).trans (congrFun (V_main_arg8 m c) _)
  blk_ext [e, row]

theorem blk2 (a : Fin 256) (k : Fin 512) : (iblk m c 2 t (ix2 a k) : EReal) = aU2 m c (ix2 (row t a) k) := by
  obtain ⟨-, -, e, -⟩ := idx_facts t
  blk_simp [iblk]
  refine (congrArg (V m c main_arg9) ?_).trans (congrFun (V_main_arg9 m c) _)
  blk_ext [e, row]

theorem blk3 (a : Fin 256) (k : Fin 3072) : (iblk m c 3 t (ix2 a k) : EReal) = aZ m c (ix2 (row t a) k) := by
  obtain ⟨-, -, -, e, -⟩ := idx_facts t
  blk_simp [iblk]
  refine (congrArg (V m c main_v0) ?_).trans (congrFun (v0_eq m c) _)
  blk_ext [e, row]

theorem blk4 (h : t.val ≠ 0) (a : Fin 256) (j : Fin 1024) : (iblk m c 4 t (ix2 a j) : EReal) = xr (aX m c) (aC m c) (row t a) j := by
  obtain ⟨-, -, -, -, e, -⟩ := idx_facts t
  have hr : ¬ (row t a).val < 256 := by show ¬ t.val * 256 + a.val < 256; omega
  unfold xr
  rw [dif_neg hr]
  blk_simp [iblk]
  refine (congrArg (V m c main_arg0) ?_).trans (congrFun (V_main_arg0 m c) _)
  blk_ext [e, row]

theorem blk5 (h : t.val = 0) (a : Fin 256) (j : Fin 1024) : (iblk m c 5 t (ix2 a j) : EReal) = xr (aX m c) (aC m c) (row t a) j := by
  obtain ⟨-, -, -, -, -, e, -⟩ := idx_facts t
  have hr : (row t a).val < 256 := by show t.val * 256 + a.val < 256; omega
  unfold xr
  rw [dif_pos hr]
  blk_simp [iblk]
  refine (congrArg (V m c main_arg1) ?_).trans (congrFun (V_main_arg1 m c) _)
  blk_ext [e, row]

theorem blk6 (h : t.val ≠ 0) (a : Fin 256) (j : Fin 1024) (p : Fin 8192) (hp : p.val = (t.val - 1) * 256 + a.val) : (iblk m c 6 t (ix2 a j) : EReal) = aE m c (ix2 p j) := by
  obtain ⟨-, -, -, -, -, -, e, -⟩ := idx_facts t
  blk_simp [iblk]
  refine (congrArg (V m c main_arg6) ?_).trans (congrFun (V_main_arg6 m c) _)
  blk_ext [e, hp]

theorem blk7 : (iblk m c 7 t : S1x6144.Idx → EReal) = aM m c := by
  obtain ⟨-, -, -, -, -, -, -, e, -⟩ := idx_facts t
  funext i
  blk_simp [iblk]
  refine (congrArg (V m c main_arg2) ?_).trans (congrFun (V_main_arg2 m c) i)
  blk_ext [e]

theorem blk8 : (iblk m c 8 t : S1x6144.Idx → EReal) = aMc m c := by
  obtain ⟨-, -, -, -, -, -, -, -, e, -⟩ := idx_facts t
  funext i
  blk_simp [iblk]
  refine (congrArg (V m c main_arg3) ?_).trans (congrFun (V_main_arg3 m c) i)
  blk_ext [e]

theorem blk9 : (iblk m c 9 t : S1x1024.Idx → EReal) = aG m c := by
  obtain ⟨-, -, -, -, -, -, -, -, -, e, -⟩ := idx_facts t
  funext i
  blk_simp [iblk]
  refine (congrArg (V m c main_arg4) ?_).trans (congrFun (V_main_arg4 m c) i)
  blk_ext [e]

theorem blk10 : (iblk m c 10 t : S1024x3584.Idx → EReal) = aW m c := by
  obtain ⟨-, -, -, -, -, -, -, -, -, -, e, -⟩ := idx_facts t
  funext i
  blk_simp [iblk]
  refine (congrArg (V m c main_v1) ?_).trans (congrFun (v1_eq m c) i)
  blk_ext [e]

/-- The product of a tile. -/
abbrev hB : FVec Ideal S256x1024 .f32 := k0_pay10 (F := Ideal) (iblk m c 0 t) (iblk m c 1 t) (iblk m c 2 t) (iblk m c 3 t)
  (View.ld (Val := Elt Ideal) (e' := .bf16) (iblk m c 10 t) (Rect.unit (s := S1024x3584) ![0, 0] ![1024, 512] inb_S1024x3584_S1024x512_0_0))
  (View.ld (Val := Elt Ideal) (e' := .bf16) (iblk m c 10 t) (Rect.unit (s := S1024x3584) ![0, 512] ![1024, 3072] inb_S1024x3584_S1024x3072_0_512))

theorem dp_lo (r : Fin 8448) (k : Fin 512) (q : Fin 3584) (hq : q.val = k.val) : aP m c (ix2 r q) = aU0 m c (ix2 r k) + aU1 m c (ix2 r k) + aU2 m c (ix2 r k) := by
  have e : (⟨q.val, by omega⟩ : Fin 512) = k := Fin.ext hq
  have h : q.val < 512 := by omega
  show (if h : q.val < 512 then aU0 m c (ix2 r ⟨q.val, h⟩) + aU1 m c (ix2 r ⟨q.val, h⟩) + aU2 m c (ix2 r ⟨q.val, h⟩) else _) = _
  rw [dif_pos h, e]

theorem dp_hi (r : Fin 8448) (k : Fin 3072) (q : Fin 3584) (hq : q.val = 512 + k.val) : aP m c (ix2 r q) = aZ m c (ix2 r k) := by
  have h : ¬ q.val < 512 := by omega
  refine (dif_neg h).trans (congrArg (fun k => aZ m c (ix2 r k)) (Fin.ext ?_))
  show q.val - 512 = k.val
  omega

theorem hB_apply (a : Fin 256) (j : Fin 1024) : (hB m c t (ix2 a j) : EReal) = dh (aW m c) (aP m c) (row t a) j := by
  refine (pay10_apply _ _ _ _ _ _ _ _).trans ?_
  refine Eq.trans ?_ (Fin.sum_univ_add (M := EReal) (a := 512) (b := 3072) fun k : Fin 3584 => aP m c (ix2 (row t a) k) * aW m c (ix2 j k)).symm
  refine congrArg₂ (· + ·) (Finset.sum_congr rfl fun k _ => congrArg₂ (· * ·) ?_ ?_) (Finset.sum_congr rfl fun k _ => congrArg₂ (· * ·) ?_ ?_)
  · rw [dp_lo m c (row t a) k _ rfl, blk0, blk1, blk2]
  · refine (Rows.ld_at _ _ j k (by omega) (by omega)).trans ((congrFun (blk10 m c t) _).trans (congrArg (aW m c) ?_))
    blk_ext []
    rfl
  · rw [dp_hi m c (row t a) k _ rfl, blk3]
  · refine (Rows.ld_at _ _ j k (by omega) (by omega)).trans ((congrFun (blk10 m c t) _).trans (congrArg (aW m c) ?_))
    blk_ext []
    rfl

abbrev xB : FVec Ideal S256x1024 .f32 := k0_pay11 (F := Ideal) (grid0.coords t) (iblk m c 5 t) (iblk m c 4 t)
abbrev mB : FVec Ideal S1x6144 .f32 := k0_pay12 (F := Ideal) (grid0.coords t) (iblk m c 8 t) (iblk m c 7 t)

theorem xB_apply (a : Fin 256) (j : Fin 1024) : (xB m c t (ix2 a j) : EReal) = xr (aX m c) (aC m c) (row t a) j := by
  refine (congrFun (pay11_apply t _ _) _).trans ?_
  split_ifs with h
  · exact blk5 m c t h a j
  · exact blk4 m c t h a j

theorem xB_row (a : Fin 256) : (fun k : Fin 1024 => (xB m c t (ix2 a k) : EReal)) = xr (aX m c) (aC m c) (row t a) := funext fun k => xB_apply m c t a k

theorem sB_apply (a : Fin 256) (j : Fin 1024) : 1 + (mB m c t (ix2 0 ⟨1024 + j.val, by omega⟩) : EReal) = sc (aM m c) (aMc m c) (row t a) j := by
  unfold sc
  refine congrArg (1 + ·) ((congrFun (pay12_apply t _ _) _).trans ?_)
  split_ifs with h h' h'
  · exact congrFun (blk8 m c t) _
  · exact absurd (show t.val * 256 + a.val < 256 by omega) h'
  · exact absurd (show t.val * 256 + a.val < 256 from h') (by omega)
  · exact congrFun (blk7 m c t) _

theorem fl11 : ∀ t : Fin cfg0.N, (cfg0.win 11).flush t = true → 1 ≤ t.val :=
  (by decide +kernel : ∀ t : Fin grid0.N, _)

theorem dx_row (h1 : 1 ≤ t.val) (a : Fin 256) (j : Fin 1024) (p : Fin 8192) (hp : p.val = (t.val - 1) * 256 + a.val) :
    (k0_pay6 (F := Ideal) (k0_pay20 (hB m c t) (xB m c t) (mB m c t) (iblk m c 9 t)) (iblk m c 6 t) (ix2 a j) : EReal)
      = dx (aX m c) (aC m c) (aM m c) (aMc m c) (aG m c) (aW m c) (aE m c) (aP m c) (ix2 p j) := by
  have hr : row t a = lat p := Fin.ext (by show t.val * 256 + a.val = 256 + p.val; omega)
  refine (pay6_apply _ _ _).trans (congrArg₂ (· + ·) (blk6 m c t (by omega) a j p hp) ?_)
  refine (pay20_apply _ _ _ _ _ _).trans ?_
  show _ = dnorm (xr (aX m c) (aC m c) (lat p)) (dy (aM m c) (aMc m c) (aG m c) (aW m c) (aP m c) (lat p)) j
  rw [← hr]
  refine congrArg₂ (fun x y => dnorm x y j) (xB_row m c t a) (funext fun k => ?_)
  exact congrArg₂ (· * ·) (congrArg₂ (· * ·) (hB_apply m c t a k) (sB_apply m c t a k)) (congrFun (blk9 m c t) _)

theorem out11 (h1 : 1 ≤ t.val) (y : S256x1024.Idx) : ((outsAt0 m c t.val t.isLt).1 y : EReal)
    = dx (aX m c) (aC m c) (aM m c) (aMc m c) (aG m c) (aW m c) (aE m c) (aP m c) (ix2 ⟨(t.val - 1) * 256 + (y 0).val, by
      have h : t.val < 33 := t.isLt; have h' : (y 0).val < 256 := (y 0).isLt; omega⟩ (y 1)) := by
  refine Eq.trans ?_ (dx_row m c t h1 (y 0) (y 1) _ rfl)
  have h0 : ¬ t.val % 33 = 0 := by have h : t.val < 33 := t.isLt; omega
  rw [outsAt0_B m c t h0 h0 h1]
  frame_out
  exact congrArg _ (ix2_eta y).symm

theorem cols_eq (y : S256x3584.Idx) : ((View.canon (Val := Elt Ideal) (s := S256x3584) (e := .bf16)
      [⟨Rect.unit (s := S256x3584) ![0, 512] ![256, 3072] inb_S256x3584_S256x3072_0_512, k0_pay9 (F := Ideal) (iblk m c 3 t)⟩,
        ⟨Rect.unit (s := S256x3584) ![0, 0] ![256, 512] inb_S256x3584_S256x512_0_0, k0_pay8 (iblk m c 0 t) (iblk m c 1 t) (iblk m c 2 t)⟩] : S256x3584.Idx → EReal) y : EReal)
    = aP m c (ix2 (row t (y 0)) (y 1)) := by
  have h1 : (y 1).val < 3584 := (y 1).isLt
  refine (Rows.canon_cols _ _ _ y).trans ?_
  split_ifs with h
  · refine (pay9_apply _ _).trans ((blk3 m c t _ _).trans (dp_hi m c _ _ _ ?_).symm)
    show (y 1).val = 512 + ((y 1).val - 512)
    omega
  · refine (Rows.canon_cols _ _ _ y).trans ?_
    rw [dif_pos ⟨by omega, by omega⟩]
    refine (pay8_apply _ _ _ _).trans ?_
    rw [dp_lo m c _ ⟨(y 1).val - 0, by omega⟩ _ rfl]
    exact congrArg₂ (· + ·) (congrArg₂ (· + ·) (blk0 m c t _ _) (blk1 m c t _ _)) (blk2 m c t _ _)

theorem out12 (y : S256x3584.Idx) : ((outsAt0 m c t.val t.isLt).2.1 y : EReal) = aP m c (ix2 (row t (y 0)) (y 1)) := by
  refine Eq.trans ?_ (cols_eq m c t y)
  have ht : t.val < 33 := t.isLt
  by_cases h0 : t.val % 33 = 0
  · rw [outsAt0_A m c t h0 h0 (by omega)]
    frame_open
    simp (disch := decide) only [↓ View.readCov_skip, ↓ View.readCov_cons_toLoadRect, ↓ View.readCov_fill]
    frame_out
  · rw [outsAt0_B m c t h0 h0 (by omega)]
    frame_out

/-- What a tile adds to an element of the third result. -/
def part (k : Fin 8) (j : Fin 1024) : EReal :=
  ∑ n : Fin 256, term (aX m c) (aC m c) (aM m c) (aMc m c) (aG m c) (aW m c) (aP m c) k j (row t n)

theorem row0 (j : Fin 1024) : (k0_pay19 (F := Ideal) (hB m c t) (xB m c t) (mB m c t) (ix2 0 j) : EReal)
    = ∑ n : Fin 256, xr (aX m c) (aC m c) (row t n) j * rs (xr (aX m c) (aC m c) (row t n)) * (dh (aW m c) (aP m c) (row t n) j * sc (aM m c) (aMc m c) (row t n) j) :=
  (pay19_apply _ _ _ _).trans (Finset.sum_congr rfl fun n _ => congrArg₂ (· * ·) (congrArg₂ (· * ·) (xB_apply m c t n j) (congrArg rs (xB_row m c t n)))
    (congrArg₂ (· * ·) (hB_apply m c t n j) (sB_apply m c t n j)))

theorem row1 (j : Fin 1024) : (k0_pay16 (F := Ideal) (hB m c t) (ix2 0 j) : EReal) = ∑ n : Fin 256, dh (aW m c) (aP m c) (row t n) j :=
  (pay16_apply _ _).trans (Finset.sum_congr rfl fun n _ => hB_apply m c t n j)

theorem row2 (j : Fin 1024) : (k0_pay17 (F := Ideal) (hB m c t) (xB m c t) (iblk m c 9 t) (ix2 0 j) : EReal)
    = ∑ n : Fin 256, xr (aX m c) (aC m c) (row t n) j * rs (xr (aX m c) (aC m c) (row t n)) * aG m c (ix2 0 j) * dh (aW m c) (aP m c) (row t n) j :=
  (pay17_apply _ _ _ _).trans (Finset.sum_congr rfl fun n _ => congrArg₂ (· * ·) (congrArg₂ (· * ·) (congrArg₂ (· * ·) (xB_apply m c t n j) (congrArg rs (xB_row m c t n)))
    (congrFun (blk9 m c t) _)) (hB_apply m c t n j))

/-- The first tile adds to the rows of the context. -/
theorem part_first (h0 : t.val = 0) (k : Fin 8) (j : Fin 1024) : part m c t k j
    = if k.val = 4 then (k0_pay17 (F := Ideal) (hB m c t) (xB m c t) (iblk m c 9 t) (ix2 0 j) : EReal)
      else if k.val = 3 then (k0_pay16 (F := Ideal) (hB m c t) (ix2 0 j) : EReal)
      else if k.val = 0 then (k0_pay19 (F := Ideal) (hB m c t) (xB m c t) (mB m c t) (ix2 0 j) : EReal) else 0 := by
  have hr : ∀ n, (row t n).val < 256 := fun n => by have := n.isLt; show t.val * 256 + n.val < 256; omega
  rw [row0, row1, row2]
  unfold part term
  simp only [if_pos (hr _), ite_self]
  by_cases k4 : k.val = 4
  · simp [k4]
  by_cases k3 : k.val = 3
  · simp [k3]
  by_cases k0 : k.val = 0
  · simp [k0]
  simp only [k4, k3, k0, if_false, ite_self, Finset.sum_const_zero]

/-- The other tiles add to the rows of the tokens. -/
theorem part_next (h0 : t.val ≠ 0) (k : Fin 8) (j : Fin 1024) : part m c t k j
    = if k.val = 2 then (k0_pay17 (F := Ideal) (hB m c t) (xB m c t) (iblk m c 9 t) (ix2 0 j) : EReal)
      else if k.val = 1 then (k0_pay16 (F := Ideal) (hB m c t) (ix2 0 j) : EReal)
      else if k.val = 0 then (k0_pay19 (F := Ideal) (hB m c t) (xB m c t) (mB m c t) (ix2 0 j) : EReal) else 0 := by
  have hr : ∀ n, ¬ (row t n).val < 256 := fun n => by have := n.isLt; show ¬ t.val * 256 + n.val < 256; omega
  rw [row0, row1, row2]
  unfold part term
  simp only [if_neg (hr _), ite_self]
  by_cases k2 : k.val = 2
  · simp [k2]
  by_cases k1 : k.val = 1
  · simp [k1]
  by_cases k0 : k.val = 0
  · simp [k0]
  simp only [k2, k1, k0, if_false, ite_self, Finset.sum_const_zero]

theorem out13_A (h0 : t.val % 33 = 0) (y : S8x1024.Idx) : ((outsAt0 m c t.val t.isLt).2.2 y : EReal) = 0 + part m c t (y 0) (y 1) := by
  have ht : t.val < 33 := t.isLt
  rw [outsAt0_A m c t h0 h0 (by omega)]
  frame_open
  simp (disch := decide) only [↓ View.readCov_skip, ↓ View.readCov_cons_toLoadRect, ↓ View.readCov_fill]
  frame_out
  rw [Rows.canon_row, Rows.canon_row, Rows.canon_row, View.canon_cons_unit_lit _ _ _ (by decide)]
  refine Eq.trans ?_ (congrArg (0 + ·) (part_first m c t (by omega) (y 0) (y 1)).symm)
  split_ifs with k4 k3 k0
  · exact ((addl _ _ _).2.2.1).trans (congrArg₂ (· + ·) ((Rows.ld_row _ y _ k4).trans (pay7_apply _)) rfl)
  · exact ((addl _ _ _).2.1).trans (congrArg₂ (· + ·) ((Rows.ld_row _ y _ k3).trans (pay7_apply _)) rfl)
  · exact ((addl _ _ _).1).trans (congrArg₂ (· + ·) ((Rows.ld_row _ y _ k0).trans (pay7_apply _)) rfl)
  · exact (pay7_apply _).trans (add_zero _).symm

theorem out13_B (h0 : ¬ t.val % 33 = 0) (y : S8x1024.Idx) : ((outsAt0 m c t.val t.isLt).2.2 y : EReal)
    = (outsAt0 m c (t.val - 1) (by omega)).2.2 y + part m c t (y 0) (y 1) := by
  have ht : t.val < 33 := t.isLt
  rw [outsAt0_B m c t h0 h0 (by omega)]
  frame_out
  rw [Rows.read_row, Rows.read_row, Rows.read_row, View.writes_nil, Memref.IsWhole.read_unread]
  refine Eq.trans ?_ (congrArg ((outsAt0 m c (t.val - 1) (by omega)).2.2 y + ·) (part_next m c t (by omega) (y 0) (y 1)).symm)
  split_ifs with k2 k1 k0
  · exact ((addl _ _ _).2.2.2.2).trans (congrArg₂ (· + ·) (Rows.ld_row _ y _ k2) rfl)
  · exact ((addl _ _ _).2.2.2.1).trans (congrArg₂ (· + ·) (Rows.ld_row _ y _ k1) rfl)
  · exact ((addl _ _ _).1).trans (congrArg₂ (· + ·) (Rows.ld_row _ y _ k0) rfl)
  · exact (add_zero _).symm

theorem final11 : (dats m 0 c).arrAt 11 cfg0.N = dx (aX m c) (aC m c) (aM m c) (aMc m c) (aG m c) (aW m c) (aE m c) (aP m c) := by
  refine (dats m 0 c).arrAt_eq_of_covers 11 _ (by decide +kernel) fun t hf y => ?_
  obtain ⟨-, -, -, -, -, -, -, -, -, -, -, e, -⟩ := idx_facts t
  blk_simp
  rw [after0_11]
  refine (out11 m c t (fl11 t hf) y).trans (congrArg (dx (aX m c) (aC m c) (aM m c) (aMc m c) (aG m c) (aW m c) (aE m c) (aP m c)) ?_)
  blk_ext [e]

theorem final12 : (dats m 0 c).arrAt 12 cfg0.N = aP m c := by
  refine (dats m 0 c).arrAt_eq_of_covers 12 _ (by decide +kernel) fun t hf y => ?_
  obtain ⟨-, -, -, -, -, -, -, -, -, -, -, -, e, -⟩ := idx_facts t
  blk_simp
  rw [after0_12]
  refine (out12 m c t y).trans (congrArg (aP m c) ?_)
  blk_ext [e, row]

theorem flush_last : ∀ t : Fin cfg0.N, (cfg0.win 13).flush t = true → t.val % 33 = 32 :=
  (by decide +kernel : ∀ t : Fin grid0.N, _)

theorem parts_eq (k : Fin 8) (j : Fin 1024) (h : ∀ s : Fin 33, 33 * (t.val / 33) + s.val < cfg0.N) :
    ∑ s : Fin 33, part m c ⟨33 * (t.val / 33) + s.val, h s⟩ k j = acc (aX m c) (aC m c) (aM m c) (aMc m c) (aG m c) (aW m c) (aP m c) (ix2 k j) := by
  have ht : ∀ (s : Fin 33) (n : Fin 256) (hl : s.val * 256 + n.val < 8448), row ⟨33 * (t.val / 33) + s.val, h s⟩ n = ⟨s.val * 256 + n.val, hl⟩ :=
    fun s n _ => Fin.ext (by
      have := s.isLt
      have ht : t.val < 33 := t.isLt
      show (33 * (t.val / 33) + s.val) * 256 + n.val = s.val * 256 + n.val
      omega)
  exact Fin.sum_mul_add_congr (L := 8448) (S := 33) (n := 256) fun s n hl =>
    congrArg (term (aX m c) (aC m c) (aM m c) (aMc m c) (aG m c) (aW m c) (aP m c) k j) (ht s n hl)

theorem final13 : (dats m 0 c).arrAt 13 cfg0.N = acc (aX m c) (aC m c) (aM m c) (aMc m c) (aG m c) (aW m c) (aP m c) := by
  refine (dats m 0 c).arrAt_eq_of_covers 13 _ (by decide +kernel) fun t hf y => ?_
  obtain ⟨-, -, -, -, -, -, -, -, -, -, -, -, -, e⟩ := idx_facts t
  blk_simp
  rw [after0_13]
  refine (Pipeline.eq_sum_fin_of_reset_step_apply_of_flush (fun n h => (outsAt0 m c n h).2.2) 33 (fun _ => (0 : EReal))
    (fun t y => part m c t (y 0) (y 1)) (fun t h y => out13_A m c t h y) (fun t h y => out13_B m c t h y) t (flush_last t hf) y).trans ?_
  refine Eq.trans (zero_add _) ?_
  refine (parts_eq m c t (y 0) (y 1) _).trans (congrArg (acc (aX m c) (aC m c) (aM m c) (aMc m c) (aG m c) (aW m c) (aP m c)) ?_)
  blk_ext [e]

end Cert.Proof.Inb

end
-- ==== Proof.InbEq.lean ====
/- The gradient through the input projection: the reference's three results are the kernel's three functions. -/
module

public import proofs.«01_k».proof.Defs
public import proofs.«01_k».proof.Proof.Inb
public import proofs.«01_k».proof.Proof.Gen.ReferenceInbIdeal.Run
public import proofs.«01_k».proof.Proof.Gen.ReferenceInbIdeal.Read

@[expose] public section

noncomputable section

namespace Cert.Proof.Inb

open Cert.ReferenceInbIdeal Cert.ReferenceInbIdeal.Read Idealize.ShloMosaic Idealize.ShloMosaic.TcCoe Idealize.SL.Sem Cert.Proof.Norm

variable (X : S8192x1024.Idx → EReal) (C : S256x1024.Idx → EReal) (M Mc : S1x6144.Idx → EReal) (G : S1x1024.Idx → EReal) (W : S1024x3584.Idx → EReal)
  (E : S8192x1024.Idx → EReal) (U0 U1 U2 : S8448x512.Idx → EReal) (Z : S8448x3072.Idx → EReal)

/-- The row of context token `p`. -/
def ctx (p : Fin 256) : Fin 8448 := ⟨p.val, by omega⟩

theorem xr_lat (p : Fin 8192) : xr X C (lat p) = fun j => X (ix2 p j) := by
  funext j
  refine (dif_neg (show ¬ 256 + p.val < 256 by omega)).trans (congrArg (fun p => X (ix2 p j)) (Fin.ext ?_))
  show 256 + p.val - 256 = p.val
  omega

theorem xr_ctx (p : Fin 256) : xr X C (ctx p) = fun j => C (ix2 p j) := by
  funext j
  exact dif_pos p.isLt

theorem sc_lat (p : Fin 8192) (j : Fin 1024) : (val_main_v38 (F := Ideal) M (ix2 0 j) : EReal) = sc M Mc (lat p) j := by
  unfold sc
  rw [if_neg (show ¬ (lat p).val < 256 from fun h => absurd (show 256 + p.val < 256 from h) (by omega))]
  unfold val_main_v38 val_main_v37 val_main_cst_7 val_main_v1
  pointwise

theorem sc_ctx (p : Fin 256) (j : Fin 1024) : (val_main_v17 (F := Ideal) Mc (ix2 0 j) : EReal) = sc M Mc (ctx p) j := by
  unfold sc
  rw [if_pos (show (ctx p).val < 256 from p.isLt)]
  unfold val_main_v17 val_main_v16 val_main_cst_2 val_main_v3
  pointwise

/-! ## The gradient of the projection -/

theorem v48_eq (i : S8448x512.Idx) : (val_main_v48 (F := Ideal) U0 U1 U2 i : EReal) = U0 i + U1 i + U2 i := by
  unfold val_main_v48 val_main_v47
  pointwise

theorem v51_eq : (val_main_v51 (F := Ideal) U0 U1 U2 Z : S8448x3584.Idx → EReal) = dp U0 U1 U2 Z := by
  funext i
  obtain ⟨r, k, rfl⟩ : ∃ (r : Fin 8448) (k : Fin 3584), i = ix2 r k := ⟨i 0, i 1, (ix2_eta i).symm⟩
  show (val_main_v49 (F := Ideal) Z (ix2 r k) : EReal) + val_main_v50 (F := Ideal) U0 U1 U2 (ix2 r k)
    = if h : k.val < 512 then U0 (ix2 r ⟨k.val, h⟩) + U1 (ix2 r ⟨k.val, h⟩) + U2 (ix2 r ⟨k.val, h⟩) else Z (ix2 r ⟨k.val - 512, by omega⟩)
  unfold val_main_v49 val_main_v50
  split_ifs with h
  · rw [← v48_eq]
    refine (congrArg₂ (· + ·) (pad_apply_of_not_inside _ _ _ _ _ _ _ _ 1 ?_) (pad_apply_of_inside _ _ _ _ _ _ _ _ (ix2 r ⟨k.val, h⟩) fun x => ?_)).trans
      ((congrArg (· + _) (Ideal.ofBits_zero .f32)).trans (zero_add _))
    · show ¬ (512 ≤ k.val ∧ (k.val - 512) % 1 = 0 ∧ (k.val - 512) / 1 < 3072)
      omega
    · match x with
      | ⟨0, _⟩ => show r.val = 0 + r.val * 1; omega
      | ⟨1, _⟩ => show k.val = 0 + k.val * 1; omega
  · refine (congrArg₂ (· + ·) (pad_apply_of_inside _ _ _ _ _ _ _ _ (ix2 r ⟨k.val - 512, by omega⟩) fun x => ?_) (pad_apply_of_not_inside _ _ _ _ _ _ _ _ 1 ?_)).trans
      ((congrArg (_ + ·) (Ideal.ofBits_zero .f32)).trans (add_zero _))
    · match x with
      | ⟨0, _⟩ => show r.val = 0 + r.val * 1; omega
      | ⟨1, _⟩ => show k.val = 512 + (k.val - 512) * 1; omega
    · show ¬ (0 ≤ k.val ∧ (k.val - 0) % 1 = 0 ∧ (k.val - 0) / 1 < 512)
      omega

theorem v52_eq (r : Fin 8448) (j : Fin 1024) : (val_main_v52 (F := Ideal) W U0 U1 U2 Z (ix2 r j) : EReal) = dh W (dp U0 U1 U2 Z) r j := by
  unfold dh
  rw [← v51_eq]
  unfold val_main_v52
  pointwise

theorem v53_eq (p : Fin 256) (j : Fin 1024) : (val_main_v53 (F := Ideal) W U0 U1 U2 Z (ix2 p j) : EReal) = dh W (dp U0 U1 U2 Z) (ctx p) j := by
  rw [← v52_eq]
  unfold val_main_v53
  pointwise
  rfl

theorem v54_eq (p : Fin 8192) (j : Fin 1024) : (val_main_v54 (F := Ideal) W U0 U1 U2 Z (ix2 p j) : EReal) = dh W (dp U0 U1 U2 Z) (lat p) j := by
  rw [← v52_eq]
  unfold val_main_v54
  pointwise
  rfl

theorem v95_eq : (val_main_v95 (F := Ideal) U0 U1 U2 Z : S8448x3584.Idx → EReal) = dp U0 U1 U2 Z := by
  rw [← v51_eq]
  unfold val_main_v95
  rfl

/-! ## The context -/

theorem v11_eq (p : Fin 256) : (val_main_v11 (F := Ideal) C (ix2 p 0) : EReal) = rs fun j => C (ix2 p j) := by
  unfold rs ms
  unfold val_main_v11 val_main_v10 val_main_v9 val_main_v8 val_main_v7 val_main_v6 val_main_v5 val_main_v4 val_main_cst val_main_cst_0 val_main_cst_1
  pointwise

theorem v13_eq (p : Fin 256) (j : Fin 1024) : (val_main_v13 (F := Ideal) C (ix2 p j) : EReal) = xr X C (ctx p) j * rs (xr X C (ctx p)) := by
  rw [xr_ctx, ← v11_eq]
  unfold val_main_v13 val_main_v12
  pointwise

theorem v15_eq (p : Fin 256) (j : Fin 1024) : (val_main_v15 (F := Ideal) C G (ix2 p j) : EReal) = xr X C (ctx p) j * rs (xr X C (ctx p)) * G (ix2 0 j) := by
  rw [← v13_eq]
  unfold val_main_v15 val_main_v14
  pointwise

theorem v88_eq (p : Fin 256) (j : Fin 1024) : (val_main_v88 (F := Ideal) Mc W U0 U1 U2 Z (ix2 p j) : EReal) = dh W (dp U0 U1 U2 Z) (ctx p) j * sc M Mc (ctx p) j := by
  rw [← v53_eq, ← sc_ctx]
  unfold val_main_v88 val_main_v87
  pointwise

theorem v83_eq (j : Fin 1024) : (val_main_v83 (F := Ideal) W U0 U1 U2 Z (ix2 0 j) : EReal) = ∑ p : Fin 256, dh W (dp U0 U1 U2 Z) (ctx p) j := by
  simp only [← v53_eq]
  unfold val_main_v83 val_main_v82 val_main_cst_16
  pointwise

theorem v86_eq (j : Fin 1024) : (val_main_v86 (F := Ideal) C G W U0 U1 U2 Z (ix2 0 j) : EReal)
    = ∑ p : Fin 256, xr X C (ctx p) j * rs (xr X C (ctx p)) * G (ix2 0 j) * dh W (dp U0 U1 U2 Z) (ctx p) j := by
  simp only [← v53_eq, ← v15_eq]
  unfold val_main_v86 val_main_v85 val_main_cst_17 val_main_v84
  pointwise

theorem v91_eq (j : Fin 1024) : (val_main_v91 (F := Ideal) C Mc W U0 U1 U2 Z (ix2 0 j) : EReal)
    = ∑ p : Fin 256, xr X C (ctx p) j * rs (xr X C (ctx p)) * (dh W (dp U0 U1 U2 Z) (ctx p) j * sc M Mc (ctx p) j) := by
  simp only [← v88_eq, ← v13_eq]
  unfold val_main_v91 val_main_v90 val_main_cst_18 val_main_v89
  pointwise

/-! ## The tokens -/

theorem v29_eq (p : Fin 8192) : (val_main_v29 (F := Ideal) X (ix2 p 0) : EReal) = rs fun j => X (ix2 p j) := by
  unfold rs ms
  unfold val_main_v29 val_main_v28 val_main_v27 val_main_v26 val_main_v25 val_main_v24 val_main_v23 val_main_v22 val_main_cst_3 val_main_cst_4 val_main_cst_5
  pointwise

theorem v32_eq (p : Fin 8192) : (val_main_v32 (F := Ideal) X (ix2 p 0) : EReal) = rsd fun j => X (ix2 p j) := by
  unfold rsd rs ms
  unfold val_main_v32 val_main_v31 val_main_cst_6 val_main_v30 val_main_v29 val_main_v28 val_main_v27 val_main_v26 val_main_v25 val_main_v24 val_main_v23 val_main_v22 val_main_cst_3 val_main_cst_4 val_main_cst_5
  pointwise

theorem v34_eq (p : Fin 8192) (j : Fin 1024) : (val_main_v34 (F := Ideal) X (ix2 p j) : EReal) = xr X C (lat p) j * rs (xr X C (lat p)) := by
  rw [xr_lat, ← v29_eq]
  unfold val_main_v34 val_main_v33
  pointwise

theorem v36_eq (p : Fin 8192) (j : Fin 1024) : (val_main_v36 (F := Ideal) X G (ix2 p j) : EReal) = xr X C (lat p) j * rs (xr X C (lat p)) * G (ix2 0 j) := by
  rw [← v34_eq]
  unfold val_main_v36 val_main_v35
  pointwise

theorem v61_eq (p : Fin 8192) (j : Fin 1024) : (val_main_v61 (F := Ideal) M W U0 U1 U2 Z (ix2 p j) : EReal) = dh W (dp U0 U1 U2 Z) (lat p) j * sc M Mc (lat p) j := by
  rw [← v54_eq, ← sc_lat]
  unfold val_main_v61 val_main_v60
  pointwise

theorem v66_eq (p : Fin 8192) (j : Fin 1024) : (val_main_v66 (F := Ideal) M G W U0 U1 U2 Z (ix2 p j) : EReal) = dy M Mc G W (dp U0 U1 U2 Z) (lat p) j := by
  unfold dy
  rw [← v61_eq]
  unfold val_main_v66 val_main_v65
  pointwise

theorem v77_eq (p : Fin 8192) (j : Fin 1024) : (val_main_v77 (F := Ideal) X M G W U0 U1 U2 Z (ix2 p j) : EReal)
    = qm (xr X C (lat p)) (dy M Mc G W (dp U0 U1 U2 Z) (lat p)) := by
  unfold qm
  rw [xr_lat]
  simp only [← v32_eq, ← v66_eq]
  unfold val_main_v77 val_main_v76 val_main_cst_15 val_main_v75 val_main_v74 val_main_cst_14 val_main_v73 val_main_v69 val_main_v68 val_main_cst_13 val_main_v67
  pointwise
  simp only [Fin.sum_univ_one]

theorem v81_eq (p : Fin 8192) (j : Fin 1024) : (val_main_v81 (F := Ideal) X M G W E U0 U1 U2 Z (ix2 p j) : EReal) = dx X C M Mc G W E (dp U0 U1 U2 Z) (ix2 p j) := by
  show _ = E (ix2 p j) + (dy M Mc G W (dp U0 U1 U2 Z) (lat p) j * rs (xr X C (lat p))
    + xr X C (lat p) j * qm (xr X C (lat p)) (dy M Mc G W (dp U0 U1 U2 Z) (lat p))
    + qm (xr X C (lat p)) (dy M Mc G W (dp U0 U1 U2 Z) (lat p)) * xr X C (lat p) j)
  rw [← v77_eq X C M Mc G W U0 U1 U2 Z p j, ← v66_eq, xr_lat, ← v29_eq, ← add_assoc, ← add_assoc]
  unfold val_main_v81 val_main_v80 val_main_v79 val_main_v78 val_main_v72 val_main_v71 val_main_v70
  pointwise

theorem v56_eq (j : Fin 1024) : (val_main_v56 (F := Ideal) W U0 U1 U2 Z (ix2 0 j) : EReal) = ∑ p : Fin 8192, dh W (dp U0 U1 U2 Z) (lat p) j := by
  simp only [← v54_eq]
  unfold val_main_v56 val_main_v55 val_main_cst_10
  pointwise

theorem v59_eq (j : Fin 1024) : (val_main_v59 (F := Ideal) X G W U0 U1 U2 Z (ix2 0 j) : EReal)
    = ∑ p : Fin 8192, xr X C (lat p) j * rs (xr X C (lat p)) * G (ix2 0 j) * dh W (dp U0 U1 U2 Z) (lat p) j := by
  simp only [← v54_eq, ← v36_eq]
  unfold val_main_v59 val_main_v58 val_main_cst_11 val_main_v57
  pointwise

theorem v64_eq (j : Fin 1024) : (val_main_v64 (F := Ideal) X M W U0 U1 U2 Z (ix2 0 j) : EReal)
    = ∑ p : Fin 8192, xr X C (lat p) j * rs (xr X C (lat p)) * (dh W (dp U0 U1 U2 Z) (lat p) j * sc M Mc (lat p) j) := by
  simp only [← v61_eq, ← v34_eq]
  unfold val_main_v64 val_main_v63 val_main_cst_12 val_main_v62
  pointwise

theorem v92_eq (j : Fin 1024) : (val_main_v92 (F := Ideal) X C M Mc W U0 U1 U2 Z (ix2 0 j) : EReal)
    = (∑ p : Fin 8192, xr X C (lat p) j * rs (xr X C (lat p)) * (dh W (dp U0 U1 U2 Z) (lat p) j * sc M Mc (lat p) j))
      + ∑ p : Fin 256, xr X C (ctx p) j * rs (xr X C (ctx p)) * (dh W (dp U0 U1 U2 Z) (ctx p) j * sc M Mc (ctx p) j) := by
  rw [← v64_eq, ← v91_eq]
  unfold val_main_v92
  pointwise

/-! ## The third result, its sum split into context and tokens -/

theorem acc_split (P : S8448x3584.Idx → EReal) (k : Fin 8) (j : Fin 1024) : acc X C M Mc G W P (ix2 k j)
    = (∑ p : Fin 8192, term X C M Mc G W P k j (lat p)) + ∑ p : Fin 256, term X C M Mc G W P k j (ctx p) :=
  (Fin.sum_univ_add (M := EReal) (a := 256) (b := 8192) fun r : Fin 8448 => term X C M Mc G W P k j r).trans (add_comm _ _)

theorem term_lat (P : S8448x3584.Idx → EReal) (k : Fin 8) (j : Fin 1024) (p : Fin 8192) : term X C M Mc G W P k j (lat p)
    = if k.val = 0 then xr X C (lat p) j * rs (xr X C (lat p)) * (dh W P (lat p) j * sc M Mc (lat p) j)
      else if k.val = 1 then dh W P (lat p) j
      else if k.val = 2 then xr X C (lat p) j * rs (xr X C (lat p)) * G (ix2 0 j) * dh W P (lat p) j else 0 := by
  unfold term
  simp only [if_neg (show ¬ (lat p).val < 256 from fun h => absurd (show 256 + p.val < 256 from h) (by omega)), ite_self]

theorem term_ctx (P : S8448x3584.Idx → EReal) (k : Fin 8) (j : Fin 1024) (p : Fin 256) : term X C M Mc G W P k j (ctx p)
    = if k.val = 0 then xr X C (ctx p) j * rs (xr X C (ctx p)) * (dh W P (ctx p) j * sc M Mc (ctx p) j)
      else if k.val = 1 then 0 else if k.val = 2 then 0
      else if k.val = 3 then dh W P (ctx p) j
      else if k.val = 4 then xr X C (ctx p) j * rs (xr X C (ctx p)) * G (ix2 0 j) * dh W P (ctx p) j else 0 := by
  unfold term
  simp only [if_pos (show (ctx p).val < 256 from p.isLt)]

theorem v94_eq : (val_main_v94 (F := Ideal) X C M Mc G W U0 U1 U2 Z : S8x1024.Idx → EReal) = acc X C M Mc G W (dp U0 U1 U2 Z) := by
  funext i
  obtain ⟨k, j, rfl⟩ : ∃ (k : Fin 8) (j : Fin 1024), i = ix2 k j := ⟨i 0, i 1, (ix2_eta i).symm⟩
  rw [acc_split]
  simp only [term_lat, term_ctx]
  unfold val_main_v94 val_main_v93 val_main_cst_19
  pointwise
  by_cases hk : 4 < k.val
  · rw [dif_neg (by omega), dif_neg (by omega), dif_neg (by omega), dif_neg (by omega), dif_neg (by omega)]
    refine ((congrArg₂ (· + ·) (Finset.sum_eq_zero fun p _ => ?_) (Finset.sum_eq_zero fun p _ => ?_)).trans (add_zero _)).symm
    · rw [if_neg (by omega), if_neg (by omega), if_neg (by omega)]
    · rw [if_neg (by omega), if_neg (by omega), if_neg (by omega), if_neg (by omega), if_neg (by omega)]
  · obtain rfl | rfl | rfl | rfl | rfl : k = 0 ∨ k = 1 ∨ k = 2 ∨ k = 3 ∨ k = 4 := by omega
    · exact v92_eq X C M Mc W U0 U1 U2 Z j
    · exact (v56_eq W U0 U1 U2 Z j).trans ((congrArg (_ + ·) Finset.sum_const_zero).trans (add_zero _)).symm
    · exact (v59_eq X C G W U0 U1 U2 Z j).trans ((congrArg (_ + ·) Finset.sum_const_zero).trans (add_zero _)).symm
    · exact (v83_eq W U0 U1 U2 Z j).trans ((congrArg (· + _) Finset.sum_const_zero).trans (zero_add _)).symm
    · exact (v86_eq X C G W U0 U1 U2 Z j).trans ((congrArg (· + _) Finset.sum_const_zero).trans (zero_add _)).symm

/-- The kernel and the reference end with the same three arrays. -/
theorem algebraic : Cert.algebraic_KernelInbIdeal_ReferenceInbIdeal := by
  intro m g m' g' _ hagree
  refine ⟨_, _, _, (θ_run _ _ _).mono (fun r h c => ⟨(h c).1.trans (final11 m c), (h c).2.1.trans (final12 m c), (h c).2.2.1.trans (final13 m c), (h c).2.2.2⟩)
    (Cert.KernelInbIdeal.Value.run_blocks m g), ?_⟩
  refine (θ_run _ _ _).mono (fun r h c => ?_) (Cert.ReferenceInbIdeal.Value.run m' g')
  obtain ⟨h1, h2, h3, hk⟩ := h c
  obtain ⟨a0, a1, a2, a3, a4, a5, a6, a7, a8, a9, a10⟩ := hagree c
  refine ⟨h1.trans ?_, h2.trans ?_, h3.trans ?_, hk⟩
  · rw [val_main_v81_eq, a0, a2, a4, a5, a6, a7, a8, a9, a10]
    exact funext fun i => (congrArg _ (ix2_eta i)).symm.trans ((v81_eq _ (aC m c) _ (aMc m c) _ _ _ _ _ _ _ (i 0) (i 1)).trans (congrArg _ (ix2_eta i)))
  · rw [val_main_v95_eq, a7, a8, a9, a10]
    exact v95_eq _ _ _ _
  · rw [val_main_v94_eq, a0, a1, a2, a3, a4, a5, a7, a8, a9, a10]
    exact v94_eq _ _ _ _ _ _ _ _ _ _

/-- The reference runs and leaves its arguments. -/
theorem frame_reference : Cert.quiescent_ReferenceInbIdeal := fun m ρ _ =>
  (θ_run _ _ _).mono (fun _ h => ⟨fun c => (h c).2.2.2, funext fun ⟨_, s⟩ => by rcases s with s | s <;> exact s.elim0⟩)
    (Cert.ReferenceInbIdeal.Value.run m ρ)

end Cert.Proof.Inb

end
-- ==== Proof.Down.lean ====
/- The second half of the feed-forward part, its depthwise convolution, gate and product, with the loss and the gradient of the loss: what the kernel leaves in its six result arrays. -/
module

public import proofs.«01_k».proof.Proof.Gen.KernelDownIdeal.Frame
public import proofs.«01_k».proof.Proof.Norm
public import proofs.«01_k».proof.Proof.Conv

@[expose] public section

noncomputable section

namespace Cert.Proof.Down

open Cert.KernelDownIdeal Cert.KernelDownIdeal.Gen Idealize.ShloMosaic Idealize.ShloMosaic.TcCoe Idealize.SL.Sem Cert.Proof.Norm
open Cert.Proof.Conv (tapH tap_lo tap_mid tap_hi select_lo select_hi select_one select_zero edge_words)

/-! ## The six results, of the arguments -/

/-- The element that tap `(ky, kx)` meets for token `p` of the grid: zero outside of it. -/
def tp (U : S8192x5632.Idx → EReal) (ky kx : Fin 3) (p : Fin 8192) (q : Fin 5632) : EReal :=
  if h : (1 ≤ p.val % 64 + kx.val ∧ p.val % 64 + kx.val ≤ 64) ∧ 65 ≤ p.val + 64 * ky.val + kx.val ∧ p.val + 64 * ky.val + kx.val < 8257 then
    U (ix2 ⟨p.val + 64 * ky.val + kx.val - 65, by omega⟩ q) else 0

/-- Nine taps times nine weights, and a bias. -/
def nine (T w : Fin 3 → Fin 3 → EReal) (b : EReal) : EReal :=
  T 0 0 * w 0 0 + T 0 1 * w 0 1 + T 0 2 * w 0 2 + T 1 0 * w 1 0 + T 1 1 * w 1 1 + T 1 2 * w 1 2 + T 2 0 * w 2 0 + T 2 1 * w 2 1 + T 2 2 * w 2 2 + b

variable (U : S8192x5632.Idx → EReal) (W : S3x3x5632.Idx → EReal) (B : S1x5632.Idx → EReal) (D : S2816x1024.Idx → EReal)
  (X T : S8192x1024.Idx → EReal) (M : S1x6144.Idx → EReal) (G : S1x1024.Idx → EReal)

/-- The convolution. -/
def cnv (p : Fin 8192) (q : Fin 5632) : EReal := nine (fun ky kx => tp U ky kx p q) (fun ky kx => W (ix3 ky kx q)) (B (ix2 0 q))

/-- The gate's and the value's channel. -/
def lo (q : Fin 2816) : Fin 5632 := ⟨q.val, by omega⟩
def hi (q : Fin 2816) : Fin 5632 := ⟨2816 + q.val, by omega⟩

def gate (i : S8192x2816.Idx) : EReal := cnv U W B (i 0) (lo (i 1))
def val (i : S8192x2816.Idx) : EReal := cnv U W B (i 0) (hi (i 1))

/-- The gated value. -/
def act (i : S8192x2816.Idx) : EReal := gate U W B i * Ideal.logistic (gate U W B i) * val U W B i

/-- Its product with the weights. -/
def ffn (p : Fin 8192) (j : Fin 1024) : EReal := ∑ q : Fin 2816, act U W B (ix2 p q) * D (ix2 q j)

/-- The row that the last norm takes. -/
def row (x a f : Fin 1024 → EReal) (j : Fin 1024) : EReal := x j + a j * f j

/-- The normed row less the target. -/
def err (x g s : Fin 1024 → EReal) (j : Fin 1024) : EReal := x j * rs x * g j - s j

/-- The gradient of the loss there. -/
def derr (x g s : Fin 1024 → EReal) (j : Fin 1024) : EReal :=
  err x g s j * (Ideal.ofBits .f32 0x3F000000#32 * (1 * Ideal.ofBits .f32 0x3A800000#32))
    + Ideal.ofBits .f32 0x3F000000#32 * (1 * Ideal.ofBits .f32 0x3A800000#32) * err x g s j

/-- The gradient of the row. -/
def drow (x g s : Fin 1024 → EReal) (j : Fin 1024) : EReal := dnorm x (fun k => derr x g s k * g k) j

def ga (j : Fin 1024) : EReal := M (ix2 0 ⟨5120 + j.val, by omega⟩)
def gf (j : Fin 1024) : EReal := G (ix2 0 j)
def tg (p : Fin 8192) (j : Fin 1024) : EReal := T (ix2 p j)
def x2 (p : Fin 8192) : Fin 1024 → EReal := row (fun j => X (ix2 p j)) (ga M) (ffn U W B D p)

def dx2 (i : S8192x1024.Idx) : EReal := drow (x2 U W B D X M (i 0)) (gf G) (tg T (i 0)) (i 1)
def dffn (i : S8192x1024.Idx) : EReal := ga M (i 1) * dx2 U W B D X T M G i

/-- What a token gives to an element of the sixth result. -/
def term (k : Fin 8) (j : Fin 1024) (p : Fin 8192) : EReal :=
  if k.val = 2 then Ideal.ofBits .f32 0x3F000000#32 * (∑ j : Fin 1024, err (x2 U W B D X M p) (gf G) (tg T p) j * err (x2 U W B D X M p) (gf G) (tg T p) j) * Ideal.ofBits .f32 0x3A800000#32
  else if k.val = 1 then x2 U W B D X M p j * rs (x2 U W B D X M p) * derr (x2 U W B D X M p) (gf G) (tg T p) j
  else if k.val = 0 then drow (x2 U W B D X M p) (gf G) (tg T p) j * ffn U W B D p j
  else 0

/-- The sixth result: the gradients of the gate's row and of the norm's weights, the loss, then zero rows. -/
def acc (i : S8x1024.Idx) : EReal := ∑ p : Fin 8192, term U W B D X T M G (i 0) (i 1) p

/-! ## The values of the body -/

set_option maxHeartbeats 1000000 in
theorem gate_apply (H : FVec Ideal S384x1408 .f32) (w : FVec Ideal S9x1408 .f32) (b : FVec Ideal S1x1408 .f32) (y : S256x1408.Idx) :
    (k0_pay35 (F := Ideal) (k0_pay22 w) (k0_pay26 H k0_pay23 1#32) (k0_pay27 H) (k0_pay28 H k0_pay23) (k0_pay29 H k0_pay23 1#32) (k0_pay30 H)
      (k0_pay31 H k0_pay23) (k0_pay32 H k0_pay23 1#32) (k0_pay33 H) (k0_pay34 H k0_pay23) b y : EReal)
      = nine (fun ky kx => tapH H ky kx (y 0) (y 1)) (fun ky kx => w (ix2 ⟨3 * ky.val + kx.val, by omega⟩ (y 1))) (b (ix2 0 (y 1))) := by
  have hy : (y 0).val < 256 := (y 0).isLt
  unfold nine
  unfold_payloads
  pointwise
  refine congrArg₂ (· + ·) (congrArg₂ (· + ·) (congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_) ?_) rfl
  all_goals
    try refine (Conv.select_mul _ _ _).trans ?_
    refine congrArg₂ (· * ·) ?_ rfl
    first
      | exact tap_mid H _ (y 0) (y 1) _ (by (try simp only [Fin.isValue, Fin.val_zero, Fin.val_one, Fin.val_two]) <;> omega)
      | refine (select_lo _ (y 0) _ _ ?_).trans (tap_lo H _ (y 0) (y 1) _ fun _ => (by (try simp only [Fin.isValue, Fin.val_zero, Fin.val_one, Fin.val_two]) <;> omega))
        generalize (y 0 : Fin 256) = n
        revert n; decide +kernel
      | refine (select_hi _ (y 0) _ _ ?_).trans (tap_hi H _ (y 0) (y 1) _ fun _ => (by (try simp only [Fin.isValue, Fin.val_zero, Fin.val_one, Fin.val_two]) <;> omega))
        generalize (y 0 : Fin 256) = n
        revert n; decide +kernel

set_option maxHeartbeats 1000000 in
theorem val_apply (H : FVec Ideal S384x1408 .f32) (w : FVec Ideal S9x1408 .f32) (b : FVec Ideal S1x1408 .f32) (y : S256x1408.Idx) :
    (k0_pay1 (F := Ideal) (k0_pay46 k0_pay38 (k0_pay40 H)) (k0_pay47 H (k0_pay37 w) k0_pay38 (k0_pay39 H) (k0_pay40 H) (k0_pay41 H) (k0_pay42 H) (k0_pay43 H)
      (k0_pay44 H) (k0_pay45 H)) (k0_pay48 (k0_pay37 w)) b y : EReal)
      = nine (fun ky kx => tapH H ky kx (y 0) (y 1)) (fun ky kx => w (ix2 ⟨3 * ky.val + kx.val, by omega⟩ (y 1))) (b (ix2 0 (y 1))) := by
  have hy : (y 0).val < 256 := (y 0).isLt
  unfold nine
  unfold_payloads
  pointwise
  refine congrArg₂ (· + ·) (congrArg₂ (· + ·) (congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_) ?_) rfl
  all_goals
    try refine (Conv.select_mul _ _ _).trans ?_
    refine congrArg₂ (· * ·) ?_ rfl
    first
      | exact tap_mid H _ (y 0) (y 1) _ (by (try simp only [Fin.isValue, Fin.val_zero, Fin.val_one, Fin.val_two]) <;> omega)
      | refine (select_lo _ (y 0) _ _ ?_).trans (tap_lo H _ (y 0) (y 1) _ fun _ => (by (try simp only [Fin.isValue, Fin.val_zero, Fin.val_one, Fin.val_two]) <;> omega))
        generalize (y 0 : Fin 256) = n
        revert n; decide +kernel
      | refine (select_hi _ (y 0) _ _ ?_).trans (tap_hi H _ (y 0) (y 1) _ fun _ => (by (try simp only [Fin.isValue, Fin.val_zero, Fin.val_one, Fin.val_two]) <;> omega))
        generalize (y 0 : Fin 256) = n
        revert n; decide +kernel

/-- The gated value, from gate and value. -/
theorem pay2_apply (g p46 p47 : FVec Ideal S256x1408 .f32) (p48 b : FVec Ideal S1x1408 .f32) (y : S256x1408.Idx) :
    (k0_pay2 (F := Ideal) g p46 p47 p48 b y : EReal) = g y * Ideal.logistic (g y) * k0_pay1 (F := Ideal) p46 p47 p48 b y := by
  unfold k0_pay2
  pointwise

theorem pay4_apply (g p46 p47 : FVec Ideal S256x1408 .f32) (p48 b : FVec Ideal S1x1408 .f32) (d : FVec Ideal S1408x1024 .bf16) (a : Fin 256) (j : Fin 1024) :
    (k0_pay4 (F := Ideal) g p46 p47 p48 b d (ix2 a j) : EReal) = ∑ q : Fin 1408, k0_pay2 (F := Ideal) g p46 p47 p48 b (ix2 a q) * d (ix2 q j) := by
  unfold k0_pay4 k0_pay3
  pointwise

theorem pay5_apply (g p46 p47 : FVec Ideal S256x1408 .f32) (p48 b : FVec Ideal S1x1408 .f32) (d : FVec Ideal S1408x1024 .bf16) (s : FVec Ideal S256x1024 .f32)
    (a : Fin 256) (j : Fin 1024) :
    (k0_pay5 (F := Ideal) g p46 p47 p48 b d s (ix2 a j) : EReal) = s (ix2 a j) + ∑ q : Fin 1408, k0_pay2 (F := Ideal) g p46 p47 p48 b (ix2 a q) * d (ix2 q j) := by
  unfold k0_pay5 k0_pay3
  pointwise

section
variable (f x s : FVec Ideal S256x1024 .f32) (a g : FVec Ideal S1x1024 .f32) (n : Fin 256)

/-- Row `n` of a tile, as the last norm takes it. -/
abbrev tr (n : Fin 256) : Fin 1024 → EReal := row (fun j => x (ix2 n j)) (fun j => a (ix2 0 j)) (fun j => f (ix2 n j))

theorem pay6_apply (j : Fin 1024) : (k0_pay6 (F := Ideal) f a x (ix2 n j) : EReal) = tr f x a n j := by
  show _ = x (ix2 n j) + a (ix2 0 j) * f (ix2 n j)
  unfold_payloads
  pointwise

theorem pay7_apply : (k0_pay7 (F := Ideal) f a x (ix2 n 0) : EReal) = ms (tr f x a n) := by
  unfold ms
  simp only [← pay6_apply]
  unfold k0_pay7
  pointwise

theorem pay8_apply : (k0_pay8 (F := Ideal) f a x (ix2 n 0) : EReal) = rs (tr f x a n) := by
  unfold rs
  rw [← pay7_apply]
  unfold k0_pay8
  pointwise

theorem pay9_apply : (k0_pay9 (F := Ideal) f a x (ix2 n 0) : EReal) = rsd (tr f x a n) := by
  unfold rsd
  rw [← pay7_apply, ← pay8_apply]
  unfold k0_pay9
  pointwise

theorem pay10_apply (j : Fin 1024) : (k0_pay10 (F := Ideal) f a x (ix2 n j) : EReal) = tr f x a n j * rs (tr f x a n) := by
  rw [← pay6_apply, ← pay8_apply]
  unfold k0_pay10
  pointwise

theorem pay11_apply (j : Fin 1024) : (k0_pay11 (F := Ideal) f a x g s (ix2 n j) : EReal) = err (tr f x a n) (fun j => g (ix2 0 j)) (fun j => s (ix2 n j)) j := by
  unfold err
  rw [← pay10_apply]
  unfold k0_pay11
  pointwise

theorem pay13_apply (j : Fin 1024) : (k0_pay13 (F := Ideal) f a x g s (ix2 n j) : EReal) = derr (tr f x a n) (fun j => g (ix2 0 j)) (fun j => s (ix2 n j)) j := by
  unfold derr
  rw [← pay11_apply]
  unfold k0_pay13
  pointwise

theorem pay15_apply (j : Fin 1024) : (k0_pay15 (F := Ideal) (k0_pay6 f a x) g (k0_pay8 f a x) (k0_pay9 f a x) (k0_pay13 f a x g s) (ix2 n j) : EReal)
    = drow (tr f x a n) (fun j => g (ix2 0 j)) (fun j => s (ix2 n j)) j := by
  unfold drow dnorm qm
  rw [← pay8_apply, ← pay9_apply]
  simp only [← pay6_apply, ← pay13_apply]
  generalize k0_pay6 (F := Ideal) f a x = v6
  generalize k0_pay8 (F := Ideal) f a x = v8
  generalize k0_pay9 (F := Ideal) f a x = v9
  generalize k0_pay13 (F := Ideal) f a x g s = v13
  unfold k0_pay15
  pointwise
  simp only [Fin.sum_univ_one]

theorem pay16_apply (v6 v13 : FVec Ideal S256x1024 .f32) (v8 v9 : FVec Ideal S256x1 .f32) (j : Fin 1024) :
    (k0_pay16 (F := Ideal) a v6 g v8 v9 v13 (ix2 n j) : EReal) = a (ix2 0 j) * k0_pay15 (F := Ideal) v6 g v8 v9 v13 (ix2 n j) := by
  unfold k0_pay16
  pointwise

theorem pay17_apply (v6 v13 : FVec Ideal S256x1024 .f32) (v8 v9 : FVec Ideal S256x1 .f32) (l : FVec Ideal S1x1024 .f32) (j : Fin 1024) :
    (k0_pay17 (F := Ideal) f v6 g v8 v9 v13 l (ix2 0 j) : EReal) = l (ix2 0 j) + ∑ n : Fin 256, k0_pay15 (F := Ideal) v6 g v8 v9 v13 (ix2 n j) * f (ix2 n j) := by
  unfold k0_pay17
  pointwise

theorem pay18_apply (l : FVec Ideal S1x1024 .f32) (j : Fin 1024) :
    (k0_pay18 (F := Ideal) (k0_pay14 f a x g s) l (ix2 0 j) : EReal)
      = l (ix2 0 j) + ∑ n : Fin 256, tr f x a n j * rs (tr f x a n) * derr (tr f x a n) (fun j => g (ix2 0 j)) (fun j => s (ix2 n j)) j := by
  simp only [← pay10_apply, ← pay13_apply]
  unfold k0_pay18 k0_pay14
  pointwise

theorem pay19_apply (v : EReal) (l : FVec Ideal S1x1024 .f32) (j : Fin 1024) : (k0_pay19 (F := Ideal) v l (ix2 0 j) : EReal) = l (ix2 0 j) + v := by
  unfold k0_pay19
  pointwise

theorem pay20_apply (y : S8x1024.Idx) : (k0_pay20 (F := Ideal) y : EReal) = 0 := by
  unfold_payloads
  pointwise

theorem pay12_apply : (k0_pay12 (F := Ideal) f a x g s : EReal) = Ideal.ofBits .f32 0x3F000000#32
    * (∑ n : Fin 256, ∑ j : Fin 1024, err (tr f x a n) (fun j => g (ix2 0 j)) (fun j => s (ix2 n j)) j * err (tr f x a n) (fun j => g (ix2 0 j)) (fun j => s (ix2 n j)) j)
    * Ideal.ofBits .f32 0x3A800000#32 := by
  simp only [← pay11_apply]
  unfold k0_pay12
  pointwise
end

/-! ## The blocks of a point -/

variable (m : (ℓ : Loc nD τ sig) → Buf (Elt Ideal) ℓ) (ρ : Dev nD → PrngReg)
variable (c : Dev nD) (t : Fin cfg0.N)

abbrev aU : S8192x5632.Idx → EReal := m ((c : Thread nD τ).loc main_arg0)
abbrev aW : S3x3x5632.Idx → EReal := m ((c : Thread nD τ).loc main_arg1)
abbrev aB : S1x5632.Idx → EReal := m ((c : Thread nD τ).loc main_arg2)
abbrev aD : S2816x1024.Idx → EReal := m ((c : Thread nD τ).loc main_arg3)
abbrev aX : S8192x1024.Idx → EReal := m ((c : Thread nD τ).loc main_arg4)
abbrev aT : S8192x1024.Idx → EReal := m ((c : Thread nD τ).loc main_arg5)
abbrev aM : S1x6144.Idx → EReal := m ((c : Thread nD τ).loc main_arg6)
abbrev aG : S1x1024.Idx → EReal := m ((c : Thread nD τ).loc main_arg7)

/-- Grid point `t` works on row tile `t / 2` and column block `t % 2`. -/
theorem idx_facts : ∀ t : Fin cfg0.N,
    win0_0.index t = ![t.val / 2 * 4 - 1, t.val % 2] ∧ win0_1.index t = ![t.val / 2, t.val % 2]
    ∧ win0_2.index t = ![min (t.val / 2 * 4 + 4) 127, t.val % 2] ∧ win0_3.index t = ![t.val / 2 * 4 - 1, t.val % 2]
    ∧ win0_4.index t = ![t.val / 2, t.val % 2] ∧ win0_5.index t = ![min (t.val / 2 * 4 + 4) 127, t.val % 2]
    ∧ win0_6.index t = ![0, t.val % 2] ∧ win0_7.index t = ![0, t.val % 2] ∧ win0_8.index t = ![0, t.val % 2] ∧ win0_9.index t = ![0, t.val % 2]
    ∧ win0_10.index t = ![t.val % 2, 0] ∧ win0_11.index t = ![t.val / 2, 0] ∧ win0_12.index t = ![t.val / 2, 0]
    ∧ win0_13.index t = ![0, 0] ∧ win0_14.index t = ![0, 0] ∧ (grid0.coords t 0).val = t.val / 2 :=
  (by decide +kernel : ∀ t : Fin grid0.N, _)

theorem out_facts : ∀ t : Fin cfg0.N,
    win0_15.index t = ![t.val / 2, t.val % 2] ∧ win0_16.index t = ![t.val / 2, t.val % 2] ∧ win0_17.index t = ![t.val / 2, t.val % 2]
    ∧ win0_18.index t = ![t.val / 2, 0] ∧ win0_19.index t = ![t.val / 2, 0] ∧ win0_20.index t = ![0, 0] :=
  (by decide +kernel : ∀ t : Fin grid0.N, _)

/-- The token that is token `n` of point `t`'s tile, and its channel `q`. -/
def tok (t : Fin cfg0.N) (n : Fin 256) : Fin 8192 := ⟨t.val / 2 * 256 + n.val, by have h : t.val < 64 := t.isLt; have := n.isLt; omega⟩
def chn (t : Fin cfg0.N) (q : Fin 1408) : Fin 2816 := ⟨t.val % 2 * 1408 + q.val, by have := q.isLt; omega⟩

theorem v1_eq (p : Fin 8192) (q : Fin 2816) : (V m c main_v1 (ix2 p q) : EReal) = aU m c (ix2 p (lo q)) := by
  have e : V m c main_v1 = extractStridedSlice S8192x2816 ![0, 0] (aU m c) slices_S8192x5632_S8192x2816_0_0 := by
    show StableHlo.after _ _ _ = _
    after_results
  rw [e]
  refine congrArg (aU m c) ?_
  blk_ext [lo]
  all_goals rfl

theorem v2_eq (p : Fin 8192) (q : Fin 2816) : (V m c main_v2 (ix2 p q) : EReal) = aU m c (ix2 p (hi q)) := by
  have e : V m c main_v2 = extractStridedSlice S8192x2816 ![0, 2816] (aU m c) slices_S8192x5632_S8192x2816_0_2816 := by
    show StableHlo.after _ _ _ = _
    after_results
  rw [e]
  refine congrArg (aU m c) ?_
  blk_ext [hi]
  all_goals rfl

theorem w9_eq (ky kx : Fin 3) (q : Fin 5632) : (shapeCast S9x5632 (aW m c) shapeCasts_S3x3x5632_S9x5632 (ix2 ⟨3 * ky.val + kx.val, by omega⟩ q) : EReal) = aW m c (ix3 ky kx q) := by
  refine shapeCast_apply (s := S3x3x5632) (aW m c) _ _ (ix3 ky kx q) ?_
  rw [Shape.rowMajor_val_three, Shape.rowMajor_val_two]
  show (ky.val * 3 + kx.val) * 5632 + q.val = (3 * ky.val + kx.val) * 5632 + q.val
  omega

theorem v3_eq (ky kx : Fin 3) (q : Fin 2816) : (V m c main_v3 (ix2 ⟨3 * ky.val + kx.val, by omega⟩ q) : EReal) = aW m c (ix3 ky kx (lo q)) := by
  have e : V m c main_v3 = extractStridedSlice S9x2816 ![0, 0] (shapeCast S9x5632 (aW m c) shapeCasts_S3x3x5632_S9x5632) slices_S9x5632_S9x2816_0_0 := by
    show StableHlo.after _ _ _ = _
    after_results
    rfl
  rw [e, ← w9_eq]
  refine congrArg (shapeCast S9x5632 (aW m c) shapeCasts_S3x3x5632_S9x5632) ?_
  blk_ext [lo]
  all_goals rfl

theorem v4_eq (ky kx : Fin 3) (q : Fin 2816) : (V m c main_v4 (ix2 ⟨3 * ky.val + kx.val, by omega⟩ q) : EReal) = aW m c (ix3 ky kx (hi q)) := by
  have e : V m c main_v4 = extractStridedSlice S9x2816 ![0, 2816] (shapeCast S9x5632 (aW m c) shapeCasts_S3x3x5632_S9x5632) slices_S9x5632_S9x2816_0_2816 := by
    show StableHlo.after _ _ _ = _
    after_results
    rfl
  rw [e, ← w9_eq]
  refine congrArg (shapeCast S9x5632 (aW m c) shapeCasts_S3x3x5632_S9x5632) ?_
  blk_ext [hi]
  all_goals rfl

theorem v5_eq (q : Fin 2816) : (V m c main_v5 (ix2 0 q) : EReal) = aB m c (ix2 0 (lo q)) := by
  have e : V m c main_v5 = extractStridedSlice S1x2816 ![0, 0] (aB m c) slices_S1x5632_S1x2816_0_0 := by
    show StableHlo.after _ _ _ = _
    after_results
  rw [e]
  refine congrArg (aB m c) ?_
  blk_ext [lo]
  all_goals rfl

theorem v6_eq (q : Fin 2816) : (V m c main_v6 (ix2 0 q) : EReal) = aB m c (ix2 0 (hi q)) := by
  have e : V m c main_v6 = extractStridedSlice S1x2816 ![0, 2816] (aB m c) slices_S1x5632_S1x2816_0_2816 := by
    show StableHlo.after _ _ _ = _
    after_results
  rw [e]
  refine congrArg (aB m c) ?_
  blk_ext [hi]
  all_goals rfl

theorem v7_eq : (V m c main_v7 : S2816x1024.Idx → EReal) = aD m c := by
  show StableHlo.after _ _ _ = _
  after_results
  rfl

/-- The row of the grid that row `a` of the halo above or below is. -/
abbrev above (t : Fin cfg0.N) (a : Fin 64) : Fin 8192 := ⟨(t.val / 2 * 4 - 1) * 64 + a.val, by have h : t.val < 64 := t.isLt; have := a.isLt; omega⟩
abbrev below (t : Fin cfg0.N) (a : Fin 64) : Fin 8192 := ⟨min (t.val / 2 * 4 + 4) 127 * 64 + a.val, by have := a.isLt; omega⟩

theorem blk0 (a : Fin 64) (q : Fin 1408) : (iblk m c 0 t (ix2 a q) : EReal) = aU m c (ix2 (above t a) (lo (chn t q))) := by
  obtain ⟨e, -⟩ := idx_facts t
  blk_simp [iblk]
  refine Eq.trans (congrArg (V m c main_v1) ?_) (v1_eq m c _ _)
  blk_ext [e, chn]

theorem blk1 (a : Fin 256) (q : Fin 1408) : (iblk m c 1 t (ix2 a q) : EReal) = aU m c (ix2 (tok t a) (lo (chn t q))) := by
  obtain ⟨-, e, -⟩ := idx_facts t
  blk_simp [iblk]
  refine Eq.trans (congrArg (V m c main_v1) ?_) (v1_eq m c _ _)
  blk_ext [e, chn, tok]

theorem blk2 (a : Fin 64) (q : Fin 1408) : (iblk m c 2 t (ix2 a q) : EReal) = aU m c (ix2 (below t a) (lo (chn t q))) := by
  obtain ⟨-, -, e, -⟩ := idx_facts t
  blk_simp [iblk]
  refine Eq.trans (congrArg (V m c main_v1) ?_) (v1_eq m c _ _)
  blk_ext [e, chn]

theorem blk3 (a : Fin 64) (q : Fin 1408) : (iblk m c 3 t (ix2 a q) : EReal) = aU m c (ix2 (above t a) (hi (chn t q))) := by
  obtain ⟨-, -, -, e, -⟩ := idx_facts t
  blk_simp [iblk]
  refine Eq.trans (congrArg (V m c main_v2) ?_) (v2_eq m c _ _)
  blk_ext [e, chn]

theorem blk4 (a : Fin 256) (q : Fin 1408) : (iblk m c 4 t (ix2 a q) : EReal) = aU m c (ix2 (tok t a) (hi (chn t q))) := by
  obtain ⟨-, -, -, -, e, -⟩ := idx_facts t
  blk_simp [iblk]
  refine Eq.trans (congrArg (V m c main_v2) ?_) (v2_eq m c _ _)
  blk_ext [e, chn, tok]

theorem blk5 (a : Fin 64) (q : Fin 1408) : (iblk m c 5 t (ix2 a q) : EReal) = aU m c (ix2 (below t a) (hi (chn t q))) := by
  obtain ⟨-, -, -, -, -, e, -⟩ := idx_facts t
  blk_simp [iblk]
  refine Eq.trans (congrArg (V m c main_v2) ?_) (v2_eq m c _ _)
  blk_ext [e, chn]

theorem blk6 (ky kx : Fin 3) (q : Fin 1408) : (iblk m c 6 t (ix2 ⟨3 * ky.val + kx.val, by omega⟩ q) : EReal) = aW m c (ix3 ky kx (lo (chn t q))) := by
  obtain ⟨-, -, -, -, -, -, e, -⟩ := idx_facts t
  blk_simp [iblk]
  refine Eq.trans (congrArg (V m c main_v3) ?_) (v3_eq m c ky kx _)
  blk_ext [e, chn]

theorem blk7 (ky kx : Fin 3) (q : Fin 1408) : (iblk m c 7 t (ix2 ⟨3 * ky.val + kx.val, by omega⟩ q) : EReal) = aW m c (ix3 ky kx (hi (chn t q))) := by
  obtain ⟨-, -, -, -, -, -, -, e, -⟩ := idx_facts t
  blk_simp [iblk]
  refine Eq.trans (congrArg (V m c main_v4) ?_) (v4_eq m c ky kx _)
  blk_ext [e, chn]

theorem blk8 (q : Fin 1408) : (iblk m c 8 t (ix2 0 q) : EReal) = aB m c (ix2 0 (lo (chn t q))) := by
  obtain ⟨-, -, -, -, -, -, -, -, e, -⟩ := idx_facts t
  blk_simp [iblk]
  refine Eq.trans (congrArg (V m c main_v5) ?_) (v5_eq m c _)
  blk_ext [e, chn]

theorem blk9 (q : Fin 1408) : (iblk m c 9 t (ix2 0 q) : EReal) = aB m c (ix2 0 (hi (chn t q))) := by
  obtain ⟨-, -, -, -, -, -, -, -, -, e, -⟩ := idx_facts t
  blk_simp [iblk]
  refine Eq.trans (congrArg (V m c main_v6) ?_) (v6_eq m c _)
  blk_ext [e, chn]

theorem blk10 (q : Fin 1408) (j : Fin 1024) : (iblk m c 10 t (ix2 q j) : EReal) = aD m c (ix2 (chn t q) j) := by
  obtain ⟨-, -, -, -, -, -, -, -, -, -, e, -⟩ := idx_facts t
  blk_simp [iblk]
  refine (congrArg (V m c main_v7) ?_).trans (congrFun (v7_eq m c) _)
  blk_ext [e, chn]

theorem blk11 (a : Fin 256) (j : Fin 1024) : (iblk m c 11 t (ix2 a j) : EReal) = aX m c (ix2 (tok t a) j) := by
  obtain ⟨-, -, -, -, -, -, -, -, -, -, -, e, -⟩ := idx_facts t
  blk_simp [iblk]
  refine (congrArg (V m c main_arg4) ?_).trans (congrFun (V_main_arg4 m c) _)
  blk_ext [e, tok]

theorem blk12 (a : Fin 256) (j : Fin 1024) : (iblk m c 12 t (ix2 a j) : EReal) = aT m c (ix2 (tok t a) j) := by
  obtain ⟨-, -, -, -, -, -, -, -, -, -, -, -, e, -⟩ := idx_facts t
  blk_simp [iblk]
  refine (congrArg (V m c main_arg5) ?_).trans (congrFun (V_main_arg5 m c) _)
  blk_ext [e, tok]

theorem blk13 : (iblk m c 13 t : S1x6144.Idx → EReal) = aM m c := by
  obtain ⟨-, -, -, -, -, -, -, -, -, -, -, -, -, e, -⟩ := idx_facts t
  funext i
  blk_simp [iblk]
  refine (congrArg (V m c main_arg6) ?_).trans (congrFun (V_main_arg6 m c) i)
  blk_ext [e]

theorem blk14 : (iblk m c 14 t : S1x1024.Idx → EReal) = aG m c := by
  obtain ⟨-, -, -, -, -, -, -, -, -, -, -, -, -, -, e, -⟩ := idx_facts t
  funext i
  blk_simp [iblk]
  refine (congrArg (V m c main_arg7) ?_).trans (congrFun (V_main_arg7 m c) i)
  blk_ext [e]

/-! ## The tile's rows with its halo -/

theorem halo_tap (h : Fin 2816 → Fin 5632) (A : S8192x5632.Idx → EReal) (H : S384x1408.Idx → EReal)
    (hH : ∀ (r : Fin 384) (q : Fin 1408), H (ix2 r q) = if g : 64 ≤ t.val / 2 * 256 + r.val ∧ t.val / 2 * 256 + r.val < 8256 then
      A (ix2 ⟨t.val / 2 * 256 + r.val - 64, by omega⟩ (h (chn t q))) else 0)
    (ky kx : Fin 3) (n : Fin 256) (q : Fin 1408) : tapH H ky kx n q = tp A ky kx (tok t n) (h (chn t q)) := by
  have hn := n.isLt
  have e : (tok t n).val = t.val / 2 * 256 + n.val := rfl
  unfold tapH tp
  by_cases g : 1 ≤ n.val % 64 + kx.val ∧ n.val % 64 + kx.val ≤ 64
  · rw [dif_pos g, hH]
    by_cases g' : 64 ≤ t.val / 2 * 256 + (64 * ky.val + n.val + kx.val - 1) ∧ t.val / 2 * 256 + (64 * ky.val + n.val + kx.val - 1) < 8256
    · rw [dif_pos g', dif_pos ⟨by omega, by omega, by omega⟩]
      exact congrArg (fun r => A (ix2 r (h (chn t q)))) (Fin.ext (by simp only [e]; omega))
    · rw [dif_neg g', dif_neg fun g => g' ⟨by omega, by omega⟩]
  · rw [dif_neg g, dif_neg fun f => g ⟨by omega, by omega⟩]

theorem pay21_apply (i : grid0.Coords) (p n : FVec Ideal S64x1408 .f32) (d : FVec Ideal S256x1408 .f32) (r : Fin 384) (q : Fin 1408) :
    (k0_pay21 (F := Ideal) i p n d (ix2 r q) : EReal)
      = if h : r.val < 64 then Scalar.select (Scalar.cmpi .eq (BitVec.ofNat 32 (i 0).val) 0#32) 0 (p (ix2 ⟨r.val, h⟩ q) : EReal)
        else if h' : r.val - 64 < 256 then d (ix2 ⟨r.val - 64, h'⟩ q)
        else Scalar.select (Scalar.cmpi .eq (BitVec.ofNat 32 (i 0).val) 31#32) 0 (n (ix2 ⟨r.val - 64 - 256, by have := r.isLt; omega⟩ q) : EReal) := by
  unfold_payloads
  pointwise

theorem halo_rows (h : Fin 2816 → Fin 5632) (A : S8192x5632.Idx → EReal) (p n : FVec Ideal S64x1408 .f32) (d : FVec Ideal S256x1408 .f32)
    (hp : ∀ a q, (p (ix2 a q) : EReal) = A (ix2 (above t a) (h (chn t q))))
    (hd : ∀ a q, (d (ix2 a q) : EReal) = A (ix2 (tok t a) (h (chn t q))))
    (hn : ∀ a q, (n (ix2 a q) : EReal) = A (ix2 (below t a) (h (chn t q))))
    (r : Fin 384) (q : Fin 1408) :
    (k0_pay21 (F := Ideal) (grid0.coords t) p n d (ix2 r q) : EReal)
      = if g : 64 ≤ t.val / 2 * 256 + r.val ∧ t.val / 2 * 256 + r.val < 8256 then
          A (ix2 ⟨t.val / 2 * 256 + r.val - 64, by omega⟩ (h (chn t q))) else 0 := by
  obtain ⟨-, -, -, -, -, -, -, -, -, -, -, -, -, -, -, ei⟩ := idx_facts t
  have hr := r.isLt
  have ht : t.val < 64 := t.isLt
  have hi : (grid0.coords t 0).val < 32 := (grid0.coords t 0).isLt
  have ew := edge_words ⟨_, hi⟩
  simp only [ei] at ew
  rw [pay21_apply, ei, ew.1, ew.2]
  by_cases h1 : r.val < 64
  · rw [dif_pos h1]
    by_cases h2 : t.val / 2 = 0
    · rw [if_pos h2, select_one, dif_neg (by omega)]
    · rw [if_neg h2, select_zero, dif_pos (by omega), hp]
      exact congrArg (fun r => A (ix2 r (h (chn t q)))) (Fin.ext (by simp only []; omega))
  · rw [dif_neg h1]
    by_cases h2 : r.val - 64 < 256
    · rw [dif_pos h2, dif_pos (by omega), hd]
      exact congrArg (fun r => A (ix2 r (h (chn t q)))) (Fin.ext (by simp only [tok]; omega))
    · rw [dif_neg h2]
      by_cases h3 : t.val / 2 = 31
      · rw [if_pos h3, select_one, dif_neg (by omega)]
      · rw [if_neg h3, select_zero, dif_pos (by omega), hn]
        exact congrArg (fun r => A (ix2 r (h (chn t q)))) (Fin.ext (by simp only []; omega))

abbrev HG : FVec Ideal S384x1408 .f32 := k0_pay21 (F := Ideal) (grid0.coords t) (iblk m c 0 t) (iblk m c 2 t) (iblk m c 1 t)
abbrev HV : FVec Ideal S384x1408 .f32 := k0_pay36 (F := Ideal) (Scalar.cmpi .eq (BitVec.ofNat 32 (grid0.coords t 0).val) 0#32)
  (Scalar.cmpi .eq (BitVec.ofNat 32 (grid0.coords t 0).val) 31#32) (iblk m c 3 t) (iblk m c 5 t) (iblk m c 4 t)

theorem tap_g (ky kx : Fin 3) (n : Fin 256) (q : Fin 1408) : tapH (HG m c t) ky kx n q = tp (aU m c) ky kx (tok t n) (lo (chn t q)) :=
  halo_tap t lo _ _ (halo_rows t lo _ _ _ _ (blk0 m c t) (blk1 m c t) (blk2 m c t)) ky kx n q

theorem tap_v (ky kx : Fin 3) (n : Fin 256) (q : Fin 1408) : tapH (HV m c t) ky kx n q = tp (aU m c) ky kx (tok t n) (hi (chn t q)) :=
  halo_tap t hi _ _ (fun r q => (show (HV m c t (ix2 r q) : EReal) = k0_pay21 (F := Ideal) (grid0.coords t) (iblk m c 3 t) (iblk m c 5 t) (iblk m c 4 t) (ix2 r q) from rfl).trans
    (halo_rows t hi _ _ _ _ (blk3 m c t) (blk4 m c t) (blk5 m c t) r q)) ky kx n q

/-- The gate of a tile. -/
abbrev gB : FVec Ideal S256x1408 .f32 := k0_pay35 (F := Ideal) (k0_pay22 (iblk m c 6 t)) (k0_pay26 (HG m c t) k0_pay23 1#32) (k0_pay27 (HG m c t)) (k0_pay28 (HG m c t) k0_pay23)
  (k0_pay29 (HG m c t) k0_pay23 1#32) (k0_pay30 (HG m c t)) (k0_pay31 (HG m c t) k0_pay23) (k0_pay32 (HG m c t) k0_pay23 1#32) (k0_pay33 (HG m c t)) (k0_pay34 (HG m c t) k0_pay23) (iblk m c 8 t)
abbrev p46 : FVec Ideal S256x1408 .f32 := k0_pay46 (F := Ideal) k0_pay38 (k0_pay40 (HV m c t))
abbrev p47 : FVec Ideal S256x1408 .f32 := k0_pay47 (F := Ideal) (HV m c t) (k0_pay37 (iblk m c 7 t)) k0_pay38 (k0_pay39 (HV m c t)) (k0_pay40 (HV m c t)) (k0_pay41 (HV m c t))
  (k0_pay42 (HV m c t)) (k0_pay43 (HV m c t)) (k0_pay44 (HV m c t)) (k0_pay45 (HV m c t))
abbrev p48 : FVec Ideal S1x1408 .f32 := k0_pay48 (F := Ideal) (k0_pay37 (iblk m c 7 t))

theorem nine_congr {T T' w w' : Fin 3 → Fin 3 → EReal} {b b' : EReal} (hT : ∀ ky kx, T ky kx = T' ky kx) (hw : ∀ ky kx, w ky kx = w' ky kx) (hb : b = b') : nine T w b = nine T' w' b' := by
  rw [show T = T' from funext fun a => funext (hT a), show w = w' from funext fun a => funext (hw a), hb]

theorem gB_apply (y : S256x1408.Idx) : (gB m c t y : EReal) = gate (aU m c) (aW m c) (aB m c) (ix2 (tok t (y 0)) (chn t (y 1))) := by
  refine (gate_apply (HG m c t) (iblk m c 6 t) (iblk m c 8 t) y).trans ?_
  unfold gate cnv
  exact (nine_congr (fun ky kx => tap_g m c t ky kx (y 0) (y 1)) (fun ky kx => blk6 m c t ky kx (y 1)) (blk8 m c t (y 1)))

theorem vB_apply (y : S256x1408.Idx) : (k0_pay1 (F := Ideal) (p46 m c t) (p47 m c t) (p48 m c t) (iblk m c 9 t) y : EReal)
    = val (aU m c) (aW m c) (aB m c) (ix2 (tok t (y 0)) (chn t (y 1))) := by
  refine (val_apply (HV m c t) (iblk m c 7 t) (iblk m c 9 t) y).trans ?_
  unfold val cnv
  exact (nine_congr (fun ky kx => tap_v m c t ky kx (y 0) (y 1)) (fun ky kx => blk7 m c t ky kx (y 1)) (blk9 m c t (y 1)))

theorem aB_apply (y : S256x1408.Idx) : (k0_pay2 (F := Ideal) (gB m c t) (p46 m c t) (p47 m c t) (p48 m c t) (iblk m c 9 t) y : EReal)
    = act (aU m c) (aW m c) (aB m c) (ix2 (tok t (y 0)) (chn t (y 1))) :=
  (pay2_apply _ _ _ _ _ y).trans (congrArg₂ (· * ·) (congrArg₂ (· * ·) (gB_apply m c t y) (congrArg Ideal.logistic (gB_apply m c t y))) (vB_apply m c t y))

theorem out15 (y : S256x1408.Idx) : ((outsAt0 m c t.val t.isLt).1 y : EReal) = act (aU m c) (aW m c) (aB m c) (ix2 (tok t (y 0)) (chn t (y 1))) := by
  refine Eq.trans ?_ (aB_apply m c t y)
  have h64 : t.val < 64 := t.isLt
  by_cases h0 : t.val % 64 = 0
  · rw [outsAt0_A m c t h0 (by omega) (by omega) (by omega)]; frame_out
  · by_cases h1 : t.val % 2 = 1
    · rw [outsAt0_B m c t h0 (by omega) h1 h1]; frame_out
    · rw [outsAt0_C m c t h0 (by omega) h1 h1]; frame_out

theorem out16 (y : S256x1408.Idx) : ((outsAt0 m c t.val t.isLt).2.1 y : EReal) = gate (aU m c) (aW m c) (aB m c) (ix2 (tok t (y 0)) (chn t (y 1))) := by
  refine Eq.trans ?_ (gB_apply m c t y)
  by_cases h0 : t.val % 64 = 0
  · rw [outsAt0_A m c t h0 (by omega) (by omega) (by omega)]; frame_out
  · by_cases h1 : t.val % 2 = 1
    · rw [outsAt0_B m c t h0 (by omega) h1 h1]; frame_out
    · rw [outsAt0_C m c t h0 (by omega) h1 h1]; frame_out

theorem out17 (y : S256x1408.Idx) : ((outsAt0 m c t.val t.isLt).2.2.1 y : EReal) = val (aU m c) (aW m c) (aB m c) (ix2 (tok t (y 0)) (chn t (y 1))) := by
  refine Eq.trans ?_ (vB_apply m c t y)
  by_cases h0 : t.val % 64 = 0
  · rw [outsAt0_A m c t h0 (by omega) (by omega) (by omega)]; frame_out
  · by_cases h1 : t.val % 2 = 1
    · rw [outsAt0_B m c t h0 (by omega) h1 h1]; frame_out
    · rw [outsAt0_C m c t h0 (by omega) h1 h1]; frame_out

/-- At the first of a tile's two points the scratch holds the product over the first half of the channels. -/
theorem scr (h1 : t.val % 2 = 0) (a : Fin 256) (j : Fin 1024) : ((outsAt0 m c t.val t.isLt).2.2.2.2.2.2 (ix2 a j) : EReal)
    = ∑ q : Fin 1408, act (aU m c) (aW m c) (aB m c) (ix2 (tok t a) (chn t q)) * aD m c (ix2 (chn t q) j) := by
  refine Eq.trans ?_ ((pay4_apply (gB m c t) (p46 m c t) (p47 m c t) (p48 m c t) (iblk m c 9 t) (iblk m c 10 t) a j).trans
    (Finset.sum_congr rfl fun q _ => congrArg₂ (· * ·) (aB_apply m c t (ix2 a q)) (blk10 m c t q j)))
  by_cases h0 : t.val % 64 = 0
  · rw [outsAt0_A m c t h0 h1 (by omega) (by omega)]; frame_out
  · rw [outsAt0_C m c t h0 h1 (by omega) (by omega)]; frame_out

/-- At the second it is whole. -/
abbrev fB (h : ¬ t.val % 2 = 0) : FVec Ideal S256x1024 .f32 := k0_pay5 (F := Ideal) (gB m c t) (p46 m c t) (p47 m c t) (p48 m c t) (iblk m c 9 t) (iblk m c 10 t)
  (outsAt0 m c (t.val - 1) (by omega)).2.2.2.2.2.2

theorem fB_apply (h : ¬ t.val % 2 = 0) (a : Fin 256) (j : Fin 1024) : (fB m c t h (ix2 a j) : EReal) = ffn (aU m c) (aW m c) (aB m c) (aD m c) (tok t a) j := by
  have h1 : (⟨t.val - 1, by omega⟩ : Fin cfg0.N).val % 2 = 0 := by show (t.val - 1) % 2 = 0; omega
  have ht : tok ⟨t.val - 1, by omega⟩ a = tok t a := Fin.ext (by show (t.val - 1) / 2 * 256 + a.val = t.val / 2 * 256 + a.val; omega)
  refine (pay5_apply _ _ _ _ _ _ _ a j).trans ?_
  refine Eq.trans ?_ (Fin.sum_univ_add (M := EReal) (a := 1408) (b := 1408) fun q : Fin 2816 => act (aU m c) (aW m c) (aB m c) (ix2 (tok t a) q) * aD m c (ix2 q j)).symm
  refine congrArg₂ (· + ·) ((scr m c ⟨t.val - 1, by omega⟩ h1 a j).trans (Finset.sum_congr rfl fun q _ => ?_)) (Finset.sum_congr rfl fun q _ => ?_)
  · rw [ht]
    exact congrArg (fun q => act (aU m c) (aW m c) (aB m c) (ix2 (tok t a) q) * aD m c (ix2 q j)) (Fin.ext (by show (t.val - 1) % 2 * 1408 + q.val = q.val; omega))
  · refine (congrArg₂ (· * ·) (aB_apply m c t (ix2 a q)) (blk10 m c t q j)).trans ?_
    exact congrArg (fun q => act (aU m c) (aW m c) (aB m c) (ix2 (tok t a) q) * aD m c (ix2 q j)) (Fin.ext (by show t.val % 2 * 1408 + q.val = 1408 + q.val; omega))

/-- The row of the modulation that scales the product. -/
abbrev ld5 : FVec Ideal S1x1024 .f32 := View.ld (Val := Elt Ideal) (e' := .f32) (iblk m c 13 t) (Rect.unit (s := S1x6144) ![0, 5120] ![1, 1024] inb_S1x6144_S1x1024_0_5120)

theorem ld5_apply (j : Fin 1024) : (ld5 m c t (ix2 0 j) : EReal) = ga (aM m c) j := by
  refine (Rows.ld_at _ _ 0 j (by omega) (by omega)).trans ((congrFun (blk13 m c t) _).trans (congrArg (aM m c) ?_))
  blk_ext []

abbrev x2r : Fin 8192 → Fin 1024 → EReal := x2 (aU m c) (aW m c) (aB m c) (aD m c) (aX m c) (aM m c)

theorem row_eq (h : ¬ t.val % 2 = 0) (a : Fin 256) : tr (fB m c t h) (iblk m c 11 t) (ld5 m c t) a = x2r m c (tok t a) := by
  funext j
  exact congrArg₂ (· + ·) (blk11 m c t a j) (congrArg₂ (· * ·) (ld5_apply m c t j) (fB_apply m c t h a j))

theorem gf_eq : (fun j : Fin 1024 => (iblk m c 14 t (ix2 0 j) : EReal)) = gf (aG m c) := funext fun j => congrFun (blk14 m c t) _
theorem tg_eq (a : Fin 256) : (fun j : Fin 1024 => (iblk m c 12 t (ix2 a j) : EReal)) = tg (aT m c) (tok t a) := funext fun j => blk12 m c t a j

abbrev dB (h : ¬ t.val % 2 = 0) : FVec Ideal S256x1024 .f32 := k0_pay15 (F := Ideal) (k0_pay6 (fB m c t h) (ld5 m c t) (iblk m c 11 t)) (iblk m c 14 t)
  (k0_pay8 (fB m c t h) (ld5 m c t) (iblk m c 11 t)) (k0_pay9 (fB m c t h) (ld5 m c t) (iblk m c 11 t)) (k0_pay13 (fB m c t h) (ld5 m c t) (iblk m c 11 t) (iblk m c 14 t) (iblk m c 12 t))

theorem dB_apply (h : ¬ t.val % 2 = 0) (a : Fin 256) (j : Fin 1024) : (dB m c t h (ix2 a j) : EReal) = drow (x2r m c (tok t a)) (gf (aG m c)) (tg (aT m c) (tok t a)) j := by
  refine (pay15_apply _ _ _ _ _ a j).trans ?_
  rw [row_eq, gf_eq, tg_eq]

theorem out18 (h : t.val % 2 = 1) (y : S256x1024.Idx) : ((outsAt0 m c t.val t.isLt).2.2.2.1 y : EReal)
    = dx2 (aU m c) (aW m c) (aB m c) (aD m c) (aX m c) (aT m c) (aM m c) (aG m c) (ix2 (tok t (y 0)) (y 1)) := by
  refine Eq.trans ?_ (dB_apply m c t (by omega) (y 0) (y 1))
  rw [outsAt0_B m c t (by omega) (by omega) h h]
  frame_out
  rw [read_unread_whole]
  exact congrArg _ (ix2_eta y).symm

theorem out19 (h : t.val % 2 = 1) (y : S256x1024.Idx) : ((outsAt0 m c t.val t.isLt).2.2.2.2.1 y : EReal)
    = dffn (aU m c) (aW m c) (aB m c) (aD m c) (aX m c) (aT m c) (aM m c) (aG m c) (ix2 (tok t (y 0)) (y 1)) := by
  obtain ⟨a, j, rfl⟩ : ∃ a j, y = ix2 a j := ⟨y 0, y 1, (ix2_eta y).symm⟩
  refine Eq.trans ?_ ((pay16_apply (ld5 m c t) (iblk m c 14 t) a _ _ _ _ j).trans (congrArg₂ (· * ·) (ld5_apply m c t j) (dB_apply m c t (by omega) a j)))
  rw [outsAt0_B m c t (by omega) (by omega) h h]
  frame_out
  rw [read_unread_whole]
  rfl

/-- What a point adds to an element of the sixth result: the first of a tile's two points nothing. -/
def part (k : Fin 8) (j : Fin 1024) : EReal :=
  if t.val % 2 = 0 then 0 else ∑ n : Fin 256, term (aU m c) (aW m c) (aB m c) (aD m c) (aX m c) (aT m c) (aM m c) (aG m c) k j (tok t n)

/-- A positive number of the reals can be multiplied into a sum. -/
theorem mul_sum {ι : Type*} (s : Finset ι) (f : ι → EReal) (x : ℝ) (hx : 0 ≤ x) : (x : EReal) * ∑ i ∈ s, f i = ∑ i ∈ s, (x : EReal) * f i := by
  classical
  induction s using Finset.induction_on with
  | empty => simp
  | insert a s h ih => rw [Finset.sum_insert h, Finset.sum_insert h, EReal.left_distrib_of_nonneg_of_ne_top (EReal.coe_nonneg.mpr hx) (EReal.coe_ne_top x), ih]

theorem half_eq : Ideal.ofBits .f32 0x3F000000#32 = ((1 / 2 : ℝ) : EReal) := by
  simp [Ideal.ofBits, Ideal.ieee, -EReal.coe_mul]; norm_num

theorem inv_eq : Ideal.ofBits .f32 0x3A800000#32 = ((1 / 1024 : ℝ) : EReal) := by
  simp [Ideal.ofBits, Ideal.ieee, -EReal.coe_mul]; norm_num

theorem loss_sum (f : Fin 256 → EReal) : Ideal.ofBits .f32 0x3F000000#32 * (∑ n : Fin 256, f n) * Ideal.ofBits .f32 0x3A800000#32
    = ∑ n : Fin 256, Ideal.ofBits .f32 0x3F000000#32 * f n * Ideal.ofBits .f32 0x3A800000#32 := by
  rw [half_eq, inv_eq, mul_sum _ _ _ (by norm_num), mul_comm, mul_sum _ _ _ (by norm_num)]
  exact Finset.sum_congr rfl fun n _ => mul_comm _ _

theorem part_odd (h : ¬ t.val % 2 = 0) (k : Fin 8) (j : Fin 1024) : part m c t k j
    = if k.val = 2 then (k0_pay12 (F := Ideal) (fB m c t h) (ld5 m c t) (iblk m c 11 t) (iblk m c 14 t) (iblk m c 12 t) : EReal)
      else if k.val = 1 then ∑ n : Fin 256, tr (fB m c t h) (iblk m c 11 t) (ld5 m c t) n j * rs (tr (fB m c t h) (iblk m c 11 t) (ld5 m c t) n)
        * derr (tr (fB m c t h) (iblk m c 11 t) (ld5 m c t) n) (fun j => iblk m c 14 t (ix2 0 j)) (fun j => iblk m c 12 t (ix2 n j)) j
      else if k.val = 0 then ∑ n : Fin 256, dB m c t h (ix2 n j) * fB m c t h (ix2 n j) else 0 := by
  rw [pay12_apply, loss_sum]
  unfold part term
  rw [if_neg h]
  simp only [row_eq, gf_eq, tg_eq, dB_apply, fB_apply]
  by_cases k2 : k.val = 2
  · simp only [k2, if_true]
  by_cases k1 : k.val = 1
  · simp [k1]
  by_cases k0 : k.val = 0
  · simp [k0]
  simp only [k2, k1, k0, if_false, Finset.sum_const_zero]

theorem out20_A (h0 : t.val % 64 = 0) (y : S8x1024.Idx) : ((outsAt0 m c t.val t.isLt).2.2.2.2.2.1 y : EReal) = 0 + part m c t (y 0) (y 1) := by
  unfold part
  rw [if_pos (by omega), add_zero, outsAt0_A m c t h0 (by omega) (by omega) (by omega)]
  frame_out
  exact pay20_apply y

theorem out20_B (h0 : ¬ t.val % 64 = 0) (y : S8x1024.Idx) : ((outsAt0 m c t.val t.isLt).2.2.2.2.2.1 y : EReal)
    = (outsAt0 m c (t.val - 1) (by omega)).2.2.2.2.2.1 y + part m c t (y 0) (y 1) := by
  by_cases h1 : t.val % 2 = 0
  · unfold part
    rw [if_pos h1, add_zero, outsAt0_C m c t h0 h1 (by omega) (by omega)]
    dsimp only
    unfold out0_C_20
    rfl
  · have key := part_odd m c t h1 (y 0) (y 1)
    generalize part m c t (y 0) (y 1) = Q at key ⊢
    rw [outsAt0_B m c t h0 h1 (by omega) (by omega)]
    frame_out
    rw [Rows.read_row, Rows.read_row, Rows.read_row, View.writes_nil, Memref.IsWhole.read_unread, read_unread_whole]
    refine Eq.trans ?_ (congrArg ((outsAt0 m c (t.val - 1) (by omega)).2.2.2.2.2.1 y + ·) key.symm)
    split_ifs with k2 k1 k0
    · exact (pay19_apply _ _ _).trans (congrArg₂ (· + ·) (Rows.ld_row _ y _ k2) rfl)
    · exact (pay18_apply _ _ _ _ _ _ _).trans (congrArg₂ (· + ·) (Rows.ld_row _ y _ k1) rfl)
    · exact (pay17_apply _ _ _ _ _ _ _ _).trans (congrArg₂ (· + ·) (Rows.ld_row _ y _ k0) rfl)
    · exact (add_zero _).symm

end Cert.Proof.Down

end
-- ==== Proof.DownRun.lean ====
/- The down projection with the loss's gradient: the six whole arrays the kernel leaves. -/
module

public import proofs.«01_k».proof.Proof.Down

@[expose] public section

noncomputable section

namespace Cert.Proof.Down

open Cert.KernelDownIdeal Cert.KernelDownIdeal.Gen Idealize.ShloMosaic Idealize.ShloMosaic.TcCoe Idealize.SL.Sem Cert.Proof.Norm

variable (m : (ℓ : Loc nD τ sig) → Buf (Elt Ideal) ℓ) (ρ : Dev nD → PrngReg) (c : Dev nD) (t : Fin cfg0.N)

theorem final15 : (dats m 0 c).arrAt 15 cfg0.N = act (aU m c) (aW m c) (aB m c) := by
  refine (dats m 0 c).arrAt_eq_of_covers 15 _ (by decide +kernel) fun t hf y => ?_
  obtain ⟨e, -⟩ := out_facts t
  blk_simp
  rw [after0_15]
  refine (out15 m c t y).trans (congrArg (act (aU m c) (aW m c) (aB m c)) ?_)
  blk_ext [e, tok, chn]

theorem final16 : (dats m 0 c).arrAt 16 cfg0.N = gate (aU m c) (aW m c) (aB m c) := by
  refine (dats m 0 c).arrAt_eq_of_covers 16 _ (by decide +kernel) fun t hf y => ?_
  obtain ⟨-, e, -⟩ := out_facts t
  blk_simp
  rw [after0_16]
  refine (out16 m c t y).trans (congrArg (gate (aU m c) (aW m c) (aB m c)) ?_)
  blk_ext [e, tok, chn]

theorem final17 : (dats m 0 c).arrAt 17 cfg0.N = val (aU m c) (aW m c) (aB m c) := by
  refine (dats m 0 c).arrAt_eq_of_covers 17 _ (by decide +kernel) fun t hf y => ?_
  obtain ⟨-, -, e, -⟩ := out_facts t
  blk_simp
  rw [after0_17]
  refine (out17 m c t y).trans (congrArg (val (aU m c) (aW m c) (aB m c)) ?_)
  blk_ext [e, tok, chn]

theorem fl18 : ∀ t : Fin cfg0.N, (cfg0.win 18).flush t = true → t.val % 2 = 1 := (by decide +kernel : ∀ t : Fin grid0.N, _)
theorem fl19 : ∀ t : Fin cfg0.N, (cfg0.win 19).flush t = true → t.val % 2 = 1 := (by decide +kernel : ∀ t : Fin grid0.N, _)
theorem fl20 : ∀ t : Fin cfg0.N, (cfg0.win 20).flush t = true → t.val % 64 = 63 := (by decide +kernel : ∀ t : Fin grid0.N, _)

theorem final18 : (dats m 0 c).arrAt 18 cfg0.N = dx2 (aU m c) (aW m c) (aB m c) (aD m c) (aX m c) (aT m c) (aM m c) (aG m c) := by
  refine (dats m 0 c).arrAt_eq_of_covers 18 _ (by decide +kernel) fun t hf y => ?_
  obtain ⟨-, -, -, e, -⟩ := out_facts t
  blk_simp
  rw [after0_18]
  refine (out18 m c t (fl18 t hf) y).trans (congrArg (dx2 (aU m c) (aW m c) (aB m c) (aD m c) (aX m c) (aT m c) (aM m c) (aG m c)) ?_)
  blk_ext [e, tok]

theorem final19 : (dats m 0 c).arrAt 19 cfg0.N = dffn (aU m c) (aW m c) (aB m c) (aD m c) (aX m c) (aT m c) (aM m c) (aG m c) := by
  refine (dats m 0 c).arrAt_eq_of_covers 19 _ (by decide +kernel) fun t hf y => ?_
  obtain ⟨-, -, -, -, e, -⟩ := out_facts t
  blk_simp
  rw [after0_19]
  refine (out19 m c t (fl19 t hf) y).trans (congrArg (dffn (aU m c) (aW m c) (aB m c) (aD m c) (aX m c) (aT m c) (aM m c) (aG m c)) ?_)
  blk_ext [e, tok]

/-- The sixty-four points' parts are the sum over the tokens. -/
theorem parts_eq (k : Fin 8) (j : Fin 1024) (h : ∀ s : Fin 64, 64 * (t.val / 64) + s.val < cfg0.N) :
    ∑ s : Fin 64, part m c ⟨64 * (t.val / 64) + s.val, h s⟩ k j = acc (aU m c) (aW m c) (aB m c) (aD m c) (aX m c) (aT m c) (aM m c) (aG m c) (ix2 k j) := by
  have h64 : t.val < 64 := t.isLt
  have hs : ∀ s : Fin 64, part m c ⟨64 * (t.val / 64) + s.val, h s⟩ k j = part m c s k j := fun s =>
    congrArg (fun s => part m c s k j) (Fin.ext (by show 64 * (t.val / 64) + s.val = s.val; omega))
  refine (Finset.sum_congr rfl fun s _ => hs s).trans ?_
  refine (Fin.sum_mul_add_congr (L := 64) (S := 32) (n := 2) (F := fun (s : Fin 32) (n : Fin 2) => part m c ⟨s.val * 2 + n.val, by show _ < 64; omega⟩ k j) fun s n hl => rfl).symm.trans ?_
  refine (Finset.sum_congr rfl fun s _ => ?_).trans (Fin.sum_mul_add_congr (L := 8192) (S := 32) (n := 256)
    (F := fun (s : Fin 32) (n : Fin 256) => term (aU m c) (aW m c) (aB m c) (aD m c) (aX m c) (aT m c) (aM m c) (aG m c) k j ⟨s.val * 256 + n.val, by omega⟩) fun s n hl => rfl)
  refine (Fin.sum_univ_two _).trans ?_
  unfold part
  rw [if_pos (show (s.val * 2 + (0 : Fin 2).val) % 2 = 0 by show (s.val * 2 + 0) % 2 = 0; omega),
    if_neg (show ¬ (s.val * 2 + (1 : Fin 2).val) % 2 = 0 by show ¬ (s.val * 2 + 1) % 2 = 0; omega), zero_add]
  refine Finset.sum_congr rfl fun n _ => congrArg (term (aU m c) (aW m c) (aB m c) (aD m c) (aX m c) (aT m c) (aM m c) (aG m c) k j) (Fin.ext ?_)
  show (s.val * 2 + 1) / 2 * 256 + n.val = s.val * 256 + n.val
  omega

theorem final20 : (dats m 0 c).arrAt 20 cfg0.N = acc (aU m c) (aW m c) (aB m c) (aD m c) (aX m c) (aT m c) (aM m c) (aG m c) := by
  refine (dats m 0 c).arrAt_eq_of_covers 20 _ (by decide +kernel) fun t hf y => ?_
  obtain ⟨-, -, -, -, -, e⟩ := out_facts t
  blk_simp
  rw [after0_20]
  refine (Pipeline.eq_sum_fin_of_reset_step_apply_of_flush (fun n h => (outsAt0 m c n h).2.2.2.2.2.1) 64 (fun _ => (0 : EReal))
    (fun t y => part m c t (y 0) (y 1)) (fun t h y => out20_A m c t h y) (fun t h y => out20_B m c t h y) t (fl20 t hf) y).trans ?_
  refine Eq.trans (zero_add _) ?_
  refine (parts_eq m c t (y 0) (y 1) _).trans (congrArg (acc (aU m c) (aW m c) (aB m c) (aD m c) (aX m c) (aT m c) (aM m c) (aG m c)) ?_)
  blk_ext [e]

end Cert.Proof.Down

end
-- ==== Proof.DownEq.lean ====
/- The down projection with the loss's gradient: the reference's six results are the kernel's six functions. -/
module

public import proofs.«01_k».proof.Defs
public import proofs.«01_k».proof.Proof.DownRun
public import proofs.«01_k».proof.Proof.Gen.ReferenceDownIdeal.Run
public import proofs.«01_k».proof.Proof.Gen.ReferenceDownIdeal.Read

@[expose] public section

noncomputable section

namespace Cert.Proof.Down

open Cert.ReferenceDownIdeal Cert.ReferenceDownIdeal.Read Idealize.ShloMosaic Idealize.ShloMosaic.TcCoe Idealize.SL.Sem Cert.Proof.Norm

variable (U : S8192x5632.Idx → EReal) (W : S3x3x5632.Idx → EReal) (B : S1x5632.Idx → EReal) (D : S2816x1024.Idx → EReal)
  (X T : S8192x1024.Idx → EReal) (M : S1x6144.Idx → EReal) (G : S1x1024.Idx → EReal)

/-! ## The convolution -/

/-- The grid with its border of zeros. -/
theorem v4_apply (r : Fin 130) (q : Fin 66) (ch : Fin 5632) : (val_main_v4 (F := Ideal) U (ix3 r q ch) : EReal)
    = if h : q.val < 1 then 0 else if h : q.val - 1 < 64 then
        if h : r.val < 1 then 0 else if h' : r.val - 1 < 128 then U (ix2 ⟨(r.val - 1) * 64 + (q.val - 1), by omega⟩ ch) else 0 else 0 := by
  unfold val_main_v4 val_main_v3
  pointwise
  simp only [val_main_v0_apply, val_main_v1_apply, val_main_v2_apply, val_main_cst_apply, val_main_cst_0_apply, pointwise]
  split_ifs <;> first | rfl | exact congrArg U (funext fun a => match a with
    | ⟨0, _⟩ => Fin.ext (by show (((r.val - 1) * 64 + (q.val - 1)) * 5632 + ch.val) / 5632 = _; show _ = (r.val - 1) * 64 + (q.val - 1); omega)
    | ⟨1, _⟩ => Fin.ext (by show (((r.val - 1) * 64 + (q.val - 1)) * 5632 + ch.val) % 5632 = ch.val; omega))

theorem v4_tap (ky kx : Fin 3) (p : Fin 8192) (ch : Fin 5632) :
    (val_main_v4 (F := Ideal) U (ix3 ⟨p.val / 64 + ky.val, by omega⟩ ⟨p.val % 64 + kx.val, by omega⟩ ch) : EReal) = tp U ky kx p ch := by
  rw [v4_apply]
  dsimp only
  unfold tp
  have hp := p.isLt
  split_ifs <;> first | rfl | (exfalso; omega) | exact congrArg (fun r => U (ix2 r ch)) (Fin.ext (by show (p.val / 64 + ky.val - 1) * 64 + (p.val % 64 + kx.val - 1) = p.val + 64 * ky.val + kx.val - 65; omega))

theorem bias_last (b a0 a1 a2 a3 a4 a5 a6 a7 a8 : EReal) : b + a0 + a1 + a2 + a3 + a4 + a5 + a6 + a7 + a8 = a0 + a1 + a2 + a3 + a4 + a5 + a6 + a7 + a8 + b := by
  ac_rfl

theorem v70_eq (p : Fin 8192) (ch : Fin 5632) : (val_main_v70 (F := Ideal) U W B (ix2 p ch) : EReal) = cnv U W B p ch := by
  unfold cnv nine
  simp only [← v4_tap]
  unfold val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5
  generalize val_main_v4 (F := Ideal) U = u
  pointwise
  simp only [Nat.add_comm 1, Nat.add_comm 2]
  exact bias_last _ _ _ _ _ _ _ _ _ _

/-! ## The gated product -/

theorem v71_eq : (val_main_v71 (F := Ideal) U W B : S8192x2816.Idx → EReal) = gate U W B := by
  funext i
  obtain ⟨p, q, rfl⟩ : ∃ (p : Fin 8192) (q : Fin 2816), i = ix2 p q := ⟨i 0, i 1, (ix2_eta i).symm⟩
  refine Eq.trans ?_ (v70_eq U W B p (lo q))
  unfold val_main_v71
  pointwise
  rfl

theorem v72_eq : (val_main_v72 (F := Ideal) U W B : S8192x2816.Idx → EReal) = val U W B := by
  funext i
  obtain ⟨p, q, rfl⟩ : ∃ (p : Fin 8192) (q : Fin 2816), i = ix2 p q := ⟨i 0, i 1, (ix2_eta i).symm⟩
  refine Eq.trans ?_ (v70_eq U W B p (hi q))
  unfold val_main_v72
  pointwise
  rfl

/-- The host's sigmoid is the logistic function. -/
theorem sig_eq (i : S8192x2816.Idx) : (val_main_call0_v5 (F := Ideal) U W B i : EReal) = Ideal.logistic (gate U W B i) := by
  simp only [val_main_call0_v5_apply, val_main_call0_v4_apply, val_main_call0_cst_0_apply, val_main_call0_v3_apply,
    val_main_call0_v2_apply, val_main_call0_cst_apply, val_main_call0_v1_apply, val_main_call0_v0_apply, v71_eq, pointwise]
  rfl

theorem v74_eq : (val_main_v74 (F := Ideal) U W B : S8192x2816.Idx → EReal) = act U W B := by
  funext i
  simp only [val_main_v74_apply, val_main_v73_apply, sig_eq, v71_eq, v72_eq, pointwise]
  rfl

theorem v75_eq (p : Fin 8192) (j : Fin 1024) : (val_main_v75 (F := Ideal) U W B D (ix2 p j) : EReal) = ffn U W B D p j := by
  unfold ffn
  rw [← v74_eq]
  unfold val_main_v75
  pointwise

theorem v76_eq (j : Fin 1024) : (val_main_v76 (F := Ideal) M (ix2 0 j) : EReal) = ga M j := by
  unfold val_main_v76 ga
  pointwise
  try rfl

/-! ## The norm and the loss -/

theorem v79_eq (p : Fin 8192) (j : Fin 1024) : (val_main_v79 (F := Ideal) U W B D X M (ix2 p j) : EReal) = x2 U W B D X M p j := by
  unfold x2 row
  rw [← v75_eq, ← v76_eq]
  unfold val_main_v79 val_main_v78 val_main_v77
  pointwise

theorem v86_eq (p : Fin 8192) : (val_main_v86 (F := Ideal) U W B D X M (ix2 p 0) : EReal) = ms (x2 U W B D X M p) := by
  unfold ms
  simp only [← v79_eq]
  unfold val_main_v86 val_main_v85 val_main_cst_3 val_main_v84 val_main_v83 val_main_cst_2 val_main_v82 val_main_v81 val_main_cst_1 val_main_v80
  pointwise

theorem v87_eq (p : Fin 8192) : (val_main_v87 (F := Ideal) U W B D X M (ix2 p 0) : EReal) = rs (x2 U W B D X M p) := by
  unfold rs
  rw [← v86_eq]
  unfold val_main_v87
  pointwise

theorem v90_eq (p : Fin 8192) : (val_main_v90 (F := Ideal) U W B D X M (ix2 p 0) : EReal) = rsd (x2 U W B D X M p) := by
  unfold rsd
  rw [← v86_eq, ← v87_eq]
  unfold val_main_v90 val_main_v89 val_main_cst_4 val_main_v88
  pointwise

theorem v92_eq (p : Fin 8192) (j : Fin 1024) : (val_main_v92 (F := Ideal) U W B D X M (ix2 p j) : EReal) = x2 U W B D X M p j * rs (x2 U W B D X M p) := by
  rw [← v79_eq, ← v87_eq]
  unfold val_main_v92 val_main_v91
  pointwise

theorem v95_eq (p : Fin 8192) (j : Fin 1024) : (val_main_v95 (F := Ideal) U W B D X T M G (ix2 p j) : EReal) = err (x2 U W B D X M p) (gf G) (tg T p) j := by
  unfold err gf tg
  rw [← v92_eq]
  unfold val_main_v95 val_main_v94 val_main_v93
  pointwise

theorem two_eq : Ideal.ofBits .f32 0x40000000#32 = ((2 : ℝ) : EReal) := by
  simp [Ideal.ofBits, Ideal.ieee, -EReal.coe_mul]; norm_num

theorem width_eq : Ideal.ofBits .f32 0x44800000#32 = ((1024 : ℝ) : EReal) := by
  simp [Ideal.ofBits, Ideal.ieee, -EReal.coe_mul]; norm_num

/-- A number times a constant, twice, is twice the constant times the number. -/
theorem twice (e : EReal) : Ideal.div (Ideal.ofBits .f32 0x3F000000#32 * 1) (Ideal.ofBits .f32 0x44800000#32) * (Ideal.ofBits .f32 0x40000000#32 * e)
    = e * (Ideal.ofBits .f32 0x3F000000#32 * (1 * Ideal.ofBits .f32 0x3A800000#32)) + Ideal.ofBits .f32 0x3F000000#32 * (1 * Ideal.ofBits .f32 0x3A800000#32) * e := by
  rw [width_eq, two_eq, half_eq, inv_eq, Ideal.div_coe (by norm_num), mul_one, one_mul, ← mul_assoc, mul_comm e,
    ← EReal.right_distrib_of_nonneg (by rw [← EReal.coe_mul]; exact EReal.coe_nonneg.mpr (by norm_num)) (by rw [← EReal.coe_mul]; exact EReal.coe_nonneg.mpr (by norm_num))]
  refine congrArg (· * e) ?_
  simp only [← EReal.coe_mul, ← EReal.coe_add]
  norm_num

theorem v109_eq (p : Fin 8192) (j : Fin 1024) : (val_main_v109 (F := Ideal) U W B D X T M G (ix2 p j) : EReal) = derr (x2 U W B D X M p) (gf G) (tg T p) j := by
  unfold derr
  rw [← v95_eq, ← twice]
  unfold val_main_v109 val_main_v108 val_main_v107 val_main_v106 val_main_cst_12 val_main_v105 val_main_v104 val_main_cst_11 val_main_cst_10 val_main_v98 val_main_v97 val_main_cst_5
  pointwise

theorem v114_eq (p : Fin 8192) (j : Fin 1024) : (val_main_v114 (F := Ideal) U W B D X T M G (ix2 p j) : EReal) = derr (x2 U W B D X M p) (gf G) (tg T p) j * gf G j := by
  unfold gf
  rw [← show (gf G = fun j => G (ix2 0 j)) from rfl, ← v109_eq]
  unfold val_main_v114 val_main_v113
  pointwise

theorem v124_eq (p : Fin 8192) (j : Fin 1024) : (val_main_v124 (F := Ideal) U W B D X T M G (ix2 p j) : EReal)
    = qm (x2 U W B D X M p) (fun k => derr (x2 U W B D X M p) (gf G) (tg T p) k * gf G k) := by
  unfold qm
  simp only [← v114_eq, ← v90_eq, ← v79_eq]
  unfold val_main_v124 val_main_v123 val_main_cst_16 val_main_v122 val_main_v121 val_main_cst_15 val_main_v120 val_main_v117 val_main_v116 val_main_cst_14 val_main_v115
  pointwise
  simp only [Fin.sum_univ_one]

theorem v128_eq (p : Fin 8192) (j : Fin 1024) : (val_main_v128 (F := Ideal) U W B D X T M G (ix2 p j) : EReal) = drow (x2 U W B D X M p) (gf G) (tg T p) j := by
  unfold drow dnorm
  beta_reduce
  rw [← v124_eq U W B D X T M G p j, ← v114_eq, ← v87_eq, ← v79_eq]
  unfold val_main_v128 val_main_v127 val_main_v126 val_main_v125 val_main_v119 val_main_v118
  pointwise

theorem v130_eq (p : Fin 8192) (j : Fin 1024) : (val_main_v130 (F := Ideal) U W B D X T M G (ix2 p j) : EReal) = dffn U W B D X T M G (ix2 p j) := by
  show _ = ga M j * drow (x2 U W B D X M p) (gf G) (tg T p) j
  rw [← v128_eq, ← v76_eq]
  unfold val_main_v130 val_main_v129
  pointwise

theorem v133_eq (j : Fin 1024) : (val_main_v133 (F := Ideal) U W B D X T M G (ix2 0 j) : EReal) = ∑ p : Fin 8192, drow (x2 U W B D X M p) (gf G) (tg T p) j * ffn U W B D p j := by
  simp only [← v128_eq, ← v75_eq]
  unfold val_main_v133 val_main_v132 val_main_cst_17 val_main_v131
  pointwise

theorem v112_eq (j : Fin 1024) : (val_main_v112 (F := Ideal) U W B D X T M G (ix2 0 j) : EReal)
    = ∑ p : Fin 8192, x2 U W B D X M p j * rs (x2 U W B D X M p) * derr (x2 U W B D X M p) (gf G) (tg T p) j := by
  simp only [← v92_eq, ← v109_eq]
  unfold val_main_v112 val_main_v111 val_main_cst_13 val_main_v110
  pointwise

/-- Half the sum of the rows' means is the sum of the halves. -/
theorem loss_eq (f : Fin 8192 → EReal) : Ideal.ofBits .f32 0x3F000000#32 * ∑ p : Fin 8192, Ideal.div (f p) (Ideal.ofBits .f32 0x44800000#32)
    = ∑ p : Fin 8192, Ideal.ofBits .f32 0x3F000000#32 * f p * Ideal.ofBits .f32 0x3A800000#32 := by
  rw [half_eq, mul_sum _ _ _ (by norm_num)]
  refine Finset.sum_congr rfl fun p _ => ?_
  rw [width_eq, inv_eq, Ideal.div_coe (by norm_num), mul_assoc]

theorem v134_eq (j : Fin 1024) : (val_main_v134 (F := Ideal) U W B D X T M G (ix2 0 j) : EReal)
    = ∑ p : Fin 8192, Ideal.ofBits .f32 0x3F000000#32 * (∑ j : Fin 1024, err (x2 U W B D X M p) (gf G) (tg T p) j * err (x2 U W B D X M p) (gf G) (tg T p) j) * Ideal.ofBits .f32 0x3A800000#32 := by
  rw [← loss_eq]
  simp only [← v95_eq]
  unfold val_main_v134 val_main_v103 val_main_cst_9 val_main_v102 val_main_cst_8 val_main_v101 val_main_v100 val_main_cst_7 val_main_v99 val_main_cst_6 val_main_v96
  pointwise

theorem v136_eq : (val_main_v136 (F := Ideal) U W B D X T M G : S8x1024.Idx → EReal) = acc U W B D X T M G := by
  funext i
  obtain ⟨k, j, rfl⟩ : ∃ (k : Fin 8) (j : Fin 1024), i = ix2 k j := ⟨i 0, i 1, (ix2_eta i).symm⟩
  unfold val_main_v136 val_main_v135 val_main_cst_18
  pointwise
  show _ = ∑ p : Fin 8192, term U W B D X T M G k j p
  by_cases hk : 2 < k.val
  · rw [dif_neg (by omega), dif_neg (by omega), dif_neg (by omega)]
    refine Eq.trans ?_ (Finset.sum_eq_zero fun p _ => ?_).symm
    · rfl
    · unfold term
      rw [if_neg (by omega), if_neg (by omega), if_neg (by omega)]
  · obtain rfl | rfl | rfl : k = 0 ∨ k = 1 ∨ k = 2 := by omega
    · exact v133_eq U W B D X T M G j
    · exact v112_eq U W B D X T M G j
    · exact v134_eq U W B D X T M G j

/-! ## The claims -/

/-- The kernel and the reference end with the same six arrays. -/
theorem algebraic : Cert.algebraic_KernelDownIdeal_ReferenceDownIdeal := by
  intro m g m' g' _ hagree
  refine ⟨_, _, _, _, _, _, (θ_run _ _ _).mono (fun r h c => ⟨((h.1 c).1 15).trans (final15 m c), ((h.1 c).1 16).trans (final16 m c), ((h.1 c).1 17).trans (final17 m c), ((h.1 c).1 18).trans (final18 m c), ((h.1 c).1 19).trans (final19 m c), ((h.1 c).1 20).trans (final20 m c), h.2.1 c⟩)
    (θ_run_and (Cert.KernelDownIdeal.Gen.run_main m g) (Cert.KernelDownIdeal.Gen.frame m g)), ?_⟩
  refine (θ_run _ _ _).mono (fun r h c => ?_) (Cert.ReferenceDownIdeal.Value.run m' g')
  obtain ⟨h1, h2, h3, h4, h5, h6, hk⟩ := h c
  obtain ⟨a0, a1, a2, a3, a4, a5, a6, a7⟩ := hagree c
  have e0 : StableHlo.launchContents m' c (Proc.tc.devRef main_arg0) = aU m c := a0
  have e1 : StableHlo.launchContents m' c (Proc.tc.devRef main_arg1) = aW m c := a1
  have e2 : StableHlo.launchContents m' c (Proc.tc.devRef main_arg2) = aB m c := a2
  have e3 : StableHlo.launchContents m' c (Proc.tc.devRef main_arg3) = aD m c := a3
  have e4 : StableHlo.launchContents m' c (Proc.tc.devRef main_arg4) = aX m c := a4
  have e5 : StableHlo.launchContents m' c (Proc.tc.devRef main_arg5) = aT m c := a5
  have e6 : StableHlo.launchContents m' c (Proc.tc.devRef main_arg6) = aM m c := a6
  have e7 : StableHlo.launchContents m' c (Proc.tc.devRef main_arg7) = aG m c := a7
  refine ⟨h1.trans ?_, h2.trans ?_, h3.trans ?_, h4.trans ?_, h5.trans ?_, h6.trans ?_, hk⟩
  · rw [val_main_v137_eq]; rw [e0, e1, e2]
    exact v74_eq _ _ _
  · rw [val_main_v71_eq]; rw [e0, e1, e2]
    exact v71_eq _ _ _
  · rw [val_main_v72_eq]; rw [e0, e1, e2]
    exact v72_eq _ _ _
  · rw [val_main_v128_eq]; rw [e0, e1, e2, e3, e4, e5, e6, e7]
    exact funext fun i => (congrArg _ (ix2_eta i)).symm.trans ((v128_eq _ _ _ _ _ _ _ _ (i 0) (i 1)).trans rfl)
  · rw [val_main_v138_eq]; rw [e0, e1, e2, e3, e4, e5, e6, e7]
    exact funext fun i => (congrArg _ (ix2_eta i)).symm.trans ((v130_eq _ _ _ _ _ _ _ _ (i 0) (i 1)).trans (congrArg _ (ix2_eta i)))
  · rw [val_main_v136_eq]; rw [e0, e1, e2, e3, e4, e5, e6, e7]
    exact v136_eq _ _ _ _ _ _ _ _

/-- The reference runs and leaves its arguments. -/
theorem frame_reference : Cert.quiescent_ReferenceDownIdeal := fun m ρ _ =>
  (θ_run _ _ _).mono (fun _ h => ⟨fun c => (h c).2.2.2.2.2.2, funext fun ⟨_, s⟩ => by rcases s with s | s <;> exact s.elim0⟩)
    (Cert.ReferenceDownIdeal.Value.run m ρ)

end Cert.Proof.Down

end
-- ==== Proof.Discb.lean ====
/- The gradient of the state space's discretisation: what the one grid point stores, from the arrays it is given. -/
module

public import proofs.«01_k».proof.Proof.Gen.KernelDiscbIdeal.Frame
public import proofs.«01_k».proof.Proof.Gen.ReferenceDiscbIdeal.Read
public import proofs.«01_k».proof.Proof.Norm

@[expose] public section

noncomputable section

namespace Cert.Proof.Discb

open Cert.KernelDiscbIdeal Cert.KernelDiscbIdeal.Gen Cert.ReferenceDiscbIdeal.Read Idealize.ShloMosaic Idealize.ShloMosaic.TcCoe Idealize.SL.Sem

/-- An array of directions, state blocks, states and copies, laid out as the kernel's 512 rows of 128. -/
abbrev flat (f : S2x32x64x16.Idx → EReal) : FVec Ideal S512x128 .f32 := shapeCast S512x128 (f : FVec Ideal S2x32x64x16 .f32) shapeCasts_S2x32x64x16_S512x128

/-! ## One operation of the kernel on rows of 128 is the same operation on the four-axis array -/

theorem flat_mul (f g : S2x32x64x16.Idx → EReal) : mulf (flat f) (flat g) = flat (mulf (F := Ideal) (φ := .f32) f g) := rfl
theorem flat_add (f g : S2x32x64x16.Idx → EReal) : addf (flat f) (flat g) = flat (addf (F := Ideal) (φ := .f32) f g) := rfl
theorem flat_sub (f g : S2x32x64x16.Idx → EReal) : subf (flat f) (flat g) = flat (subf (F := Ideal) (φ := .f32) f g) := rfl
theorem flat_div (f g : S2x32x64x16.Idx → EReal) : divf (flat f) (flat g) = flat (Host.divf (F := Ideal) (φ := .f32) f g) := rfl
theorem flat_exp (f : S2x32x64x16.Idx → EReal) : exp (flat f) = flat (Host.exp (F := Ideal) (φ := .f32) f) := rfl
theorem flat_cos (f : S2x32x64x16.Idx → EReal) : cos (flat f) = flat (Host.cos (F := Ideal) (φ := .f32) f) := rfl
theorem flat_sin (f : S2x32x64x16.Idx → EReal) : sin (flat f) = flat (Host.sin (F := Ideal) (φ := .f32) f) := rfl
theorem flat_neg (f : S2x32x64x16.Idx → EReal) : subf (broadcast S512x128 (FloatOps.ofBits .f32 0#32)) (flat f) = flat (Host.negf (F := Ideal) (φ := .f32) f) := by
  funext i
  pointwise
  exact zero_sub _
theorem flat_one : (broadcast S512x128 (Scalar.ofBits .f32 0x3F800000#32) : FVec Ideal S512x128 .f32) = flat (val_main_v17 (F := Ideal)) := rfl
theorem flat_self (X : FVec Ideal S512x128 .f32) : shapeCast S512x128 X shapeCasts_S512x128_S512x128 = X := by
  funext i
  pointwise

/-! ## The five results -/

variable (a0 a1 : S2x32x64.Idx → EReal) (a2 : S2x32.Idx → EReal) (a3 a4 : S2x32x64x16.Idx → EReal) (a5 a6 : S2x32x64.Idx → EReal)
  (a7 a8 : S2x32x64x16.Idx → EReal)

theorem hz : (![0, 0] : Fin 2 → Nat) = fun _ => 0 := funext fun a => by fin_cases a <;> rfl

theorem ld_flat (f : S2x32x64x16.Idx → EReal) : View.ld (Val := Elt Ideal) (e' := .f32) (flat f) r0_0 = flat f := View.ld_unit_zero hz _ _

theorem one_b : val_main_v27 (F := Ideal) = val_main_v17 (F := Ideal) := rfl
theorem one_c : val_main_v34 (F := Ideal) = val_main_v17 (F := Ideal) := rfl
theorem self_48 : (val_main_v48 (F := Ideal) a8 : S2x32x64x16.Idx → EReal) = a8 := by unfold val_main_v48; funext i; pointwise
theorem self_49 : (val_main_v49 (F := Ideal) a8 : S2x32x64x16.Idx → EReal) = a8 := by unfold val_main_v49; funext i; pointwise
theorem self_54 : (val_main_v54 (F := Ideal) a7 : S2x32x64x16.Idx → EReal) = a7 := by unfold val_main_v54; funext i; pointwise

/-- The gradient of the real part of the eigenvalue. -/
theorem out9 : out0_9 (F := Ideal) (flat (val_main_v1 (F := Ideal) a0)) (flat (val_main_v3 (F := Ideal) a1)) (flat (val_main_v5 (F := Ideal) a2))
    (flat a3) (flat a4) (flat (val_main_v44 (F := Ideal) a5)) (flat (val_main_v47 (F := Ideal) a6)) (flat a7) (flat a8)
    = flat (val_main_v115 (F := Ideal) a0 a1 a2 a3 a4 a5 a6 a7 a8) := by
  unfold_out out0_9
  rw [View.canon_unit_zero hz]
  unfold_payloads
  simp only [ld_flat, flat_self, flat_mul, flat_add, flat_sub, flat_div, flat_exp, flat_cos, flat_sin, flat_neg, flat_one]
  unfold val_main_v115 val_main_v114 val_main_v111 val_main_v104 val_main_v103 val_main_v97 val_main_v95 val_main_v94 val_main_v93 val_main_v92 val_main_v87
    val_main_v86 val_main_v85 val_main_v84 val_main_v83 val_main_v82 val_main_v79 val_main_v78 val_main_v77 val_main_v76 val_main_v75 val_main_v74
    val_main_v73 val_main_v72 val_main_v71 val_main_v70 val_main_v68 val_main_v67 val_main_v66 val_main_v65 val_main_v64 val_main_v63 val_main_v62
    val_main_v59 val_main_v58 val_main_v55 val_main_v53 val_main_v51 val_main_v35 val_main_v33 val_main_v31 val_main_v30 val_main_v29 val_main_v28
    val_main_v26 val_main_v24 val_main_v23 val_main_v22 val_main_v21 val_main_v20 val_main_v19 val_main_v18 val_main_v16 val_main_v14 val_main_v13
    val_main_v12 val_main_v10 val_main_v9 val_main_v8 val_main_v7 val_main_v6
  simp only [one_b, one_c, self_48, self_49, self_54]

/-- The gradient of the imaginary part of the eigenvalue. -/
theorem out10 : out0_10 (F := Ideal) (flat (val_main_v1 (F := Ideal) a0)) (flat (val_main_v3 (F := Ideal) a1)) (flat (val_main_v5 (F := Ideal) a2))
    (flat a3) (flat a4) (flat (val_main_v44 (F := Ideal) a5)) (flat (val_main_v47 (F := Ideal) a6)) (flat a7) (flat a8)
    = flat (val_main_v110 (F := Ideal) a0 a1 a2 a3 a4 a5 a6 a7 a8) := by
  unfold_out out0_10
  rw [View.canon_unit_zero hz]
  unfold_payloads
  simp only [ld_flat, flat_self, flat_mul, flat_add, flat_sub, flat_div, flat_exp, flat_cos, flat_sin, flat_neg, flat_one]
  unfold val_main_v110 val_main_v109 val_main_v106 val_main_v105 val_main_v102 val_main_v101 val_main_v100 val_main_v98 val_main_v96 val_main_v91 val_main_v90
    val_main_v89 val_main_v88 val_main_v87 val_main_v86 val_main_v83 val_main_v82 val_main_v81 val_main_v80 val_main_v79 val_main_v78 val_main_v77
    val_main_v76 val_main_v75 val_main_v74 val_main_v73 val_main_v71 val_main_v70 val_main_v69 val_main_v68 val_main_v67 val_main_v66 val_main_v65
    val_main_v64 val_main_v63 val_main_v62 val_main_v59 val_main_v58 val_main_v55 val_main_v53 val_main_v51 val_main_v35 val_main_v33 val_main_v31
    val_main_v30 val_main_v29 val_main_v28 val_main_v26 val_main_v24 val_main_v23 val_main_v22 val_main_v21 val_main_v20 val_main_v19 val_main_v18
    val_main_v16 val_main_v15 val_main_v14 val_main_v13 val_main_v12 val_main_v11 val_main_v10 val_main_v9 val_main_v8 val_main_v7 val_main_v6
  simp only [one_b, one_c, self_48, self_49, self_54]

/-- The gradient of the logarithm of the step. -/
theorem out11 : out0_11 (F := Ideal) (flat (val_main_v1 (F := Ideal) a0)) (flat (val_main_v3 (F := Ideal) a1)) (flat (val_main_v5 (F := Ideal) a2))
    (flat a3) (flat a4) (flat (val_main_v44 (F := Ideal) a5)) (flat (val_main_v47 (F := Ideal) a6)) (flat a7) (flat a8)
    = flat (val_main_v116 (F := Ideal) a0 a1 a2 a3 a4 a5 a6 a7 a8) := by
  unfold_out out0_11
  rw [View.canon_unit_zero hz]
  unfold_payloads
  simp only [ld_flat, flat_self, flat_mul, flat_add, flat_sub, flat_div, flat_exp, flat_cos, flat_sin, flat_neg, flat_one]
  unfold val_main_v116 val_main_v113 val_main_v112 val_main_v111 val_main_v108 val_main_v107 val_main_v106 val_main_v105 val_main_v104 val_main_v103
    val_main_v102 val_main_v99 val_main_v98 val_main_v97 val_main_v96 val_main_v87 val_main_v86 val_main_v83 val_main_v82 val_main_v79 val_main_v74
    val_main_v73 val_main_v71 val_main_v70 val_main_v68 val_main_v67 val_main_v63 val_main_v62 val_main_v59 val_main_v58 val_main_v55 val_main_v53
    val_main_v51 val_main_v21 val_main_v20 val_main_v19 val_main_v15 val_main_v14 val_main_v13 val_main_v11 val_main_v10 val_main_v9 val_main_v8
    val_main_v7 val_main_v6
  simp only [one_b, one_c, self_48, self_49, self_54]

/-- The gradient of the real part of the input matrix. -/
theorem out12 : out0_12 (F := Ideal) (flat (val_main_v1 (F := Ideal) a0)) (flat (val_main_v3 (F := Ideal) a1)) (flat (val_main_v5 (F := Ideal) a2))
    (flat a3) (flat a4) (flat (val_main_v44 (F := Ideal) a5)) (flat (val_main_v47 (F := Ideal) a6)) (flat a7) (flat a8)
    = flat (val_main_v61 (F := Ideal) a0 a1 a2 a7 a8) := by
  unfold_out out0_12
  rw [View.canon_unit_zero hz]
  unfold_payloads
  simp only [ld_flat, flat_self, flat_mul, flat_add, flat_sub, flat_div, flat_exp, flat_cos, flat_sin, flat_neg, flat_one]
  unfold val_main_v61 val_main_v60 val_main_v50 val_main_v32 val_main_v31 val_main_v30 val_main_v29 val_main_v25 val_main_v24 val_main_v23 val_main_v22
    val_main_v21 val_main_v20 val_main_v19 val_main_v18 val_main_v16 val_main_v14 val_main_v13 val_main_v12 val_main_v10 val_main_v9 val_main_v8
    val_main_v7 val_main_v6
  simp only [one_b, one_c, self_48, self_49, self_54]

/-- The gradient of the imaginary part of the input matrix. -/
theorem out13 : out0_13 (F := Ideal) (flat (val_main_v1 (F := Ideal) a0)) (flat (val_main_v3 (F := Ideal) a1)) (flat (val_main_v5 (F := Ideal) a2))
    (flat a3) (flat a4) (flat (val_main_v44 (F := Ideal) a5)) (flat (val_main_v47 (F := Ideal) a6)) (flat a7) (flat a8)
    = flat (val_main_v57 (F := Ideal) a0 a1 a2 a7 a8) := by
  unfold_out out0_13
  rw [View.canon_unit_zero hz]
  unfold_payloads
  simp only [ld_flat, flat_self, flat_mul, flat_add, flat_sub, flat_div, flat_exp, flat_cos, flat_sin, flat_neg, flat_one]
  unfold val_main_v57 val_main_v56 val_main_v55 val_main_v52 val_main_v32 val_main_v31 val_main_v30 val_main_v29 val_main_v25 val_main_v24 val_main_v23
    val_main_v22 val_main_v21 val_main_v20 val_main_v19 val_main_v18 val_main_v16 val_main_v14 val_main_v13 val_main_v12 val_main_v10 val_main_v9
    val_main_v8 val_main_v7 val_main_v6
  simp only [one_b, one_c, self_48, self_49, self_54]

/-! ## The run -/

variable (m : (ℓ : Loc nD τ sig) → Buf (Elt Ideal) ℓ) (ρ : Dev nD → PrngReg)

theorem win_facts : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0] :=
  (by decide +kernel : ∀ t : Fin grid0.N, _)

variable (c : Dev nD) (t : Fin cfg0.N)

abbrev x0 : S2x32x64.Idx → EReal := m ((c : Thread nD τ).loc main_arg0)
abbrev x1 : S2x32x64.Idx → EReal := m ((c : Thread nD τ).loc main_arg1)
abbrev x2 : S2x32.Idx → EReal := m ((c : Thread nD τ).loc main_arg2)
abbrev x3 : S2x32x64x16.Idx → EReal := m ((c : Thread nD τ).loc main_arg3)
abbrev x4 : S2x32x64x16.Idx → EReal := m ((c : Thread nD τ).loc main_arg4)
abbrev x5 : S2x32x64.Idx → EReal := m ((c : Thread nD τ).loc main_arg5)
abbrev x6 : S2x32x64.Idx → EReal := m ((c : Thread nD τ).loc main_arg6)
abbrev x7 : S2x32x64x16.Idx → EReal := m ((c : Thread nD τ).loc main_arg7)
abbrev x8 : S2x32x64x16.Idx → EReal := m ((c : Thread nD τ).loc main_arg8)

/-! The nine arrays the kernel is given: the arguments repeated over the copies (the cotangents of the transition in copy 0 only), as rows of 128. -/

theorem in0 : iblk m c 0 t = flat (val_main_v1 (F := Ideal) (x0 m c)) := by
  have h : V m c main_v7 = flat (val_main_v1 (F := Ideal) (x0 m c)) := by
    show StableHlo.after _ _ _ = _
    after_results
    rfl
  obtain ⟨e, -⟩ := win_facts t
  funext y
  blk_simp [iblk, e]
  exact (congrFun h _).trans (congrArg (flat (val_main_v1 (F := Ideal) (x0 m c))) (by blk_ext [e]))

theorem in1 : iblk m c 1 t = flat (val_main_v3 (F := Ideal) (x1 m c)) := by
  have h : V m c main_v10 = flat (val_main_v3 (F := Ideal) (x1 m c)) := by
    show StableHlo.after _ _ _ = _
    after_results
    rfl
  obtain ⟨-, e, -⟩ := win_facts t
  funext y
  blk_simp [iblk, e]
  exact (congrFun h _).trans (congrArg (flat (val_main_v3 (F := Ideal) (x1 m c))) (by blk_ext [e]))

theorem in2 : iblk m c 2 t = flat (val_main_v5 (F := Ideal) (x2 m c)) := by
  have h : V m c main_v13 = flat (val_main_v5 (F := Ideal) (x2 m c)) := by
    show StableHlo.after _ _ _ = _
    after_results
    rfl
  obtain ⟨-, -, e, -⟩ := win_facts t
  funext y
  blk_simp [iblk, e]
  exact (congrFun h _).trans (congrArg (flat (val_main_v5 (F := Ideal) (x2 m c))) (by blk_ext [e]))

theorem in3 : iblk m c 3 t = flat (x3 m c) := by
  have h : V m c main_v14 = flat (x3 m c) := by
    show StableHlo.after _ _ _ = _
    after_results
    rfl
  obtain ⟨-, -, -, e, -⟩ := win_facts t
  funext y
  blk_simp [iblk, e]
  exact (congrFun h _).trans (congrArg (flat (x3 m c)) (by blk_ext [e]))

theorem in4 : iblk m c 4 t = flat (x4 m c) := by
  have h : V m c main_v15 = flat (x4 m c) := by
    show StableHlo.after _ _ _ = _
    after_results
    rfl
  obtain ⟨-, -, -, -, e, -⟩ := win_facts t
  funext y
  blk_simp [iblk, e]
  exact (congrFun h _).trans (congrArg (flat (x4 m c)) (by blk_ext [e]))

theorem in5 : iblk m c 5 t = flat (val_main_v44 (F := Ideal) (x5 m c)) := by
  have h : V m c main_v16 = flat (val_main_v44 (F := Ideal) (x5 m c)) := by
    show StableHlo.after _ _ _ = _
    after_results
    rfl
  obtain ⟨-, -, -, -, -, e, -⟩ := win_facts t
  funext y
  blk_simp [iblk, e]
  exact (congrFun h _).trans (congrArg (flat (val_main_v44 (F := Ideal) (x5 m c))) (by blk_ext [e]))

theorem in6 : iblk m c 6 t = flat (val_main_v47 (F := Ideal) (x6 m c)) := by
  have h : V m c main_v17 = flat (val_main_v47 (F := Ideal) (x6 m c)) := by
    show StableHlo.after _ _ _ = _
    after_results
    rfl
  obtain ⟨-, -, -, -, -, -, e, -⟩ := win_facts t
  funext y
  blk_simp [iblk, e]
  exact (congrFun h _).trans (congrArg (flat (val_main_v47 (F := Ideal) (x6 m c))) (by blk_ext [e]))

theorem in7 : iblk m c 7 t = flat (x7 m c) := by
  have h : V m c main_v18 = flat (x7 m c) := by
    show StableHlo.after _ _ _ = _
    after_results
    rfl
  obtain ⟨-, -, -, -, -, -, -, e, -⟩ := win_facts t
  funext y
  blk_simp [iblk, e]
  exact (congrFun h _).trans (congrArg (flat (x7 m c)) (by blk_ext [e]))

theorem in8 : iblk m c 8 t = flat (x8 m c) := by
  have h : V m c main_v19 = flat (x8 m c) := by
    show StableHlo.after _ _ _ = _
    after_results
    rfl
  obtain ⟨-, -, -, -, -, -, -, -, e, -⟩ := win_facts t
  funext y
  blk_simp [iblk, e]
  exact (congrFun h _).trans (congrArg (flat (x8 m c)) (by blk_ext [e]))

theorem final9 : (dats m 0 c).arrAt 9 cfg0.N = flat (val_main_v115 (F := Ideal) (x0 m c) (x1 m c) (x2 m c) (x3 m c) (x4 m c) (x5 m c) (x6 m c) (x7 m c) (x8 m c)) := by
  refine (dats m 0 c).arrAt_eq_of_covers 9 _ (by decide +kernel) fun t hf y => ?_
  obtain ⟨-, -, -, -, -, -, -, -, -, e, -⟩ := win_facts t
  blk_simp
  rw [after0_9, in0, in1, in2, in3, in4, in5, in6, in7, in8, out9]
  exact congrArg (flat (val_main_v115 (F := Ideal) (x0 m c) (x1 m c) (x2 m c) (x3 m c) (x4 m c) (x5 m c) (x6 m c) (x7 m c) (x8 m c))) (by blk_ext [e])

theorem final10 : (dats m 0 c).arrAt 10 cfg0.N = flat (val_main_v110 (F := Ideal) (x0 m c) (x1 m c) (x2 m c) (x3 m c) (x4 m c) (x5 m c) (x6 m c) (x7 m c) (x8 m c)) := by
  refine (dats m 0 c).arrAt_eq_of_covers 10 _ (by decide +kernel) fun t hf y => ?_
  obtain ⟨-, -, -, -, -, -, -, -, -, -, e, -⟩ := win_facts t
  blk_simp
  rw [after0_10, in0, in1, in2, in3, in4, in5, in6, in7, in8, out10]
  exact congrArg (flat (val_main_v110 (F := Ideal) (x0 m c) (x1 m c) (x2 m c) (x3 m c) (x4 m c) (x5 m c) (x6 m c) (x7 m c) (x8 m c))) (by blk_ext [e])

theorem final11 : (dats m 0 c).arrAt 11 cfg0.N = flat (val_main_v116 (F := Ideal) (x0 m c) (x1 m c) (x2 m c) (x3 m c) (x4 m c) (x5 m c) (x6 m c) (x7 m c) (x8 m c)) := by
  refine (dats m 0 c).arrAt_eq_of_covers 11 _ (by decide +kernel) fun t hf y => ?_
  obtain ⟨-, -, -, -, -, -, -, -, -, -, -, e, -⟩ := win_facts t
  blk_simp
  rw [after0_11, in0, in1, in2, in3, in4, in5, in6, in7, in8, out11]
  exact congrArg (flat (val_main_v116 (F := Ideal) (x0 m c) (x1 m c) (x2 m c) (x3 m c) (x4 m c) (x5 m c) (x6 m c) (x7 m c) (x8 m c))) (by blk_ext [e])

theorem final12 : (dats m 0 c).arrAt 12 cfg0.N = flat (val_main_v61 (F := Ideal) (x0 m c) (x1 m c) (x2 m c) (x7 m c) (x8 m c)) := by
  refine (dats m 0 c).arrAt_eq_of_covers 12 _ (by decide +kernel) fun t hf y => ?_
  obtain ⟨-, -, -, -, -, -, -, -, -, -, -, -, e, -⟩ := win_facts t
  blk_simp
  rw [after0_12, in0, in1, in2, in3, in4, in5, in6, in7, in8, out12]
  exact congrArg (flat (val_main_v61 (F := Ideal) (x0 m c) (x1 m c) (x2 m c) (x7 m c) (x8 m c))) (by blk_ext [e])

theorem final13 : (dats m 0 c).arrAt 13 cfg0.N = flat (val_main_v57 (F := Ideal) (x0 m c) (x1 m c) (x2 m c) (x7 m c) (x8 m c)) := by
  refine (dats m 0 c).arrAt_eq_of_covers 13 _ (by decide +kernel) fun t hf y => ?_
  obtain ⟨-, -, -, -, -, -, -, -, -, -, -, -, -, e⟩ := win_facts t
  blk_simp
  rw [after0_13, in0, in1, in2, in3, in4, in5, in6, in7, in8, out13]
  exact congrArg (flat (val_main_v57 (F := Ideal) (x0 m c) (x1 m c) (x2 m c) (x7 m c) (x8 m c))) (by blk_ext [e])

end Cert.Proof.Discb

end
-- ==== Proof.DiscbEq.lean ====
/- The gradient of the discretisation: the reference's five results are the kernel's. -/
module

public import proofs.«01_k».proof.Defs
public import proofs.«01_k».proof.Proof.Discb
public import proofs.«01_k».proof.Proof.Gen.ReferenceDiscbIdeal.Run

@[expose] public section

noncomputable section

namespace Cert.Proof.Discb

open Cert.ReferenceDiscbIdeal Cert.ReferenceDiscbIdeal.Read Idealize.ShloMosaic Idealize.ShloMosaic.TcCoe Idealize.SL.Sem

theorem algebraic : Cert.algebraic_KernelDiscbIdeal_ReferenceDiscbIdeal := by
  intro m g m' g' _ hagree
  refine ⟨_, _, _, _, _, (θ_run _ _ _).mono (fun r h c => ⟨((h.1 c).1 9).trans (final9 m c), ((h.1 c).1 10).trans (final10 m c), ((h.1 c).1 11).trans (final11 m c), ((h.1 c).1 12).trans (final12 m c), ((h.1 c).1 13).trans (final13 m c), h.2.1 c⟩)
    (θ_run_and (Cert.KernelDiscbIdeal.Gen.run_main m g) (Cert.KernelDiscbIdeal.Gen.frame m g)), ?_⟩
  refine (θ_run _ _ _).mono (fun r h c => ?_) (Cert.ReferenceDiscbIdeal.Value.run m' g')
  obtain ⟨h1, h2, h3, h4, h5, hk⟩ := h c
  obtain ⟨a0, a1, a2, a3, a4, a5, a6, a7, a8⟩ := hagree c
  refine ⟨h1.trans ?_, h2.trans ?_, h3.trans ?_, h4.trans ?_, h5.trans ?_, hk⟩
  · rw [val_main_v117_eq]; rw [a0, a1, a2, a3, a4, a5, a6, a7, a8]
    rfl
  · rw [val_main_v118_eq]; rw [a0, a1, a2, a3, a4, a5, a6, a7, a8]
    rfl
  · rw [val_main_v119_eq]; rw [a0, a1, a2, a3, a4, a5, a6, a7, a8]
    rfl
  · rw [val_main_v120_eq]; rw [a0, a1, a2, a7, a8]
    rfl
  · rw [val_main_v121_eq]; rw [a0, a1, a2, a7, a8]
    rfl

/-- The reference runs and leaves its arguments. -/
theorem frame_reference : Cert.quiescent_ReferenceDiscbIdeal := fun m ρ _ =>
  (θ_run _ _ _).mono (fun _ h => ⟨fun c => (h c).2.2.2.2.2, funext fun ⟨_, s⟩ => by rcases s with s | s <;> exact s.elim0⟩)
    (Cert.ReferenceDiscbIdeal.Value.run m ρ)

end Cert.Proof.Discb

end
-- ==== Proof.Disc.lean ====
/- The state space's discretisation: what the one grid point stores, from the arrays it is given. -/
module

public import proofs.«01_k».proof.Proof.Gen.KernelDiscIdeal.Frame
public import proofs.«01_k».proof.Proof.Gen.ReferenceDiscIdeal.Read
public import proofs.«01_k».proof.Proof.Discb

@[expose] public section

noncomputable section

namespace Cert.Proof.Disc

open Cert.KernelDiscIdeal Cert.KernelDiscIdeal.Gen Cert.ReferenceDiscIdeal.Read Idealize.ShloMosaic Idealize.ShloMosaic.TcCoe Idealize.SL.Sem
open Cert.Proof.Discb (flat flat_mul flat_add flat_sub flat_div flat_exp flat_cos flat_sin flat_self hz)

/-- One value per direction, block and state, the same in all sixteen copies. -/
abbrev cp (f : S2x32x64x1.Idx → EReal) : S2x32x64x16.Idx → EReal :=
  broadcastInDim (α := EReal) S2x32x64x16 ![0, 1, 2, 3] bcast_S2x32x64x1_S2x32x64x16_0_1_2_3 f

/-- The logarithm of the step, the same for all states of a block. -/
abbrev states (a2 : S2x32.Idx → EReal) : S2x32x64x1.Idx → EReal :=
  broadcastInDim (α := EReal) S2x32x64x1 ![0, 1, 2, 3] (by decide) (val_main_v2 (F := Ideal) a2)

/-! ## An operation on copies is the copies of the operation -/

theorem cp_mul (f g : S2x32x64x1.Idx → EReal) : mulf (F := Ideal) (φ := .f32) (cp f) (cp g) = cp (mulf (F := Ideal) (φ := .f32) f g) := rfl
theorem cp_add (f g : S2x32x64x1.Idx → EReal) : addf (F := Ideal) (φ := .f32) (cp f) (cp g) = cp (addf (F := Ideal) (φ := .f32) f g) := rfl
theorem cp_sub (f g : S2x32x64x1.Idx → EReal) : subf (F := Ideal) (φ := .f32) (cp f) (cp g) = cp (subf (F := Ideal) (φ := .f32) f g) := rfl
theorem cp_div (f g : S2x32x64x1.Idx → EReal) : Host.divf (F := Ideal) (φ := .f32) (cp f) (cp g) = cp (Host.divf (F := Ideal) (φ := .f32) f g) := rfl
theorem cp_exp (f : S2x32x64x1.Idx → EReal) : Host.exp (F := Ideal) (φ := .f32) (cp f) = cp (Host.exp (F := Ideal) (φ := .f32) f) := rfl
theorem cp_cos (f : S2x32x64x1.Idx → EReal) : Host.cos (F := Ideal) (φ := .f32) (cp f) = cp (Host.cos (F := Ideal) (φ := .f32) f) := rfl
theorem cp_sin (f : S2x32x64x1.Idx → EReal) : Host.sin (F := Ideal) (φ := .f32) (cp f) = cp (Host.sin (F := Ideal) (φ := .f32) f) := rfl
theorem states_copies (a2 : S2x32.Idx → EReal) : cp (states a2) =
    broadcastInDim (α := EReal) S2x32x64x16 ![0, 1, 2, 3] bcast_S2x32x1x1_S2x32x64x16_0_1_2_3 (val_main_v2 (F := Ideal) a2) := by
  funext i
  unfold val_main_v2
  pointwise
  unfold val_main_v2
  pointwise
theorem exp_states (a2 : S2x32.Idx → EReal) : Host.exp (F := Ideal) (φ := .f32) (states a2) = val_main_v4 (F := Ideal) a2 := rfl
theorem flat_one : (broadcast S512x128 (Scalar.ofBits .f32 0x3F800000#32) : FVec Ideal S512x128 .f32) = flat (cp (val_main_v15 (F := Ideal))) := rfl
theorem ld_flat (f : S2x32x64x16.Idx → EReal) : View.ld (Val := Elt Ideal) (e' := .f32) (flat f) r0_0 = flat f := View.ld_unit_zero hz _ _

/-! ## The four results -/

variable (a0 a1 : S2x32x64.Idx → EReal) (a2 : S2x32.Idx → EReal) (a3 a4 : S2x32x64x16.Idx → EReal)

theorem step_7 : val_main_v7 (F := Ideal) a2 = val_main_v4 (F := Ideal) a2 := rfl
theorem step_11 : val_main_v11 (F := Ideal) a2 = val_main_v4 (F := Ideal) a2 := rfl

/-- The real part of the transition. -/
theorem out5 : out0_5 (F := Ideal) (flat (cp (val_main_v0 (F := Ideal) a0))) (flat (cp (val_main_v1 (F := Ideal) a1))) (flat (cp (states a2))) (flat a3) (flat a4)
    = flat (val_main_v38 (F := Ideal) a0 a1 a2) := by
  unfold out0_5
  rw [View.canon_unit_zero hz]
  unfold_payloads
  simp only [ld_flat, flat_self, flat_mul, flat_add, flat_sub, flat_div, flat_exp, flat_cos, flat_sin, flat_one, cp_mul, cp_add, cp_sub, cp_div, cp_exp, cp_cos, cp_sin, exp_states]
  unfold val_main_v38 val_main_v10 val_main_v9 val_main_v8 val_main_v6 val_main_v5
  simp only [step_7, step_11]

/-- The imaginary part of the transition. -/
theorem out6 : out0_6 (F := Ideal) (flat (cp (val_main_v0 (F := Ideal) a0))) (flat (cp (val_main_v1 (F := Ideal) a1))) (flat (cp (states a2))) (flat a3) (flat a4)
    = flat (val_main_v40 (F := Ideal) a0 a1 a2) := by
  unfold out0_6
  rw [View.canon_unit_zero hz]
  unfold_payloads
  simp only [ld_flat, flat_self, flat_mul, flat_add, flat_sub, flat_div, flat_exp, flat_cos, flat_sin, flat_one, cp_mul, cp_add, cp_sub, cp_div, cp_exp, cp_cos, cp_sin, exp_states]
  unfold val_main_v40 val_main_v14 val_main_v13 val_main_v12 val_main_v6 val_main_v5
  simp only [step_7, step_11]

/-- The real part of the discretised input matrix. -/
theorem out7 : out0_7 (F := Ideal) (flat (cp (val_main_v0 (F := Ideal) a0))) (flat (cp (val_main_v1 (F := Ideal) a1))) (flat (cp (states a2))) (flat a3) (flat a4)
    = flat (val_main_v32 (F := Ideal) a0 a1 a2 a3 a4) := by
  unfold out0_7
  rw [View.canon_unit_zero hz]
  unfold_payloads
  simp only [ld_flat, flat_self, flat_mul, flat_add, flat_sub, flat_div, flat_exp, flat_cos, flat_sin, flat_one, cp_mul, cp_add, cp_sub, cp_div, cp_exp, cp_cos, cp_sin, exp_states]
  unfold val_main_v32 val_main_v31 val_main_v30 val_main_v29 val_main_v28 val_main_v27 val_main_v26 val_main_v25 val_main_v24 val_main_v23 val_main_v22 val_main_v21 val_main_v20 val_main_v19 val_main_v18 val_main_v17 val_main_v16 val_main_v14 val_main_v13 val_main_v12 val_main_v10 val_main_v9 val_main_v8 val_main_v6 val_main_v5
  simp only [step_7, step_11]

/-- The imaginary part of the discretised input matrix. -/
theorem out8 : out0_8 (F := Ideal) (flat (cp (val_main_v0 (F := Ideal) a0))) (flat (cp (val_main_v1 (F := Ideal) a1))) (flat (cp (states a2))) (flat a3) (flat a4)
    = flat (val_main_v37 (F := Ideal) a0 a1 a2 a3 a4) := by
  unfold out0_8
  rw [View.canon_unit_zero hz]
  unfold_payloads
  simp only [ld_flat, flat_self, flat_mul, flat_add, flat_sub, flat_div, flat_exp, flat_cos, flat_sin, flat_one, cp_mul, cp_add, cp_sub, cp_div, cp_exp, cp_cos, cp_sin, exp_states]
  unfold val_main_v37 val_main_v36 val_main_v35 val_main_v34 val_main_v33 val_main_v27 val_main_v26 val_main_v25 val_main_v24 val_main_v23 val_main_v22 val_main_v21 val_main_v20 val_main_v19 val_main_v18 val_main_v17 val_main_v16 val_main_v14 val_main_v13 val_main_v12 val_main_v10 val_main_v9 val_main_v8 val_main_v6 val_main_v5
  simp only [step_7, step_11]

/-! ## The run -/

variable (m : (ℓ : Loc nD τ sig) → Buf (Elt Ideal) ℓ) (ρ : Dev nD → PrngReg)

theorem win_facts : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

variable (c : Dev nD) (t : Fin cfg0.N)

abbrev x0 : S2x32x64.Idx → EReal := m ((c : Thread nD τ).loc main_arg0)
abbrev x1 : S2x32x64.Idx → EReal := m ((c : Thread nD τ).loc main_arg1)
abbrev x2 : S2x32.Idx → EReal := m ((c : Thread nD τ).loc main_arg2)
abbrev x3 : S2x32x64x16.Idx → EReal := m ((c : Thread nD τ).loc main_arg3)
abbrev x4 : S2x32x64x16.Idx → EReal := m ((c : Thread nD τ).loc main_arg4)

/-! The five arrays the kernel is given: the arguments repeated over the copies, as rows of 128. -/

theorem in0 : iblk m c 0 t = flat (cp (val_main_v0 (F := Ideal) (x0 m c))) := by
  have h : V m c main_v2 = flat (cp (val_main_v0 (F := Ideal) (x0 m c))) := by
    show StableHlo.after _ _ _ = _
    after_results
    rfl
  obtain ⟨e, -⟩ := win_facts t
  funext y
  blk_simp [iblk, e]
  exact (congrFun h _).trans (congrArg (flat (cp (val_main_v0 (F := Ideal) (x0 m c)))) (by blk_ext [e]))

theorem in1 : iblk m c 1 t = flat (cp (val_main_v1 (F := Ideal) (x1 m c))) := by
  have h : V m c main_v5 = flat (cp (val_main_v1 (F := Ideal) (x1 m c))) := by
    show StableHlo.after _ _ _ = _
    after_results
    rfl
  obtain ⟨-, e, -⟩ := win_facts t
  funext y
  blk_simp [iblk, e]
  exact (congrFun h _).trans (congrArg (flat (cp (val_main_v1 (F := Ideal) (x1 m c)))) (by blk_ext [e]))

theorem in2 : iblk m c 2 t = flat (cp (states (x2 m c))) := by
  have h : V m c main_v8 = flat (cp (states (x2 m c))) := by
    show StableHlo.after _ _ _ = _
    after_results
    rw [states_copies]
    rfl
  obtain ⟨-, -, e, -⟩ := win_facts t
  funext y
  blk_simp [iblk, e]
  exact (congrFun h _).trans (congrArg (flat (cp (states (x2 m c)))) (by blk_ext [e]))

theorem in3 : iblk m c 3 t = flat (x3 m c) := by
  have h : V m c main_v9 = flat (x3 m c) := by
    show StableHlo.after _ _ _ = _
    after_results
    rfl
  obtain ⟨-, -, -, e, -⟩ := win_facts t
  funext y
  blk_simp [iblk, e]
  exact (congrFun h _).trans (congrArg (flat (x3 m c)) (by blk_ext [e]))

theorem in4 : iblk m c 4 t = flat (x4 m c) := by
  have h : V m c main_v10 = flat (x4 m c) := by
    show StableHlo.after _ _ _ = _
    after_results
    rfl
  obtain ⟨-, -, -, -, e, -⟩ := win_facts t
  funext y
  blk_simp [iblk, e]
  exact (congrFun h _).trans (congrArg (flat (x4 m c)) (by blk_ext [e]))

theorem final5 : (dats m 0 c).arrAt 5 cfg0.N = flat (val_main_v38 (F := Ideal) (x0 m c) (x1 m c) (x2 m c)) := by
  refine (dats m 0 c).arrAt_eq_of_covers 5 _ (by decide +kernel) fun t hf y => ?_
  obtain ⟨-, -, -, -, -, e, -⟩ := win_facts t
  blk_simp
  rw [after0_5, in0, in1, in2, in3, in4, out5]
  exact congrArg (flat (val_main_v38 (F := Ideal) (x0 m c) (x1 m c) (x2 m c))) (by blk_ext [e])

theorem final6 : (dats m 0 c).arrAt 6 cfg0.N = flat (val_main_v40 (F := Ideal) (x0 m c) (x1 m c) (x2 m c)) := by
  refine (dats m 0 c).arrAt_eq_of_covers 6 _ (by decide +kernel) fun t hf y => ?_
  obtain ⟨-, -, -, -, -, -, e, -⟩ := win_facts t
  blk_simp
  rw [after0_6, in0, in1, in2, in3, in4, out6]
  exact congrArg (flat (val_main_v40 (F := Ideal) (x0 m c) (x1 m c) (x2 m c))) (by blk_ext [e])

theorem final7 : (dats m 0 c).arrAt 7 cfg0.N = flat (val_main_v32 (F := Ideal) (x0 m c) (x1 m c) (x2 m c) (x3 m c) (x4 m c)) := by
  refine (dats m 0 c).arrAt_eq_of_covers 7 _ (by decide +kernel) fun t hf y => ?_
  obtain ⟨-, -, -, -, -, -, -, e, -⟩ := win_facts t
  blk_simp
  rw [after0_7, in0, in1, in2, in3, in4, out7]
  exact congrArg (flat (val_main_v32 (F := Ideal) (x0 m c) (x1 m c) (x2 m c) (x3 m c) (x4 m c))) (by blk_ext [e])

theorem final8 : (dats m 0 c).arrAt 8 cfg0.N = flat (val_main_v37 (F := Ideal) (x0 m c) (x1 m c) (x2 m c) (x3 m c) (x4 m c)) := by
  refine (dats m 0 c).arrAt_eq_of_covers 8 _ (by decide +kernel) fun t hf y => ?_
  obtain ⟨-, -, -, -, -, -, -, -, e⟩ := win_facts t
  blk_simp
  rw [after0_8, in0, in1, in2, in3, in4, out8]
  exact congrArg (flat (val_main_v37 (F := Ideal) (x0 m c) (x1 m c) (x2 m c) (x3 m c) (x4 m c))) (by blk_ext [e])

end Cert.Proof.Disc

end
-- ==== Proof.DiscEq.lean ====
/- The discretisation: the reference's four results are the kernel's. -/
module

public import proofs.«01_k».proof.Defs
public import proofs.«01_k».proof.Proof.Disc
public import proofs.«01_k».proof.Proof.Gen.ReferenceDiscIdeal.Run

@[expose] public section

noncomputable section

namespace Cert.Proof.Disc

open Cert.ReferenceDiscIdeal Cert.ReferenceDiscIdeal.Read Idealize.ShloMosaic Idealize.ShloMosaic.TcCoe Idealize.SL.Sem

theorem algebraic : Cert.algebraic_KernelDiscIdeal_ReferenceDiscIdeal := by
  intro m g m' g' _ hagree
  refine ⟨_, _, _, _, (θ_run _ _ _).mono (fun r h c => ⟨((h.1 c).1 5).trans (final5 m c), ((h.1 c).1 6).trans (final6 m c), ((h.1 c).1 7).trans (final7 m c), ((h.1 c).1 8).trans (final8 m c), h.2.1 c⟩)
    (θ_run_and (Cert.KernelDiscIdeal.Gen.run_main m g) (Cert.KernelDiscIdeal.Gen.frame m g)), ?_⟩
  refine (θ_run _ _ _).mono (fun r h c => ?_) (Cert.ReferenceDiscIdeal.Value.run m' g')
  obtain ⟨h1, h2, h3, h4, hk⟩ := h c
  obtain ⟨a0, a1, a2, a3, a4⟩ := hagree c
  refine ⟨h1.trans ?_, h2.trans ?_, h3.trans ?_, h4.trans ?_, hk⟩
  · rw [val_main_v39_eq]; rw [a0, a1, a2]
    rfl
  · rw [val_main_v41_eq]; rw [a0, a1, a2]
    rfl
  · rw [val_main_v42_eq]; rw [a0, a1, a2, a3, a4]
    rfl
  · rw [val_main_v43_eq]; rw [a0, a1, a2, a3, a4]
    rfl

/-- The reference runs and leaves its arguments. -/
theorem frame_reference : Cert.quiescent_ReferenceDiscIdeal := fun m ρ _ =>
  (θ_run _ _ _).mono (fun _ h => ⟨fun c => (h c).2.2.2.2, funext fun ⟨_, s⟩ => by rcases s with s | s <;> exact s.elim0⟩)
    (Cert.ReferenceDiscIdeal.Value.run m ρ)

end Cert.Proof.Disc

end
-- ==== Proof.Upf.lean ====
/- The forward of the feed-forward input: modulated norm and product. What the kernel leaves in its three result arrays. -/
module

public import proofs.«01_k».proof.Proof.Gen.KernelUpfIdeal.Value
public import proofs.«01_k».proof.Proof.Norm

@[expose] public section

noncomputable section

namespace Cert.Proof.Upf

open Cert.KernelUpfIdeal Cert.KernelUpfIdeal.Gen Cert.KernelUpfIdeal.Value Idealize.ShloMosaic Idealize.ShloMosaic.TcCoe Idealize.SL.Sem Cert.Proof.Norm

theorem pay1_apply (x : FVec Ideal S256x1024 .f32) (g h s : FVec Ideal S1x1024 .f32) (p : Fin 256) (j : Fin 1024) :
    (k0_pay1 (F := Ideal) x g h s (ix2 p j) : EReal)
      = x (ix2 p j) * (rs fun k => x (ix2 p k)) * g (ix2 0 j) * (1 + s (ix2 0 j)) + h (ix2 0 j) := by
  unfold rs ms
  unfold_payloads
  pointwise

theorem pay2_apply (x : FVec Ideal S256x1024 .f32) (g h s : FVec Ideal S1x1024 .f32) (i : S256x1024.Idx) :
    (k0_pay2 (F := Ideal) x g h s i : EReal) = k0_pay1 (F := Ideal) x g h s i := rfl

theorem pay3_apply (x : FVec Ideal S256x1024 .f32) (g h s : FVec Ideal S1x1024 .f32) (i : S256x1024.Idx) :
    (k0_pay3 (F := Ideal) x g h s i : EReal) = k0_pay1 (F := Ideal) x g h s i := rfl

theorem pay4_apply (x : FVec Ideal S256x1024 .f32) (g h s : FVec Ideal S1x1024 .f32) (w : FVec Ideal S1024x2816 .bf16) (p : Fin 256) (j : Fin 2816) :
    (k0_pay4 (F := Ideal) x g h s w (ix2 p j) : EReal) = ∑ k : Fin 1024, k0_pay1 (F := Ideal) x g h s (ix2 p k) * w (ix2 k j) := by
  simp only [← pay3_apply]
  unfold k0_pay4
  pointwise

theorem pay5_apply (x : FVec Ideal S256x1024 .f32) (g h s : FVec Ideal S1x1024 .f32) (w : FVec Ideal S1024x2816 .bf16) (p : Fin 256) (j : Fin 2816) :
    (k0_pay5 (F := Ideal) x g h s w (ix2 p j) : EReal) = ∑ k : Fin 1024, k0_pay1 (F := Ideal) x g h s (ix2 p k) * w (ix2 k j) := by
  simp only [← pay3_apply]
  unfold k0_pay5
  pointwise

variable (m : (ℓ : Loc nD τ sig) → Buf (Elt Ideal) ℓ) (ρ : Dev nD → PrngReg)
variable (c : Dev nD) (t : Fin cfg0.N)

theorem idx_facts : ∀ t : Fin cfg0.N,
    win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, _)

/-! ## The three results, of the arguments -/

/-- The normed row, scaled and shifted. -/
def h (X : S8192x1024.Idx → EReal) (M : S1x6144.Idx → EReal) (G : S1x1024.Idx → EReal) (p : Fin 8192) (j : Fin 1024) : EReal :=
  X (ix2 p j) * (rs fun k => X (ix2 p k)) * G (ix2 0 j) * (1 + M (ix2 0 ⟨4096 + j.val, by omega⟩)) + M (ix2 0 ⟨3072 + j.val, by omega⟩)

/-- Its product with a column of the weights. -/
def up (X : S8192x1024.Idx → EReal) (M : S1x6144.Idx → EReal) (G : S1x1024.Idx → EReal) (W : S1024x5632.Idx → EReal) (p : Fin 8192) (j : Fin 5632) : EReal :=
  ∑ k : Fin 1024, h X M G p k * W (ix2 k j)

def gate (X : S8192x1024.Idx → EReal) (M : S1x6144.Idx → EReal) (G : S1x1024.Idx → EReal) (W : S1024x5632.Idx → EReal) (i : S8192x2816.Idx) : EReal :=
  up X M G W (i 0) ⟨0 + (i 1).val, by have : (i 1).val < 2816 := (i 1).isLt; omega⟩

def value (X : S8192x1024.Idx → EReal) (M : S1x6144.Idx → EReal) (G : S1x1024.Idx → EReal) (W : S1024x5632.Idx → EReal) (i : S8192x2816.Idx) : EReal :=
  up X M G W (i 0) ⟨2816 + (i 1).val, by have : (i 1).val < 2816 := (i 1).isLt; omega⟩

def saved (X : S8192x1024.Idx → EReal) (M : S1x6144.Idx → EReal) (G : S1x1024.Idx → EReal) (i : S8192x1024.Idx) : EReal := h X M G (i 0) (i 1)

/-! ## The blocks of a point -/

abbrev aX : S8192x1024.Idx → EReal := m ((c : Thread nD τ).loc main_arg0)
abbrev aM : S1x6144.Idx → EReal := m ((c : Thread nD τ).loc main_arg1)
abbrev aG : S1x1024.Idx → EReal := m ((c : Thread nD τ).loc main_arg2)
abbrev aW : S1024x5632.Idx → EReal := m ((c : Thread nD τ).loc main_arg3)

/-- The token that is token `n` of point `t`'s tile. -/
def tok (t : Fin cfg0.N) (n : Fin 256) : Fin 8192 := ⟨t.val * 256 + n.val, by have h : t.val < 32 := t.isLt; have := n.isLt; omega⟩

theorem v0_eq : (V m c main_v0 : S1024x5632.Idx → EReal) = aW m c := by
  show StableHlo.after _ _ _ = _
  after_results
  rfl

theorem blk0 (a : Fin 256) (j : Fin 1024) : (iblk m c 0 t (ix2 a j) : EReal) = aX m c (ix2 (tok t a) j) := by
  obtain ⟨e, -⟩ := idx_facts t
  blk_simp [iblk]
  refine (congrArg (V m c main_arg0) ?_).trans (congrFun (V_main_arg0 m c) _)
  blk_ext [e, tok]

theorem blk1 : (iblk m c 1 t : S1x6144.Idx → EReal) = aM m c := by
  obtain ⟨-, e, -⟩ := idx_facts t
  funext i
  blk_simp [iblk]
  refine (congrArg (V m c main_arg1) ?_).trans (congrFun (V_main_arg1 m c) i)
  blk_ext [e]

theorem blk2 : (iblk m c 2 t : S1x1024.Idx → EReal) = aG m c := by
  obtain ⟨-, -, e, -⟩ := idx_facts t
  funext i
  blk_simp [iblk]
  refine (congrArg (V m c main_arg2) ?_).trans (congrFun (V_main_arg2 m c) i)
  blk_ext [e]

theorem blk3 : (iblk m c 3 t : S1024x5632.Idx → EReal) = aW m c := by
  obtain ⟨-, -, -, e, -⟩ := idx_facts t
  funext i
  blk_simp [iblk]
  refine (congrArg (V m c main_v0) ?_).trans (congrFun (v0_eq m c) i)
  blk_ext [e]

/-- The modulated norm of a tile. -/
abbrev hB : FVec Ideal S256x1024 .f32 := k0_pay1 (F := Ideal) (iblk m c 0 t) (iblk m c 2 t)
  (View.ld (Val := Elt Ideal) (e' := .f32) (iblk m c 1 t) (Rect.unit (s := S1x6144) ![0, 3072] ![1, 1024] inb_S1x6144_S1x1024_0_3072))
  (View.ld (Val := Elt Ideal) (e' := .f32) (iblk m c 1 t) (Rect.unit (s := S1x6144) ![0, 4096] ![1, 1024] inb_S1x6144_S1x1024_0_4096))

theorem hB_apply (a : Fin 256) (j : Fin 1024) : (hB m c t (ix2 a j) : EReal) = h (aX m c) (aM m c) (aG m c) (tok t a) j := by
  refine (pay1_apply _ _ _ _ _ _).trans ?_
  rw [blk2]
  simp only [blk0]
  refine congrArg₂ (· + ·) (congrArg₂ (· * ·) rfl (congrArg (1 + ·) ?_)) ?_
  · exact (Rows.ld_at _ _ 0 j (by decide) (by omega)).trans (congrFun (blk1 m c t) (ix2 0 ⟨4096 + j.val, by omega⟩))
  · exact (Rows.ld_at _ _ 0 j (by decide) (by omega)).trans (congrFun (blk1 m c t) (ix2 0 ⟨3072 + j.val, by omega⟩))

theorem hz : (![0, 0] : Fin 2 → Nat) = fun _ => 0 := funext fun a => by fin_cases a <;> rfl

theorem out4 (y : S256x2816.Idx) : (out0_4 (F := Ideal) (iblk m c 0 t) (iblk m c 1 t) (iblk m c 2 t) (iblk m c 3 t) y : EReal)
    = gate (aX m c) (aM m c) (aG m c) (aW m c) (ix2 (tok t (y 0)) (y 1)) := by
  obtain ⟨a, j, rfl⟩ : ∃ (a : Fin 256) (j : Fin 2816), y = ix2 a j := ⟨y 0, y 1, (ix2_eta y).symm⟩
  unfold out0_4
  rw [View.canon_unit_zero hz, View.ld_unit_zero hz, View.ld_unit_zero hz]
  refine (pay4_apply _ _ _ _ _ _ _).trans ?_
  unfold gate up
  refine Finset.sum_congr rfl fun k _ => congrArg₂ (· * ·) (hB_apply m c t a k) ?_
  refine (Rows.ld_at _ _ k j (by omega) (by omega)).trans ((congrFun (blk3 m c t) _).trans (congrArg (aW m c) ?_))
  blk_ext []
  all_goals rfl

theorem out5 (y : S256x2816.Idx) : (out0_5 (F := Ideal) (iblk m c 0 t) (iblk m c 1 t) (iblk m c 2 t) (iblk m c 3 t) y : EReal)
    = value (aX m c) (aM m c) (aG m c) (aW m c) (ix2 (tok t (y 0)) (y 1)) := by
  obtain ⟨a, j, rfl⟩ : ∃ (a : Fin 256) (j : Fin 2816), y = ix2 a j := ⟨y 0, y 1, (ix2_eta y).symm⟩
  unfold out0_5
  rw [View.canon_unit_zero hz, View.ld_unit_zero hz, View.ld_unit_zero hz]
  refine (pay5_apply _ _ _ _ _ _ _).trans ?_
  unfold value up
  refine Finset.sum_congr rfl fun k _ => congrArg₂ (· * ·) (hB_apply m c t a k) ?_
  refine (Rows.ld_at _ _ k j (by omega) (by omega)).trans ((congrFun (blk3 m c t) _).trans (congrArg (aW m c) ?_))
  blk_ext []
  all_goals rfl

theorem out6 (y : S256x1024.Idx) : (out0_6 (F := Ideal) (iblk m c 0 t) (iblk m c 1 t) (iblk m c 2 t) (iblk m c 3 t) y : EReal)
    = saved (aX m c) (aM m c) (aG m c) (ix2 (tok t (y 0)) (y 1)) := by
  obtain ⟨a, j, rfl⟩ : ∃ (a : Fin 256) (j : Fin 1024), y = ix2 a j := ⟨y 0, y 1, (ix2_eta y).symm⟩
  unfold out0_6
  rw [View.canon_unit_zero hz, View.ld_unit_zero hz, View.ld_unit_zero hz]
  exact (pay2_apply _ _ _ _ _).trans (hB_apply m c t a j)

theorem final4 : (dats m 0 c).arrAt 4 cfg0.N = gate (aX m c) (aM m c) (aG m c) (aW m c) := by
  refine (dats m 0 c).arrAt_eq_of_covers 4 _ (by decide +kernel) fun t hf y => ?_
  obtain ⟨-, -, -, -, e, -⟩ := idx_facts t
  blk_simp
  rw [after0_4]
  refine (out4 m c t y).trans (congrArg (gate (aX m c) (aM m c) (aG m c) (aW m c)) ?_)
  blk_ext [e, tok]
  all_goals rfl

theorem final5 : (dats m 0 c).arrAt 5 cfg0.N = value (aX m c) (aM m c) (aG m c) (aW m c) := by
  refine (dats m 0 c).arrAt_eq_of_covers 5 _ (by decide +kernel) fun t hf y => ?_
  obtain ⟨-, -, -, -, -, e, -⟩ := idx_facts t
  blk_simp
  rw [after0_5]
  refine (out5 m c t y).trans (congrArg (value (aX m c) (aM m c) (aG m c) (aW m c)) ?_)
  blk_ext [e, tok]
  all_goals rfl

theorem final6 : (dats m 0 c).arrAt 6 cfg0.N = saved (aX m c) (aM m c) (aG m c) := by
  refine (dats m 0 c).arrAt_eq_of_covers 6 _ (by decide +kernel) fun t hf y => ?_
  obtain ⟨-, -, -, -, -, -, e⟩ := idx_facts t
  blk_simp
  rw [after0_6]
  refine (out6 m c t y).trans (congrArg (saved (aX m c) (aM m c) (aG m c)) ?_)
  blk_ext [e, tok]
  all_goals rfl

end Cert.Proof.Upf

end
-- ==== Proof.UpfEq.lean ====
/- The reference of the feed-forward input, equal to the kernel's results. -/
module

public import proofs.«01_k».proof.Defs
public import proofs.«01_k».proof.Proof.Upf
public import proofs.«01_k».proof.Proof.Gen.ReferenceUpfIdeal.Run
public import proofs.«01_k».proof.Proof.Gen.ReferenceUpfIdeal.Read

@[expose] public section

noncomputable section

namespace Cert.Proof.Upf

open Cert.ReferenceUpfIdeal Cert.ReferenceUpfIdeal.Read Idealize.ShloMosaic Idealize.ShloMosaic.TcCoe Idealize.SL.Sem Cert.Proof.Norm

variable (X : FVec Ideal S8192x1024 .f32) (M : FVec Ideal S1x6144 .f32) (G : FVec Ideal S1x1024 .f32) (W : FVec Ideal S1024x5632 .f32)

theorem v19_eq (p : Fin 8192) (j : Fin 1024) : (val_main_v19 (F := Ideal) X M G (ix2 p j) : EReal) = h X M G p j := by
  unfold h rs ms
  unfold val_main_v19 val_main_v18 val_main_v17 val_main_v16 val_main_v15 val_main_v14 val_main_v13 val_main_v12 val_main_v11 val_main_v10
    val_main_v9 val_main_v8 val_main_v7 val_main_v6 val_main_v5 val_main_v4 val_main_v3 val_main_v2 val_main_v1 val_main_v0
    val_main_cst val_main_cst_0 val_main_cst_1 val_main_cst_2
  pointwise

theorem v20_eq (p : Fin 8192) (j : Fin 5632) : (val_main_v20 (F := Ideal) X M G W (ix2 p j) : EReal) = up X M G W p j := by
  unfold up
  simp only [← v19_eq]
  unfold val_main_v20
  pointwise

theorem v21_eq : (val_main_v21 (F := Ideal) X M G W : S8192x2816.Idx → EReal) = gate X M G W := by
  funext i
  obtain ⟨p, j, rfl⟩ : ∃ (p : Fin 8192) (j : Fin 2816), i = ix2 p j := ⟨i 0, i 1, (ix2_eta i).symm⟩
  unfold gate
  refine Eq.trans ?_ (v20_eq X M G W p ⟨0 + j.val, by omega⟩)
  unfold val_main_v21
  pointwise

theorem v22_eq : (val_main_v22 (F := Ideal) X M G W : S8192x2816.Idx → EReal) = value X M G W := by
  funext i
  obtain ⟨p, j, rfl⟩ : ∃ (p : Fin 8192) (j : Fin 2816), i = ix2 p j := ⟨i 0, i 1, (ix2_eta i).symm⟩
  unfold value
  refine Eq.trans ?_ (v20_eq X M G W p ⟨2816 + j.val, by omega⟩)
  unfold val_main_v22
  pointwise

theorem v23_eq : (val_main_v23 (F := Ideal) X M G : S8192x1024.Idx → EReal) = saved X M G := by
  funext i
  exact (congrArg _ (ix2_eta i)).symm.trans ((v19_eq X M G (i 0) (i 1)).trans rfl)

/-- The kernel and the reference end with the same three arrays. -/
theorem algebraic : Cert.algebraic_KernelUpfIdeal_ReferenceUpfIdeal := by
  intro m g m' g' _ hagree
  refine ⟨_, _, _, (θ_run _ _ _).mono (fun r h c => ⟨(h c).1.trans (final4 m c), (h c).2.1.trans (final5 m c), (h c).2.2.1.trans (final6 m c), (h c).2.2.2⟩)
    (Cert.KernelUpfIdeal.Value.run_blocks m g), ?_⟩
  refine (θ_run _ _ _).mono (fun r h c => ?_) (Cert.ReferenceUpfIdeal.Value.run m' g')
  obtain ⟨h1, h2, h3, hk⟩ := h c
  obtain ⟨a0, a1, a2, a3⟩ := hagree c
  refine ⟨h1.trans ?_, h2.trans ?_, h3.trans ?_, hk⟩
  · rw [val_main_v21_eq, a0, a1, a2, a3]
    exact v21_eq _ _ _ _
  · rw [val_main_v22_eq, a0, a1, a2, a3]
    exact v22_eq _ _ _ _
  · rw [val_main_v23_eq, a0, a1, a2]
    exact v23_eq _ _ _

/-- The reference runs and leaves its arguments. -/
theorem frame_reference : Cert.quiescent_ReferenceUpfIdeal := fun m ρ _ =>
  (θ_run _ _ _).mono (fun _ h => ⟨fun c => (h c).2.2.2, funext fun ⟨_, s⟩ => by rcases s with s | s <;> exact s.elim0⟩)
    (Cert.ReferenceUpfIdeal.Value.run m ρ)

end Cert.Proof.Upf

end
-- ==== Proof.MixMem.lean ====
/- The buffers of the branch backward kernel, what a grid point is handed and what it hands back. -/
module

public import proofs.«01_k».proof.Proof.Gen.KernelMixIdeal.Frame
public import proofs.«01_k».proof.Proof.Gen.KernelMixIdeal.Skeleton

@[expose] public section

set_option maxRecDepth 16384

noncomputable section

namespace Cert.Proof.MixRun

open Cert.KernelMixIdeal Cert.KernelMixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The staging buffers the body works on: eighteen inputs, thirteen outputs, each a whole buffer. -/
structure Mems where
  u : Memref sig .tc .vmem S256x512 .f32
  u_whole : u.IsWhole
  y0 : Memref sig .tc .vmem S256x512 .f32
  y0_whole : y0.IsWhole
  y1 : Memref sig .tc .vmem S256x512 .f32
  y1_whole : y1.IsWhole
  z : Memref sig .tc .vmem S256x1024 .f32
  z_whole : z.IsWhole
  gl : Memref sig .tc .vmem S256x2048 .f32
  gl_whole : gl.IsWhole
  dx1 : Memref sig .tc .vmem S256x1024 .f32
  dx1_whole : dx1.IsWhole
  ml : Memref sig .tc .vmem S1x6144 .f32
  ml_whole : ml.IsWhole
  d : Memref sig .tc .vmem S1x512 .f32
  d_whole : d.IsWhole
  wg : Memref sig .tc .vmem S512x512 .bf16
  wg_whole : wg.IsWhole
  bg : Memref sig .tc .vmem S1x512 .f32
  bg_whole : bg.IsWhole
  lg : Memref sig .tc .vmem S1x512 .f32
  lg_whole : lg.IsWhole
  lb : Memref sig .tc .vmem S1x512 .f32
  lb_whole : lb.IsWhole
  sw : Memref sig .tc .vmem S8x128x128 .f32
  sw_whole : sw.IsWhole
  bf : Memref sig .tc .vmem S128x512 .f32
  bf_whole : bf.IsWhole
  wpa : Memref sig .tc .vmem S512x1024 .bf16
  wpa_whole : wpa.IsWhole
  wpb : Memref sig .tc .vmem S512x1024 .bf16
  wpb_whole : wpb.IsWhole
  bgate : Memref sig .tc .vmem S1x2048 .f32
  bgate_whole : bgate.IsWhole
  wo : Memref sig .tc .vmem S1024x1024 .bf16
  wo_whole : wo.IsWhole
  dys : Memref sig .tc .vmem S256x512 .f32
  dys_whole : dys.IsWhole
  dusk : Memref sig .tc .vmem S256x512 .f32
  dusk_whole : dusk.IsWhole
  dzg : Memref sig .tc .vmem S256x3072 .bf16
  dzg_whole : dzg.IsWhole
  ya : Memref sig .tc .vmem S256x512 .bf16
  ya_whole : ya.IsWhole
  yb : Memref sig .tc .vmem S256x512 .bf16
  yb_whole : yb.IsWhole
  dpa : Memref sig .tc .vmem S256x1024 .bf16
  dpa_whole : dpa.IsWhole
  dpb : Memref sig .tc .vmem S256x1024 .bf16
  dpb_whole : dpb.IsWhole
  mg : Memref sig .tc .vmem S256x1024 .bf16
  mg_whole : mg.IsWhole
  dmo : Memref sig .tc .vmem S256x1024 .bf16
  dmo_whole : dmo.IsWhole
  dwg : Memref sig .tc .vmem S512x512 .f32
  dwg_whole : dwg.IsWhole
  dsw : Memref sig .tc .vmem S8x128x128 .f32
  dsw_whole : dsw.IsWhole
  dbf : Memref sig .tc .vmem S128x512 .f32
  dbf_whole : dbf.IsWhole
  acc : Memref sig .tc .vmem S8x2048 .f32
  acc_whole : acc.IsWhole

/-- What the eighteen input buffers hold. -/
structure Ins (F : FTy → Type) where
  u : Vec F S256x512 .f32
  y0 : Vec F S256x512 .f32
  y1 : Vec F S256x512 .f32
  z : Vec F S256x1024 .f32
  gl : Vec F S256x2048 .f32
  dx1 : Vec F S256x1024 .f32
  ml : Vec F S1x6144 .f32
  d : Vec F S1x512 .f32
  wg : Vec F S512x512 .bf16
  bg : Vec F S1x512 .f32
  lg : Vec F S1x512 .f32
  lb : Vec F S1x512 .f32
  sw : Vec F S8x128x128 .f32
  bf : Vec F S128x512 .f32
  wpa : Vec F S512x1024 .bf16
  wpb : Vec F S512x1024 .bf16
  bgate : Vec F S1x2048 .f32
  wo : Vec F S1024x1024 .bf16

/-- What the four accumulated outputs hold. -/
structure Sums (F : FTy → Type) where
  dwg : Vec F S512x512 .f32
  dsw : Vec F S8x128x128 .f32
  dbf : Vec F S128x512 .f32
  acc : Vec F S8x2048 .f32

/-- The input buffers at their contents. -/
def reads (c : Dev nD) (M : Mems) (X : Ins F) : sProp 𝕄 :=
  iprop(owns (c : Thread nD τ) M.u fullShare X.u ∗ owns (c : Thread nD τ) M.y0 fullShare X.y0 ∗ owns (c : Thread nD τ) M.y1 fullShare X.y1 ∗ owns (c : Thread nD τ) M.z fullShare X.z ∗ owns (c : Thread nD τ) M.gl fullShare X.gl ∗ owns (c : Thread nD τ) M.dx1 fullShare X.dx1 ∗ owns (c : Thread nD τ) M.ml fullShare X.ml ∗ owns (c : Thread nD τ) M.d fullShare X.d ∗ owns (c : Thread nD τ) M.wg fullShare X.wg ∗ owns (c : Thread nD τ) M.bg fullShare X.bg ∗ owns (c : Thread nD τ) M.lg fullShare X.lg ∗ owns (c : Thread nD τ) M.lb fullShare X.lb ∗ owns (c : Thread nD τ) M.sw fullShare X.sw ∗ owns (c : Thread nD τ) M.bf fullShare X.bf ∗ owns (c : Thread nD τ) M.wpa fullShare X.wpa ∗ owns (c : Thread nD τ) M.wpb fullShare X.wpb ∗ owns (c : Thread nD τ) M.bgate fullShare X.bgate ∗ owns (c : Thread nD τ) M.wo fullShare X.wo)

/-- A buffer with a list of stores made into it, whatever it held before. -/
abbrev written (c : Dev nD) {s : Shape} {e : EltTy} (a : Memref sig .tc .vmem s e) (L : List (View.Piece (Elt F) s e)) : sProp 𝕄 :=
  iprop(∃ f, a.view.loc (c : Thread nD τ) ↦[a.view.set]{fullShare} a.view.writes (Elt F) f L)

/-- A buffer that may hold anything. -/
abbrev spare (c : Dev nD) {s : Shape} {e : EltTy} (a : Memref sig .tc .vmem s e) : sProp 𝕄 :=
  iprop(∃ d, owns (c : Thread nD τ) a fullShare d)

/-- A whole buffer with stores made over known contents. -/
abbrev over (c : Dev nD) {s : Shape} {e : EltTy} (a : Memref sig .tc .vmem s e) (h : a.IsWhole) (x : Vec F s e)
    (L : List (View.Piece (Elt F) s e)) : sProp 𝕄 :=
  iprop(a.view.loc (c : Thread nD τ) ↦[a.view.set]{fullShare} a.view.writes (Elt F) (h.unread x) L)

/-- The body on given buffers. -/
abbrev body (i : grid0.Coords) (M : Mems) : Prog (TpuEff nD τ sig (Elt F) Λ₀ .tc) PUnit :=
  cc0_mix_bwd i M.u M.u_whole M.y0 M.y0_whole M.y1 M.y1_whole M.z M.z_whole M.gl M.gl_whole M.dx1 M.dx1_whole M.ml M.ml_whole M.d M.d_whole M.wg M.wg_whole M.bg M.bg_whole M.lg M.lg_whole M.lb M.lb_whole M.sw M.sw_whole M.bf M.bf_whole M.wpa M.wpa_whole M.wpb M.wpb_whole M.bgate M.bgate_whole M.wo M.wo_whole M.dys M.dys_whole M.dusk M.dusk_whole M.dzg M.dzg_whole M.ya M.ya_whole M.yb M.yb_whole M.dpa M.dpa_whole M.dpb M.dpb_whole M.mg M.mg_whole M.dmo M.dmo_whole M.dwg M.dwg_whole M.dsw M.dsw_whole M.dbf M.dbf_whole M.acc M.acc_whole

end Cert.Proof.MixRun
-- ==== Proof.MixA.lean ====
/- The run of the branch backward kernel at the context tile. -/
module

public import proofs.«01_k».proof.Proof.MixMem

@[expose] public section

set_option maxRecDepth 16384

noncomputable section

namespace Cert.Proof.MixRun

open Cert.KernelMixIdeal Cert.KernelMixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes at the context tile: zeros into every output it touches; and the run itself. -/
noncomputable def runA (c : Dev nD) (i : grid0.Coords) (M : Mems) (h1 : k0_cond1 i = 1#1) (h2 : ¬k0_cond2 i = 1#1) (X : Ins F) :
    Σ' (Ldys : List (View.Piece (Elt F) S256x512 .f32)), Σ' (Ldusk : List (View.Piece (Elt F) S256x512 .f32)), Σ' (Ldzg : List (View.Piece (Elt F) S256x3072 .bf16)), Σ' (Ldwg : List (View.Piece (Elt F) S512x512 .f32)), Σ' (Ldsw : List (View.Piece (Elt F) S8x128x128 .f32)), Σ' (Ldbf : List (View.Piece (Elt F) S128x512 .f32)), { Lacc : List (View.Piece (Elt F) S8x2048 .f32) //
      ∀ (E : Set ℕ) (K : PUnit → sProp 𝕄),
        iprop(reads c M X ∗ spare c M.dys ∗ spare c M.dusk ∗ spare c M.dzg ∗ spare c M.dwg ∗ spare c M.dsw ∗ spare c M.dbf ∗ spare c M.acc
            ∗ (iprop(reads c M X ∗ written c M.dys Ldys ∗ written c M.dusk Ldusk ∗ written c M.dzg Ldzg ∗ written c M.dwg Ldwg ∗ written c M.dsw Ldsw ∗ written c M.dbf Ldbf ∗ written c M.acc Lacc) -∗ K ⟨⟩))
          ⊢ wp frame (wpE (defs₀ (F := F)) Variants.none c none) E (body i M) K } := by
  refine ⟨?_, ?_, ?_, ?_, ?_, ?_, ?_, fun E K => ?run⟩
  case run =>
    unfold body
    simp only [cc0_mix_bwd_eq_skeleton]; unfold cc0_mix_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold reads spare owns
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩⟩, ⟨%d19, %f19, -, H19⟩, ⟨%d20, %f20, -, H20⟩, ⟨%d21, %f21, -, H21⟩, ⟨%d28, %f28, -, H28⟩, ⟨%d29, %f29, -, H29⟩, ⟨%d30, %f30, -, H30⟩, ⟨%d31, %f31, -, H31⟩, Hk⟩
    obtain rfl := M.u_whole.eq_unread e1; obtain rfl := M.y0_whole.eq_unread e2; obtain rfl := M.y1_whole.eq_unread e3; obtain rfl := M.z_whole.eq_unread e4; obtain rfl := M.gl_whole.eq_unread e5; obtain rfl := M.dx1_whole.eq_unread e6; obtain rfl := M.ml_whole.eq_unread e7; obtain rfl := M.d_whole.eq_unread e8; obtain rfl := M.wg_whole.eq_unread e9; obtain rfl := M.bg_whole.eq_unread e10; obtain rfl := M.lg_whole.eq_unread e11; obtain rfl := M.lb_whole.eq_unread e12; obtain rfl := M.sw_whole.eq_unread e13; obtain rfl := M.bf_whole.eq_unread e14; obtain rfl := M.wpa_whole.eq_unread e15; obtain rfl := M.wpb_whole.eq_unread e16; obtain rfl := M.bgate_whole.eq_unread e17; obtain rfl := M.wo_whole.eq_unread e18
    sl_exec (disch := first | sl_exact h1 | sl_exact h2)
    sl_step
    iapply Hk
    isplitl [H1 H2 H3 H4 H5 H6 H7 H8 H9 H10 H11 H12 H13 H14 H15 H16 H17 H18]
    · isplitl [H1]
      · iexists _; isplitr; · ipureintro; exact M.u_whole.read_unread _
        iexact H1
      isplitl [H2]
      · iexists _; isplitr; · ipureintro; exact M.y0_whole.read_unread _
        iexact H2
      isplitl [H3]
      · iexists _; isplitr; · ipureintro; exact M.y1_whole.read_unread _
        iexact H3
      isplitl [H4]
      · iexists _; isplitr; · ipureintro; exact M.z_whole.read_unread _
        iexact H4
      isplitl [H5]
      · iexists _; isplitr; · ipureintro; exact M.gl_whole.read_unread _
        iexact H5
      isplitl [H6]
      · iexists _; isplitr; · ipureintro; exact M.dx1_whole.read_unread _
        iexact H6
      isplitl [H7]
      · iexists _; isplitr; · ipureintro; exact M.ml_whole.read_unread _
        iexact H7
      isplitl [H8]
      · iexists _; isplitr; · ipureintro; exact M.d_whole.read_unread _
        iexact H8
      isplitl [H9]
      · iexists _; isplitr; · ipureintro; exact M.wg_whole.read_unread _
        iexact H9
      isplitl [H10]
      · iexists _; isplitr; · ipureintro; exact M.bg_whole.read_unread _
        iexact H10
      isplitl [H11]
      · iexists _; isplitr; · ipureintro; exact M.lg_whole.read_unread _
        iexact H11
      isplitl [H12]
      · iexists _; isplitr; · ipureintro; exact M.lb_whole.read_unread _
        iexact H12
      isplitl [H13]
      · iexists _; isplitr; · ipureintro; exact M.sw_whole.read_unread _
        iexact H13
      isplitl [H14]
      · iexists _; isplitr; · ipureintro; exact M.bf_whole.read_unread _
        iexact H14
      isplitl [H15]
      · iexists _; isplitr; · ipureintro; exact M.wpa_whole.read_unread _
        iexact H15
      isplitl [H16]
      · iexists _; isplitr; · ipureintro; exact M.wpb_whole.read_unread _
        iexact H16
      isplitl [H17]
      · iexists _; isplitr; · ipureintro; exact M.bgate_whole.read_unread _
        iexact H17
      iexists _; isplitr; · (ipureintro; exact M.wo_whole.read_unread _)
      iexact H18
    isplitl [H19]; · iexists _; iexact H19
    isplitl [H20]; · iexists _; iexact H20
    isplitl [H21]; · iexists _; iexact H21
    isplitl [H28]; · iexists _; iexact H28
    isplitl [H29]; · iexists _; iexact H29
    isplitl [H30]; · iexists _; iexact H30
    iexists _; iexact H31

end Cert.Proof.MixRun
-- ==== Proof.MixB.lean ====
/- The run of the branch backward kernel at a latent tile. -/
module

public import proofs.«01_k».proof.Proof.MixMem

@[expose] public section

set_option maxRecDepth 16384

noncomputable section

namespace Cert.Proof.MixRun

open Cert.KernelMixIdeal Cert.KernelMixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes at a latent tile: the gradients of the tile, and the sums carried on; and the run itself. -/
noncomputable def runB (c : Dev nD) (i : grid0.Coords) (M : Mems) (h1 : ¬k0_cond1 i = 1#1) (h2 : k0_cond2 i = 1#1) (X : Ins F) (S : Sums F) :
    Σ' (Ldys : List (View.Piece (Elt F) S256x512 .f32)), Σ' (Ldusk : List (View.Piece (Elt F) S256x512 .f32)), Σ' (Ldzg : List (View.Piece (Elt F) S256x3072 .bf16)), Σ' (Lya : List (View.Piece (Elt F) S256x512 .bf16)), Σ' (Lyb : List (View.Piece (Elt F) S256x512 .bf16)), Σ' (Ldpa : List (View.Piece (Elt F) S256x1024 .bf16)), Σ' (Ldpb : List (View.Piece (Elt F) S256x1024 .bf16)), Σ' (Lmg : List (View.Piece (Elt F) S256x1024 .bf16)), Σ' (Ldmo : List (View.Piece (Elt F) S256x1024 .bf16)), Σ' (Ldwg : List (View.Piece (Elt F) S512x512 .f32)), Σ' (Ldsw : List (View.Piece (Elt F) S8x128x128 .f32)), Σ' (Ldbf : List (View.Piece (Elt F) S128x512 .f32)), { Lacc : List (View.Piece (Elt F) S8x2048 .f32) //
      ∀ (E : Set ℕ) (K : PUnit → sProp 𝕄),
        iprop(reads c M X ∗ spare c M.dys ∗ spare c M.dusk ∗ spare c M.dzg ∗ spare c M.ya ∗ spare c M.yb ∗ spare c M.dpa ∗ spare c M.dpb ∗ spare c M.mg ∗ spare c M.dmo ∗ owns (c : Thread nD τ) M.dwg fullShare S.dwg ∗ owns (c : Thread nD τ) M.dsw fullShare S.dsw ∗ owns (c : Thread nD τ) M.dbf fullShare S.dbf ∗ owns (c : Thread nD τ) M.acc fullShare S.acc
            ∗ (iprop(reads c M X ∗ written c M.dys Ldys ∗ written c M.dusk Ldusk ∗ written c M.dzg Ldzg ∗ written c M.ya Lya ∗ written c M.yb Lyb ∗ written c M.dpa Ldpa ∗ written c M.dpb Ldpb ∗ written c M.mg Lmg ∗ written c M.dmo Ldmo ∗ over c M.dwg M.dwg_whole S.dwg Ldwg ∗ over c M.dsw M.dsw_whole S.dsw Ldsw ∗ over c M.dbf M.dbf_whole S.dbf Ldbf ∗ over c M.acc M.acc_whole S.acc Lacc) -∗ K ⟨⟩))
          ⊢ wp frame (wpE (defs₀ (F := F)) Variants.none c none) E (body i M) K } := by
  refine ⟨?_, ?_, ?_, ?_, ?_, ?_, ?_, ?_, ?_, ?_, ?_, ?_, ?_, fun E K => ?run⟩
  case run =>
    unfold body
    simp only [cc0_mix_bwd_eq_skeleton]; unfold cc0_mix_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold reads spare owns
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%f28, %e28, H28⟩, ⟨%f29, %e29, H29⟩, ⟨%f30, %e30, H30⟩, ⟨%f31, %e31, H31⟩, Hk⟩
    obtain rfl := M.u_whole.eq_unread e1; obtain rfl := M.y0_whole.eq_unread e2; obtain rfl := M.y1_whole.eq_unread e3; obtain rfl := M.z_whole.eq_unread e4; obtain rfl := M.gl_whole.eq_unread e5; obtain rfl := M.dx1_whole.eq_unread e6; obtain rfl := M.ml_whole.eq_unread e7; obtain rfl := M.d_whole.eq_unread e8; obtain rfl := M.wg_whole.eq_unread e9; obtain rfl := M.bg_whole.eq_unread e10; obtain rfl := M.lg_whole.eq_unread e11; obtain rfl := M.lb_whole.eq_unread e12; obtain rfl := M.sw_whole.eq_unread e13; obtain rfl := M.bf_whole.eq_unread e14; obtain rfl := M.wpa_whole.eq_unread e15; obtain rfl := M.wpb_whole.eq_unread e16; obtain rfl := M.bgate_whole.eq_unread e17; obtain rfl := M.wo_whole.eq_unread e18; obtain rfl := M.dwg_whole.eq_unread e28; obtain rfl := M.dsw_whole.eq_unread e29; obtain rfl := M.dbf_whole.eq_unread e30; obtain rfl := M.acc_whole.eq_unread e31
    sl_exec (disch := first | sl_exact h1 | sl_exact h2)
    sl_step
    iapply Hk
    isplitl [H1 H2 H3 H4 H5 H6 H7 H8 H9 H10 H11 H12 H13 H14 H15 H16 H17 H18]
    · isplitl [H1]
      · iexists _; isplitr; · ipureintro; exact M.u_whole.read_unread _
        iexact H1
      isplitl [H2]
      · iexists _; isplitr; · ipureintro; exact M.y0_whole.read_unread _
        iexact H2
      isplitl [H3]
      · iexists _; isplitr; · ipureintro; exact M.y1_whole.read_unread _
        iexact H3
      isplitl [H4]
      · iexists _; isplitr; · ipureintro; exact M.z_whole.read_unread _
        iexact H4
      isplitl [H5]
      · iexists _; isplitr; · ipureintro; exact M.gl_whole.read_unread _
        iexact H5
      isplitl [H6]
      · iexists _; isplitr; · ipureintro; exact M.dx1_whole.read_unread _
        iexact H6
      isplitl [H7]
      · iexists _; isplitr; · ipureintro; exact M.ml_whole.read_unread _
        iexact H7
      isplitl [H8]
      · iexists _; isplitr; · ipureintro; exact M.d_whole.read_unread _
        iexact H8
      isplitl [H9]
      · iexists _; isplitr; · ipureintro; exact M.wg_whole.read_unread _
        iexact H9
      isplitl [H10]
      · iexists _; isplitr; · ipureintro; exact M.bg_whole.read_unread _
        iexact H10
      isplitl [H11]
      · iexists _; isplitr; · ipureintro; exact M.lg_whole.read_unread _
        iexact H11
      isplitl [H12]
      · iexists _; isplitr; · ipureintro; exact M.lb_whole.read_unread _
        iexact H12
      isplitl [H13]
      · iexists _; isplitr; · ipureintro; exact M.sw_whole.read_unread _
        iexact H13
      isplitl [H14]
      · iexists _; isplitr; · ipureintro; exact M.bf_whole.read_unread _
        iexact H14
      isplitl [H15]
      · iexists _; isplitr; · ipureintro; exact M.wpa_whole.read_unread _
        iexact H15
      isplitl [H16]
      · iexists _; isplitr; · ipureintro; exact M.wpb_whole.read_unread _
        iexact H16
      isplitl [H17]
      · iexists _; isplitr; · ipureintro; exact M.bgate_whole.read_unread _
        iexact H17
      iexists _; isplitr; · (ipureintro; exact M.wo_whole.read_unread _)
      iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexact H28
    isplitl [H29]; · iexact H29
    isplitl [H30]; · iexact H30
    iexact H31

end Cert.Proof.MixRun
-- ==== Proof.MixFrame.lean ====
/- The outputs of the branch backward kernel point by point, the obligation of its body, and its frame. -/
module

public import proofs.«01_k».proof.Proof.MixA
public import proofs.«01_k».proof.Proof.MixB
public import Idealize.ShloMosaic.Lib.Claim

@[expose] public section

set_option maxRecDepth 16384

noncomputable section

namespace Cert.Proof.MixRun

open Cert.KernelMixIdeal Cert.KernelMixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging buffers at a point. -/
abbrev mems (t : Fin cfg0.N) : Mems :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), win0_9.stage (cfg0.slots t 9), hstage0_9 ((cfg0.slots t 9).cast nbuf0_9), win0_10.stage (cfg0.slots t 10), hstage0_10 ((cfg0.slots t 10).cast nbuf0_10), win0_11.stage (cfg0.slots t 11), hstage0_11 ((cfg0.slots t 11).cast nbuf0_11), win0_12.stage (cfg0.slots t 12), hstage0_12 ((cfg0.slots t 12).cast nbuf0_12), win0_13.stage (cfg0.slots t 13), hstage0_13 ((cfg0.slots t 13).cast nbuf0_13), win0_14.stage (cfg0.slots t 14), hstage0_14 ((cfg0.slots t 14).cast nbuf0_14), win0_15.stage (cfg0.slots t 15), hstage0_15 ((cfg0.slots t 15).cast nbuf0_15), win0_16.stage (cfg0.slots t 16), hstage0_16 ((cfg0.slots t 16).cast nbuf0_16), win0_17.stage (cfg0.slots t 17), hstage0_17 ((cfg0.slots t 17).cast nbuf0_17), win0_18.stage (cfg0.slots t 18), hstage0_18 ((cfg0.slots t 18).cast nbuf0_18), win0_19.stage (cfg0.slots t 19), hstage0_19 ((cfg0.slots t 19).cast nbuf0_19), win0_20.stage (cfg0.slots t 20), hstage0_20 ((cfg0.slots t 20).cast nbuf0_20), win0_21.stage (cfg0.slots t 21), hstage0_21 ((cfg0.slots t 21).cast nbuf0_21), win0_22.stage (cfg0.slots t 22), hstage0_22 ((cfg0.slots t 22).cast nbuf0_22), win0_23.stage (cfg0.slots t 23), hstage0_23 ((cfg0.slots t 23).cast nbuf0_23), win0_24.stage (cfg0.slots t 24), hstage0_24 ((cfg0.slots t 24).cast nbuf0_24), win0_25.stage (cfg0.slots t 25), hstage0_25 ((cfg0.slots t 25).cast nbuf0_25), win0_26.stage (cfg0.slots t 26), hstage0_26 ((cfg0.slots t 26).cast nbuf0_26), win0_27.stage (cfg0.slots t 27), hstage0_27 ((cfg0.slots t 27).cast nbuf0_27), win0_28.stage (cfg0.slots t 28), hstage0_28 ((cfg0.slots t 28).cast nbuf0_28), win0_29.stage (cfg0.slots t 29), hstage0_29 ((cfg0.slots t 29).cast nbuf0_29), win0_30.stage (cfg0.slots t 30), hstage0_30 ((cfg0.slots t 30).cast nbuf0_30)⟩

/-- What the input buffers hold at a point. -/
abbrev ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t⟩

/-- The first point is the context tile, the others are not. -/
theorem isctx : ∀ t : Fin cfg0.N, k0_cond1 (grid0.coords t) = 1#1 ↔ t.val = 0 := by decide +kernel
theorem islat : ∀ t : Fin cfg0.N, k0_cond2 (grid0.coords t) = 1#1 ↔ t.val ≠ 0 := by decide +kernel

/-- What the thirteen outputs hold after a point. -/
structure Outs (F : FTy → Type) where
  dys : Vec F S256x512 .f32
  dusk : Vec F S256x512 .f32
  dzg : Vec F S256x3072 .bf16
  ya : Vec F S256x512 .bf16
  yb : Vec F S256x512 .bf16
  dpa : Vec F S256x1024 .bf16
  dpb : Vec F S256x1024 .bf16
  mg : Vec F S256x1024 .bf16
  dmo : Vec F S256x1024 .bf16
  sums : Sums F

/-! The stores into each result fill it, at a context tile and at a latent tile. -/

section
variable (c : Dev nD) (i : grid0.Coords) (M : Mems) (h1 : k0_cond1 i = 1#1) (h2 : ¬k0_cond2 i = 1#1) (X : Ins F)

theorem fillA_dys : ∀ y : S256x512.Idx, ∃ q ∈ (runA c i M h1 h2 X).1, y ∈ q.1.set :=
  View.cover_of_tiledL ((runA c i M h1 h2 X).1) S256x512.size (by sl_kernel_rfl)

theorem fillA_dusk : ∀ y : S256x512.Idx, ∃ q ∈ (runA c i M h1 h2 X).2.1, y ∈ q.1.set :=
  View.cover_of_tiledL ((runA c i M h1 h2 X).2.1) S256x512.size (by sl_kernel_rfl)

theorem fillA_dzg : ∀ y : S256x3072.Idx, ∃ q ∈ (runA c i M h1 h2 X).2.2.1, y ∈ q.1.set :=
  View.cover_of_tiledL ((runA c i M h1 h2 X).2.2.1) S256x3072.size (by sl_kernel_rfl)

theorem fillA_dwg : ∀ y : S512x512.Idx, ∃ q ∈ (runA c i M h1 h2 X).2.2.2.1, y ∈ q.1.set :=
  View.cover_of_tiledL ((runA c i M h1 h2 X).2.2.2.1) S512x512.size (by sl_kernel_rfl)

theorem fillA_dsw : ∀ y : S8x128x128.Idx, ∃ q ∈ (runA c i M h1 h2 X).2.2.2.2.1, y ∈ q.1.set :=
  View.cover_of_tiledL ((runA c i M h1 h2 X).2.2.2.2.1) S8x128x128.size (by sl_kernel_rfl)

theorem fillA_dbf : ∀ y : S128x512.Idx, ∃ q ∈ (runA c i M h1 h2 X).2.2.2.2.2.1, y ∈ q.1.set :=
  View.cover_of_tiledL ((runA c i M h1 h2 X).2.2.2.2.2.1) S128x512.size (by sl_kernel_rfl)

theorem fillA_acc : ∀ y : S8x2048.Idx, ∃ q ∈ (runA c i M h1 h2 X).2.2.2.2.2.2.1, y ∈ q.1.set :=
  View.cover_of_tiledL ((runA c i M h1 h2 X).2.2.2.2.2.2.1) S8x2048.size (by sl_kernel_rfl)

end

section
variable (c : Dev nD) (i : grid0.Coords) (M : Mems) (h1 : ¬k0_cond1 i = 1#1) (h2 : k0_cond2 i = 1#1) (X : Ins F) (S : Sums F)

theorem fillB_dys : ∀ y : S256x512.Idx, ∃ q ∈ (runB c i M h1 h2 X S).1, y ∈ q.1.set :=
  View.cover_of_tiledL ((runB c i M h1 h2 X S).1) S256x512.size (by sl_kernel_rfl)

theorem fillB_dusk : ∀ y : S256x512.Idx, ∃ q ∈ (runB c i M h1 h2 X S).2.1, y ∈ q.1.set :=
  View.cover_of_tiledL ((runB c i M h1 h2 X S).2.1) S256x512.size (by sl_kernel_rfl)

theorem fillB_dzg : ∀ y : S256x3072.Idx, ∃ q ∈ (runB c i M h1 h2 X S).2.2.1, y ∈ q.1.set :=
  View.cover_of_tiledBy ((runB c i M h1 h2 X S).2.2.1) ![256, 1024] (by sl_kernel_rfl)

theorem fillB_ya : ∀ y : S256x512.Idx, ∃ q ∈ (runB c i M h1 h2 X S).2.2.2.1, y ∈ q.1.set :=
  View.cover_of_tiledL ((runB c i M h1 h2 X S).2.2.2.1) S256x512.size (by sl_kernel_rfl)

theorem fillB_yb : ∀ y : S256x512.Idx, ∃ q ∈ (runB c i M h1 h2 X S).2.2.2.2.1, y ∈ q.1.set :=
  View.cover_of_tiledL ((runB c i M h1 h2 X S).2.2.2.2.1) S256x512.size (by sl_kernel_rfl)

theorem fillB_dpa : ∀ y : S256x1024.Idx, ∃ q ∈ (runB c i M h1 h2 X S).2.2.2.2.2.1, y ∈ q.1.set :=
  View.cover_of_tiledL ((runB c i M h1 h2 X S).2.2.2.2.2.1) S256x1024.size (by sl_kernel_rfl)

theorem fillB_dpb : ∀ y : S256x1024.Idx, ∃ q ∈ (runB c i M h1 h2 X S).2.2.2.2.2.2.1, y ∈ q.1.set :=
  View.cover_of_tiledL ((runB c i M h1 h2 X S).2.2.2.2.2.2.1) S256x1024.size (by sl_kernel_rfl)

theorem fillB_mg : ∀ y : S256x1024.Idx, ∃ q ∈ (runB c i M h1 h2 X S).2.2.2.2.2.2.2.1, y ∈ q.1.set :=
  View.cover_of_tiledL ((runB c i M h1 h2 X S).2.2.2.2.2.2.2.1) S256x1024.size (by sl_kernel_rfl)

theorem fillB_dmo : ∀ y : S256x1024.Idx, ∃ q ∈ (runB c i M h1 h2 X S).2.2.2.2.2.2.2.2.1, y ∈ q.1.set :=
  View.cover_of_tiledL ((runB c i M h1 h2 X S).2.2.2.2.2.2.2.2.1) S256x1024.size (by sl_kernel_rfl)

theorem fillB_dwg : ∀ y : S512x512.Idx, ∃ q ∈ (runB c i M h1 h2 X S).2.2.2.2.2.2.2.2.2.1, y ∈ q.1.set :=
  View.cover_of_tiledL ((runB c i M h1 h2 X S).2.2.2.2.2.2.2.2.2.1) S512x512.size (by sl_kernel_rfl)

theorem fillB_dsw : ∀ y : S8x128x128.Idx, ∃ q ∈ (runB c i M h1 h2 X S).2.2.2.2.2.2.2.2.2.2.1, y ∈ q.1.set :=
  View.cover_of_tiledL ((runB c i M h1 h2 X S).2.2.2.2.2.2.2.2.2.2.1) ![1, 128, 128] (by sl_kernel_rfl)

theorem fillB_dbf : ∀ y : S128x512.Idx, ∃ q ∈ (runB c i M h1 h2 X S).2.2.2.2.2.2.2.2.2.2.2.1, y ∈ q.1.set :=
  View.cover_of_tiledL ((runB c i M h1 h2 X S).2.2.2.2.2.2.2.2.2.2.2.1) S128x512.size (by sl_kernel_rfl)

end

/-- What the context tile leaves: the filled outputs, the others untouched. -/
def outA (c : Dev nD) (i : grid0.Coords) (M : Mems) (h1 : k0_cond1 i = 1#1) (h2 : ¬k0_cond2 i = 1#1) (X : Ins F) : Outs F :=
  ⟨View.canon (runA c i M h1 h2 X).1, View.canon (runA c i M h1 h2 X).2.1, View.canon (runA c i M h1 h2 X).2.2.1, View.canon [], View.canon [], View.canon [], View.canon [], View.canon [], View.canon [], ⟨View.canon (runA c i M h1 h2 X).2.2.2.1, View.canon (runA c i M h1 h2 X).2.2.2.2.1, View.canon (runA c i M h1 h2 X).2.2.2.2.2.1, View.canon (runA c i M h1 h2 X).2.2.2.2.2.2.1⟩⟩

/-- What a latent tile leaves, the sums found being `S`. -/
def outB (c : Dev nD) (i : grid0.Coords) (M : Mems) (h1 : ¬k0_cond1 i = 1#1) (h2 : k0_cond2 i = 1#1) (X : Ins F) (S : Sums F) : Outs F :=
  ⟨View.canon (runB c i M h1 h2 X S).1, View.canon (runB c i M h1 h2 X S).2.1, View.canon (runB c i M h1 h2 X S).2.2.1, View.canon (runB c i M h1 h2 X S).2.2.2.1, View.canon (runB c i M h1 h2 X S).2.2.2.2.1, View.canon (runB c i M h1 h2 X S).2.2.2.2.2.1, View.canon (runB c i M h1 h2 X S).2.2.2.2.2.2.1, View.canon (runB c i M h1 h2 X S).2.2.2.2.2.2.2.1, View.canon (runB c i M h1 h2 X S).2.2.2.2.2.2.2.2.1, ⟨View.canon (runB c i M h1 h2 X S).2.2.2.2.2.2.2.2.2.1, View.canon (runB c i M h1 h2 X S).2.2.2.2.2.2.2.2.2.2.1, View.canon (runB c i M h1 h2 X S).2.2.2.2.2.2.2.2.2.2.2.1, M.acc.view.read (Elt F) (M.acc.view.writes (Elt F) (M.acc_whole.unread S.acc) (runB c i M h1 h2 X S).2.2.2.2.2.2.2.2.2.2.2.2.1)⟩⟩

/-- What the outputs hold, point by point. -/
def outsAt (c : Dev nD) : (n : ℕ) → n < cfg0.N → Outs F
  | 0, hn => outA c (grid0.coords ⟨0, hn⟩) (mems ⟨0, hn⟩) ((isctx _).mpr rfl) (fun h => (islat _).mp h rfl) (ins m c ⟨0, hn⟩)
  | n + 1, hn => outB c (grid0.coords ⟨n + 1, hn⟩) (mems ⟨n + 1, hn⟩) (fun h => Nat.succ_ne_zero n ((isctx _).mp h)) ((islat _).mpr (Nat.succ_ne_zero n)) (ins m c ⟨n + 1, hn⟩) (outsAt c n (Nat.lt_of_succ_lt hn)).sums

/-- The sums a point finds. -/
abbrev found (c : Dev nD) (t : Fin cfg0.N) : Sums F := (outsAt m c (t.val - 1) (Nat.lt_of_le_of_lt (Nat.sub_le _ _) t.isLt)).sums

theorem outsAt_ctx (c : Dev nD) (t : Fin cfg0.N) (h : t.val = 0) :
    outsAt m c t.val t.isLt = outA c (grid0.coords t) (mems t) ((isctx t).mpr h) (fun h' => (islat t).mp h' h) (ins m c t) := by
  obtain ⟨n, hn⟩ := t
  obtain rfl : n = 0 := h
  rfl

theorem outsAt_lat (c : Dev nD) (t : Fin cfg0.N) (h : t.val ≠ 0) :
    outsAt m c t.val t.isLt = outB c (grid0.coords t) (mems t) (fun h' => h ((isctx t).mp h')) ((islat t).mpr h) (ins m c t) (found m c t) := by
  obtain ⟨n, hn⟩ := t
  cases n with
  | zero => exact absurd rfl h
  | succ n => rfl

/-- What the pipeline is told: the arrays as the region finds them, each buffer after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt m c t.val t.isLt).dys
    | ⟨19, _⟩ => (outsAt m c t.val t.isLt).dusk
    | ⟨20, _⟩ => (outsAt m c t.val t.isLt).dzg
    | ⟨21, _⟩ => (outsAt m c t.val t.isLt).ya
    | ⟨22, _⟩ => (outsAt m c t.val t.isLt).yb
    | ⟨23, _⟩ => (outsAt m c t.val t.isLt).dpa
    | ⟨24, _⟩ => (outsAt m c t.val t.isLt).dpb
    | ⟨25, _⟩ => (outsAt m c t.val t.isLt).mg
    | ⟨26, _⟩ => (outsAt m c t.val t.isLt).dmo
    | ⟨27, _⟩ => (outsAt m c t.val t.isLt).sums.dwg
    | ⟨28, _⟩ => (outsAt m c t.val t.isLt).sums.dsw
    | ⟨29, _⟩ => (outsAt m c t.val t.isLt).sums.dbf
    | ⟨30, _⟩ => (outsAt m c t.val t.isLt).sums.acc
    | ⟨n + 31, hn⟩ => (Nat.not_lt.mpr (Nat.le_add_left 31 n) (show n + 31 < 31 from hn)).elim
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = (outsAt m c t.val t.isLt).dys := by dsimp only [dats]
theorem after19 (c : Dev nD) (t : Fin cfg0.N) : (dats m 0 c).after 19 t = (outsAt m c t.val t.isLt).dusk := by dsimp only [dats]
theorem after20 (c : Dev nD) (t : Fin cfg0.N) : (dats m 0 c).after 20 t = (outsAt m c t.val t.isLt).dzg := by dsimp only [dats]
theorem after21 (c : Dev nD) (t : Fin cfg0.N) : (dats m 0 c).after 21 t = (outsAt m c t.val t.isLt).ya := by dsimp only [dats]
theorem after22 (c : Dev nD) (t : Fin cfg0.N) : (dats m 0 c).after 22 t = (outsAt m c t.val t.isLt).yb := by dsimp only [dats]
theorem after23 (c : Dev nD) (t : Fin cfg0.N) : (dats m 0 c).after 23 t = (outsAt m c t.val t.isLt).dpa := by dsimp only [dats]
theorem after24 (c : Dev nD) (t : Fin cfg0.N) : (dats m 0 c).after 24 t = (outsAt m c t.val t.isLt).dpb := by dsimp only [dats]
theorem after25 (c : Dev nD) (t : Fin cfg0.N) : (dats m 0 c).after 25 t = (outsAt m c t.val t.isLt).mg := by dsimp only [dats]
theorem after26 (c : Dev nD) (t : Fin cfg0.N) : (dats m 0 c).after 26 t = (outsAt m c t.val t.isLt).dmo := by dsimp only [dats]
theorem after27 (c : Dev nD) (t : Fin cfg0.N) : (dats m 0 c).after 27 t = (outsAt m c t.val t.isLt).sums.dwg := by dsimp only [dats]
theorem after28 (c : Dev nD) (t : Fin cfg0.N) : (dats m 0 c).after 28 t = (outsAt m c t.val t.isLt).sums.dsw := by dsimp only [dats]
theorem after29 (c : Dev nD) (t : Fin cfg0.N) : (dats m 0 c).after 29 t = (outsAt m c t.val t.isLt).sums.dbf := by dsimp only [dats]
theorem after30 (c : Dev nD) (t : Fin cfg0.N) : (dats m 0 c).after 30 t = (outsAt m c t.val t.isLt).sums.acc := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d
theorem before9 (c : Dev nD) (t : Fin cfg0.N) (d) : (dats m 0 c).before 9 t d = iblk m c 9 t := before0_9_of m (dats m 0 c) (A_eq m c 9) (after9 m c) t d
theorem before10 (c : Dev nD) (t : Fin cfg0.N) (d) : (dats m 0 c).before 10 t d = iblk m c 10 t := before0_10_of m (dats m 0 c) (A_eq m c 10) (after10 m c) t d
theorem before11 (c : Dev nD) (t : Fin cfg0.N) (d) : (dats m 0 c).before 11 t d = iblk m c 11 t := before0_11_of m (dats m 0 c) (A_eq m c 11) (after11 m c) t d
theorem before12 (c : Dev nD) (t : Fin cfg0.N) (d) : (dats m 0 c).before 12 t d = iblk m c 12 t := before0_12_of m (dats m 0 c) (A_eq m c 12) (after12 m c) t d
theorem before13 (c : Dev nD) (t : Fin cfg0.N) (d) : (dats m 0 c).before 13 t d = iblk m c 13 t := before0_13_of m (dats m 0 c) (A_eq m c 13) (after13 m c) t d
theorem before14 (c : Dev nD) (t : Fin cfg0.N) (d) : (dats m 0 c).before 14 t d = iblk m c 14 t := before0_14_of m (dats m 0 c) (A_eq m c 14) (after14 m c) t d
theorem before15 (c : Dev nD) (t : Fin cfg0.N) (d) : (dats m 0 c).before 15 t d = iblk m c 15 t := before0_15_of m (dats m 0 c) (A_eq m c 15) (after15 m c) t d
theorem before16 (c : Dev nD) (t : Fin cfg0.N) (d) : (dats m 0 c).before 16 t d = iblk m c 16 t := before0_16_of m (dats m 0 c) (A_eq m c 16) (after16 m c) t d
theorem before17 (c : Dev nD) (t : Fin cfg0.N) (d) : (dats m 0 c).before 17 t d = iblk m c 17 t := before0_17_of m (dats m 0 c) (A_eq m c 17) (after17 m c) t d
/-- A latent tile finds in output 27 what the tile before left. -/
theorem before27 (c : Dev nD) (t : Fin cfg0.N) (h : t.val ≠ 0) (d) : (dats m 0 c).before 27 t d = (found m c t).dwg := by
  have hN : t.val < 33 := lt_of_lt_of_eq t.isLt (show cfg0.N = 33 from N_0)
  rw [Dat.before_out_kept _ 27 rfl t h (Bool.eq_false_iff.mpr fun h => by have := (flush0_27 _).mp h; dsimp only at this; omega)
    (by decide +kernel) (fun _ _ => rfl)]
  dsimp only [dats]
/-- A latent tile finds in output 28 what the tile before left. -/
theorem before28 (c : Dev nD) (t : Fin cfg0.N) (h : t.val ≠ 0) (d) : (dats m 0 c).before 28 t d = (found m c t).dsw := by
  have hN : t.val < 33 := lt_of_lt_of_eq t.isLt (show cfg0.N = 33 from N_0)
  rw [Dat.before_out_kept _ 28 rfl t h (Bool.eq_false_iff.mpr fun h => by have := (flush0_28 _).mp h; dsimp only at this; omega)
    (by decide +kernel) (fun _ _ => rfl)]
  dsimp only [dats]
/-- A latent tile finds in output 29 what the tile before left. -/
theorem before29 (c : Dev nD) (t : Fin cfg0.N) (h : t.val ≠ 0) (d) : (dats m 0 c).before 29 t d = (found m c t).dbf := by
  have hN : t.val < 33 := lt_of_lt_of_eq t.isLt (show cfg0.N = 33 from N_0)
  rw [Dat.before_out_kept _ 29 rfl t h (Bool.eq_false_iff.mpr fun h => by have := (flush0_29 _).mp h; dsimp only at this; omega)
    (by decide +kernel) (fun _ _ => rfl)]
  dsimp only [dats]
/-- A latent tile finds in output 30 what the tile before left. -/
theorem before30 (c : Dev nD) (t : Fin cfg0.N) (h : t.val ≠ 0) (d) : (dats m 0 c).before 30 t d = (found m c t).acc := by
  have hN : t.val < 33 := lt_of_lt_of_eq t.isLt (show cfg0.N = 33 from N_0)
  rw [Dat.before_out_kept _ 30 rfl t h (Bool.eq_false_iff.mpr fun h => by have := (flush0_30 _).mp h; dsimp only at this; omega)
    (by decide +kernel) (fun _ _ => rfl)]
  dsimp only [dats]

/-- A window the body stores at a point is handed back at what was stored. -/
theorem kept (c : Dev nD) (w : Fin cfg0.W) (t : Fin cfg0.N) (hi : cfg0.idle w (grid0.coords t) = false) :
    (dats m 0 c).leavesExact w t = owns (c : Thread nD τ) ((cfg0.win w).stage (cfg0.slots t w)) fullShare ((dats m 0 c).after w t) := by
  unfold Dat.leavesExact; rw [hi]

/-- What the body is called with at a point, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d)))

/-- and what it gives back. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t
    ∗ (dats m 0 c).leavesExact 30 t)

set_option maxHeartbeats 4000000 in
/-- The body at the context tile. -/
theorem soundA (c : Dev nD) (t : Fin cfg0.N) (h : t.val = 0) :
    pre m c t ⊢ wp frame (wpE (defs₀ (F := F)) Variants.none c none) Set.univ (bodyAt0 t) (fun _ => post m c t) := by
  unfold pre post
  simp only [before0, before1, before2, before3, before4, before5, before6, before7, before8, before9, before10, before11, before12, before13, before14, before15, before16, before17]
  rw [show (dats m 0 c).Φ t.succ = (dats m 0 c).Φ t.castSucc from rfl,
    show (dats m 0 c).owesAt () t.succ = (dats m 0 c).owesAt () t.castSucc from rfl]
  rw [kept m c 0 t rfl, after0]
  rw [kept m c 1 t rfl, after1]
  rw [kept m c 2 t rfl, after2]
  rw [kept m c 3 t rfl, after3]
  rw [kept m c 4 t rfl, after4]
  rw [kept m c 5 t rfl, after5]
  rw [kept m c 6 t rfl, after6]
  rw [kept m c 7 t rfl, after7]
  rw [kept m c 8 t rfl, after8]
  rw [kept m c 9 t rfl, after9]
  rw [kept m c 10 t rfl, after10]
  rw [kept m c 11 t rfl, after11]
  rw [kept m c 12 t rfl, after12]
  rw [kept m c 13 t rfl, after13]
  rw [kept m c 14 t rfl, after14]
  rw [kept m c 15 t rfl, after15]
  rw [kept m c 16 t rfl, after16]
  rw [kept m c 17 t rfl, after17]
  rw [kept m c 18 t ((by decide +kernel : ∀ t : Fin cfg0.N, cfg0.idle 18 (grid0.coords t) = false) t), after18]
  rw [kept m c 19 t ((by decide +kernel : ∀ t : Fin cfg0.N, cfg0.idle 19 (grid0.coords t) = false) t), after19]
  rw [kept m c 20 t ((by decide +kernel : ∀ t : Fin cfg0.N, cfg0.idle 20 (grid0.coords t) = false) t), after20]
  rw [Dat.leavesExact_idle (dats m 0 c) 21 t ((by decide +kernel : ∀ t : Fin cfg0.N, t.val = 0 → cfg0.idle 21 (grid0.coords t) = true) t h) ((by decide +kernel : ∀ t : Fin cfg0.N, t.val = 0 → (cfg0.win 21).flush t = false) t h)]
  rw [Dat.leavesExact_idle (dats m 0 c) 22 t ((by decide +kernel : ∀ t : Fin cfg0.N, t.val = 0 → cfg0.idle 22 (grid0.coords t) = true) t h) ((by decide +kernel : ∀ t : Fin cfg0.N, t.val = 0 → (cfg0.win 22).flush t = false) t h)]
  rw [Dat.leavesExact_idle (dats m 0 c) 23 t ((by decide +kernel : ∀ t : Fin cfg0.N, t.val = 0 → cfg0.idle 23 (grid0.coords t) = true) t h) ((by decide +kernel : ∀ t : Fin cfg0.N, t.val = 0 → (cfg0.win 23).flush t = false) t h)]
  rw [Dat.leavesExact_idle (dats m 0 c) 24 t ((by decide +kernel : ∀ t : Fin cfg0.N, t.val = 0 → cfg0.idle 24 (grid0.coords t) = true) t h) ((by decide +kernel : ∀ t : Fin cfg0.N, t.val = 0 → (cfg0.win 24).flush t = false) t h)]
  rw [Dat.leavesExact_idle (dats m 0 c) 25 t ((by decide +kernel : ∀ t : Fin cfg0.N, t.val = 0 → cfg0.idle 25 (grid0.coords t) = true) t h) ((by decide +kernel : ∀ t : Fin cfg0.N, t.val = 0 → (cfg0.win 25).flush t = false) t h)]
  rw [Dat.leavesExact_idle (dats m 0 c) 26 t ((by decide +kernel : ∀ t : Fin cfg0.N, t.val = 0 → cfg0.idle 26 (grid0.coords t) = true) t h) ((by decide +kernel : ∀ t : Fin cfg0.N, t.val = 0 → (cfg0.win 26).flush t = false) t h)]
  rw [kept m c 27 t ((by decide +kernel : ∀ t : Fin cfg0.N, cfg0.idle 27 (grid0.coords t) = false) t), after27]
  rw [kept m c 28 t ((by decide +kernel : ∀ t : Fin cfg0.N, cfg0.idle 28 (grid0.coords t) = false) t), after28]
  rw [kept m c 29 t ((by decide +kernel : ∀ t : Fin cfg0.N, cfg0.idle 29 (grid0.coords t) = false) t), after29]
  rw [kept m c 30 t ((by decide +kernel : ∀ t : Fin cfg0.N, cfg0.idle 30 (grid0.coords t) = false) t), after30]
  rw [outsAt_ctx m c t h]
  unfold outA; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply ((runA c (grid0.coords t) (mems t) ((isctx t).mpr h) (fun h' => (islat t).mp h' h) (ins m c t)).2.2.2.2.2.2.2 Set.univ _)
  isplitl [H0 H1 H2 H3 H4 H5 H6 H7 H8 H9 H10 H11 H12 H13 H14 H15 H16 H17]
  · unfold reads
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  isplitl [H18]; · iexists _; iexact H18
  isplitl [H19]; · iexists _; iexact H19
  isplitl [H20]; · iexists _; iexact H20
  isplitl [H27]; · iexists _; iexact H27
  isplitl [H28]; · iexists _; iexact H28
  isplitl [H29]; · iexists _; iexact H29
  isplitl [H30]; · iexists _; iexact H30
  unfold reads
  iintro ⟨⟨H0, H1, H2, H3, H4, H5, H6, H7, H8, H9, H10, H11, H12, H13, H14, H15, H16, H17⟩, ⟨%e18, H18⟩, ⟨%e19, H19⟩, ⟨%e20, H20⟩, ⟨%e27, H27⟩, ⟨%e28, H28⟩, ⟨%e29, H29⟩, ⟨%e30, H30⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_eq_canon _ _ _ (fillA_dys _ _ _ _ _ _)
  isplitl [H19]
  · unfold owns; iexists _; isplitr
    swap; · iexact H19
    ipureintro; exact View.read_writes_eq_canon _ _ _ (fillA_dusk _ _ _ _ _ _)
  isplitl [H20]
  · unfold owns; iexists _; isplitr
    swap; · iexact H20
    ipureintro; exact View.read_writes_eq_canon _ _ _ (fillA_dzg _ _ _ _ _ _)
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]
  · unfold owns; iexists _; isplitr
    swap; · iexact H27
    ipureintro; exact View.read_writes_eq_canon _ _ _ (fillA_dwg _ _ _ _ _ _)
  isplitl [H28]
  · unfold owns; iexists _; isplitr
    swap; · iexact H28
    ipureintro; exact View.read_writes_eq_canon _ _ _ (fillA_dsw _ _ _ _ _ _)
  isplitl [H29]
  · unfold owns; iexists _; isplitr
    swap; · iexact H29
    ipureintro; exact View.read_writes_eq_canon _ _ _ (fillA_dbf _ _ _ _ _ _)
  unfold owns; iexists _; isplitr
  swap; · iexact H30
  ipureintro; exact View.read_writes_eq_canon _ _ _ (fillA_acc _ _ _ _ _ _)

set_option maxHeartbeats 4000000 in
/-- The body at a latent tile. -/
theorem soundB (c : Dev nD) (t : Fin cfg0.N) (h : t.val ≠ 0) :
    pre m c t ⊢ wp frame (wpE (defs₀ (F := F)) Variants.none c none) Set.univ (bodyAt0 t) (fun _ => post m c t) := by
  unfold pre post
  simp only [before0, before1, before2, before3, before4, before5, before6, before7, before8, before9, before10, before11, before12, before13, before14, before15, before16, before17]
  rw [show (dats m 0 c).Φ t.succ = (dats m 0 c).Φ t.castSucc from rfl,
    show (dats m 0 c).owesAt () t.succ = (dats m 0 c).owesAt () t.castSucc from rfl]
  rw [kept m c 0 t rfl, after0]
  rw [kept m c 1 t rfl, after1]
  rw [kept m c 2 t rfl, after2]
  rw [kept m c 3 t rfl, after3]
  rw [kept m c 4 t rfl, after4]
  rw [kept m c 5 t rfl, after5]
  rw [kept m c 6 t rfl, after6]
  rw [kept m c 7 t rfl, after7]
  rw [kept m c 8 t rfl, after8]
  rw [kept m c 9 t rfl, after9]
  rw [kept m c 10 t rfl, after10]
  rw [kept m c 11 t rfl, after11]
  rw [kept m c 12 t rfl, after12]
  rw [kept m c 13 t rfl, after13]
  rw [kept m c 14 t rfl, after14]
  rw [kept m c 15 t rfl, after15]
  rw [kept m c 16 t rfl, after16]
  rw [kept m c 17 t rfl, after17]
  rw [kept m c 18 t ((by decide +kernel : ∀ t : Fin cfg0.N, cfg0.idle 18 (grid0.coords t) = false) t), after18]
  rw [kept m c 19 t ((by decide +kernel : ∀ t : Fin cfg0.N, cfg0.idle 19 (grid0.coords t) = false) t), after19]
  rw [kept m c 20 t ((by decide +kernel : ∀ t : Fin cfg0.N, cfg0.idle 20 (grid0.coords t) = false) t), after20]
  rw [kept m c 21 t ((by decide +kernel : ∀ t : Fin cfg0.N, t.val ≠ 0 → cfg0.idle 21 (grid0.coords t) = false) t h), after21]
  rw [kept m c 22 t ((by decide +kernel : ∀ t : Fin cfg0.N, t.val ≠ 0 → cfg0.idle 22 (grid0.coords t) = false) t h), after22]
  rw [kept m c 23 t ((by decide +kernel : ∀ t : Fin cfg0.N, t.val ≠ 0 → cfg0.idle 23 (grid0.coords t) = false) t h), after23]
  rw [kept m c 24 t ((by decide +kernel : ∀ t : Fin cfg0.N, t.val ≠ 0 → cfg0.idle 24 (grid0.coords t) = false) t h), after24]
  rw [kept m c 25 t ((by decide +kernel : ∀ t : Fin cfg0.N, t.val ≠ 0 → cfg0.idle 25 (grid0.coords t) = false) t h), after25]
  rw [kept m c 26 t ((by decide +kernel : ∀ t : Fin cfg0.N, t.val ≠ 0 → cfg0.idle 26 (grid0.coords t) = false) t h), after26]
  rw [kept m c 27 t ((by decide +kernel : ∀ t : Fin cfg0.N, cfg0.idle 27 (grid0.coords t) = false) t), after27]
  rw [kept m c 28 t ((by decide +kernel : ∀ t : Fin cfg0.N, cfg0.idle 28 (grid0.coords t) = false) t), after28]
  rw [kept m c 29 t ((by decide +kernel : ∀ t : Fin cfg0.N, cfg0.idle 29 (grid0.coords t) = false) t), after29]
  rw [kept m c 30 t ((by decide +kernel : ∀ t : Fin cfg0.N, cfg0.idle 30 (grid0.coords t) = false) t), after30]
  rw [outsAt_lat m c t h]
  simp only [before27 m c t h, before28 m c t h, before29 m c t h, before30 m c t h]
  unfold outB; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply ((runB c (grid0.coords t) (mems t) (fun h' => h ((isctx t).mp h')) ((islat t).mpr h) (ins m c t) (found m c t)).2.2.2.2.2.2.2.2.2.2.2.2.2 Set.univ _)
  isplitl [H0 H1 H2 H3 H4 H5 H6 H7 H8 H9 H10 H11 H12 H13 H14 H15 H16 H17]
  · unfold reads
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexact H27
  isplitl [H28]; · iexact H28
  isplitl [H29]; · iexact H29
  isplitl [H30]; · iexact H30
  unfold reads
  iintro ⟨⟨H0, H1, H2, H3, H4, H5, H6, H7, H8, H9, H10, H11, H12, H13, H14, H15, H16, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, H27, H28, H29, H30⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_eq_canon _ _ _ (fillB_dys _ _ _ _ _ _ _)
  isplitl [H19]
  · unfold owns; iexists _; isplitr
    swap; · iexact H19
    ipureintro; exact View.read_writes_eq_canon _ _ _ (fillB_dusk _ _ _ _ _ _ _)
  isplitl [H20]
  · unfold owns; iexists _; isplitr
    swap; · iexact H20
    ipureintro; exact View.read_writes_eq_canon _ _ _ (fillB_dzg _ _ _ _ _ _ _)
  isplitl [H21]
  · unfold owns; iexists _; isplitr
    swap; · iexact H21
    ipureintro; exact View.read_writes_eq_canon _ _ _ (fillB_ya _ _ _ _ _ _ _)
  isplitl [H22]
  · unfold owns; iexists _; isplitr
    swap; · iexact H22
    ipureintro; exact View.read_writes_eq_canon _ _ _ (fillB_yb _ _ _ _ _ _ _)
  isplitl [H23]
  · unfold owns; iexists _; isplitr
    swap; · iexact H23
    ipureintro; exact View.read_writes_eq_canon _ _ _ (fillB_dpa _ _ _ _ _ _ _)
  isplitl [H24]
  · unfold owns; iexists _; isplitr
    swap; · iexact H24
    ipureintro; exact View.read_writes_eq_canon _ _ _ (fillB_dpb _ _ _ _ _ _ _)
  isplitl [H25]
  · unfold owns; iexists _; isplitr
    swap; · iexact H25
    ipureintro; exact View.read_writes_eq_canon _ _ _ (fillB_mg _ _ _ _ _ _ _)
  isplitl [H26]
  · unfold owns; iexists _; isplitr
    swap; · iexact H26
    ipureintro; exact View.read_writes_eq_canon _ _ _ (fillB_dmo _ _ _ _ _ _ _)
  isplitl [H27]
  · unfold owns; iexists _; isplitr
    swap; · iexact H27
    ipureintro; exact View.read_writes_eq_canon _ _ _ (fillB_dwg _ _ _ _ _ _ _)
  isplitl [H28]
  · unfold owns; iexists _; isplitr
    swap; · iexact H28
    ipureintro; exact View.read_writes_eq_canon _ _ _ (fillB_dsw _ _ _ _ _ _ _)
  isplitl [H29]
  · unfold owns; iexists _; isplitr
    swap; · iexact H29
    ipureintro; exact View.read_writes_eq_canon _ _ _ (fillB_dbf _ _ _ _ _ _ _)
  unfold owns; iexists _; isplitr
  swap; · iexact H30
  ipureintro; exact rfl

theorem defs₀_row (t : Fin cfg0.N) : defs₀ (F := F) .tc cfg0.body (cfg0.bodyArgs t (cfg0.slots t)) = bodyAt0 t := by
  unfold defs₀; rw [Defs.onTc_tc]

set_option maxHeartbeats 2000000 in
/-- The obligation of the body at every point. -/
theorem obligation (c : Dev nD) : BodyObligation (dats (F := F) m 0 c) (defs₀ (F := F)) Variants.none () Set.univ := fun t => by
  rw [bigSep_W0, bigSep_W0, defs₀_row]
  by_cases h : t.val = 0
  · exact triple_restated (soundA m c t h) rfl .rfl fun _ => .rfl
  · exact triple_restated (soundB m c t h) rfl .rfl fun _ => .rfl

set_option backward.isDefEq.respectTransparency.types false in
/-- The launch. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The arguments are as launched and no semaphore is held. -/
def Quiet (r : PUnit × MemSt nD τ sig (Elt F)) : Prop := (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0

/-- The frame: the arguments end as they began and every counter at zero. -/
theorem frame_run : θ_run defs (onTc (τ := τ) (main (F := F))) ⟨m, fun _ => 0, ρ⟩ (Quiet m) :=
  θ_run_and (frame_of m ρ (dats m) (A_eq m) (run_main m ρ)) ((θ_run defs _ _).mono (fun _ h => h.2) (run_quiet m ρ))

end Cert.Proof.MixRun
-- ==== Proof.Branch.lean ====
/- The two branches of the token mixer, of one token and of one chunk of 128 tokens: gelu and gated linear unit, layer norm and
spatial gating, the merge, and the gradients of all of them. -/
module

public import proofs.«01_k».proof.Proof.Norm

@[expose] public section

noncomputable section

namespace Cert.Proof.Branch

open Idealize.ShloMosaic

/-! ## The gelu and its gradient -/

/-- The inner function of the gelu. -/
def th (x : EReal) : EReal := Ideal.tanh (Ideal.ofBits .f32 0x3F4C422A#32 * (x + Ideal.ofBits .f32 0x3D372713#32 * (x * (x * x))))

def ha (x : EReal) : EReal := Ideal.ofBits .f32 0x3F000000#32 * (1 + th x)

/-- The gelu. -/
def ge (x : EReal) : EReal := x * ha x

/-- The derivative of the inner function, of its value. -/
def sl (x : EReal) : EReal := (1 + th x) * (1 - th x)

def dg (x e : EReal) : EReal := Ideal.ofBits .f32 0x3F4C422A#32 * (Ideal.ofBits .f32 0x3F000000#32 * (x * e) * sl x)

/-- The gradient through the gelu at `x`, of the gradient `e` of its value. -/
def dge (x e : EReal) : EReal := e * ha x + dg x e + Ideal.ofBits .f32 0x3D372713#32 * dg x e * (Ideal.ofBits .f32 0x40400000#32 * (x * x))

/-! ## The layer norm of a row of 512 numbers, and its gradient -/

/-- The row less its mean. -/
def cen (v : Fin 512 → EReal) (j : Fin 512) : EReal := v j - Ideal.div (∑ k : Fin 512, v k) (Ideal.ofBits .f32 0x44000000#32)

/-- The variance, and the small number added to it. -/
def va (v : Fin 512 → EReal) : EReal := Ideal.div (∑ k : Fin 512, cen v k * cen v k) (Ideal.ofBits .f32 0x44000000#32) + Ideal.ofBits .f32 0x358637BD#32

def iv (v : Fin 512 → EReal) : EReal := Ideal.rsqrt (va v)

def nrm (v : Fin 512 → EReal) (j : Fin 512) : EReal := cen v j * iv v

/-- What the gradient `e` of the normed row gives to the variance, for each of the squares. -/
def qv (v e : Fin 512 → EReal) : EReal :=
  Ideal.div ((∑ k : Fin 512, cen v k * e k) * (Ideal.ofBits .f32 0xBF000000#32 * Ideal.div (iv v) (va v))) (Ideal.ofBits .f32 0x44000000#32)

def dcen (v e : Fin 512 → EReal) (j : Fin 512) : EReal := e j * iv v + cen v j * qv v e + qv v e * cen v j

/-- The gradient of the row, of the gradient `e` of the normed row. -/
def dln (v e : Fin 512 → EReal) (j : Fin 512) : EReal := dcen v e j + Ideal.div (∑ k : Fin 512, -dcen v e k) (Ideal.ofBits .f32 0x44000000#32)

/-! ## A token, and the weights -/

/-- What the mixer reads of a token: the scan's input and its two outputs, the other branch's input, the logits of the gates, the gradient of the result. -/
structure Row where
  u : Fin 512 → EReal
  y0 : Fin 512 → EReal
  y1 : Fin 512 → EReal
  z : Fin 1024 → EReal
  gl : Fin 2048 → EReal
  e : Fin 1024 → EReal

/-- The weights. -/
structure Wts where
  g : Fin 1024 → EReal
  d : Fin 512 → EReal
  wg : Fin 512 → Fin 512 → EReal
  bg : Fin 512 → EReal
  lg : Fin 512 → EReal
  lb : Fin 512 → EReal
  sw : Fin 8 → Fin 128 → Fin 128 → EReal
  bf : Fin 128 → Fin 512 → EReal
  wpa : Fin 512 → Fin 1024 → EReal
  wpb : Fin 512 → Fin 1024 → EReal
  bgate : Fin 2048 → EReal
  wo : Fin 1024 → Fin 1024 → EReal

variable (w : Wts) (r : Row) (R : Fin 128 → Row) (q : Fin 128)

/-- The group of a channel: eight groups of 64. -/
def grp (j : Fin 512) : Fin 8 := ⟨j.val / 64, by omega⟩

/-! ## The forward -/

def y (j : Fin 512) : EReal := r.u j * w.d j + (r.y0 j + r.y1 j)

/-- The gate of the linear unit. -/
def sgl (j : Fin 512) : EReal := Ideal.logistic ((∑ k : Fin 512, ge (y w r k) * w.wg k j) + w.bg j)

/-- The first branch. -/
def ya (j : Fin 512) : EReal := ge (y w r j) * sgl w r j

def us (j : Fin 512) : EReal := ge (r.z ⟨0 + j.val, by omega⟩)

def vs (j : Fin 512) : EReal := ge (r.z ⟨512 + j.val, by omega⟩)

def lnv (j : Fin 512) : EReal := nrm (vs r) j * w.lg j + w.lb j

/-- The spatial gate: within a chunk, per group of channels. -/
def sp (j : Fin 512) : EReal := (∑ p : Fin 128, w.sw (grp j) q p * lnv w (R p) j) + w.bf q j

/-- The second branch. -/
def yb (j : Fin 512) : EReal := us (R q) j * sp w R q j

def pa (j : Fin 1024) : EReal := ∑ k : Fin 512, ya w r k * w.wpa k j

def pb (j : Fin 1024) : EReal := ∑ k : Fin 512, yb w R q k * w.wpb k j

def ga (j : Fin 1024) : EReal := Ideal.logistic (r.gl ⟨0 + j.val, by omega⟩ + w.bgate ⟨0 + j.val, by omega⟩)

def gb (j : Fin 1024) : EReal := Ideal.logistic (r.gl ⟨1024 + j.val, by omega⟩ + w.bgate ⟨1024 + j.val, by omega⟩)

/-- The merge of the branches. -/
def mg (j : Fin 1024) : EReal := ga w (R q) j * pa w (R q) j + gb w (R q) j * pb w R q j

/-! ## The gradients -/

def dmo (j : Fin 1024) : EReal := w.g j * r.e j

def dm (j : Fin 1024) : EReal := ∑ k : Fin 1024, dmo w r k * w.wo j k

def dpa (j : Fin 1024) : EReal := dm w r j * ga w r j

def dpb (j : Fin 1024) : EReal := dm w r j * gb w r j

def dsa (j : Fin 1024) : EReal := dm w r j * pa w r j * ga w r j * (1 - ga w r j)

def dsb (j : Fin 1024) : EReal := dm w (R q) j * pb w R q j * gb w (R q) j * (1 - gb w (R q) j)

/-- The gradients of the two branches. -/
def ea (j : Fin 512) : EReal := ∑ k : Fin 1024, dpa w r k * w.wpa j k

def eb (j : Fin 512) : EReal := ∑ k : Fin 1024, dpb w r k * w.wpb j k

/-- The gradient of the linear unit's gate, before the logistic function. -/
def dgt (j : Fin 512) : EReal := ge (y w r j) * ea w r j * (sgl w r j * (1 - sgl w r j))

def dy (j : Fin 512) : EReal := dge (y w r j) (ea w r j * sgl w r j + ∑ k : Fin 512, dgt w r k * w.wg j k)

def ds (j : Fin 512) : EReal := us r j * eb w r j

def dv (j : Fin 512) : EReal := ∑ p : Fin 128, w.sw (grp j) p q * ds w (R p) j

def dz (j : Fin 1024) : EReal :=
  dge ((R q).z j) (if h : j.val < 512 then eb w (R q) ⟨j.val, h⟩ * sp w R q ⟨j.val, h⟩
    else dln (vs (R q)) (fun k => dv w R q k * w.lg k) ⟨j.val - 512, by omega⟩)

/-- The gradient of the logits and of the second branch's input together. -/
def dzg (j : Fin 3072) : EReal :=
  if h : j.val < 1024 then dz w R q ⟨j.val, h⟩
  else if h' : j.val < 2048 then dsa w (R q) ⟨j.val - 1024, by omega⟩
  else dsb w R q ⟨j.val - 2048, by omega⟩

/-! ## What a token gives to the gradients of the weights -/

/-- The six rows: the gates' bias, the skip, the linear unit's bias, the layer norm's two; then zeros. -/
def row (k : Fin 8) (j : Fin 2048) : EReal :=
  if k.val = 0 then (if h : j.val < 1024 then dsa w (R q) ⟨j.val, h⟩ else dsb w R q ⟨j.val - 1024, by omega⟩)
  else if h : j.val < 512 then
    (if k.val = 1 then (R q).u ⟨j.val, h⟩ * dy w (R q) ⟨j.val, h⟩
    else if k.val = 2 then dgt w (R q) ⟨j.val, h⟩
    else if k.val = 3 then nrm (vs (R q)) ⟨j.val, h⟩ * dv w R q ⟨j.val, h⟩
    else if k.val = 4 then dv w R q ⟨j.val, h⟩ else 0)
  else 0

/-! ## The whole arrays -/

/-- The activations of the sequence: the context's 256 rows first in all but the cotangent. -/
structure Arr where
  u : Fin 8448 → Fin 512 → EReal
  y0 : Fin 8448 → Fin 512 → EReal
  y1 : Fin 8448 → Fin 512 → EReal
  z : Fin 8448 → Fin 1024 → EReal
  gl : Fin 8448 → Fin 2048 → EReal
  e : Fin 8192 → Fin 1024 → EReal

/-- A token of the sequence. -/
def tok (A : Arr) (n : Fin 8192) : Row where
  u := A.u ⟨256 + n.val, by omega⟩
  y0 := A.y0 ⟨256 + n.val, by omega⟩
  y1 := A.y1 ⟨256 + n.val, by omega⟩
  z := A.z ⟨256 + n.val, by omega⟩
  gl := A.gl ⟨256 + n.val, by omega⟩
  e := A.e n

/-- A chunk of the sequence. -/
def chk (A : Arr) (g : Fin 64) (q : Fin 128) : Row := tok A ⟨g.val * 128 + q.val, by omega⟩

/-- The chunk a token is in, and its place there. -/
def chn (A : Arr) (n : Fin 8192) : Fin 128 → Row := chk A ⟨n.val / 128, by omega⟩
def pln (n : Fin 8192) : Fin 128 := ⟨n.val % 128, by omega⟩

theorem chn_pln (A : Arr) (n : Fin 8192) : chn A n (pln n) = tok A n :=
  congrArg (tok A) (Fin.ext (by show n.val / 128 * 128 + n.val % 128 = n.val; omega))

/-- The rows of the sequence's zeros for the context, then what the tokens give. -/
def ctx {J : ℕ} (f : Fin 8192 → Fin J → EReal) (n : Fin 8448) (j : Fin J) : EReal :=
  if h : 256 ≤ n.val then f ⟨n.val - 256, by omega⟩ j else 0

/-- A group's spatial weights, of one chunk. -/
def part (w : Wts) (R : Fin 128 → Row) (g : Fin 8) (a b : Fin 128) : EReal :=
  ∑ k : Fin 512, if grp k = g then ds w (R a) k * lnv w (R b) k else 0

end Cert.Proof.Branch

end
-- ==== Proof.MixPay.lean ====
/- The values the body of the branch backward kernel computes, of the blocks of a tile of 256 tokens. -/
module

public import proofs.«01_k».proof.Proof.Gen.KernelMixIdeal.Skeleton
public import proofs.«01_k».proof.Proof.Branch

@[expose] public section

set_option maxRecDepth 16384

noncomputable section

namespace Cert.Proof.MixPay

open Cert.KernelMixIdeal Cert.KernelMixIdeal.Gen Idealize.ShloMosaic Idealize.ShloMosaic.TcCoe Cert.Proof.Branch

/-! ## The gelu and the gated linear unit -/

section
variable (u y : FVec Ideal S256x512 .f32) (d b : FVec Ideal S1x512 .f32) (W : FVec Ideal S512x512 .bf16) (p : Fin 256) (j : Fin 512)

theorem pay18_apply (a b : FVec Ideal S256x512 .f32) (i : S256x512.Idx) : (k0_pay18 (F := Ideal) a b i : EReal) = a i + b i := by
  unfold k0_pay18; pointwise

theorem pay22_apply : (k0_pay22 (F := Ideal) u y d (ix2 p j) : EReal) = u (ix2 p j) * d (ix2 0 j) + y (ix2 p j) := by
  unfold k0_pay22; pointwise

theorem pay23_apply : (k0_pay23 (F := Ideal) u y d (ix2 p j) : EReal)
    = Ideal.ofBits .f32 0x40400000#32 * (k0_pay22 (F := Ideal) u y d (ix2 p j) * k0_pay22 (F := Ideal) u y d (ix2 p j)) := by
  unfold k0_pay23; pointwise

theorem pay24_apply : (k0_pay24 (F := Ideal) u y d (ix2 p j) : EReal) = th (k0_pay22 (F := Ideal) u y d (ix2 p j)) := by
  unfold th; unfold k0_pay24; pointwise

theorem pay25_apply : (k0_pay25 (F := Ideal) u y d (ix2 p j) : EReal) = sl (k0_pay22 (F := Ideal) u y d (ix2 p j)) := by
  unfold sl; simp only [← pay24_apply]; unfold k0_pay25; pointwise

theorem pay26_apply : (k0_pay26 (F := Ideal) u y d (ix2 p j) : EReal) = ha (k0_pay22 (F := Ideal) u y d (ix2 p j)) := by
  unfold ha; simp only [← pay24_apply]; unfold k0_pay26; pointwise

theorem pay27_apply : (k0_pay27 (F := Ideal) u y d (ix2 p j) : EReal) = ge (k0_pay22 (F := Ideal) u y d (ix2 p j)) := by
  unfold ge; simp only [← pay26_apply]; unfold k0_pay27; pointwise

theorem pay28_apply : (k0_pay28 (F := Ideal) u y d (k0_pay19 W) b (ix2 p j) : EReal)
    = Ideal.logistic ((∑ k : Fin 512, ge (k0_pay22 (F := Ideal) u y d (ix2 p k)) * W (ix2 k j)) + b (ix2 0 j)) := by
  simp only [← pay27_apply]; unfold k0_pay28 k0_pay20 k0_pay19; pointwise

theorem pay29_apply (v : FVec Ideal S512x512 .bf16) : (k0_pay29 (F := Ideal) u y d v b (ix2 p j) : EReal)
    = k0_pay28 (F := Ideal) u y d v b (ix2 p j) * (1 - k0_pay28 (F := Ideal) u y d v b (ix2 p j)) := by
  unfold k0_pay29; pointwise

theorem pay30_apply (v : FVec Ideal S512x512 .bf16) : (k0_pay30 (F := Ideal) u y d v b (ix2 p j) : EReal)
    = ge (k0_pay22 (F := Ideal) u y d (ix2 p j)) * k0_pay28 (F := Ideal) u y d v b (ix2 p j) := by
  simp only [← pay27_apply]; unfold k0_pay30; pointwise
end

/-! ## The gelu of the second branch and the layer norm -/

section
variable (z : FVec Ideal S256x1024 .f32) (p : Fin 256)

theorem pay34_apply (j : Fin 1024) : (k0_pay34 (F := Ideal) z (k0_pay31 z) (ix2 p j) : EReal) = th (z (ix2 p j)) := by
  unfold th; unfold k0_pay34 k0_pay31; pointwise

theorem pay35_apply (j : Fin 1024) : (k0_pay35 (F := Ideal) z (k0_pay31 z) (ix2 p j) : EReal) = sl (z (ix2 p j)) := by
  unfold sl; simp only [← pay34_apply]; unfold k0_pay35; pointwise

theorem pay36_apply (j : Fin 1024) : (k0_pay36 (F := Ideal) z (k0_pay31 z) (ix2 p j) : EReal) = ha (z (ix2 p j)) := by
  unfold ha; simp only [← pay34_apply]; unfold k0_pay36; pointwise

theorem pay37_apply (j : Fin 1024) : (k0_pay37 (F := Ideal) z (k0_pay31 z) (ix2 p j) : EReal) = ge (z (ix2 p j)) := by
  unfold ge; simp only [← pay36_apply]; unfold k0_pay37; pointwise

theorem pay38_apply (j : Fin 512) : (k0_pay38 (F := Ideal) z (k0_pay31 z) (ix2 p j) : EReal) = ge (z (ix2 p ⟨0 + j.val, by omega⟩)) := by
  simp only [← pay37_apply]; unfold k0_pay38; pointwise

/-- The second half of the gelu. -/
abbrev vz (k : Fin 512) : EReal := ge (z (ix2 p ⟨512 + k.val, by omega⟩))

theorem pay39_apply (j : Fin 512) : (k0_pay39 (F := Ideal) z (k0_pay31 z) (ix2 p j) : EReal) = cen (vz z p) j := by
  unfold cen vz; simp only [← pay37_apply]; unfold k0_pay39; pointwise

theorem pay40_apply : (k0_pay40 (F := Ideal) z (k0_pay31 z) (ix2 p 0) : EReal) = va (vz z p) := by
  unfold va; simp only [← pay39_apply]; unfold k0_pay40; pointwise

theorem pay41_apply : (k0_pay41 (F := Ideal) z (k0_pay31 z) (ix2 p 0) : EReal) = iv (vz z p) := by
  unfold iv; simp only [← pay40_apply]; unfold k0_pay41; pointwise

theorem pay42_apply : (k0_pay42 (F := Ideal) z (k0_pay31 z) (ix2 p 0) : EReal) = Ideal.ofBits .f32 0xBF000000#32 * Ideal.div (iv (vz z p)) (va (vz z p)) := by
  simp only [← pay40_apply, ← pay41_apply]; unfold k0_pay42; pointwise

theorem pay43_apply (j : Fin 512) : (k0_pay43 (F := Ideal) z (k0_pay31 z) (ix2 p j) : EReal) = nrm (vz z p) j := by
  unfold nrm; simp only [← pay39_apply, ← pay41_apply]; unfold k0_pay43; pointwise

theorem pay44_apply (g b : FVec Ideal S1x512 .f32) (j : Fin 512) : (k0_pay44 (F := Ideal) z g b (k0_pay31 z) (ix2 p j) : EReal)
    = nrm (vz z p) j * g (ix2 0 j) + b (ix2 0 j) := by
  simp only [← pay43_apply]; unfold k0_pay44; pointwise
end

/-! ## The groups of channels -/

/-- The number of a channel's group, as the body computes it. -/
abbrev lane : IVec S128x512 32 := k0_pay46 (iota .tc S128x512 32 [1] iota_S128x512_d1_w32) (64#32) k0_pay45

theorem lane_apply (q : Fin 128) (j : Fin 512) : lane (ix2 q j) = BitVec.ofNat 32 (grp j).val := by
  unfold lane k0_pay46 k0_pay45 grp
  pointwise
  generalize j = n
  revert n
  decide +kernel

/-- Channel `j` is in group `g`. -/
abbrev here (g : Fin 8) (j : Fin 512) : BitVec 1 := Scalar.cmpi .eq (BitVec.ofNat 32 (grp j).val) (BitVec.ofNat 32 g.val)

theorem here_eq (g : Fin 8) (j : Fin 512) : here g j = if grp j = g then 1#1 else 0#1 := by
  unfold here
  generalize grp j = n
  revert n g
  decide +kernel

theorem pick (g : Fin 8) (j : Fin 512) (x : EReal) : Scalar.select (here g j) x 0 = if grp j = g then x else 0 := by
  rw [here_eq]
  by_cases h : grp j = g <;> simp [h, Scalar.select]

theorem masks (q : Fin 128) (j : Fin 512) :
    (k0_pay48 (iota .tc S128x512 32 [1] iota_S128x512_d1_w32) (64#32) k0_pay45 (ix2 q j) = here 0 j ∧ k0_pay49 (iota .tc S128x512 32 [1] iota_S128x512_d1_w32) (64#32) k0_pay45 (ix2 q j) = here 1 j
      ∧ k0_pay51 (iota .tc S128x512 32 [1] iota_S128x512_d1_w32) (64#32) k0_pay45 (ix2 q j) = here 2 j ∧ k0_pay54 lane (ix2 q j) = here 3 j)
    ∧ (k0_pay55 lane (ix2 q j) = here 4 j ∧ k0_pay56 lane (ix2 q j) = here 5 j ∧ k0_pay57 lane (ix2 q j) = here 6 j ∧ k0_pay58 lane (ix2 q j) = here 7 j)
    ∧ (k0_pay63 lane (ix2 q j) = here 0 j ∧ k0_pay64 lane (ix2 q j) = here 1 j ∧ k0_pay65 lane (ix2 q j) = here 2 j ∧ k0_pay66 lane (ix2 q j) = here 3 j)
    ∧ (k0_pay67 lane (ix2 q j) = here 4 j ∧ k0_pay69 lane (ix2 q j) = here 5 j ∧ k0_pay72 lane (ix2 q j) = here 6 j ∧ k0_pay73 lane (ix2 q j) = here 7 j) := by
  unfold here
  simp only [← lane_apply q j]
  exact ⟨⟨rfl, rfl, rfl, rfl⟩, ⟨rfl, rfl, rfl, rfl⟩, ⟨rfl, rfl, rfl, rfl⟩, rfl, rfl, rfl, rfl⟩

/-- Of eight terms the one of the channel's group stays. -/
theorem pick_sum (j : Fin 512) (b : EReal) (m : Fin 8 → EReal) :
    b + Scalar.select (here 0 j) (m 0) 0 + Scalar.select (here 1 j) (m 1) 0 + Scalar.select (here 2 j) (m 2) 0 + Scalar.select (here 3 j) (m 3) 0
      + Scalar.select (here 4 j) (m 4) 0 + Scalar.select (here 5 j) (m 5) 0 + Scalar.select (here 6 j) (m 6) 0 + Scalar.select (here 7 j) (m 7) 0 = m (grp j) + b := by
  simp only [pick]
  generalize grp j = n
  rw [add_comm (m n)]
  fin_cases n <;> simp

/-! ## The spatial gate of the two chunks of a tile -/

section
variable (sw : FVec Ideal S8x128x128 .f32) (b : FVec Ideal S128x512 .f32) (v : FVec Ideal S256x512 .f32) (q : Fin 128) (j : Fin 512)

/-- The weights of one group. -/
abbrev wt (g : Fin 8) (i : Fin 128 × Fin 128) : EReal := sw (ix3 g i.1 i.2)

abbrev W0 : FVec Ideal S128x128 .f32 := k0_pay10 (View.ld (Val := Elt Ideal) (e' := .f32) sw (Rect.unit ![0, 0, 0] ![1, 128, 128] inb_S8x128x128_S1x128x128_0_0_0))
abbrev W1 : FVec Ideal S128x128 .f32 := k0_pay11 (View.ld (Val := Elt Ideal) (e' := .f32) sw (Rect.unit ![1, 0, 0] ![1, 128, 128] inb_S8x128x128_S1x128x128_1_0_0))
abbrev W2 : FVec Ideal S128x128 .f32 := k0_pay12 (View.ld (Val := Elt Ideal) (e' := .f32) sw (Rect.unit ![2, 0, 0] ![1, 128, 128] inb_S8x128x128_S1x128x128_2_0_0))
abbrev W3 : FVec Ideal S128x128 .f32 := k0_pay13 (View.ld (Val := Elt Ideal) (e' := .f32) sw (Rect.unit ![3, 0, 0] ![1, 128, 128] inb_S8x128x128_S1x128x128_3_0_0))
abbrev W4 : FVec Ideal S128x128 .f32 := k0_pay14 (View.ld (Val := Elt Ideal) (e' := .f32) sw (Rect.unit ![4, 0, 0] ![1, 128, 128] inb_S8x128x128_S1x128x128_4_0_0))
abbrev W5 : FVec Ideal S128x128 .f32 := k0_pay15 (View.ld (Val := Elt Ideal) (e' := .f32) sw (Rect.unit ![5, 0, 0] ![1, 128, 128] inb_S8x128x128_S1x128x128_5_0_0))
abbrev W6 : FVec Ideal S128x128 .f32 := k0_pay16 (View.ld (Val := Elt Ideal) (e' := .f32) sw (Rect.unit ![6, 0, 0] ![1, 128, 128] inb_S8x128x128_S1x128x128_6_0_0))
abbrev W7 : FVec Ideal S128x128 .f32 := k0_pay17 (View.ld (Val := Elt Ideal) (e' := .f32) sw (Rect.unit ![7, 0, 0] ![1, 128, 128] inb_S8x128x128_S1x128x128_7_0_0))

/-- A block of the weights, loaded. -/
theorem ld_wt (g : Fin 8) (inb) (a p : Fin 128) :
    View.ld (Val := Elt Ideal) (e' := .f32) sw (Rect.unit ![g.val, 0, 0] ![1, 128, 128] inb) (ix3 0 a p) = sw (ix3 g a p) := by
  refine congrArg sw (funext fun x => ?_)
  fin_cases x <;> exact Fin.ext (by simp [Rect.unit, ix3])

theorem wt_cast (x : FVec Ideal S1x128x128 .f32) (a p : Fin 128) : (k0_pay10 (F := Ideal) x (ix2 a p) : EReal) = x (ix3 0 a p) := by
  unfold k0_pay10; pointwise

theorem wts (a p : Fin 128) :
    ((W0 sw (ix2 a p) : EReal) = sw (ix3 0 a p) ∧ (W1 sw (ix2 a p) : EReal) = sw (ix3 1 a p) ∧ (W2 sw (ix2 a p) : EReal) = sw (ix3 2 a p) ∧ (W3 sw (ix2 a p) : EReal) = sw (ix3 3 a p))
    ∧ (W4 sw (ix2 a p) : EReal) = sw (ix3 4 a p) ∧ (W5 sw (ix2 a p) : EReal) = sw (ix3 5 a p) ∧ (W6 sw (ix2 a p) : EReal) = sw (ix3 6 a p) ∧ (W7 sw (ix2 a p) : EReal) = sw (ix3 7 a p) := by
  have h (g : Fin 8) (inb) : (k0_pay10 (F := Ideal) (View.ld (Val := Elt Ideal) (e' := .f32) sw (Rect.unit ![g.val, 0, 0] ![1, 128, 128] inb)) (ix2 a p) : EReal) = sw (ix3 g a p) :=
    (wt_cast _ a p).trans (ld_wt sw g inb a p)
  exact ⟨⟨h 0 _, h 1 _, h 2 _, h 3 _⟩, h 4 _, h 5 _, h 6 _, h 7 _⟩

/-- The gate of the first chunk. -/
abbrev gate0 : FVec Ideal S128x512 .f32 :=
  k0_pay59 (F := Ideal) (W3 sw) (W4 sw) (W5 sw) (W6 sw) (W7 sw) lane (k0_pay47 v)
    (k0_pay50 (W0 sw) (W1 sw) (k0_pay21 b) v (iota .tc S128x512 32 [1] iota_S128x512_d1_w32) (64#32) k0_pay45)
    (k0_pay51 (iota .tc S128x512 32 [1] iota_S128x512_d1_w32) (64#32) k0_pay45) (k0_pay52 (W2 sw) v) k0_pay53

theorem gate0_apply : (gate0 sw b v (ix2 q j) : EReal) = (∑ p : Fin 128, sw (ix3 (grp j) q p) * v (ix2 ⟨0 + p.val, by omega⟩ j)) + b (ix2 q j) := by
  refine Eq.trans ?_ (pick_sum j (b (ix2 q j)) fun g => ∑ p : Fin 128, sw (ix3 g q p) * v (ix2 ⟨0 + p.val, by omega⟩ j))
  obtain ⟨⟨a0, a1, a2, a3⟩, ⟨a4, a5, a6, a7⟩, -, -⟩ := masks q j
  simp only [← a0, ← a1, ← a2, ← a3, ← a4, ← a5, ← a6, ← a7, ← (wts sw _ _).1.1, ← (wts sw _ _).1.2.1, ← (wts sw _ _).1.2.2.1, ← (wts sw _ _).1.2.2.2, ← (wts sw _ _).2.1, ← (wts sw _ _).2.2.1, ← (wts sw _ _).2.2.2.1, ← (wts sw _ _).2.2.2.2]
  unfold gate0 k0_pay59 k0_pay50 k0_pay52 k0_pay53 k0_pay47 k0_pay21
  pointwise

/-- The gate of the second chunk. -/
abbrev gate1 : FVec Ideal S128x512 .f32 :=
  k0_pay74 (F := Ideal) (W6 sw) (W7 sw) lane (k0_pay62 v) (k0_pay68 (W0 sw) (W1 sw) (W2 sw) (W3 sw) (W4 sw) (k0_pay21 b) lane (k0_pay62 v)) (k0_pay69 lane)
    (k0_pay70 (W5 sw)) (k0_pay71 (k0_pay62 v))

theorem gate1_apply : (gate1 sw b v (ix2 q j) : EReal) = (∑ p : Fin 128, sw (ix3 (grp j) q p) * v (ix2 ⟨128 + p.val, by omega⟩ j)) + b (ix2 q j) := by
  refine Eq.trans ?_ (pick_sum j (b (ix2 q j)) fun g => ∑ p : Fin 128, sw (ix3 g q p) * v (ix2 ⟨128 + p.val, by omega⟩ j))
  obtain ⟨-, -, ⟨a0, a1, a2, a3⟩, a4, a5, a6, a7⟩ := masks q j
  simp only [← a0, ← a1, ← a2, ← a3, ← a4, ← a5, ← a6, ← a7, ← (wts sw _ _).1.1, ← (wts sw _ _).1.2.1, ← (wts sw _ _).1.2.2.1, ← (wts sw _ _).1.2.2.2, ← (wts sw _ _).2.1, ← (wts sw _ _).2.2.1, ← (wts sw _ _).2.2.2.1, ← (wts sw _ _).2.2.2.2]
  unfold gate1 k0_pay74 k0_pay68 k0_pay70 k0_pay71 k0_pay62 k0_pay21
  pointwise
end

end Cert.Proof.MixPay

end
-- ==== Proof.MixPayB.lean ====
/- The values the body of the branch backward kernel computes: the merge and the gradients. -/
module

public import proofs.«01_k».proof.Proof.MixPay

@[expose] public section

set_option maxRecDepth 16384

noncomputable section

namespace Cert.Proof.MixPay

open Cert.KernelMixIdeal Cert.KernelMixIdeal.Gen Idealize.ShloMosaic Idealize.ShloMosaic.TcCoe Cert.Proof.Branch

/-! ## The merge -/

section
variable (sw : FVec Ideal S8x128x128 .f32) (b : FVec Ideal S128x512 .f32) (v us : FVec Ideal S256x512 .f32) (q : Fin 128)

/-- The second branch of a tile. -/
abbrev two : FVec Ideal S256x512 .f32 :=
  k0_pay76 (F := Ideal) (W6 sw) (W7 sw) us lane
    (k0_pay61 (F := Ideal) (W3 sw) (W4 sw) (W5 sw) (W6 sw) (W7 sw) us lane (k0_pay47 v)
      (k0_pay50 (W0 sw) (W1 sw) (k0_pay21 b) v (iota .tc S128x512 32 [1] iota_S128x512_d1_w32) (64#32) k0_pay45)
      (k0_pay51 (iota .tc S128x512 32 [1] iota_S128x512_d1_w32) (64#32) k0_pay45) (k0_pay52 (W2 sw) v) k0_pay53)
    (k0_pay62 v) (k0_pay68 (W0 sw) (W1 sw) (W2 sw) (W3 sw) (W4 sw) (k0_pay21 b) lane (k0_pay62 v)) (k0_pay69 lane) (k0_pay70 (W5 sw)) (k0_pay71 (k0_pay62 v))

theorem two_apply (j : Fin 512) :
    (two sw b v us (ix2 ⟨0 + q.val, by omega⟩ j) : EReal) = us (ix2 ⟨0 + q.val, by omega⟩ j) * gate0 sw b v (ix2 q j)
    ∧ (two sw b v us (ix2 ⟨128 + q.val, by omega⟩ j) : EReal) = us (ix2 ⟨128 + q.val, by omega⟩ j) * gate1 sw b v (ix2 q j) := by
  constructor
  · unfold two k0_pay76 k0_pay61 k0_pay60
    pointwise
  · unfold two k0_pay76 k0_pay75
    pointwise
end

section
variable (gl : FVec Ideal S256x2048 .f32) (bg : FVec Ideal S1x2048 .f32) (p : Fin 256)

theorem pay77_apply (j : Fin 2048) : (k0_pay77 (F := Ideal) gl bg (ix2 p j) : EReal) = Ideal.logistic (gl (ix2 p j) + bg (ix2 0 j)) := by
  unfold k0_pay77; pointwise

theorem pay78_apply (y : FVec Ideal S256x512 .f32) (w : FVec Ideal S512x1024 .bf16) (j : Fin 1024) :
    (k0_pay78 (F := Ideal) y w (ix2 p j) : EReal) = ∑ k : Fin 512, y (ix2 p k) * w (ix2 k j) := by
  unfold k0_pay78; pointwise

variable (ml : FVec Ideal S1x1024 .f32) (e : FVec Ideal S256x1024 .f32) (wo : FVec Ideal S1024x1024 .bf16) (j : Fin 1024)

theorem pay81_apply : (k0_pay81 (F := Ideal) ml e (ix2 p j) : EReal) = ml (ix2 0 j) * e (ix2 p j) := by
  unfold k0_pay81; pointwise

theorem pay82_apply : (k0_pay82 (F := Ideal) ml e wo (ix2 p j) : EReal) = ∑ k : Fin 1024, ml (ix2 0 k) * e (ix2 p k) * wo (ix2 j k) := by
  simp only [← pay81_apply]; unfold k0_pay82; pointwise

theorem pay83_apply (g : FVec Ideal S256x2048 .f32) : (k0_pay83 (F := Ideal) g ml e wo (ix2 p j) : EReal)
    = k0_pay82 (F := Ideal) ml e wo (ix2 p j) * g (ix2 p ⟨0 + j.val, by omega⟩) := by
  unfold k0_pay83; pointwise

theorem pay84_apply (g : FVec Ideal S256x2048 .f32) : (k0_pay84 (F := Ideal) g ml e wo (ix2 p j) : EReal)
    = k0_pay82 (F := Ideal) ml e wo (ix2 p j) * g (ix2 p ⟨1024 + j.val, by omega⟩) := by
  unfold k0_pay84; pointwise

theorem pay85_apply (g : FVec Ideal S256x2048 .f32) (a : FVec Ideal S256x1024 .f32) : (k0_pay85 (F := Ideal) g a ml e wo (ix2 p j) : EReal)
    = k0_pay82 (F := Ideal) ml e wo (ix2 p j) * a (ix2 p j) * g (ix2 p ⟨0 + j.val, by omega⟩) * (1 - g (ix2 p ⟨0 + j.val, by omega⟩)) := by
  unfold k0_pay85; pointwise

theorem pay86_apply (g : FVec Ideal S256x2048 .f32) (a : FVec Ideal S256x1024 .f32) : (k0_pay86 (F := Ideal) g a ml e wo (ix2 p j) : EReal)
    = k0_pay82 (F := Ideal) ml e wo (ix2 p j) * a (ix2 p j) * g (ix2 p ⟨1024 + j.val, by omega⟩) * (1 - g (ix2 p ⟨1024 + j.val, by omega⟩)) := by
  unfold k0_pay86; pointwise

theorem pay89_apply (g : FVec Ideal S256x2048 .f32) (a : FVec Ideal S256x1024 .f32) (l : FVec Ideal S1x1024 .f32) :
    (k0_pay89 (F := Ideal) g a ml e wo l (ix2 0 j) : EReal) = l (ix2 0 j) + ∑ p : Fin 256, k0_pay85 (F := Ideal) g a ml e wo (ix2 p j) := by
  unfold k0_pay89; pointwise

theorem pay90_apply (a : FVec Ideal S256x1024 .f32) (l : FVec Ideal S1x1024 .f32) :
    (k0_pay90 (F := Ideal) a l (ix2 0 j) : EReal) = l (ix2 0 j) + ∑ p : Fin 256, a (ix2 p j) := by
  unfold k0_pay90; pointwise
end

section
variable (a : FVec Ideal S256x1024 .bf16) (w : FVec Ideal S512x1024 .bf16) (j : Fin 512)

theorem pay91_apply (p : Fin 256) : (k0_pay91 (F := Ideal) a w (ix2 p j) : EReal) = ∑ k : Fin 1024, a (ix2 p k) * w (ix2 j k) := by
  unfold k0_pay91; pointwise

theorem pay92_apply (p : Fin 256) : (k0_pay92 (F := Ideal) a w (ix2 p j) : EReal) = ∑ k : Fin 1024, a (ix2 p k) * w (ix2 j k) := by
  unfold k0_pay92; pointwise

theorem pay93_apply (q : Fin 128) : (k0_pay93 (F := Ideal) a w (ix2 q j) : EReal) = k0_pay92 (F := Ideal) a w (ix2 ⟨0 + q.val, by omega⟩ j) := by
  unfold k0_pay93; pointwise

theorem pay95_apply (us : FVec Ideal S256x512 .f32) (q : Fin 128) : (k0_pay95 (F := Ideal) (k0_pay75 us) a w (ix2 q j) : EReal)
    = us (ix2 ⟨128 + q.val, by omega⟩ j) * k0_pay92 (F := Ideal) a w (ix2 ⟨128 + q.val, by omega⟩ j) := by
  unfold k0_pay95 k0_pay75 k0_pay94; pointwise

theorem pay118_apply (us : FVec Ideal S256x512 .f32) (q : Fin 128) : (k0_pay118 (F := Ideal) (k0_pay60 us) (k0_pay93 a w) (ix2 q j) : EReal)
    = us (ix2 ⟨0 + q.val, by omega⟩ j) * k0_pay92 (F := Ideal) a w (ix2 ⟨0 + q.val, by omega⟩ j) := by
  simp only [← pay93_apply]; unfold k0_pay118 k0_pay60; pointwise

/-- The gradient of the gated half, of both chunks. -/
theorem pay119_apply (s0 s1 : FVec Ideal S128x512 .f32) (q : Fin 128) :
    (k0_pay119 (F := Ideal) s0 (k0_pay93 a w) (k0_pay96 s1 a w) (ix2 ⟨0 + q.val, by omega⟩ j) : EReal)
      = k0_pay92 (F := Ideal) a w (ix2 ⟨0 + q.val, by omega⟩ j) * s0 (ix2 q j)
    ∧ (k0_pay119 (F := Ideal) s0 (k0_pay93 a w) (k0_pay96 s1 a w) (ix2 ⟨128 + q.val, by omega⟩ j) : EReal)
      = k0_pay92 (F := Ideal) a w (ix2 ⟨128 + q.val, by omega⟩ j) * s1 (ix2 q j) := by
  constructor
  · unfold k0_pay119 k0_pay96 k0_pay94 k0_pay93
    pointwise
  · unfold k0_pay119 k0_pay96 k0_pay94 k0_pay93
    pointwise
end

/-! ## The gradient through the spatial gate -/

/-- Of a masked product the terms of the channel's group stay. -/
theorem pick_dot (g : Fin 8) (j : Fin 512) (f d : Fin 128 → EReal) :
    (∑ p : Fin 128, f p * Scalar.select (here g j) (d p) 0) = if grp j = g then ∑ p : Fin 128, f p * d p else 0 := by
  simp only [pick]
  split_ifs with h
  · rfl
  · simp

theorem pick_rev (j : Fin 512) (m : Fin 8 → EReal) :
    (if grp j = 7 then m 7 else 0) + (if grp j = 6 then m 6 else 0) + (if grp j = 5 then m 5 else 0) + (if grp j = 4 then m 4 else 0)
      + (if grp j = 3 then m 3 else 0) + (if grp j = 2 then m 2 else 0) + (if grp j = 1 then m 1 else 0) + (if grp j = 0 then m 0 else 0) = m (grp j) := by
  generalize grp j = n
  fin_cases n <;> simp

section
variable (sw : FVec Ideal S8x128x128 .f32) (us : FVec Ideal S256x512 .f32) (a : FVec Ideal S256x1024 .bf16) (w : FVec Ideal S512x1024 .bf16) (q : Fin 128) (j : Fin 512)

/-- What the second chunk gives to the gradient of the normed half. -/
abbrev back1 : FVec Ideal S256x512 .f32 :=
  k0_pay117 (F := Ideal) (k0_pay113 (W1 sw) (W2 sw) (W3 sw) (W4 sw) (k0_pay64 lane) (k0_pay65 lane) (k0_pay66 lane) (k0_pay67 lane) (k0_pay95 (k0_pay75 us) a w)
      (k0_pay101 (W6 sw) (W7 sw) (k0_pay72 lane) (k0_pay73 lane) (k0_pay75 us) a w) (k0_pay102 (k0_pay69 lane) (k0_pay75 us) a w) (k0_pay104 (W5 sw)))
    (k0_pay114 (k0_pay63 lane) (k0_pay95 (k0_pay75 us) a w)) (k0_pay116 (W0 sw))

/-- What the first chunk gives. -/
abbrev back0 : FVec Ideal S256x512 .f32 :=
  k0_pay141 (F := Ideal) (W0 sw) (W1 sw) (W2 sw) (W3 sw) (k0_pay48 (iota .tc S128x512 32 [1] iota_S128x512_d1_w32) (64#32) k0_pay45)
    (k0_pay49 (iota .tc S128x512 32 [1] iota_S128x512_d1_w32) (64#32) k0_pay45) (k0_pay51 (iota .tc S128x512 32 [1] iota_S128x512_d1_w32) (64#32) k0_pay45) (k0_pay54 lane)
    (k0_pay118 (k0_pay60 us) (k0_pay93 a w)) (k0_pay126 (W5 sw) (W6 sw) (W7 sw) (k0_pay56 lane) (k0_pay57 lane) (k0_pay58 lane) (k0_pay60 us) (k0_pay93 a w))
    (k0_pay129 (W4 sw)) (k0_pay130 (k0_pay55 lane) (k0_pay60 us) (k0_pay93 a w))

/-- The same, of any masks and weights. -/
theorem back1_raw (w0 w1 w2 w3 w4 w5 w6 w7 : FVec Ideal S128x128 .f32) (m0 m1 m2 m3 m4 m5 m6 m7 : IVec S128x512 1) (b : FVec Ideal S128x512 .f32) :
    (k0_pay117 (F := Ideal) (k0_pay113 w1 w2 w3 w4 m1 m2 m3 m4 (k0_pay95 b a w) (k0_pay101 w6 w7 m6 m7 b a w) (k0_pay102 m5 b a w) (k0_pay104 w5)) (k0_pay114 m0 (k0_pay95 b a w)) (k0_pay116 w0)
        (ix2 ⟨128 + q.val, by omega⟩ j) : EReal)
      = (∑ p : Fin 128, w7 (ix2 p q) * Scalar.select (m7 (ix2 p j)) (k0_pay95 (F := Ideal) b a w (ix2 p j)) 0)
        + (∑ p : Fin 128, w6 (ix2 p q) * Scalar.select (m6 (ix2 p j)) (k0_pay95 (F := Ideal) b a w (ix2 p j)) 0)
        + (∑ p : Fin 128, w5 (ix2 p q) * Scalar.select (m5 (ix2 p j)) (k0_pay95 (F := Ideal) b a w (ix2 p j)) 0)
        + (∑ p : Fin 128, w4 (ix2 p q) * Scalar.select (m4 (ix2 p j)) (k0_pay95 (F := Ideal) b a w (ix2 p j)) 0)
        + (∑ p : Fin 128, w3 (ix2 p q) * Scalar.select (m3 (ix2 p j)) (k0_pay95 (F := Ideal) b a w (ix2 p j)) 0)
        + (∑ p : Fin 128, w2 (ix2 p q) * Scalar.select (m2 (ix2 p j)) (k0_pay95 (F := Ideal) b a w (ix2 p j)) 0)
        + (∑ p : Fin 128, w1 (ix2 p q) * Scalar.select (m1 (ix2 p j)) (k0_pay95 (F := Ideal) b a w (ix2 p j)) 0)
        + (∑ p : Fin 128, w0 (ix2 p q) * Scalar.select (m0 (ix2 p j)) (k0_pay95 (F := Ideal) b a w (ix2 p j)) 0)
    ∧ (k0_pay117 (F := Ideal) (k0_pay113 w1 w2 w3 w4 m1 m2 m3 m4 (k0_pay95 b a w) (k0_pay101 w6 w7 m6 m7 b a w) (k0_pay102 m5 b a w) (k0_pay104 w5)) (k0_pay114 m0 (k0_pay95 b a w)) (k0_pay116 w0)
        (ix2 ⟨0 + q.val, by omega⟩ j) : EReal) = 0 := by
  constructor
  · unfold k0_pay117 k0_pay113 k0_pay101 k0_pay102 k0_pay104 k0_pay114 k0_pay116 k0_pay97 k0_pay99 k0_pay105 k0_pay107 k0_pay109 k0_pay111
    pointwise
  · unfold k0_pay117
    pointwise

theorem back0_raw (w0 w1 w2 w3 w4 w5 w6 w7 : FVec Ideal S128x128 .f32) (m0 m1 m2 m3 m4 m5 m6 m7 : IVec S128x512 1) (b e : FVec Ideal S128x512 .f32) :
    (k0_pay141 (F := Ideal) w0 w1 w2 w3 m0 m1 m2 m3 (k0_pay118 b e) (k0_pay126 w5 w6 w7 m5 m6 m7 b e) (k0_pay129 w4) (k0_pay130 m4 b e) (ix2 ⟨0 + q.val, by omega⟩ j) : EReal)
      = (∑ p : Fin 128, w7 (ix2 p q) * Scalar.select (m7 (ix2 p j)) (k0_pay118 (F := Ideal) b e (ix2 p j)) 0)
        + (∑ p : Fin 128, w6 (ix2 p q) * Scalar.select (m6 (ix2 p j)) (k0_pay118 (F := Ideal) b e (ix2 p j)) 0)
        + (∑ p : Fin 128, w5 (ix2 p q) * Scalar.select (m5 (ix2 p j)) (k0_pay118 (F := Ideal) b e (ix2 p j)) 0)
        + (∑ p : Fin 128, w4 (ix2 p q) * Scalar.select (m4 (ix2 p j)) (k0_pay118 (F := Ideal) b e (ix2 p j)) 0)
        + (∑ p : Fin 128, w3 (ix2 p q) * Scalar.select (m3 (ix2 p j)) (k0_pay118 (F := Ideal) b e (ix2 p j)) 0)
        + (∑ p : Fin 128, w2 (ix2 p q) * Scalar.select (m2 (ix2 p j)) (k0_pay118 (F := Ideal) b e (ix2 p j)) 0)
        + (∑ p : Fin 128, w1 (ix2 p q) * Scalar.select (m1 (ix2 p j)) (k0_pay118 (F := Ideal) b e (ix2 p j)) 0)
        + (∑ p : Fin 128, w0 (ix2 p q) * Scalar.select (m0 (ix2 p j)) (k0_pay118 (F := Ideal) b e (ix2 p j)) 0)
    ∧ (k0_pay141 (F := Ideal) w0 w1 w2 w3 m0 m1 m2 m3 (k0_pay118 b e) (k0_pay126 w5 w6 w7 m5 m6 m7 b e) (k0_pay129 w4) (k0_pay130 m4 b e) (ix2 ⟨128 + q.val, by omega⟩ j) : EReal) = 0 := by
  constructor
  · unfold k0_pay141 k0_pay126 k0_pay129 k0_pay130 k0_pay120 k0_pay122 k0_pay124 k0_pay127 k0_pay132 k0_pay134 k0_pay136 k0_pay139
    pointwise
  · unfold k0_pay141
    pointwise

theorem back1_apply : (back1 sw us a w (ix2 ⟨128 + q.val, by omega⟩ j) : EReal)
    = ∑ p : Fin 128, sw (ix3 (grp j) p q) * k0_pay95 (F := Ideal) (k0_pay75 us) a w (ix2 p j) := by
  refine (back1_raw a w q j _ _ _ _ _ _ _ _ _ _ _ _ _ _ _ _ _).1.trans ((?_ : _ = _).trans (pick_rev j fun g => ∑ p : Fin 128, sw (ix3 g p q) * k0_pay95 (F := Ideal) (k0_pay75 us) a w (ix2 p j)))
  simp only [fun p : Fin 128 => (masks p j).2.2.1.1, fun p : Fin 128 => (masks p j).2.2.1.2.1, fun p : Fin 128 => (masks p j).2.2.1.2.2.1, fun p : Fin 128 => (masks p j).2.2.1.2.2.2,
    fun p : Fin 128 => (masks p j).2.2.2.1, fun p : Fin 128 => (masks p j).2.2.2.2.1, fun p : Fin 128 => (masks p j).2.2.2.2.2.1, fun p : Fin 128 => (masks p j).2.2.2.2.2.2,
    (wts sw _ _).1.1, (wts sw _ _).1.2.1, (wts sw _ _).1.2.2.1, (wts sw _ _).1.2.2.2, (wts sw _ _).2.1, (wts sw _ _).2.2.1, (wts sw _ _).2.2.2.1, (wts sw _ _).2.2.2.2, pick_dot]

theorem back0_apply : (back0 sw us a w (ix2 ⟨0 + q.val, by omega⟩ j) : EReal)
    = ∑ p : Fin 128, sw (ix3 (grp j) p q) * k0_pay118 (F := Ideal) (k0_pay60 us) (k0_pay93 a w) (ix2 p j) := by
  refine (back0_raw q j _ _ _ _ _ _ _ _ _ _ _ _ _ _ _ _ _ _).1.trans ((?_ : _ = _).trans (pick_rev j fun g => ∑ p : Fin 128, sw (ix3 g p q) * k0_pay118 (F := Ideal) (k0_pay60 us) (k0_pay93 a w) (ix2 p j)))
  simp only [fun p : Fin 128 => (masks p j).1.1, fun p : Fin 128 => (masks p j).1.2.1, fun p : Fin 128 => (masks p j).1.2.2.1, fun p : Fin 128 => (masks p j).1.2.2.2,
    fun p : Fin 128 => (masks p j).2.1.1, fun p : Fin 128 => (masks p j).2.1.2.1, fun p : Fin 128 => (masks p j).2.1.2.2.1, fun p : Fin 128 => (masks p j).2.1.2.2.2,
    (wts sw _ _).1.1, (wts sw _ _).1.2.1, (wts sw _ _).1.2.2.1, (wts sw _ _).1.2.2.2, (wts sw _ _).2.1, (wts sw _ _).2.2.1, (wts sw _ _).2.2.2.1, (wts sw _ _).2.2.2.2, pick_dot]

/-- The gradient of the normed half, of both chunks. -/
theorem pay142_apply :
    (k0_pay142 (F := Ideal) (back1 sw us a w) (back0 sw us a w) (ix2 ⟨0 + q.val, by omega⟩ j) : EReal)
      = ∑ p : Fin 128, sw (ix3 (grp j) p q) * k0_pay118 (F := Ideal) (k0_pay60 us) (k0_pay93 a w) (ix2 p j)
    ∧ (k0_pay142 (F := Ideal) (back1 sw us a w) (back0 sw us a w) (ix2 ⟨128 + q.val, by omega⟩ j) : EReal)
      = ∑ p : Fin 128, sw (ix3 (grp j) p q) * k0_pay95 (F := Ideal) (k0_pay75 us) a w (ix2 p j) := by
  have h (x y : FVec Ideal S256x512 .f32) (i : S256x512.Idx) : (k0_pay142 (F := Ideal) x y i : EReal) = x i + y i := by
    unfold k0_pay142; pointwise
  constructor
  · have z : (back1 sw us a w (ix2 ⟨0 + q.val, by omega⟩ j) : EReal) = 0 := (back1_raw a w q j _ _ _ _ _ _ _ _ _ _ _ _ _ _ _ _ _).2
    rw [h, z, zero_add, back0_apply]
  · have z : (back0 sw us a w (ix2 ⟨128 + q.val, by omega⟩ j) : EReal) = 0 := (back0_raw q j _ _ _ _ _ _ _ _ _ _ _ _ _ _ _ _ _ _).2
    rw [h, z, add_zero, back1_apply]

end

section
variable (z : FVec Ideal S256x1024 .f32) (g : FVec Ideal S1x512 .f32) (x y f : FVec Ideal S256x512 .f32) (p : Fin 256)

theorem pay143_apply (j : Fin 512) : (k0_pay143 (F := Ideal) x y (ix2 0 j) : EReal) = ∑ p : Fin 256, k0_pay142 (F := Ideal) x y (ix2 p j) := by
  unfold k0_pay143; pointwise

theorem pay144_apply (j : Fin 512) : (k0_pay144 (F := Ideal) (k0_pay43 z (k0_pay31 z)) x y (ix2 0 j) : EReal)
    = ∑ p : Fin 256, nrm (vz z p) j * k0_pay142 (F := Ideal) x y (ix2 p j) := by
  simp only [← pay43_apply]; unfold k0_pay144; pointwise

/-- The gradient of the gelu's value, both halves. -/
theorem pay145_apply (j : Fin 1024) :
    (k0_pay145 (F := Ideal) g (k0_pay39 z (k0_pay31 z)) (k0_pay41 z (k0_pay31 z)) (k0_pay42 z (k0_pay31 z)) x f y (ix2 p j) : EReal)
      = if h : j.val < 512 then f (ix2 p ⟨j.val, h⟩)
        else dln (vz z p) (fun k => k0_pay142 (F := Ideal) x y (ix2 p k) * g (ix2 0 k)) ⟨j.val - 512, by omega⟩ := by
  unfold dln dcen qv
  simp only [← pay39_apply, ← pay41_apply, ← pay42_apply, ← pay40_apply]
  unfold k0_pay145
  pointwise
  simp only [Fin.sum_univ_one]
  split_ifs with h h'
  · exact zero_add _
  · refine (add_zero _).trans ?_
    simp only [pay42_apply, ← pay40_apply, ← pay41_apply, zero_sub]
  · exact absurd rfl h'

end

section
variable (z : FVec Ideal S256x1024 .f32) (g : FVec Ideal S1x512 .f32) (x y f c : FVec Ideal S256x512 .f32) (i v : FVec Ideal S256x1 .f32) (p : Fin 256) (j : Fin 1024)

theorem pay154_apply :
    (k0_pay154 (F := Ideal) (k0_pay33 (k0_pay32 z)) (k0_pay146 z g (k0_pay35 z (k0_pay31 z)) c i v x f y) (k0_pay147 z g (k0_pay35 z (k0_pay31 z)) (k0_pay36 z (k0_pay31 z)) c i v x f y) (Scalar.ofBits .f32 0x3D372713#32) (ix2 p j) : EReal)
      = dge (z (ix2 p j)) (k0_pay145 (F := Ideal) g c i v x f y (ix2 p j)) := by
  unfold dge dg
  simp only [← pay35_apply, ← pay36_apply]
  unfold k0_pay154 k0_pay147 k0_pay146 k0_pay33 k0_pay32
  pointwise
end

/-! ## The gradient through the gated linear unit -/

section
variable (u y e : FVec Ideal S256x512 .f32) (d b : FVec Ideal S1x512 .f32) (W : FVec Ideal S512x512 .bf16) (v : FVec Ideal S512x512 .bf16) (p : Fin 256) (j : Fin 512)

theorem pay148_apply : (k0_pay148 (F := Ideal) (k0_pay27 u y d) (k0_pay29 u y d v b) e (ix2 p j) : EReal)
    = ge (k0_pay22 (F := Ideal) u y d (ix2 p j)) * e (ix2 p j)
      * (k0_pay28 (F := Ideal) u y d v b (ix2 p j) * (1 - k0_pay28 (F := Ideal) u y d v b (ix2 p j))) := by
  simp only [← pay27_apply, ← pay29_apply]; unfold k0_pay148; pointwise

theorem pay149_apply (x s : FVec Ideal S256x512 .f32) : (k0_pay149 (F := Ideal) x s e (ix2 0 j) : EReal) = ∑ p : Fin 256, k0_pay148 (F := Ideal) x s e (ix2 p j) := by
  unfold k0_pay149; pointwise

theorem pay150_apply (s : FVec Ideal S256x512 .f32) (k : Fin 512) : (k0_pay150 (F := Ideal) (k0_pay27 u y d) s e (ix2 k j) : EReal)
    = ∑ p : Fin 256, ge (k0_pay22 (F := Ideal) u y d (ix2 p k)) * k0_pay148 (F := Ideal) (k0_pay27 u y d) s e (ix2 p j) := by
  simp only [← pay27_apply]; unfold k0_pay150; pointwise

theorem pay151_apply :
    (k0_pay151 (F := Ideal) (k0_pay20 (k0_pay19 W)) (k0_pay22 u y d) (k0_pay23 u y d) (k0_pay25 u y d) (k0_pay26 u y d) (k0_pay27 u y d) (k0_pay28 u y d v b) (k0_pay29 u y d v b) e (ix2 p j) : EReal)
      = dge (k0_pay22 (F := Ideal) u y d (ix2 p j)) (e (ix2 p j) * k0_pay28 (F := Ideal) u y d v b (ix2 p j)
          + ∑ k : Fin 512, k0_pay148 (F := Ideal) (k0_pay27 u y d) (k0_pay29 u y d v b) e (ix2 p k) * W (ix2 j k)) := by
  unfold dge dg
  simp only [← pay23_apply, ← pay25_apply, ← pay26_apply]
  unfold k0_pay151 k0_pay20 k0_pay19
  pointwise

end

/-! ## The sums carried on -/

section
variable (j : Fin 512)

theorem add_dwg (a l : FVec Ideal S512x512 .f32) (i : S512x512.Idx) : (k0_pay158 (F := Ideal) a l i : EReal) = l i + a i := by
  unfold k0_pay158; pointwise

theorem add_dbf (a l : FVec Ideal S128x512 .f32) (i : S128x512.Idx) : (k0_pay168 (F := Ideal) a l i : EReal) = l i + a i := by
  unfold k0_pay168; pointwise

theorem pay138_apply (x y : FVec Ideal S128x512 .f32) (i : S128x512.Idx) : (k0_pay138 (F := Ideal) x y i : EReal) = x i + y i := by
  unfold k0_pay138; pointwise

theorem add_rows (a l : FVec Ideal S1x512 .f32) : (k0_pay169 (F := Ideal) a l (ix2 0 j) : EReal) = l (ix2 0 j) + a (ix2 0 j)
    ∧ (k0_pay170 (F := Ideal) a l (ix2 0 j) : EReal) = l (ix2 0 j) + a (ix2 0 j)
    ∧ (k0_pay8 (F := Ideal) a (k0_pay171 l) (ix2 0 j) : EReal) = l (ix2 0 j) + a (ix2 0 j)
    ∧ (k0_pay9 (F := Ideal) a l (ix2 0 j) : EReal) = l (ix2 0 j) + a (ix2 0 j) := by
  refine ⟨?_, ?_, ?_, ?_⟩
  · unfold k0_pay169; pointwise
  · unfold k0_pay170; pointwise
  · unfold k0_pay8 k0_pay171; pointwise
  · unfold k0_pay9; pointwise

end

/-! ## The sum carried on for the spatial weights -/

section
variable (us v : FVec Ideal S256x512 .f32) (a : FVec Ideal S256x1024 .bf16) (w : FVec Ideal S512x1024 .bf16) (l : FVec Ideal S1x128x128 .f32) (m n : IVec S128x512 1) (x y : Fin 128)

/-- What a tile gives to the gradient of one group's weights, the group's channels being those of the masks. -/
def sums : EReal :=
  (∑ k : Fin 512, Scalar.select (n (ix2 x k)) (k0_pay95 (F := Ideal) (k0_pay75 us) a w (ix2 x k)) 0 * v (ix2 ⟨128 + y.val, by omega⟩ k))
    + ∑ k : Fin 512, Scalar.select (m (ix2 x k)) (k0_pay118 (F := Ideal) (k0_pay60 us) (k0_pay93 a w) (ix2 x k)) 0 * v (ix2 ⟨0 + y.val, by omega⟩ k)

theorem sums_0 : (k0_pay159 (F := Ideal) (k0_pay140 (k0_pay47 v) m (k0_pay115 (k0_pay62 v) n (k0_pay95 (k0_pay75 us) a w)) (k0_pay118 (k0_pay60 us) (k0_pay93 a w))) l (ix3 0 x y) : EReal) = l (ix3 0 x y) + sums us v a w m n x y := by
  unfold sums k0_pay159 k0_pay140 k0_pay115 k0_pay114 k0_pay139 k0_pay62 k0_pay47
  pointwise

theorem sums_1 : (k0_pay160 (F := Ideal) (k0_pay137 (k0_pay47 v) m (k0_pay112 (k0_pay62 v) n (k0_pay95 (k0_pay75 us) a w)) (k0_pay118 (k0_pay60 us) (k0_pay93 a w))) l (ix3 0 x y) : EReal) = l (ix3 0 x y) + sums us v a w m n x y := by
  unfold sums k0_pay160 k0_pay137 k0_pay112 k0_pay111 k0_pay136 k0_pay62 k0_pay47
  pointwise

theorem sums_2 : (k0_pay162 (F := Ideal) (k0_pay135 (k0_pay47 v) m (k0_pay110 (k0_pay62 v) n (k0_pay95 (k0_pay75 us) a w)) (k0_pay118 (k0_pay60 us) (k0_pay93 a w))) (k0_pay161 l) (ix3 0 x y) : EReal) = l (ix3 0 x y) + sums us v a w m n x y := by
  unfold sums k0_pay162 k0_pay135 k0_pay161 k0_pay110 k0_pay109 k0_pay134 k0_pay62 k0_pay47
  pointwise

theorem sums_3 : (k0_pay163 (F := Ideal) (k0_pay133 (k0_pay47 v) m (k0_pay108 (k0_pay62 v) n (k0_pay95 (k0_pay75 us) a w)) (k0_pay118 (k0_pay60 us) (k0_pay93 a w))) l (ix3 0 x y) : EReal) = l (ix3 0 x y) + sums us v a w m n x y := by
  unfold sums k0_pay163 k0_pay133 k0_pay108 k0_pay107 k0_pay132 k0_pay62 k0_pay47
  pointwise

theorem sums_4 : (k0_pay164 (F := Ideal) (k0_pay131 (k0_pay106 (k0_pay62 v) n (k0_pay95 (k0_pay75 us) a w)) (k0_pay128 (k0_pay47 v) m (k0_pay60 us) (k0_pay93 a w))) l (ix3 0 x y) : EReal) = l (ix3 0 x y) + sums us v a w m n x y := by
  unfold sums k0_pay164 k0_pay131 k0_pay106 k0_pay105 k0_pay128 k0_pay127 k0_pay62 k0_pay47
  pointwise

theorem sums_5 : (k0_pay165 (F := Ideal) (k0_pay125 (k0_pay47 v) m (k0_pay60 us) (k0_pay93 a w) (k0_pay103 (k0_pay62 v) n (k0_pay75 us) a w)) l (ix3 0 x y) : EReal) = l (ix3 0 x y) + sums us v a w m n x y := by
  unfold sums k0_pay165 k0_pay125 k0_pay103 k0_pay102 k0_pay124 k0_pay62 k0_pay47
  pointwise

theorem sums_6 : (k0_pay166 (F := Ideal) (k0_pay123 (k0_pay47 v) m (k0_pay60 us) (k0_pay93 a w) (k0_pay100 (k0_pay62 v) n (k0_pay75 us) a w)) l (ix3 0 x y) : EReal) = l (ix3 0 x y) + sums us v a w m n x y := by
  unfold sums k0_pay166 k0_pay123 k0_pay100 k0_pay99 k0_pay122 k0_pay62 k0_pay47
  pointwise

theorem sums_7 : (k0_pay167 (F := Ideal) (k0_pay121 (k0_pay47 v) m (k0_pay60 us) (k0_pay93 a w) (k0_pay98 (k0_pay62 v) n (k0_pay75 us) a w)) l (ix3 0 x y) : EReal) = l (ix3 0 x y) + sums us v a w m n x y := by
  unfold sums k0_pay167 k0_pay121 k0_pay98 k0_pay97 k0_pay120 k0_pay62 k0_pay47
  pointwise

/-- The masks select the group's channels. -/
theorem sums_eq (g : Fin 8) (hm : ∀ k, m (ix2 x k) = here g k) (hn : ∀ k, n (ix2 x k) = here g k) : sums us v a w m n x y =
    (∑ k : Fin 512, if grp k = g then k0_pay95 (F := Ideal) (k0_pay75 us) a w (ix2 x k) * v (ix2 ⟨128 + y.val, by omega⟩ k) else 0)
      + ∑ k : Fin 512, if grp k = g then k0_pay118 (F := Ideal) (k0_pay60 us) (k0_pay93 a w) (ix2 x k) * v (ix2 ⟨0 + y.val, by omega⟩ k) else 0 := by
  unfold sums
  simp only [hm, hn, pick, ite_mul, zero_mul]
end

/-! ## The last stages -/

section
variable (p : Fin 256)

theorem pay79_apply (w6 w7 : FVec Ideal S128x128 .f32) (us : FVec Ideal S256x512 .f32) (l : IVec S128x512 32) (a b c : FVec Ideal S128x512 .f32) (m : IVec S128x512 1)
    (d : FVec Ideal S128x128 .bf16) (e : FVec Ideal S128x512 .bf16) (w : FVec Ideal S512x1024 .bf16) (j : Fin 1024) :
    (k0_pay79 (F := Ideal) w6 w7 us l a b c m d e w (ix2 p j) : EReal) = ∑ k : Fin 512, k0_pay76 (F := Ideal) w6 w7 us l a b c m d e (ix2 p k) * w (ix2 k j) := by
  unfold k0_pay79; pointwise

theorem pay80_apply (w6 w7 : FVec Ideal S128x128 .f32) (ya us : FVec Ideal S256x512 .f32) (l : IVec S128x512 32) (a b c : FVec Ideal S128x512 .f32) (m : IVec S128x512 1)
    (d : FVec Ideal S128x128 .bf16) (e : FVec Ideal S128x512 .bf16) (gl : FVec Ideal S256x2048 .f32) (bg : FVec Ideal S1x2048 .f32) (v w : FVec Ideal S512x1024 .bf16) (j : Fin 1024) :
    (k0_pay80 (F := Ideal) w6 w7 ya us l a b c m d e gl bg v w (ix2 p j) : EReal)
      = k0_pay77 (F := Ideal) gl bg (ix2 p ⟨0 + j.val, by omega⟩) * k0_pay78 (F := Ideal) ya v (ix2 p j)
        + k0_pay77 (F := Ideal) gl bg (ix2 p ⟨1024 + j.val, by omega⟩) * k0_pay79 (F := Ideal) w6 w7 us l a b c m d e w (ix2 p j) := by
  unfold k0_pay80; pointwise

theorem pay152_apply (u a b c d e f g h : FVec Ideal S256x512 .f32) (w : FVec Ideal S512x512 .f32) (j : Fin 512) :
    (k0_pay152 (F := Ideal) u w a b c d e f g h (ix2 0 j) : EReal) = ∑ p : Fin 256, u (ix2 p j) * k0_pay151 (F := Ideal) w a b c d e f g h (ix2 p j) := by
  unfold k0_pay152; pointwise

theorem pay153_apply (a b c d e f g h : FVec Ideal S256x512 .f32) (w : FVec Ideal S512x512 .f32) (s : FVec Ideal S1x512 .f32) (j : Fin 512) :
    (k0_pay153 (F := Ideal) s w a b c d e f g h (ix2 p j) : EReal) = k0_pay151 (F := Ideal) w a b c d e f g h (ix2 p j) * s (ix2 0 j) := by
  unfold k0_pay153; pointwise
end

end Cert.Proof.MixPay

end
-- ==== Proof.MixTile.lean ====
/- What the branch backward kernel leaves at a tile of 256 tokens, of what the tile's tokens and the weights hold. -/
module

public import proofs.«01_k».proof.Proof.MixFrame
public import proofs.«01_k».proof.Proof.MixPayB

@[expose] public section

set_option maxRecDepth 16384

noncomputable section

namespace Cert.Proof.MixTile

open Cert.KernelMixIdeal Cert.KernelMixIdeal.Gen Idealize.ShloMosaic Idealize.ShloMosaic.TcCoe Cert.Proof.Branch Cert.Proof.MixPay Cert.Proof.MixRun

variable (X : Ins Ideal)

/-- The weights, of the blocks. -/
def wts : Wts where
  g j := X.ml (ix2 0 ⟨2048 + j.val, by omega⟩)
  d j := X.d (ix2 0 j)
  wg k j := X.wg (ix2 k j)
  bg j := X.bg (ix2 0 j)
  lg j := X.lg (ix2 0 j)
  lb j := X.lb (ix2 0 j)
  sw g a b := X.sw (ix3 g a b)
  bf q j := X.bf (ix2 q j)
  wpa k j := X.wpa (ix2 k j)
  wpb k j := X.wpb (ix2 k j)
  bgate j := X.bgate (ix2 0 j)
  wo k j := X.wo (ix2 k j)

/-- A token of the tile. -/
def tk (p : Fin 256) : Row where
  u k := X.u (ix2 p k)
  y0 k := X.y0 (ix2 p k)
  y1 k := X.y1 (ix2 p k)
  z k := X.z (ix2 p k)
  gl k := X.gl (ix2 p k)
  e k := X.dx1 (ix2 p k)

/-- The two chunks. -/
def ch0 (q : Fin 128) : Row := tk X ⟨0 + q.val, by omega⟩
def ch1 (q : Fin 128) : Row := tk X ⟨128 + q.val, by omega⟩

/-- The chunk of a token, and the token's place in it. -/
def ch (p : Fin 256) : Fin 128 → Row := if p.val < 128 then ch0 X else ch1 X
def pl (p : Fin 256) : Fin 128 := ⟨p.val % 128, by omega⟩

theorem ch_lo (q : Fin 128) : ch X ⟨0 + q.val, by omega⟩ = ch0 X ∧ pl ⟨0 + q.val, by omega⟩ = q :=
  ⟨if_pos (by show 0 + q.val < 128; omega), Fin.ext (by show (0 + q.val) % 128 = q.val; omega)⟩

theorem ch_hi (q : Fin 128) : ch X ⟨128 + q.val, by omega⟩ = ch1 X ∧ pl ⟨128 + q.val, by omega⟩ = q :=
  ⟨if_neg (by show ¬128 + q.val < 128; omega), Fin.ext (by show (128 + q.val) % 128 = q.val; omega)⟩

/-- What holds of the tokens of both chunks holds of all. -/
theorem halves {P : Fin 256 → Prop} (h0 : ∀ q : Fin 128, P ⟨0 + q.val, by omega⟩) (h1 : ∀ q : Fin 128, P ⟨128 + q.val, by omega⟩) (p : Fin 256) : P p := by
  by_cases h : p.val < 128
  · have := h0 ⟨p.val, h⟩
    simpa using this
  · have := h1 ⟨p.val - 128, by omega⟩
    have e : (⟨128 + (p.val - 128), by omega⟩ : Fin 256) = p := Fin.ext (by show 128 + (p.val - 128) = p.val; omega)
    simpa [e] using this

theorem ch_pl (p : Fin 256) : ch X p (pl p) = tk X p := by
  revert p
  refine halves (fun q => ?_) fun q => ?_
  · rw [(ch_lo X q).1, (ch_lo X q).2]; rfl
  · rw [(ch_hi X q).1, (ch_hi X q).2]; rfl

abbrev Y : FVec Ideal S256x512 .f32 := k0_pay22 (F := Ideal) X.u (k0_pay18 X.y0 X.y1) X.d
abbrev US : FVec Ideal S256x512 .f32 := k0_pay38 (F := Ideal) X.z (k0_pay31 X.z)
abbrev LN : FVec Ideal S256x512 .f32 := k0_pay44 (F := Ideal) X.z X.lg X.lb (k0_pay31 X.z)
abbrev ML : FVec Ideal S1x1024 .f32 := View.ld (Val := Elt Ideal) (e' := .f32) X.ml (Rect.unit ![0, 2048] ![1, 1024] inb_S1x6144_S1x1024_0_2048)
abbrev GS : FVec Ideal S256x2048 .f32 := k0_pay77 (F := Ideal) X.gl X.bgate
abbrev DPA : FVec Ideal S256x1024 .bf16 := k0_pay83 (F := Ideal) (GS X) (ML X) X.dx1 X.wo
abbrev DPB : FVec Ideal S256x1024 .bf16 := k0_pay84 (F := Ideal) (GS X) (ML X) X.dx1 X.wo
abbrev YA : FVec Ideal S256x512 .f32 := k0_pay30 (F := Ideal) X.u (k0_pay18 X.y0 X.y1) X.d (k0_pay19 X.wg) X.bg
abbrev SG : FVec Ideal S256x512 .f32 := k0_pay28 (F := Ideal) X.u (k0_pay18 X.y0 X.y1) X.d (k0_pay19 X.wg) X.bg
abbrev YB : FVec Ideal S256x512 .f32 := two X.sw X.bf (LN X) (US X)
abbrev EA : FVec Ideal S256x512 .f32 := k0_pay91 (F := Ideal) (DPA X) X.wpa
abbrev GT : FVec Ideal S256x512 .f32 := k0_pay148 (F := Ideal) (k0_pay27 X.u (k0_pay18 X.y0 X.y1) X.d) (k0_pay29 X.u (k0_pay18 X.y0 X.y1) X.d (k0_pay19 X.wg) X.bg) (EA X)
abbrev DV : FVec Ideal S256x512 .f32 := k0_pay142 (F := Ideal) (back1 X.sw (US X) (DPB X) X.wpb) (back0 X.sw (US X) (DPB X) X.wpb)

section
variable (p : Fin 256)

theorem ml_apply (j : Fin 1024) : (ML X (ix2 0 j) : EReal) = (wts X).g j := Rows.ld_at (R := 1) (C := 6144) _ _ 0 j (by decide) (by omega)

theorem y_apply (j : Fin 512) : (Y X (ix2 p j) : EReal) = y (wts X) (tk X p) j :=
  (pay22_apply _ _ _ p j).trans (congrArg _ (pay18_apply _ _ _))

theorem sg_apply (j : Fin 512) : (SG X (ix2 p j) : EReal) = sgl (wts X) (tk X p) j := by
  refine (pay28_apply _ _ _ _ _ p j).trans ?_
  simp only [y_apply]
  rfl

theorem ya_apply (j : Fin 512) : (YA X (ix2 p j) : EReal) = ya (wts X) (tk X p) j := by
  exact (pay30_apply _ _ _ _ p j _).trans (congrArg₂ (· * ·) (congrArg ge (y_apply X p j)) (sg_apply X p j))

theorem us_apply (j : Fin 512) : (US X (ix2 p j) : EReal) = us (tk X p) j := pay38_apply _ p j

theorem ln_apply (j : Fin 512) : (LN X (ix2 p j) : EReal) = lnv (wts X) (tk X p) j := pay44_apply _ p _ _ j

theorem gate0_eq (q : Fin 128) (j : Fin 512) : (gate0 X.sw X.bf (LN X) (ix2 q j) : EReal) = sp (wts X) (ch0 X) q j := by
  refine (gate0_apply _ _ _ q j).trans ?_
  simp only [ln_apply]
  rfl

theorem gate1_eq (q : Fin 128) (j : Fin 512) : (gate1 X.sw X.bf (LN X) (ix2 q j) : EReal) = sp (wts X) (ch1 X) q j := by
  refine (gate1_apply _ _ _ q j).trans ?_
  simp only [ln_apply]
  rfl

theorem yb_apply (j : Fin 512) : (YB X (ix2 p j) : EReal) = yb (wts X) (ch X p) (pl p) j := by
  revert p
  refine halves (fun q => ?_) fun q => ?_
  · refine (two_apply _ _ _ _ q j).1.trans ?_
    rw [us_apply, gate0_eq, (ch_lo X q).1, (ch_lo X q).2]
    rfl
  · refine (two_apply _ _ _ _ q j).2.trans ?_
    rw [us_apply, gate1_eq, (ch_hi X q).1, (ch_hi X q).2]
    rfl

theorem gs_apply (j : Fin 1024) : (GS X (ix2 p ⟨0 + j.val, by omega⟩) : EReal) = ga (wts X) (tk X p) j ∧ (GS X (ix2 p ⟨1024 + j.val, by omega⟩) : EReal) = gb (wts X) (tk X p) j :=
  ⟨pay77_apply _ _ p _, pay77_apply _ _ p _⟩

theorem pa_apply (j : Fin 1024) : (k0_pay78 (F := Ideal) (YA X) X.wpa (ix2 p j) : EReal) = pa (wts X) (tk X p) j := by
  refine (pay78_apply _ _ _ j).trans ?_
  simp only [ya_apply]
  rfl

theorem dm_apply (j : Fin 1024) : (k0_pay82 (F := Ideal) (ML X) X.dx1 X.wo (ix2 p j) : EReal) = dm (wts X) (tk X p) j := by
  refine (pay82_apply _ _ _ _ j).trans ?_
  simp only [ml_apply]
  rfl

theorem dpa_apply (j : Fin 1024) : (DPA X (ix2 p j) : EReal) = dpa (wts X) (tk X p) j := by
  refine (pay83_apply _ _ _ _ j _).trans ?_
  rw [dm_apply, (gs_apply X p j).1]
  rfl

theorem dpb_apply (j : Fin 1024) : (DPB X (ix2 p j) : EReal) = dpb (wts X) (tk X p) j := by
  refine (pay84_apply _ _ _ _ j _).trans ?_
  rw [dm_apply, (gs_apply X p j).2]
  rfl

theorem dsa_apply (j : Fin 1024) : (k0_pay85 (F := Ideal) (GS X) (k0_pay78 (YA X) X.wpa) (ML X) X.dx1 X.wo (ix2 p j) : EReal) = dsa (wts X) (tk X p) j := by
  refine (pay85_apply _ _ _ _ j _ _).trans ?_
  rw [dm_apply, (gs_apply X p j).1, pa_apply]
  rfl

theorem ea_apply (j : Fin 512) : (EA X (ix2 p j) : EReal) = ea (wts X) (tk X p) j := by
  refine (pay91_apply _ _ j p).trans ?_
  simp only [dpa_apply]
  rfl

theorem eb_apply (j : Fin 512) : (k0_pay92 (F := Ideal) (DPB X) X.wpb (ix2 p j) : EReal) = eb (wts X) (tk X p) j := by
  refine (pay92_apply _ _ j p).trans ?_
  simp only [dpb_apply]
  rfl

theorem gt_apply (j : Fin 512) : (GT X (ix2 p j) : EReal) = dgt (wts X) (tk X p) j := by
  exact (pay148_apply _ _ _ _ _ _ p j).trans (congrArg₂ (· * ·) (congrArg₂ (· * ·) (congrArg ge (y_apply X p j)) (ea_apply X p j)) (congrArg (fun s => s * (1 - s)) (sg_apply X p j)))

theorem ds0 (q : Fin 128) (j : Fin 512) : (k0_pay118 (F := Ideal) (k0_pay60 (US X)) (k0_pay93 (DPB X) X.wpb) (ix2 q j) : EReal) = ds (wts X) (ch0 X q) j := by
  refine (pay118_apply _ _ j _ q).trans ?_
  rw [us_apply, eb_apply]
  rfl

theorem ds1 (q : Fin 128) (j : Fin 512) : (k0_pay95 (F := Ideal) (k0_pay75 (US X)) (DPB X) X.wpb (ix2 q j) : EReal) = ds (wts X) (ch1 X q) j := by
  refine (pay95_apply _ _ j _ q).trans ?_
  rw [us_apply, eb_apply]
  rfl

theorem dv_apply (j : Fin 512) : (DV X (ix2 p j) : EReal) = dv (wts X) (ch X p) (pl p) j := by
  revert p
  refine halves (fun q => ?_) fun q => ?_
  · refine (pay142_apply _ _ _ _ q j).1.trans ?_
    rw [(ch_lo X q).1, (ch_lo X q).2]
    simp only [ds0]
    rfl
  · refine (pay142_apply _ _ _ _ q j).2.trans ?_
    rw [(ch_hi X q).1, (ch_hi X q).2]
    simp only [ds1]
    rfl

abbrev PB : FVec Ideal S256x1024 .f32 :=
  k0_pay79 (F := Ideal) (W6 X.sw) (W7 X.sw) (US X) lane
    (k0_pay61 (F := Ideal) (W3 X.sw) (W4 X.sw) (W5 X.sw) (W6 X.sw) (W7 X.sw) (US X) lane (k0_pay47 (LN X))
      (k0_pay50 (W0 X.sw) (W1 X.sw) (k0_pay21 X.bf) (LN X) (iota .tc S128x512 32 [1] iota_S128x512_d1_w32) (64#32) k0_pay45)
      (k0_pay51 (iota .tc S128x512 32 [1] iota_S128x512_d1_w32) (64#32) k0_pay45) (k0_pay52 (W2 X.sw) (LN X)) k0_pay53)
    (k0_pay62 (LN X)) (k0_pay68 (W0 X.sw) (W1 X.sw) (W2 X.sw) (W3 X.sw) (W4 X.sw) (k0_pay21 X.bf) lane (k0_pay62 (LN X))) (k0_pay69 lane) (k0_pay70 (W5 X.sw)) (k0_pay71 (k0_pay62 (LN X))) X.wpb

abbrev MG : FVec Ideal S256x1024 .f32 :=
  k0_pay80 (F := Ideal) (W6 X.sw) (W7 X.sw) (YA X) (US X) lane
    (k0_pay61 (F := Ideal) (W3 X.sw) (W4 X.sw) (W5 X.sw) (W6 X.sw) (W7 X.sw) (US X) lane (k0_pay47 (LN X))
      (k0_pay50 (W0 X.sw) (W1 X.sw) (k0_pay21 X.bf) (LN X) (iota .tc S128x512 32 [1] iota_S128x512_d1_w32) (64#32) k0_pay45)
      (k0_pay51 (iota .tc S128x512 32 [1] iota_S128x512_d1_w32) (64#32) k0_pay45) (k0_pay52 (W2 X.sw) (LN X)) k0_pay53)
    (k0_pay62 (LN X)) (k0_pay68 (W0 X.sw) (W1 X.sw) (W2 X.sw) (W3 X.sw) (W4 X.sw) (k0_pay21 X.bf) lane (k0_pay62 (LN X))) (k0_pay69 lane) (k0_pay70 (W5 X.sw)) (k0_pay71 (k0_pay62 (LN X))) X.gl X.bgate X.wpa X.wpb

theorem pb_apply (j : Fin 1024) : (PB X (ix2 p j) : EReal) = pb (wts X) (ch X p) (pl p) j :=
  (pay79_apply p _ _ _ _ _ _ _ _ _ _ _ j).trans (Finset.sum_congr rfl fun k _ => congrArg (· * _) (yb_apply X p k))

theorem mg_apply (j : Fin 1024) : (MG X (ix2 p j) : EReal) = mg (wts X) (ch X p) (pl p) j := by
  refine (pay80_apply p _ _ _ _ _ _ _ _ _ _ _ _ _ _ _ j).trans ?_
  unfold mg
  rw [ch_pl]
  exact congrArg₂ (· + ·) (congrArg₂ (· * ·) (gs_apply X p j).1 (pa_apply X p j)) (congrArg₂ (· * ·) (gs_apply X p j).2 (pb_apply X p j))

theorem dsb_apply (j : Fin 1024) : (k0_pay86 (F := Ideal) (GS X) (PB X) (ML X) X.dx1 X.wo (ix2 p j) : EReal) = dsb (wts X) (ch X p) (pl p) j := by
  refine (pay86_apply _ _ _ _ j _ _).trans ?_
  unfold dsb
  rw [ch_pl]
  exact congrArg₂ (· * ·) (congrArg₂ (· * ·) (congrArg₂ (· * ·) (dm_apply X p j) (pb_apply X p j)) (gs_apply X p j).2) (congrArg (1 - ·) (gs_apply X p j).2)

abbrev DY : FVec Ideal S256x512 .f32 :=
  k0_pay151 (F := Ideal) (k0_pay20 (k0_pay19 X.wg)) (Y X) (k0_pay23 X.u (k0_pay18 X.y0 X.y1) X.d) (k0_pay25 X.u (k0_pay18 X.y0 X.y1) X.d) (k0_pay26 X.u (k0_pay18 X.y0 X.y1) X.d)
    (k0_pay27 X.u (k0_pay18 X.y0 X.y1) X.d) (SG X) (k0_pay29 X.u (k0_pay18 X.y0 X.y1) X.d (k0_pay19 X.wg) X.bg) (EA X)

theorem dy_apply (j : Fin 512) : (DY X (ix2 p j) : EReal) = dy (wts X) (tk X p) j := by
  refine (pay151_apply _ _ _ _ _ _ _ p j).trans ?_
  unfold dy
  refine congrArg₂ dge (y_apply X p j) (congrArg₂ (· + ·) (congrArg₂ (· * ·) (ea_apply X p j) (sg_apply X p j)) (Finset.sum_congr rfl fun k _ => congrArg (· * _) (gt_apply X p k)))

abbrev FB : FVec Ideal S256x512 .f32 :=
  k0_pay119 (F := Ideal) (gate0 X.sw X.bf (LN X)) (k0_pay93 (DPB X) X.wpb) (k0_pay96 (gate1 X.sw X.bf (LN X)) (DPB X) X.wpb)

theorem fb_apply (j : Fin 512) : (FB X (ix2 p j) : EReal) = eb (wts X) (tk X p) j * sp (wts X) (ch X p) (pl p) j := by
  revert p
  refine halves (fun q => ?_) fun q => ?_
  · refine (pay119_apply _ _ j _ _ q).1.trans ?_
    rw [eb_apply, gate0_eq, (ch_lo X q).1, (ch_lo X q).2]
  · refine (pay119_apply _ _ j _ _ q).2.trans ?_
    rw [eb_apply, gate1_eq, (ch_hi X q).1, (ch_hi X q).2]

abbrev DZ : FVec Ideal S256x1024 .bf16 :=
  k0_pay154 (F := Ideal) (k0_pay33 (k0_pay32 X.z))
    (k0_pay146 X.z X.lg (k0_pay35 X.z (k0_pay31 X.z)) (k0_pay39 X.z (k0_pay31 X.z)) (k0_pay41 X.z (k0_pay31 X.z)) (k0_pay42 X.z (k0_pay31 X.z)) (back1 X.sw (US X) (DPB X) X.wpb) (FB X) (back0 X.sw (US X) (DPB X) X.wpb))
    (k0_pay147 X.z X.lg (k0_pay35 X.z (k0_pay31 X.z)) (k0_pay36 X.z (k0_pay31 X.z)) (k0_pay39 X.z (k0_pay31 X.z)) (k0_pay41 X.z (k0_pay31 X.z)) (k0_pay42 X.z (k0_pay31 X.z)) (back1 X.sw (US X) (DPB X) X.wpb) (FB X) (back0 X.sw (US X) (DPB X) X.wpb))
    (Scalar.ofBits .f32 0x3D372713#32)

theorem dz_apply (j : Fin 1024) : (DZ X (ix2 p j) : EReal) = dz (wts X) (ch X p) (pl p) j := by
  refine (pay154_apply _ _ _ _ _ _ _ _ p j).trans ?_
  unfold dz
  rw [ch_pl]
  refine congrArg₂ dge rfl ((pay145_apply _ _ _ _ _ p j).trans ?_)
  split_ifs with h
  · exact fb_apply X p _
  · exact congrArg (fun f => dln (vs (tk X p)) f _) (funext fun k => congrArg (· * _) (dv_apply X p k))
end

/-! ## The outputs of a tile -/

/-- Three blocks of columns side by side. -/
theorem thirds (x y z : FVec Ideal S256x1024 .bf16) (a b c) (p : Fin 256) (j : Fin 3072) :
    ((View.canon (Val := Elt Ideal) (s := S256x3072) (e := .bf16)
      [⟨Rect.unit (s := S256x3072) ![0, 0] ![256, 1024] a, x⟩, ⟨Rect.unit (s := S256x3072) ![0, 2048] ![256, 1024] b, z⟩, ⟨Rect.unit (s := S256x3072) ![0, 1024] ![256, 1024] c, y⟩] : S256x3072.Idx → EReal) (ix2 p j) : EReal)
      = if h : j.val < 1024 then x (ix2 p ⟨j.val, h⟩) else if h' : j.val < 2048 then y (ix2 p ⟨j.val - 1024, by omega⟩) else z (ix2 p ⟨j.val - 2048, by omega⟩) := by
  have hj : j.val < 3072 := j.isLt
  refine (Rows.canon_cols _ _ _ _).trans ?_
  by_cases h : j.val < 1024
  · rw [dif_pos h, dif_pos ⟨Nat.zero_le _, by show j.val < 0 + 1024; omega⟩]
    rfl
  · rw [dif_neg h, dif_neg (fun e => h (by have : j.val < 0 + 1024 := e.2; omega))]
    refine (Rows.canon_cols _ _ _ _).trans ?_
    by_cases h' : j.val < 2048
    · rw [dif_pos h', dif_neg (fun e => by have : 2048 ≤ j.val := e.1; omega)]
      refine (Rows.canon_cols _ _ _ _).trans ?_
      rw [dif_pos ⟨by show 1024 ≤ j.val; omega, by show j.val < 1024 + 1024; omega⟩]
      rfl
    · rw [dif_neg h', dif_pos ⟨by show 2048 ≤ j.val; omega, by show j.val < 2048 + 1024; omega⟩]
      rfl

section
variable (c : Dev nD) (i : grid0.Coords) (M : Mems) (h1 : ¬k0_cond1 i = 1#1) (h2 : k0_cond2 i = 1#1) (S : Sums Ideal) (p : Fin 256)

theorem out_ya (j : Fin 512) : ((outB c i M h1 h2 X S).ya (ix2 p j) : EReal) = ya (wts X) (tk X p) j := by
  refine Eq.trans ?_ (ya_apply X p j)
  unfold outB
  frame_out
  rfl

theorem out_yb (j : Fin 512) : ((outB c i M h1 h2 X S).yb (ix2 p j) : EReal) = yb (wts X) (ch X p) (pl p) j := by
  refine Eq.trans ?_ (yb_apply X p j)
  unfold outB
  frame_out
  rfl

theorem out_dpa (j : Fin 1024) : ((outB c i M h1 h2 X S).dpa (ix2 p j) : EReal) = dpa (wts X) (tk X p) j := by
  refine Eq.trans ?_ (dpa_apply X p j)
  unfold outB
  frame_out

theorem out_dpb (j : Fin 1024) : ((outB c i M h1 h2 X S).dpb (ix2 p j) : EReal) = dpb (wts X) (tk X p) j := by
  refine Eq.trans ?_ (dpb_apply X p j)
  unfold outB
  frame_out

theorem out_dmo (j : Fin 1024) : ((outB c i M h1 h2 X S).dmo (ix2 p j) : EReal) = dmo (wts X) (tk X p) j := by
  refine Eq.trans ?_ ((pay81_apply p (ML X) X.dx1 j).trans (congrArg (· * _) (ml_apply X j)))
  unfold outB
  frame_out

theorem out_mg (j : Fin 1024) : ((outB c i M h1 h2 X S).mg (ix2 p j) : EReal) = mg (wts X) (ch X p) (pl p) j := by
  refine Eq.trans ?_ (mg_apply X p j)
  unfold outB
  frame_out
  rfl

theorem out_dys (j : Fin 512) : ((outB c i M h1 h2 X S).dys (ix2 p j) : EReal) = dy (wts X) (tk X p) j := by
  refine Eq.trans ?_ (dy_apply X p j)
  unfold outB
  frame_out

theorem out_dusk (j : Fin 512) : ((outB c i M h1 h2 X S).dusk (ix2 p j) : EReal) = dy (wts X) (tk X p) j * (wts X).d j := by
  refine Eq.trans ?_ ((pay153_apply p _ _ _ _ _ _ _ _ _ X.d j).trans (congrArg (· * _) (dy_apply X p j)))
  unfold outB
  frame_out

theorem out_dzg (j : Fin 3072) : ((outB c i M h1 h2 X S).dzg (ix2 p j) : EReal) = dzg (wts X) (ch X p) (pl p) j := by
  unfold outB
  dsimp only
  frame_out
  refine (thirds _ _ _ _ _ _ p j).trans ?_
  unfold dzg
  refine dite_congr rfl (fun h => dz_apply X p _) fun h => dite_congr rfl (fun h' => ?_) fun h' => dsb_apply X p _
  rw [ch_pl]
  exact dsa_apply X p _
end

end Cert.Proof.MixTile

end
-- ==== Proof.MixSums.lean ====
/- What the branch backward kernel adds at a tile to the gradients of the weights. -/
module

public import proofs.«01_k».proof.Proof.MixTile

@[expose] public section

set_option maxRecDepth 16384

noncomputable section

namespace Cert.Proof.MixTile

open Cert.KernelMixIdeal Cert.KernelMixIdeal.Gen Idealize.ShloMosaic Idealize.ShloMosaic.TcCoe Cert.Proof.Branch Cert.Proof.MixPay Cert.Proof.MixRun

section
variable (X : Ins Ideal)

theorem tile_dsw (g : Fin 8) (m n : IVec S128x512 1) (a b : Fin 128) (hm : ∀ k, m (ix2 a k) = here g k) (hn : ∀ k, n (ix2 a k) = here g k) :
    sums (US X) (LN X) (DPB X) X.wpb m n a b = part (wts X) (ch1 X) g a b + part (wts X) (ch0 X) g a b := by
  refine (sums_eq _ _ _ _ _ _ a b g hm hn).trans ?_
  unfold part
  simp only [ds0, ds1, ln_apply]
  rfl

theorem tile_dwg (k j : Fin 512) : (k0_pay150 (F := Ideal) (k0_pay27 X.u (k0_pay18 X.y0 X.y1) X.d) (k0_pay29 X.u (k0_pay18 X.y0 X.y1) X.d (k0_pay19 X.wg) X.bg) (EA X) (ix2 k j) : EReal)
    = ∑ p : Fin 256, ge (y (wts X) (tk X p) k) * dgt (wts X) (tk X p) j := by
  refine (pay150_apply _ _ _ _ j _ k).trans ?_
  exact Finset.sum_congr rfl fun p _ => congrArg₂ (· * ·) (congrArg ge (y_apply X p k)) (gt_apply X p j)

theorem tile_dbf (q : Fin 128) (j : Fin 512) : (k0_pay138 (F := Ideal) (k0_pay95 (k0_pay75 (US X)) (DPB X) X.wpb) (k0_pay118 (k0_pay60 (US X)) (k0_pay93 (DPB X) X.wpb)) (ix2 q j) : EReal)
    = ds (wts X) (ch1 X q) j + ds (wts X) (ch0 X q) j :=
  (pay138_apply _ _ _).trans (congrArg₂ (· + ·) (ds1 X q j) (ds0 X q j))

theorem tile_u (j : Fin 512) : (k0_pay152 (F := Ideal) X.u (k0_pay20 (k0_pay19 X.wg)) (Y X) (k0_pay23 X.u (k0_pay18 X.y0 X.y1) X.d) (k0_pay25 X.u (k0_pay18 X.y0 X.y1) X.d) (k0_pay26 X.u (k0_pay18 X.y0 X.y1) X.d)
    (k0_pay27 X.u (k0_pay18 X.y0 X.y1) X.d) (SG X) (k0_pay29 X.u (k0_pay18 X.y0 X.y1) X.d (k0_pay19 X.wg) X.bg) (EA X) (ix2 0 j) : EReal)
    = ∑ p : Fin 256, (tk X p).u j * dy (wts X) (tk X p) j :=
  (pay152_apply _ _ _ _ _ _ _ _ _ _ j).trans (Finset.sum_congr rfl fun p _ => congrArg _ (dy_apply X p j))

theorem tile_gt (j : Fin 512) : (k0_pay149 (F := Ideal) (k0_pay27 X.u (k0_pay18 X.y0 X.y1) X.d) (k0_pay29 X.u (k0_pay18 X.y0 X.y1) X.d (k0_pay19 X.wg) X.bg) (EA X) (ix2 0 j) : EReal)
    = ∑ p : Fin 256, dgt (wts X) (tk X p) j :=
  (pay149_apply _ j _ _).trans (Finset.sum_congr rfl fun p _ => gt_apply X p j)

theorem tile_nv (j : Fin 512) : (k0_pay144 (F := Ideal) (k0_pay43 X.z (k0_pay31 X.z)) (back1 X.sw (US X) (DPB X) X.wpb) (back0 X.sw (US X) (DPB X) X.wpb) (ix2 0 j) : EReal)
    = ∑ p : Fin 256, nrm (vs (tk X p)) j * dv (wts X) (ch X p) (pl p) j :=
  (pay144_apply _ _ _ j).trans (Finset.sum_congr rfl fun p _ => congrArg _ (dv_apply X p j))

theorem tile_dv (j : Fin 512) : (k0_pay143 (F := Ideal) (back1 X.sw (US X) (DPB X) X.wpb) (back0 X.sw (US X) (DPB X) X.wpb) (ix2 0 j) : EReal)
    = ∑ p : Fin 256, dv (wts X) (ch X p) (pl p) j :=
  (pay143_apply _ _ j).trans (Finset.sum_congr rfl fun p _ => dv_apply X p j)
end

section
variable (X : Ins Ideal) (c : Dev nD) (i : grid0.Coords) (M : Mems) (h1 : ¬k0_cond1 i = 1#1) (h2 : k0_cond2 i = 1#1) (S : Sums Ideal)

theorem sum_dwg (k j : Fin 512) : ((outB c i M h1 h2 X S).sums.dwg (ix2 k j) : EReal)
    = S.dwg (ix2 k j) + ∑ p : Fin 256, ge (y (wts X) (tk X p) k) * dgt (wts X) (tk X p) j := by
  refine Eq.trans ?_ ((add_dwg _ S.dwg (ix2 k j)).trans (congrArg _ (tile_dwg X k j)))
  unfold outB
  frame_out

theorem sum_dbf (q : Fin 128) (j : Fin 512) : ((outB c i M h1 h2 X S).sums.dbf (ix2 q j) : EReal)
    = S.dbf (ix2 q j) + (ds (wts X) (ch1 X q) j + ds (wts X) (ch0 X q) j) := by
  refine Eq.trans ?_ ((add_dbf _ S.dbf (ix2 q j)).trans (congrArg _ (tile_dbf X q j)))
  unfold outB
  frame_out

theorem sum_dsw (g : Fin 8) (a b : Fin 128) : ((outB c i M h1 h2 X S).sums.dsw (ix3 g a b) : EReal)
    = S.dsw (ix3 g a b) + (part (wts X) (ch1 X) g a b + part (wts X) (ch0 X) g a b) := by
  unfold outB
  dsimp only
  frame_out
  refine (Rows.canon_slab _ _ _ g a b).trans ?_
  by_cases e7 : g.val = 7
  · rw [if_pos e7]
    exact (sums_7 _ _ _ _ _ _ _ a b).trans (congrArg₂ (· + ·) (Rows.ld_slab S.dsw _ g e7 a b) (tile_dsw X g _ _ a b (fun k => by rw [show g = 7 from Fin.ext e7]; exact (masks a k).2.1.2.2.2) (fun k => by rw [show g = 7 from Fin.ext e7]; exact (masks a k).2.2.2.2.2.2)))
  rw [if_neg e7]
  refine (Rows.canon_slab _ _ _ g a b).trans ?_
  by_cases e6 : g.val = 6
  · rw [if_pos e6]
    exact (sums_6 _ _ _ _ _ _ _ a b).trans (congrArg₂ (· + ·) (Rows.ld_slab S.dsw _ g e6 a b) (tile_dsw X g _ _ a b (fun k => by rw [show g = 6 from Fin.ext e6]; exact (masks a k).2.1.2.2.1) (fun k => by rw [show g = 6 from Fin.ext e6]; exact (masks a k).2.2.2.2.2.1)))
  rw [if_neg e6]
  refine (Rows.canon_slab _ _ _ g a b).trans ?_
  by_cases e5 : g.val = 5
  · rw [if_pos e5]
    exact (sums_5 _ _ _ _ _ _ _ a b).trans (congrArg₂ (· + ·) (Rows.ld_slab S.dsw _ g e5 a b) (tile_dsw X g _ _ a b (fun k => by rw [show g = 5 from Fin.ext e5]; exact (masks a k).2.1.2.1) (fun k => by rw [show g = 5 from Fin.ext e5]; exact (masks a k).2.2.2.2.1)))
  rw [if_neg e5]
  refine (Rows.canon_slab _ _ _ g a b).trans ?_
  by_cases e4 : g.val = 4
  · rw [if_pos e4]
    exact (sums_4 _ _ _ _ _ _ _ a b).trans (congrArg₂ (· + ·) (Rows.ld_slab S.dsw _ g e4 a b) (tile_dsw X g _ _ a b (fun k => by rw [show g = 4 from Fin.ext e4]; exact (masks a k).2.1.1) (fun k => by rw [show g = 4 from Fin.ext e4]; exact (masks a k).2.2.2.1)))
  rw [if_neg e4]
  refine (Rows.canon_slab _ _ _ g a b).trans ?_
  by_cases e3 : g.val = 3
  · rw [if_pos e3]
    exact (sums_3 _ _ _ _ _ _ _ a b).trans (congrArg₂ (· + ·) (Rows.ld_slab S.dsw _ g e3 a b) (tile_dsw X g _ _ a b (fun k => by rw [show g = 3 from Fin.ext e3]; exact (masks a k).1.2.2.2) (fun k => by rw [show g = 3 from Fin.ext e3]; exact (masks a k).2.2.1.2.2.2)))
  rw [if_neg e3]
  refine (Rows.canon_slab _ _ _ g a b).trans ?_
  by_cases e2 : g.val = 2
  · rw [if_pos e2]
    exact (sums_2 _ _ _ _ _ _ _ a b).trans (congrArg₂ (· + ·) (Rows.ld_slab S.dsw _ g e2 a b) (tile_dsw X g _ _ a b (fun k => by rw [show g = 2 from Fin.ext e2]; exact (masks a k).1.2.2.1) (fun k => by rw [show g = 2 from Fin.ext e2]; exact (masks a k).2.2.1.2.2.1)))
  rw [if_neg e2]
  refine (Rows.canon_slab _ _ _ g a b).trans ?_
  by_cases e1 : g.val = 1
  · rw [if_pos e1]
    exact (sums_1 _ _ _ _ _ _ _ a b).trans (congrArg₂ (· + ·) (Rows.ld_slab S.dsw _ g e1 a b) (tile_dsw X g _ _ a b (fun k => by rw [show g = 1 from Fin.ext e1]; exact (masks a k).1.2.1) (fun k => by rw [show g = 1 from Fin.ext e1]; exact (masks a k).2.2.1.2.1)))
  rw [if_neg e1]
  refine (Rows.canon_slab _ _ _ g a b).trans ?_
  by_cases e0 : g.val = 0
  · rw [if_pos e0]
    exact (sums_0 _ _ _ _ _ _ _ a b).trans (congrArg₂ (· + ·) (Rows.ld_slab S.dsw _ g e0 a b) (tile_dsw X g _ _ a b (fun k => by rw [show g = 0 from Fin.ext e0]; exact (masks a k).1.1) (fun k => by rw [show g = 0 from Fin.ext e0]; exact (masks a k).2.2.1.1)))
  rw [if_neg e0]
  omega

/-- The six pieces of rows that are written, of what each holds and of what was there before. -/
theorem pieces {M : Mems} (f : M.acc.view.ty.Contents (Elt Ideal)) (x4 x3 x2 x1 : FVec Ideal S1x512 .f32) (xh xl : FVec Ideal S1x1024 .f32) (a4 a3 a2 a1 ah al) (T : Fin 8 → Fin 2048 → EReal)
    (h4 : ∀ j : Fin 512, (x4 (ix2 0 j) : EReal) = T 4 ⟨0 + j.val, by omega⟩) (h3 : ∀ j : Fin 512, (x3 (ix2 0 j) : EReal) = T 3 ⟨0 + j.val, by omega⟩)
    (h2 : ∀ j : Fin 512, (x2 (ix2 0 j) : EReal) = T 2 ⟨0 + j.val, by omega⟩) (h1 : ∀ j : Fin 512, (x1 (ix2 0 j) : EReal) = T 1 ⟨0 + j.val, by omega⟩)
    (hh : ∀ j : Fin 1024, (xh (ix2 0 j) : EReal) = T 0 ⟨1024 + j.val, by omega⟩) (hl : ∀ j : Fin 1024, (xl (ix2 0 j) : EReal) = T 0 ⟨0 + j.val, by omega⟩)
    (k : Fin 8) (j : Fin 2048) (hr : k.val ≠ 0 → ¬(k.val ≤ 4 ∧ j.val < 512) → (M.acc.view.read (Elt Ideal) f (ix2 k j) : EReal) = T k j) :
    (M.acc.view.read (Elt Ideal) (M.acc.view.writes (Elt Ideal) f
      [⟨Rect.unit (s := S8x2048) ![4, 0] ![1, 512] a4, x4⟩, ⟨Rect.unit (s := S8x2048) ![3, 0] ![1, 512] a3, x3⟩, ⟨Rect.unit (s := S8x2048) ![2, 0] ![1, 512] a2, x2⟩, ⟨Rect.unit (s := S8x2048) ![1, 0] ![1, 512] a1, x1⟩,
        ⟨Rect.unit (s := S8x2048) ![0, 1024] ![1, 1024] ah, xh⟩, ⟨Rect.unit (s := S8x2048) ![0, 0] ![1, 1024] al, xl⟩]) (ix2 k j) : EReal) = T k j := by
  by_cases e4 : k.val = 4 ∧ 0 ≤ j.val ∧ j.val < 0 + 512
  · exact (Rows.read_seg _ _ _ _ _ _).trans ((dif_pos e4).trans ((h4 ⟨j.val - 0, by omega⟩).trans (congrArg₂ T (Fin.ext e4.1.symm) (Fin.ext (by show 0 + (j.val - 0) = j.val; omega)))))
  refine (Rows.read_seg _ _ _ _ _ _).trans ((dif_neg e4).trans ?_)
  by_cases e3 : k.val = 3 ∧ 0 ≤ j.val ∧ j.val < 0 + 512
  · exact (Rows.read_seg _ _ _ _ _ _).trans ((dif_pos e3).trans ((h3 ⟨j.val - 0, by omega⟩).trans (congrArg₂ T (Fin.ext e3.1.symm) (Fin.ext (by show 0 + (j.val - 0) = j.val; omega)))))
  refine (Rows.read_seg _ _ _ _ _ _).trans ((dif_neg e3).trans ?_)
  by_cases e2 : k.val = 2 ∧ 0 ≤ j.val ∧ j.val < 0 + 512
  · exact (Rows.read_seg _ _ _ _ _ _).trans ((dif_pos e2).trans ((h2 ⟨j.val - 0, by omega⟩).trans (congrArg₂ T (Fin.ext e2.1.symm) (Fin.ext (by show 0 + (j.val - 0) = j.val; omega)))))
  refine (Rows.read_seg _ _ _ _ _ _).trans ((dif_neg e2).trans ?_)
  by_cases e1 : k.val = 1 ∧ 0 ≤ j.val ∧ j.val < 0 + 512
  · exact (Rows.read_seg _ _ _ _ _ _).trans ((dif_pos e1).trans ((h1 ⟨j.val - 0, by omega⟩).trans (congrArg₂ T (Fin.ext e1.1.symm) (Fin.ext (by show 0 + (j.val - 0) = j.val; omega)))))
  refine (Rows.read_seg _ _ _ _ _ _).trans ((dif_neg e1).trans ?_)
  by_cases eh : k.val = 0 ∧ 1024 ≤ j.val ∧ j.val < 1024 + 1024
  · exact (Rows.read_seg _ _ _ _ _ _).trans ((dif_pos eh).trans ((hh ⟨j.val - 1024, by omega⟩).trans (congrArg₂ T (Fin.ext eh.1.symm) (Fin.ext (by show 1024 + (j.val - 1024) = j.val; omega)))))
  refine (Rows.read_seg _ _ _ _ _ _).trans ((dif_neg eh).trans ?_)
  by_cases el : k.val = 0 ∧ 0 ≤ j.val ∧ j.val < 0 + 1024
  · exact (Rows.read_seg _ _ _ _ _ _).trans ((dif_pos el).trans ((hl ⟨j.val - 0, by omega⟩).trans (congrArg₂ T (Fin.ext el.1.symm) (Fin.ext (by show 0 + (j.val - 0) = j.val; omega)))))
  refine (Rows.read_seg _ _ _ _ _ _).trans ((dif_neg el).trans ?_)
  rw [View.writes_nil]
  exact hr (by omega) (by omega)

section
variable (w : Wts) (R : Fin 128 → Row) (q : Fin 128) (k : Fin 8) (j : Fin 2048)

theorem row_4 (e : k.val = 4) (h : j.val < 512) : row w R q k j = dv w R q ⟨j.val, h⟩ := by unfold row; simp [e, h]
theorem row_3 (e : k.val = 3) (h : j.val < 512) : row w R q k j = nrm (vs (R q)) ⟨j.val, h⟩ * dv w R q ⟨j.val, h⟩ := by unfold row; simp [e, h]
theorem row_2 (e : k.val = 2) (h : j.val < 512) : row w R q k j = dgt w (R q) ⟨j.val, h⟩ := by unfold row; simp [e, h]
theorem row_1 (e : k.val = 1) (h : j.val < 512) : row w R q k j = (R q).u ⟨j.val, h⟩ * dy w (R q) ⟨j.val, h⟩ := by unfold row; simp [e, h]
theorem row_hi (e : k.val = 0) (h : ¬j.val < 1024) : row w R q k j = dsb w R q ⟨j.val - 1024, by omega⟩ := by unfold row; simp [e, h]
theorem row_lo (e : k.val = 0) (h : j.val < 1024) : row w R q k j = dsa w (R q) ⟨j.val, h⟩ := by unfold row; simp [e, h]

theorem row_no (h0 : k.val ≠ 0) (h : ¬(k.val ≤ 4 ∧ j.val < 512)) : row w R q k j = 0 := by
  unfold row
  rw [if_neg h0]
  split_ifs with a b c d e <;> first | rfl | exact absurd ⟨by omega, a⟩ h
end

section
variable (X : Ins Ideal) (p : Fin 256)

theorem at_4 (j : Fin 512) : row (wts X) (ch X p) (pl p) 4 ⟨0 + j.val, by omega⟩ = dv (wts X) (ch X p) (pl p) j :=
  (row_4 _ _ _ _ _ rfl (by show 0 + j.val < 512; omega)).trans (by simp)

theorem at_3 (j : Fin 512) : row (wts X) (ch X p) (pl p) 3 ⟨0 + j.val, by omega⟩ = nrm (vs (ch X p (pl p))) j * dv (wts X) (ch X p) (pl p) j :=
  (row_3 _ _ _ _ _ rfl (by show 0 + j.val < 512; omega)).trans (by simp)

theorem at_2 (j : Fin 512) : row (wts X) (ch X p) (pl p) 2 ⟨0 + j.val, by omega⟩ = dgt (wts X) (ch X p (pl p)) j :=
  (row_2 _ _ _ _ _ rfl (by show 0 + j.val < 512; omega)).trans (by simp)

theorem at_1 (j : Fin 512) : row (wts X) (ch X p) (pl p) 1 ⟨0 + j.val, by omega⟩ = (ch X p (pl p)).u j * dy (wts X) (ch X p (pl p)) j :=
  (row_1 _ _ _ _ _ rfl (by show 0 + j.val < 512; omega)).trans (by simp)

theorem at_hi (j : Fin 1024) : row (wts X) (ch X p) (pl p) 0 ⟨1024 + j.val, by omega⟩ = dsb (wts X) (ch X p) (pl p) j :=
  (row_hi _ _ _ _ _ rfl (by show ¬1024 + j.val < 1024; omega)).trans (by simp)

theorem at_lo (j : Fin 1024) : row (wts X) (ch X p) (pl p) 0 ⟨0 + j.val, by omega⟩ = dsa (wts X) (ch X p (pl p)) j :=
  (row_lo _ _ _ _ _ rfl (by show 0 + j.val < 1024; omega)).trans (by simp)

end

theorem sum_acc (k : Fin 8) (j : Fin 2048) : ((outB c i M h1 h2 X S).sums.acc (ix2 k j) : EReal)
    = S.acc (ix2 k j) + ∑ p : Fin 256, row (wts X) (ch X p) (pl p) k j := by
  unfold outB
  dsimp only
  frame_out
  refine pieces _ _ _ _ _ _ _ _ _ _ _ _ _ (fun k j => S.acc (ix2 k j) + ∑ p : Fin 256, row (wts X) (ch X p) (pl p) k j) (fun j => ?_) (fun j => ?_) (fun j => ?_) (fun j => ?_) (fun j => ?_) (fun j => ?_) k j fun h0 h => ?_
  · refine (add_rows j _ _).2.2.2.trans (congrArg₂ (· + ·) (Rows.ld_at S.acc _ 0 j (by decide) (by omega)) ((tile_dv X _).trans (Finset.sum_congr rfl fun p _ => ?_)))
    exact (at_4 X p j).symm
  · refine (add_rows j _ _).2.2.1.trans (congrArg₂ (· + ·) (Rows.ld_at S.acc _ 0 j (by decide) (by omega)) ((tile_nv X _).trans (Finset.sum_congr rfl fun p _ => ?_)))
    simp only [← ch_pl]
    exact (at_3 X p j).symm
  · refine (add_rows j _ _).2.1.trans (congrArg₂ (· + ·) (Rows.ld_at S.acc _ 0 j (by decide) (by omega)) ((tile_gt X _).trans (Finset.sum_congr rfl fun p _ => ?_)))
    simp only [← ch_pl]
    exact (at_2 X p j).symm
  · refine (add_rows j _ _).1.trans (congrArg₂ (· + ·) (Rows.ld_at S.acc _ 0 j (by decide) (by omega)) ((tile_u X _).trans (Finset.sum_congr rfl fun p _ => ?_)))
    simp only [← ch_pl]
    exact (at_1 X p j).symm
  · refine (pay90_apply j _ _).trans (congrArg₂ (· + ·) (Rows.ld_at S.acc _ 0 j (by decide) (by omega)) ((Finset.sum_congr rfl fun p _ => dsb_apply X p _).trans (Finset.sum_congr rfl fun p _ => ?_)))
    exact (at_hi X p j).symm
  · refine (pay89_apply _ _ _ j _ _ _).trans (congrArg₂ (· + ·) (Rows.ld_at S.acc _ 0 j (by decide) (by omega)) ((Finset.sum_congr rfl fun p _ => dsa_apply X p _).trans (Finset.sum_congr rfl fun p _ => ?_)))
    simp only [← ch_pl]
    exact (at_lo X p j).symm
  · rw [Memref.IsWhole.read_unread]
    exact (add_zero _).symm.trans (congrArg _ (Finset.sum_eq_zero fun p _ => row_no _ _ _ k j h0 h).symm)
end

end Cert.Proof.MixTile

end
-- ==== Proof.MixArr.lean ====
/- What the branch backward kernel leaves in its thirteen results, of the arguments: every tile is the tokens' part of the whole. -/
module

public import proofs.«01_k».proof.Proof.MixSums

@[expose] public section

set_option maxRecDepth 16384

noncomputable section

namespace Cert.Proof.MixArr

open Cert.KernelMixIdeal Cert.KernelMixIdeal.Gen Idealize.ShloMosaic Idealize.ShloMosaic.TcCoe Idealize.SL.Sem Cert.Proof.Branch Cert.Proof.MixRun Cert.Proof.MixTile

variable (m : (ℓ : Loc nD τ sig) → Buf (Elt Ideal) ℓ) (ρ : Dev nD → PrngReg) (c : Dev nD) (t : Fin cfg0.N)

abbrev a0 : S8448x512.Idx → EReal := m ((c : Thread nD τ).loc main_arg0)
abbrev a1 : S8448x512.Idx → EReal := m ((c : Thread nD τ).loc main_arg1)
abbrev a2 : S8448x512.Idx → EReal := m ((c : Thread nD τ).loc main_arg2)
abbrev a3 : S8448x1024.Idx → EReal := m ((c : Thread nD τ).loc main_arg3)
abbrev a4 : S8448x2048.Idx → EReal := m ((c : Thread nD τ).loc main_arg4)
abbrev a5 : S8192x1024.Idx → EReal := m ((c : Thread nD τ).loc main_arg5)
abbrev a6 : S1x6144.Idx → EReal := m ((c : Thread nD τ).loc main_arg6)
abbrev a7 : S1x512.Idx → EReal := m ((c : Thread nD τ).loc main_arg7)
abbrev a8 : S512x512.Idx → EReal := m ((c : Thread nD τ).loc main_arg8)
abbrev a9 : S1x512.Idx → EReal := m ((c : Thread nD τ).loc main_arg9)
abbrev a10 : S1x512.Idx → EReal := m ((c : Thread nD τ).loc main_arg10)
abbrev a11 : S1x512.Idx → EReal := m ((c : Thread nD τ).loc main_arg11)
abbrev a12 : S8x128x128.Idx → EReal := m ((c : Thread nD τ).loc main_arg12)
abbrev a13 : S8x128.Idx → EReal := m ((c : Thread nD τ).loc main_arg13)
abbrev a14 : S512x1024.Idx → EReal := m ((c : Thread nD τ).loc main_arg14)
abbrev a15 : S512x1024.Idx → EReal := m ((c : Thread nD τ).loc main_arg15)
abbrev a16 : S1x2048.Idx → EReal := m ((c : Thread nD τ).loc main_arg16)
abbrev a17 : S1024x1024.Idx → EReal := m ((c : Thread nD τ).loc main_arg17)

/-- The activations and the weights, of the arguments. -/
def arr : Arr := ⟨fun n j => a0 m c (ix2 n j), fun n j => a1 m c (ix2 n j), fun n j => a2 m c (ix2 n j), fun n j => a3 m c (ix2 n j), fun n j => a4 m c (ix2 n j), fun n j => a5 m c (ix2 n j)⟩

def wt : Wts where
  g j := a6 m c (ix2 0 ⟨2048 + j.val, by omega⟩)
  d j := a7 m c (ix2 0 j)
  wg k j := a8 m c (ix2 k j)
  bg j := a9 m c (ix2 0 j)
  lg j := a10 m c (ix2 0 j)
  lb j := a11 m c (ix2 0 j)
  sw g a b := a12 m c (ix3 g a b)
  bf q j := a13 m c (ix2 (grp j) q)
  wpa k j := a14 m c (ix2 k j)
  wpb k j := a15 m c (ix2 k j)
  bgate j := a16 m c (ix2 0 j)
  wo k j := a17 m c (ix2 k j)

theorem idx_in : ∀ t : Fin cfg0.N,
    win0_0.index t = ![t.val, 0] ∧ win0_1.index t = ![t.val, 0] ∧ win0_2.index t = ![t.val, 0] ∧ win0_3.index t = ![t.val, 0] ∧ win0_4.index t = ![t.val, 0] ∧ win0_5.index t = ![t.val - 1, 0]
    ∧ win0_6.index t = ![0, 0] ∧ win0_7.index t = ![0, 0] ∧ win0_8.index t = ![0, 0] ∧ win0_9.index t = ![0, 0] ∧ win0_10.index t = ![0, 0] ∧ win0_11.index t = ![0, 0]
    ∧ win0_12.index t = ![0, 0, 0] ∧ win0_13.index t = ![0, 0] ∧ win0_14.index t = ![0, 0] ∧ win0_15.index t = ![0, 0] ∧ win0_16.index t = ![0, 0] ∧ win0_17.index t = ![0, 0] :=
  (by decide +kernel : ∀ t : Fin grid0.N, _)

theorem idx_out : ∀ t : Fin cfg0.N,
    win0_18.index t = ![t.val, 0] ∧ win0_19.index t = ![t.val, 0] ∧ win0_20.index t = ![t.val, 0] ∧ win0_21.index t = ![t.val - 1, 0] ∧ win0_22.index t = ![t.val - 1, 0] ∧ win0_23.index t = ![t.val - 1, 0]
    ∧ win0_24.index t = ![t.val - 1, 0] ∧ win0_25.index t = ![t.val - 1, 0] ∧ win0_26.index t = ![t.val - 1, 0]
    ∧ win0_27.index t = ![0, 0] ∧ win0_28.index t = ![0, 0, 0] ∧ win0_29.index t = ![0, 0] ∧ win0_30.index t = ![0, 0] :=
  (by decide +kernel : ∀ t : Fin grid0.N, _)

/-- The token that is token `p` of the tile of point `t`. -/
def at_ (h : t.val ≠ 0) (p : Fin 256) : Fin 8192 := ⟨(t.val - 1) * 256 + p.val, by have : t.val < 33 := t.isLt; omega⟩

theorem v3_eq : (V m c main_v3 : S512x512.Idx → EReal) = a8 m c := by
  show StableHlo.after _ _ _ = _
  after_results
  rfl

theorem v4_eq : (V m c main_v4 : S512x1024.Idx → EReal) = a14 m c := by
  show StableHlo.after _ _ _ = _
  after_results
  rfl

theorem v5_eq : (V m c main_v5 : S512x1024.Idx → EReal) = a15 m c := by
  show StableHlo.after _ _ _ = _
  after_results
  rfl

theorem v6_eq : (V m c main_v6 : S1024x1024.Idx → EReal) = a17 m c := by
  show StableHlo.after _ _ _ = _
  after_results
  rfl

theorem v2_apply (q : Fin 128) (j : Fin 512) : (V m c main_v2 (ix2 q j) : EReal) = a13 m c (ix2 (grp j) q) := by
  have e : V m c main_v2 = shapeCast (α := EReal) S128x512 (broadcastInDim S128x8x64 ![0, 1] bcast_S128x8_S128x8x64_0_1 (transpose S128x8 [1, 0] (a13 m c) transposes_S8x128_S128x8_1_0)) shapeCasts_S128x8x64_S128x512 := by
    show StableHlo.after _ _ _ = _
    after_results
    rfl
  rw [e]
  pointwise
  rfl

theorem blk0 (h : t.val ≠ 0) (p : Fin 256) (j : Fin 512) : (iblk m c 0 t (ix2 p j) : EReal) = a0 m c (ix2 ⟨256 + (at_ t h p).val, by omega⟩ j) := by
  obtain ⟨e, -⟩ := idx_in t
  blk_simp [iblk]
  refine (congrArg (V m c main_arg0) ?_).trans (congrFun (V_main_arg0 m c) _)
  blk_ext [e, at_]
  all_goals omega

theorem blk1 (h : t.val ≠ 0) (p : Fin 256) (j : Fin 512) : (iblk m c 1 t (ix2 p j) : EReal) = a1 m c (ix2 ⟨256 + (at_ t h p).val, by omega⟩ j) := by
  obtain ⟨-, e, -⟩ := idx_in t
  blk_simp [iblk]
  refine (congrArg (V m c main_arg1) ?_).trans (congrFun (V_main_arg1 m c) _)
  blk_ext [e, at_]
  all_goals omega

theorem blk2 (h : t.val ≠ 0) (p : Fin 256) (j : Fin 512) : (iblk m c 2 t (ix2 p j) : EReal) = a2 m c (ix2 ⟨256 + (at_ t h p).val, by omega⟩ j) := by
  obtain ⟨-, -, e, -⟩ := idx_in t
  blk_simp [iblk]
  refine (congrArg (V m c main_arg2) ?_).trans (congrFun (V_main_arg2 m c) _)
  blk_ext [e, at_]
  all_goals omega

theorem blk3 (h : t.val ≠ 0) (p : Fin 256) (j : Fin 1024) : (iblk m c 3 t (ix2 p j) : EReal) = a3 m c (ix2 ⟨256 + (at_ t h p).val, by omega⟩ j) := by
  obtain ⟨-, -, -, e, -⟩ := idx_in t
  blk_simp [iblk]
  refine (congrArg (V m c main_arg3) ?_).trans (congrFun (V_main_arg3 m c) _)
  blk_ext [e, at_]
  all_goals omega

theorem blk4 (h : t.val ≠ 0) (p : Fin 256) (j : Fin 2048) : (iblk m c 4 t (ix2 p j) : EReal) = a4 m c (ix2 ⟨256 + (at_ t h p).val, by omega⟩ j) := by
  obtain ⟨-, -, -, -, e, -⟩ := idx_in t
  blk_simp [iblk]
  refine (congrArg (V m c main_arg4) ?_).trans (congrFun (V_main_arg4 m c) _)
  blk_ext [e, at_]
  all_goals omega

theorem blk5 (h : t.val ≠ 0) (p : Fin 256) (j : Fin 1024) : (iblk m c 5 t (ix2 p j) : EReal) = a5 m c (ix2 (at_ t h p) j) := by
  obtain ⟨-, -, -, -, -, e, -⟩ := idx_in t
  blk_simp [iblk]
  refine (congrArg (V m c main_arg5) ?_).trans (congrFun (V_main_arg5 m c) _)
  blk_ext [e, at_]
  all_goals omega

theorem blk6 : (iblk m c 6 t : S1x6144.Idx → EReal) = a6 m c := by
  obtain ⟨-, -, -, -, -, -, e, -⟩ := idx_in t
  funext i
  blk_simp [iblk]
  refine (congrArg (V m c main_arg6) ?_).trans (congrFun (V_main_arg6 m c) i)
  blk_ext [e]

theorem blk7 : (iblk m c 7 t : S1x512.Idx → EReal) = a7 m c := by
  obtain ⟨-, -, -, -, -, -, -, e, -⟩ := idx_in t
  funext i
  blk_simp [iblk]
  refine (congrArg (V m c main_arg7) ?_).trans (congrFun (V_main_arg7 m c) i)
  blk_ext [e]

theorem blk8 : (iblk m c 8 t : S512x512.Idx → EReal) = a8 m c := by
  obtain ⟨-, -, -, -, -, -, -, -, e, -⟩ := idx_in t
  funext i
  blk_simp [iblk]
  refine (congrArg (V m c main_v3) ?_).trans (congrFun (v3_eq m c) i)
  blk_ext [e]

theorem blk9 : (iblk m c 9 t : S1x512.Idx → EReal) = a9 m c := by
  obtain ⟨-, -, -, -, -, -, -, -, -, e, -⟩ := idx_in t
  funext i
  blk_simp [iblk]
  refine (congrArg (V m c main_arg9) ?_).trans (congrFun (V_main_arg9 m c) i)
  blk_ext [e]

theorem blk10 : (iblk m c 10 t : S1x512.Idx → EReal) = a10 m c := by
  obtain ⟨-, -, -, -, -, -, -, -, -, -, e, -⟩ := idx_in t
  funext i
  blk_simp [iblk]
  refine (congrArg (V m c main_arg10) ?_).trans (congrFun (V_main_arg10 m c) i)
  blk_ext [e]

theorem blk11 : (iblk m c 11 t : S1x512.Idx → EReal) = a11 m c := by
  obtain ⟨-, -, -, -, -, -, -, -, -, -, -, e, -⟩ := idx_in t
  funext i
  blk_simp [iblk]
  refine (congrArg (V m c main_arg11) ?_).trans (congrFun (V_main_arg11 m c) i)
  blk_ext [e]

theorem blk12 : (iblk m c 12 t : S8x128x128.Idx → EReal) = a12 m c := by
  obtain ⟨-, -, -, -, -, -, -, -, -, -, -, -, e, -⟩ := idx_in t
  funext i
  blk_simp [iblk]
  refine (congrArg (V m c main_arg12) ?_).trans (congrFun (V_main_arg12 m c) i)
  blk_ext [e]

theorem blk13 (q : Fin 128) (j : Fin 512) : (iblk m c 13 t (ix2 q j) : EReal) = a13 m c (ix2 (grp j) q) := by
  obtain ⟨-, -, -, -, -, -, -, -, -, -, -, -, -, e, -⟩ := idx_in t
  blk_simp [iblk]
  refine (congrArg (V m c main_v2) ?_).trans (v2_apply m c q j)
  blk_ext [e]

theorem blk14 : (iblk m c 14 t : S512x1024.Idx → EReal) = a14 m c := by
  obtain ⟨-, -, -, -, -, -, -, -, -, -, -, -, -, -, e, -⟩ := idx_in t
  funext i
  blk_simp [iblk]
  refine (congrArg (V m c main_v4) ?_).trans (congrFun (v4_eq m c) i)
  blk_ext [e]

theorem blk15 : (iblk m c 15 t : S512x1024.Idx → EReal) = a15 m c := by
  obtain ⟨-, -, -, -, -, -, -, -, -, -, -, -, -, -, -, e, -⟩ := idx_in t
  funext i
  blk_simp [iblk]
  refine (congrArg (V m c main_v5) ?_).trans (congrFun (v5_eq m c) i)
  blk_ext [e]

theorem blk16 : (iblk m c 16 t : S1x2048.Idx → EReal) = a16 m c := by
  obtain ⟨-, -, -, -, -, -, -, -, -, -, -, -, -, -, -, -, e, -⟩ := idx_in t
  funext i
  blk_simp [iblk]
  refine (congrArg (V m c main_arg16) ?_).trans (congrFun (V_main_arg16 m c) i)
  blk_ext [e]

theorem blk17 : (iblk m c 17 t : S1024x1024.Idx → EReal) = a17 m c := by
  obtain ⟨-, -, -, -, -, -, -, -, -, -, -, -, -, -, -, -, -, e⟩ := idx_in t
  funext i
  blk_simp [iblk]
  refine (congrArg (V m c main_v6) ?_).trans (congrFun (v6_eq m c) i)
  blk_ext [e]

/-- The tile's weights are the whole's, its tokens the sequence's. -/
theorem wts_eq : wts (ins m c t) = wt m c := by
  unfold wts wt
  simp only [blk6, blk7, blk8, blk9, blk10, blk11, blk12, blk13, blk14, blk15, blk16, blk17]

theorem tk_eq (h : t.val ≠ 0) (p : Fin 256) : tk (ins m c t) p = tok (arr m c) (at_ t h p) := by
  unfold tk tok arr
  simp only [blk0 m c t h, blk1 m c t h, blk2 m c t h, blk3 m c t h, blk4 m c t h, blk5 m c t h]

theorem ch0_eq (h : t.val ≠ 0) : ch0 (ins m c t) = chk (arr m c) ⟨2 * (t.val - 1), by have : t.val < 33 := t.isLt; omega⟩ := by
  funext q
  refine (tk_eq m c t h _).trans (congrArg (tok _) (Fin.ext ?_))
  show (t.val - 1) * 256 + (0 + q.val) = 2 * (t.val - 1) * 128 + q.val
  omega

theorem ch1_eq (h : t.val ≠ 0) : ch1 (ins m c t) = chk (arr m c) ⟨2 * (t.val - 1) + 1, by have : t.val < 33 := t.isLt; omega⟩ := by
  funext q
  refine (tk_eq m c t h _).trans (congrArg (tok _) (Fin.ext ?_))
  show (t.val - 1) * 256 + (128 + q.val) = (2 * (t.val - 1) + 1) * 128 + q.val
  omega

theorem ch_eq (h : t.val ≠ 0) (p : Fin 256) : ch (ins m c t) p = chn (arr m c) (at_ t h p) := by
  unfold ch chn
  split_ifs with hp
  · refine (ch0_eq m c t h).trans (congrArg (chk _) (Fin.ext ?_))
    show 2 * (t.val - 1) = ((t.val - 1) * 256 + p.val) / 128
    omega
  · refine (ch1_eq m c t h).trans (congrArg (chk _) (Fin.ext ?_))
    show 2 * (t.val - 1) + 1 = ((t.val - 1) * 256 + p.val) / 128
    omega

theorem pl_eq (h : t.val ≠ 0) (p : Fin 256) : pl p = pln (at_ t h p) := Fin.ext (by show p.val % 128 = ((t.val - 1) * 256 + p.val) % 128; omega)

end Cert.Proof.MixArr

end
-- ==== Proof.MixRes.lean ====
/- The thirteen results of the branch backward kernel, whole. -/
module

public import proofs.«01_k».proof.Proof.MixArr

@[expose] public section

set_option maxRecDepth 16384

noncomputable section

namespace Cert.Proof.MixArr

open Cert.KernelMixIdeal Cert.KernelMixIdeal.Gen Idealize.ShloMosaic Idealize.ShloMosaic.TcCoe Idealize.SL.Sem Cert.Proof.Branch Cert.Proof.MixRun Cert.Proof.MixTile

variable (m : (ℓ : Loc nD τ sig) → Buf (Elt Ideal) ℓ) (ρ : Dev nD → PrngReg) (c : Dev nD) (t : Fin cfg0.N)

/-! ## The first point: zeros -/

section
variable (i : grid0.Coords) (M : Mems) (h1 : k0_cond1 i = 1#1) (h2 : ¬k0_cond2 i = 1#1) (X : Ins Ideal)

theorem zero_dys (y : S256x512.Idx) : ((outA c i M h1 h2 X).dys y : EReal) = 0 := by
  unfold outA
  frame_out
  unfold k0_pay1
  pointwise

theorem zero_dusk (y : S256x512.Idx) : ((outA c i M h1 h2 X).dusk y : EReal) = 0 := by
  unfold outA
  frame_out
  unfold k0_pay2
  pointwise

theorem zero_dzg (y : S256x3072.Idx) : ((outA c i M h1 h2 X).dzg y : EReal) = 0 := by
  unfold outA
  frame_out
  unfold k0_pay3
  pointwise

theorem zero_dwg (y : S512x512.Idx) : ((outA c i M h1 h2 X).sums.dwg y : EReal) = 0 := by
  unfold outA
  frame_out
  unfold k0_pay4
  pointwise

theorem zero_dsw (y : S8x128x128.Idx) : ((outA c i M h1 h2 X).sums.dsw y : EReal) = 0 := by
  unfold outA
  frame_out
  unfold k0_pay5
  pointwise

theorem zero_dbf (y : S128x512.Idx) : ((outA c i M h1 h2 X).sums.dbf y : EReal) = 0 := by
  unfold outA
  frame_out
  unfold k0_pay6
  pointwise

theorem zero_acc (y : S8x2048.Idx) : ((outA c i M h1 h2 X).sums.acc y : EReal) = 0 := by
  unfold outA
  frame_out
  unfold k0_pay7
  pointwise
end

/-! ## The results, of the sequence -/

def r18 (i : S8448x512.Idx) : EReal := ctx (fun (n : Fin 8192) (j : Fin 512) => dy (wt m c) (tok (arr m c) n) j) (i 0) (i 1)
def r19 (i : S8448x512.Idx) : EReal := ctx (fun (n : Fin 8192) (j : Fin 512) => dy (wt m c) (tok (arr m c) n) j * (wt m c).d j) (i 0) (i 1)
def r20 (i : S8448x3072.Idx) : EReal := ctx (fun (n : Fin 8192) (j : Fin 3072) => dzg (wt m c) (chn (arr m c) n) (pln n) j) (i 0) (i 1)
def r21 (i : S8192x512.Idx) : EReal := (fun (n : Fin 8192) (j : Fin 512) => ya (wt m c) (tok (arr m c) n) j) (i 0) (i 1)
def r22 (i : S8192x512.Idx) : EReal := (fun (n : Fin 8192) (j : Fin 512) => yb (wt m c) (chn (arr m c) n) (pln n) j) (i 0) (i 1)
def r23 (i : S8192x1024.Idx) : EReal := (fun (n : Fin 8192) (j : Fin 1024) => dpa (wt m c) (tok (arr m c) n) j) (i 0) (i 1)
def r24 (i : S8192x1024.Idx) : EReal := (fun (n : Fin 8192) (j : Fin 1024) => dpb (wt m c) (tok (arr m c) n) j) (i 0) (i 1)
def r25 (i : S8192x1024.Idx) : EReal := (fun (n : Fin 8192) (j : Fin 1024) => mg (wt m c) (chn (arr m c) n) (pln n) j) (i 0) (i 1)
def r26 (i : S8192x1024.Idx) : EReal := (fun (n : Fin 8192) (j : Fin 1024) => dmo (wt m c) (tok (arr m c) n) j) (i 0) (i 1)
def r27 (i : S512x512.Idx) : EReal := ∑ n : Fin 8192, ge (y (wt m c) (tok (arr m c) n) (i 0)) * dgt (wt m c) (tok (arr m c) n) (i 1)
def r28 (i : S8x128x128.Idx) : EReal := ∑ g : Fin 64, part (wt m c) (chk (arr m c) g) (i 0) (i 1) (i 2)
def r29 (i : S128x512.Idx) : EReal := ∑ g : Fin 64, ds (wt m c) (chk (arr m c) g (i 0)) (i 1)
def r30 (i : S8x2048.Idx) : EReal := ∑ n : Fin 8192, row (wt m c) (chn (arr m c) n) (pln n) (i 0) (i 1)

theorem ctx_zero {J : ℕ} (f : Fin 8192 → Fin J → EReal) (n : Fin 8448) (j : Fin J) (h : n.val < 256) : ctx f n j = 0 := dif_neg (by omega)

theorem ctx_tok {J : ℕ} (f : Fin 8192 → Fin J → EReal) (n : Fin 8448) (n' : Fin 8192) (j : Fin J) (h : n.val = 256 + n'.val) : ctx f n j = f n' j :=
  (dif_pos (by omega)).trans (congrArg (f · j) (Fin.ext (by show n.val - 256 = n'.val; omega)))

theorem not_first : ∀ t : Fin cfg0.N, ((cfg0.win 21).flush t = true → t.val ≠ 0) ∧ ((cfg0.win 22).flush t = true → t.val ≠ 0) ∧ ((cfg0.win 23).flush t = true → t.val ≠ 0)
    ∧ ((cfg0.win 24).flush t = true → t.val ≠ 0) ∧ ((cfg0.win 25).flush t = true → t.val ≠ 0) ∧ ((cfg0.win 26).flush t = true → t.val ≠ 0) :=
  (by decide +kernel : ∀ t : Fin grid0.N, _)

theorem out18 (h : t.val ≠ 0) (p : Fin 256) (j : Fin 512) : ((outsAt m c t.val t.isLt).dys (ix2 p j) : EReal) = (fun (n : Fin 8192) (j : Fin 512) => dy (wt m c) (tok (arr m c) n) j) (at_ t h p) j := by
  rw [outsAt_lat m c t h]
  refine (MixTile.out_dys _ c _ _ _ _ _ p j).trans ?_
  rw [wts_eq m c t, tk_eq m c t h p]

theorem final18 : (dats m 0 c).arrAt 18 cfg0.N = r18 m c := by
  refine (dats m 0 c).arrAt_eq_of_covers 18 _ (by decide +kernel) fun t hf y => ?_
  obtain ⟨e, -⟩ := idx_out t
  have ht : t.val < 33 := t.isLt
  blk_simp
  rw [after18]
  obtain ⟨p, j, rfl⟩ : ∃ (p : Fin 256) (j : Fin 512), y = ix2 p j := ⟨y 0, y 1, (ix2_eta y).symm⟩
  by_cases h : t.val = 0
  · rw [outsAt_ctx m c t h]
    refine (zero_dys c _ _ _ _ _ _).trans (ctx_zero _ _ _ ?_).symm
    simp [e, h]
  · refine (out18 m c t h p j).trans (Eq.trans ?_ (ctx_tok _ _ (at_ t h p) _ ?_).symm)
    · refine congrArg _ (Fin.ext ?_)
      simp [e]
    · simp [e, at_]
      omega

theorem out19 (h : t.val ≠ 0) (p : Fin 256) (j : Fin 512) : ((outsAt m c t.val t.isLt).dusk (ix2 p j) : EReal) = (fun (n : Fin 8192) (j : Fin 512) => dy (wt m c) (tok (arr m c) n) j * (wt m c).d j) (at_ t h p) j := by
  rw [outsAt_lat m c t h]
  refine (MixTile.out_dusk _ c _ _ _ _ _ p j).trans ?_
  rw [wts_eq m c t, tk_eq m c t h p]

theorem final19 : (dats m 0 c).arrAt 19 cfg0.N = r19 m c := by
  refine (dats m 0 c).arrAt_eq_of_covers 19 _ (by decide +kernel) fun t hf y => ?_
  obtain ⟨-, e, -⟩ := idx_out t
  have ht : t.val < 33 := t.isLt
  blk_simp
  rw [after19]
  obtain ⟨p, j, rfl⟩ : ∃ (p : Fin 256) (j : Fin 512), y = ix2 p j := ⟨y 0, y 1, (ix2_eta y).symm⟩
  by_cases h : t.val = 0
  · rw [outsAt_ctx m c t h]
    refine (zero_dusk c _ _ _ _ _ _).trans (ctx_zero _ _ _ ?_).symm
    simp [e, h]
  · refine (out19 m c t h p j).trans (Eq.trans ?_ (ctx_tok _ _ (at_ t h p) _ ?_).symm)
    · refine congrArg (fun q : Fin 512 => dy (wt m c) (tok (arr m c) (at_ t h p)) q * (wt m c).d q) (Fin.ext ?_)
      simp [e]
    · simp [e, at_]
      omega

theorem out20 (h : t.val ≠ 0) (p : Fin 256) (j : Fin 3072) : ((outsAt m c t.val t.isLt).dzg (ix2 p j) : EReal) = (fun (n : Fin 8192) (j : Fin 3072) => dzg (wt m c) (chn (arr m c) n) (pln n) j) (at_ t h p) j := by
  rw [outsAt_lat m c t h]
  refine (MixTile.out_dzg _ c _ _ _ _ _ p j).trans ?_
  rw [wts_eq m c t, ch_eq m c t h p, pl_eq t h p]

theorem final20 : (dats m 0 c).arrAt 20 cfg0.N = r20 m c := by
  refine (dats m 0 c).arrAt_eq_of_covers 20 _ (by decide +kernel) fun t hf y => ?_
  obtain ⟨-, -, e, -⟩ := idx_out t
  have ht : t.val < 33 := t.isLt
  blk_simp
  rw [after20]
  obtain ⟨p, j, rfl⟩ : ∃ (p : Fin 256) (j : Fin 3072), y = ix2 p j := ⟨y 0, y 1, (ix2_eta y).symm⟩
  by_cases h : t.val = 0
  · rw [outsAt_ctx m c t h]
    refine (zero_dzg c _ _ _ _ _ _).trans (ctx_zero _ _ _ ?_).symm
    simp [e, h]
  · refine (out20 m c t h p j).trans (Eq.trans ?_ (ctx_tok _ _ (at_ t h p) _ ?_).symm)
    · refine congrArg _ (Fin.ext ?_)
      simp [e]
    · simp [e, at_]
      omega

theorem out21 (h : t.val ≠ 0) (p : Fin 256) (j : Fin 512) : ((outsAt m c t.val t.isLt).ya (ix2 p j) : EReal) = (fun (n : Fin 8192) (j : Fin 512) => ya (wt m c) (tok (arr m c) n) j) (at_ t h p) j := by
  rw [outsAt_lat m c t h]
  refine (MixTile.out_ya _ c _ _ _ _ _ p j).trans ?_
  rw [wts_eq m c t, tk_eq m c t h p]

theorem final21 : (dats m 0 c).arrAt 21 cfg0.N = r21 m c := by
  refine (dats m 0 c).arrAt_eq_of_covers 21 _ (by decide +kernel) fun t hf y => ?_
  obtain ⟨-, -, -, e, -⟩ := idx_out t
  have h : t.val ≠ 0 := (not_first t).1 hf
  blk_simp
  rw [after21]
  obtain ⟨p, j, rfl⟩ : ∃ (p : Fin 256) (j : Fin 512), y = ix2 p j := ⟨y 0, y 1, (ix2_eta y).symm⟩
  refine (out21 m c t h p j).trans (congrArg (r21 m c) ?_ : r21 m c (ix2 (at_ t h p) j) = _)
  blk_ext [e, at_]

theorem out22 (h : t.val ≠ 0) (p : Fin 256) (j : Fin 512) : ((outsAt m c t.val t.isLt).yb (ix2 p j) : EReal) = (fun (n : Fin 8192) (j : Fin 512) => yb (wt m c) (chn (arr m c) n) (pln n) j) (at_ t h p) j := by
  rw [outsAt_lat m c t h]
  refine (MixTile.out_yb _ c _ _ _ _ _ p j).trans ?_
  rw [wts_eq m c t, ch_eq m c t h p, pl_eq t h p]

theorem final22 : (dats m 0 c).arrAt 22 cfg0.N = r22 m c := by
  refine (dats m 0 c).arrAt_eq_of_covers 22 _ (by decide +kernel) fun t hf y => ?_
  obtain ⟨-, -, -, -, e, -⟩ := idx_out t
  have h : t.val ≠ 0 := (not_first t).2.1 hf
  blk_simp
  rw [after22]
  obtain ⟨p, j, rfl⟩ : ∃ (p : Fin 256) (j : Fin 512), y = ix2 p j := ⟨y 0, y 1, (ix2_eta y).symm⟩
  refine (out22 m c t h p j).trans (congrArg (r22 m c) ?_ : r22 m c (ix2 (at_ t h p) j) = _)
  blk_ext [e, at_]

theorem out23 (h : t.val ≠ 0) (p : Fin 256) (j : Fin 1024) : ((outsAt m c t.val t.isLt).dpa (ix2 p j) : EReal) = (fun (n : Fin 8192) (j : Fin 1024) => dpa (wt m c) (tok (arr m c) n) j) (at_ t h p) j := by
  rw [outsAt_lat m c t h]
  refine (MixTile.out_dpa _ c _ _ _ _ _ p j).trans ?_
  rw [wts_eq m c t, tk_eq m c t h p]

theorem final23 : (dats m 0 c).arrAt 23 cfg0.N = r23 m c := by
  refine (dats m 0 c).arrAt_eq_of_covers 23 _ (by decide +kernel) fun t hf y => ?_
  obtain ⟨-, -, -, -, -, e, -⟩ := idx_out t
  have h : t.val ≠ 0 := (not_first t).2.2.1 hf
  blk_simp
  rw [after23]
  obtain ⟨p, j, rfl⟩ : ∃ (p : Fin 256) (j : Fin 1024), y = ix2 p j := ⟨y 0, y 1, (ix2_eta y).symm⟩
  refine (out23 m c t h p j).trans (congrArg (r23 m c) ?_ : r23 m c (ix2 (at_ t h p) j) = _)
  blk_ext [e, at_]

theorem out24 (h : t.val ≠ 0) (p : Fin 256) (j : Fin 1024) : ((outsAt m c t.val t.isLt).dpb (ix2 p j) : EReal) = (fun (n : Fin 8192) (j : Fin 1024) => dpb (wt m c) (tok (arr m c) n) j) (at_ t h p) j := by
  rw [outsAt_lat m c t h]
  refine (MixTile.out_dpb _ c _ _ _ _ _ p j).trans ?_
  rw [wts_eq m c t, tk_eq m c t h p]

theorem final24 : (dats m 0 c).arrAt 24 cfg0.N = r24 m c := by
  refine (dats m 0 c).arrAt_eq_of_covers 24 _ (by decide +kernel) fun t hf y => ?_
  obtain ⟨-, -, -, -, -, -, e, -⟩ := idx_out t
  have h : t.val ≠ 0 := (not_first t).2.2.2.1 hf
  blk_simp
  rw [after24]
  obtain ⟨p, j, rfl⟩ : ∃ (p : Fin 256) (j : Fin 1024), y = ix2 p j := ⟨y 0, y 1, (ix2_eta y).symm⟩
  refine (out24 m c t h p j).trans (congrArg (r24 m c) ?_ : r24 m c (ix2 (at_ t h p) j) = _)
  blk_ext [e, at_]

theorem out25 (h : t.val ≠ 0) (p : Fin 256) (j : Fin 1024) : ((outsAt m c t.val t.isLt).mg (ix2 p j) : EReal) = (fun (n : Fin 8192) (j : Fin 1024) => mg (wt m c) (chn (arr m c) n) (pln n) j) (at_ t h p) j := by
  rw [outsAt_lat m c t h]
  refine (MixTile.out_mg _ c _ _ _ _ _ p j).trans ?_
  rw [wts_eq m c t, ch_eq m c t h p, pl_eq t h p]

theorem final25 : (dats m 0 c).arrAt 25 cfg0.N = r25 m c := by
  refine (dats m 0 c).arrAt_eq_of_covers 25 _ (by decide +kernel) fun t hf y => ?_
  obtain ⟨-, -, -, -, -, -, -, e, -⟩ := idx_out t
  have h : t.val ≠ 0 := (not_first t).2.2.2.2.1 hf
  blk_simp
  rw [after25]
  obtain ⟨p, j, rfl⟩ : ∃ (p : Fin 256) (j : Fin 1024), y = ix2 p j := ⟨y 0, y 1, (ix2_eta y).symm⟩
  refine (out25 m c t h p j).trans (congrArg (r25 m c) ?_ : r25 m c (ix2 (at_ t h p) j) = _)
  blk_ext [e, at_]

theorem out26 (h : t.val ≠ 0) (p : Fin 256) (j : Fin 1024) : ((outsAt m c t.val t.isLt).dmo (ix2 p j) : EReal) = (fun (n : Fin 8192) (j : Fin 1024) => dmo (wt m c) (tok (arr m c) n) j) (at_ t h p) j := by
  rw [outsAt_lat m c t h]
  refine (MixTile.out_dmo _ c _ _ _ _ _ p j).trans ?_
  rw [wts_eq m c t, tk_eq m c t h p]

theorem final26 : (dats m 0 c).arrAt 26 cfg0.N = r26 m c := by
  refine (dats m 0 c).arrAt_eq_of_covers 26 _ (by decide +kernel) fun t hf y => ?_
  obtain ⟨-, -, -, -, -, -, -, -, e, -⟩ := idx_out t
  have h : t.val ≠ 0 := (not_first t).2.2.2.2.2 hf
  blk_simp
  rw [after26]
  obtain ⟨p, j, rfl⟩ : ∃ (p : Fin 256) (j : Fin 1024), y = ix2 p j := ⟨y 0, y 1, (ix2_eta y).symm⟩
  refine (out26 m c t h p j).trans (congrArg (r26 m c) ?_ : r26 m c (ix2 (at_ t h p) j) = _)
  blk_ext [e, at_]

/-! ## The sums -/

/-- Two chunks at a time. -/
theorem pairs (f : Fin 64 → EReal) : ∑ s : Fin 32, (f ⟨2 * s.val + 1, by omega⟩ + f ⟨2 * s.val, by omega⟩) = ∑ g : Fin 64, f g := by
  refine Eq.trans ?_ (Fin.sum_mul_add_congr (L := 64) (S := 32) (n := 2) (F := fun s k => f ⟨s.val * 2 + k.val, by omega⟩) fun s k hl => rfl)
  refine Finset.sum_congr rfl fun s _ => ?_
  rw [Fin.sum_univ_two, add_comm]
  exact congrArg₂ (· + ·) (congrArg f (Fin.ext (by show 2 * s.val = s.val * 2 + 0; omega))) (congrArg f (Fin.ext (by show 2 * s.val + 1 = s.val * 2 + 1; omega)))

theorem tiles_all (n : ℕ) (h : n = 32) (hn : n < 33) (f : Fin 8192 → EReal) : ∑ s : Fin n, ∑ p : Fin 256, f ⟨s.val * 256 + p.val, by omega⟩ = ∑ q, f q := by
  subst h
  exact Rows.sum_tiles f (fun s p => f ⟨s.val * 256 + p.val, by omega⟩) fun s p hl => rfl

theorem pairs_all (n : ℕ) (h : n = 32) (hn : n < 33) (f : Fin 64 → EReal) : ∑ s : Fin n, (f ⟨2 * s.val + 1, by omega⟩ + f ⟨2 * s.val, by omega⟩) = ∑ q, f q := by
  subst h
  exact pairs f

theorem lastpt {t : Fin cfg0.N} (h : t.val % 33 = 32) : t.val = 32 := by have : t.val < 33 := t.isLt; omega

theorem step27 (n : ℕ) (hn : n + 1 < cfg0.N) (k j : Fin 512) : ((outsAt m c (n + 1) hn).sums.dwg (ix2 k j) : EReal)
    = (outsAt m c n (by omega)).sums.dwg (ix2 k j) + ∑ p : Fin 256, (fun q : Fin 8192 => ge (y (wt m c) (tok (arr m c) q) k) * dgt (wt m c) (tok (arr m c) q) j) ⟨n * 256 + p.val, by have : n + 1 < 33 := hn; omega⟩ := by
  have hn' : n + 1 < 33 := hn
  refine (congrArg (fun o : Outs Ideal => (o.sums.dwg (ix2 k j) : EReal)) (outsAt_lat m c ⟨n + 1, hn⟩ (Nat.succ_ne_zero n))).trans ?_
  refine (sum_dwg _ c _ _ _ _ _ k j).trans (congrArg _ ?_)
  refine Finset.sum_congr rfl fun p _ => ?_
  rw [wts_eq m c, tk_eq m c _ (Nat.succ_ne_zero n)]
  rfl

theorem step30 (n : ℕ) (hn : n + 1 < cfg0.N) (k : Fin 8) (j : Fin 2048) : ((outsAt m c (n + 1) hn).sums.acc (ix2 k j) : EReal)
    = (outsAt m c n (by omega)).sums.acc (ix2 k j) + ∑ p : Fin 256, (fun q : Fin 8192 => row (wt m c) (chn (arr m c) q) (pln q) k j) ⟨n * 256 + p.val, by have : n + 1 < 33 := hn; omega⟩ := by
  have hn' : n + 1 < 33 := hn
  refine (congrArg (fun o : Outs Ideal => (o.sums.acc (ix2 k j) : EReal)) (outsAt_lat m c ⟨n + 1, hn⟩ (Nat.succ_ne_zero n))).trans ?_
  refine (sum_acc _ c _ _ _ _ _ k j).trans (congrArg _ ?_)
  refine Finset.sum_congr rfl fun p _ => ?_
  rw [wts_eq m c, ch_eq m c _ (Nat.succ_ne_zero n), pl_eq ⟨n + 1, hn⟩ (Nat.succ_ne_zero n)]
  rfl

theorem step28 (n : ℕ) (hn : n + 1 < cfg0.N) (s : Fin 8) (a b : Fin 128) : ((outsAt m c (n + 1) hn).sums.dsw (ix3 s a b) : EReal)
    = (outsAt m c n (by omega)).sums.dsw (ix3 s a b) + ((fun g : Fin 64 => part (wt m c) (chk (arr m c) g) s a b) ⟨2 * n + 1, by have : n + 1 < 33 := hn; omega⟩ + (fun g : Fin 64 => part (wt m c) (chk (arr m c) g) s a b) ⟨2 * n, by have : n + 1 < 33 := hn; omega⟩) := by
  have hn' : n + 1 < 33 := hn
  refine (congrArg (fun o : Outs Ideal => (o.sums.dsw (ix3 s a b) : EReal)) (outsAt_lat m c ⟨n + 1, hn⟩ (Nat.succ_ne_zero n))).trans ?_
  refine (sum_dsw _ c _ _ _ _ _ s a b).trans (congrArg _ ?_)
  rw [wts_eq m c, ch1_eq m c _ (Nat.succ_ne_zero n), ch0_eq m c _ (Nat.succ_ne_zero n)]
  rfl

theorem step29 (n : ℕ) (hn : n + 1 < cfg0.N) (q : Fin 128) (j : Fin 512) : ((outsAt m c (n + 1) hn).sums.dbf (ix2 q j) : EReal)
    = (outsAt m c n (by omega)).sums.dbf (ix2 q j) + ((fun g : Fin 64 => ds (wt m c) (chk (arr m c) g q) j) ⟨2 * n + 1, by have : n + 1 < 33 := hn; omega⟩ + (fun g : Fin 64 => ds (wt m c) (chk (arr m c) g q) j) ⟨2 * n, by have : n + 1 < 33 := hn; omega⟩) := by
  have hn' : n + 1 < 33 := hn
  refine (congrArg (fun o : Outs Ideal => (o.sums.dbf (ix2 q j) : EReal)) (outsAt_lat m c ⟨n + 1, hn⟩ (Nat.succ_ne_zero n))).trans ?_
  refine (sum_dbf _ c _ _ _ _ _ q j).trans (congrArg _ ?_)
  rw [wts_eq m c, ch1_eq m c _ (Nat.succ_ne_zero n), ch0_eq m c _ (Nat.succ_ne_zero n)]
  rfl

theorem snoc (n : ℕ) (f : Fin (n + 1) → EReal) : ∑ i : Fin n, f i.castSucc + f (Fin.last n) = ∑ i, f i := (Fin.sum_univ_castSucc f).symm

theorem upto27 (k j : Fin 512) : ∀ (n : ℕ) (hn : n < cfg0.N), ((outsAt m c n hn).sums.dwg (ix2 k j) : EReal) = ∑ r : Fin n, ∑ p : Fin 256, (fun q : Fin 8192 => ge (y (wt m c) (tok (arr m c) q) k) * dgt (wt m c) (tok (arr m c) q) j) ⟨r.val * 256 + p.val, by have : n < 33 := hn; have := r.isLt; omega⟩
  | 0, hn => ((congrArg (fun o : Outs Ideal => (o.sums.dwg (ix2 k j) : EReal)) (outsAt_ctx m c ⟨0, hn⟩ rfl)).trans (zero_dwg c _ _ _ _ _ _)).trans Finset.sum_empty.symm
  | n + 1, hn =>
    (step27 m c n hn k j).trans ((congrArg₂ (fun a b : EReal => a + b) (upto27 k j n (by omega)) rfl).trans
      (snoc n (fun r : Fin (n + 1) => ∑ p : Fin 256, (fun q : Fin 8192 => ge (y (wt m c) (tok (arr m c) q) k) * dgt (wt m c) (tok (arr m c) q) j) ⟨r.val * 256 + p.val, by have : n + 1 < 33 := hn; have := r.isLt; omega⟩)))

theorem final27 : (dats m 0 c).arrAt 27 cfg0.N = r27 m c := by
  refine (dats m 0 c).arrAt_eq_of_covers 27 _ (by decide +kernel) fun t hf y => ?_
  obtain ⟨-, -, -, -, -, -, -, -, -, e, -⟩ := idx_out t
  have h : t.val = 32 := lastpt ((flush0_27 t).mp hf)
  blk_simp
  rw [after27]
  obtain ⟨k, j, rfl⟩ : ∃ (k j : Fin 512), y = ix2 k j := ⟨y 0, y 1, (ix2_eta y).symm⟩
  refine (upto27 m c k j t.val t.isLt).trans ((tiles_all t.val h t.isLt (fun q : Fin 8192 => ge (y (wt m c) (tok (arr m c) q) k) * dgt (wt m c) (tok (arr m c) q) j)).trans (congrArg (r27 m c) ?_ : r27 m c (ix2 k j) = _))
  blk_ext [e]

theorem upto30 (k : Fin 8) (j : Fin 2048) : ∀ (n : ℕ) (hn : n < cfg0.N), ((outsAt m c n hn).sums.acc (ix2 k j) : EReal) = ∑ r : Fin n, ∑ p : Fin 256, (fun q : Fin 8192 => row (wt m c) (chn (arr m c) q) (pln q) k j) ⟨r.val * 256 + p.val, by have : n < 33 := hn; have := r.isLt; omega⟩
  | 0, hn => ((congrArg (fun o : Outs Ideal => (o.sums.acc (ix2 k j) : EReal)) (outsAt_ctx m c ⟨0, hn⟩ rfl)).trans (zero_acc c _ _ _ _ _ _)).trans Finset.sum_empty.symm
  | n + 1, hn =>
    (step30 m c n hn k j).trans ((congrArg₂ (fun a b : EReal => a + b) (upto30 k j n (by omega)) rfl).trans
      (snoc n (fun r : Fin (n + 1) => ∑ p : Fin 256, (fun q : Fin 8192 => row (wt m c) (chn (arr m c) q) (pln q) k j) ⟨r.val * 256 + p.val, by have : n + 1 < 33 := hn; have := r.isLt; omega⟩)))

theorem final30 : (dats m 0 c).arrAt 30 cfg0.N = r30 m c := by
  refine (dats m 0 c).arrAt_eq_of_covers 30 _ (by decide +kernel) fun t hf y => ?_
  obtain ⟨-, -, -, -, -, -, -, -, -, -, -, -, e⟩ := idx_out t
  have h : t.val = 32 := lastpt ((flush0_30 t).mp hf)
  blk_simp
  rw [after30]
  obtain ⟨k, j, rfl⟩ : ∃ (k : Fin 8) (j : Fin 2048), y = ix2 k j := ⟨y 0, y 1, (ix2_eta y).symm⟩
  refine (upto30 m c k j t.val t.isLt).trans ((tiles_all t.val h t.isLt (fun q : Fin 8192 => row (wt m c) (chn (arr m c) q) (pln q) k j)).trans (congrArg (r30 m c) ?_ : r30 m c (ix2 k j) = _))
  blk_ext [e]

theorem upto28 (s : Fin 8) (a b : Fin 128) : ∀ (n : ℕ) (hn : n < cfg0.N), ((outsAt m c n hn).sums.dsw (ix3 s a b) : EReal) = ∑ r : Fin n, ((fun g : Fin 64 => part (wt m c) (chk (arr m c) g) s a b) ⟨2 * r.val + 1, by have : n < 33 := hn; have := r.isLt; omega⟩ + (fun g : Fin 64 => part (wt m c) (chk (arr m c) g) s a b) ⟨2 * r.val, by have : n < 33 := hn; have := r.isLt; omega⟩)
  | 0, hn => ((congrArg (fun o : Outs Ideal => (o.sums.dsw (ix3 s a b) : EReal)) (outsAt_ctx m c ⟨0, hn⟩ rfl)).trans (zero_dsw c _ _ _ _ _ _)).trans Finset.sum_empty.symm
  | n + 1, hn =>
    (step28 m c n hn s a b).trans ((congrArg₂ (fun a b : EReal => a + b) (upto28 s a b n (by omega)) rfl).trans
      (snoc n (fun r : Fin (n + 1) => ((fun g : Fin 64 => part (wt m c) (chk (arr m c) g) s a b) ⟨2 * r.val + 1, by have : n + 1 < 33 := hn; have := r.isLt; omega⟩ + (fun g : Fin 64 => part (wt m c) (chk (arr m c) g) s a b) ⟨2 * r.val, by have : n + 1 < 33 := hn; have := r.isLt; omega⟩))))

theorem final28 : (dats m 0 c).arrAt 28 cfg0.N = r28 m c := by
  refine (dats m 0 c).arrAt_eq_of_covers 28 _ (by decide +kernel) fun t hf y => ?_
  obtain ⟨-, -, -, -, -, -, -, -, -, -, e, -⟩ := idx_out t
  have h : t.val = 32 := lastpt ((flush0_28 t).mp hf)
  blk_simp
  rw [after28]
  obtain ⟨s, a, b, rfl⟩ : ∃ (s : Fin 8) (a b : Fin 128), y = ix3 s a b := ⟨y 0, y 1, y 2, (ix3_eta y).symm⟩
  refine (upto28 m c s a b t.val t.isLt).trans ((pairs_all t.val h t.isLt (fun g : Fin 64 => part (wt m c) (chk (arr m c) g) s a b)).trans (congrArg (r28 m c) ?_ : r28 m c (ix3 s a b) = _))
  blk_ext [e]

theorem upto29 (q : Fin 128) (j : Fin 512) : ∀ (n : ℕ) (hn : n < cfg0.N), ((outsAt m c n hn).sums.dbf (ix2 q j) : EReal) = ∑ r : Fin n, ((fun g : Fin 64 => ds (wt m c) (chk (arr m c) g q) j) ⟨2 * r.val + 1, by have : n < 33 := hn; have := r.isLt; omega⟩ + (fun g : Fin 64 => ds (wt m c) (chk (arr m c) g q) j) ⟨2 * r.val, by have : n < 33 := hn; have := r.isLt; omega⟩)
  | 0, hn => ((congrArg (fun o : Outs Ideal => (o.sums.dbf (ix2 q j) : EReal)) (outsAt_ctx m c ⟨0, hn⟩ rfl)).trans (zero_dbf c _ _ _ _ _ _)).trans Finset.sum_empty.symm
  | n + 1, hn =>
    (step29 m c n hn q j).trans ((congrArg₂ (fun a b : EReal => a + b) (upto29 q j n (by omega)) rfl).trans
      (snoc n (fun r : Fin (n + 1) => ((fun g : Fin 64 => ds (wt m c) (chk (arr m c) g q) j) ⟨2 * r.val + 1, by have : n + 1 < 33 := hn; have := r.isLt; omega⟩ + (fun g : Fin 64 => ds (wt m c) (chk (arr m c) g q) j) ⟨2 * r.val, by have : n + 1 < 33 := hn; have := r.isLt; omega⟩))))

theorem final29 : (dats m 0 c).arrAt 29 cfg0.N = r29 m c := by
  refine (dats m 0 c).arrAt_eq_of_covers 29 _ (by decide +kernel) fun t hf y => ?_
  obtain ⟨-, -, -, -, -, -, -, -, -, -, -, e, -⟩ := idx_out t
  have h : t.val = 32 := lastpt ((flush0_29 t).mp hf)
  blk_simp
  rw [after29]
  obtain ⟨q, j, rfl⟩ : ∃ (q : Fin 128) (j : Fin 512), y = ix2 q j := ⟨y 0, y 1, (ix2_eta y).symm⟩
  refine (upto29 m c q j t.val t.isLt).trans ((pairs_all t.val h t.isLt (fun g : Fin 64 => ds (wt m c) (chk (arr m c) g q) j)).trans (congrArg (r29 m c) ?_ : r29 m c (ix2 q j) = _))
  blk_ext [e]

end Cert.Proof.MixArr

end
-- ==== Proof.MixFwd.lean ====
/- The reference of the branch gradient, stage by stage: its forward half. -/
module

public import proofs.«01_k».proof.Proof.Branch
public import proofs.«01_k».proof.Proof.Gen.ReferenceMixIdeal.Read

@[expose] public section

set_option maxRecDepth 16384

noncomputable section

namespace Cert.Proof.MixRef

open Cert.ReferenceMixIdeal Cert.ReferenceMixIdeal.Read Idealize.ShloMosaic Idealize.ShloMosaic.TcCoe Idealize.SL.Sem Cert.Proof.Branch

variable (x0 x1 x2 : S8448x512.Idx → EReal) (x3 : S8448x1024.Idx → EReal) (x4 : S8448x2048.Idx → EReal) (x5 : S8192x1024.Idx → EReal)
  (x6 : S1x6144.Idx → EReal) (x7 : S1x512.Idx → EReal) (x8 : S512x512.Idx → EReal) (x9 x10 x11 : S1x512.Idx → EReal) (x12 : S8x128x128.Idx → EReal)
  (x13 : S8x128.Idx → EReal) (x14 x15 : S512x1024.Idx → EReal) (x16 : S1x2048.Idx → EReal) (x17 : S1024x1024.Idx → EReal)

/-- The activations, of the arguments' arrays. -/
def ra0 : Arr where
  u n j := x0 (ix2 n j)
  y0 n j := x1 (ix2 n j)
  y1 n j := x2 (ix2 n j)
  z n j := x3 (ix2 n j)
  gl n j := x4 (ix2 n j)
  e n j := x5 (ix2 n j)

/-- The weights, of the arguments' arrays. -/
def rw0 : Wts where
  g j := x6 (ix2 0 ⟨2048 + j.val, by omega⟩)
  d j := x7 (ix2 0 j)
  wg k j := x8 (ix2 k j)
  bg j := x9 (ix2 0 j)
  lg j := x10 (ix2 0 j)
  lb j := x11 (ix2 0 j)
  sw g q p := x12 (ix3 g q p)
  bf q j := x13 (ix2 (grp j) q)
  wpa k j := x14 (ix2 k j)
  wpb k j := x15 (ix2 k j)
  bgate j := x16 (ix2 0 j)
  wo k j := x17 (ix2 k j)

theorem v11_eq (p : Fin 8192) (j : Fin 512) : (val_main_v11 (F := Ideal) x0 x1 x2 x7 (ix2 p j) : EReal) = y (rw0 x6 x7 x8 x9 x10 x11 x12 x13 x14 x15 x16 x17) (tok (ra0 x0 x1 x2 x3 x4 x5) p) j := by
  unfold y
  unfold val_main_v11 val_main_v10 val_main_v9 val_main_v8 val_main_v2 val_main_v1 val_main_v0
  pointwise
  all_goals exact add_assoc _ _ _

theorem v22_eq (p : Fin 8192) (j : Fin 512) : (val_main_v22 (F := Ideal) x0 x1 x2 x7 (ix2 p j) : EReal) = th (y (rw0 x6 x7 x8 x9 x10 x11 x12 x13 x14 x15 x16 x17) (tok (ra0 x0 x1 x2 x3 x4 x5) p) j) := by
  unfold th
  simp only [← v11_eq x0 x1 x2 x3 x4 x5 x6 x7 x8 x9 x10 x11 x12 x13 x14 x15 x16 x17]
  unfold val_main_v22 val_main_v21 val_main_v20 val_main_v19 val_main_v18 val_main_v17 val_main_v13 val_main_v12 val_main_cst_0 val_main_cst_1
  pointwise
  all_goals first | rfl | ac_rfl

theorem v31_eq (p : Fin 8192) (j : Fin 512) : (val_main_v31 (F := Ideal) x0 x1 x2 x7 (ix2 p j) : EReal) = ha (y (rw0 x6 x7 x8 x9 x10 x11 x12 x13 x14 x15 x16 x17) (tok (ra0 x0 x1 x2 x3 x4 x5) p) j) := by
  unfold ha
  simp only [← v22_eq x0 x1 x2 x3 x4 x5 x6 x7 x8 x9 x10 x11 x12 x13 x14 x15 x16 x17]
  unfold val_main_v31 val_main_v30 val_main_v29 val_main_v28 val_main_cst_4 val_main_cst_5
  pointwise
  all_goals first | rfl | ac_rfl

theorem v27_eq (p : Fin 8192) (j : Fin 512) : (val_main_v27 (F := Ideal) x0 x1 x2 x7 (ix2 p j) : EReal) = sl (y (rw0 x6 x7 x8 x9 x10 x11 x12 x13 x14 x15 x16 x17) (tok (ra0 x0 x1 x2 x3 x4 x5) p) j) := by
  unfold sl
  simp only [← v22_eq x0 x1 x2 x3 x4 x5 x6 x7 x8 x9 x10 x11 x12 x13 x14 x15 x16 x17]
  unfold val_main_v27 val_main_v26 val_main_v25 val_main_v24 val_main_v23 val_main_cst_2 val_main_cst_3
  pointwise
  all_goals first | rfl | ac_rfl

theorem v32_eq (p : Fin 8192) (j : Fin 512) : (val_main_v32 (F := Ideal) x0 x1 x2 x7 (ix2 p j) : EReal) = ge (y (rw0 x6 x7 x8 x9 x10 x11 x12 x13 x14 x15 x16 x17) (tok (ra0 x0 x1 x2 x3 x4 x5) p) j) := by
  unfold ge
  simp only [← v31_eq x0 x1 x2 x3 x4 x5 x6 x7 x8 x9 x10 x11 x12 x13 x14 x15 x16 x17]
  unfold val_main_v32
  pointwise
  exact congrArg (· * _) (v11_eq x0 x1 x2 x3 x4 x5 x6 x7 x8 x9 x10 x11 x12 x13 x14 x15 x16 x17 p j)

theorem v41_eq (p : Fin 8192) (j : Fin 512) : (val_main_v41 (F := Ideal) x0 x1 x2 x7 x8 x9 (ix2 p j) : EReal) = sgl (rw0 x6 x7 x8 x9 x10 x11 x12 x13 x14 x15 x16 x17) (tok (ra0 x0 x1 x2 x3 x4 x5) p) j := by
  unfold sgl
  simp only [← v32_eq x0 x1 x2 x3 x4 x5 x6 x7 x8 x9 x10 x11 x12 x13 x14 x15 x16 x17]
  unfold val_main_v41 val_main_v40 val_main_v39 val_main_v38 val_main_v37 val_main_v36 val_main_v35 val_main_v34 val_main_v33 val_main_cst_6 val_main_cst_7
  pointwise
  all_goals first | rfl | ac_rfl

theorem v45_eq (p : Fin 8192) (j : Fin 512) : (val_main_v45 (F := Ideal) x0 x1 x2 x7 x8 x9 (ix2 p j) : EReal) = ya (rw0 x6 x7 x8 x9 x10 x11 x12 x13 x14 x15 x16 x17) (tok (ra0 x0 x1 x2 x3 x4 x5) p) j := by
  unfold ya
  simp only [← v32_eq x0 x1 x2 x3 x4 x5 x6 x7 x8 x9 x10 x11 x12 x13 x14 x15 x16 x17, ← v41_eq x0 x1 x2 x3 x4 x5 x6 x7 x8 x9 x10 x11 x12 x13 x14 x15 x16 x17]
  unfold val_main_v45
  pointwise
  all_goals first | rfl | ac_rfl

theorem v56_eq (p : Fin 8192) (j : Fin 1024) : (val_main_v56 (F := Ideal) x3 (ix2 p j) : EReal) = th ((tok (ra0 x0 x1 x2 x3 x4 x5) p).z j) := by
  unfold th tok ra0
  dsimp only
  unfold val_main_v56 val_main_v55 val_main_v54 val_main_v53 val_main_v52 val_main_v51 val_main_v47 val_main_v46 val_main_v3 val_main_cst_10 val_main_cst_11
  pointwise
  all_goals first | rfl | ac_rfl

theorem v65_eq (p : Fin 8192) (j : Fin 1024) : (val_main_v65 (F := Ideal) x3 (ix2 p j) : EReal) = ha ((tok (ra0 x0 x1 x2 x3 x4 x5) p).z j) := by
  unfold ha
  simp only [← v56_eq x0 x1 x2 x3 x4 x5]
  unfold val_main_v65 val_main_v64 val_main_v63 val_main_v62 val_main_cst_14 val_main_cst_15
  pointwise
  all_goals first | rfl | ac_rfl

theorem v61_eq (p : Fin 8192) (j : Fin 1024) : (val_main_v61 (F := Ideal) x3 (ix2 p j) : EReal) = sl ((tok (ra0 x0 x1 x2 x3 x4 x5) p).z j) := by
  unfold sl
  simp only [← v56_eq x0 x1 x2 x3 x4 x5]
  unfold val_main_v61 val_main_v60 val_main_v59 val_main_v58 val_main_v57 val_main_cst_12 val_main_cst_13
  pointwise
  all_goals first | rfl | ac_rfl

theorem v66_eq (p : Fin 8192) (j : Fin 1024) : (val_main_v66 (F := Ideal) x3 (ix2 p j) : EReal) = ge ((tok (ra0 x0 x1 x2 x3 x4 x5) p).z j) := by
  unfold ge
  simp only [← v65_eq x0 x1 x2 x3 x4 x5]
  unfold val_main_v66 val_main_v3
  pointwise
  all_goals first | rfl | ac_rfl

theorem v67_eq (p : Fin 8192) (j : Fin 512) : (val_main_v67 (F := Ideal) x3 (ix2 p j) : EReal) = us (tok (ra0 x0 x1 x2 x3 x4 x5) p) j := by
  unfold us
  simp only [← v66_eq x0 x1 x2 x3 x4 x5]
  unfold val_main_v67
  pointwise
  all_goals first | rfl | ac_rfl

theorem v68_eq (p : Fin 8192) (j : Fin 512) : (val_main_v68 (F := Ideal) x3 (ix2 p j) : EReal) = vs (tok (ra0 x0 x1 x2 x3 x4 x5) p) j := by
  unfold vs
  simp only [← v66_eq x0 x1 x2 x3 x4 x5]
  unfold val_main_v68
  pointwise
  all_goals first | rfl | ac_rfl

theorem v74_eq (p : Fin 8192) (j : Fin 512) : (val_main_v74 (F := Ideal) x3 (ix2 p j) : EReal) = cen (vs (tok (ra0 x0 x1 x2 x3 x4 x5) p)) j := by
  unfold cen
  simp only [← v68_eq x0 x1 x2 x3 x4 x5]
  unfold val_main_v74 val_main_v73 val_main_v72 val_main_v71 val_main_v70 val_main_v69 val_main_cst_16 val_main_cst_17
  pointwise
  all_goals first | rfl | ac_rfl

theorem v81_eq (p : Fin 8192) : (val_main_v81 (F := Ideal) x3 (ix2 p 0) : EReal) = va (vs (tok (ra0 x0 x1 x2 x3 x4 x5) p)) := by
  unfold va
  simp only [← v74_eq x0 x1 x2 x3 x4 x5]
  unfold val_main_v81 val_main_v80 val_main_v79 val_main_v78 val_main_v77 val_main_v76 val_main_v75 val_main_cst_18 val_main_cst_19 val_main_cst_20
  pointwise
  all_goals first | rfl | ac_rfl

theorem v82_eq (p : Fin 8192) : (val_main_v82 (F := Ideal) x3 (ix2 p 0) : EReal) = iv (vs (tok (ra0 x0 x1 x2 x3 x4 x5) p)) := by
  unfold iv
  simp only [← v81_eq x0 x1 x2 x3 x4 x5]
  unfold val_main_v82
  pointwise
  all_goals first | rfl | ac_rfl

theorem v87_eq (p : Fin 8192) (j : Fin 512) : (val_main_v87 (F := Ideal) x3 (ix2 p j) : EReal) = nrm (vs (tok (ra0 x0 x1 x2 x3 x4 x5) p)) j := by
  unfold nrm
  simp only [← v74_eq x0 x1 x2 x3 x4 x5, ← v82_eq x0 x1 x2 x3 x4 x5]
  unfold val_main_v87 val_main_v86
  pointwise
  all_goals first | rfl | ac_rfl

theorem v91_eq (p : Fin 8192) (j : Fin 512) : (val_main_v91 (F := Ideal) x3 x10 x11 (ix2 p j) : EReal) = lnv (rw0 x6 x7 x8 x9 x10 x11 x12 x13 x14 x15 x16 x17) (tok (ra0 x0 x1 x2 x3 x4 x5) p) j := by
  unfold lnv
  simp only [← v87_eq x0 x1 x2 x3 x4 x5]
  unfold val_main_v91 val_main_v90 val_main_v89 val_main_v88
  pointwise
  all_goals first | rfl | ac_rfl

theorem v92_eq (a : Fin 64) (b : Fin 128) (s : Fin 8) (d : Fin 64) : (val_main_v92 (F := Ideal) x3 x10 x11 (ix4 a b s d) : EReal) = lnv (rw0 x6 x7 x8 x9 x10 x11 x12 x13 x14 x15 x16 x17) (chk (ra0 x0 x1 x2 x3 x4 x5) a b) ⟨s.val * 64 + d.val, by omega⟩ := by
  refine Eq.trans ?_ (v91_eq x0 x1 x2 x3 x4 x5 x6 x7 x8 x9 x10 x11 x12 x13 x14 x15 x16 x17 ⟨a.val * 128 + b.val, by omega⟩ ⟨s.val * 64 + d.val, by omega⟩)
  unfold val_main_v92
  refine shapeCast_apply _ _ _ _ ?_
  rw [Shape.rowMajor_val_two, Shape.rowMajor_val_four]
  show (a.val * 128 + b.val) * 512 + (s.val * 64 + d.val) = ((a.val * 128 + b.val) * 8 + s.val) * 64 + d.val
  omega

theorem v94_eq (a : Fin 64) (b : Fin 128) (s : Fin 8) (d : Fin 64) : (val_main_v94 (F := Ideal) x3 x10 x11 x12 (ix4 a b s d) : EReal) = ∑ q : Fin 128, (rw0 x6 x7 x8 x9 x10 x11 x12 x13 x14 x15 x16 x17).sw s b q * lnv (rw0 x6 x7 x8 x9 x10 x11 x12 x13 x14 x15 x16 x17) (chk (ra0 x0 x1 x2 x3 x4 x5) a q) ⟨s.val * 64 + d.val, by omega⟩ := by
  simp only [← v92_eq x0 x1 x2 x3 x4 x5 x6 x7 x8 x9 x10 x11 x12 x13 x14 x15 x16 x17]
  unfold val_main_v94 val_main_v93
  pointwise
  all_goals first | rfl | ac_rfl

theorem v97_eq (a : Fin 64) (b : Fin 128) (s : Fin 8) (d : Fin 64) : (val_main_v97 (F := Ideal) x13 (ix4 a b s d) : EReal) = (rw0 x6 x7 x8 x9 x10 x11 x12 x13 x14 x15 x16 x17).bf b ⟨s.val * 64 + d.val, by omega⟩ := by
  unfold val_main_v97 val_main_v96 val_main_v95 val_main_v7 val_main_v6 val_main_v5
  pointwise
  exact congrArg (fun s => x13 (ix2 s b)) (Fin.ext (by show s.val = (s.val * 64 + d.val) / 64; omega))

theorem v98_eq (a : Fin 64) (b : Fin 128) (s : Fin 8) (d : Fin 64) : (val_main_v98 (F := Ideal) x3 x10 x11 x12 x13 (ix4 a b s d) : EReal) = sp (rw0 x6 x7 x8 x9 x10 x11 x12 x13 x14 x15 x16 x17) (chk (ra0 x0 x1 x2 x3 x4 x5) a) b ⟨s.val * 64 + d.val, by omega⟩ := by
  have e : grp ⟨s.val * 64 + d.val, by omega⟩ = s := Fin.ext (by show (s.val * 64 + d.val) / 64 = s.val; omega)
  unfold sp
  rw [e, ← v97_eq x6 x7 x8 x9 x10 x11 x12 x13 x14 x15 x16 x17 a b s d, ← v94_eq x0 x1 x2 x3 x4 x5 x6 x7 x8 x9 x10 x11 x12 x13 x14 x15 x16 x17 a b s d]
  unfold val_main_v98
  pointwise

theorem v99_eq (p : Fin 8192) (j : Fin 512) : (val_main_v99 (F := Ideal) x3 x10 x11 x12 x13 (ix2 p j) : EReal) = sp (rw0 x6 x7 x8 x9 x10 x11 x12 x13 x14 x15 x16 x17) (chn (ra0 x0 x1 x2 x3 x4 x5) p) (pln p) j := by
  refine Eq.trans ?_ ((v98_eq x0 x1 x2 x3 x4 x5 x6 x7 x8 x9 x10 x11 x12 x13 x14 x15 x16 x17 ⟨p.val / 128, by omega⟩ ⟨p.val % 128, by omega⟩ ⟨j.val / 64, by omega⟩ ⟨j.val % 64, by omega⟩).trans (congrArg (sp (rw0 x6 x7 x8 x9 x10 x11 x12 x13 x14 x15 x16 x17) (chn (ra0 x0 x1 x2 x3 x4 x5) p) (pln p)) (Fin.ext (by show j.val / 64 * 64 + j.val % 64 = j.val; omega))))
  unfold val_main_v99
  refine shapeCast_apply _ _ _ _ ?_
  rw [Shape.rowMajor_val_four, Shape.rowMajor_val_two]
  show ((p.val / 128 * 128 + p.val % 128) * 8 + j.val / 64) * 64 + j.val % 64 = p.val * 512 + j.val
  omega

theorem v100_eq (p : Fin 8192) (j : Fin 512) : (val_main_v100 (F := Ideal) x3 x10 x11 x12 x13 (ix2 p j) : EReal) = yb (rw0 x6 x7 x8 x9 x10 x11 x12 x13 x14 x15 x16 x17) (chn (ra0 x0 x1 x2 x3 x4 x5) p) (pln p) j := by
  unfold yb
  rw [chn_pln, ← v67_eq x0 x1 x2 x3 x4 x5, ← v99_eq x0 x1 x2 x3 x4 x5 x6 x7 x8 x9 x10 x11 x12 x13 x14 x15 x16 x17]
  unfold val_main_v100
  pointwise

theorem v101_eq (p : Fin 8192) (j : Fin 1024) : (val_main_v101 (F := Ideal) x0 x1 x2 x7 x8 x9 x14 (ix2 p j) : EReal) = pa (rw0 x6 x7 x8 x9 x10 x11 x12 x13 x14 x15 x16 x17) (tok (ra0 x0 x1 x2 x3 x4 x5) p) j := by
  unfold pa
  simp only [← v45_eq x0 x1 x2 x3 x4 x5 x6 x7 x8 x9 x10 x11 x12 x13 x14 x15 x16 x17]
  unfold val_main_v101
  pointwise
  all_goals first | rfl | ac_rfl

theorem v102_eq (p : Fin 8192) (j : Fin 1024) : (val_main_v102 (F := Ideal) x3 x10 x11 x12 x13 x15 (ix2 p j) : EReal) = pb (rw0 x6 x7 x8 x9 x10 x11 x12 x13 x14 x15 x16 x17) (chn (ra0 x0 x1 x2 x3 x4 x5) p) (pln p) j := by
  unfold pb
  simp only [← v100_eq x0 x1 x2 x3 x4 x5 x6 x7 x8 x9 x10 x11 x12 x13 x14 x15 x16 x17]
  unfold val_main_v102
  pointwise
  all_goals first | rfl | ac_rfl

theorem v114_eq (p : Fin 8192) (j : Fin 1024) : (val_main_v114 (F := Ideal) x4 x16 (ix2 p j) : EReal) = ga (rw0 x6 x7 x8 x9 x10 x11 x12 x13 x14 x15 x16 x17) (tok (ra0 x0 x1 x2 x3 x4 x5) p) j := by
  unfold ga
  unfold val_main_v114 val_main_v110 val_main_v109 val_main_v108 val_main_v107 val_main_v106 val_main_v105 val_main_v104 val_main_v103 val_main_v4 val_main_cst_22 val_main_cst_23
  pointwise
  all_goals first | rfl | ac_rfl

theorem v115_eq (p : Fin 8192) (j : Fin 1024) : (val_main_v115 (F := Ideal) x4 x16 (ix2 p j) : EReal) = gb (rw0 x6 x7 x8 x9 x10 x11 x12 x13 x14 x15 x16 x17) (tok (ra0 x0 x1 x2 x3 x4 x5) p) j := by
  unfold gb
  unfold val_main_v115 val_main_v110 val_main_v109 val_main_v108 val_main_v107 val_main_v106 val_main_v105 val_main_v104 val_main_v103 val_main_v4 val_main_cst_22 val_main_cst_23
  pointwise
  all_goals first | rfl | ac_rfl

theorem v118_eq (p : Fin 8192) (j : Fin 1024) : (val_main_v118 (F := Ideal) x0 x1 x2 x3 x4 x7 x8 x9 x10 x11 x12 x13 x14 x15 x16 (ix2 p j) : EReal) = mg (rw0 x6 x7 x8 x9 x10 x11 x12 x13 x14 x15 x16 x17) (chn (ra0 x0 x1 x2 x3 x4 x5) p) (pln p) j := by
  unfold mg
  rw [chn_pln]
  simp only [← v101_eq x0 x1 x2 x3 x4 x5 x6 x7 x8 x9 x10 x11 x12 x13 x14 x15 x16 x17, ← v102_eq x0 x1 x2 x3 x4 x5 x6 x7 x8 x9 x10 x11 x12 x13 x14 x15 x16 x17, ← v114_eq x0 x1 x2 x3 x4 x5 x6 x7 x8 x9 x10 x11 x12 x13 x14 x15 x16 x17, ← v115_eq x0 x1 x2 x3 x4 x5 x6 x7 x8 x9 x10 x11 x12 x13 x14 x15 x16 x17]
  unfold val_main_v118 val_main_v117 val_main_v116
  pointwise
  all_goals first | rfl | ac_rfl

theorem v124_eq (p : Fin 8192) (j : Fin 1024) : (val_main_v124 (F := Ideal) x5 x6 (ix2 p j) : EReal) = dmo (rw0 x6 x7 x8 x9 x10 x11 x12 x13 x14 x15 x16 x17) (tok (ra0 x0 x1 x2 x3 x4 x5) p) j := by
  unfold dmo
  unfold val_main_v124 val_main_v123 val_main_v120
  pointwise
  all_goals first | rfl | ac_rfl

theorem v126_eq (p : Fin 8192) (j : Fin 1024) : (val_main_v126 (F := Ideal) x5 x6 x17 (ix2 p j) : EReal) = dm (rw0 x6 x7 x8 x9 x10 x11 x12 x13 x14 x15 x16 x17) (tok (ra0 x0 x1 x2 x3 x4 x5) p) j := by
  unfold dm
  simp only [← v124_eq x0 x1 x2 x3 x4 x5 x6 x7 x8 x9 x10 x11 x12 x13 x14 x15 x16 x17]
  unfold val_main_v126
  pointwise
  all_goals first | rfl | ac_rfl

theorem v129_eq (p : Fin 8192) (j : Fin 1024) : (val_main_v129 (F := Ideal) x4 x5 x6 x16 x17 (ix2 p j) : EReal) = dpa (rw0 x6 x7 x8 x9 x10 x11 x12 x13 x14 x15 x16 x17) (tok (ra0 x0 x1 x2 x3 x4 x5) p) j := by
  unfold dpa
  simp only [← v126_eq x0 x1 x2 x3 x4 x5 x6 x7 x8 x9 x10 x11 x12 x13 x14 x15 x16 x17, ← v114_eq x0 x1 x2 x3 x4 x5 x6 x7 x8 x9 x10 x11 x12 x13 x14 x15 x16 x17]
  unfold val_main_v129
  pointwise
  all_goals first | rfl | ac_rfl

theorem v127_eq (p : Fin 8192) (j : Fin 1024) : (val_main_v127 (F := Ideal) x4 x5 x6 x16 x17 (ix2 p j) : EReal) = dpb (rw0 x6 x7 x8 x9 x10 x11 x12 x13 x14 x15 x16 x17) (tok (ra0 x0 x1 x2 x3 x4 x5) p) j := by
  unfold dpb
  simp only [← v126_eq x0 x1 x2 x3 x4 x5 x6 x7 x8 x9 x10 x11 x12 x13 x14 x15 x16 x17, ← v115_eq x0 x1 x2 x3 x4 x5 x6 x7 x8 x9 x10 x11 x12 x13 x14 x15 x16 x17]
  unfold val_main_v127
  pointwise
  all_goals first | rfl | ac_rfl

theorem v132_lo (p : Fin 8192) (j : Fin 1024) : (val_main_v132 (F := Ideal) x0 x1 x2 x3 x4 x5 x6 x7 x8 x9 x10 x11 x12 x13 x14 x15 x16 x17 (ix2 p ⟨j.val, by omega⟩) : EReal) = dsa (rw0 x6 x7 x8 x9 x10 x11 x12 x13 x14 x15 x16 x17) (tok (ra0 x0 x1 x2 x3 x4 x5) p) j := by
  unfold dsa ga
  simp only [← v126_eq x0 x1 x2 x3 x4 x5 x6 x7 x8 x9 x10 x11 x12 x13 x14 x15 x16 x17, ← v101_eq x0 x1 x2 x3 x4 x5 x6 x7 x8 x9 x10 x11 x12 x13 x14 x15 x16 x17]
  unfold val_main_v132 val_main_v131 val_main_v130 val_main_v128 val_main_v113 val_main_v112 val_main_v111 val_main_v110 val_main_v109 val_main_v108 val_main_v107 val_main_v106 val_main_v105 val_main_v104 val_main_v103 val_main_v102 val_main_v100 val_main_v99 val_main_v98 val_main_v97 val_main_v96 val_main_v95 val_main_v94 val_main_v93 val_main_v92 val_main_v91 val_main_v90 val_main_v89 val_main_v88 val_main_v87 val_main_v86 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v56 val_main_v55 val_main_v54 val_main_v53 val_main_v52 val_main_v51 val_main_v47 val_main_v46 val_main_v7 val_main_v6 val_main_v5 val_main_v4 val_main_v3 val_main_cst_22 val_main_cst_23 val_main_cst_24 val_main_cst_10 val_main_cst_11 val_main_cst_14 val_main_cst_15 val_main_cst_16 val_main_cst_17 val_main_cst_18 val_main_cst_19 val_main_cst_20
  pointwise
  refine Eq.trans ?_ (mul_assoc _ _ _).symm
  rfl

theorem v132_hi (p : Fin 8192) (j : Fin 1024) : (val_main_v132 (F := Ideal) x0 x1 x2 x3 x4 x5 x6 x7 x8 x9 x10 x11 x12 x13 x14 x15 x16 x17 (ix2 p ⟨1024 + j.val, by omega⟩) : EReal) = dsb (rw0 x6 x7 x8 x9 x10 x11 x12 x13 x14 x15 x16 x17) (chn (ra0 x0 x1 x2 x3 x4 x5) p) (pln p) j := by
  unfold dsb gb
  rw [chn_pln]
  simp only [← v126_eq x0 x1 x2 x3 x4 x5 x6 x7 x8 x9 x10 x11 x12 x13 x14 x15 x16 x17, ← v102_eq x0 x1 x2 x3 x4 x5 x6 x7 x8 x9 x10 x11 x12 x13 x14 x15 x16 x17]
  unfold val_main_v132 val_main_v131 val_main_v130 val_main_v128 val_main_v113 val_main_v112 val_main_v111 val_main_v110 val_main_v109 val_main_v108 val_main_v107 val_main_v106 val_main_v105 val_main_v104 val_main_v103 val_main_v101 val_main_v45 val_main_v41 val_main_v40 val_main_v39 val_main_v38 val_main_v37 val_main_v36 val_main_v35 val_main_v34 val_main_v33 val_main_v32 val_main_v31 val_main_v30 val_main_v29 val_main_v28 val_main_v22 val_main_v21 val_main_v20 val_main_v19 val_main_v18 val_main_v17 val_main_v13 val_main_v12 val_main_v11 val_main_v10 val_main_v9 val_main_v8 val_main_v4 val_main_v2 val_main_v1 val_main_v0 val_main_cst_22 val_main_cst_23 val_main_cst_24 val_main_cst_0 val_main_cst_1 val_main_cst_4 val_main_cst_5 val_main_cst_6 val_main_cst_7
  pointwise
  refine Eq.trans ?_ (mul_assoc _ _ _).symm
  rfl

theorem v135_eq (p : Fin 8192) (j : Fin 512) : (val_main_v135 (F := Ideal) x4 x5 x6 x15 x16 x17 (ix2 p j) : EReal) = eb (rw0 x6 x7 x8 x9 x10 x11 x12 x13 x14 x15 x16 x17) (tok (ra0 x0 x1 x2 x3 x4 x5) p) j := by
  unfold eb
  simp only [← v127_eq x0 x1 x2 x3 x4 x5 x6 x7 x8 x9 x10 x11 x12 x13 x14 x15 x16 x17]
  unfold val_main_v135
  pointwise
  all_goals first | rfl | ac_rfl

theorem v136_eq (p : Fin 8192) (j : Fin 512) : (val_main_v136 (F := Ideal) x4 x5 x6 x14 x16 x17 (ix2 p j) : EReal) = ea (rw0 x6 x7 x8 x9 x10 x11 x12 x13 x14 x15 x16 x17) (tok (ra0 x0 x1 x2 x3 x4 x5) p) j := by
  unfold ea
  simp only [← v129_eq x0 x1 x2 x3 x4 x5 x6 x7 x8 x9 x10 x11 x12 x13 x14 x15 x16 x17]
  unfold val_main_v136
  pointwise
  all_goals first | rfl | ac_rfl

theorem v137_eq (p : Fin 8192) (j : Fin 512) : (val_main_v137 (F := Ideal) x3 x4 x5 x6 x15 x16 x17 (ix2 p j) : EReal) = ds (rw0 x6 x7 x8 x9 x10 x11 x12 x13 x14 x15 x16 x17) (tok (ra0 x0 x1 x2 x3 x4 x5) p) j := by
  unfold ds
  simp only [← v67_eq x0 x1 x2 x3 x4 x5, ← v135_eq x0 x1 x2 x3 x4 x5 x6 x7 x8 x9 x10 x11 x12 x13 x14 x15 x16 x17]
  unfold val_main_v137
  pointwise
  all_goals first | rfl | ac_rfl

theorem v138_eq (p : Fin 8192) (j : Fin 512) : (val_main_v138 (F := Ideal) x3 x4 x5 x6 x10 x11 x12 x13 x15 x16 x17 (ix2 p j) : EReal) = eb (rw0 x6 x7 x8 x9 x10 x11 x12 x13 x14 x15 x16 x17) (tok (ra0 x0 x1 x2 x3 x4 x5) p) j * sp (rw0 x6 x7 x8 x9 x10 x11 x12 x13 x14 x15 x16 x17) (chn (ra0 x0 x1 x2 x3 x4 x5) p) (pln p) j := by
  simp only [← v135_eq x0 x1 x2 x3 x4 x5 x6 x7 x8 x9 x10 x11 x12 x13 x14 x15 x16 x17, ← v99_eq x0 x1 x2 x3 x4 x5 x6 x7 x8 x9 x10 x11 x12 x13 x14 x15 x16 x17]
  unfold val_main_v138
  pointwise
  all_goals first | rfl | ac_rfl

end Cert.Proof.MixRef

end
-- ==== Proof.MixBwd.lean ====
/- The reference of the branch gradient, stage by stage: its backward half. -/
module

public import proofs.«01_k».proof.Proof.MixFwd
public import proofs.«01_k».proof.Proof.Gen.ReferenceMixIdeal.Read

@[expose] public section

set_option maxRecDepth 16384

noncomputable section

namespace Cert.Proof.MixRef

open Cert.ReferenceMixIdeal Cert.ReferenceMixIdeal.Read Idealize.ShloMosaic Idealize.ShloMosaic.TcCoe Idealize.SL.Sem Cert.Proof.Branch

variable (x0 x1 x2 : S8448x512.Idx → EReal) (x3 : S8448x1024.Idx → EReal) (x4 : S8448x2048.Idx → EReal) (x5 : S8192x1024.Idx → EReal)
  (x6 : S1x6144.Idx → EReal) (x7 : S1x512.Idx → EReal) (x8 : S512x512.Idx → EReal) (x9 x10 x11 : S1x512.Idx → EReal) (x12 : S8x128x128.Idx → EReal)
  (x13 : S8x128.Idx → EReal) (x14 x15 : S512x1024.Idx → EReal) (x16 : S1x2048.Idx → EReal) (x17 : S1024x1024.Idx → EReal)

theorem v139_eq (a : Fin 64) (b : Fin 128) (s : Fin 8) (d : Fin 64) : (val_main_v139 (F := Ideal) x3 x4 x5 x6 x15 x16 x17 (ix4 a b s d) : EReal) = ds (rw0 x6 x7 x8 x9 x10 x11 x12 x13 x14 x15 x16 x17) (chk (ra0 x0 x1 x2 x3 x4 x5) a b) ⟨s.val * 64 + d.val, by omega⟩ := by
  refine Eq.trans ?_ (v137_eq x0 x1 x2 x3 x4 x5 x6 x7 x8 x9 x10 x11 x12 x13 x14 x15 x16 x17 ⟨a.val * 128 + b.val, by omega⟩ ⟨s.val * 64 + d.val, by omega⟩)
  unfold val_main_v139
  refine shapeCast_apply _ _ _ _ ?_
  rw [Shape.rowMajor_val_two, Shape.rowMajor_val_four]
  show (a.val * 128 + b.val) * 512 + (s.val * 64 + d.val) = ((a.val * 128 + b.val) * 8 + s.val) * 64 + d.val
  omega

theorem v142_eq (b : Fin 128) (s : Fin 8) (d : Fin 64) : (val_main_v142 (F := Ideal) x3 x4 x5 x6 x15 x16 x17 (ix3 b s d) : EReal) = ∑ a : Fin 64, ds (rw0 x6 x7 x8 x9 x10 x11 x12 x13 x14 x15 x16 x17) (chk (ra0 x0 x1 x2 x3 x4 x5) a b) ⟨s.val * 64 + d.val, by omega⟩ := by
  simp only [← v139_eq x0 x1 x2 x3 x4 x5 x6 x7 x8 x9 x10 x11 x12 x13 x14 x15 x16 x17]
  unfold val_main_v142 val_main_v141 val_main_v140 val_main_cst_26 val_main_cst_27
  pointwise
  all_goals try simp only [Fin.sum_univ_one]
  all_goals first | rfl | ac_rfl

theorem v143_eq (q : Fin 128) (j : Fin 512) : (val_main_v143 (F := Ideal) x3 x4 x5 x6 x15 x16 x17 (ix2 q j) : EReal) = ∑ a : Fin 64, ds (rw0 x6 x7 x8 x9 x10 x11 x12 x13 x14 x15 x16 x17) (chk (ra0 x0 x1 x2 x3 x4 x5) a q) j := by
  refine Eq.trans ?_ ((v142_eq x0 x1 x2 x3 x4 x5 x6 x7 x8 x9 x10 x11 x12 x13 x14 x15 x16 x17 q ⟨j.val / 64, by omega⟩ ⟨j.val % 64, by omega⟩).trans (congrArg (fun j => ∑ a : Fin 64, ds (rw0 x6 x7 x8 x9 x10 x11 x12 x13 x14 x15 x16 x17) (chk (ra0 x0 x1 x2 x3 x4 x5) a q) j) (Fin.ext (by show j.val / 64 * 64 + j.val % 64 = j.val; omega))))
  unfold val_main_v143
  refine shapeCast_apply _ _ _ _ ?_
  rw [Shape.rowMajor_val_three, Shape.rowMajor_val_two]
  show (q.val * 8 + j.val / 64) * 64 + j.val % 64 = q.val * 512 + j.val
  omega

theorem v146_eq (a : Fin 64) (b : Fin 128) (s : Fin 8) (d : Fin 64) : (val_main_v146 (F := Ideal) x3 x4 x5 x6 x12 x15 x16 x17 (ix4 a b s d) : EReal) = dv (rw0 x6 x7 x8 x9 x10 x11 x12 x13 x14 x15 x16 x17) (chk (ra0 x0 x1 x2 x3 x4 x5) a) b ⟨s.val * 64 + d.val, by omega⟩ := by
  have e : grp ⟨s.val * 64 + d.val, by omega⟩ = s := Fin.ext (by show (s.val * 64 + d.val) / 64 = s.val; omega)
  unfold dv
  rw [e]
  simp only [← v139_eq x0 x1 x2 x3 x4 x5 x6 x7 x8 x9 x10 x11 x12 x13 x14 x15 x16 x17]
  unfold val_main_v146 val_main_v145 val_main_v144
  pointwise
  all_goals try simp only [Fin.sum_univ_one]
  all_goals first | rfl | ac_rfl

theorem v148_eq (p : Fin 8192) (j : Fin 512) : (val_main_v148 (F := Ideal) x3 x4 x5 x6 x12 x15 x16 x17 (ix2 p j) : EReal) = dv (rw0 x6 x7 x8 x9 x10 x11 x12 x13 x14 x15 x16 x17) (chn (ra0 x0 x1 x2 x3 x4 x5) p) (pln p) j := by
  refine Eq.trans ?_ ((v146_eq x0 x1 x2 x3 x4 x5 x6 x7 x8 x9 x10 x11 x12 x13 x14 x15 x16 x17 ⟨p.val / 128, by omega⟩ ⟨p.val % 128, by omega⟩ ⟨j.val / 64, by omega⟩ ⟨j.val % 64, by omega⟩).trans (congrArg (dv (rw0 x6 x7 x8 x9 x10 x11 x12 x13 x14 x15 x16 x17) (chn (ra0 x0 x1 x2 x3 x4 x5) p) (pln p)) (Fin.ext (by show j.val / 64 * 64 + j.val % 64 = j.val; omega))))
  unfold val_main_v148
  refine shapeCast_apply _ _ _ _ ?_
  rw [Shape.rowMajor_val_four, Shape.rowMajor_val_two]
  show ((p.val / 128 * 128 + p.val % 128) * 8 + j.val / 64) * 64 + j.val % 64 = p.val * 512 + j.val
  omega

theorem v155_eq (p : Fin 8192) (j : Fin 512) : (val_main_v155 (F := Ideal) x3 x4 x5 x6 x10 x12 x15 x16 x17 (ix2 p j) : EReal) = (fun k => dv (rw0 x6 x7 x8 x9 x10 x11 x12 x13 x14 x15 x16 x17) (chn (ra0 x0 x1 x2 x3 x4 x5) p) (pln p) k * (rw0 x6 x7 x8 x9 x10 x11 x12 x13 x14 x15 x16 x17).lg k) j := by
  beta_reduce
  simp only [← v148_eq x0 x1 x2 x3 x4 x5 x6 x7 x8 x9 x10 x11 x12 x13 x14 x15 x16 x17]
  unfold val_main_v155 val_main_v154
  pointwise
  all_goals try simp only [Fin.sum_univ_one]
  all_goals first | rfl | ac_rfl

theorem v164_eq (p : Fin 8192) : (val_main_v164 (F := Ideal) x3 x4 x5 x6 x10 x12 x15 x16 x17 (ix1 p) : EReal) = qv (vs (tok (ra0 x0 x1 x2 x3 x4 x5) p)) (fun k => dv (rw0 x6 x7 x8 x9 x10 x11 x12 x13 x14 x15 x16 x17) (chn (ra0 x0 x1 x2 x3 x4 x5) p) (pln p) k * (rw0 x6 x7 x8 x9 x10 x11 x12 x13 x14 x15 x16 x17).lg k) := by
  unfold qv
  simp only [← v155_eq x0 x1 x2 x3 x4 x5 x6 x7 x8 x9 x10 x11 x12 x13 x14 x15 x16 x17, ← v74_eq x0 x1 x2 x3 x4 x5, ← v82_eq x0 x1 x2 x3 x4 x5, ← v81_eq x0 x1 x2 x3 x4 x5]
  unfold val_main_v164 val_main_v163 val_main_v162 val_main_v161 val_main_v158 val_main_v157 val_main_v156 val_main_v85 val_main_v84 val_main_v83 val_main_cst_21 val_main_cst_30 val_main_cst_31 val_main_cst_32
  pointwise
  all_goals try simp only [Fin.sum_univ_one]
  all_goals first | rfl | ac_rfl

theorem v169_eq (p : Fin 8192) (j : Fin 512) : (val_main_v169 (F := Ideal) x3 x4 x5 x6 x10 x12 x15 x16 x17 (ix2 p j) : EReal) = dcen (vs (tok (ra0 x0 x1 x2 x3 x4 x5) p)) (fun k => dv (rw0 x6 x7 x8 x9 x10 x11 x12 x13 x14 x15 x16 x17) (chn (ra0 x0 x1 x2 x3 x4 x5) p) (pln p) k * (rw0 x6 x7 x8 x9 x10 x11 x12 x13 x14 x15 x16 x17).lg k) j := by
  unfold dcen
  simp only [← v164_eq x0 x1 x2 x3 x4 x5 x6 x7 x8 x9 x10 x11 x12 x13 x14 x15 x16 x17]
  simp only [← v155_eq x0 x1 x2 x3 x4 x5 x6 x7 x8 x9 x10 x11 x12 x13 x14 x15 x16 x17, ← v74_eq x0 x1 x2 x3 x4 x5, ← v82_eq x0 x1 x2 x3 x4 x5]
  unfold val_main_v169 val_main_v168 val_main_v167 val_main_v166 val_main_v165 val_main_v160 val_main_v159
  pointwise
  all_goals try simp only [Fin.sum_univ_one]
  all_goals first | rfl | ac_rfl

theorem v177_eq (p : Fin 8192) (j : Fin 512) : (val_main_v177 (F := Ideal) x3 x4 x5 x6 x10 x12 x15 x16 x17 (ix2 p j) : EReal) = dln (vs (tok (ra0 x0 x1 x2 x3 x4 x5) p)) (fun k => dv (rw0 x6 x7 x8 x9 x10 x11 x12 x13 x14 x15 x16 x17) (chn (ra0 x0 x1 x2 x3 x4 x5) p) (pln p) k * (rw0 x6 x7 x8 x9 x10 x11 x12 x13 x14 x15 x16 x17).lg k) j := by
  unfold dln
  simp only [← v169_eq x0 x1 x2 x3 x4 x5 x6 x7 x8 x9 x10 x11 x12 x13 x14 x15 x16 x17]
  unfold val_main_v177 val_main_v176 val_main_v175 val_main_v174 val_main_v173 val_main_v172 val_main_v171 val_main_v170 val_main_cst_33 val_main_cst_34 val_main_cst_35
  pointwise
  all_goals try simp only [Fin.sum_univ_one]
  all_goals first | rfl | ac_rfl

theorem v178_eq (p : Fin 8192) (j : Fin 1024) : (val_main_v178 (F := Ideal) x3 x4 x5 x6 x10 x11 x12 x13 x15 x16 x17 (ix2 p j) : EReal) = (if h : j.val < 512 then eb (rw0 x6 x7 x8 x9 x10 x11 x12 x13 x14 x15 x16 x17) (tok (ra0 x0 x1 x2 x3 x4 x5) p) ⟨j.val, h⟩ * sp (rw0 x6 x7 x8 x9 x10 x11 x12 x13 x14 x15 x16 x17) (chn (ra0 x0 x1 x2 x3 x4 x5) p) (pln p) ⟨j.val, h⟩ else dln (vs (tok (ra0 x0 x1 x2 x3 x4 x5) p)) (fun k => dv (rw0 x6 x7 x8 x9 x10 x11 x12 x13 x14 x15 x16 x17) (chn (ra0 x0 x1 x2 x3 x4 x5) p) (pln p) k * (rw0 x6 x7 x8 x9 x10 x11 x12 x13 x14 x15 x16 x17).lg k) ⟨j.val - 512, by omega⟩) := by
  simp only [← v138_eq x0 x1 x2 x3 x4 x5 x6 x7 x8 x9 x10 x11 x12 x13 x14 x15 x16 x17, ← v177_eq x0 x1 x2 x3 x4 x5 x6 x7 x8 x9 x10 x11 x12 x13 x14 x15 x16 x17]
  unfold val_main_v178
  pointwise
  all_goals try simp only [Fin.sum_univ_one]
  all_goals first | rfl | ac_rfl

theorem v190_eq (p : Fin 8192) (j : Fin 1024) : (val_main_v190 (F := Ideal) x3 x4 x5 x6 x10 x11 x12 x13 x15 x16 x17 (ix2 p j) : EReal) = dz (rw0 x6 x7 x8 x9 x10 x11 x12 x13 x14 x15 x16 x17) (chn (ra0 x0 x1 x2 x3 x4 x5) p) (pln p) j := by
  unfold dz
  rw [chn_pln]
  unfold dge dg
  simp only [← v178_eq x0 x1 x2 x3 x4 x5 x6 x7 x8 x9 x10 x11 x12 x13 x14 x15 x16 x17, ← v65_eq x0 x1 x2 x3 x4 x5, ← v61_eq x0 x1 x2 x3 x4 x5]
  unfold val_main_v190 val_main_v189 val_main_v188 val_main_v187 val_main_v186 val_main_v185 val_main_v184 val_main_v183 val_main_v182 val_main_v181 val_main_v180 val_main_v179 val_main_v50 val_main_v49 val_main_v48 val_main_v3 val_main_cst_36 val_main_cst_37 val_main_cst_9 val_main_cst_38
  pointwise
  all_goals try simp only [Fin.sum_univ_one]
  all_goals first | rfl | ac_rfl

theorem v193_eq (p : Fin 8192) (j : Fin 512) : (val_main_v193 (F := Ideal) x0 x1 x2 x4 x5 x6 x7 x8 x9 x14 x16 x17 (ix2 p j) : EReal) = dgt (rw0 x6 x7 x8 x9 x10 x11 x12 x13 x14 x15 x16 x17) (tok (ra0 x0 x1 x2 x3 x4 x5) p) j := by
  unfold dgt
  simp only [← v32_eq x0 x1 x2 x3 x4 x5 x6 x7 x8 x9 x10 x11 x12 x13 x14 x15 x16 x17, ← v136_eq x0 x1 x2 x3 x4 x5 x6 x7 x8 x9 x10 x11 x12 x13 x14 x15 x16 x17, ← v41_eq x0 x1 x2 x3 x4 x5 x6 x7 x8 x9 x10 x11 x12 x13 x14 x15 x16 x17]
  unfold val_main_v193 val_main_v191 val_main_v44 val_main_v43 val_main_v42 val_main_cst_8
  pointwise
  all_goals try simp only [Fin.sum_univ_one]
  all_goals first | rfl | ac_rfl

theorem v199_eq (p : Fin 8192) (j : Fin 512) : (val_main_v199 (F := Ideal) x0 x1 x2 x4 x5 x6 x7 x8 x9 x14 x16 x17 (ix2 p j) : EReal) = ea (rw0 x6 x7 x8 x9 x10 x11 x12 x13 x14 x15 x16 x17) (tok (ra0 x0 x1 x2 x3 x4 x5) p) j * sgl (rw0 x6 x7 x8 x9 x10 x11 x12 x13 x14 x15 x16 x17) (tok (ra0 x0 x1 x2 x3 x4 x5) p) j + ∑ k : Fin 512, dgt (rw0 x6 x7 x8 x9 x10 x11 x12 x13 x14 x15 x16 x17) (tok (ra0 x0 x1 x2 x3 x4 x5) p) k * (rw0 x6 x7 x8 x9 x10 x11 x12 x13 x14 x15 x16 x17).wg j k := by
  simp only [← v136_eq x0 x1 x2 x3 x4 x5 x6 x7 x8 x9 x10 x11 x12 x13 x14 x15 x16 x17, ← v41_eq x0 x1 x2 x3 x4 x5 x6 x7 x8 x9 x10 x11 x12 x13 x14 x15 x16 x17, ← v193_eq x0 x1 x2 x3 x4 x5 x6 x7 x8 x9 x10 x11 x12 x13 x14 x15 x16 x17]
  unfold val_main_v199 val_main_v198 val_main_v192
  pointwise
  all_goals try simp only [Fin.sum_univ_one]
  all_goals first | rfl | ac_rfl

theorem v211_eq (p : Fin 8192) (j : Fin 512) : (val_main_v211 (F := Ideal) x0 x1 x2 x4 x5 x6 x7 x8 x9 x14 x16 x17 (ix2 p j) : EReal) = dy (rw0 x6 x7 x8 x9 x10 x11 x12 x13 x14 x15 x16 x17) (tok (ra0 x0 x1 x2 x3 x4 x5) p) j := by
  unfold dy dge dg
  simp only [← v199_eq x0 x1 x2 x3 x4 x5 x6 x7 x8 x9 x10 x11 x12 x13 x14 x15 x16 x17]
  simp only [← v31_eq x0 x1 x2 x3 x4 x5 x6 x7 x8 x9 x10 x11 x12 x13 x14 x15 x16 x17, ← v27_eq x0 x1 x2 x3 x4 x5 x6 x7 x8 x9 x10 x11 x12 x13 x14 x15 x16 x17]
  simp only [← v11_eq x0 x1 x2 x3 x4 x5 x6 x7 x8 x9 x10 x11 x12 x13 x14 x15 x16 x17]
  unfold val_main_v211 val_main_v210 val_main_v209 val_main_v208 val_main_v207 val_main_v206 val_main_v205 val_main_v204 val_main_v203 val_main_v202 val_main_v201 val_main_v200 val_main_v16 val_main_v15 val_main_v14 val_main_cst_40 val_main_cst_41 val_main_cst val_main_cst_42
  pointwise
  all_goals try simp only [Fin.sum_univ_one]
  all_goals first | rfl | ac_rfl

theorem v216_eq (p : Fin 8192) (j : Fin 512) : (val_main_v216 (F := Ideal) x0 x1 x2 x4 x5 x6 x7 x8 x9 x14 x16 x17 (ix2 p j) : EReal) = dy (rw0 x6 x7 x8 x9 x10 x11 x12 x13 x14 x15 x16 x17) (tok (ra0 x0 x1 x2 x3 x4 x5) p) j * (rw0 x6 x7 x8 x9 x10 x11 x12 x13 x14 x15 x16 x17).d j := by
  simp only [← v211_eq x0 x1 x2 x3 x4 x5 x6 x7 x8 x9 x10 x11 x12 x13 x14 x15 x16 x17]
  unfold val_main_v216 val_main_v215
  pointwise
  all_goals try simp only [Fin.sum_univ_one]
  all_goals first | rfl | ac_rfl

theorem v231_eq (p : Fin 8192) (j : Fin 3072) : (val_main_v231 (F := Ideal) x0 x1 x2 x3 x4 x5 x6 x7 x8 x9 x10 x11 x12 x13 x14 x15 x16 x17 (ix2 p j) : EReal) = dzg (rw0 x6 x7 x8 x9 x10 x11 x12 x13 x14 x15 x16 x17) (chn (ra0 x0 x1 x2 x3 x4 x5) p) (pln p) j := by
  unfold dzg
  rw [chn_pln]
  simp only [← v190_eq x0 x1 x2 x3 x4 x5 x6 x7 x8 x9 x10 x11 x12 x13 x14 x15 x16 x17, ← v132_lo x0 x1 x2 x3 x4 x5 x6 x7 x8 x9 x10 x11 x12 x13 x14 x15 x16 x17, ← v132_hi x0 x1 x2 x3 x4 x5 x6 x7 x8 x9 x10 x11 x12 x13 x14 x15 x16 x17]
  unfold val_main_v231
  pointwise
  by_cases h : j.val < 1024
  · rw [dif_pos h, dif_pos h]
  · rw [dif_neg h, dif_neg h]
    by_cases h' : j.val < 2048
    · rw [dif_pos h']
    · rw [dif_neg h']
      exact congrArg (fun q => (val_main_v132 (F := Ideal) x0 x1 x2 x3 x4 x5 x6 x7 x8 x9 x10 x11 x12 x13 x14 x15 x16 x17 (ix2 p q) : EReal)) (Fin.ext (by show j.val - 1024 = 1024 + (j.val - 2048); omega))

theorem v197_eq (k j : Fin 512) : (val_main_v197 (F := Ideal) x0 x1 x2 x4 x5 x6 x7 x8 x9 x14 x16 x17 (ix2 k j) : EReal) = ∑ n : Fin 8192, ge (y (rw0 x6 x7 x8 x9 x10 x11 x12 x13 x14 x15 x16 x17) (tok (ra0 x0 x1 x2 x3 x4 x5) n) k) * dgt (rw0 x6 x7 x8 x9 x10 x11 x12 x13 x14 x15 x16 x17) (tok (ra0 x0 x1 x2 x3 x4 x5) n) j := by
  simp only [← v32_eq x0 x1 x2 x3 x4 x5 x6 x7 x8 x9 x10 x11 x12 x13 x14 x15 x16 x17, ← v193_eq x0 x1 x2 x3 x4 x5 x6 x7 x8 x9 x10 x11 x12 x13 x14 x15 x16 x17]
  unfold val_main_v197 val_main_v196
  pointwise
  all_goals try simp only [Fin.sum_univ_one]
  all_goals first | rfl | ac_rfl

theorem v147_eq (s : Fin 8) (a b : Fin 128) : (val_main_v147 (F := Ideal) x3 x4 x5 x6 x10 x11 x15 x16 x17 (ix3 s a b) : EReal) = ∑ n : Fin 64, ∑ d : Fin 64, ds (rw0 x6 x7 x8 x9 x10 x11 x12 x13 x14 x15 x16 x17) (chk (ra0 x0 x1 x2 x3 x4 x5) n a) ⟨s.val * 64 + d.val, by omega⟩ * lnv (rw0 x6 x7 x8 x9 x10 x11 x12 x13 x14 x15 x16 x17) (chk (ra0 x0 x1 x2 x3 x4 x5) n b) ⟨s.val * 64 + d.val, by omega⟩ := by
  simp only [← v139_eq x0 x1 x2 x3 x4 x5 x6 x7 x8 x9 x10 x11 x12 x13 x14 x15 x16 x17, ← v92_eq x0 x1 x2 x3 x4 x5 x6 x7 x8 x9 x10 x11 x12 x13 x14 x15 x16 x17]
  unfold val_main_v147 val_main_v144
  pointwise
  all_goals try simp only [Fin.sum_univ_one]
  all_goals first | rfl | ac_rfl

theorem v134_lo (j : Fin 1024) : (val_main_v134 (F := Ideal) x0 x1 x2 x3 x4 x5 x6 x7 x8 x9 x10 x11 x12 x13 x14 x15 x16 x17 (ix2 0 ⟨j.val, by omega⟩) : EReal) = ∑ n : Fin 8192, dsa (rw0 x6 x7 x8 x9 x10 x11 x12 x13 x14 x15 x16 x17) (tok (ra0 x0 x1 x2 x3 x4 x5) n) j := by
  simp only [← v132_lo x0 x1 x2 x3 x4 x5 x6 x7 x8 x9 x10 x11 x12 x13 x14 x15 x16 x17]
  unfold val_main_v134 val_main_v133 val_main_cst_25
  pointwise
  all_goals try simp only [Fin.sum_univ_one]
  all_goals first | rfl | ac_rfl

theorem v134_hi (j : Fin 1024) : (val_main_v134 (F := Ideal) x0 x1 x2 x3 x4 x5 x6 x7 x8 x9 x10 x11 x12 x13 x14 x15 x16 x17 (ix2 0 ⟨1024 + j.val, by omega⟩) : EReal) = ∑ n : Fin 8192, dsb (rw0 x6 x7 x8 x9 x10 x11 x12 x13 x14 x15 x16 x17) (chn (ra0 x0 x1 x2 x3 x4 x5) n) (pln n) j := by
  simp only [← v132_hi x0 x1 x2 x3 x4 x5 x6 x7 x8 x9 x10 x11 x12 x13 x14 x15 x16 x17]
  unfold val_main_v134 val_main_v133 val_main_cst_25
  pointwise
  all_goals try simp only [Fin.sum_univ_one]
  all_goals first | rfl | ac_rfl

theorem v150_eq (j : Fin 512) : (val_main_v150 (F := Ideal) x3 x4 x5 x6 x12 x15 x16 x17 (ix2 0 j) : EReal) = ∑ n : Fin 8192, dv (rw0 x6 x7 x8 x9 x10 x11 x12 x13 x14 x15 x16 x17) (chn (ra0 x0 x1 x2 x3 x4 x5) n) (pln n) j := by
  simp only [← v148_eq x0 x1 x2 x3 x4 x5 x6 x7 x8 x9 x10 x11 x12 x13 x14 x15 x16 x17]
  unfold val_main_v150 val_main_v149 val_main_cst_28
  pointwise
  all_goals try simp only [Fin.sum_univ_one]
  all_goals first | rfl | ac_rfl

theorem v153_eq (j : Fin 512) : (val_main_v153 (F := Ideal) x3 x4 x5 x6 x12 x15 x16 x17 (ix2 0 j) : EReal) = ∑ n : Fin 8192, nrm (vs (tok (ra0 x0 x1 x2 x3 x4 x5) n)) j * dv (rw0 x6 x7 x8 x9 x10 x11 x12 x13 x14 x15 x16 x17) (chn (ra0 x0 x1 x2 x3 x4 x5) n) (pln n) j := by
  simp only [← v148_eq x0 x1 x2 x3 x4 x5 x6 x7 x8 x9 x10 x11 x12 x13 x14 x15 x16 x17, ← v87_eq x0 x1 x2 x3 x4 x5]
  unfold val_main_v153 val_main_v152 val_main_v151 val_main_cst_29
  pointwise
  all_goals try simp only [Fin.sum_univ_one]
  all_goals first | rfl | ac_rfl

theorem v195_eq (j : Fin 512) : (val_main_v195 (F := Ideal) x0 x1 x2 x4 x5 x6 x7 x8 x9 x14 x16 x17 (ix2 0 j) : EReal) = ∑ n : Fin 8192, dgt (rw0 x6 x7 x8 x9 x10 x11 x12 x13 x14 x15 x16 x17) (tok (ra0 x0 x1 x2 x3 x4 x5) n) j := by
  simp only [← v193_eq x0 x1 x2 x3 x4 x5 x6 x7 x8 x9 x10 x11 x12 x13 x14 x15 x16 x17]
  unfold val_main_v195 val_main_v194 val_main_cst_39
  pointwise
  all_goals try simp only [Fin.sum_univ_one]
  all_goals first | rfl | ac_rfl

theorem v214_eq (j : Fin 512) : (val_main_v214 (F := Ideal) x0 x1 x2 x4 x5 x6 x7 x8 x9 x14 x16 x17 (ix2 0 j) : EReal) = ∑ n : Fin 8192, (tok (ra0 x0 x1 x2 x3 x4 x5) n).u j * dy (rw0 x6 x7 x8 x9 x10 x11 x12 x13 x14 x15 x16 x17) (tok (ra0 x0 x1 x2 x3 x4 x5) n) j := by
  simp only [← v211_eq x0 x1 x2 x3 x4 x5 x6 x7 x8 x9 x10 x11 x12 x13 x14 x15 x16 x17]
  unfold val_main_v214 val_main_v213 val_main_v212 val_main_v0 val_main_cst_43
  pointwise
  all_goals try simp only [Fin.sum_univ_one]
  all_goals first | rfl | ac_rfl

theorem v228_eq (n : Fin 8448) (j : Fin 512) : (val_main_v228 (F := Ideal) x0 x1 x2 x4 x5 x6 x7 x8 x9 x14 x16 x17 (ix2 n j) : EReal) = ctx (fun (n : Fin 8192) (j : Fin 512) => dy (rw0 x6 x7 x8 x9 x10 x11 x12 x13 x14 x15 x16 x17) (tok (ra0 x0 x1 x2 x3 x4 x5) n) j) n j := by
  unfold ctx
  by_cases h : 256 ≤ n.val
  · rw [dif_pos h]
    refine Eq.trans ?_ (v211_eq x0 x1 x2 x3 x4 x5 x6 x7 x8 x9 x10 x11 x12 x13 x14 x15 x16 x17 ⟨n.val - 256, by omega⟩ j)
    unfold val_main_v228 val_main_v227 val_main_cst_49
    pointwise
    exact dif_neg (by omega)
  · rw [dif_neg h]
    unfold val_main_v228 val_main_v227 val_main_cst_49
    pointwise
    exact dif_pos (by omega)

theorem v230_eq (n : Fin 8448) (j : Fin 512) : (val_main_v230 (F := Ideal) x0 x1 x2 x4 x5 x6 x7 x8 x9 x14 x16 x17 (ix2 n j) : EReal) = ctx (fun (n : Fin 8192) (j : Fin 512) => dy (rw0 x6 x7 x8 x9 x10 x11 x12 x13 x14 x15 x16 x17) (tok (ra0 x0 x1 x2 x3 x4 x5) n) j * (rw0 x6 x7 x8 x9 x10 x11 x12 x13 x14 x15 x16 x17).d j) n j := by
  unfold ctx
  by_cases h : 256 ≤ n.val
  · rw [dif_pos h]
    refine Eq.trans ?_ (v216_eq x0 x1 x2 x3 x4 x5 x6 x7 x8 x9 x10 x11 x12 x13 x14 x15 x16 x17 ⟨n.val - 256, by omega⟩ j)
    unfold val_main_v230 val_main_v229 val_main_cst_50
    pointwise
    exact dif_neg (by omega)
  · rw [dif_neg h]
    unfold val_main_v230 val_main_v229 val_main_cst_50
    pointwise
    exact dif_pos (by omega)

theorem v233_eq (n : Fin 8448) (j : Fin 3072) : (val_main_v233 (F := Ideal) x0 x1 x2 x3 x4 x5 x6 x7 x8 x9 x10 x11 x12 x13 x14 x15 x16 x17 (ix2 n j) : EReal) = ctx (fun (n : Fin 8192) (j : Fin 3072) => dzg (rw0 x6 x7 x8 x9 x10 x11 x12 x13 x14 x15 x16 x17) (chn (ra0 x0 x1 x2 x3 x4 x5) n) (pln n) j) n j := by
  unfold ctx
  by_cases h : 256 ≤ n.val
  · rw [dif_pos h]
    refine Eq.trans ?_ (v231_eq x0 x1 x2 x3 x4 x5 x6 x7 x8 x9 x10 x11 x12 x13 x14 x15 x16 x17 ⟨n.val - 256, by omega⟩ j)
    unfold val_main_v233 val_main_v232 val_main_cst_51
    pointwise
    exact dif_neg (by omega)
  · rw [dif_neg h]
    unfold val_main_v233 val_main_v232 val_main_cst_51
    pointwise
    exact dif_pos (by omega)

theorem v218_eq (j : Fin 2048) : (val_main_v218 (F := Ideal) x0 x1 x2 x4 x5 x6 x7 x8 x9 x14 x16 x17 (ix2 0 j) : EReal) = if h : j.val < 512 then ∑ n : Fin 8192, (tok (ra0 x0 x1 x2 x3 x4 x5) n).u ⟨j.val, h⟩ * dy (rw0 x6 x7 x8 x9 x10 x11 x12 x13 x14 x15 x16 x17) (tok (ra0 x0 x1 x2 x3 x4 x5) n) ⟨j.val, h⟩ else 0 := by
  simp only [← v214_eq x0 x1 x2 x3 x4 x5 x6 x7 x8 x9 x10 x11 x12 x13 x14 x15 x16 x17]
  unfold val_main_v218 val_main_v217 val_main_cst_44
  pointwise
  all_goals try simp only [Fin.sum_univ_one]
  all_goals first | rfl | ac_rfl

theorem v220_eq (j : Fin 2048) : (val_main_v220 (F := Ideal) x0 x1 x2 x4 x5 x6 x7 x8 x9 x14 x16 x17 (ix2 0 j) : EReal) = if h : j.val < 512 then ∑ n : Fin 8192, dgt (rw0 x6 x7 x8 x9 x10 x11 x12 x13 x14 x15 x16 x17) (tok (ra0 x0 x1 x2 x3 x4 x5) n) ⟨j.val, h⟩ else 0 := by
  simp only [← v195_eq x0 x1 x2 x3 x4 x5 x6 x7 x8 x9 x10 x11 x12 x13 x14 x15 x16 x17]
  unfold val_main_v220 val_main_v219 val_main_cst_45
  pointwise
  all_goals try simp only [Fin.sum_univ_one]
  all_goals first | rfl | ac_rfl

theorem v222_eq (j : Fin 2048) : (val_main_v222 (F := Ideal) x3 x4 x5 x6 x12 x15 x16 x17 (ix2 0 j) : EReal) = if h : j.val < 512 then ∑ n : Fin 8192, nrm (vs (tok (ra0 x0 x1 x2 x3 x4 x5) n)) ⟨j.val, h⟩ * dv (rw0 x6 x7 x8 x9 x10 x11 x12 x13 x14 x15 x16 x17) (chn (ra0 x0 x1 x2 x3 x4 x5) n) (pln n) ⟨j.val, h⟩ else 0 := by
  simp only [← v153_eq x0 x1 x2 x3 x4 x5 x6 x7 x8 x9 x10 x11 x12 x13 x14 x15 x16 x17]
  unfold val_main_v222 val_main_v221 val_main_cst_46
  pointwise
  all_goals try simp only [Fin.sum_univ_one]
  all_goals first | rfl | ac_rfl

theorem v224_eq (j : Fin 2048) : (val_main_v224 (F := Ideal) x3 x4 x5 x6 x12 x15 x16 x17 (ix2 0 j) : EReal) = if h : j.val < 512 then ∑ n : Fin 8192, dv (rw0 x6 x7 x8 x9 x10 x11 x12 x13 x14 x15 x16 x17) (chn (ra0 x0 x1 x2 x3 x4 x5) n) (pln n) ⟨j.val, h⟩ else 0 := by
  simp only [← v150_eq x0 x1 x2 x3 x4 x5 x6 x7 x8 x9 x10 x11 x12 x13 x14 x15 x16 x17]
  unfold val_main_v224 val_main_v223 val_main_cst_47
  pointwise
  all_goals try simp only [Fin.sum_univ_one]
  all_goals first | rfl | ac_rfl

theorem v134_eq (j : Fin 2048) : (val_main_v134 (F := Ideal) x0 x1 x2 x3 x4 x5 x6 x7 x8 x9 x10 x11 x12 x13 x14 x15 x16 x17 (ix2 0 j) : EReal) = if h : j.val < 1024 then ∑ n : Fin 8192, dsa (rw0 x6 x7 x8 x9 x10 x11 x12 x13 x14 x15 x16 x17) (tok (ra0 x0 x1 x2 x3 x4 x5) n) ⟨j.val, h⟩ else ∑ n : Fin 8192, dsb (rw0 x6 x7 x8 x9 x10 x11 x12 x13 x14 x15 x16 x17) (chn (ra0 x0 x1 x2 x3 x4 x5) n) (pln n) ⟨j.val - 1024, by omega⟩ := by
  by_cases h : j.val < 1024
  · rw [dif_pos h]
    exact v134_lo x0 x1 x2 x3 x4 x5 x6 x7 x8 x9 x10 x11 x12 x13 x14 x15 x16 x17 ⟨j.val, h⟩
  · rw [dif_neg h]
    refine Eq.trans ?_ (v134_hi x0 x1 x2 x3 x4 x5 x6 x7 x8 x9 x10 x11 x12 x13 x14 x15 x16 x17 ⟨j.val - 1024, by omega⟩)
    exact congrArg (fun q => (val_main_v134 (F := Ideal) x0 x1 x2 x3 x4 x5 x6 x7 x8 x9 x10 x11 x12 x13 x14 x15 x16 x17 (ix2 0 q) : EReal)) (Fin.ext (by show j.val = 1024 + (j.val - 1024); omega))

theorem rows_of (k : Fin 8) (f0 f1 f2 f3 f4 : Fin 1 → EReal) (r : Fin 8 → EReal) (h0 : f0 0 = r 0) (h1 : f1 0 = r 1) (h2 : f2 0 = r 2) (h3 : f3 0 = r 3)
    (h4 : f4 0 = r 4) (h5 : 0 = r 5) (h6 : 0 = r 6) (h7 : 0 = r 7) :
    (if h : k.val < 1 then f0 ⟨k.val, h⟩ else if h : k.val - 1 < 1 then f1 ⟨k.val - 1, h⟩ else if h : k.val - 1 - 1 < 1 then f2 ⟨k.val - 1 - 1, h⟩
      else if h : k.val - 1 - 1 - 1 < 1 then f3 ⟨k.val - 1 - 1 - 1, h⟩ else if h : k.val - 1 - 1 - 1 - 1 < 1 then f4 ⟨k.val - 1 - 1 - 1 - 1, h⟩ else 0) = r k := by
  fin_cases k
  exacts [h0, h1, h2, h3, h4, h5, h6, h7]

section
variable (w : Wts) (R : Fin 128 → Row) (q : Fin 128) (j : Fin 2048)

theorem row_0 : row w R q 0 j = if h : j.val < 1024 then dsa w (R q) ⟨j.val, h⟩ else dsb w R q ⟨j.val - 1024, by omega⟩ := if_pos rfl

theorem row_1 : row w R q 1 j = if h : j.val < 512 then (R q).u ⟨j.val, h⟩ * dy w (R q) ⟨j.val, h⟩ else 0 := by
  unfold row
  rw [if_neg (by decide)]
  by_cases h : j.val < 512
  · rw [dif_pos h, dif_pos h, if_pos (by decide)]
  · rw [dif_neg h, dif_neg h]

theorem row_2 : row w R q 2 j = if h : j.val < 512 then dgt w (R q) ⟨j.val, h⟩ else 0 := by
  unfold row
  rw [if_neg (by decide)]
  by_cases h : j.val < 512
  · rw [dif_pos h, dif_pos h, if_neg (by decide), if_pos (by decide)]
  · rw [dif_neg h, dif_neg h]

theorem row_3 : row w R q 3 j = if h : j.val < 512 then nrm (vs (R q)) ⟨j.val, h⟩ * dv w R q ⟨j.val, h⟩ else 0 := by
  unfold row
  rw [if_neg (by decide)]
  by_cases h : j.val < 512
  · rw [dif_pos h, dif_pos h, if_neg (by decide), if_neg (by decide), if_pos (by decide)]
  · rw [dif_neg h, dif_neg h]

theorem row_4 : row w R q 4 j = if h : j.val < 512 then dv w R q ⟨j.val, h⟩ else 0 := by
  unfold row
  rw [if_neg (by decide)]
  by_cases h : j.val < 512
  · rw [dif_pos h, dif_pos h, if_neg (by decide), if_neg (by decide), if_neg (by decide), if_pos (by decide)]
  · rw [dif_neg h, dif_neg h]

theorem row_end (k : Fin 8) (hk : 5 ≤ k.val) : row w R q k j = 0 := by
  unfold row
  rw [if_neg (by omega)]
  by_cases h : j.val < 512
  · rw [dif_pos h, if_neg (by omega), if_neg (by omega), if_neg (by omega), if_neg (by omega)]
  · rw [dif_neg h]
end

/-- A sum of cases that do not depend on the summand. -/
theorem dite_sum {P : Prop} [Decidable P] {N : ℕ} (f : P → Fin N → EReal) (f' : ¬P → Fin N → EReal) :
    (if h : P then ∑ n, f h n else ∑ n, f' h n) = ∑ n, if h : P then f h n else f' h n := by
  by_cases h : P
  · rw [dif_pos h]
    exact Finset.sum_congr rfl fun n _ => by rw [dif_pos h]
  · rw [dif_neg h]
    exact Finset.sum_congr rfl fun n _ => by rw [dif_neg h]

theorem dite_sum' {P : Prop} [Decidable P] {N : ℕ} (f : P → Fin N → EReal) :
    (if h : P then ∑ n, f h n else 0) = ∑ n, if h : P then f h n else 0 := by
  by_cases h : P
  · rw [dif_pos h]
    exact Finset.sum_congr rfl fun n _ => by rw [dif_pos h]
  · rw [dif_neg h]
    exact (Finset.sum_eq_zero fun n _ => dif_neg h).symm

/-- A group's 64 channels, of all the channels. -/
theorem grp_sum (s : Fin 8) (f : Fin 512 → EReal) : ∑ d : Fin 64, f ⟨s.val * 64 + d.val, by omega⟩ = ∑ k : Fin 512, if grp k = s then f k else 0 := by
  refine Eq.trans ?_ (Fin.sum_mul_add_congr (L := 512) (S := 8) (n := 64) (F := fun g d => if g = s then f ⟨g.val * 64 + d.val, by omega⟩ else 0) fun g d hl => ?_)
  · refine ((Finset.sum_eq_single s (fun g _ hg => Finset.sum_eq_zero fun d _ => if_neg hg) fun h => absurd (Finset.mem_univ s) h).trans ?_).symm
    exact Finset.sum_congr rfl fun d _ => if_pos rfl
  · have e : grp ⟨g.val * 64 + d.val, hl⟩ = g := Fin.ext (by show (g.val * 64 + d.val) / 64 = g.val; omega)
    exact if_congr (by rw [e]) rfl rfl

theorem v226_eq (k : Fin 8) (j : Fin 2048) : (val_main_v226 (F := Ideal) x0 x1 x2 x3 x4 x5 x6 x7 x8 x9 x10 x11 x12 x13 x14 x15 x16 x17 (ix2 k j) : EReal) = ∑ n : Fin 8192, row (rw0 x6 x7 x8 x9 x10 x11 x12 x13 x14 x15 x16 x17) (chn (ra0 x0 x1 x2 x3 x4 x5) n) (pln n) k j := by
  unfold val_main_v226 val_main_v225 val_main_cst_48
  pointwise
  refine rows_of k (fun q => (val_main_v134 (F := Ideal) x0 x1 x2 x3 x4 x5 x6 x7 x8 x9 x10 x11 x12 x13 x14 x15 x16 x17 (ix2 q j) : EReal)) (fun q => (val_main_v218 (F := Ideal) x0 x1 x2 x4 x5 x6 x7 x8 x9 x14 x16 x17 (ix2 q j) : EReal)) (fun q => (val_main_v220 (F := Ideal) x0 x1 x2 x4 x5 x6 x7 x8 x9 x14 x16 x17 (ix2 q j) : EReal)) (fun q => (val_main_v222 (F := Ideal) x3 x4 x5 x6 x12 x15 x16 x17 (ix2 q j) : EReal)) (fun q => (val_main_v224 (F := Ideal) x3 x4 x5 x6 x12 x15 x16 x17 (ix2 q j) : EReal)) (fun k => ∑ n : Fin 8192, row (rw0 x6 x7 x8 x9 x10 x11 x12 x13 x14 x15 x16 x17) (chn (ra0 x0 x1 x2 x3 x4 x5) n) (pln n) k j) ?_ ?_ ?_ ?_ ?_ ?_ ?_ ?_
  · exact ((v134_eq x0 x1 x2 x3 x4 x5 x6 x7 x8 x9 x10 x11 x12 x13 x14 x15 x16 x17 j).trans (dite_sum _ _)).trans (Finset.sum_congr rfl fun n _ => (row_0 _ _ _ j).trans (by rw [chn_pln])).symm
  · exact ((v218_eq x0 x1 x2 x3 x4 x5 x6 x7 x8 x9 x10 x11 x12 x13 x14 x15 x16 x17 j).trans (dite_sum' _)).trans (Finset.sum_congr rfl fun n _ => (row_1 _ _ _ j).trans (by rw [chn_pln])).symm
  · exact ((v220_eq x0 x1 x2 x3 x4 x5 x6 x7 x8 x9 x10 x11 x12 x13 x14 x15 x16 x17 j).trans (dite_sum' _)).trans (Finset.sum_congr rfl fun n _ => (row_2 _ _ _ j).trans (by rw [chn_pln])).symm
  · exact ((v222_eq x0 x1 x2 x3 x4 x5 x6 x7 x8 x9 x10 x11 x12 x13 x14 x15 x16 x17 j).trans (dite_sum' _)).trans (Finset.sum_congr rfl fun n _ => (row_3 _ _ _ j).trans (by rw [chn_pln])).symm
  · exact ((v224_eq x0 x1 x2 x3 x4 x5 x6 x7 x8 x9 x10 x11 x12 x13 x14 x15 x16 x17 j).trans (dite_sum' _)).trans (Finset.sum_congr rfl fun n _ => row_4 _ _ _ j).symm
  · exact (Finset.sum_eq_zero fun n _ => row_end _ _ _ _ _ (by decide)).symm
  · exact (Finset.sum_eq_zero fun n _ => row_end _ _ _ _ _ (by decide)).symm
  · exact (Finset.sum_eq_zero fun n _ => row_end _ _ _ _ _ (by decide)).symm

theorem v147_part (s : Fin 8) (a b : Fin 128) : (val_main_v147 (F := Ideal) x3 x4 x5 x6 x10 x11 x15 x16 x17 (ix3 s a b) : EReal) = ∑ n : Fin 64, part (rw0 x6 x7 x8 x9 x10 x11 x12 x13 x14 x15 x16 x17) (chk (ra0 x0 x1 x2 x3 x4 x5) n) s a b := by
  refine (v147_eq x0 x1 x2 x3 x4 x5 x6 x7 x8 x9 x10 x11 x12 x13 x14 x15 x16 x17 s a b).trans (Finset.sum_congr rfl fun n _ => ?_)
  exact grp_sum s fun k => ds (rw0 x6 x7 x8 x9 x10 x11 x12 x13 x14 x15 x16 x17) (chk (ra0 x0 x1 x2 x3 x4 x5) n a) k * lnv (rw0 x6 x7 x8 x9 x10 x11 x12 x13 x14 x15 x16 x17) (chk (ra0 x0 x1 x2 x3 x4 x5) n b) k

end Cert.Proof.MixRef

end
-- ==== Proof.MixEq.lean ====
/- The branch backward kernel and its reference: the thirteen results agree, and both programs leave their arguments. -/
module

public import proofs.«01_k».proof.Defs
public import proofs.«01_k».proof.Proof.MixRes
public import proofs.«01_k».proof.Proof.MixBwd
public import proofs.«01_k».proof.Proof.Gen.KernelMix.Launch
public import proofs.«01_k».proof.Proof.Gen.ReferenceMixIdeal.Run

@[expose] public section

set_option maxRecDepth 16384

noncomputable section

namespace Cert.Proof.MixRef

open Cert.ReferenceMixIdeal Cert.ReferenceMixIdeal.Read Idealize.ShloMosaic Idealize.ShloMosaic.TcCoe Idealize.SL.Sem Cert.Proof.Branch

section
variable (x0 x1 x2 : S8448x512.Idx → EReal) (x3 : S8448x1024.Idx → EReal) (x4 : S8448x2048.Idx → EReal) (x5 : S8192x1024.Idx → EReal)
  (x6 : S1x6144.Idx → EReal) (x7 : S1x512.Idx → EReal) (x8 : S512x512.Idx → EReal) (x9 x10 x11 : S1x512.Idx → EReal) (x12 : S8x128x128.Idx → EReal)
  (x13 : S8x128.Idx → EReal) (x14 x15 : S512x1024.Idx → EReal) (x16 : S1x2048.Idx → EReal) (x17 : S1024x1024.Idx → EReal)

theorem w228 : (val_main_v228 (F := Ideal) x0 x1 x2 x4 x5 x6 x7 x8 x9 x14 x16 x17 : S8448x512.Idx → EReal) = fun i => ctx (fun (n : Fin 8192) (j : Fin 512) => dy (rw0 x6 x7 x8 x9 x10 x11 x12 x13 x14 x15 x16 x17) (tok (ra0 x0 x1 x2 x3 x4 x5) n) j) (i 0) (i 1) :=
  funext fun i => (congrArg _ (ix2_eta i)).symm.trans (v228_eq x0 x1 x2 x3 x4 x5 x6 x7 x8 x9 x10 x11 x12 x13 x14 x15 x16 x17 (i 0) (i 1))

theorem w230 : (val_main_v230 (F := Ideal) x0 x1 x2 x4 x5 x6 x7 x8 x9 x14 x16 x17 : S8448x512.Idx → EReal) = fun i => ctx (fun (n : Fin 8192) (j : Fin 512) => dy (rw0 x6 x7 x8 x9 x10 x11 x12 x13 x14 x15 x16 x17) (tok (ra0 x0 x1 x2 x3 x4 x5) n) j * (rw0 x6 x7 x8 x9 x10 x11 x12 x13 x14 x15 x16 x17).d j) (i 0) (i 1) :=
  funext fun i => (congrArg _ (ix2_eta i)).symm.trans (v230_eq x0 x1 x2 x3 x4 x5 x6 x7 x8 x9 x10 x11 x12 x13 x14 x15 x16 x17 (i 0) (i 1))

theorem w234 : (val_main_v234 (F := Ideal) x0 x1 x2 x3 x4 x5 x6 x7 x8 x9 x10 x11 x12 x13 x14 x15 x16 x17 : S8448x3072.Idx → EReal) = fun i => ctx (fun (n : Fin 8192) (j : Fin 3072) => dzg (rw0 x6 x7 x8 x9 x10 x11 x12 x13 x14 x15 x16 x17) (chn (ra0 x0 x1 x2 x3 x4 x5) n) (pln n) j) (i 0) (i 1) :=
  funext fun i => (congrArg _ (ix2_eta i)).symm.trans (v233_eq x0 x1 x2 x3 x4 x5 x6 x7 x8 x9 x10 x11 x12 x13 x14 x15 x16 x17 (i 0) (i 1))

theorem w235 : (val_main_v235 (F := Ideal) x0 x1 x2 x7 x8 x9 : S8192x512.Idx → EReal) = fun i => ya (rw0 x6 x7 x8 x9 x10 x11 x12 x13 x14 x15 x16 x17) (tok (ra0 x0 x1 x2 x3 x4 x5) (i 0)) (i 1) :=
  funext fun i => (congrArg _ (ix2_eta i)).symm.trans (v45_eq x0 x1 x2 x3 x4 x5 x6 x7 x8 x9 x10 x11 x12 x13 x14 x15 x16 x17 (i 0) (i 1))

theorem w236 : (val_main_v236 (F := Ideal) x3 x10 x11 x12 x13 : S8192x512.Idx → EReal) = fun i => yb (rw0 x6 x7 x8 x9 x10 x11 x12 x13 x14 x15 x16 x17) (chn (ra0 x0 x1 x2 x3 x4 x5) (i 0)) (pln (i 0)) (i 1) :=
  funext fun i => (congrArg _ (ix2_eta i)).symm.trans (v100_eq x0 x1 x2 x3 x4 x5 x6 x7 x8 x9 x10 x11 x12 x13 x14 x15 x16 x17 (i 0) (i 1))

theorem w237 : (val_main_v237 (F := Ideal) x4 x5 x6 x16 x17 : S8192x1024.Idx → EReal) = fun i => dpa (rw0 x6 x7 x8 x9 x10 x11 x12 x13 x14 x15 x16 x17) (tok (ra0 x0 x1 x2 x3 x4 x5) (i 0)) (i 1) :=
  funext fun i => (congrArg _ (ix2_eta i)).symm.trans (v129_eq x0 x1 x2 x3 x4 x5 x6 x7 x8 x9 x10 x11 x12 x13 x14 x15 x16 x17 (i 0) (i 1))

theorem w238 : (val_main_v238 (F := Ideal) x4 x5 x6 x16 x17 : S8192x1024.Idx → EReal) = fun i => dpb (rw0 x6 x7 x8 x9 x10 x11 x12 x13 x14 x15 x16 x17) (tok (ra0 x0 x1 x2 x3 x4 x5) (i 0)) (i 1) :=
  funext fun i => (congrArg _ (ix2_eta i)).symm.trans (v127_eq x0 x1 x2 x3 x4 x5 x6 x7 x8 x9 x10 x11 x12 x13 x14 x15 x16 x17 (i 0) (i 1))

theorem w239 : (val_main_v239 (F := Ideal) x0 x1 x2 x3 x4 x7 x8 x9 x10 x11 x12 x13 x14 x15 x16 : S8192x1024.Idx → EReal) = fun i => mg (rw0 x6 x7 x8 x9 x10 x11 x12 x13 x14 x15 x16 x17) (chn (ra0 x0 x1 x2 x3 x4 x5) (i 0)) (pln (i 0)) (i 1) :=
  funext fun i => (congrArg _ (ix2_eta i)).symm.trans (v118_eq x0 x1 x2 x3 x4 x5 x6 x7 x8 x9 x10 x11 x12 x13 x14 x15 x16 x17 (i 0) (i 1))

theorem w240 : (val_main_v240 (F := Ideal) x5 x6 : S8192x1024.Idx → EReal) = fun i => dmo (rw0 x6 x7 x8 x9 x10 x11 x12 x13 x14 x15 x16 x17) (tok (ra0 x0 x1 x2 x3 x4 x5) (i 0)) (i 1) :=
  funext fun i => (congrArg _ (ix2_eta i)).symm.trans (v124_eq x0 x1 x2 x3 x4 x5 x6 x7 x8 x9 x10 x11 x12 x13 x14 x15 x16 x17 (i 0) (i 1))

theorem w197 : (val_main_v197 (F := Ideal) x0 x1 x2 x4 x5 x6 x7 x8 x9 x14 x16 x17 : S512x512.Idx → EReal) = fun i => ∑ n : Fin 8192, ge (y (rw0 x6 x7 x8 x9 x10 x11 x12 x13 x14 x15 x16 x17) (tok (ra0 x0 x1 x2 x3 x4 x5) n) (i 0)) * dgt (rw0 x6 x7 x8 x9 x10 x11 x12 x13 x14 x15 x16 x17) (tok (ra0 x0 x1 x2 x3 x4 x5) n) (i 1) :=
  funext fun i => (congrArg _ (ix2_eta i)).symm.trans (v197_eq x0 x1 x2 x3 x4 x5 x6 x7 x8 x9 x10 x11 x12 x13 x14 x15 x16 x17 (i 0) (i 1))

theorem w147 : (val_main_v147 (F := Ideal) x3 x4 x5 x6 x10 x11 x15 x16 x17 : S8x128x128.Idx → EReal) = fun i => ∑ g : Fin 64, part (rw0 x6 x7 x8 x9 x10 x11 x12 x13 x14 x15 x16 x17) (chk (ra0 x0 x1 x2 x3 x4 x5) g) (i 0) (i 1) (i 2) :=
  funext fun i => (congrArg _ (ix3_eta i)).symm.trans (v147_part x0 x1 x2 x3 x4 x5 x6 x7 x8 x9 x10 x11 x12 x13 x14 x15 x16 x17 (i 0) (i 1) (i 2))

theorem w143 : (val_main_v143 (F := Ideal) x3 x4 x5 x6 x15 x16 x17 : S128x512.Idx → EReal) = fun i => ∑ g : Fin 64, ds (rw0 x6 x7 x8 x9 x10 x11 x12 x13 x14 x15 x16 x17) (chk (ra0 x0 x1 x2 x3 x4 x5) g (i 0)) (i 1) :=
  funext fun i => (congrArg _ (ix2_eta i)).symm.trans (v143_eq x0 x1 x2 x3 x4 x5 x6 x7 x8 x9 x10 x11 x12 x13 x14 x15 x16 x17 (i 0) (i 1))

theorem w226 : (val_main_v226 (F := Ideal) x0 x1 x2 x3 x4 x5 x6 x7 x8 x9 x10 x11 x12 x13 x14 x15 x16 x17 : S8x2048.Idx → EReal) = fun i => ∑ n : Fin 8192, row (rw0 x6 x7 x8 x9 x10 x11 x12 x13 x14 x15 x16 x17) (chn (ra0 x0 x1 x2 x3 x4 x5) n) (pln n) (i 0) (i 1) :=
  funext fun i => (congrArg _ (ix2_eta i)).symm.trans (v226_eq x0 x1 x2 x3 x4 x5 x6 x7 x8 x9 x10 x11 x12 x13 x14 x15 x16 x17 (i 0) (i 1))

end

end Cert.Proof.MixRef

namespace Cert.Proof.Mix

open Cert.ReferenceMixIdeal Cert.ReferenceMixIdeal.Read Idealize.ShloMosaic Idealize.ShloMosaic.TcCoe Idealize.SL.Sem Cert.Proof.Branch Cert.Proof.MixArr Cert.Proof.MixRef

set_option maxHeartbeats 4000000 in
/-- The kernel's thirteen results are the reference's. -/
theorem algebraic : Cert.algebraic_KernelMixIdeal_ReferenceMixIdeal := by
  intro m g m' g' _ hagree
  refine ⟨_, _, _, _, _, _, _, _, _, _, _, _, _, (θ_run _ _ _).mono (fun r h c => ⟨((h.1 c).1 18).trans (final18 m c), ((h.1 c).1 19).trans (final19 m c), ((h.1 c).1 20).trans (final20 m c), ((h.1 c).1 21).trans (final21 m c), ((h.1 c).1 22).trans (final22 m c), ((h.1 c).1 23).trans (final23 m c), ((h.1 c).1 24).trans (final24 m c), ((h.1 c).1 25).trans (final25 m c), ((h.1 c).1 26).trans (final26 m c), ((h.1 c).1 27).trans (final27 m c), ((h.1 c).1 28).trans (final28 m c), ((h.1 c).1 29).trans (final29 m c), ((h.1 c).1 30).trans (final30 m c), h.2.1 c⟩)
    (θ_run_and (MixRun.run_main m g) (MixRun.frame_run m g)), ?_⟩
  refine (θ_run _ _ _).mono (fun r h c => ?_) (Cert.ReferenceMixIdeal.Value.run m' g')
  obtain ⟨h0, h1, h2, h3, h4, h5, h6, h7, h8, h9, h10, h11, h12, hk⟩ := h c
  obtain ⟨b0, b1, b2, b3, b4, b5, b6, b7, b8, b9, b10, b11, b12, b13, b14, b15, b16, b17⟩ := hagree c
  have e0 : StableHlo.launchContents m' c (Proc.tc.devRef main_arg0) = a0 m c := b0
  have e1 : StableHlo.launchContents m' c (Proc.tc.devRef main_arg1) = a1 m c := b1
  have e2 : StableHlo.launchContents m' c (Proc.tc.devRef main_arg2) = a2 m c := b2
  have e3 : StableHlo.launchContents m' c (Proc.tc.devRef main_arg3) = a3 m c := b3
  have e4 : StableHlo.launchContents m' c (Proc.tc.devRef main_arg4) = a4 m c := b4
  have e5 : StableHlo.launchContents m' c (Proc.tc.devRef main_arg5) = a5 m c := b5
  have e6 : StableHlo.launchContents m' c (Proc.tc.devRef main_arg6) = a6 m c := b6
  have e7 : StableHlo.launchContents m' c (Proc.tc.devRef main_arg7) = a7 m c := b7
  have e8 : StableHlo.launchContents m' c (Proc.tc.devRef main_arg8) = a8 m c := b8
  have e9 : StableHlo.launchContents m' c (Proc.tc.devRef main_arg9) = a9 m c := b9
  have e10 : StableHlo.launchContents m' c (Proc.tc.devRef main_arg10) = a10 m c := b10
  have e11 : StableHlo.launchContents m' c (Proc.tc.devRef main_arg11) = a11 m c := b11
  have e12 : StableHlo.launchContents m' c (Proc.tc.devRef main_arg12) = a12 m c := b12
  have e13 : StableHlo.launchContents m' c (Proc.tc.devRef main_arg13) = a13 m c := b13
  have e14 : StableHlo.launchContents m' c (Proc.tc.devRef main_arg14) = a14 m c := b14
  have e15 : StableHlo.launchContents m' c (Proc.tc.devRef main_arg15) = a15 m c := b15
  have e16 : StableHlo.launchContents m' c (Proc.tc.devRef main_arg16) = a16 m c := b16
  have e17 : StableHlo.launchContents m' c (Proc.tc.devRef main_arg17) = a17 m c := b17
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, hk⟩
  · rw [val_main_v228_eq, e0, e1, e2, e4, e5, e6, e7, e8, e9, e14, e16, e17]
    exact w228 _ _ _ _ _ _ _ _ _ _ _ _ _ _ _ _ _ _
  · rw [val_main_v230_eq, e0, e1, e2, e4, e5, e6, e7, e8, e9, e14, e16, e17]
    exact w230 _ _ _ _ _ _ _ _ _ _ _ _ _ _ _ _ _ _
  · rw [val_main_v234_eq, e0, e1, e2, e3, e4, e5, e6, e7, e8, e9, e10, e11, e12, e13, e14, e15, e16, e17]
    exact w234 _ _ _ _ _ _ _ _ _ _ _ _ _ _ _ _ _ _
  · rw [val_main_v235_eq, e0, e1, e2, e7, e8, e9]
    exact w235 _ _ _ _ _ _ _ _ _ _ _ _ _ _ _ _ _ _
  · rw [val_main_v236_eq, e3, e10, e11, e12, e13]
    exact w236 _ _ _ _ _ _ _ _ _ _ _ _ _ _ _ _ _ _
  · rw [val_main_v237_eq, e4, e5, e6, e16, e17]
    exact w237 _ _ _ _ _ _ _ _ _ _ _ _ _ _ _ _ _ _
  · rw [val_main_v238_eq, e4, e5, e6, e16, e17]
    exact w238 _ _ _ _ _ _ _ _ _ _ _ _ _ _ _ _ _ _
  · rw [val_main_v239_eq, e0, e1, e2, e3, e4, e7, e8, e9, e10, e11, e12, e13, e14, e15, e16]
    exact w239 _ _ _ _ _ _ _ _ _ _ _ _ _ _ _ _ _ _
  · rw [val_main_v240_eq, e5, e6]
    exact w240 _ _ _ _ _ _ _ _ _ _ _ _ _ _ _ _ _ _
  · rw [val_main_v197_eq, e0, e1, e2, e4, e5, e6, e7, e8, e9, e14, e16, e17]
    exact w197 _ _ _ _ _ _ _ _ _ _ _ _ _ _ _ _ _ _
  · rw [val_main_v147_eq, e3, e4, e5, e6, e10, e11, e15, e16, e17]
    exact w147 _ _ _ _ _ _ _ _ _ _ _ _ _ _ _ _ _ _
  · rw [val_main_v143_eq, e3, e4, e5, e6, e15, e16, e17]
    exact w143 _ _ _ _ _ _ _ _ _ _ _ _ _ _ _ _ _ _
  · rw [val_main_v226_eq, e0, e1, e2, e3, e4, e5, e6, e7, e8, e9, e10, e11, e12, e13, e14, e15, e16, e17]
    exact w226 _ _ _ _ _ _ _ _ _ _ _ _ _ _ _ _ _ _

/-- The frame over the words, of the program that the proofs above run. -/
def kept : Prop := ∀ (m : (ℓ : Loc Cert.KernelMixIdeal.nD Cert.KernelMixIdeal.τ Cert.KernelMixIdeal.sig) → Buf (Elt Bits) ℓ) (g : Dev Cert.KernelMixIdeal.nD → PrngReg), True →
    θ_run (Cert.KernelMixIdeal.defs (F := Bits)) (onTc (τ := Cert.KernelMixIdeal.τ) (Cert.KernelMixIdeal.main (F := Bits))) ⟨m, fun _ => 0, g⟩ (MixRun.Quiet m)

set_option maxRecDepth 100000 in
set_option maxHeartbeats 8000000 in
/-- The two prints of the kernel are one program, so their frames are one claim. -/
theorem kept_eq : Cert.quiescent_KernelMix = kept := by sl_kernel_rfl

/-- The kernel runs and leaves its arguments, over the words. -/
theorem frame_kernel : Cert.quiescent_KernelMix := kept_eq ▸ fun m ρ _ => MixRun.frame_run (F := Bits) m ρ

/-- And over the extended reals. -/
theorem frame_kernelIdeal : Cert.quiescent_KernelMixIdeal := fun m ρ _ => MixRun.frame_run (F := Ideal) m ρ

/-- The reference runs and leaves its arguments. -/
theorem frame_reference : Cert.quiescent_ReferenceMixIdeal := fun m ρ _ =>
  (θ_run _ _ _).mono (fun _ h => ⟨fun c => (h c).2.2.2.2.2.2.2.2.2.2.2.2.2, funext fun ⟨_, s⟩ => by rcases s with s | s <;> exact s.elim0⟩)
    (Cert.ReferenceMixIdeal.Value.run m ρ)

end Cert.Proof.Mix

end
-- ==== Proof.Mixf.lean ====
/- What the branch forward kernel leaves in its two results, of the arguments: the merge of the branches, and the tokens with it added. -/
module

public import proofs.«01_k».proof.Proof.MixTile
public import proofs.«01_k».proof.Proof.Gen.KernelMixfIdeal.Value

@[expose] public section

set_option maxRecDepth 16384

noncomputable section

namespace Cert.Proof.Mixf

open Cert.KernelMixfIdeal.Value Cert.KernelMixfIdeal Cert.KernelMixfIdeal.Gen Idealize.ShloMosaic Idealize.ShloMosaic.TcCoe Idealize.SL.Sem Cert.Proof.Branch Cert.Proof.MixTile

/-! ## A tile -/

section
variable (X : MixRun.Ins Ideal) (p : Fin 256) (j : Fin 1024)

theorem hz2 : (![0, 0] : Fin 2 → Nat) = fun _ => 0 := funext fun a => by fin_cases a <;> rfl

/-- The body's first branch is the backward body's. -/
theorem first_eq : k0_pay40 (F := Ideal) X.u X.y0 X.y1 X.z X.gl X.dx1 X.ml X.d X.wg X.bg X.lg X.lb X.sw X.bf X.wpa X.wpb X.bgate X.wo = YA X := by
  unfold k0_pay40
  rw [View.ld_unit_zero hz2, View.ld_unit_zero hz2, View.ld_unit_zero hz2, View.ld_unit_zero hz2, View.ld_unit_zero hz2, View.ld_unit_zero hz2]
  rfl

/-- The body's second branch is the backward body's. -/
theorem second_eq : k0_pay46 (F := Ideal) X.u X.y0 X.y1 X.z X.gl X.dx1 X.ml X.d X.wg X.bg X.lg X.lb X.sw X.bf X.wpa X.wpb X.bgate X.wo = YB X := by
  unfold k0_pay46 k0_pay45 k0_pay44 k0_pay43 k0_pay42 k0_pay41 k0_pay39 k0_pay38 k0_pay37 k0_pay36 k0_pay35 k0_pay34 k0_pay33 k0_pay32 k0_pay31
  rw [View.ld_unit_zero hz2, View.ld_unit_zero hz2, View.ld_unit_zero hz2, View.ld_unit_zero hz2]
  rfl

/-- The merge of the branches of a token, and its product. -/
theorem pay1_apply : (k0_pay1 (F := Ideal) (YA X) (YB X) X.gl X.bgate X.wpa X.wpb X.wo (ix2 p j) : EReal)
    = ∑ k : Fin 1024, mg (wts X) (ch X p) (pl p) k * (wts X).wo k j := by
  unfold mg ga gb pa pb
  simp only [ch_pl, ← ya_apply, ← yb_apply]
  unfold wts tk k0_pay1
  pointwise

theorem mo_apply : (out0_19 (F := Ideal) X.u X.y0 X.y1 X.z X.gl X.dx1 X.ml X.d X.wg X.bg X.lg X.lb X.sw X.bf X.wpa X.wpb X.bgate X.wo (ix2 p j) : EReal) = ∑ k : Fin 1024, mg (wts X) (ch X p) (pl p) k * (wts X).wo k j := by
  unfold out0_19
  rw [View.canon_unit_zero hz2, View.ld_unit_zero hz2, View.ld_unit_zero hz2, View.ld_unit_zero hz2, View.ld_unit_zero hz2, View.ld_unit_zero hz2, first_eq, second_eq]
  exact pay1_apply X p j

theorem x1_apply : (out0_18 (F := Ideal) X.u X.y0 X.y1 X.z X.gl X.dx1 X.ml X.d X.wg X.bg X.lg X.lb X.sw X.bf X.wpa X.wpb X.bgate X.wo (ix2 p j) : EReal) = (tk X p).e j + (wts X).g j * ∑ k : Fin 1024, mg (wts X) (ch X p) (pl p) k * (wts X).wo k j := by
  unfold out0_18
  rw [View.canon_unit_zero hz2, View.ld_unit_zero hz2, View.ld_unit_zero hz2, View.ld_unit_zero hz2, View.ld_unit_zero hz2, View.ld_unit_zero hz2, View.ld_unit_zero hz2, first_eq, second_eq,
    ← pay1_apply]
  unfold k0_pay2
  pointwise
  rfl
end

/-! ## The arguments -/

variable (m : (ℓ : Loc nD τ sig) → Buf (Elt Ideal) ℓ) (ρ : Dev nD → PrngReg) (c : Dev nD) (t : Fin cfg0.N)
abbrev a0 : S8448x512.Idx → EReal := m ((c : Thread nD τ).loc main_arg0)
abbrev a1 : S8448x512.Idx → EReal := m ((c : Thread nD τ).loc main_arg1)
abbrev a2 : S8448x512.Idx → EReal := m ((c : Thread nD τ).loc main_arg2)
abbrev a3 : S8448x1024.Idx → EReal := m ((c : Thread nD τ).loc main_arg3)
abbrev a4 : S8448x2048.Idx → EReal := m ((c : Thread nD τ).loc main_arg4)
abbrev a5 : S8192x1024.Idx → EReal := m ((c : Thread nD τ).loc main_arg5)
abbrev a6 : S1x6144.Idx → EReal := m ((c : Thread nD τ).loc main_arg6)
abbrev a7 : S1x512.Idx → EReal := m ((c : Thread nD τ).loc main_arg7)
abbrev a8 : S512x512.Idx → EReal := m ((c : Thread nD τ).loc main_arg8)
abbrev a9 : S1x512.Idx → EReal := m ((c : Thread nD τ).loc main_arg9)
abbrev a10 : S1x512.Idx → EReal := m ((c : Thread nD τ).loc main_arg10)
abbrev a11 : S1x512.Idx → EReal := m ((c : Thread nD τ).loc main_arg11)
abbrev a12 : S8x128x128.Idx → EReal := m ((c : Thread nD τ).loc main_arg12)
abbrev a13 : S8x128.Idx → EReal := m ((c : Thread nD τ).loc main_arg13)
abbrev a14 : S512x1024.Idx → EReal := m ((c : Thread nD τ).loc main_arg14)
abbrev a15 : S512x1024.Idx → EReal := m ((c : Thread nD τ).loc main_arg15)
abbrev a16 : S1x2048.Idx → EReal := m ((c : Thread nD τ).loc main_arg16)
abbrev a17 : S1024x1024.Idx → EReal := m ((c : Thread nD τ).loc main_arg17)

/-- The activations and the weights, of the arguments. -/
def arr : Arr := ⟨fun n j => a0 m c (ix2 n j), fun n j => a1 m c (ix2 n j), fun n j => a2 m c (ix2 n j), fun n j => a3 m c (ix2 n j), fun n j => a4 m c (ix2 n j), fun n j => a5 m c (ix2 n j)⟩

def wt : Wts where
  g j := a6 m c (ix2 0 ⟨2048 + j.val, by omega⟩)
  d j := a7 m c (ix2 0 j)
  wg k j := a8 m c (ix2 k j)
  bg j := a9 m c (ix2 0 j)
  lg j := a10 m c (ix2 0 j)
  lb j := a11 m c (ix2 0 j)
  sw g a b := a12 m c (ix3 g a b)
  bf q j := a13 m c (ix2 (grp j) q)
  wpa k j := a14 m c (ix2 k j)
  wpb k j := a15 m c (ix2 k j)
  bgate j := a16 m c (ix2 0 j)
  wo k j := a17 m c (ix2 k j)

/-- What a window's block holds of its array. -/
theorem idx_rows : ∀ t : Fin cfg0.N,
    win0_0.index t = ![t.val + 1, 0] ∧ win0_1.index t = ![t.val + 1, 0] ∧ win0_2.index t = ![t.val + 1, 0] ∧ win0_3.index t = ![t.val + 1, 0] ∧ win0_4.index t = ![t.val + 1, 0]
    ∧ win0_5.index t = ![t.val, 0] ∧ win0_18.index t = ![t.val, 0] ∧ win0_19.index t = ![t.val, 0] :=
  (by decide +kernel : ∀ t : Fin grid0.N, _)

theorem idx_all : ∀ t : Fin cfg0.N,
    (win0_6.index t = ![0, 0] ∧ win0_7.index t = ![0, 0] ∧ win0_8.index t = ![0, 0] ∧ win0_9.index t = ![0, 0] ∧ win0_10.index t = ![0, 0] ∧ win0_11.index t = ![0, 0])
    ∧ win0_12.index t = ![0, 0, 0] ∧ win0_13.index t = ![0, 0] ∧ win0_14.index t = ![0, 0] ∧ win0_15.index t = ![0, 0] ∧ win0_16.index t = ![0, 0] ∧ win0_17.index t = ![0, 0] :=
  (by decide +kernel : ∀ t : Fin grid0.N, _)

/-- The token that is token `p` of the tile of point `t`. -/
def at_ (p : Fin 256) : Fin 8192 := ⟨t.val * 256 + p.val, by have : t.val < 32 := t.isLt; omega⟩

/-- The weights as the region reads them, cast; the bias along the channels. -/
theorem casts : (V m c main_v3 : S512x512.Idx → EReal) = a8 m c ∧ (V m c main_v4 : S512x1024.Idx → EReal) = a14 m c
    ∧ (V m c main_v5 : S512x1024.Idx → EReal) = a15 m c ∧ (V m c main_v6 : S1024x1024.Idx → EReal) = a17 m c := by
  refine ⟨?_, ?_, ?_, ?_⟩ <;> (show StableHlo.after _ _ _ = _; after_results; rfl)

theorem bias_apply (q : Fin 128) (j : Fin 512) : (V m c main_v2 (ix2 q j) : EReal) = a13 m c (ix2 (grp j) q) := by
  have e : V m c main_v2 = shapeCast (α := EReal) S128x512 (broadcastInDim S128x8x64 ![0, 1] bcast_S128x8_S128x8x64_0_1 (transpose S128x8 [1, 0] (a13 m c) transposes_S8x128_S128x8_1_0)) shapeCasts_S128x8x64_S128x512 := by
    show StableHlo.after _ _ _ = _
    after_results
    rfl
  rw [e]
  pointwise
  rfl

/-- The blocks of point `t`. -/
abbrev ins : MixRun.Ins Ideal := ⟨iblk m c 0 t, iblk m c 1 t, iblk m c 2 t, iblk m c 3 t, iblk m c 4 t, iblk m c 5 t, iblk m c 6 t, iblk m c 7 t, iblk m c 8 t, iblk m c 9 t,
  iblk m c 10 t, iblk m c 11 t, iblk m c 12 t, iblk m c 13 t, iblk m c 14 t, iblk m c 15 t, iblk m c 16 t, iblk m c 17 t⟩

theorem blk0 (p : Fin 256) (j : Fin 512) : (iblk m c 0 t (ix2 p j) : EReal) = a0 m c (ix2 ⟨256 + (at_ t p).val, by omega⟩ j) := by
  obtain ⟨e, -⟩ := idx_rows t
  blk_simp [iblk]
  refine (congrArg (V m c main_arg0) ?_).trans (congrFun (V_main_arg0 m c) _)
  blk_ext [e, at_]
  all_goals omega

theorem blk1 (p : Fin 256) (j : Fin 512) : (iblk m c 1 t (ix2 p j) : EReal) = a1 m c (ix2 ⟨256 + (at_ t p).val, by omega⟩ j) := by
  obtain ⟨-, e, -⟩ := idx_rows t
  blk_simp [iblk]
  refine (congrArg (V m c main_arg1) ?_).trans (congrFun (V_main_arg1 m c) _)
  blk_ext [e, at_]
  all_goals omega

theorem blk2 (p : Fin 256) (j : Fin 512) : (iblk m c 2 t (ix2 p j) : EReal) = a2 m c (ix2 ⟨256 + (at_ t p).val, by omega⟩ j) := by
  obtain ⟨-, -, e, -⟩ := idx_rows t
  blk_simp [iblk]
  refine (congrArg (V m c main_arg2) ?_).trans (congrFun (V_main_arg2 m c) _)
  blk_ext [e, at_]
  all_goals omega

theorem blk3 (p : Fin 256) (j : Fin 1024) : (iblk m c 3 t (ix2 p j) : EReal) = a3 m c (ix2 ⟨256 + (at_ t p).val, by omega⟩ j) := by
  obtain ⟨-, -, -, e, -⟩ := idx_rows t
  blk_simp [iblk]
  refine (congrArg (V m c main_arg3) ?_).trans (congrFun (V_main_arg3 m c) _)
  blk_ext [e, at_]
  all_goals omega

theorem blk4 (p : Fin 256) (j : Fin 2048) : (iblk m c 4 t (ix2 p j) : EReal) = a4 m c (ix2 ⟨256 + (at_ t p).val, by omega⟩ j) := by
  obtain ⟨-, -, -, -, e, -⟩ := idx_rows t
  blk_simp [iblk]
  refine (congrArg (V m c main_arg4) ?_).trans (congrFun (V_main_arg4 m c) _)
  blk_ext [e, at_]
  all_goals omega

theorem blk5 (p : Fin 256) (j : Fin 1024) : (iblk m c 5 t (ix2 p j) : EReal) = a5 m c (ix2 (at_ t p) j) := by
  obtain ⟨-, -, -, -, -, e, -⟩ := idx_rows t
  blk_simp [iblk]
  refine (congrArg (V m c main_arg5) ?_).trans (congrFun (V_main_arg5 m c) _)
  blk_ext [e, at_]
  all_goals omega

theorem blk6 : (iblk m c 6 t : S1x6144.Idx → EReal) = a6 m c := by
  obtain ⟨⟨e, -⟩, -⟩ := idx_all t
  funext i
  blk_simp [iblk]
  refine (congrArg (V m c main_arg6) ?_).trans (congrFun (V_main_arg6 m c) i)
  blk_ext [e]

theorem blk7 : (iblk m c 7 t : S1x512.Idx → EReal) = a7 m c := by
  obtain ⟨⟨-, e, -⟩, -⟩ := idx_all t
  funext i
  blk_simp [iblk]
  refine (congrArg (V m c main_arg7) ?_).trans (congrFun (V_main_arg7 m c) i)
  blk_ext [e]

theorem blk8 : (iblk m c 8 t : S512x512.Idx → EReal) = a8 m c := by
  obtain ⟨⟨-, -, e, -⟩, -⟩ := idx_all t
  funext i
  blk_simp [iblk]
  refine (congrArg (V m c main_v3) ?_).trans (congrFun (casts m c).1 i)
  blk_ext [e]

theorem blk9 : (iblk m c 9 t : S1x512.Idx → EReal) = a9 m c := by
  obtain ⟨⟨-, -, -, e, -⟩, -⟩ := idx_all t
  funext i
  blk_simp [iblk]
  refine (congrArg (V m c main_arg9) ?_).trans (congrFun (V_main_arg9 m c) i)
  blk_ext [e]

theorem blk10 : (iblk m c 10 t : S1x512.Idx → EReal) = a10 m c := by
  obtain ⟨⟨-, -, -, -, e, -⟩, -⟩ := idx_all t
  funext i
  blk_simp [iblk]
  refine (congrArg (V m c main_arg10) ?_).trans (congrFun (V_main_arg10 m c) i)
  blk_ext [e]

theorem blk11 : (iblk m c 11 t : S1x512.Idx → EReal) = a11 m c := by
  obtain ⟨⟨-, -, -, -, -, e⟩, -⟩ := idx_all t
  funext i
  blk_simp [iblk]
  refine (congrArg (V m c main_arg11) ?_).trans (congrFun (V_main_arg11 m c) i)
  blk_ext [e]

theorem blk12 : (iblk m c 12 t : S8x128x128.Idx → EReal) = a12 m c := by
  obtain ⟨-, e, -⟩ := idx_all t
  funext i
  blk_simp [iblk]
  refine (congrArg (V m c main_arg12) ?_).trans (congrFun (V_main_arg12 m c) i)
  blk_ext [e]

theorem blk13 (q : Fin 128) (j : Fin 512) : (iblk m c 13 t (ix2 q j) : EReal) = a13 m c (ix2 (grp j) q) := by
  obtain ⟨-, -, e, -⟩ := idx_all t
  blk_simp [iblk]
  refine (congrArg (V m c main_v2) ?_).trans (bias_apply m c q j)
  blk_ext [e]

theorem blk14 : (iblk m c 14 t : S512x1024.Idx → EReal) = a14 m c := by
  obtain ⟨-, -, -, e, -⟩ := idx_all t
  funext i
  blk_simp [iblk]
  refine (congrArg (V m c main_v4) ?_).trans (congrFun (casts m c).2.1 i)
  blk_ext [e]

theorem blk15 : (iblk m c 15 t : S512x1024.Idx → EReal) = a15 m c := by
  obtain ⟨-, -, -, -, e, -⟩ := idx_all t
  funext i
  blk_simp [iblk]
  refine (congrArg (V m c main_v5) ?_).trans (congrFun (casts m c).2.2.1 i)
  blk_ext [e]

theorem blk16 : (iblk m c 16 t : S1x2048.Idx → EReal) = a16 m c := by
  obtain ⟨-, -, -, -, -, e, -⟩ := idx_all t
  funext i
  blk_simp [iblk]
  refine (congrArg (V m c main_arg16) ?_).trans (congrFun (V_main_arg16 m c) i)
  blk_ext [e]

theorem blk17 : (iblk m c 17 t : S1024x1024.Idx → EReal) = a17 m c := by
  obtain ⟨-, -, -, -, -, -, e⟩ := idx_all t
  funext i
  blk_simp [iblk]
  refine (congrArg (V m c main_v6) ?_).trans (congrFun (casts m c).2.2.2 i)
  blk_ext [e]

/-- The tile's weights are the whole's, its tokens the sequence's. -/
theorem wts_eq : wts (ins m c t) = wt m c := by
  unfold wts wt
  simp only [blk6, blk7, blk8, blk9, blk10, blk11, blk12, blk13, blk14, blk15, blk16, blk17]

theorem tk_eq (p : Fin 256) : tk (ins m c t) p = tok (arr m c) (at_ t p) := by
  unfold tk tok arr
  simp only [blk0 m c t, blk1 m c t, blk2 m c t, blk3 m c t, blk4 m c t, blk5 m c t]

set_option maxHeartbeats 2000000 in
theorem ch_eq (p : Fin 256) : ch (ins m c t) p = chn (arr m c) (at_ t p) := by
  have ht : t.val < 32 := t.isLt
  unfold ch chn
  split_ifs with hp <;> funext q <;> refine (tk_eq m c t _).trans (congrArg (tok _) (Fin.ext ?_))
  · show t.val * 256 + (0 + q.val) = (t.val * 256 + p.val) / 128 * 128 + q.val
    omega
  · show t.val * 256 + (128 + q.val) = (t.val * 256 + p.val) / 128 * 128 + q.val
    omega

theorem pl_eq (p : Fin 256) : pl p = pln (at_ t p) := Fin.ext (by show p.val % 128 = (t.val * 256 + p.val) % 128; omega)

/-! ## The results -/

/-- The merged branches, projected. -/
def mo (n : Fin 8192) (j : Fin 1024) : EReal := ∑ k : Fin 1024, mg (wt m c) (chn (arr m c) n) (pln n) k * (wt m c).wo k j

def x1 (n : Fin 8192) (j : Fin 1024) : EReal := (tok (arr m c) n).e j + (wt m c).g j * mo m c n j

def r18 : S8192x1024.Idx → EReal := fun i => x1 m c (i 0) (i 1)
def r19 : S8192x1024.Idx → EReal := fun i => mo m c (i 0) (i 1)

theorem mo_of (p : Fin 256) (j : Fin 1024) : (∑ k : Fin 1024, mg (wts (ins m c t)) (ch (ins m c t) p) (pl p) k * (wts (ins m c t)).wo k j) = mo m c (at_ t p) j := by
  rw [wts_eq, ch_eq, pl_eq t]
  rfl

theorem after19 (p : Fin 256) (j : Fin 1024) : ((dats m 0 c).after 19 t (ix2 p j) : EReal) = mo m c (at_ t p) j := by
  refine (congrFun (after0_19 m c t) (ix2 p j)).trans (Eq.trans ?_ (mo_of m c t p j))
  exact mo_apply (ins m c t) p j

theorem r19_at (n : Fin 8192) (j : Fin 1024) : r19 m c (ix2 n j) = mo m c n j := rfl

theorem final19 : (dats m 0 c).arrAt 19 cfg0.N = r19 m c := by
  refine (dats m 0 c).arrAt_eq_of_covers 19 _ (by decide +kernel) fun t hf y => ?_
  obtain ⟨-, -, -, -, -, -, -, e⟩ := idx_rows t
  blk_simp
  obtain ⟨p, j, rfl⟩ : ∃ (p : Fin 256) (j : Fin 1024), y = ix2 p j := ⟨y 0, y 1, (ix2_eta y).symm⟩
  refine (after19 m c t p j).trans ((r19_at m c (at_ t p) j).symm.trans (congrArg (r19 m c) ?_))
  blk_ext [e, at_]

set_option maxHeartbeats 2000000 in
theorem final18 : (dats m 0 c).arrAt 18 cfg0.N = r18 m c := by
  refine (dats m 0 c).arrAt_eq_of_covers 18 _ (by decide +kernel) fun t hf y => ?_
  obtain ⟨-, -, -, -, -, -, e, -⟩ := idx_rows t
  blk_simp
  rw [after0_18]
  obtain ⟨p, j, rfl⟩ : ∃ (p : Fin 256) (j : Fin 1024), y = ix2 p j := ⟨y 0, y 1, (ix2_eta y).symm⟩
  refine (x1_apply (ins m c t) p j).trans ?_
  rw [wts_eq, ch_eq, pl_eq t, tk_eq]
  refine congrArg (r18 m c) (?_ : ix2 (at_ t p) j = _)
  blk_ext [e, at_]

end Cert.Proof.Mixf

end
-- ==== Proof.MixfEq.lean ====
/- The branch forward kernel and its reference: the two results agree, and the reference leaves its arguments. -/
module

public import proofs.«01_k».proof.Defs
public import proofs.«01_k».proof.Proof.Mixf
public import proofs.«01_k».proof.Proof.MixBwd
public import proofs.«01_k».proof.Proof.Gen.ReferenceMixfIdeal.Run
public import proofs.«01_k».proof.Proof.Gen.ReferenceMixfIdeal.Read

@[expose] public section

set_option maxRecDepth 16384

noncomputable section

namespace Cert.Proof.Mixf

open Cert.ReferenceMixfIdeal Cert.ReferenceMixfIdeal.Read Idealize.ShloMosaic Idealize.ShloMosaic.TcCoe Idealize.SL.Sem Cert.Proof.Branch Cert.Proof.MixRef

section
variable (x0 x1 x2 : S8448x512.Idx → EReal) (x3 : S8448x1024.Idx → EReal) (x4 : S8448x2048.Idx → EReal) (x5 : S8192x1024.Idx → EReal)
  (x6 : S1x6144.Idx → EReal) (x7 : S1x512.Idx → EReal) (x8 : S512x512.Idx → EReal) (x9 x10 x11 : S1x512.Idx → EReal) (x12 : S8x128x128.Idx → EReal)
  (x13 : S8x128.Idx → EReal) (x14 x15 : S512x1024.Idx → EReal) (x16 : S1x2048.Idx → EReal) (x17 : S1024x1024.Idx → EReal)

/-- The merge is the one the backward's reference starts from. -/
theorem merge_same : val_main_v93 (F := Ideal) x0 x1 x2 x3 x4 x7 x8 x9 x10 x11 x12 x13 x14 x15 x16 = Cert.ReferenceMixIdeal.Read.val_main_v118 (F := Ideal) x0 x1 x2 x3 x4 x7 x8 x9 x10 x11 x12 x13 x14 x15 x16 := rfl

theorem v94_eq (p : Fin 8192) (j : Fin 1024) : (val_main_v94 (F := Ideal) x0 x1 x2 x3 x4 x7 x8 x9 x10 x11 x12 x13 x14 x15 x16 x17 (ix2 p j) : EReal)
    = ∑ k : Fin 1024, mg (rw0 x6 x7 x8 x9 x10 x11 x12 x13 x14 x15 x16 x17) (chn (ra0 x0 x1 x2 x3 x4 x5) p) (pln p) k * (rw0 x6 x7 x8 x9 x10 x11 x12 x13 x14 x15 x16 x17).wo k j := by
  simp only [← v118_eq x0 x1 x2 x3 x4 x5 x6 x7 x8 x9 x10 x11 x12 x13 x14 x15 x16 x17, ← merge_same]
  unfold rw0 val_main_v94
  pointwise

theorem v98_eq (p : Fin 8192) (j : Fin 1024) : (val_main_v98 (F := Ideal) x0 x1 x2 x3 x4 x5 x6 x7 x8 x9 x10 x11 x12 x13 x14 x15 x16 x17 (ix2 p j) : EReal)
    = (tok (ra0 x0 x1 x2 x3 x4 x5) p).e j + (rw0 x6 x7 x8 x9 x10 x11 x12 x13 x14 x15 x16 x17).g j * ∑ k : Fin 1024, mg (rw0 x6 x7 x8 x9 x10 x11 x12 x13 x14 x15 x16 x17) (chn (ra0 x0 x1 x2 x3 x4 x5) p) (pln p) k * (rw0 x6 x7 x8 x9 x10 x11 x12 x13 x14 x15 x16 x17).wo k j := by
  rw [← v94_eq x0 x1 x2 x3 x4 x5 x6 x7 x8 x9 x10 x11 x12 x13 x14 x15 x16 x17]
  unfold tok ra0 rw0 val_main_v98 val_main_v97 val_main_v96 val_main_v95
  pointwise

theorem w94 : (val_main_v94 (F := Ideal) x0 x1 x2 x3 x4 x7 x8 x9 x10 x11 x12 x13 x14 x15 x16 x17 : S8192x1024.Idx → EReal) = fun i => ∑ k : Fin 1024, mg (rw0 x6 x7 x8 x9 x10 x11 x12 x13 x14 x15 x16 x17) (chn (ra0 x0 x1 x2 x3 x4 x5) (i 0)) (pln (i 0)) k * (rw0 x6 x7 x8 x9 x10 x11 x12 x13 x14 x15 x16 x17).wo k (i 1) :=
  funext fun i => (congrArg _ (ix2_eta i)).symm.trans (v94_eq x0 x1 x2 x3 x4 x5 x6 x7 x8 x9 x10 x11 x12 x13 x14 x15 x16 x17 (i 0) (i 1))

theorem w98 : (val_main_v98 (F := Ideal) x0 x1 x2 x3 x4 x5 x6 x7 x8 x9 x10 x11 x12 x13 x14 x15 x16 x17 : S8192x1024.Idx → EReal)
    = fun i => (tok (ra0 x0 x1 x2 x3 x4 x5) (i 0)).e (i 1) + (rw0 x6 x7 x8 x9 x10 x11 x12 x13 x14 x15 x16 x17).g (i 1) * ∑ k : Fin 1024, mg (rw0 x6 x7 x8 x9 x10 x11 x12 x13 x14 x15 x16 x17) (chn (ra0 x0 x1 x2 x3 x4 x5) (i 0)) (pln (i 0)) k * (rw0 x6 x7 x8 x9 x10 x11 x12 x13 x14 x15 x16 x17).wo k (i 1) :=
  funext fun i => (congrArg _ (ix2_eta i)).symm.trans (v98_eq x0 x1 x2 x3 x4 x5 x6 x7 x8 x9 x10 x11 x12 x13 x14 x15 x16 x17 (i 0) (i 1))
end

/-- The reference program ends, its semaphores at zero and its arguments as they were. -/
theorem frame_reference : Cert.quiescent_ReferenceMixfIdeal := fun m ρ _ =>
  (θ_run _ _ _).mono (fun _ h => ⟨fun c => (h c).2.2, funext fun ⟨_, s⟩ => by rcases s with s | s <;> exact s.elim0⟩)
    (Cert.ReferenceMixfIdeal.Value.run m ρ)

set_option maxHeartbeats 2000000 in
/-- The kernel and the reference leave the same two results. -/
theorem algebraic : Cert.algebraic_KernelMixfIdeal_ReferenceMixfIdeal := by
  intro m g m' g' _ hagree
  refine ⟨_, _, (θ_run _ _ _).mono (fun r h c => ⟨(h c).1.trans (final18 m c), (h c).2.1.trans (final19 m c), (h c).2.2⟩)
    (Cert.KernelMixfIdeal.Value.run_blocks m g), ?_⟩
  refine (θ_run _ _ _).mono (fun r h c => ?_) (Cert.ReferenceMixfIdeal.Value.run m' g')
  obtain ⟨h1, h2, hk⟩ := h c
  obtain ⟨b0, b1, b2, b3, b4, b5, b6, b7, b8, b9, b10, b11, b12, b13, b14, b15, b16, b17⟩ := hagree c
  have e0 : m' ((c : Thread nD τ).loc main_arg0) = a0 m c := b0
  have e1 : m' ((c : Thread nD τ).loc main_arg1) = a1 m c := b1
  have e2 : m' ((c : Thread nD τ).loc main_arg2) = a2 m c := b2
  have e3 : m' ((c : Thread nD τ).loc main_arg3) = a3 m c := b3
  have e4 : m' ((c : Thread nD τ).loc main_arg4) = a4 m c := b4
  have e5 : m' ((c : Thread nD τ).loc main_arg5) = a5 m c := b5
  have e6 : m' ((c : Thread nD τ).loc main_arg6) = a6 m c := b6
  have e7 : m' ((c : Thread nD τ).loc main_arg7) = a7 m c := b7
  have e8 : m' ((c : Thread nD τ).loc main_arg8) = a8 m c := b8
  have e9 : m' ((c : Thread nD τ).loc main_arg9) = a9 m c := b9
  have e10 : m' ((c : Thread nD τ).loc main_arg10) = a10 m c := b10
  have e11 : m' ((c : Thread nD τ).loc main_arg11) = a11 m c := b11
  have e12 : m' ((c : Thread nD τ).loc main_arg12) = a12 m c := b12
  have e13 : m' ((c : Thread nD τ).loc main_arg13) = a13 m c := b13
  have e14 : m' ((c : Thread nD τ).loc main_arg14) = a14 m c := b14
  have e15 : m' ((c : Thread nD τ).loc main_arg15) = a15 m c := b15
  have e16 : m' ((c : Thread nD τ).loc main_arg16) = a16 m c := b16
  have e17 : m' ((c : Thread nD τ).loc main_arg17) = a17 m c := b17
  refine ⟨h1.trans ?_, h2.trans ?_, hk⟩
  · rw [val_main_v98_eq, e0, e1, e2, e3, e4, e5, e6, e7, e8, e9, e10, e11, e12, e13, e14, e15, e16, e17]
    exact w98 (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c)
  · rw [val_main_v94_eq, e0, e1, e2, e3, e4, e7, e8, e9, e10, e11, e12, e13, e14, e15, e16, e17]
    exact w94 (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c)

end Cert.Proof.Mixf

end
-- ==== Proof.Inf.lean ====
/- The forward of the mixer's input: modulated norm of context and tokens, and product. What the kernel leaves in its four result arrays. -/
module

public import proofs.«01_k».proof.Proof.Gen.KernelInfIdeal.Value
public import proofs.«01_k».proof.Proof.Upf

@[expose] public section

set_option maxRecDepth 16384

noncomputable section

namespace Cert.Proof.Inf

open Cert.KernelInfIdeal Cert.KernelInfIdeal.Gen Cert.KernelInfIdeal.Value Idealize.ShloMosaic Idealize.ShloMosaic.TcCoe Idealize.SL.Sem Cert.Proof.Norm

/-! ## The four results, of the arguments -/

/-- A normed row, scaled and shifted. -/
def md (x : Fin 1024 → EReal) (M : S1x6144.Idx → EReal) (G : S1x1024.Idx → EReal) (j : Fin 1024) : EReal :=
  x j * rs x * G (ix2 0 j) * (1 + M (ix2 0 ⟨1024 + j.val, by omega⟩)) + M (ix2 0 ⟨0 + j.val, by omega⟩)

/-- The context's rows, then the tokens', each with its modulation. -/
def h (X : S8192x1024.Idx → EReal) (C : S256x1024.Idx → EReal) (M Mc : S1x6144.Idx → EReal) (G : S1x1024.Idx → EReal) (r : Fin 8448) (j : Fin 1024) : EReal :=
  if e : r.val < 256 then md (fun k => C (ix2 ⟨r.val, e⟩ k)) Mc G j else md (fun k => X (ix2 ⟨r.val - 256, by omega⟩ k)) M G j

/-- The product with a column of the weights. -/
def pr (X : S8192x1024.Idx → EReal) (C : S256x1024.Idx → EReal) (M Mc : S1x6144.Idx → EReal) (G : S1x1024.Idx → EReal) (W : S1024x3584.Idx → EReal)
    (r : Fin 8448) (j : Fin 3584) : EReal := ∑ k : Fin 1024, h X C M Mc G r k * W (ix2 k j)

section
variable (X : S8192x1024.Idx → EReal) (C : S256x1024.Idx → EReal) (M Mc : S1x6144.Idx → EReal) (G : S1x1024.Idx → EReal) (W : S1024x3584.Idx → EReal)

def u (i : S8448x512.Idx) : EReal := pr X C M Mc G W (i 0) ⟨0 + (i 1).val, by have : (i 1).val < 512 := (i 1).isLt; omega⟩
def z (i : S8448x1024.Idx) : EReal := pr X C M Mc G W (i 0) ⟨512 + (i 1).val, by have : (i 1).val < 1024 := (i 1).isLt; omega⟩
def gl (i : S8448x2048.Idx) : EReal := pr X C M Mc G W (i 0) ⟨1536 + (i 1).val, by have : (i 1).val < 2048 := (i 1).isLt; omega⟩
def saved (i : S8448x1024.Idx) : EReal := h X C M Mc G (i 0) (i 1)
end

/-! ## A tile -/

section
variable (t : Fin cfg0.N) (a b : FVec Ideal S256x1024 .f32) (ma mb : FVec Ideal S1x6144 .f32) (g : FVec Ideal S1x1024 .f32) (w : FVec Ideal S1024x3584 .bf16) (p : Fin 256)

/-- At the first point the body takes the context, at the others the tokens. -/
theorem first : ∀ t : Fin cfg0.N, Scalar.cmpi .eq (BitVec.ofNat 32 (grid0.coords t 0).val) 0#32 = if t.val = 0 then 1#1 else 0#1 :=
  (by decide +kernel : ∀ t : Fin grid0.N, _)

theorem pay3_apply (j : Fin 1024) : (k0_pay3 (F := Ideal) (grid0.coords t) a b ma mb g (ix2 p j) : EReal)
    = if t.val = 0 then md (fun k => a (ix2 p k)) ma g j else md (fun k => b (ix2 p k)) mb g j := by
  have e (x : FVec Ideal S256x1024 .f32) (M : FVec Ideal S1x6144 .f32) (hx : Scalar.select (Scalar.cmpi .eq (BitVec.ofNat 32 (grid0.coords t 0).val) 0#32) a b = x)
      (hM : Scalar.select (Scalar.cmpi .eq (BitVec.ofNat 32 (grid0.coords t 0).val) 0#32) ma mb = M) :
      (k0_pay3 (F := Ideal) (grid0.coords t) a b ma mb g (ix2 p j) : EReal) = md (fun k => x (ix2 p k)) M g j := by
    unfold k0_pay3 md rs ms
    dsimp only
    rw [hx, hM]
    pointwise
  split_ifs with h0
  · exact e a ma (by rw [first, if_pos h0]; rfl) (by rw [first, if_pos h0]; rfl)
  · exact e b mb (by rw [first, if_neg h0]; rfl) (by rw [first, if_neg h0]; rfl)

theorem pay4_apply (j : Fin 3584) : (k0_pay4 (F := Ideal) (grid0.coords t) a b ma mb g w (ix2 p j) : EReal)
    = ∑ k : Fin 1024, k0_pay3 (F := Ideal) (grid0.coords t) a b ma mb g (ix2 p k) * w (ix2 k j) := by
  unfold k0_pay4
  pointwise

theorem pay5_apply (j : Fin 512) : (k0_pay5 (F := Ideal) (grid0.coords t) a b ma mb g w (ix2 p j) : EReal)
    = k0_pay4 (F := Ideal) (grid0.coords t) a b ma mb g w (ix2 p ⟨0 + j.val, by omega⟩) := by
  unfold k0_pay5
  pointwise

theorem pay6_apply (j : Fin 1024) : (k0_pay6 (F := Ideal) (grid0.coords t) a b ma mb g w (ix2 p j) : EReal)
    = k0_pay4 (F := Ideal) (grid0.coords t) a b ma mb g w (ix2 p ⟨512 + j.val, by omega⟩) := by
  unfold k0_pay6
  pointwise

theorem pay1_apply (v : FVec Ideal S256x3584 .f32) (j : Fin 2048) : (k0_pay1 (F := Ideal) v (ix2 p j) : EReal) = v (ix2 p ⟨1536 + j.val, by omega⟩) := by
  unfold k0_pay1
  pointwise
end

/-! ## The blocks of a point -/

variable (m : (ℓ : Loc nD τ sig) → Buf (Elt Ideal) ℓ) (ρ : Dev nD → PrngReg)
variable (c : Dev nD) (t : Fin cfg0.N)

abbrev aX : S8192x1024.Idx → EReal := m ((c : Thread nD τ).loc main_arg0)
abbrev aC : S256x1024.Idx → EReal := m ((c : Thread nD τ).loc main_arg1)
abbrev aM : S1x6144.Idx → EReal := m ((c : Thread nD τ).loc main_arg2)
abbrev aMc : S1x6144.Idx → EReal := m ((c : Thread nD τ).loc main_arg3)
abbrev aG : S1x1024.Idx → EReal := m ((c : Thread nD τ).loc main_arg4)
abbrev aW : S1024x3584.Idx → EReal := m ((c : Thread nD τ).loc main_arg5)

theorem idx_facts : ∀ t : Fin cfg0.N,
    win0_0.index t = ![t.val - 1, 0] ∧ win0_1.index t = ![0, 0] ∧ win0_2.index t = ![0, 0] ∧ win0_3.index t = ![0, 0] ∧ win0_4.index t = ![0, 0] ∧ win0_5.index t = ![0, 0]
    ∧ win0_6.index t = ![t.val, 0] ∧ win0_7.index t = ![t.val, 0] ∧ win0_8.index t = ![t.val, 0] ∧ win0_9.index t = ![t.val, 0] :=
  (by decide +kernel : ∀ t : Fin grid0.N, _)

/-- The row that is row `n` of point `t`'s tile. -/
def row (t : Fin cfg0.N) (n : Fin 256) : Fin 8448 := ⟨t.val * 256 + n.val, by have h : t.val < 33 := t.isLt; have := n.isLt; omega⟩

theorem v0_eq : (V m c main_v0 : S1024x3584.Idx → EReal) = aW m c := by
  show StableHlo.after _ _ _ = _
  after_results
  rfl

theorem blk0 (h : t.val ≠ 0) (a : Fin 256) (j : Fin 1024) : (iblk m c 0 t (ix2 a j) : EReal) = aX m c (ix2 ⟨(row t a).val - 256, by omega⟩ j) := by
  obtain ⟨e, -⟩ := idx_facts t
  blk_simp [iblk]
  refine (congrArg (V m c main_arg0) ?_).trans (congrFun (V_main_arg0 m c) _)
  blk_ext [e, row]
  all_goals omega

theorem blk1 : (iblk m c 1 t : S256x1024.Idx → EReal) = aC m c := by
  obtain ⟨-, e, -⟩ := idx_facts t
  funext i
  blk_simp [iblk]
  refine (congrArg (V m c main_arg1) ?_).trans (congrFun (V_main_arg1 m c) i)
  blk_ext [e]

theorem blk2 : (iblk m c 2 t : S1x6144.Idx → EReal) = aM m c := by
  obtain ⟨-, -, e, -⟩ := idx_facts t
  funext i
  blk_simp [iblk]
  refine (congrArg (V m c main_arg2) ?_).trans (congrFun (V_main_arg2 m c) i)
  blk_ext [e]

theorem blk3 : (iblk m c 3 t : S1x6144.Idx → EReal) = aMc m c := by
  obtain ⟨-, -, -, e, -⟩ := idx_facts t
  funext i
  blk_simp [iblk]
  refine (congrArg (V m c main_arg3) ?_).trans (congrFun (V_main_arg3 m c) i)
  blk_ext [e]

theorem blk4 : (iblk m c 4 t : S1x1024.Idx → EReal) = aG m c := by
  obtain ⟨-, -, -, -, e, -⟩ := idx_facts t
  funext i
  blk_simp [iblk]
  refine (congrArg (V m c main_arg4) ?_).trans (congrFun (V_main_arg4 m c) i)
  blk_ext [e]

theorem blk5 : (iblk m c 5 t : S1024x3584.Idx → EReal) = aW m c := by
  obtain ⟨-, -, -, -, -, e, -⟩ := idx_facts t
  funext i
  blk_simp [iblk]
  refine (congrArg (V m c main_v0) ?_).trans (congrFun (v0_eq m c) i)
  blk_ext [e]

theorem h_tile (a : Fin 256) (j : Fin 1024) : (k0_pay3 (F := Ideal) (grid0.coords t) (iblk m c 1 t) (iblk m c 0 t) (iblk m c 3 t) (iblk m c 2 t) (iblk m c 4 t) (ix2 a j) : EReal) = h (aX m c) (aC m c) (aM m c) (aMc m c) (aG m c) (row t a) j := by
  refine (pay3_apply t _ _ _ _ _ a j).trans ?_
  rw [blk1, blk2, blk3, blk4]
  unfold h
  by_cases h0 : t.val = 0
  · have hr : (row t a).val = a.val := by show t.val * 256 + a.val = a.val; omega
    rw [if_pos h0, dif_pos (by omega)]
    exact congrArg (fun q => md (fun k => aC m c (ix2 q k)) (aMc m c) (aG m c) j) (Fin.ext hr.symm)
  · have hr : ¬ (row t a).val < 256 := by show ¬ t.val * 256 + a.val < 256; omega
    rw [if_neg h0, dif_neg hr]
    simp only [blk0 m c t h0]

theorem pr_tile (a : Fin 256) (j : Fin 3584) : (k0_pay4 (F := Ideal) (grid0.coords t) (iblk m c 1 t) (iblk m c 0 t) (iblk m c 3 t) (iblk m c 2 t) (iblk m c 4 t) (iblk m c 5 t) (ix2 a j) : EReal) = pr (aX m c) (aC m c) (aM m c) (aMc m c) (aG m c) (aW m c) (row t a) j := by
  refine (pay4_apply t _ _ _ _ _ _ a j).trans ?_
  rw [blk5]
  exact Finset.sum_congr rfl fun k _ => congrArg (· * _) (h_tile m c t a k)

theorem hz : (![0, 0] : Fin 2 → Nat) = fun _ => 0 := funext fun a => by fin_cases a <;> rfl

theorem out6 (a : Fin 256) (j : Fin 512) : (out0_6 (F := Ideal) (grid0.coords t) (iblk m c 0 t) (iblk m c 1 t) (iblk m c 2 t) (iblk m c 3 t) (iblk m c 4 t) (iblk m c 5 t) (ix2 a j) : EReal)
    = u (aX m c) (aC m c) (aM m c) (aMc m c) (aG m c) (aW m c) (ix2 (row t a) j) := by
  unfold out0_6
  rw [View.canon_unit_zero hz, View.ld_unit_zero hz, View.ld_unit_zero hz, View.ld_unit_zero hz, View.ld_unit_zero hz, View.ld_unit_zero hz, View.ld_unit_zero hz]
  exact (pay5_apply t _ _ _ _ _ _ a j).trans (pr_tile m c t a _)

theorem out7 (a : Fin 256) (j : Fin 1024) : (out0_7 (F := Ideal) (grid0.coords t) (iblk m c 0 t) (iblk m c 1 t) (iblk m c 2 t) (iblk m c 3 t) (iblk m c 4 t) (iblk m c 5 t) (ix2 a j) : EReal)
    = z (aX m c) (aC m c) (aM m c) (aMc m c) (aG m c) (aW m c) (ix2 (row t a) j) := by
  unfold out0_7
  rw [View.canon_unit_zero hz, View.ld_unit_zero hz, View.ld_unit_zero hz, View.ld_unit_zero hz, View.ld_unit_zero hz, View.ld_unit_zero hz, View.ld_unit_zero hz]
  exact (pay6_apply t _ _ _ _ _ _ a j).trans (pr_tile m c t a _)

theorem out8 (a : Fin 256) (j : Fin 2048) : (out0_8 (F := Ideal) (grid0.coords t) (iblk m c 0 t) (iblk m c 1 t) (iblk m c 2 t) (iblk m c 3 t) (iblk m c 4 t) (iblk m c 5 t) (ix2 a j) : EReal)
    = gl (aX m c) (aC m c) (aM m c) (aMc m c) (aG m c) (aW m c) (ix2 (row t a) j) := by
  unfold out0_8
  rw [View.canon_unit_zero hz, View.ld_unit_zero hz, View.ld_unit_zero hz, View.ld_unit_zero hz, View.ld_unit_zero hz, View.ld_unit_zero hz, View.ld_unit_zero hz]
  exact (pay1_apply a _ j).trans (pr_tile m c t a _)

theorem out9 (a : Fin 256) (j : Fin 1024) : (out0_9 (F := Ideal) (grid0.coords t) (iblk m c 0 t) (iblk m c 1 t) (iblk m c 2 t) (iblk m c 3 t) (iblk m c 4 t) (iblk m c 5 t) (ix2 a j) : EReal) = saved (aX m c) (aC m c) (aM m c) (aMc m c) (aG m c) (ix2 (row t a) j) := by
  unfold out0_9
  rw [View.canon_unit_zero hz, View.ld_unit_zero hz, View.ld_unit_zero hz, View.ld_unit_zero hz, View.ld_unit_zero hz, View.ld_unit_zero hz]
  exact h_tile m c t a j

theorem final6 : (dats m 0 c).arrAt 6 cfg0.N = u (aX m c) (aC m c) (aM m c) (aMc m c) (aG m c) (aW m c) := by
  refine (dats m 0 c).arrAt_eq_of_covers 6 _ (by decide +kernel) fun t hf y => ?_
  obtain ⟨-, -, -, -, -, -, e, -⟩ := idx_facts t
  blk_simp
  rw [after0_6]
  obtain ⟨a, j, rfl⟩ : ∃ (a : Fin 256) (j : Fin 512), y = ix2 a j := ⟨y 0, y 1, (ix2_eta y).symm⟩
  refine (out6 m c t a j).trans (congrArg (u (aX m c) (aC m c) (aM m c) (aMc m c) (aG m c) (aW m c)) ?_)
  blk_ext [e, row]

theorem final7 : (dats m 0 c).arrAt 7 cfg0.N = z (aX m c) (aC m c) (aM m c) (aMc m c) (aG m c) (aW m c) := by
  refine (dats m 0 c).arrAt_eq_of_covers 7 _ (by decide +kernel) fun t hf y => ?_
  obtain ⟨-, -, -, -, -, -, -, e, -⟩ := idx_facts t
  blk_simp
  rw [after0_7]
  obtain ⟨a, j, rfl⟩ : ∃ (a : Fin 256) (j : Fin 1024), y = ix2 a j := ⟨y 0, y 1, (ix2_eta y).symm⟩
  refine (out7 m c t a j).trans (congrArg (z (aX m c) (aC m c) (aM m c) (aMc m c) (aG m c) (aW m c)) ?_)
  blk_ext [e, row]

theorem final8 : (dats m 0 c).arrAt 8 cfg0.N = gl (aX m c) (aC m c) (aM m c) (aMc m c) (aG m c) (aW m c) := by
  refine (dats m 0 c).arrAt_eq_of_covers 8 _ (by decide +kernel) fun t hf y => ?_
  obtain ⟨-, -, -, -, -, -, -, -, e, -⟩ := idx_facts t
  blk_simp
  rw [after0_8]
  obtain ⟨a, j, rfl⟩ : ∃ (a : Fin 256) (j : Fin 2048), y = ix2 a j := ⟨y 0, y 1, (ix2_eta y).symm⟩
  refine (out8 m c t a j).trans (congrArg (gl (aX m c) (aC m c) (aM m c) (aMc m c) (aG m c) (aW m c)) ?_)
  blk_ext [e, row]

theorem final9 : (dats m 0 c).arrAt 9 cfg0.N = saved (aX m c) (aC m c) (aM m c) (aMc m c) (aG m c) := by
  refine (dats m 0 c).arrAt_eq_of_covers 9 _ (by decide +kernel) fun t hf y => ?_
  obtain ⟨-, -, -, -, -, -, -, -, -, e⟩ := idx_facts t
  blk_simp
  rw [after0_9]
  obtain ⟨a, j, rfl⟩ : ∃ (a : Fin 256) (j : Fin 1024), y = ix2 a j := ⟨y 0, y 1, (ix2_eta y).symm⟩
  refine (out9 m c t a j).trans (congrArg (saved (aX m c) (aC m c) (aM m c) (aMc m c) (aG m c)) ?_)
  blk_ext [e, row]

end Cert.Proof.Inf

end
-- ==== Proof.InfEq.lean ====
/- The forward of the mixer's input: the reference's four results, and the equation of the two programs. -/
module

public import proofs.«01_k».proof.Defs
public import proofs.«01_k».proof.Proof.Inf
public import proofs.«01_k».proof.Proof.Gen.ReferenceInfIdeal.Run
public import proofs.«01_k».proof.Proof.Gen.ReferenceInfIdeal.Read

@[expose] public section

set_option maxRecDepth 16384

noncomputable section

namespace Cert.Proof.Inf

open Cert.ReferenceInfIdeal Cert.ReferenceInfIdeal.Read Idealize.ShloMosaic Idealize.ShloMosaic.TcCoe Idealize.SL.Sem Cert.Proof.Norm

variable (X : FVec Ideal S8192x1024 .f32) (C : FVec Ideal S256x1024 .f32) (M Mc : FVec Ideal S1x6144 .f32) (G : FVec Ideal S1x1024 .f32) (W : FVec Ideal S1024x3584 .f32)

theorem v19_eq (p : Fin 256) (j : Fin 1024) : (val_main_v19 (F := Ideal) C Mc G (ix2 p j) : EReal) = md (fun k => C (ix2 p k)) Mc G j := by
  unfold md rs ms
  unfold val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
  pointwise

theorem v39_eq (p : Fin 8192) (j : Fin 1024) : (val_main_v39 (F := Ideal) X M G (ix2 p j) : EReal) = md (fun k => X (ix2 p k)) M G j := by
  unfold md rs ms
  unfold val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_cst_3 val_main_cst_4 val_main_cst_5 val_main_cst_6
  pointwise

theorem v40_eq (r : Fin 8448) (j : Fin 1024) : (val_main_v40 (F := Ideal) X C M Mc G (ix2 r j) : EReal) = h X C M Mc G r j := by
  unfold h
  simp only [← v19_eq, ← v39_eq]
  unfold val_main_v40
  pointwise

theorem v41_eq (r : Fin 8448) (j : Fin 3584) : (val_main_v41 (F := Ideal) X C M Mc G W (ix2 r j) : EReal) = pr X C M Mc G W r j := by
  unfold pr
  simp only [← v40_eq]
  unfold val_main_v41
  pointwise

theorem v42_eq : (val_main_v42 (F := Ideal) X C M Mc G W : S8448x512.Idx → EReal) = u X C M Mc G W := by
  funext i
  obtain ⟨p, j, rfl⟩ : ∃ (p : Fin 8448) (j : Fin 512), i = ix2 p j := ⟨i 0, i 1, (ix2_eta i).symm⟩
  unfold u
  refine Eq.trans ?_ (v41_eq X C M Mc G W p ⟨0 + j.val, by omega⟩)
  unfold val_main_v42
  pointwise

theorem v43_eq : (val_main_v43 (F := Ideal) X C M Mc G W : S8448x1024.Idx → EReal) = z X C M Mc G W := by
  funext i
  obtain ⟨p, j, rfl⟩ : ∃ (p : Fin 8448) (j : Fin 1024), i = ix2 p j := ⟨i 0, i 1, (ix2_eta i).symm⟩
  unfold z
  refine Eq.trans ?_ (v41_eq X C M Mc G W p ⟨512 + j.val, by omega⟩)
  unfold val_main_v43
  pointwise

theorem v44_eq : (val_main_v44 (F := Ideal) X C M Mc G W : S8448x2048.Idx → EReal) = gl X C M Mc G W := by
  funext i
  obtain ⟨p, j, rfl⟩ : ∃ (p : Fin 8448) (j : Fin 2048), i = ix2 p j := ⟨i 0, i 1, (ix2_eta i).symm⟩
  unfold gl
  refine Eq.trans ?_ (v41_eq X C M Mc G W p ⟨1536 + j.val, by omega⟩)
  unfold val_main_v44
  pointwise

theorem v45_eq : (val_main_v45 (F := Ideal) X C M Mc G : S8448x1024.Idx → EReal) = saved X C M Mc G := by
  funext i
  exact (congrArg _ (ix2_eta i)).symm.trans ((v40_eq X C M Mc G (i 0) (i 1)).trans rfl)

/-- The kernel and the reference end with the same four arrays. -/
theorem algebraic : Cert.algebraic_KernelInfIdeal_ReferenceInfIdeal := by
  intro m g m' g' _ hagree
  refine ⟨_, _, _, _, (θ_run _ _ _).mono (fun r h c => ⟨(h c).1.trans (final6 m c), (h c).2.1.trans (final7 m c), (h c).2.2.1.trans (final8 m c), (h c).2.2.2.1.trans (final9 m c), (h c).2.2.2.2⟩)
    (Cert.KernelInfIdeal.Value.run_blocks m g), ?_⟩
  refine (θ_run _ _ _).mono (fun r h c => ?_) (Cert.ReferenceInfIdeal.Value.run m' g')
  obtain ⟨h1, h2, h3, h4, hk⟩ := h c
  obtain ⟨a0, a1, a2, a3, a4, a5⟩ := hagree c
  refine ⟨h1.trans ?_, h2.trans ?_, h3.trans ?_, h4.trans ?_, hk⟩
  · rw [val_main_v42_eq, a0, a1, a2, a3, a4, a5]
    exact v42_eq _ _ _ _ _ _
  · rw [val_main_v43_eq, a0, a1, a2, a3, a4, a5]
    exact v43_eq _ _ _ _ _ _
  · rw [val_main_v44_eq, a0, a1, a2, a3, a4, a5]
    exact v44_eq _ _ _ _ _ _
  · rw [val_main_v45_eq, a0, a1, a2, a3, a4]
    exact v45_eq _ _ _ _ _

/-- The reference runs and leaves its arguments. -/
theorem frame_reference : Cert.quiescent_ReferenceInfIdeal := fun m ρ _ =>
  (θ_run _ _ _).mono (fun _ h => ⟨fun c => (h c).2.2.2.2, funext fun ⟨_, s⟩ => by rcases s with s | s <;> exact s.elim0⟩)
    (Cert.ReferenceInfIdeal.Value.run m ρ)

end Cert.Proof.Inf

end
-- ==== Proof.Modf.lean ====
/- The forward of the modulation: the gated vectors of time and context times the weights, with the bias. What the kernel leaves in its result array. -/
module

public import proofs.«01_k».proof.Proof.Gen.KernelModfIdeal.Value
public import proofs.«01_k».proof.Proof.Norm

@[expose] public section

set_option maxRecDepth 16384

noncomputable section

namespace Cert.Proof.Modf

open Cert.KernelModfIdeal Cert.KernelModfIdeal.Gen Cert.KernelModfIdeal.Value Idealize.ShloMosaic Idealize.ShloMosaic.TcCoe Idealize.SL.Sem Cert.Proof.Norm

/-- The gate `silu`. -/
def sl (x : EReal) : EReal := x * Ideal.logistic x

/-- The vector of time, that of the context, and six rows of zeros. -/
def cc (T : S1x1024.Idx → EReal) (X : S1024.Idx → EReal) (r : Fin 8) (k : Fin 1024) : EReal :=
  if r.val = 0 then T (ix2 0 k) else if r.val = 1 then X (ix1 k) else 0

/-- The modulation: the gated rows times the weights, and the bias. -/
def ada (T : S1x1024.Idx → EReal) (X : S1024.Idx → EReal) (W : S1024x6144.Idx → EReal) (B : S1x6144.Idx → EReal) (i : S8x6144.Idx) : EReal :=
  (∑ k : Fin 1024, sl (cc T X (i 0) k) * W (ix2 k (i 1))) + B (ix2 0 (i 1))

theorem pay1_apply (v : FVec Ideal S8x1024 .f32) (w : FVec Ideal S1024x1024 .bf16) (b : FVec Ideal S1x1024 .f32) (r : Fin 8) (j : Fin 1024) :
    (k0_pay1 (F := Ideal) v w b (ix2 r j) : EReal) = (∑ k : Fin 1024, sl (v (ix2 r k)) * w (ix2 k j)) + b (ix2 0 j) := by
  unfold k0_pay1 sl
  pointwise

/-! ## The blocks of a point -/

variable (m : (ℓ : Loc nD τ sig) → Buf (Elt Ideal) ℓ) (ρ : Dev nD → PrngReg)
variable (c : Dev nD) (t : Fin cfg0.N)

abbrev aT : S1x1024.Idx → EReal := m ((c : Thread nD τ).loc main_arg0)
abbrev aX : S1024.Idx → EReal := m ((c : Thread nD τ).loc main_arg1)
abbrev aW : S1024x6144.Idx → EReal := m ((c : Thread nD τ).loc main_arg2)
abbrev aB : S1x6144.Idx → EReal := m ((c : Thread nD τ).loc main_arg3)

theorem idx_facts : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- The column that is column `j` of point `t`'s tile. -/
def col (t : Fin cfg0.N) (j : Fin 1024) : Fin 6144 := ⟨t.val * 1024 + j.val, by have h : t.val < 6 := t.isLt; have := j.isLt; omega⟩

/-- The host stacks the two vectors over six rows of zeros. -/
theorem v2_eq (r : Fin 8) (k : Fin 1024) : (V m c main_v2 : S8x1024.Idx → EReal) (ix2 r k) = cc (aT m c) (aX m c) r k := by
  have e : (V m c main_v2 : FVec Ideal S8x1024 .f32) = concatenate S8x1024 0 [⟨S1x1024, (aT m c : FVec Ideal S1x1024 .f32)⟩,
      ⟨S1x1024, (broadcastInDim S1x1024 ![1] bcast_S1024_S1x1024_1 (aX m c) : FVec Ideal S1x1024 .f32)⟩,
      ⟨S6x1024, (broadcastInDim S6x1024 ![] bcast_S_S6x1024 (constant S_ .f32 0x00000000#32) : FVec Ideal S6x1024 .f32)⟩] concatenates_S1x1024_S1x1024_S6x1024_S8x1024_d0 := by
    show StableHlo.after _ _ _ = _
    after_results
    rfl
  refine (congrFun e _).trans ?_
  unfold cc
  pointwise
  repeat' split
  all_goals first
    | omega
    | exact congrArg (fun q => aT m c (ix2 q k)) (Subsingleton.elim _ _)
    | rfl

theorem v3_eq : (V m c main_v3 : S1024x6144.Idx → EReal) = aW m c := by
  show StableHlo.after _ _ _ = _
  after_results
  rfl

theorem blk0 (r : Fin 8) (k : Fin 1024) : (iblk m c 0 t (ix2 r k) : EReal) = cc (aT m c) (aX m c) r k := by
  obtain ⟨e, -⟩ := idx_facts t
  blk_simp [iblk]
  refine (congrArg (V m c main_v2) ?_).trans (v2_eq m c r k)
  blk_ext [e]

theorem blk1 (k j : Fin 1024) : (iblk m c 1 t (ix2 k j) : EReal) = aW m c (ix2 k (col t j)) := by
  obtain ⟨-, e, -⟩ := idx_facts t
  blk_simp [iblk]
  refine (congrArg (V m c main_v3) ?_).trans (congrFun (v3_eq m c) _)
  blk_ext [e, col]

theorem blk2 (j : Fin 1024) : (iblk m c 2 t (ix2 0 j) : EReal) = aB m c (ix2 0 (col t j)) := by
  obtain ⟨-, -, e, -⟩ := idx_facts t
  blk_simp [iblk]
  refine (congrArg (V m c main_arg3) ?_).trans (congrFun (V_main_arg3 m c) _)
  blk_ext [e, col]

theorem hz : (![0, 0] : Fin 2 → Nat) = fun _ => 0 := funext fun a => by fin_cases a <;> rfl

theorem out3 (r : Fin 8) (j : Fin 1024) :
    (out0_3 (F := Ideal) (iblk m c 0 t) (iblk m c 1 t) (iblk m c 2 t) (ix2 r j) : EReal) = ada (aT m c) (aX m c) (aW m c) (aB m c) (ix2 r (col t j)) := by
  unfold out0_3
  rw [View.canon_unit_zero hz, View.ld_unit_zero hz, View.ld_unit_zero hz, View.ld_unit_zero hz]
  refine (pay1_apply _ _ _ r j).trans ?_
  simp only [blk0, blk1, blk2]
  rfl

theorem final3 : (dats m 0 c).arrAt 3 cfg0.N = ada (aT m c) (aX m c) (aW m c) (aB m c) := by
  refine (dats m 0 c).arrAt_eq_of_covers 3 _ (by decide +kernel) fun t hf y => ?_
  obtain ⟨-, -, -, e⟩ := idx_facts t
  blk_simp
  rw [after0_3]
  obtain ⟨r, j, rfl⟩ : ∃ (r : Fin 8) (j : Fin 1024), y = ix2 r j := ⟨y 0, y 1, (ix2_eta y).symm⟩
  refine (out3 m c t r j).trans (congrArg (ada (aT m c) (aX m c) (aW m c) (aB m c)) ?_)
  blk_ext [e, col]

end Cert.Proof.Modf

end
-- ==== Proof.ModfEq.lean ====
/- The forward of the modulation: the reference's result, and the equation of the two programs. -/
module

public import proofs.«01_k».proof.Defs
public import proofs.«01_k».proof.Proof.Modf
public import proofs.«01_k».proof.Proof.Gen.ReferenceModfIdeal.Run
public import proofs.«01_k».proof.Proof.Gen.ReferenceModfIdeal.Read

@[expose] public section

set_option maxRecDepth 16384

noncomputable section

namespace Cert.Proof.Modf

open Cert.ReferenceModfIdeal Cert.ReferenceModfIdeal.Read Idealize.ShloMosaic Idealize.ShloMosaic.TcCoe Idealize.SL.Sem Cert.Proof.Norm

variable (T : FVec Ideal S1x1024 .f32) (X : FVec Ideal S1024 .f32) (W : FVec Ideal S1024x6144 .f32) (B : FVec Ideal S1x6144 .f32)

theorem v0_eq (p : Fin 1) (k : Fin 1024) : (val_main_v0 (F := Ideal) T (ix2 p k) : EReal) = sl (T (ix2 p k)) := by
  simp only [val_main_v0_apply, val_main_call0_v5_apply, val_main_call0_v4_apply, val_main_call0_cst_0_apply, val_main_call0_v3_apply, val_main_call0_v2_apply, val_main_call0_cst_apply, val_main_call0_v1_apply, val_main_call0_v0_apply, pointwise]
  rfl

theorem v4_eq (p : Fin 1) (k : Fin 1024) : (val_main_v4 (F := Ideal) X (ix2 p k) : EReal) = sl (X (ix1 k)) := by
  have e : (val_main_v3 (F := Ideal) X (ix2 p k) : EReal) = X (ix1 k) := by
    unfold val_main_v3
    pointwise
  simp only [val_main_v4_apply, val_main_call1_v5_apply, val_main_call1_v4_apply, val_main_call1_cst_0_apply, val_main_call1_v3_apply, val_main_call1_v2_apply, val_main_call1_cst_apply, val_main_call1_v1_apply, val_main_call1_v0_apply, pointwise]
  exact congrArg sl e

theorem v2r_eq (p : Fin 1) (j : Fin 6144) : (val_main_v2 (F := Ideal) T W B (ix2 p j) : EReal) = (∑ k : Fin 1024, sl (T (ix2 p k)) * W (ix2 k j)) + B (ix2 p j) := by
  simp only [← v0_eq]
  unfold val_main_v2 val_main_v1
  pointwise

theorem v6_eq (p : Fin 1) (j : Fin 6144) : (val_main_v6 (F := Ideal) X W B (ix2 p j) : EReal) = (∑ k : Fin 1024, sl (X (ix1 k)) * W (ix2 k j)) + B (ix2 p j) := by
  simp only [← v4_eq X p]
  unfold val_main_v6 val_main_v5
  pointwise

theorem v7_eq (p : Fin 6) (j : Fin 6144) : (val_main_v7 (F := Ideal) B (ix2 p j) : EReal) = B (ix2 0 j) := by
  unfold val_main_v7
  pointwise

/-- A row of zeros leaves the bias. -/
theorem zero_row (j : Fin 6144) : (∑ k : Fin 1024, sl 0 * (W (ix2 k j) : EReal)) = 0 := by
  unfold sl
  simp

theorem v8_eq : (val_main_v8 (F := Ideal) T X W B : S8x6144.Idx → EReal) = ada T X W B := by
  funext i
  obtain ⟨r, j, rfl⟩ : ∃ (r : Fin 8) (j : Fin 6144), i = ix2 r j := ⟨i 0, i 1, (ix2_eta i).symm⟩
  unfold val_main_v8 ada cc
  pointwise
  simp only [v2r_eq, v6_eq, v7_eq]
  have r0 (q : Fin 1) : q = 0 := Subsingleton.elim _ _
  by_cases h0 : r.val = 0
  · simp only [h0, r0, if_true, zero_lt_one, dite_true]
  by_cases h1 : r.val = 1
  · simp only [h1, r0, if_true, dite_true, dite_false, if_false, lt_irrefl, one_ne_zero, Nat.sub_self, zero_lt_one]
  rw [dif_neg (by omega), dif_neg (by omega)]
  simp only [h0, h1, if_false]
  exact ((congrArg (· + _) (zero_row W j)).trans (zero_add _)).symm

/-- The kernel and the reference end with the same array. -/
theorem algebraic : Cert.algebraic_KernelModfIdeal_ReferenceModfIdeal := by
  intro m g m' g' _ hagree
  refine ⟨_, (θ_run _ _ _).mono (fun r h c => ⟨(h c).1.trans (final3 m c), (h c).2⟩)
    (Cert.KernelModfIdeal.Value.run_blocks m g), ?_⟩
  refine (θ_run _ _ _).mono (fun r h c => ?_) (Cert.ReferenceModfIdeal.Value.run m' g')
  obtain ⟨h1, hk⟩ := h c
  obtain ⟨a0, a1, a2, a3⟩ := hagree c
  refine ⟨h1.trans ?_, hk⟩
  rw [val_main_v8_eq, a0, a1, a2, a3]
  exact v8_eq _ _ _ _

/-- The reference runs and leaves its arguments. -/
theorem frame_reference : Cert.quiescent_ReferenceModfIdeal := fun m ρ _ =>
  (θ_run _ _ _).mono (fun _ h => ⟨fun c => (h c).2, funext fun ⟨_, s⟩ => by rcases s with s | s <;> exact s.elim0⟩)
    (Cert.ReferenceModfIdeal.Value.run m ρ)

end Cert.Proof.Modf

end
-- ==== Proof.Sum.lean ====
/- The sum of four partial gradients: what the kernel leaves in its result. -/
module

public import proofs.«01_k».proof.Proof.Gen.KernelSumIdeal.Value
public import proofs.«01_k».proof.Proof.Rows

@[expose] public section

set_option maxRecDepth 16384

noncomputable section

namespace Cert.Proof.Sum

open Cert.KernelSumIdeal Cert.KernelSumIdeal.Gen Cert.KernelSumIdeal.Value Idealize.ShloMosaic Idealize.ShloMosaic.TcCoe Idealize.SL.Sem

variable (m : (ℓ : Loc nD τ sig) → Buf (Elt Ideal) ℓ) (ρ : Dev nD → PrngReg)
variable (c : Dev nD) (t : Fin cfg0.N)

abbrev aR : S4x1024x1408.Idx → EReal := m ((c : Thread nD τ).loc main_arg0)

/-- The four parts, the first two and the last two added first. -/
def total (R : S4x1024x1408.Idx → EReal) (i : S1024x1408.Idx) : EReal :=
  R (ix3 0 (i 0) (i 1)) + R (ix3 1 (i 0) (i 1)) + (R (ix3 2 (i 0) (i 1)) + R (ix3 3 (i 0) (i 1)))

theorem idx_facts : ∀ t : Fin cfg0.N, win0_0.index t = ![0, t.val, 0] ∧ win0_1.index t = ![t.val, 0] :=
  (by decide +kernel : ∀ t : Fin grid0.N, _)

def row (t : Fin cfg0.N) (n : Fin 128) : Fin 1024 := ⟨t.val * 128 + n.val, by have h : t.val < 8 := t.isLt; have := n.isLt; omega⟩

theorem v0_eq : (V m c main_v0 : S4x1024x1408.Idx → EReal) = aR m c := by
  show StableHlo.after _ _ _ = _
  after_results
  rfl

theorem blk0 (g : Fin 4) (a : Fin 128) (j : Fin 1408) : (iblk m c 0 t (ix3 g a j) : EReal) = aR m c (ix3 g (row t a) j) := by
  obtain ⟨e, -⟩ := idx_facts t
  blk_simp [iblk]
  refine (congrArg (V m c main_v0) ?_).trans (congrFun (v0_eq m c) _)
  blk_ext [e, row]

theorem pay1_apply (x y z w : FVec Ideal S1x128x1408 .bf16) (a : Fin 128) (j : Fin 1408) : (k0_pay1 (F := Ideal) x y z w (ix2 a j) : EReal)
    = x (ix3 0 a j) + y (ix3 0 a j) + (z (ix3 0 a j) + w (ix3 0 a j)) := by
  unfold k0_pay1
  pointwise

theorem hz : (![0, 0] : Fin 2 → Nat) = fun _ => 0 := funext fun a => by fin_cases a <;> rfl

theorem out1 (a : Fin 128) (j : Fin 1408) : (out0_1 (F := Ideal) (iblk m c 0 t) (ix2 a j) : EReal) = total (aR m c) (ix2 (row t a) j) := by
  unfold out0_1 total
  rw [View.canon_unit_zero hz]
  refine (pay1_apply _ _ _ _ a j).trans ?_
  refine congrArg₂ (· + ·) (congrArg₂ (· + ·) ?_ ?_) (congrArg₂ (· + ·) ?_ ?_)
  · exact (Rows.ld_slab (iblk m c 0 t) _ 0 rfl a j).trans (blk0 m c t 0 a j)
  · exact (Rows.ld_slab (iblk m c 0 t) _ 1 rfl a j).trans (blk0 m c t 1 a j)
  · exact (Rows.ld_slab (iblk m c 0 t) _ 2 rfl a j).trans (blk0 m c t 2 a j)
  · exact (Rows.ld_slab (iblk m c 0 t) _ 3 rfl a j).trans (blk0 m c t 3 a j)

theorem final1 : (dats m 0 c).arrAt 1 cfg0.N = total (aR m c) := by
  refine (dats m 0 c).arrAt_eq_of_covers 1 _ (by decide +kernel) fun t hf y => ?_
  obtain ⟨-, e⟩ := idx_facts t
  blk_simp
  rw [after0_1]
  obtain ⟨a, j, rfl⟩ : ∃ (a : Fin 128) (j : Fin 1408), y = ix2 a j := ⟨y 0, y 1, (ix2_eta y).symm⟩
  refine (out1 m c t a j).trans (congrArg (total (aR m c)) ?_)
  blk_ext [e, row]

end Cert.Proof.Sum

end
-- ==== Proof.SumEq.lean ====
/- The sum of four partial gradients: the reference, and the equation of the two programs. -/
module

public import proofs.«01_k».proof.Defs
public import proofs.«01_k».proof.Proof.Sum
public import proofs.«01_k».proof.Proof.Gen.ReferenceSumIdeal.Run
public import proofs.«01_k».proof.Proof.Gen.ReferenceSumIdeal.Read

@[expose] public section

set_option maxRecDepth 16384

noncomputable section

namespace Cert.Proof.Sum

open Cert.ReferenceSumIdeal Cert.ReferenceSumIdeal.Read Idealize.ShloMosaic Idealize.ShloMosaic.TcCoe Idealize.SL.Sem

theorem v0_total (R : FVec Ideal S4x1024x1408 .f32) : (val_main_v0 (F := Ideal) R : S1024x1408.Idx → EReal) = total R := by
  funext i
  obtain ⟨p, j, rfl⟩ : ∃ (p : Fin 1024) (j : Fin 1408), i = ix2 p j := ⟨i 0, i 1, (ix2_eta i).symm⟩
  have h : (val_main_v0 (F := Ideal) R (ix2 p j) : EReal) = ∑ g : Fin 4, R (ix3 g p j) := by
    unfold val_main_v0 val_main_cst
    pointwise
  rw [h, Fin.sum_univ_four]
  exact add_assoc _ _ _

/-- The kernel and the reference end with the same sum. -/
theorem algebraic : Cert.algebraic_KernelSumIdeal_ReferenceSumIdeal := by
  intro m g m' g' _ hagree
  refine ⟨_, (θ_run _ _ _).mono (fun r h c => ⟨(h c).1.trans (final1 m c), (h c).2⟩)
    (Cert.KernelSumIdeal.Value.run_blocks m g), ?_⟩
  refine (θ_run _ _ _).mono (fun r h c => ?_) (Cert.ReferenceSumIdeal.Value.run m' g')
  refine ⟨(h c).1.trans ?_, (h c).2⟩
  rw [hagree c]
  exact v0_total _

/-- The reference runs and leaves its arguments. -/
theorem frame_reference : Cert.quiescent_ReferenceSumIdeal := fun m ρ _ =>
  (θ_run _ _ _).mono (fun _ h => ⟨fun c => (h c).2, funext fun ⟨_, s⟩ => by rcases s with s | s <;> exact s.elim0⟩)
    (Cert.ReferenceSumIdeal.Value.run m ρ)

end Cert.Proof.Sum

end
-- ==== Proof.AdamEq.lean ====
/- The optimiser: the sum of two partial gradients and its update, entry by entry. -/
module

public import proofs.«01_k».proof.Defs
public import proofs.«01_k».proof.Proof.Gen.KernelAdamIdeal.Value
public import proofs.«01_k».proof.Proof.Gen.ReferenceAdamIdeal.Run
public import proofs.«01_k».proof.Proof.Gen.ReferenceAdamIdeal.Read

@[expose] public section

set_option maxRecDepth 16384

noncomputable section

namespace Cert.Proof.Adam

open Cert.ReferenceAdamIdeal Cert.ReferenceAdamIdeal.Read Idealize.ShloMosaic Idealize.ShloMosaic.TcCoe Idealize.SL.Sem

variable (p q w a b : FVec Ideal S1024x1408 .f32)

theorem grad_eq : KernelAdamIdeal.Value.G5 (F := Ideal) p q = val_main_v0 (F := Ideal) p q := rfl

theorem mean_eq : KernelAdamIdeal.Value.G7 (F := Ideal) p q a = val_main_v5 (F := Ideal) p q a := by
  funext i
  rw [val_main_v5_apply, val_main_v4_apply, val_main_v2_apply, val_main_v1_apply, val_main_v3_apply]
  rfl

theorem square_eq : KernelAdamIdeal.Value.G8 (F := Ideal) p q b = val_main_v11 (F := Ideal) p q b := by
  funext i
  rw [val_main_v11_apply, val_main_v10_apply, val_main_v9_apply, val_main_v7_apply, val_main_v6_apply]
  rfl

/-- The step: the ratio of the two moments, and the decay of the weight. -/
theorem step_eq : KernelAdamIdeal.Value.G6 (F := Ideal) p q w a b = val_main_v24 (F := Ideal) p q w a b := by
  funext i
  rw [val_main_v24_apply, val_main_v23_apply, val_main_v22_apply, val_main_v21_apply, val_main_v20_apply, val_main_v19_apply, val_main_v18_apply, val_main_v17_apply,
    val_main_v16_apply, val_main_v15_apply, val_main_v14_apply, val_main_v13_apply, val_main_v12_apply, ← mean_eq, ← square_eq]
  rfl

/-- The kernel and the reference end with the same four arrays. -/
theorem algebraic : Cert.algebraic_KernelAdamIdeal_ReferenceAdamIdeal := by
  intro m g m' g' _ hagree
  refine ⟨_, _, _, _, KernelAdamIdeal.Value.run m g, ?_⟩
  refine (θ_run _ _ _).mono (fun r h c => ?_) (Cert.ReferenceAdamIdeal.Value.run m' g')
  obtain ⟨h1, h2, h3, h4, hk⟩ := h c
  obtain ⟨a0, a1, a2, a3, a4⟩ := hagree c
  refine ⟨h1.trans ?_, h2.trans ?_, h3.trans ?_, h4.trans ?_, hk⟩
  · rw [val_main_v0_eq, a0, a1]
    exact (grad_eq _ _).symm
  · rw [val_main_v24_eq, a0, a1, a2, a3, a4]
    exact (step_eq _ _ _ _ _).symm
  · rw [val_main_v5_eq, a0, a1, a3]
    exact (mean_eq _ _ _).symm
  · rw [val_main_v11_eq, a0, a1, a4]
    exact (square_eq _ _ _).symm

/-- The reference runs and leaves its arguments. -/
theorem frame_reference : Cert.quiescent_ReferenceAdamIdeal := fun m ρ _ =>
  (θ_run _ _ _).mono (fun _ h => ⟨fun c => (h c).2.2.2.2, funext fun ⟨_, s⟩ => by rcases s with s | s <;> exact s.elim0⟩)
    (Cert.ReferenceAdamIdeal.Value.run m ρ)

end Cert.Proof.Adam

end
-- ==== Proof.Ada.lean ====
/- The gradient of the modulation's weights and their update: what the kernel leaves in its four results. -/
module

public import proofs.«01_k».proof.Proof.Gen.KernelAdaIdeal.Frame
public import proofs.«01_k».proof.Proof.Norm

@[expose] public section

set_option maxRecDepth 16384

noncomputable section

namespace Cert.Proof.Ada

open Cert.KernelAdaIdeal Cert.KernelAdaIdeal.Gen Idealize.ShloMosaic Idealize.ShloMosaic.TcCoe Idealize.SL.Sem

/-! ## The update of one entry -/

def mean (g a : EReal) : EReal := Ideal.ofBits .f32 0x3F666666#32 * a + Ideal.ofBits .f32 0x3DCCCCCD#32 * g
def square (g b : EReal) : EReal := Ideal.ofBits .f32 0x3F7FBE77#32 * b + Ideal.ofBits .f32 0x3A83126F#32 * (g * g)
def step (g w a b : EReal) : EReal := Ideal.ofBits .f32 0xBA83126F#32 *
  (Ideal.div (Ideal.div (mean g a) (Ideal.ofBits .f32 0x3F26BD02#32)) (Ideal.sqrt (Ideal.div (square g b) (Ideal.ofBits .f32 0x3C231ACC#32)) + Ideal.ofBits .f32 0x322BCC77#32)
    + Ideal.ofBits .f32 0x3C23D70A#32 * w)

/-- The nine rows of conditioning, gated by themselves. -/
def si (x : FVec Ideal S9x1024 .f32) : FVec Ideal S9x1024 .f32 :=
  mulf x (Host.divf (broadcastInDim S9x1024 ![] bcast_S_S9x1024 (constant S_ .f32 0x3F800000#32))
    (addf (broadcastInDim S9x1024 ![] bcast_S_S9x1024 (constant S_ .f32 0x3F800000#32)) (Host.exp (Host.negf x))))

/-- The gradient: nine products added. -/
def grad (S : FVec Ideal S9x1024 .f32) (D : S9x1536.Idx → EReal) (i : S1024x1536.Idx) : EReal := ∑ k : Fin 9, si S (ix2 k (i 0)) * D (ix2 k (i 1))

variable (m : (ℓ : Loc nD τ sig) → Buf (Elt Ideal) ℓ) (ρ : Dev nD → PrngReg)
variable (c : Dev nD) (t : Fin cfg0.N)

abbrev aS : S9x1024.Idx → EReal := m ((c : Thread nD τ).loc main_arg0)
abbrev aW : S1024x1536.Idx → EReal := m ((c : Thread nD τ).loc main_arg1)
abbrev aD : S9x1536.Idx → EReal := m ((c : Thread nD τ).loc main_arg2)
abbrev aA : S1024x1536.Idx → EReal := m ((c : Thread nD τ).loc main_arg3)
abbrev aB : S1024x1536.Idx → EReal := m ((c : Thread nD τ).loc main_arg4)

theorem idx_facts : ∀ t : Fin cfg0.N, win0_0.index t = ![t.val, 0] ∧ win0_1.index t = ![0, 0] ∧ win0_2.index t = ![t.val, 0] ∧ win0_3.index t = ![t.val, 0] ∧ win0_4.index t = ![t.val, 0] :=
  (by decide +kernel : ∀ t : Fin grid0.N, _)

theorem out_facts : ∀ t : Fin cfg0.N, win0_5.index t = ![t.val, 0] ∧ win0_6.index t = ![t.val, 0] ∧ win0_7.index t = ![t.val, 0] ∧ win0_8.index t = ![t.val, 0] :=
  (by decide +kernel : ∀ t : Fin grid0.N, _)

def row (t : Fin cfg0.N) (n : Fin 256) : Fin 1024 := ⟨t.val * 256 + n.val, by have h : t.val < 4 := t.isLt; have := n.isLt; omega⟩

/-- The nine rows stand first among the sixteen the kernel is given. -/
abbrev up (k : Fin 9) : Fin 16 := ⟨k.val, by omega⟩

theorem v11_eq (k : Fin 9) (i : Fin 1024) : (V m c main_v11 (ix2 i (up k)) : EReal) = si (aS m c) (ix2 k i) := by
  have e : (V m c main_v11 : FVec Ideal S1024x16 .f32) = transpose S1024x16 [1, 0] (concatenate S16x1024 0 [⟨S9x1024, (si (aS m c) : FVec Ideal S9x1024 .f32)⟩,
      ⟨S7x1024, (broadcastInDim S7x1024 ![] bcast_S_S7x1024 (constant S_ .f32 0x00000000#32) : FVec Ideal S7x1024 .f32)⟩] concatenates_S9x1024_S7x1024_S16x1024_d0) transposes_S16x1024_S1024x16_1_0 := by
    show StableHlo.after _ _ _ = _
    after_results
    rfl
  refine (congrFun e _).trans ?_
  generalize si (aS m c) = s
  pointwise

theorem v10_eq (k : Fin 9) (j : Fin 1536) : (V m c main_v10 (ix2 (up k) j) : EReal) = aD m c (ix2 k j) := by
  have e : (V m c main_v10 : FVec Ideal S16x1536 .f32) = concatenate S16x1536 0 [⟨S9x1536, (aD m c : FVec Ideal S9x1536 .f32)⟩,
      ⟨S7x1536, (broadcastInDim S7x1536 ![] bcast_S_S7x1536 (constant S_ .f32 0x00000000#32) : FVec Ideal S7x1536 .f32)⟩] concatenates_S9x1536_S7x1536_S16x1536_d0 := by
    show StableHlo.after _ _ _ = _
    after_results
  refine (congrFun e _).trans ?_
  generalize aD m c = s
  pointwise

theorem blk0 (a : Fin 256) (k : Fin 9) : (iblk m c 0 t (ix2 a (up k)) : EReal) = si (aS m c) (ix2 k (row t a)) := by
  obtain ⟨e, -⟩ := idx_facts t
  blk_simp [iblk]
  refine (congrArg (V m c main_v11) ?_).trans (v11_eq m c k (row t a))
  blk_ext [e, row]

theorem blk1 (k : Fin 9) (j : Fin 1536) : (iblk m c 1 t (ix2 (up k) j) : EReal) = aD m c (ix2 k j) := by
  obtain ⟨-, e, -⟩ := idx_facts t
  blk_simp [iblk]
  refine (congrArg (V m c main_v10) ?_).trans (v10_eq m c k j)
  blk_ext [e]

theorem blk2 (a : Fin 256) (j : Fin 1536) : (iblk m c 2 t (ix2 a j) : EReal) = aW m c (ix2 (row t a) j) := by
  obtain ⟨-, -, e, -⟩ := idx_facts t
  blk_simp [iblk]
  refine (congrArg (V m c main_arg1) ?_).trans (congrFun (V_main_arg1 m c) _)
  blk_ext [e, row]

theorem blk3 (a : Fin 256) (j : Fin 1536) : (iblk m c 3 t (ix2 a j) : EReal) = aA m c (ix2 (row t a) j) := by
  obtain ⟨-, -, -, e, -⟩ := idx_facts t
  blk_simp [iblk]
  refine (congrArg (V m c main_arg3) ?_).trans (congrFun (V_main_arg3 m c) _)
  blk_ext [e, row]

theorem blk4 (a : Fin 256) (j : Fin 1536) : (iblk m c 4 t (ix2 a j) : EReal) = aB m c (ix2 (row t a) j) := by
  obtain ⟨-, -, -, -, e⟩ := idx_facts t
  blk_simp [iblk]
  refine (congrArg (V m c main_arg4) ?_).trans (congrFun (V_main_arg4 m c) _)
  blk_ext [e, row]

theorem nine (P : FVec Ideal S256x16 .f32) (Q : FVec Ideal S16x1536 .f32) (a : Fin 256) (j : Fin 1536) :
    (k0_pay6 (F := Ideal) (k0_pay3 P Q) (k0_pay4 P) (k0_pay5 Q) (ix2 a j) : EReal) = ∑ k : Fin 9, P (ix2 a (up k)) * Q (ix2 (up k) j) := by
  rw [Fin.sum_univ_castSucc, Fin.sum_univ_eight]
  unfold k0_pay6 k0_pay5 k0_pay4 k0_pay3 k0_pay2 k0_pay1
  pointwise
  rfl

theorem hz : (![0, 0] : Fin 2 → Nat) = fun _ => 0 := funext fun a => by fin_cases a <;> rfl

/-- A point's share of the gradient. -/
theorem grad_tile (a : Fin 256) (j : Fin 1536) : (k0_pay6 (F := Ideal) (k0_pay10 (iblk m c 0 t) (iblk m c 1 t) (iblk m c 2 t) (iblk m c 3 t) (iblk m c 4 t))
      (k0_pay11 (iblk m c 0 t) (iblk m c 1 t) (iblk m c 2 t) (iblk m c 3 t) (iblk m c 4 t)) (k0_pay12 (iblk m c 0 t) (iblk m c 1 t) (iblk m c 2 t) (iblk m c 3 t) (iblk m c 4 t)) (ix2 a j) : EReal)
    = grad (aS m c) (aD m c) (ix2 (row t a) j) := by
  unfold k0_pay10 k0_pay11 k0_pay12
  rw [View.ld_unit_zero hz, View.ld_unit_zero hz]
  exact (nine _ _ a j).trans (Finset.sum_congr rfl fun k _ => congrArg₂ (· * ·) (blk0 m c t a k) (blk1 m c t k j))

theorem final5 : (dats m 0 c).arrAt 5 cfg0.N = grad (aS m c) (aD m c) := by
  refine (dats m 0 c).arrAt_eq_of_covers 5 _ (by decide +kernel) fun t hf y => ?_
  obtain ⟨e, -⟩ := out_facts t
  blk_simp
  rw [after0_5]
  obtain ⟨a, j, rfl⟩ : ∃ (a : Fin 256) (j : Fin 1536), y = ix2 a j := ⟨y 0, y 1, (ix2_eta y).symm⟩
  unfold out0_5
  rw [View.canon_unit_zero hz]
  refine (grad_tile m c t a j).trans (congrArg (grad (aS m c) (aD m c)) (?_ : ix2 (row t a) j = _))
  blk_ext [e, row]

theorem final6 : (dats m 0 c).arrAt 6 cfg0.N = fun i => step (grad (aS m c) (aD m c) i) (aW m c i) (aA m c i) (aB m c i) := by
  refine (dats m 0 c).arrAt_eq_of_covers 6 _ (by decide +kernel) fun t hf y => ?_
  obtain ⟨-, e, -⟩ := out_facts t
  blk_simp
  rw [after0_6]
  obtain ⟨a, j, rfl⟩ : ∃ (a : Fin 256) (j : Fin 1536), y = ix2 a j := ⟨y 0, y 1, (ix2_eta y).symm⟩
  unfold out0_6
  rw [View.canon_unit_zero hz, View.ld_unit_zero hz, View.ld_unit_zero hz, View.ld_unit_zero hz]
  refine ((congr (congr (congrArg₂ step (grad_tile m c t a j) (blk2 m c t a j)) (blk3 m c t a j)) (blk4 m c t a j) :)).trans (congrArg (fun i => step (grad (aS m c) (aD m c) i) (aW m c i) (aA m c i) (aB m c i)) (?_ : ix2 (row t a) j = _))
  blk_ext [e, row]

theorem final7 : (dats m 0 c).arrAt 7 cfg0.N = fun i => mean (grad (aS m c) (aD m c) i) (aA m c i) := by
  refine (dats m 0 c).arrAt_eq_of_covers 7 _ (by decide +kernel) fun t hf y => ?_
  obtain ⟨-, -, e, -⟩ := out_facts t
  blk_simp
  rw [after0_7]
  obtain ⟨a, j, rfl⟩ : ∃ (a : Fin 256) (j : Fin 1536), y = ix2 a j := ⟨y 0, y 1, (ix2_eta y).symm⟩
  unfold out0_7
  rw [View.canon_unit_zero hz, View.ld_unit_zero hz]
  refine (congrArg₂ mean (grad_tile m c t a j) (blk3 m c t a j)).trans (congrArg (fun i => mean (grad (aS m c) (aD m c) i) (aA m c i)) (?_ : ix2 (row t a) j = _))
  blk_ext [e, row]

theorem final8 : (dats m 0 c).arrAt 8 cfg0.N = fun i => square (grad (aS m c) (aD m c) i) (aB m c i) := by
  refine (dats m 0 c).arrAt_eq_of_covers 8 _ (by decide +kernel) fun t hf y => ?_
  obtain ⟨-, -, -, e⟩ := out_facts t
  blk_simp
  rw [after0_8]
  obtain ⟨a, j, rfl⟩ : ∃ (a : Fin 256) (j : Fin 1536), y = ix2 a j := ⟨y 0, y 1, (ix2_eta y).symm⟩
  unfold out0_8
  rw [View.canon_unit_zero hz, View.ld_unit_zero hz]
  refine (congrArg₂ square (grad_tile m c t a j) (blk4 m c t a j)).trans (congrArg (fun i => square (grad (aS m c) (aD m c) i) (aB m c i)) (?_ : ix2 (row t a) j = _))
  blk_ext [e, row]

end Cert.Proof.Ada

end
-- ==== Proof.AdaEq.lean ====
/- The gradient of the modulation's weights and their update: the reference, and the equation of the two programs. -/
module

public import proofs.«01_k».proof.Defs
public import proofs.«01_k».proof.Proof.Ada
public import proofs.«01_k».proof.Proof.Gen.ReferenceAdaIdeal.Run
public import proofs.«01_k».proof.Proof.Gen.ReferenceAdaIdeal.Read

@[expose] public section

set_option maxRecDepth 16384

noncomputable section

namespace Cert.Proof.Ada

open Cert.ReferenceAdaIdeal Cert.ReferenceAdaIdeal.Read Idealize.ShloMosaic Idealize.ShloMosaic.TcCoe Idealize.SL.Sem

variable (S : FVec Ideal S9x1024 .f32) (W A B : FVec Ideal S1024x1536 .f32) (D : FVec Ideal S9x1536 .f32)

theorem v3_grad : (val_main_v3 (F := Ideal) S D : S1024x1536.Idx → EReal) = grad S D := by
  funext i
  obtain ⟨p, j, rfl⟩ : ∃ (p : Fin 1024) (j : Fin 1536), i = ix2 p j := ⟨i 0, i 1, (ix2_eta i).symm⟩
  have h : (val_main_v3 (F := Ideal) S D (ix2 p j) : EReal) = ∑ k : Fin 9, D (ix2 k j) * val_main_v0 (F := Ideal) S (ix2 k p) := by
    unfold val_main_v3 val_main_v2
    pointwise
  exact h.trans (Finset.sum_congr rfl fun k _ => mul_comm _ _)

theorem v8_mean : (val_main_v8 (F := Ideal) S D A : S1024x1536.Idx → EReal) = fun i => mean (grad S D i) (A i) := by
  rw [← v3_grad]
  funext i
  rw [val_main_v8_apply, val_main_v7_apply, val_main_v6_apply, val_main_v5_apply, val_main_v4_apply]
  rfl

theorem v14_square : (val_main_v14 (F := Ideal) S D B : S1024x1536.Idx → EReal) = fun i => square (grad S D i) (B i) := by
  rw [← v3_grad]
  funext i
  rw [val_main_v14_apply, val_main_v13_apply, val_main_v12_apply, val_main_v11_apply, val_main_v10_apply, val_main_v9_apply]
  rfl

theorem v27_step : (val_main_v27 (F := Ideal) S W D A B : S1024x1536.Idx → EReal) = fun i => step (grad S D i) (W i) (A i) (B i) := by
  funext i
  rw [val_main_v27_apply, val_main_v26_apply, val_main_v25_apply, val_main_v24_apply, val_main_v23_apply, val_main_v22_apply, val_main_v21_apply, val_main_v20_apply,
    val_main_v19_apply, val_main_v18_apply, val_main_v17_apply, val_main_v16_apply, val_main_v15_apply, v8_mean, v14_square]
  rfl

/-- The kernel and the reference end with the same four arrays. -/
theorem algebraic : Cert.algebraic_KernelAdaIdeal_ReferenceAdaIdeal := by
  intro m g m' g' _ hagree
  refine ⟨_, _, _, _, (θ_run _ _ _).mono (fun r h c => ⟨((h.1 c).1 5).trans (final5 m c), ((h.1 c).1 6).trans (final6 m c), ((h.1 c).1 7).trans (final7 m c), ((h.1 c).1 8).trans (final8 m c), h.2.1 c⟩)
    (θ_run_and (Cert.KernelAdaIdeal.Gen.run_main m g) (Cert.KernelAdaIdeal.Gen.frame m g)), ?_⟩
  refine (θ_run _ _ _).mono (fun r h c => ?_) (Cert.ReferenceAdaIdeal.Value.run m' g')
  obtain ⟨h1, h2, h3, h4, hk⟩ := h c
  obtain ⟨a0, a1, a2, a3, a4⟩ := hagree c
  refine ⟨h1.trans ?_, h2.trans ?_, h3.trans ?_, h4.trans ?_, hk⟩
  · rw [val_main_v3_eq, a0, a2]
    exact v3_grad _ _
  · rw [val_main_v27_eq, a0, a1, a2, a3, a4]
    exact v27_step _ _ _ _ _
  · rw [val_main_v8_eq, a0, a2, a3]
    exact v8_mean _ _ _
  · rw [val_main_v14_eq, a0, a2, a4]
    exact v14_square _ _ _

/-- The reference runs and leaves its arguments. -/
theorem frame_reference : Cert.quiescent_ReferenceAdaIdeal := fun m ρ _ =>
  (θ_run _ _ _).mono (fun _ h => ⟨fun c => (h c).2.2.2.2, funext fun ⟨_, s⟩ => by rcases s with s | s <;> exact s.elim0⟩)
    (Cert.ReferenceAdaIdeal.Value.run m ρ)

end Cert.Proof.Ada

end
-- ==== Proof.Wg.lean ====
/- One weight's gradient, a plain product over the rows taken tile by tile: what the kernel leaves in its result. -/
module

public import proofs.«01_k».proof.Proof.Gen.KernelWgIdeal.Value
public import proofs.«01_k».proof.Proof.Norm

@[expose] public section

set_option maxRecDepth 16384

noncomputable section

namespace Cert.Proof.Wg

open Cert.KernelWgIdeal Cert.KernelWgIdeal.Gen Cert.KernelWgIdeal.Value Idealize.ShloMosaic Idealize.ShloMosaic.TcCoe Idealize.SL.Sem

variable (m : (ℓ : Loc nD τ sig) → Buf (Elt Ideal) ℓ) (ρ : Dev nD → PrngReg)
variable (c : Dev nD) (t : Fin cfg0.N)

abbrev aH : S8448x1024.Idx → EReal := m ((c : Thread nD τ).loc main_arg0)
abbrev aD : S8448x3584.Idx → EReal := m ((c : Thread nD τ).loc main_arg1)

/-- The product over all rows. -/
def prod (H : S8448x1024.Idx → EReal) (D : S8448x3584.Idx → EReal) (i : S1024x3584.Idx) : EReal := ∑ r : Fin 8448, H (ix2 r (i 0)) * D (ix2 r (i 1))

theorem idx_facts : ∀ t : Fin cfg0.N, win0_0.index t = ![t.val, 0] ∧ win0_1.index t = ![t.val, 0] ∧ win0_2.index t = ![0, 0] :=
  (by decide +kernel : ∀ t : Fin grid0.N, _)

def row (t : Fin cfg0.N) (n : Fin 768) : Fin 8448 := ⟨t.val * 768 + n.val, by have h : t.val < 11 := t.isLt; have := n.isLt; omega⟩

theorem v0_eq : (V m c main_v0 : S8448x1024.Idx → EReal) = aH m c := by
  show StableHlo.after _ _ _ = _
  after_results
  rfl

theorem v1_eq : (V m c main_v1 : S8448x3584.Idx → EReal) = aD m c := by
  show StableHlo.after _ _ _ = _
  after_results
  rfl

theorem blk0 (n : Fin 768) (j : Fin 1024) : (iblk m c 0 t (ix2 n j) : EReal) = aH m c (ix2 (row t n) j) := by
  obtain ⟨e, -⟩ := idx_facts t
  blk_simp [iblk]
  refine (congrArg (V m c main_v0) ?_).trans (congrFun (v0_eq m c) _)
  blk_ext [e, row]

theorem blk1 (n : Fin 768) (j : Fin 3584) : (iblk m c 1 t (ix2 n j) : EReal) = aD m c (ix2 (row t n) j) := by
  obtain ⟨-, e, -⟩ := idx_facts t
  blk_simp [iblk]
  refine (congrArg (V m c main_v1) ?_).trans (congrFun (v1_eq m c) _)
  blk_ext [e, row]

/-- A tile's share of the product. -/
def part (i : S1024x3584.Idx) : EReal := ∑ n : Fin 768, aH m c (ix2 (row t n) (i 0)) * aD m c (ix2 (row t n) (i 1))

theorem pay1_eq (i : S1024x3584.Idx) : (k0_pay1 (F := Ideal) (iblk m c 0 t) (iblk m c 1 t) i : EReal) = part m c t i := by
  obtain ⟨p, j, rfl⟩ : ∃ (p : Fin 1024) (j : Fin 3584), i = ix2 p j := ⟨i 0, i 1, (ix2_eta i).symm⟩
  have h (x : FVec Ideal S768x1024 .bf16) (y : FVec Ideal S768x3584 .bf16) : (k0_pay1 (F := Ideal) x y (ix2 p j) : EReal) = ∑ n : Fin 768, x (ix2 n p) * y (ix2 n j) := by
    unfold k0_pay1
    pointwise
  exact (h _ _).trans (Finset.sum_congr rfl fun n _ => congrArg₂ (· * ·) (blk0 m c t n p) (blk1 m c t n j))

theorem pay3_eq (A : S1024x3584.Idx → EReal) (i : S1024x3584.Idx) : (k0_pay3 (F := Ideal) (iblk m c 0 t) (iblk m c 1 t) A i : EReal) = A i + part m c t i := by
  have h : (k0_pay3 (F := Ideal) (iblk m c 0 t) (iblk m c 1 t) A i : EReal) = A i + k0_pay1 (F := Ideal) (iblk m c 0 t) (iblk m c 1 t) i := by
    unfold k0_pay3
    rw [shapeCast_self]
    rfl
  rw [h, pay1_eq]

theorem pay2_eq (i : S1024x3584.Idx) : (k0_pay2 (F := Ideal) (iblk m c 0 t) (iblk m c 1 t) i : EReal) = part m c t i := by
  refine Eq.trans ?_ (pay1_eq m c t i)
  unfold k0_pay2
  rw [shapeCast_self]

theorem hz : (![0, 0] : Fin 2 → Nat) = fun _ => 0 := funext fun a => by fin_cases a <;> rfl

theorem held (A : S1024x3584.Idx → EReal) : (View.read (Elt Ideal) (View.whole cc0_scratch0) (Memref.IsWhole.unread (Val := Elt Ideal) (m := scM0_0) (Memref.isWhole_whole _) A) : S1024x3584.Idx → EReal) = A :=
  Memref.IsWhole.read_unread (m := scM0_0) _ _

theorem acc_first (h : t.val % 11 = 0) (y : S1024x3584.Idx) : ((outsAt0 m c t.val t.isLt).2 y : EReal) = 0 + part m c t y := by
  rw [outsAt0_A m c t h (by have : t.val < 11 := t.isLt; omega) (by omega), zero_add]
  frame_out
  exact pay2_eq m c t y

theorem acc_next (h : ¬ t.val % 11 = 0) (y : S1024x3584.Idx) : ((outsAt0 m c t.val t.isLt).2 y : EReal)
    = (outsAt0 m c (t.val - 1) (by omega)).2 y + part m c t y := by
  by_cases h2 : t.val % 11 = 10
  · rw [outsAt0_C m c t h (by omega) h2]
    frame_out
    exact (pay3_eq m c t _ y).trans (congrArg (· + _) (congrFun (held (outsAt0 m c (t.val - 1) (by omega)).2) y))
  · rw [outsAt0_B m c t h (by omega) h2]
    frame_out
    exact (pay3_eq m c t _ y).trans (congrArg (· + _) (congrFun (held (outsAt0 m c (t.val - 1) (by omega)).2) y))

/-- At the last tile the sum is handed out. -/
theorem out_last (h : t.val % 11 = 10) (y : S1024x3584.Idx) : ((outsAt0 m c t.val t.isLt).1 y : EReal) = (outsAt0 m c t.val t.isLt).2 y := by
  refine Eq.trans ?_ (acc_next m c t (by omega) y).symm
  rw [outsAt0_C m c t (by omega) (by omega) h]
  frame_out
  exact (pay3_eq m c t _ y).trans (congrArg (· + _) (congrFun (held (outsAt0 m c (t.val - 1) (by omega)).2) y))

theorem flush_last : ∀ t : Fin cfg0.N, (cfg0.win 2).flush t = true → t.val % 11 = 10 :=
  (by decide +kernel : ∀ t : Fin grid0.N, _)

theorem final2 : (dats m 0 c).arrAt 2 cfg0.N = prod (aH m c) (aD m c) := by
  refine (dats m 0 c).arrAt_eq_of_covers 2 _ (by decide +kernel) fun t hf y => ?_
  obtain ⟨-, -, e⟩ := idx_facts t
  have hl := flush_last t hf
  blk_simp
  rw [after0_2]
  refine (out_last m c t hl y).trans ?_
  refine (Pipeline.eq_sum_fin_of_reset_step_apply_of_flush (fun n h => (outsAt0 m c n h).2) 11 (fun _ => (0 : EReal))
    (fun t y => part m c t y) (fun t h y => acc_first m c t h y) (fun t h y => acc_next m c t h y) t hl y).trans ?_
  refine Eq.trans (zero_add _) ?_
  have ht : t.val < 11 := t.isLt
  refine (Fin.sum_mul_add_congr (L := 8448) (S := 11) (n := 768) (f := fun r => aH m c (ix2 r (y 0)) * aD m c (ix2 r (y 1)))
    fun s n hl => ?_).trans (congrArg (prod (aH m c) (aD m c)) ?_)
  · have hr : row ⟨11 * (t.val / 11) + s.val, by omega⟩ n = ⟨s.val * 768 + n.val, hl⟩ :=
      Fin.ext (by show (11 * (t.val / 11) + s.val) * 768 + n.val = s.val * 768 + n.val; omega)
    rw [hr]
  · blk_ext [e]

end Cert.Proof.Wg

end
-- ==== Proof.WgEq.lean ====
/- One weight's gradient: the reference, and the equation of the two programs. -/
module

public import proofs.«01_k».proof.Defs
public import proofs.«01_k».proof.Proof.Wg
public import proofs.«01_k».proof.Proof.Gen.ReferenceWgIdeal.Run
public import proofs.«01_k».proof.Proof.Gen.ReferenceWgIdeal.Read

@[expose] public section

set_option maxRecDepth 16384

noncomputable section

namespace Cert.Proof.Wg

open Cert.ReferenceWgIdeal Cert.ReferenceWgIdeal.Read Idealize.ShloMosaic Idealize.ShloMosaic.TcCoe Idealize.SL.Sem

theorem v2_prod (H : FVec Ideal S8448x1024 .f32) (D : FVec Ideal S8448x3584 .f32) : (val_main_v2 (F := Ideal) H D : S1024x3584.Idx → EReal) = prod H D := by
  funext i
  obtain ⟨p, j, rfl⟩ : ∃ (p : Fin 1024) (j : Fin 3584), i = ix2 p j := ⟨i 0, i 1, (ix2_eta i).symm⟩
  unfold prod val_main_v2 val_main_v1 val_main_v0
  pointwise

/-- The kernel and the reference end with the same product. -/
theorem algebraic : Cert.algebraic_KernelWgIdeal_ReferenceWgIdeal := by
  intro m g m' g' _ hagree
  refine ⟨_, (θ_run _ _ _).mono (fun r h c => ⟨(h c).1.trans (final2 m c), (h c).2⟩)
    (Cert.KernelWgIdeal.Value.run_blocks m g), ?_⟩
  refine (θ_run _ _ _).mono (fun r h c => ?_) (Cert.ReferenceWgIdeal.Value.run m' g')
  obtain ⟨a0, a1⟩ := hagree c
  refine ⟨(h c).1.trans ?_, (h c).2⟩
  rw [a0, a1]
  exact v2_prod _ _

/-- The reference runs and leaves its arguments. -/
theorem frame_reference : Cert.quiescent_ReferenceWgIdeal := fun m ρ _ =>
  (θ_run _ _ _).mono (fun _ h => ⟨fun c => (h c).2, funext fun ⟨_, s⟩ => by rcases s with s | s <;> exact s.elim0⟩)
    (Cert.ReferenceWgIdeal.Value.run m ρ)

end Cert.Proof.Wg

end
-- ==== Proof.lean ====
/- The certificate assembled: each claim is proved in the modules of its call. -/
module

public import proofs.«01_k».proof.Defs
public import proofs.«01_k».proof.Proof.Gen.KernelAct.Frame
public import proofs.«01_k».proof.Proof.ActEq
public import proofs.«01_k».proof.Proof.Gen.KernelConv.Frame
public import proofs.«01_k».proof.Proof.ConvEq
public import proofs.«01_k».proof.Proof.Gen.KernelCtx.Frame
public import proofs.«01_k».proof.Proof.CtxEq
public import proofs.«01_k».proof.Proof.Gen.KernelUpb.Frame
public import proofs.«01_k».proof.Proof.UpbEq
public import proofs.«01_k».proof.Proof.Gen.KernelInb.Frame
public import proofs.«01_k».proof.Proof.InbEq
public import proofs.«01_k».proof.Proof.Gen.KernelDown.Frame
public import proofs.«01_k».proof.Proof.DownEq
public import proofs.«01_k».proof.Proof.Gen.KernelDiscb.Frame
public import proofs.«01_k».proof.Proof.DiscbEq
public import proofs.«01_k».proof.Proof.Gen.KernelDisc.Frame
public import proofs.«01_k».proof.Proof.DiscEq
public import proofs.«01_k».proof.Proof.Gen.KernelUpf.Frame
public import proofs.«01_k».proof.Proof.UpfEq
public import proofs.«01_k».proof.Proof.MixEq
public import proofs.«01_k».proof.Proof.Gen.KernelMixf.Frame
public import proofs.«01_k».proof.Proof.MixfEq
public import proofs.«01_k».proof.Proof.Gen.KernelInf.Frame
public import proofs.«01_k».proof.Proof.InfEq
public import proofs.«01_k».proof.Proof.Gen.KernelModf.Frame
public import proofs.«01_k».proof.Proof.ModfEq
public import proofs.«01_k».proof.Proof.Gen.KernelSum.Frame
public import proofs.«01_k».proof.Proof.SumEq
public import proofs.«01_k».proof.Proof.Gen.KernelAdam.Frame
public import proofs.«01_k».proof.Proof.AdamEq
public import proofs.«01_k».proof.Proof.Gen.KernelAda.Frame
public import proofs.«01_k».proof.Proof.AdaEq
public import proofs.«01_k».proof.Proof.Gen.KernelWg.Frame
public import proofs.«01_k».proof.Proof.WgEq

@[expose] public section

noncomputable section

namespace Cert.Proof

open Idealize.ShloMosaic Idealize.SL.Sem

/-- The shapes that the precondition `finite_act` broadcasts to. -/
instance finite_act_facts : Cert.Pre_finite_act.Facts :=
  ⟨by decide, by decide, by decide⟩

/-- The shapes that the precondition `finite_ctx` broadcasts to. -/
instance finite_ctx_facts : Cert.Pre_finite_ctx.Facts :=
  ⟨by decide, by decide⟩

/-- Every claim of the certificate. -/
theorem claim : Cert.Claim :=
  ⟨Cert.KernelAct.Gen.facts, Cert.KernelActIdeal.Gen.facts, Cert.ReferenceActIdeal.Gen.facts, Cert.KernelConv.Gen.facts, Cert.KernelConvIdeal.Gen.facts, Cert.ReferenceConvIdeal.Gen.facts, Cert.KernelCtx.Gen.facts, Cert.KernelCtxIdeal.Gen.facts, Cert.ReferenceCtxIdeal.Gen.facts, Cert.KernelUpb.Gen.facts, Cert.KernelUpbIdeal.Gen.facts, Cert.ReferenceUpbIdeal.Gen.facts, Cert.KernelInb.Gen.facts, Cert.KernelInbIdeal.Gen.facts, Cert.ReferenceInbIdeal.Gen.facts, Cert.KernelDown.Gen.facts, Cert.KernelDownIdeal.Gen.facts, Cert.ReferenceDownIdeal.Gen.facts, Cert.KernelDiscb.Gen.facts, Cert.KernelDiscbIdeal.Gen.facts, Cert.ReferenceDiscbIdeal.Gen.facts, Cert.KernelDisc.Gen.facts, Cert.KernelDiscIdeal.Gen.facts, Cert.ReferenceDiscIdeal.Gen.facts, Cert.KernelUpf.Gen.facts, Cert.KernelUpfIdeal.Gen.facts, Cert.ReferenceUpfIdeal.Gen.facts, Cert.KernelMix.Gen.facts, Cert.KernelMixIdeal.Gen.facts, Cert.ReferenceMixIdeal.Gen.facts, Cert.KernelMixf.Gen.facts, Cert.KernelMixfIdeal.Gen.facts, Cert.ReferenceMixfIdeal.Gen.facts, Cert.KernelInf.Gen.facts, Cert.KernelInfIdeal.Gen.facts, Cert.ReferenceInfIdeal.Gen.facts, Cert.KernelModf.Gen.facts, Cert.KernelModfIdeal.Gen.facts, Cert.ReferenceModfIdeal.Gen.facts, Cert.KernelSum.Gen.facts, Cert.KernelSumIdeal.Gen.facts, Cert.ReferenceSumIdeal.Gen.facts, Cert.KernelAdam.Gen.facts, Cert.KernelAdamIdeal.Gen.facts, Cert.ReferenceAdamIdeal.Gen.facts, Cert.KernelAda.Gen.facts, Cert.KernelAdaIdeal.Gen.facts, Cert.ReferenceAdaIdeal.Gen.facts, Cert.KernelWg.Gen.facts, Cert.KernelWgIdeal.Gen.facts, Cert.ReferenceWgIdeal.Gen.facts, finite_act_facts, finite_ctx_facts,
    fun m ρ _ => Cert.KernelAct.Gen.frame m ρ,
    fun m ρ _ => Cert.KernelActIdeal.Gen.frame m ρ,
    fun m ρ _ => Cert.KernelActIdeal.Gen.frame m ρ,
    fun m ρ _ => Act.frame_reference m ρ trivial,
    fun m ρ _ => Act.frame_reference m ρ trivial,
    fun m ρ _ => Cert.KernelConv.Gen.frame m ρ,
    fun m ρ _ => Cert.KernelConvIdeal.Gen.frame m ρ,
    fun m ρ _ => Conv.frame_reference m ρ trivial,
    fun m ρ _ => Cert.KernelCtx.Gen.frame m ρ,
    fun m ρ _ => Cert.KernelCtxIdeal.Gen.frame m ρ,
    fun m ρ _ => Cert.KernelCtxIdeal.Gen.frame m ρ,
    fun m ρ _ => Ctx.frame_reference m ρ trivial,
    fun m ρ _ => Ctx.frame_reference m ρ trivial,
    fun m ρ _ => Cert.KernelUpb.Gen.frame m ρ,
    fun m ρ _ => Cert.KernelUpbIdeal.Gen.frame m ρ,
    fun m ρ _ => Upb.frame_reference m ρ trivial,
    fun m ρ _ => Cert.KernelInb.Gen.frame m ρ,
    fun m ρ _ => Cert.KernelInbIdeal.Gen.frame m ρ,
    fun m ρ _ => Inb.frame_reference m ρ trivial,
    fun m ρ _ => Cert.KernelDown.Gen.frame m ρ,
    fun m ρ _ => Cert.KernelDownIdeal.Gen.frame m ρ,
    fun m ρ _ => Down.frame_reference m ρ trivial,
    fun m ρ _ => Cert.KernelDiscb.Gen.frame m ρ,
    fun m ρ _ => Cert.KernelDiscbIdeal.Gen.frame m ρ,
    fun m ρ _ => Discb.frame_reference m ρ trivial,
    fun m ρ _ => Cert.KernelDisc.Gen.frame m ρ,
    fun m ρ _ => Cert.KernelDiscIdeal.Gen.frame m ρ,
    fun m ρ _ => Disc.frame_reference m ρ trivial,
    fun m ρ _ => Cert.KernelUpf.Gen.frame m ρ,
    fun m ρ _ => Cert.KernelUpfIdeal.Gen.frame m ρ,
    fun m ρ _ => Upf.frame_reference m ρ trivial,
    fun m ρ _ => Mix.frame_kernel m ρ trivial,
    fun m ρ _ => Mix.frame_kernelIdeal m ρ trivial,
    fun m ρ _ => Mix.frame_reference m ρ trivial,
    fun m ρ _ => Cert.KernelMixf.Gen.frame m ρ,
    fun m ρ _ => Cert.KernelMixfIdeal.Gen.frame m ρ,
    fun m ρ _ => Mixf.frame_reference m ρ trivial,
    fun m ρ _ => Cert.KernelInf.Gen.frame m ρ,
    fun m ρ _ => Cert.KernelInfIdeal.Gen.frame m ρ,
    fun m ρ _ => Inf.frame_reference m ρ trivial,
    fun m ρ _ => Cert.KernelModf.Gen.frame m ρ,
    fun m ρ _ => Cert.KernelModfIdeal.Gen.frame m ρ,
    fun m ρ _ => Modf.frame_reference m ρ trivial,
    fun m ρ _ => Cert.KernelSum.Gen.frame m ρ,
    fun m ρ _ => Cert.KernelSumIdeal.Gen.frame m ρ,
    fun m ρ _ => Sum.frame_reference m ρ trivial,
    fun m ρ _ => Cert.KernelAdam.Gen.frame m ρ,
    fun m ρ _ => Cert.KernelAdamIdeal.Gen.frame m ρ,
    fun m ρ _ => Adam.frame_reference m ρ trivial,
    fun m ρ _ => Cert.KernelAda.Gen.frame m ρ,
    fun m ρ _ => Cert.KernelAdaIdeal.Gen.frame m ρ,
    fun m ρ _ => Ada.frame_reference m ρ trivial,
    fun m ρ _ => Cert.KernelWg.Gen.frame m ρ,
    fun m ρ _ => Cert.KernelWgIdeal.Gen.frame m ρ,
    fun m ρ _ => Wg.frame_reference m ρ trivial,
    trivial,
    Act.algebraic,
    trivial,
    Conv.algebraic,
    trivial,
    Ctx.algebraic,
    trivial,
    Upb.algebraic,
    trivial,
    Inb.algebraic,
    trivial,
    Down.algebraic,
    trivial,
    Discb.algebraic,
    trivial,
    Disc.algebraic,
    trivial,
    Upf.algebraic,
    trivial,
    Mix.algebraic,
    trivial,
    Mixf.algebraic,
    trivial,
    Inf.algebraic,
    trivial,
    Modf.algebraic,
    trivial,
    Sum.algebraic,
    trivial,
    Adam.algebraic,
    trivial,
    Ada.algebraic,
    trivial,
    Wg.algebraic⟩

end Cert.Proof

end
